-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_swiglu [hPre_finite_swiglu : Cert.Pre_finite_swiglu.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_swiglu [hPre_finite_swiglu : Cert.Pre_finite_swiglu.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.2.2 = (fun _ => 1#1)

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_RowGrad (m : (ℓ : Loc Cert.RowGrad.nD Cert.RowGrad.τ Cert.RowGrad.sig) → Buf (Elt Bits) ℓ) : Prop :=
  True

def Pre_RowGradIdeal (m : (ℓ : Loc Cert.RowGradIdeal.nD Cert.RowGradIdeal.τ Cert.RowGradIdeal.sig) → Buf (Elt Ideal) ℓ) : Prop :=
  True

def Pre_RowGradRefIdeal (m : (ℓ : Loc Cert.RowGradRefIdeal.nD Cert.RowGradRefIdeal.τ Cert.RowGradRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInRefIdeal (m : (ℓ : Loc Cert.GmlpInRefIdeal.nD Cert.GmlpInRefIdeal.τ Cert.GmlpInRefIdeal.sig) → Buf (Elt Ideal) ℓ) : Prop :=
  True

def Pre_GmlpOut (m : (ℓ : Loc Cert.GmlpOut.nD Cert.GmlpOut.τ Cert.GmlpOut.sig) → Buf (Elt Bits) ℓ) : Prop :=
  True

def Pre_GmlpOutIdeal (m : (ℓ : Loc Cert.GmlpOutIdeal.nD Cert.GmlpOutIdeal.τ Cert.GmlpOutIdeal.sig) → Buf (Elt Ideal) ℓ) : Prop :=
  True

def Pre_GmlpOutRefIdeal (m : (ℓ : Loc Cert.GmlpOutRefIdeal.nD Cert.GmlpOutRefIdeal.τ Cert.GmlpOutRefIdeal.sig) → Buf (Elt Ideal) ℓ) : Prop :=
  True

def Pre_GatedGrad (m : (ℓ : Loc Cert.GatedGrad.nD Cert.GatedGrad.τ Cert.GatedGrad.sig) → Buf (Elt Bits) ℓ) : Prop :=
  True

def Pre_GatedGradIdeal (m : (ℓ : Loc Cert.GatedGradIdeal.nD Cert.GatedGradIdeal.τ Cert.GatedGradIdeal.sig) → Buf (Elt Ideal) ℓ) : Prop :=
  True

def Pre_GatedGradRefIdeal (m : (ℓ : Loc Cert.GatedGradRefIdeal.nD Cert.GatedGradRefIdeal.τ Cert.GatedGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InRows (m : (ℓ : Loc Cert.InRows.nD Cert.InRows.τ Cert.InRows.sig) → Buf (Elt Bits) ℓ) : Prop :=
  True

def Pre_InRowsIdeal (m : (ℓ : Loc Cert.InRowsIdeal.nD Cert.InRowsIdeal.τ Cert.InRowsIdeal.sig) → Buf (Elt Ideal) ℓ) : Prop :=
  True

def Pre_InRowsRefIdeal (m : (ℓ : Loc Cert.InRowsRefIdeal.nD Cert.InRowsRefIdeal.τ Cert.InRowsRefIdeal.sig) → Buf (Elt Ideal) ℓ) : Prop :=
  True

def Pre_SquareGrad (m : (ℓ : Loc Cert.SquareGrad.nD Cert.SquareGrad.τ Cert.SquareGrad.sig) → Buf (Elt Bits) ℓ) : Prop :=
  True

def Pre_SquareGradIdeal (m : (ℓ : Loc Cert.SquareGradIdeal.nD Cert.SquareGradIdeal.τ Cert.SquareGradIdeal.sig) → Buf (Elt Ideal) ℓ) : Prop :=
  True

def Pre_SquareGradRefIdeal (m : (ℓ : Loc Cert.SquareGradRefIdeal.nD Cert.SquareGradRefIdeal.τ Cert.SquareGradRefIdeal.sig) → Buf (Elt Ideal) ℓ) : Prop :=
  True

def Pre_SquareRows (m : (ℓ : Loc Cert.SquareRows.nD Cert.SquareRows.τ Cert.SquareRows.sig) → Buf (Elt Bits) ℓ) : Prop :=
  True

def Pre_SquareRowsIdeal (m : (ℓ : Loc Cert.SquareRowsIdeal.nD Cert.SquareRowsIdeal.τ Cert.SquareRowsIdeal.sig) → Buf (Elt Ideal) ℓ) : Prop :=
  True

def Pre_SquareRowsRefIdeal (m : (ℓ : Loc Cert.SquareRowsRefIdeal.nD Cert.SquareRowsRefIdeal.τ Cert.SquareRowsRefIdeal.sig) → Buf (Elt Ideal) ℓ) : Prop :=
  True

def Pre_HeadRows (m : (ℓ : Loc Cert.HeadRows.nD Cert.HeadRows.τ Cert.HeadRows.sig) → Buf (Elt Bits) ℓ) : Prop :=
  True

def Pre_HeadRowsIdeal (m : (ℓ : Loc Cert.HeadRowsIdeal.nD Cert.HeadRowsIdeal.τ Cert.HeadRowsIdeal.sig) → Buf (Elt Ideal) ℓ) : Prop :=
  True

def Pre_HeadRowsRefIdeal (m : (ℓ : Loc Cert.HeadRowsRefIdeal.nD Cert.HeadRowsRefIdeal.τ Cert.HeadRowsRefIdeal.sig) → Buf (Elt Ideal) ℓ) : Prop :=
  True

def Pre_QkvRows (m : (ℓ : Loc Cert.QkvRows.nD Cert.QkvRows.τ Cert.QkvRows.sig) → Buf (Elt Bits) ℓ) : Prop :=
  True

def Pre_QkvRowsIdeal (m : (ℓ : Loc Cert.QkvRowsIdeal.nD Cert.QkvRowsIdeal.τ Cert.QkvRowsIdeal.sig) → Buf (Elt Ideal) ℓ) : Prop :=
  True

def Pre_QkvRowsRefIdeal (m : (ℓ : Loc Cert.QkvRowsRefIdeal.nD Cert.QkvRowsRefIdeal.τ Cert.QkvRowsRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_KvGrad (m : (ℓ : Loc Cert.KvGrad.nD Cert.KvGrad.τ Cert.KvGrad.sig) → Buf (Elt Bits) ℓ) : Prop :=
  True

def Pre_KvGradIdeal (m : (ℓ : Loc Cert.KvGradIdeal.nD Cert.KvGradIdeal.τ Cert.KvGradIdeal.sig) → Buf (Elt Ideal) ℓ) : Prop :=
  True

def Pre_KvGradRefIdeal (m : (ℓ : Loc Cert.KvGradRefIdeal.nD Cert.KvGradRefIdeal.τ Cert.KvGradRefIdeal.sig) → Buf (Elt Ideal) ℓ) : Prop :=
  True

def Pre_EmbedSlope (m : (ℓ : Loc Cert.EmbedSlope.nD Cert.EmbedSlope.τ Cert.EmbedSlope.sig) → Buf (Elt Bits) ℓ) : Prop :=
  True

def Pre_EmbedSlopeIdeal (m : (ℓ : Loc Cert.EmbedSlopeIdeal.nD Cert.EmbedSlopeIdeal.τ Cert.EmbedSlopeIdeal.sig) → Buf (Elt Ideal) ℓ) : Prop :=
  True

def Pre_EmbedSlopeRefIdeal (m : (ℓ : Loc Cert.EmbedSlopeRefIdeal.nD Cert.EmbedSlopeRefIdeal.τ Cert.EmbedSlopeRefIdeal.sig) → Buf (Elt Ideal) ℓ) : Prop :=
  True

def Pre_EmbedGrad (m : (ℓ : Loc Cert.EmbedGrad.nD Cert.EmbedGrad.τ Cert.EmbedGrad.sig) → Buf (Elt Bits) ℓ) : Prop :=
  True

def Pre_EmbedGradIdeal (m : (ℓ : Loc Cert.EmbedGradIdeal.nD Cert.EmbedGradIdeal.τ Cert.EmbedGradIdeal.sig) → Buf (Elt Ideal) ℓ) : Prop :=
  True

def Pre_EmbedGradRefIdeal (m : (ℓ : Loc Cert.EmbedGradRefIdeal.nD Cert.EmbedGradRefIdeal.τ Cert.EmbedGradRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Unturn (m : (ℓ : Loc Cert.Unturn.nD Cert.Unturn.τ Cert.Unturn.sig) → Buf (Elt Bits) ℓ) : Prop :=
  True

def Pre_UnturnIdeal (m : (ℓ : Loc Cert.UnturnIdeal.nD Cert.UnturnIdeal.τ Cert.UnturnIdeal.sig) → Buf (Elt Ideal) ℓ) : Prop :=
  True

def Pre_UnturnRefIdeal (m : (ℓ : Loc Cert.UnturnRefIdeal.nD Cert.UnturnRefIdeal.τ Cert.UnturnRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_ColumnSum (m : (ℓ : Loc Cert.ColumnSum.nD Cert.ColumnSum.τ Cert.ColumnSum.sig) → Buf (Elt Bits) ℓ) : Prop :=
  True

def Pre_ColumnSumIdeal (m : (ℓ : Loc Cert.ColumnSumIdeal.nD Cert.ColumnSumIdeal.τ Cert.ColumnSumIdeal.sig) → Buf (Elt Ideal) ℓ) : Prop :=
  True

def Pre_ColumnSumRefIdeal (m : (ℓ : Loc Cert.ColumnSumRefIdeal.nD Cert.ColumnSumRefIdeal.τ Cert.ColumnSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluIdeal_pre_finite_swiglu [hSwigluIdeal : Cert.SwigluIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_swiglu m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_SwigluRefIdeal_pre_finite_swiglu [hSwigluRefIdeal : Cert.SwigluRefIdeal.Facts] [hPre_finite_swiglu : Cert.Pre_finite_swiglu.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_swiglu m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1)
      ∧ r.2.mem ((c.tc : Thread Cert.UpGrad.nD Cert.UpGrad.τ).loc Cert.UpGrad.main_arg2) = m ((c.tc : Thread Cert.UpGrad.nD Cert.UpGrad.τ).loc Cert.UpGrad.main_arg2))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1)
      ∧ r.2.mem ((c.tc : Thread Cert.UpGradRefIdeal.nD Cert.UpGradRefIdeal.τ).loc Cert.UpGradRefIdeal.main_arg2) = m ((c.tc : Thread Cert.UpGradRefIdeal.nD Cert.UpGradRefIdeal.τ).loc Cert.UpGradRefIdeal.main_arg2))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_RowGrad [hRowGrad : Cert.RowGrad.Facts] : Prop :=
  ∀ (m : (ℓ : Loc Cert.RowGrad.nD Cert.RowGrad.τ Cert.RowGrad.sig) → Buf (Elt Bits) ℓ) (g : Dev Cert.RowGrad.nD → PrngReg), Pre_RowGrad m →
    θ_run (Cert.RowGrad.defs (F := Bits)) (onTc (τ := Cert.RowGrad.τ) (Cert.RowGrad.main (F := Bits))) ⟨m, fun _ => 0, g⟩ (fun r => (∀ c : Dev Cert.RowGrad.nD,
      r.2.mem ((c.tc : Thread Cert.RowGrad.nD Cert.RowGrad.τ).loc Cert.RowGrad.main_arg0) = m ((c.tc : Thread Cert.RowGrad.nD Cert.RowGrad.τ).loc Cert.RowGrad.main_arg0)
      ∧ r.2.mem ((c.tc : Thread Cert.RowGrad.nD Cert.RowGrad.τ).loc Cert.RowGrad.main_arg1) = m ((c.tc : Thread Cert.RowGrad.nD Cert.RowGrad.τ).loc Cert.RowGrad.main_arg1)
      ∧ r.2.mem ((c.tc : Thread Cert.RowGrad.nD Cert.RowGrad.τ).loc Cert.RowGrad.main_arg2) = m ((c.tc : Thread Cert.RowGrad.nD Cert.RowGrad.τ).loc Cert.RowGrad.main_arg2)
      ∧ r.2.mem ((c.tc : Thread Cert.RowGrad.nD Cert.RowGrad.τ).loc Cert.RowGrad.main_arg3) = m ((c.tc : Thread Cert.RowGrad.nD Cert.RowGrad.τ).loc Cert.RowGrad.main_arg3))
      ∧ r.2.sem = fun _ => 0)

def quiescent_RowGradIdeal [hRowGradIdeal : Cert.RowGradIdeal.Facts] : Prop :=
  ∀ (m : (ℓ : Loc Cert.RowGradIdeal.nD Cert.RowGradIdeal.τ Cert.RowGradIdeal.sig) → Buf (Elt Ideal) ℓ) (g : Dev Cert.RowGradIdeal.nD → PrngReg), Pre_RowGradIdeal m →
    θ_run (Cert.RowGradIdeal.defs (F := Ideal)) (onTc (τ := Cert.RowGradIdeal.τ) (Cert.RowGradIdeal.main (F := Ideal))) ⟨m, fun _ => 0, g⟩ (fun r => (∀ c : Dev Cert.RowGradIdeal.nD,
      r.2.mem ((c.tc : Thread Cert.RowGradIdeal.nD Cert.RowGradIdeal.τ).loc Cert.RowGradIdeal.main_arg0) = m ((c.tc : Thread Cert.RowGradIdeal.nD Cert.RowGradIdeal.τ).loc Cert.RowGradIdeal.main_arg0)
      ∧ r.2.mem ((c.tc : Thread Cert.RowGradIdeal.nD Cert.RowGradIdeal.τ).loc Cert.RowGradIdeal.main_arg1) = m ((c.tc : Thread Cert.RowGradIdeal.nD Cert.RowGradIdeal.τ).loc Cert.RowGradIdeal.main_arg1)
      ∧ r.2.mem ((c.tc : Thread Cert.RowGradIdeal.nD Cert.RowGradIdeal.τ).loc Cert.RowGradIdeal.main_arg2) = m ((c.tc : Thread Cert.RowGradIdeal.nD Cert.RowGradIdeal.τ).loc Cert.RowGradIdeal.main_arg2)
      ∧ r.2.mem ((c.tc : Thread Cert.RowGradIdeal.nD Cert.RowGradIdeal.τ).loc Cert.RowGradIdeal.main_arg3) = m ((c.tc : Thread Cert.RowGradIdeal.nD Cert.RowGradIdeal.τ).loc Cert.RowGradIdeal.main_arg3))
      ∧ r.2.sem = fun _ => 0)

def quiescent_RowGradRefIdeal [hRowGradRefIdeal : Cert.RowGradRefIdeal.Facts] : Prop :=
  ∀ (m : (ℓ : Loc Cert.RowGradRefIdeal.nD Cert.RowGradRefIdeal.τ Cert.RowGradRefIdeal.sig) → Buf (Elt Ideal) ℓ) (g : Dev Cert.RowGradRefIdeal.nD → PrngReg), Pre_RowGradRefIdeal m →
    θ_run (Cert.RowGradRefIdeal.defs (F := Ideal)) (onTc (τ := Cert.RowGradRefIdeal.τ) (Cert.RowGradRefIdeal.main (F := Ideal))) ⟨m, fun _ => 0, g⟩ (fun r => (∀ c : Dev Cert.RowGradRefIdeal.nD,
      r.2.mem ((c.tc : Thread Cert.RowGradRefIdeal.nD Cert.RowGradRefIdeal.τ).loc Cert.RowGradRefIdeal.main_arg0) = m ((c.tc : Thread Cert.RowGradRefIdeal.nD Cert.RowGradRefIdeal.τ).loc Cert.RowGradRefIdeal.main_arg0)
      ∧ r.2.mem ((c.tc : Thread Cert.RowGradRefIdeal.nD Cert.RowGradRefIdeal.τ).loc Cert.RowGradRefIdeal.main_arg1) = m ((c.tc : Thread Cert.RowGradRefIdeal.nD Cert.RowGradRefIdeal.τ).loc Cert.RowGradRefIdeal.main_arg1)
      ∧ r.2.mem ((c.tc : Thread Cert.RowGradRefIdeal.nD Cert.RowGradRefIdeal.τ).loc Cert.RowGradRefIdeal.main_arg2) = m ((c.tc : Thread Cert.RowGradRefIdeal.nD Cert.RowGradRefIdeal.τ).loc Cert.RowGradRefIdeal.main_arg2)
      ∧ r.2.mem ((c.tc : Thread Cert.RowGradRefIdeal.nD Cert.RowGradRefIdeal.τ).loc Cert.RowGradRefIdeal.main_arg3) = m ((c.tc : Thread Cert.RowGradRefIdeal.nD Cert.RowGradRefIdeal.τ).loc Cert.RowGradRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ r.2.sem = fun _ => 0)

def quiescent_GmlpInRefIdeal [hGmlpInRefIdeal : Cert.GmlpInRefIdeal.Facts] : Prop :=
  ∀ (m : (ℓ : Loc Cert.GmlpInRefIdeal.nD Cert.GmlpInRefIdeal.τ Cert.GmlpInRefIdeal.sig) → Buf (Elt Ideal) ℓ) (g : Dev Cert.GmlpInRefIdeal.nD → PrngReg), Pre_GmlpInRefIdeal m →
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1))
      ∧ r.2.sem = fun _ => 0)

def quiescent_GmlpOut [hGmlpOut : Cert.GmlpOut.Facts] : Prop :=
  ∀ (m : (ℓ : Loc Cert.GmlpOut.nD Cert.GmlpOut.τ Cert.GmlpOut.sig) → Buf (Elt Bits) ℓ) (g : Dev Cert.GmlpOut.nD → PrngReg), Pre_GmlpOut m →
    θ_run (Cert.GmlpOut.defs (F := Bits)) (onTc (τ := Cert.GmlpOut.τ) (Cert.GmlpOut.main (F := Bits))) ⟨m, fun _ => 0, g⟩ (fun r => (∀ c : Dev Cert.GmlpOut.nD,
      r.2.mem ((c.tc : Thread Cert.GmlpOut.nD Cert.GmlpOut.τ).loc Cert.GmlpOut.main_arg0) = m ((c.tc : Thread Cert.GmlpOut.nD Cert.GmlpOut.τ).loc Cert.GmlpOut.main_arg0)
      ∧ r.2.mem ((c.tc : Thread Cert.GmlpOut.nD Cert.GmlpOut.τ).loc Cert.GmlpOut.main_arg1) = m ((c.tc : Thread Cert.GmlpOut.nD Cert.GmlpOut.τ).loc Cert.GmlpOut.main_arg1)
      ∧ r.2.mem ((c.tc : Thread Cert.GmlpOut.nD Cert.GmlpOut.τ).loc Cert.GmlpOut.main_arg2) = m ((c.tc : Thread Cert.GmlpOut.nD Cert.GmlpOut.τ).loc Cert.GmlpOut.main_arg2))
      ∧ r.2.sem = fun _ => 0)

def quiescent_GmlpOutIdeal [hGmlpOutIdeal : Cert.GmlpOutIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg), Pre_GmlpOutIdeal m →
    θ_run (Cert.GmlpOutIdeal.defs (F := Ideal)) (onTc (τ := Cert.GmlpOutIdeal.τ) (Cert.GmlpOutIdeal.main (F := Ideal))) ⟨m, fun _ => 0, g⟩ (fun r => (∀ c : Dev Cert.GmlpOutIdeal.nD,
      r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
      ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
      ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2))
      ∧ r.2.sem = fun _ => 0)

def quiescent_GmlpOutRefIdeal [hGmlpOutRefIdeal : Cert.GmlpOutRefIdeal.Facts] : Prop :=
  ∀ (m : (ℓ : Loc Cert.GmlpOutRefIdeal.nD Cert.GmlpOutRefIdeal.τ Cert.GmlpOutRefIdeal.sig) → Buf (Elt Ideal) ℓ) (g : Dev Cert.GmlpOutRefIdeal.nD → PrngReg), Pre_GmlpOutRefIdeal m →
    θ_run (Cert.GmlpOutRefIdeal.defs (F := Ideal)) (onTc (τ := Cert.GmlpOutRefIdeal.τ) (Cert.GmlpOutRefIdeal.main (F := Ideal))) ⟨m, fun _ => 0, g⟩ (fun r => (∀ c : Dev Cert.GmlpOutRefIdeal.nD,
      r.2.mem ((c.tc : Thread Cert.GmlpOutRefIdeal.nD Cert.GmlpOutRefIdeal.τ).loc Cert.GmlpOutRefIdeal.main_arg0) = m ((c.tc : Thread Cert.GmlpOutRefIdeal.nD Cert.GmlpOutRefIdeal.τ).loc Cert.GmlpOutRefIdeal.main_arg0)
      ∧ r.2.mem ((c.tc : Thread Cert.GmlpOutRefIdeal.nD Cert.GmlpOutRefIdeal.τ).loc Cert.GmlpOutRefIdeal.main_arg1) = m ((c.tc : Thread Cert.GmlpOutRefIdeal.nD Cert.GmlpOutRefIdeal.τ).loc Cert.GmlpOutRefIdeal.main_arg1)
      ∧ r.2.mem ((c.tc : Thread Cert.GmlpOutRefIdeal.nD Cert.GmlpOutRefIdeal.τ).loc Cert.GmlpOutRefIdeal.main_arg2) = m ((c.tc : Thread Cert.GmlpOutRefIdeal.nD Cert.GmlpOutRefIdeal.τ).loc Cert.GmlpOutRefIdeal.main_arg2))
      ∧ r.2.sem = fun _ => 0)

def quiescent_GatedGrad [hGatedGrad : Cert.GatedGrad.Facts] : Prop :=
  ∀ (m : (ℓ : Loc Cert.GatedGrad.nD Cert.GatedGrad.τ Cert.GatedGrad.sig) → Buf (Elt Bits) ℓ) (g : Dev Cert.GatedGrad.nD → PrngReg), Pre_GatedGrad m →
    θ_run (Cert.GatedGrad.defs (F := Bits)) (onTc (τ := Cert.GatedGrad.τ) (Cert.GatedGrad.main (F := Bits))) ⟨m, fun _ => 0, g⟩ (fun r => (∀ c : Dev Cert.GatedGrad.nD,
      r.2.mem ((c.tc : Thread Cert.GatedGrad.nD Cert.GatedGrad.τ).loc Cert.GatedGrad.main_arg0) = m ((c.tc : Thread Cert.GatedGrad.nD Cert.GatedGrad.τ).loc Cert.GatedGrad.main_arg0)
      ∧ r.2.mem ((c.tc : Thread Cert.GatedGrad.nD Cert.GatedGrad.τ).loc Cert.GatedGrad.main_arg1) = m ((c.tc : Thread Cert.GatedGrad.nD Cert.GatedGrad.τ).loc Cert.GatedGrad.main_arg1))
      ∧ r.2.sem = fun _ => 0)

def quiescent_GatedGradIdeal [hGatedGradIdeal : Cert.GatedGradIdeal.Facts] : Prop :=
  ∀ (m : (ℓ : Loc Cert.GatedGradIdeal.nD Cert.GatedGradIdeal.τ Cert.GatedGradIdeal.sig) → Buf (Elt Ideal) ℓ) (g : Dev Cert.GatedGradIdeal.nD → PrngReg), Pre_GatedGradIdeal m →
    θ_run (Cert.GatedGradIdeal.defs (F := Ideal)) (onTc (τ := Cert.GatedGradIdeal.τ) (Cert.GatedGradIdeal.main (F := Ideal))) ⟨m, fun _ => 0, g⟩ (fun r => (∀ c : Dev Cert.GatedGradIdeal.nD,
      r.2.mem ((c.tc : Thread Cert.GatedGradIdeal.nD Cert.GatedGradIdeal.τ).loc Cert.GatedGradIdeal.main_arg0) = m ((c.tc : Thread Cert.GatedGradIdeal.nD Cert.GatedGradIdeal.τ).loc Cert.GatedGradIdeal.main_arg0)
      ∧ r.2.mem ((c.tc : Thread Cert.GatedGradIdeal.nD Cert.GatedGradIdeal.τ).loc Cert.GatedGradIdeal.main_arg1) = m ((c.tc : Thread Cert.GatedGradIdeal.nD Cert.GatedGradIdeal.τ).loc Cert.GatedGradIdeal.main_arg1))
      ∧ r.2.sem = fun _ => 0)

def quiescent_GatedGradRefIdeal [hGatedGradRefIdeal : Cert.GatedGradRefIdeal.Facts] : Prop :=
  ∀ (m : (ℓ : Loc Cert.GatedGradRefIdeal.nD Cert.GatedGradRefIdeal.τ Cert.GatedGradRefIdeal.sig) → Buf (Elt Ideal) ℓ) (g : Dev Cert.GatedGradRefIdeal.nD → PrngReg), Pre_GatedGradRefIdeal m →
    θ_run (Cert.GatedGradRefIdeal.defs (F := Ideal)) (onTc (τ := Cert.GatedGradRefIdeal.τ) (Cert.GatedGradRefIdeal.main (F := Ideal))) ⟨m, fun _ => 0, g⟩ (fun r => (∀ c : Dev Cert.GatedGradRefIdeal.nD,
      r.2.mem ((c.tc : Thread Cert.GatedGradRefIdeal.nD Cert.GatedGradRefIdeal.τ).loc Cert.GatedGradRefIdeal.main_arg0) = m ((c.tc : Thread Cert.GatedGradRefIdeal.nD Cert.GatedGradRefIdeal.τ).loc Cert.GatedGradRefIdeal.main_arg0)
      ∧ r.2.mem ((c.tc : Thread Cert.GatedGradRefIdeal.nD Cert.GatedGradRefIdeal.τ).loc Cert.GatedGradRefIdeal.main_arg1) = m ((c.tc : Thread Cert.GatedGradRefIdeal.nD Cert.GatedGradRefIdeal.τ).loc Cert.GatedGradRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_InRows [hInRows : Cert.InRows.Facts] : Prop :=
  ∀ (m : (ℓ : Loc Cert.InRows.nD Cert.InRows.τ Cert.InRows.sig) → Buf (Elt Bits) ℓ) (g : Dev Cert.InRows.nD → PrngReg), Pre_InRows m →
    θ_run (Cert.InRows.defs (F := Bits)) (onTc (τ := Cert.InRows.τ) (Cert.InRows.main (F := Bits))) ⟨m, fun _ => 0, g⟩ (fun r => (∀ c : Dev Cert.InRows.nD,
      r.2.mem ((c.tc : Thread Cert.InRows.nD Cert.InRows.τ).loc Cert.InRows.main_arg0) = m ((c.tc : Thread Cert.InRows.nD Cert.InRows.τ).loc Cert.InRows.main_arg0)
      ∧ r.2.mem ((c.tc : Thread Cert.InRows.nD Cert.InRows.τ).loc Cert.InRows.main_arg1) = m ((c.tc : Thread Cert.InRows.nD Cert.InRows.τ).loc Cert.InRows.main_arg1))
      ∧ r.2.sem = fun _ => 0)

def quiescent_InRowsIdeal [hInRowsIdeal : Cert.InRowsIdeal.Facts] : Prop :=
  ∀ (m : (ℓ : Loc Cert.InRowsIdeal.nD Cert.InRowsIdeal.τ Cert.InRowsIdeal.sig) → Buf (Elt Ideal) ℓ) (g : Dev Cert.InRowsIdeal.nD → PrngReg), Pre_InRowsIdeal m →
    θ_run (Cert.InRowsIdeal.defs (F := Ideal)) (onTc (τ := Cert.InRowsIdeal.τ) (Cert.InRowsIdeal.main (F := Ideal))) ⟨m, fun _ => 0, g⟩ (fun r => (∀ c : Dev Cert.InRowsIdeal.nD,
      r.2.mem ((c.tc : Thread Cert.InRowsIdeal.nD Cert.InRowsIdeal.τ).loc Cert.InRowsIdeal.main_arg0) = m ((c.tc : Thread Cert.InRowsIdeal.nD Cert.InRowsIdeal.τ).loc Cert.InRowsIdeal.main_arg0)
      ∧ r.2.mem ((c.tc : Thread Cert.InRowsIdeal.nD Cert.InRowsIdeal.τ).loc Cert.InRowsIdeal.main_arg1) = m ((c.tc : Thread Cert.InRowsIdeal.nD Cert.InRowsIdeal.τ).loc Cert.InRowsIdeal.main_arg1))
      ∧ r.2.sem = fun _ => 0)

def quiescent_InRowsRefIdeal [hInRowsRefIdeal : Cert.InRowsRefIdeal.Facts] : Prop :=
  ∀ (m : (ℓ : Loc Cert.InRowsRefIdeal.nD Cert.InRowsRefIdeal.τ Cert.InRowsRefIdeal.sig) → Buf (Elt Ideal) ℓ) (g : Dev Cert.InRowsRefIdeal.nD → PrngReg), Pre_InRowsRefIdeal m →
    θ_run (Cert.InRowsRefIdeal.defs (F := Ideal)) (onTc (τ := Cert.InRowsRefIdeal.τ) (Cert.InRowsRefIdeal.main (F := Ideal))) ⟨m, fun _ => 0, g⟩ (fun r => (∀ c : Dev Cert.InRowsRefIdeal.nD,
      r.2.mem ((c.tc : Thread Cert.InRowsRefIdeal.nD Cert.InRowsRefIdeal.τ).loc Cert.InRowsRefIdeal.main_arg0) = m ((c.tc : Thread Cert.InRowsRefIdeal.nD Cert.InRowsRefIdeal.τ).loc Cert.InRowsRefIdeal.main_arg0)
      ∧ r.2.mem ((c.tc : Thread Cert.InRowsRefIdeal.nD Cert.InRowsRefIdeal.τ).loc Cert.InRowsRefIdeal.main_arg1) = m ((c.tc : Thread Cert.InRowsRefIdeal.nD Cert.InRowsRefIdeal.τ).loc Cert.InRowsRefIdeal.main_arg1))
      ∧ r.2.sem = fun _ => 0)

def quiescent_SquareGrad [hSquareGrad : Cert.SquareGrad.Facts] : Prop :=
  ∀ (m : (ℓ : Loc Cert.SquareGrad.nD Cert.SquareGrad.τ Cert.SquareGrad.sig) → Buf (Elt Bits) ℓ) (g : Dev Cert.SquareGrad.nD → PrngReg), Pre_SquareGrad m →
    θ_run (Cert.SquareGrad.defs (F := Bits)) (onTc (τ := Cert.SquareGrad.τ) (Cert.SquareGrad.main (F := Bits))) ⟨m, fun _ => 0, g⟩ (fun r => (∀ c : Dev Cert.SquareGrad.nD,
      r.2.mem ((c.tc : Thread Cert.SquareGrad.nD Cert.SquareGrad.τ).loc Cert.SquareGrad.main_arg0) = m ((c.tc : Thread Cert.SquareGrad.nD Cert.SquareGrad.τ).loc Cert.SquareGrad.main_arg0)
      ∧ r.2.mem ((c.tc : Thread Cert.SquareGrad.nD Cert.SquareGrad.τ).loc Cert.SquareGrad.main_arg1) = m ((c.tc : Thread Cert.SquareGrad.nD Cert.SquareGrad.τ).loc Cert.SquareGrad.main_arg1))
      ∧ r.2.sem = fun _ => 0)

def quiescent_SquareGradIdeal [hSquareGradIdeal : Cert.SquareGradIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg), Pre_SquareGradIdeal m →
    θ_run (Cert.SquareGradIdeal.defs (F := Ideal)) (onTc (τ := Cert.SquareGradIdeal.τ) (Cert.SquareGradIdeal.main (F := Ideal))) ⟨m, fun _ => 0, g⟩ (fun r => (∀ c : Dev Cert.SquareGradIdeal.nD,
      r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
      ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ r.2.sem = fun _ => 0)

def quiescent_SquareGradRefIdeal [hSquareGradRefIdeal : Cert.SquareGradRefIdeal.Facts] : Prop :=
  ∀ (m : (ℓ : Loc Cert.SquareGradRefIdeal.nD Cert.SquareGradRefIdeal.τ Cert.SquareGradRefIdeal.sig) → Buf (Elt Ideal) ℓ) (g : Dev Cert.SquareGradRefIdeal.nD → PrngReg), Pre_SquareGradRefIdeal m →
    θ_run (Cert.SquareGradRefIdeal.defs (F := Ideal)) (onTc (τ := Cert.SquareGradRefIdeal.τ) (Cert.SquareGradRefIdeal.main (F := Ideal))) ⟨m, fun _ => 0, g⟩ (fun r => (∀ c : Dev Cert.SquareGradRefIdeal.nD,
      r.2.mem ((c.tc : Thread Cert.SquareGradRefIdeal.nD Cert.SquareGradRefIdeal.τ).loc Cert.SquareGradRefIdeal.main_arg0) = m ((c.tc : Thread Cert.SquareGradRefIdeal.nD Cert.SquareGradRefIdeal.τ).loc Cert.SquareGradRefIdeal.main_arg0)
      ∧ r.2.mem ((c.tc : Thread Cert.SquareGradRefIdeal.nD Cert.SquareGradRefIdeal.τ).loc Cert.SquareGradRefIdeal.main_arg1) = m ((c.tc : Thread Cert.SquareGradRefIdeal.nD Cert.SquareGradRefIdeal.τ).loc Cert.SquareGradRefIdeal.main_arg1))
      ∧ r.2.sem = fun _ => 0)

def quiescent_SquareRows [hSquareRows : Cert.SquareRows.Facts] : Prop :=
  ∀ (m : (ℓ : Loc Cert.SquareRows.nD Cert.SquareRows.τ Cert.SquareRows.sig) → Buf (Elt Bits) ℓ) (g : Dev Cert.SquareRows.nD → PrngReg), Pre_SquareRows m →
    θ_run (Cert.SquareRows.defs (F := Bits)) (onTc (τ := Cert.SquareRows.τ) (Cert.SquareRows.main (F := Bits))) ⟨m, fun _ => 0, g⟩ (fun r => (∀ c : Dev Cert.SquareRows.nD,
      r.2.mem ((c.tc : Thread Cert.SquareRows.nD Cert.SquareRows.τ).loc Cert.SquareRows.main_arg0) = m ((c.tc : Thread Cert.SquareRows.nD Cert.SquareRows.τ).loc Cert.SquareRows.main_arg0)
      ∧ r.2.mem ((c.tc : Thread Cert.SquareRows.nD Cert.SquareRows.τ).loc Cert.SquareRows.main_arg1) = m ((c.tc : Thread Cert.SquareRows.nD Cert.SquareRows.τ).loc Cert.SquareRows.main_arg1))
      ∧ r.2.sem = fun _ => 0)

def quiescent_SquareRowsIdeal [hSquareRowsIdeal : Cert.SquareRowsIdeal.Facts] : Prop :=
  ∀ (m : (ℓ : Loc Cert.SquareRowsIdeal.nD Cert.SquareRowsIdeal.τ Cert.SquareRowsIdeal.sig) → Buf (Elt Ideal) ℓ) (g : Dev Cert.SquareRowsIdeal.nD → PrngReg), Pre_SquareRowsIdeal m →
    θ_run (Cert.SquareRowsIdeal.defs (F := Ideal)) (onTc (τ := Cert.SquareRowsIdeal.τ) (Cert.SquareRowsIdeal.main (F := Ideal))) ⟨m, fun _ => 0, g⟩ (fun r => (∀ c : Dev Cert.SquareRowsIdeal.nD,
      r.2.mem ((c.tc : Thread Cert.SquareRowsIdeal.nD Cert.SquareRowsIdeal.τ).loc Cert.SquareRowsIdeal.main_arg0) = m ((c.tc : Thread Cert.SquareRowsIdeal.nD Cert.SquareRowsIdeal.τ).loc Cert.SquareRowsIdeal.main_arg0)
      ∧ r.2.mem ((c.tc : Thread Cert.SquareRowsIdeal.nD Cert.SquareRowsIdeal.τ).loc Cert.SquareRowsIdeal.main_arg1) = m ((c.tc : Thread Cert.SquareRowsIdeal.nD Cert.SquareRowsIdeal.τ).loc Cert.SquareRowsIdeal.main_arg1))
      ∧ r.2.sem = fun _ => 0)

def quiescent_SquareRowsRefIdeal [hSquareRowsRefIdeal : Cert.SquareRowsRefIdeal.Facts] : Prop :=
  ∀ (m : (ℓ : Loc Cert.SquareRowsRefIdeal.nD Cert.SquareRowsRefIdeal.τ Cert.SquareRowsRefIdeal.sig) → Buf (Elt Ideal) ℓ) (g : Dev Cert.SquareRowsRefIdeal.nD → PrngReg), Pre_SquareRowsRefIdeal m →
    θ_run (Cert.SquareRowsRefIdeal.defs (F := Ideal)) (onTc (τ := Cert.SquareRowsRefIdeal.τ) (Cert.SquareRowsRefIdeal.main (F := Ideal))) ⟨m, fun _ => 0, g⟩ (fun r => (∀ c : Dev Cert.SquareRowsRefIdeal.nD,
      r.2.mem ((c.tc : Thread Cert.SquareRowsRefIdeal.nD Cert.SquareRowsRefIdeal.τ).loc Cert.SquareRowsRefIdeal.main_arg0) = m ((c.tc : Thread Cert.SquareRowsRefIdeal.nD Cert.SquareRowsRefIdeal.τ).loc Cert.SquareRowsRefIdeal.main_arg0)
      ∧ r.2.mem ((c.tc : Thread Cert.SquareRowsRefIdeal.nD Cert.SquareRowsRefIdeal.τ).loc Cert.SquareRowsRefIdeal.main_arg1) = m ((c.tc : Thread Cert.SquareRowsRefIdeal.nD Cert.SquareRowsRefIdeal.τ).loc Cert.SquareRowsRefIdeal.main_arg1))
      ∧ r.2.sem = fun _ => 0)

def quiescent_HeadRows [hHeadRows : Cert.HeadRows.Facts] : Prop :=
  ∀ (m : (ℓ : Loc Cert.HeadRows.nD Cert.HeadRows.τ Cert.HeadRows.sig) → Buf (Elt Bits) ℓ) (g : Dev Cert.HeadRows.nD → PrngReg), Pre_HeadRows m →
    θ_run (Cert.HeadRows.defs (F := Bits)) (onTc (τ := Cert.HeadRows.τ) (Cert.HeadRows.main (F := Bits))) ⟨m, fun _ => 0, g⟩ (fun r => (∀ c : Dev Cert.HeadRows.nD,
      r.2.mem ((c.tc : Thread Cert.HeadRows.nD Cert.HeadRows.τ).loc Cert.HeadRows.main_arg0) = m ((c.tc : Thread Cert.HeadRows.nD Cert.HeadRows.τ).loc Cert.HeadRows.main_arg0)
      ∧ r.2.mem ((c.tc : Thread Cert.HeadRows.nD Cert.HeadRows.τ).loc Cert.HeadRows.main_arg1) = m ((c.tc : Thread Cert.HeadRows.nD Cert.HeadRows.τ).loc Cert.HeadRows.main_arg1))
      ∧ r.2.sem = fun _ => 0)

def quiescent_HeadRowsIdeal [hHeadRowsIdeal : Cert.HeadRowsIdeal.Facts] : Prop :=
  ∀ (m : (ℓ : Loc Cert.HeadRowsIdeal.nD Cert.HeadRowsIdeal.τ Cert.HeadRowsIdeal.sig) → Buf (Elt Ideal) ℓ) (g : Dev Cert.HeadRowsIdeal.nD → PrngReg), Pre_HeadRowsIdeal m →
    θ_run (Cert.HeadRowsIdeal.defs (F := Ideal)) (onTc (τ := Cert.HeadRowsIdeal.τ) (Cert.HeadRowsIdeal.main (F := Ideal))) ⟨m, fun _ => 0, g⟩ (fun r => (∀ c : Dev Cert.HeadRowsIdeal.nD,
      r.2.mem ((c.tc : Thread Cert.HeadRowsIdeal.nD Cert.HeadRowsIdeal.τ).loc Cert.HeadRowsIdeal.main_arg0) = m ((c.tc : Thread Cert.HeadRowsIdeal.nD Cert.HeadRowsIdeal.τ).loc Cert.HeadRowsIdeal.main_arg0)
      ∧ r.2.mem ((c.tc : Thread Cert.HeadRowsIdeal.nD Cert.HeadRowsIdeal.τ).loc Cert.HeadRowsIdeal.main_arg1) = m ((c.tc : Thread Cert.HeadRowsIdeal.nD Cert.HeadRowsIdeal.τ).loc Cert.HeadRowsIdeal.main_arg1))
      ∧ r.2.sem = fun _ => 0)

def quiescent_HeadRowsRefIdeal [hHeadRowsRefIdeal : Cert.HeadRowsRefIdeal.Facts] : Prop :=
  ∀ (m : (ℓ : Loc Cert.HeadRowsRefIdeal.nD Cert.HeadRowsRefIdeal.τ Cert.HeadRowsRefIdeal.sig) → Buf (Elt Ideal) ℓ) (g : Dev Cert.HeadRowsRefIdeal.nD → PrngReg), Pre_HeadRowsRefIdeal m →
    θ_run (Cert.HeadRowsRefIdeal.defs (F := Ideal)) (onTc (τ := Cert.HeadRowsRefIdeal.τ) (Cert.HeadRowsRefIdeal.main (F := Ideal))) ⟨m, fun _ => 0, g⟩ (fun r => (∀ c : Dev Cert.HeadRowsRefIdeal.nD,
      r.2.mem ((c.tc : Thread Cert.HeadRowsRefIdeal.nD Cert.HeadRowsRefIdeal.τ).loc Cert.HeadRowsRefIdeal.main_arg0) = m ((c.tc : Thread Cert.HeadRowsRefIdeal.nD Cert.HeadRowsRefIdeal.τ).loc Cert.HeadRowsRefIdeal.main_arg0)
      ∧ r.2.mem ((c.tc : Thread Cert.HeadRowsRefIdeal.nD Cert.HeadRowsRefIdeal.τ).loc Cert.HeadRowsRefIdeal.main_arg1) = m ((c.tc : Thread Cert.HeadRowsRefIdeal.nD Cert.HeadRowsRefIdeal.τ).loc Cert.HeadRowsRefIdeal.main_arg1))
      ∧ r.2.sem = fun _ => 0)

def quiescent_QkvRows [hQkvRows : Cert.QkvRows.Facts] : Prop :=
  ∀ (m : (ℓ : Loc Cert.QkvRows.nD Cert.QkvRows.τ Cert.QkvRows.sig) → Buf (Elt Bits) ℓ) (g : Dev Cert.QkvRows.nD → PrngReg), Pre_QkvRows m →
    θ_run (Cert.QkvRows.defs (F := Bits)) (onTc (τ := Cert.QkvRows.τ) (Cert.QkvRows.main (F := Bits))) ⟨m, fun _ => 0, g⟩ (fun r => (∀ c : Dev Cert.QkvRows.nD,
      r.2.mem ((c.tc : Thread Cert.QkvRows.nD Cert.QkvRows.τ).loc Cert.QkvRows.main_arg0) = m ((c.tc : Thread Cert.QkvRows.nD Cert.QkvRows.τ).loc Cert.QkvRows.main_arg0)
      ∧ r.2.mem ((c.tc : Thread Cert.QkvRows.nD Cert.QkvRows.τ).loc Cert.QkvRows.main_arg1) = m ((c.tc : Thread Cert.QkvRows.nD Cert.QkvRows.τ).loc Cert.QkvRows.main_arg1)
      ∧ r.2.mem ((c.tc : Thread Cert.QkvRows.nD Cert.QkvRows.τ).loc Cert.QkvRows.main_arg2) = m ((c.tc : Thread Cert.QkvRows.nD Cert.QkvRows.τ).loc Cert.QkvRows.main_arg2)
      ∧ r.2.mem ((c.tc : Thread Cert.QkvRows.nD Cert.QkvRows.τ).loc Cert.QkvRows.main_arg3) = m ((c.tc : Thread Cert.QkvRows.nD Cert.QkvRows.τ).loc Cert.QkvRows.main_arg3))
      ∧ r.2.sem = fun _ => 0)

def quiescent_QkvRowsIdeal [hQkvRowsIdeal : Cert.QkvRowsIdeal.Facts] : Prop :=
  ∀ (m : (ℓ : Loc Cert.QkvRowsIdeal.nD Cert.QkvRowsIdeal.τ Cert.QkvRowsIdeal.sig) → Buf (Elt Ideal) ℓ) (g : Dev Cert.QkvRowsIdeal.nD → PrngReg), Pre_QkvRowsIdeal m →
    θ_run (Cert.QkvRowsIdeal.defs (F := Ideal)) (onTc (τ := Cert.QkvRowsIdeal.τ) (Cert.QkvRowsIdeal.main (F := Ideal))) ⟨m, fun _ => 0, g⟩ (fun r => (∀ c : Dev Cert.QkvRowsIdeal.nD,
      r.2.mem ((c.tc : Thread Cert.QkvRowsIdeal.nD Cert.QkvRowsIdeal.τ).loc Cert.QkvRowsIdeal.main_arg0) = m ((c.tc : Thread Cert.QkvRowsIdeal.nD Cert.QkvRowsIdeal.τ).loc Cert.QkvRowsIdeal.main_arg0)
      ∧ r.2.mem ((c.tc : Thread Cert.QkvRowsIdeal.nD Cert.QkvRowsIdeal.τ).loc Cert.QkvRowsIdeal.main_arg1) = m ((c.tc : Thread Cert.QkvRowsIdeal.nD Cert.QkvRowsIdeal.τ).loc Cert.QkvRowsIdeal.main_arg1)
      ∧ r.2.mem ((c.tc : Thread Cert.QkvRowsIdeal.nD Cert.QkvRowsIdeal.τ).loc Cert.QkvRowsIdeal.main_arg2) = m ((c.tc : Thread Cert.QkvRowsIdeal.nD Cert.QkvRowsIdeal.τ).loc Cert.QkvRowsIdeal.main_arg2)
      ∧ r.2.mem ((c.tc : Thread Cert.QkvRowsIdeal.nD Cert.QkvRowsIdeal.τ).loc Cert.QkvRowsIdeal.main_arg3) = m ((c.tc : Thread Cert.QkvRowsIdeal.nD Cert.QkvRowsIdeal.τ).loc Cert.QkvRowsIdeal.main_arg3))
      ∧ r.2.sem = fun _ => 0)

def quiescent_QkvRowsRefIdeal [hQkvRowsRefIdeal : Cert.QkvRowsRefIdeal.Facts] : Prop :=
  ∀ (m : (ℓ : Loc Cert.QkvRowsRefIdeal.nD Cert.QkvRowsRefIdeal.τ Cert.QkvRowsRefIdeal.sig) → Buf (Elt Ideal) ℓ) (g : Dev Cert.QkvRowsRefIdeal.nD → PrngReg), Pre_QkvRowsRefIdeal m →
    θ_run (Cert.QkvRowsRefIdeal.defs (F := Ideal)) (onTc (τ := Cert.QkvRowsRefIdeal.τ) (Cert.QkvRowsRefIdeal.main (F := Ideal))) ⟨m, fun _ => 0, g⟩ (fun r => (∀ c : Dev Cert.QkvRowsRefIdeal.nD,
      r.2.mem ((c.tc : Thread Cert.QkvRowsRefIdeal.nD Cert.QkvRowsRefIdeal.τ).loc Cert.QkvRowsRefIdeal.main_arg0) = m ((c.tc : Thread Cert.QkvRowsRefIdeal.nD Cert.QkvRowsRefIdeal.τ).loc Cert.QkvRowsRefIdeal.main_arg0)
      ∧ r.2.mem ((c.tc : Thread Cert.QkvRowsRefIdeal.nD Cert.QkvRowsRefIdeal.τ).loc Cert.QkvRowsRefIdeal.main_arg1) = m ((c.tc : Thread Cert.QkvRowsRefIdeal.nD Cert.QkvRowsRefIdeal.τ).loc Cert.QkvRowsRefIdeal.main_arg1)
      ∧ r.2.mem ((c.tc : Thread Cert.QkvRowsRefIdeal.nD Cert.QkvRowsRefIdeal.τ).loc Cert.QkvRowsRefIdeal.main_arg2) = m ((c.tc : Thread Cert.QkvRowsRefIdeal.nD Cert.QkvRowsRefIdeal.τ).loc Cert.QkvRowsRefIdeal.main_arg2)
      ∧ r.2.mem ((c.tc : Thread Cert.QkvRowsRefIdeal.nD Cert.QkvRowsRefIdeal.τ).loc Cert.QkvRowsRefIdeal.main_arg3) = m ((c.tc : Thread Cert.QkvRowsRefIdeal.nD Cert.QkvRowsRefIdeal.τ).loc Cert.QkvRowsRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3))
      ∧ r.2.sem = fun _ => 0)

def quiescent_KvGrad [hKvGrad : Cert.KvGrad.Facts] : Prop :=
  ∀ (m : (ℓ : Loc Cert.KvGrad.nD Cert.KvGrad.τ Cert.KvGrad.sig) → Buf (Elt Bits) ℓ) (g : Dev Cert.KvGrad.nD → PrngReg), Pre_KvGrad m →
    θ_run (Cert.KvGrad.defs (F := Bits)) (onTc (τ := Cert.KvGrad.τ) (Cert.KvGrad.main (F := Bits))) ⟨m, fun _ => 0, g⟩ (fun r => (∀ c : Dev Cert.KvGrad.nD,
      r.2.mem ((c.tc : Thread Cert.KvGrad.nD Cert.KvGrad.τ).loc Cert.KvGrad.main_arg0) = m ((c.tc : Thread Cert.KvGrad.nD Cert.KvGrad.τ).loc Cert.KvGrad.main_arg0)
      ∧ r.2.mem ((c.tc : Thread Cert.KvGrad.nD Cert.KvGrad.τ).loc Cert.KvGrad.main_arg1) = m ((c.tc : Thread Cert.KvGrad.nD Cert.KvGrad.τ).loc Cert.KvGrad.main_arg1))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1))
      ∧ r.2.sem = fun _ => 0)

def quiescent_KvGradRefIdeal [hKvGradRefIdeal : Cert.KvGradRefIdeal.Facts] : Prop :=
  ∀ (m : (ℓ : Loc Cert.KvGradRefIdeal.nD Cert.KvGradRefIdeal.τ Cert.KvGradRefIdeal.sig) → Buf (Elt Ideal) ℓ) (g : Dev Cert.KvGradRefIdeal.nD → PrngReg), Pre_KvGradRefIdeal m →
    θ_run (Cert.KvGradRefIdeal.defs (F := Ideal)) (onTc (τ := Cert.KvGradRefIdeal.τ) (Cert.KvGradRefIdeal.main (F := Ideal))) ⟨m, fun _ => 0, g⟩ (fun r => (∀ c : Dev Cert.KvGradRefIdeal.nD,
      r.2.mem ((c.tc : Thread Cert.KvGradRefIdeal.nD Cert.KvGradRefIdeal.τ).loc Cert.KvGradRefIdeal.main_arg0) = m ((c.tc : Thread Cert.KvGradRefIdeal.nD Cert.KvGradRefIdeal.τ).loc Cert.KvGradRefIdeal.main_arg0)
      ∧ r.2.mem ((c.tc : Thread Cert.KvGradRefIdeal.nD Cert.KvGradRefIdeal.τ).loc Cert.KvGradRefIdeal.main_arg1) = m ((c.tc : Thread Cert.KvGradRefIdeal.nD Cert.KvGradRefIdeal.τ).loc Cert.KvGradRefIdeal.main_arg1))
      ∧ r.2.sem = fun _ => 0)

def quiescent_EmbedSlope [hEmbedSlope : Cert.EmbedSlope.Facts] : Prop :=
  ∀ (m : (ℓ : Loc Cert.EmbedSlope.nD Cert.EmbedSlope.τ Cert.EmbedSlope.sig) → Buf (Elt Bits) ℓ) (g : Dev Cert.EmbedSlope.nD → PrngReg), Pre_EmbedSlope m →
    θ_run (Cert.EmbedSlope.defs (F := Bits)) (onTc (τ := Cert.EmbedSlope.τ) (Cert.EmbedSlope.main (F := Bits))) ⟨m, fun _ => 0, g⟩ (fun r => (∀ c : Dev Cert.EmbedSlope.nD,
      r.2.mem ((c.tc : Thread Cert.EmbedSlope.nD Cert.EmbedSlope.τ).loc Cert.EmbedSlope.main_arg0) = m ((c.tc : Thread Cert.EmbedSlope.nD Cert.EmbedSlope.τ).loc Cert.EmbedSlope.main_arg0)
      ∧ r.2.mem ((c.tc : Thread Cert.EmbedSlope.nD Cert.EmbedSlope.τ).loc Cert.EmbedSlope.main_arg1) = m ((c.tc : Thread Cert.EmbedSlope.nD Cert.EmbedSlope.τ).loc Cert.EmbedSlope.main_arg1)
      ∧ r.2.mem ((c.tc : Thread Cert.EmbedSlope.nD Cert.EmbedSlope.τ).loc Cert.EmbedSlope.main_arg2) = m ((c.tc : Thread Cert.EmbedSlope.nD Cert.EmbedSlope.τ).loc Cert.EmbedSlope.main_arg2))
      ∧ r.2.sem = fun _ => 0)

def quiescent_EmbedSlopeIdeal [hEmbedSlopeIdeal : Cert.EmbedSlopeIdeal.Facts] : Prop :=
  ∀ (m : (ℓ : Loc Cert.EmbedSlopeIdeal.nD Cert.EmbedSlopeIdeal.τ Cert.EmbedSlopeIdeal.sig) → Buf (Elt Ideal) ℓ) (g : Dev Cert.EmbedSlopeIdeal.nD → PrngReg), Pre_EmbedSlopeIdeal m →
    θ_run (Cert.EmbedSlopeIdeal.defs (F := Ideal)) (onTc (τ := Cert.EmbedSlopeIdeal.τ) (Cert.EmbedSlopeIdeal.main (F := Ideal))) ⟨m, fun _ => 0, g⟩ (fun r => (∀ c : Dev Cert.EmbedSlopeIdeal.nD,
      r.2.mem ((c.tc : Thread Cert.EmbedSlopeIdeal.nD Cert.EmbedSlopeIdeal.τ).loc Cert.EmbedSlopeIdeal.main_arg0) = m ((c.tc : Thread Cert.EmbedSlopeIdeal.nD Cert.EmbedSlopeIdeal.τ).loc Cert.EmbedSlopeIdeal.main_arg0)
      ∧ r.2.mem ((c.tc : Thread Cert.EmbedSlopeIdeal.nD Cert.EmbedSlopeIdeal.τ).loc Cert.EmbedSlopeIdeal.main_arg1) = m ((c.tc : Thread Cert.EmbedSlopeIdeal.nD Cert.EmbedSlopeIdeal.τ).loc Cert.EmbedSlopeIdeal.main_arg1)
      ∧ r.2.mem ((c.tc : Thread Cert.EmbedSlopeIdeal.nD Cert.EmbedSlopeIdeal.τ).loc Cert.EmbedSlopeIdeal.main_arg2) = m ((c.tc : Thread Cert.EmbedSlopeIdeal.nD Cert.EmbedSlopeIdeal.τ).loc Cert.EmbedSlopeIdeal.main_arg2))
      ∧ r.2.sem = fun _ => 0)

def quiescent_EmbedSlopeRefIdeal [hEmbedSlopeRefIdeal : Cert.EmbedSlopeRefIdeal.Facts] : Prop :=
  ∀ (m : (ℓ : Loc Cert.EmbedSlopeRefIdeal.nD Cert.EmbedSlopeRefIdeal.τ Cert.EmbedSlopeRefIdeal.sig) → Buf (Elt Ideal) ℓ) (g : Dev Cert.EmbedSlopeRefIdeal.nD → PrngReg), Pre_EmbedSlopeRefIdeal m →
    θ_run (Cert.EmbedSlopeRefIdeal.defs (F := Ideal)) (onTc (τ := Cert.EmbedSlopeRefIdeal.τ) (Cert.EmbedSlopeRefIdeal.main (F := Ideal))) ⟨m, fun _ => 0, g⟩ (fun r => (∀ c : Dev Cert.EmbedSlopeRefIdeal.nD,
      r.2.mem ((c.tc : Thread Cert.EmbedSlopeRefIdeal.nD Cert.EmbedSlopeRefIdeal.τ).loc Cert.EmbedSlopeRefIdeal.main_arg0) = m ((c.tc : Thread Cert.EmbedSlopeRefIdeal.nD Cert.EmbedSlopeRefIdeal.τ).loc Cert.EmbedSlopeRefIdeal.main_arg0)
      ∧ r.2.mem ((c.tc : Thread Cert.EmbedSlopeRefIdeal.nD Cert.EmbedSlopeRefIdeal.τ).loc Cert.EmbedSlopeRefIdeal.main_arg1) = m ((c.tc : Thread Cert.EmbedSlopeRefIdeal.nD Cert.EmbedSlopeRefIdeal.τ).loc Cert.EmbedSlopeRefIdeal.main_arg1)
      ∧ r.2.mem ((c.tc : Thread Cert.EmbedSlopeRefIdeal.nD Cert.EmbedSlopeRefIdeal.τ).loc Cert.EmbedSlopeRefIdeal.main_arg2) = m ((c.tc : Thread Cert.EmbedSlopeRefIdeal.nD Cert.EmbedSlopeRefIdeal.τ).loc Cert.EmbedSlopeRefIdeal.main_arg2))
      ∧ r.2.sem = fun _ => 0)

def quiescent_EmbedGrad [hEmbedGrad : Cert.EmbedGrad.Facts] : Prop :=
  ∀ (m : (ℓ : Loc Cert.EmbedGrad.nD Cert.EmbedGrad.τ Cert.EmbedGrad.sig) → Buf (Elt Bits) ℓ) (g : Dev Cert.EmbedGrad.nD → PrngReg), Pre_EmbedGrad m →
    θ_run (Cert.EmbedGrad.defs (F := Bits)) (onTc (τ := Cert.EmbedGrad.τ) (Cert.EmbedGrad.main (F := Bits))) ⟨m, fun _ => 0, g⟩ (fun r => (∀ c : Dev Cert.EmbedGrad.nD,
      r.2.mem ((c.tc : Thread Cert.EmbedGrad.nD Cert.EmbedGrad.τ).loc Cert.EmbedGrad.main_arg0) = m ((c.tc : Thread Cert.EmbedGrad.nD Cert.EmbedGrad.τ).loc Cert.EmbedGrad.main_arg0)
      ∧ r.2.mem ((c.tc : Thread Cert.EmbedGrad.nD Cert.EmbedGrad.τ).loc Cert.EmbedGrad.main_arg1) = m ((c.tc : Thread Cert.EmbedGrad.nD Cert.EmbedGrad.τ).loc Cert.EmbedGrad.main_arg1))
      ∧ r.2.sem = fun _ => 0)

def quiescent_EmbedGradIdeal [hEmbedGradIdeal : Cert.EmbedGradIdeal.Facts] : Prop :=
  ∀ (m : (ℓ : Loc Cert.EmbedGradIdeal.nD Cert.EmbedGradIdeal.τ Cert.EmbedGradIdeal.sig) → Buf (Elt Ideal) ℓ) (g : Dev Cert.EmbedGradIdeal.nD → PrngReg), Pre_EmbedGradIdeal m →
    θ_run (Cert.EmbedGradIdeal.defs (F := Ideal)) (onTc (τ := Cert.EmbedGradIdeal.τ) (Cert.EmbedGradIdeal.main (F := Ideal))) ⟨m, fun _ => 0, g⟩ (fun r => (∀ c : Dev Cert.EmbedGradIdeal.nD,
      r.2.mem ((c.tc : Thread Cert.EmbedGradIdeal.nD Cert.EmbedGradIdeal.τ).loc Cert.EmbedGradIdeal.main_arg0) = m ((c.tc : Thread Cert.EmbedGradIdeal.nD Cert.EmbedGradIdeal.τ).loc Cert.EmbedGradIdeal.main_arg0)
      ∧ r.2.mem ((c.tc : Thread Cert.EmbedGradIdeal.nD Cert.EmbedGradIdeal.τ).loc Cert.EmbedGradIdeal.main_arg1) = m ((c.tc : Thread Cert.EmbedGradIdeal.nD Cert.EmbedGradIdeal.τ).loc Cert.EmbedGradIdeal.main_arg1))
      ∧ r.2.sem = fun _ => 0)

def quiescent_EmbedGradRefIdeal [hEmbedGradRefIdeal : Cert.EmbedGradRefIdeal.Facts] : Prop :=
  ∀ (m : (ℓ : Loc Cert.EmbedGradRefIdeal.nD Cert.EmbedGradRefIdeal.τ Cert.EmbedGradRefIdeal.sig) → Buf (Elt Ideal) ℓ) (g : Dev Cert.EmbedGradRefIdeal.nD → PrngReg), Pre_EmbedGradRefIdeal m →
    θ_run (Cert.EmbedGradRefIdeal.defs (F := Ideal)) (onTc (τ := Cert.EmbedGradRefIdeal.τ) (Cert.EmbedGradRefIdeal.main (F := Ideal))) ⟨m, fun _ => 0, g⟩ (fun r => (∀ c : Dev Cert.EmbedGradRefIdeal.nD,
      r.2.mem ((c.tc : Thread Cert.EmbedGradRefIdeal.nD Cert.EmbedGradRefIdeal.τ).loc Cert.EmbedGradRefIdeal.main_arg0) = m ((c.tc : Thread Cert.EmbedGradRefIdeal.nD Cert.EmbedGradRefIdeal.τ).loc Cert.EmbedGradRefIdeal.main_arg0)
      ∧ r.2.mem ((c.tc : Thread Cert.EmbedGradRefIdeal.nD Cert.EmbedGradRefIdeal.τ).loc Cert.EmbedGradRefIdeal.main_arg1) = m ((c.tc : Thread Cert.EmbedGradRefIdeal.nD Cert.EmbedGradRefIdeal.τ).loc Cert.EmbedGradRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2))
      ∧ r.2.sem = fun _ => 0)

def quiescent_Unturn [hUnturn : Cert.Unturn.Facts] : Prop :=
  ∀ (m : (ℓ : Loc Cert.Unturn.nD Cert.Unturn.τ Cert.Unturn.sig) → Buf (Elt Bits) ℓ) (g : Dev Cert.Unturn.nD → PrngReg), Pre_Unturn m →
    θ_run (Cert.Unturn.defs (F := Bits)) (onTc (τ := Cert.Unturn.τ) (Cert.Unturn.main (F := Bits))) ⟨m, fun _ => 0, g⟩ (fun r => (∀ c : Dev Cert.Unturn.nD,
      r.2.mem ((c.tc : Thread Cert.Unturn.nD Cert.Unturn.τ).loc Cert.Unturn.main_arg0) = m ((c.tc : Thread Cert.Unturn.nD Cert.Unturn.τ).loc Cert.Unturn.main_arg0)
      ∧ r.2.mem ((c.tc : Thread Cert.Unturn.nD Cert.Unturn.τ).loc Cert.Unturn.main_arg1) = m ((c.tc : Thread Cert.Unturn.nD Cert.Unturn.τ).loc Cert.Unturn.main_arg1)
      ∧ r.2.mem ((c.tc : Thread Cert.Unturn.nD Cert.Unturn.τ).loc Cert.Unturn.main_arg2) = m ((c.tc : Thread Cert.Unturn.nD Cert.Unturn.τ).loc Cert.Unturn.main_arg2))
      ∧ r.2.sem = fun _ => 0)

def quiescent_UnturnIdeal [hUnturnIdeal : Cert.UnturnIdeal.Facts] : Prop :=
  ∀ (m : (ℓ : Loc Cert.UnturnIdeal.nD Cert.UnturnIdeal.τ Cert.UnturnIdeal.sig) → Buf (Elt Ideal) ℓ) (g : Dev Cert.UnturnIdeal.nD → PrngReg), Pre_UnturnIdeal m →
    θ_run (Cert.UnturnIdeal.defs (F := Ideal)) (onTc (τ := Cert.UnturnIdeal.τ) (Cert.UnturnIdeal.main (F := Ideal))) ⟨m, fun _ => 0, g⟩ (fun r => (∀ c : Dev Cert.UnturnIdeal.nD,
      r.2.mem ((c.tc : Thread Cert.UnturnIdeal.nD Cert.UnturnIdeal.τ).loc Cert.UnturnIdeal.main_arg0) = m ((c.tc : Thread Cert.UnturnIdeal.nD Cert.UnturnIdeal.τ).loc Cert.UnturnIdeal.main_arg0)
      ∧ r.2.mem ((c.tc : Thread Cert.UnturnIdeal.nD Cert.UnturnIdeal.τ).loc Cert.UnturnIdeal.main_arg1) = m ((c.tc : Thread Cert.UnturnIdeal.nD Cert.UnturnIdeal.τ).loc Cert.UnturnIdeal.main_arg1)
      ∧ r.2.mem ((c.tc : Thread Cert.UnturnIdeal.nD Cert.UnturnIdeal.τ).loc Cert.UnturnIdeal.main_arg2) = m ((c.tc : Thread Cert.UnturnIdeal.nD Cert.UnturnIdeal.τ).loc Cert.UnturnIdeal.main_arg2))
      ∧ r.2.sem = fun _ => 0)

def quiescent_UnturnRefIdeal [hUnturnRefIdeal : Cert.UnturnRefIdeal.Facts] : Prop :=
  ∀ (m : (ℓ : Loc Cert.UnturnRefIdeal.nD Cert.UnturnRefIdeal.τ Cert.UnturnRefIdeal.sig) → Buf (Elt Ideal) ℓ) (g : Dev Cert.UnturnRefIdeal.nD → PrngReg), Pre_UnturnRefIdeal m →
    θ_run (Cert.UnturnRefIdeal.defs (F := Ideal)) (onTc (τ := Cert.UnturnRefIdeal.τ) (Cert.UnturnRefIdeal.main (F := Ideal))) ⟨m, fun _ => 0, g⟩ (fun r => (∀ c : Dev Cert.UnturnRefIdeal.nD,
      r.2.mem ((c.tc : Thread Cert.UnturnRefIdeal.nD Cert.UnturnRefIdeal.τ).loc Cert.UnturnRefIdeal.main_arg0) = m ((c.tc : Thread Cert.UnturnRefIdeal.nD Cert.UnturnRefIdeal.τ).loc Cert.UnturnRefIdeal.main_arg0)
      ∧ r.2.mem ((c.tc : Thread Cert.UnturnRefIdeal.nD Cert.UnturnRefIdeal.τ).loc Cert.UnturnRefIdeal.main_arg1) = m ((c.tc : Thread Cert.UnturnRefIdeal.nD Cert.UnturnRefIdeal.τ).loc Cert.UnturnRefIdeal.main_arg1)
      ∧ r.2.mem ((c.tc : Thread Cert.UnturnRefIdeal.nD Cert.UnturnRefIdeal.τ).loc Cert.UnturnRefIdeal.main_arg2) = m ((c.tc : Thread Cert.UnturnRefIdeal.nD Cert.UnturnRefIdeal.τ).loc Cert.UnturnRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_ColumnSum [hColumnSum : Cert.ColumnSum.Facts] : Prop :=
  ∀ (m : (ℓ : Loc Cert.ColumnSum.nD Cert.ColumnSum.τ Cert.ColumnSum.sig) → Buf (Elt Bits) ℓ) (g : Dev Cert.ColumnSum.nD → PrngReg), Pre_ColumnSum m →
    θ_run (Cert.ColumnSum.defs (F := Bits)) (onTc (τ := Cert.ColumnSum.τ) (Cert.ColumnSum.main (F := Bits))) ⟨m, fun _ => 0, g⟩ (fun r => (∀ c : Dev Cert.ColumnSum.nD,
      r.2.mem ((c.tc : Thread Cert.ColumnSum.nD Cert.ColumnSum.τ).loc Cert.ColumnSum.main_arg0) = m ((c.tc : Thread Cert.ColumnSum.nD Cert.ColumnSum.τ).loc Cert.ColumnSum.main_arg0))
      ∧ r.2.sem = fun _ => 0)

def quiescent_ColumnSumIdeal [hColumnSumIdeal : Cert.ColumnSumIdeal.Facts] : Prop :=
  ∀ (m : (ℓ : Loc Cert.ColumnSumIdeal.nD Cert.ColumnSumIdeal.τ Cert.ColumnSumIdeal.sig) → Buf (Elt Ideal) ℓ) (g : Dev Cert.ColumnSumIdeal.nD → PrngReg), Pre_ColumnSumIdeal m →
    θ_run (Cert.ColumnSumIdeal.defs (F := Ideal)) (onTc (τ := Cert.ColumnSumIdeal.τ) (Cert.ColumnSumIdeal.main (F := Ideal))) ⟨m, fun _ => 0, g⟩ (fun r => (∀ c : Dev Cert.ColumnSumIdeal.nD,
      r.2.mem ((c.tc : Thread Cert.ColumnSumIdeal.nD Cert.ColumnSumIdeal.τ).loc Cert.ColumnSumIdeal.main_arg0) = m ((c.tc : Thread Cert.ColumnSumIdeal.nD Cert.ColumnSumIdeal.τ).loc Cert.ColumnSumIdeal.main_arg0))
      ∧ r.2.sem = fun _ => 0)

def quiescent_ColumnSumRefIdeal [hColumnSumRefIdeal : Cert.ColumnSumRefIdeal.Facts] : Prop :=
  ∀ (m : (ℓ : Loc Cert.ColumnSumRefIdeal.nD Cert.ColumnSumRefIdeal.τ Cert.ColumnSumRefIdeal.sig) → Buf (Elt Ideal) ℓ) (g : Dev Cert.ColumnSumRefIdeal.nD → PrngReg), Pre_ColumnSumRefIdeal m →
    θ_run (Cert.ColumnSumRefIdeal.defs (F := Ideal)) (onTc (τ := Cert.ColumnSumRefIdeal.τ) (Cert.ColumnSumRefIdeal.main (F := Ideal))) ⟨m, fun _ => 0, g⟩ (fun r => (∀ c : Dev Cert.ColumnSumRefIdeal.nD,
      r.2.mem ((c.tc : Thread Cert.ColumnSumRefIdeal.nD Cert.ColumnSumRefIdeal.τ).loc Cert.ColumnSumRefIdeal.main_arg0) = m ((c.tc : Thread Cert.ColumnSumRefIdeal.nD Cert.ColumnSumRefIdeal.τ).loc Cert.ColumnSumRefIdeal.main_arg0))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Swiglu_SwigluIdeal : Prop :=
  True

def algebraic_SwigluIdeal_SwigluRefIdeal_pre_finite_swiglu [hSwigluIdeal : Cert.SwigluIdeal.Facts] [hSwigluRefIdeal : Cert.SwigluRefIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_swiglu m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)) →
    ∃ (v0 : (c : Dev Cert.SwigluIdeal.nD) → Buf (Elt Ideal) ((c.tc : Thread Cert.SwigluIdeal.nD Cert.SwigluIdeal.τ).loc Cert.SwigluIdeal.main_v1_0)) (v1 : (c : Dev Cert.SwigluIdeal.nD) → Buf (Elt Ideal) ((c.tc : Thread Cert.SwigluIdeal.nD Cert.SwigluIdeal.τ).loc Cert.SwigluIdeal.main_v1_1)) (v2 : (c : Dev Cert.SwigluIdeal.nD) → Buf (Elt Ideal) ((c.tc : Thread Cert.SwigluIdeal.nD Cert.SwigluIdeal.τ).loc Cert.SwigluIdeal.main_v0_2)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v1_0) = v0 c
          ∧ r.2.mem ((c.tc : Thread Cert.SwigluIdeal.nD Cert.SwigluIdeal.τ).loc Cert.SwigluIdeal.main_v1_1) = v1 c
          ∧ r.2.mem ((c.tc : Thread Cert.SwigluIdeal.nD Cert.SwigluIdeal.τ).loc Cert.SwigluIdeal.main_v0_2) = v2 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v25) = v0 c
          ∧ r.2.mem ((c.tc : Thread Cert.SwigluRefIdeal.nD Cert.SwigluRefIdeal.τ).loc Cert.SwigluRefIdeal.main_v26) = v1 c
          ∧ r.2.mem ((c.tc : Thread Cert.SwigluRefIdeal.nD Cert.SwigluRefIdeal.τ).loc Cert.SwigluRefIdeal.main_v27) = v2 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)
      ∧ m' ((c.tc : Thread Cert.UpGradRefIdeal.nD Cert.UpGradRefIdeal.τ).loc Cert.UpGradRefIdeal.main_arg2) = m ((c.tc : Thread Cert.UpGradIdeal.nD Cert.UpGradIdeal.τ).loc Cert.UpGradIdeal.main_arg2)) →
    ∃ (v0 : (c : Dev Cert.UpGradIdeal.nD) → Buf (Elt Ideal) ((c.tc : Thread Cert.UpGradIdeal.nD Cert.UpGradIdeal.τ).loc Cert.UpGradIdeal.main_v0_0)) (v1 : (c : Dev Cert.UpGradIdeal.nD) → Buf (Elt Ideal) ((c.tc : Thread Cert.UpGradIdeal.nD Cert.UpGradIdeal.τ).loc Cert.UpGradIdeal.main_v0_1)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0_0) = v0 c
          ∧ r.2.mem ((c.tc : Thread Cert.UpGradIdeal.nD Cert.UpGradIdeal.τ).loc Cert.UpGradIdeal.main_v0_1) = v1 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v11) = v0 c
          ∧ r.2.mem ((c.tc : Thread Cert.UpGradRefIdeal.nD Cert.UpGradRefIdeal.τ).loc Cert.UpGradRefIdeal.main_v12) = v1 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1)
          ∧ r.2.mem ((c.tc : Thread Cert.UpGradRefIdeal.nD Cert.UpGradRefIdeal.τ).loc Cert.UpGradRefIdeal.main_arg2) = m' ((c.tc : Thread Cert.UpGradRefIdeal.nD Cert.UpGradRefIdeal.τ).loc Cert.UpGradRefIdeal.main_arg2))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v7) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_RowGrad_RowGradIdeal : Prop :=
  True

def algebraic_RowGradIdeal_RowGradRefIdeal [hRowGradIdeal : Cert.RowGradIdeal.Facts] [hRowGradRefIdeal : Cert.RowGradRefIdeal.Facts] : Prop :=
  ∀ (m : (ℓ : Loc Cert.RowGradIdeal.nD Cert.RowGradIdeal.τ Cert.RowGradIdeal.sig) → Buf (Elt Ideal) ℓ) (g : Dev Cert.RowGradIdeal.nD → PrngReg)
    (m' : (ℓ : Loc Cert.RowGradRefIdeal.nD Cert.RowGradRefIdeal.τ Cert.RowGradRefIdeal.sig) → Buf (Elt Ideal) ℓ) (g' : Dev Cert.RowGradRefIdeal.nD → PrngReg), Pre_RowGradIdeal m →
    (∀ c : Dev Cert.RowGradIdeal.nD,
      m' ((c.tc : Thread Cert.RowGradRefIdeal.nD Cert.RowGradRefIdeal.τ).loc Cert.RowGradRefIdeal.main_arg0) = m ((c.tc : Thread Cert.RowGradIdeal.nD Cert.RowGradIdeal.τ).loc Cert.RowGradIdeal.main_arg0)
      ∧ m' ((c.tc : Thread Cert.RowGradRefIdeal.nD Cert.RowGradRefIdeal.τ).loc Cert.RowGradRefIdeal.main_arg1) = m ((c.tc : Thread Cert.RowGradIdeal.nD Cert.RowGradIdeal.τ).loc Cert.RowGradIdeal.main_arg1)
      ∧ m' ((c.tc : Thread Cert.RowGradRefIdeal.nD Cert.RowGradRefIdeal.τ).loc Cert.RowGradRefIdeal.main_arg2) = m ((c.tc : Thread Cert.RowGradIdeal.nD Cert.RowGradIdeal.τ).loc Cert.RowGradIdeal.main_arg2)
      ∧ m' ((c.tc : Thread Cert.RowGradRefIdeal.nD Cert.RowGradRefIdeal.τ).loc Cert.RowGradRefIdeal.main_arg3) = m ((c.tc : Thread Cert.RowGradIdeal.nD Cert.RowGradIdeal.τ).loc Cert.RowGradIdeal.main_arg3)) →
    ∃ (v0 : (c : Dev Cert.RowGradIdeal.nD) → Buf (Elt Ideal) ((c.tc : Thread Cert.RowGradIdeal.nD Cert.RowGradIdeal.τ).loc Cert.RowGradIdeal.main_v0)),
      θ_run (Cert.RowGradIdeal.defs (F := Ideal)) (onTc (τ := Cert.RowGradIdeal.τ) (Cert.RowGradIdeal.main (F := Ideal))) ⟨m, fun _ => 0, g⟩ (fun r => ∀ c : Dev Cert.RowGradIdeal.nD,
          r.2.mem ((c.tc : Thread Cert.RowGradIdeal.nD Cert.RowGradIdeal.τ).loc Cert.RowGradIdeal.main_v0) = v0 c
          ∧ r.2.mem ((c.tc : Thread Cert.RowGradIdeal.nD Cert.RowGradIdeal.τ).loc Cert.RowGradIdeal.main_arg0) = m ((c.tc : Thread Cert.RowGradIdeal.nD Cert.RowGradIdeal.τ).loc Cert.RowGradIdeal.main_arg0)
          ∧ r.2.mem ((c.tc : Thread Cert.RowGradIdeal.nD Cert.RowGradIdeal.τ).loc Cert.RowGradIdeal.main_arg1) = m ((c.tc : Thread Cert.RowGradIdeal.nD Cert.RowGradIdeal.τ).loc Cert.RowGradIdeal.main_arg1)
          ∧ r.2.mem ((c.tc : Thread Cert.RowGradIdeal.nD Cert.RowGradIdeal.τ).loc Cert.RowGradIdeal.main_arg2) = m ((c.tc : Thread Cert.RowGradIdeal.nD Cert.RowGradIdeal.τ).loc Cert.RowGradIdeal.main_arg2)
          ∧ r.2.mem ((c.tc : Thread Cert.RowGradIdeal.nD Cert.RowGradIdeal.τ).loc Cert.RowGradIdeal.main_arg3) = m ((c.tc : Thread Cert.RowGradIdeal.nD Cert.RowGradIdeal.τ).loc Cert.RowGradIdeal.main_arg3))
      ∧ θ_run (Cert.RowGradRefIdeal.defs (F := Ideal)) (onTc (τ := Cert.RowGradRefIdeal.τ) (Cert.RowGradRefIdeal.main (F := Ideal))) ⟨m', fun _ => 0, g'⟩ (fun r => ∀ c : Dev Cert.RowGradRefIdeal.nD,
          r.2.mem ((c.tc : Thread Cert.RowGradRefIdeal.nD Cert.RowGradRefIdeal.τ).loc Cert.RowGradRefIdeal.main_v10) = v0 c
          ∧ r.2.mem ((c.tc : Thread Cert.RowGradRefIdeal.nD Cert.RowGradRefIdeal.τ).loc Cert.RowGradRefIdeal.main_arg0) = m' ((c.tc : Thread Cert.RowGradRefIdeal.nD Cert.RowGradRefIdeal.τ).loc Cert.RowGradRefIdeal.main_arg0)
          ∧ r.2.mem ((c.tc : Thread Cert.RowGradRefIdeal.nD Cert.RowGradRefIdeal.τ).loc Cert.RowGradRefIdeal.main_arg1) = m' ((c.tc : Thread Cert.RowGradRefIdeal.nD Cert.RowGradRefIdeal.τ).loc Cert.RowGradRefIdeal.main_arg1)
          ∧ r.2.mem ((c.tc : Thread Cert.RowGradRefIdeal.nD Cert.RowGradRefIdeal.τ).loc Cert.RowGradRefIdeal.main_arg2) = m' ((c.tc : Thread Cert.RowGradRefIdeal.nD Cert.RowGradRefIdeal.τ).loc Cert.RowGradRefIdeal.main_arg2)
          ∧ r.2.mem ((c.tc : Thread Cert.RowGradRefIdeal.nD Cert.RowGradRefIdeal.τ).loc Cert.RowGradRefIdeal.main_arg3) = m' ((c.tc : Thread Cert.RowGradRefIdeal.nD Cert.RowGradRefIdeal.τ).loc Cert.RowGradRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_GmlpIn_GmlpInIdeal : Prop :=
  True

def algebraic_GmlpInIdeal_GmlpInRefIdeal [hGmlpInIdeal : Cert.GmlpInIdeal.Facts] [hGmlpInRefIdeal : Cert.GmlpInRefIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInRefIdeal.nD Cert.GmlpInRefIdeal.τ Cert.GmlpInRefIdeal.sig) → Buf (Elt Ideal) ℓ) (g' : Dev Cert.GmlpInRefIdeal.nD → PrngReg), Pre_GmlpInIdeal m →
    (∀ c : Dev Cert.GmlpInIdeal.nD,
      m' ((c.tc : Thread Cert.GmlpInRefIdeal.nD Cert.GmlpInRefIdeal.τ).loc Cert.GmlpInRefIdeal.main_arg0) = m ((c.tc : Thread Cert.GmlpInIdeal.nD Cert.GmlpInIdeal.τ).loc Cert.GmlpInIdeal.main_arg0)
      ∧ m' ((c.tc : Thread Cert.GmlpInRefIdeal.nD Cert.GmlpInRefIdeal.τ).loc Cert.GmlpInRefIdeal.main_arg1) = m ((c.tc : Thread Cert.GmlpInIdeal.nD Cert.GmlpInIdeal.τ).loc Cert.GmlpInIdeal.main_arg1)) →
    ∃ (v0 : (c : Dev Cert.GmlpInIdeal.nD) → Buf (Elt Ideal) ((c.tc : Thread Cert.GmlpInIdeal.nD Cert.GmlpInIdeal.τ).loc Cert.GmlpInIdeal.main_v0)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v0) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ θ_run (Cert.GmlpInRefIdeal.defs (F := Ideal)) (onTc (τ := Cert.GmlpInRefIdeal.τ) (Cert.GmlpInRefIdeal.main (F := Ideal))) ⟨m', fun _ => 0, g'⟩ (fun r => ∀ c : Dev Cert.GmlpInRefIdeal.nD,
          r.2.mem ((c.tc : Thread Cert.GmlpInRefIdeal.nD Cert.GmlpInRefIdeal.τ).loc Cert.GmlpInRefIdeal.main_v4) = v0 c
          ∧ r.2.mem ((c.tc : Thread Cert.GmlpInRefIdeal.nD Cert.GmlpInRefIdeal.τ).loc Cert.GmlpInRefIdeal.main_arg0) = m' ((c.tc : Thread Cert.GmlpInRefIdeal.nD Cert.GmlpInRefIdeal.τ).loc Cert.GmlpInRefIdeal.main_arg0)
          ∧ r.2.mem ((c.tc : Thread Cert.GmlpInRefIdeal.nD Cert.GmlpInRefIdeal.τ).loc Cert.GmlpInRefIdeal.main_arg1) = m' ((c.tc : Thread Cert.GmlpInRefIdeal.nD Cert.GmlpInRefIdeal.τ).loc Cert.GmlpInRefIdeal.main_arg1))

def preserves_GmlpOut_GmlpOutIdeal : Prop :=
  True

def algebraic_GmlpOutIdeal_GmlpOutRefIdeal [hGmlpOutIdeal : Cert.GmlpOutIdeal.Facts] [hGmlpOutRefIdeal : Cert.GmlpOutRefIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg)
    (m' : (ℓ : Loc Cert.GmlpOutRefIdeal.nD Cert.GmlpOutRefIdeal.τ Cert.GmlpOutRefIdeal.sig) → Buf (Elt Ideal) ℓ) (g' : Dev Cert.GmlpOutRefIdeal.nD → PrngReg), Pre_GmlpOutIdeal m →
    (∀ c : Dev Cert.GmlpOutIdeal.nD,
      m' ((c.tc : Thread Cert.GmlpOutRefIdeal.nD Cert.GmlpOutRefIdeal.τ).loc Cert.GmlpOutRefIdeal.main_arg0) = m ((c.tc : Thread Cert.GmlpOutIdeal.nD Cert.GmlpOutIdeal.τ).loc Cert.GmlpOutIdeal.main_arg0)
      ∧ m' ((c.tc : Thread Cert.GmlpOutRefIdeal.nD Cert.GmlpOutRefIdeal.τ).loc Cert.GmlpOutRefIdeal.main_arg1) = m ((c.tc : Thread Cert.GmlpOutIdeal.nD Cert.GmlpOutIdeal.τ).loc Cert.GmlpOutIdeal.main_arg1)
      ∧ m' ((c.tc : Thread Cert.GmlpOutRefIdeal.nD Cert.GmlpOutRefIdeal.τ).loc Cert.GmlpOutRefIdeal.main_arg2) = m ((c.tc : Thread Cert.GmlpOutIdeal.nD Cert.GmlpOutIdeal.τ).loc Cert.GmlpOutIdeal.main_arg2)) →
    ∃ (v0 : (c : Dev Cert.GmlpOutIdeal.nD) → Buf (Elt Ideal) ((c.tc : Thread Cert.GmlpOutIdeal.nD Cert.GmlpOutIdeal.τ).loc Cert.GmlpOutIdeal.main_v0)),
      θ_run (Cert.GmlpOutIdeal.defs (F := Ideal)) (onTc (τ := Cert.GmlpOutIdeal.τ) (Cert.GmlpOutIdeal.main (F := Ideal))) ⟨m, fun _ => 0, g⟩ (fun r => ∀ c : Dev Cert.GmlpOutIdeal.nD,
          r.2.mem ((c.tc : Thread Cert.GmlpOutIdeal.nD Cert.GmlpOutIdeal.τ).loc Cert.GmlpOutIdeal.main_v0) = v0 c
          ∧ r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
          ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
          ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2))
      ∧ θ_run (Cert.GmlpOutRefIdeal.defs (F := Ideal)) (onTc (τ := Cert.GmlpOutRefIdeal.τ) (Cert.GmlpOutRefIdeal.main (F := Ideal))) ⟨m', fun _ => 0, g'⟩ (fun r => ∀ c : Dev Cert.GmlpOutRefIdeal.nD,
          r.2.mem ((c.tc : Thread Cert.GmlpOutRefIdeal.nD Cert.GmlpOutRefIdeal.τ).loc Cert.GmlpOutRefIdeal.main_v4) = v0 c
          ∧ r.2.mem ((c.tc : Thread Cert.GmlpOutRefIdeal.nD Cert.GmlpOutRefIdeal.τ).loc Cert.GmlpOutRefIdeal.main_arg0) = m' ((c.tc : Thread Cert.GmlpOutRefIdeal.nD Cert.GmlpOutRefIdeal.τ).loc Cert.GmlpOutRefIdeal.main_arg0)
          ∧ r.2.mem ((c.tc : Thread Cert.GmlpOutRefIdeal.nD Cert.GmlpOutRefIdeal.τ).loc Cert.GmlpOutRefIdeal.main_arg1) = m' ((c.tc : Thread Cert.GmlpOutRefIdeal.nD Cert.GmlpOutRefIdeal.τ).loc Cert.GmlpOutRefIdeal.main_arg1)
          ∧ r.2.mem ((c.tc : Thread Cert.GmlpOutRefIdeal.nD Cert.GmlpOutRefIdeal.τ).loc Cert.GmlpOutRefIdeal.main_arg2) = m' ((c.tc : Thread Cert.GmlpOutRefIdeal.nD Cert.GmlpOutRefIdeal.τ).loc Cert.GmlpOutRefIdeal.main_arg2))

def preserves_GatedGrad_GatedGradIdeal : Prop :=
  True

def algebraic_GatedGradIdeal_GatedGradRefIdeal [hGatedGradIdeal : Cert.GatedGradIdeal.Facts] [hGatedGradRefIdeal : Cert.GatedGradRefIdeal.Facts] : Prop :=
  ∀ (m : (ℓ : Loc Cert.GatedGradIdeal.nD Cert.GatedGradIdeal.τ Cert.GatedGradIdeal.sig) → Buf (Elt Ideal) ℓ) (g : Dev Cert.GatedGradIdeal.nD → PrngReg)
    (m' : (ℓ : Loc Cert.GatedGradRefIdeal.nD Cert.GatedGradRefIdeal.τ Cert.GatedGradRefIdeal.sig) → Buf (Elt Ideal) ℓ) (g' : Dev Cert.GatedGradRefIdeal.nD → PrngReg), Pre_GatedGradIdeal m →
    (∀ c : Dev Cert.GatedGradIdeal.nD,
      m' ((c.tc : Thread Cert.GatedGradRefIdeal.nD Cert.GatedGradRefIdeal.τ).loc Cert.GatedGradRefIdeal.main_arg0) = m ((c.tc : Thread Cert.GatedGradIdeal.nD Cert.GatedGradIdeal.τ).loc Cert.GatedGradIdeal.main_arg0)
      ∧ m' ((c.tc : Thread Cert.GatedGradRefIdeal.nD Cert.GatedGradRefIdeal.τ).loc Cert.GatedGradRefIdeal.main_arg1) = m ((c.tc : Thread Cert.GatedGradIdeal.nD Cert.GatedGradIdeal.τ).loc Cert.GatedGradIdeal.main_arg1)) →
    ∃ (v0 : (c : Dev Cert.GatedGradIdeal.nD) → Buf (Elt Ideal) ((c.tc : Thread Cert.GatedGradIdeal.nD Cert.GatedGradIdeal.τ).loc Cert.GatedGradIdeal.main_v0)),
      θ_run (Cert.GatedGradIdeal.defs (F := Ideal)) (onTc (τ := Cert.GatedGradIdeal.τ) (Cert.GatedGradIdeal.main (F := Ideal))) ⟨m, fun _ => 0, g⟩ (fun r => ∀ c : Dev Cert.GatedGradIdeal.nD,
          r.2.mem ((c.tc : Thread Cert.GatedGradIdeal.nD Cert.GatedGradIdeal.τ).loc Cert.GatedGradIdeal.main_v0) = v0 c
          ∧ r.2.mem ((c.tc : Thread Cert.GatedGradIdeal.nD Cert.GatedGradIdeal.τ).loc Cert.GatedGradIdeal.main_arg0) = m ((c.tc : Thread Cert.GatedGradIdeal.nD Cert.GatedGradIdeal.τ).loc Cert.GatedGradIdeal.main_arg0)
          ∧ r.2.mem ((c.tc : Thread Cert.GatedGradIdeal.nD Cert.GatedGradIdeal.τ).loc Cert.GatedGradIdeal.main_arg1) = m ((c.tc : Thread Cert.GatedGradIdeal.nD Cert.GatedGradIdeal.τ).loc Cert.GatedGradIdeal.main_arg1))
      ∧ θ_run (Cert.GatedGradRefIdeal.defs (F := Ideal)) (onTc (τ := Cert.GatedGradRefIdeal.τ) (Cert.GatedGradRefIdeal.main (F := Ideal))) ⟨m', fun _ => 0, g'⟩ (fun r => ∀ c : Dev Cert.GatedGradRefIdeal.nD,
          r.2.mem ((c.tc : Thread Cert.GatedGradRefIdeal.nD Cert.GatedGradRefIdeal.τ).loc Cert.GatedGradRefIdeal.main_v4) = v0 c
          ∧ r.2.mem ((c.tc : Thread Cert.GatedGradRefIdeal.nD Cert.GatedGradRefIdeal.τ).loc Cert.GatedGradRefIdeal.main_arg0) = m' ((c.tc : Thread Cert.GatedGradRefIdeal.nD Cert.GatedGradRefIdeal.τ).loc Cert.GatedGradRefIdeal.main_arg0)
          ∧ r.2.mem ((c.tc : Thread Cert.GatedGradRefIdeal.nD Cert.GatedGradRefIdeal.τ).loc Cert.GatedGradRefIdeal.main_arg1) = m' ((c.tc : Thread Cert.GatedGradRefIdeal.nD Cert.GatedGradRefIdeal.τ).loc Cert.GatedGradRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v5) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v6) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_InRows_InRowsIdeal : Prop :=
  True

def algebraic_InRowsIdeal_InRowsRefIdeal [hInRowsIdeal : Cert.InRowsIdeal.Facts] [hInRowsRefIdeal : Cert.InRowsRefIdeal.Facts] : Prop :=
  ∀ (m : (ℓ : Loc Cert.InRowsIdeal.nD Cert.InRowsIdeal.τ Cert.InRowsIdeal.sig) → Buf (Elt Ideal) ℓ) (g : Dev Cert.InRowsIdeal.nD → PrngReg)
    (m' : (ℓ : Loc Cert.InRowsRefIdeal.nD Cert.InRowsRefIdeal.τ Cert.InRowsRefIdeal.sig) → Buf (Elt Ideal) ℓ) (g' : Dev Cert.InRowsRefIdeal.nD → PrngReg), Pre_InRowsIdeal m →
    (∀ c : Dev Cert.InRowsIdeal.nD,
      m' ((c.tc : Thread Cert.InRowsRefIdeal.nD Cert.InRowsRefIdeal.τ).loc Cert.InRowsRefIdeal.main_arg0) = m ((c.tc : Thread Cert.InRowsIdeal.nD Cert.InRowsIdeal.τ).loc Cert.InRowsIdeal.main_arg0)
      ∧ m' ((c.tc : Thread Cert.InRowsRefIdeal.nD Cert.InRowsRefIdeal.τ).loc Cert.InRowsRefIdeal.main_arg1) = m ((c.tc : Thread Cert.InRowsIdeal.nD Cert.InRowsIdeal.τ).loc Cert.InRowsIdeal.main_arg1)) →
    ∃ (v0 : (c : Dev Cert.InRowsIdeal.nD) → Buf (Elt Ideal) ((c.tc : Thread Cert.InRowsIdeal.nD Cert.InRowsIdeal.τ).loc Cert.InRowsIdeal.main_v0)),
      θ_run (Cert.InRowsIdeal.defs (F := Ideal)) (onTc (τ := Cert.InRowsIdeal.τ) (Cert.InRowsIdeal.main (F := Ideal))) ⟨m, fun _ => 0, g⟩ (fun r => ∀ c : Dev Cert.InRowsIdeal.nD,
          r.2.mem ((c.tc : Thread Cert.InRowsIdeal.nD Cert.InRowsIdeal.τ).loc Cert.InRowsIdeal.main_v0) = v0 c
          ∧ r.2.mem ((c.tc : Thread Cert.InRowsIdeal.nD Cert.InRowsIdeal.τ).loc Cert.InRowsIdeal.main_arg0) = m ((c.tc : Thread Cert.InRowsIdeal.nD Cert.InRowsIdeal.τ).loc Cert.InRowsIdeal.main_arg0)
          ∧ r.2.mem ((c.tc : Thread Cert.InRowsIdeal.nD Cert.InRowsIdeal.τ).loc Cert.InRowsIdeal.main_arg1) = m ((c.tc : Thread Cert.InRowsIdeal.nD Cert.InRowsIdeal.τ).loc Cert.InRowsIdeal.main_arg1))
      ∧ θ_run (Cert.InRowsRefIdeal.defs (F := Ideal)) (onTc (τ := Cert.InRowsRefIdeal.τ) (Cert.InRowsRefIdeal.main (F := Ideal))) ⟨m', fun _ => 0, g'⟩ (fun r => ∀ c : Dev Cert.InRowsRefIdeal.nD,
          r.2.mem ((c.tc : Thread Cert.InRowsRefIdeal.nD Cert.InRowsRefIdeal.τ).loc Cert.InRowsRefIdeal.main_v4) = v0 c
          ∧ r.2.mem ((c.tc : Thread Cert.InRowsRefIdeal.nD Cert.InRowsRefIdeal.τ).loc Cert.InRowsRefIdeal.main_arg0) = m' ((c.tc : Thread Cert.InRowsRefIdeal.nD Cert.InRowsRefIdeal.τ).loc Cert.InRowsRefIdeal.main_arg0)
          ∧ r.2.mem ((c.tc : Thread Cert.InRowsRefIdeal.nD Cert.InRowsRefIdeal.τ).loc Cert.InRowsRefIdeal.main_arg1) = m' ((c.tc : Thread Cert.InRowsRefIdeal.nD Cert.InRowsRefIdeal.τ).loc Cert.InRowsRefIdeal.main_arg1))

def preserves_SquareGrad_SquareGradIdeal : Prop :=
  True

def algebraic_SquareGradIdeal_SquareGradRefIdeal [hSquareGradIdeal : Cert.SquareGradIdeal.Facts] [hSquareGradRefIdeal : Cert.SquareGradRefIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg)
    (m' : (ℓ : Loc Cert.SquareGradRefIdeal.nD Cert.SquareGradRefIdeal.τ Cert.SquareGradRefIdeal.sig) → Buf (Elt Ideal) ℓ) (g' : Dev Cert.SquareGradRefIdeal.nD → PrngReg), Pre_SquareGradIdeal m →
    (∀ c : Dev Cert.SquareGradIdeal.nD,
      m' ((c.tc : Thread Cert.SquareGradRefIdeal.nD Cert.SquareGradRefIdeal.τ).loc Cert.SquareGradRefIdeal.main_arg0) = m ((c.tc : Thread Cert.SquareGradIdeal.nD Cert.SquareGradIdeal.τ).loc Cert.SquareGradIdeal.main_arg0)
      ∧ m' ((c.tc : Thread Cert.SquareGradRefIdeal.nD Cert.SquareGradRefIdeal.τ).loc Cert.SquareGradRefIdeal.main_arg1) = m ((c.tc : Thread Cert.SquareGradIdeal.nD Cert.SquareGradIdeal.τ).loc Cert.SquareGradIdeal.main_arg1)) →
    ∃ (v0 : (c : Dev Cert.SquareGradIdeal.nD) → Buf (Elt Ideal) ((c.tc : Thread Cert.SquareGradIdeal.nD Cert.SquareGradIdeal.τ).loc Cert.SquareGradIdeal.main_v0)),
      θ_run (Cert.SquareGradIdeal.defs (F := Ideal)) (onTc (τ := Cert.SquareGradIdeal.τ) (Cert.SquareGradIdeal.main (F := Ideal))) ⟨m, fun _ => 0, g⟩ (fun r => ∀ c : Dev Cert.SquareGradIdeal.nD,
          r.2.mem ((c.tc : Thread Cert.SquareGradIdeal.nD Cert.SquareGradIdeal.τ).loc Cert.SquareGradIdeal.main_v0) = v0 c
          ∧ r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
          ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ θ_run (Cert.SquareGradRefIdeal.defs (F := Ideal)) (onTc (τ := Cert.SquareGradRefIdeal.τ) (Cert.SquareGradRefIdeal.main (F := Ideal))) ⟨m', fun _ => 0, g'⟩ (fun r => ∀ c : Dev Cert.SquareGradRefIdeal.nD,
          r.2.mem ((c.tc : Thread Cert.SquareGradRefIdeal.nD Cert.SquareGradRefIdeal.τ).loc Cert.SquareGradRefIdeal.main_v5) = v0 c
          ∧ r.2.mem ((c.tc : Thread Cert.SquareGradRefIdeal.nD Cert.SquareGradRefIdeal.τ).loc Cert.SquareGradRefIdeal.main_arg0) = m' ((c.tc : Thread Cert.SquareGradRefIdeal.nD Cert.SquareGradRefIdeal.τ).loc Cert.SquareGradRefIdeal.main_arg0)
          ∧ r.2.mem ((c.tc : Thread Cert.SquareGradRefIdeal.nD Cert.SquareGradRefIdeal.τ).loc Cert.SquareGradRefIdeal.main_arg1) = m' ((c.tc : Thread Cert.SquareGradRefIdeal.nD Cert.SquareGradRefIdeal.τ).loc Cert.SquareGradRefIdeal.main_arg1))

def preserves_SquareRows_SquareRowsIdeal : Prop :=
  True

def algebraic_SquareRowsIdeal_SquareRowsRefIdeal [hSquareRowsIdeal : Cert.SquareRowsIdeal.Facts] [hSquareRowsRefIdeal : Cert.SquareRowsRefIdeal.Facts] : Prop :=
  ∀ (m : (ℓ : Loc Cert.SquareRowsIdeal.nD Cert.SquareRowsIdeal.τ Cert.SquareRowsIdeal.sig) → Buf (Elt Ideal) ℓ) (g : Dev Cert.SquareRowsIdeal.nD → PrngReg)
    (m' : (ℓ : Loc Cert.SquareRowsRefIdeal.nD Cert.SquareRowsRefIdeal.τ Cert.SquareRowsRefIdeal.sig) → Buf (Elt Ideal) ℓ) (g' : Dev Cert.SquareRowsRefIdeal.nD → PrngReg), Pre_SquareRowsIdeal m →
    (∀ c : Dev Cert.SquareRowsIdeal.nD,
      m' ((c.tc : Thread Cert.SquareRowsRefIdeal.nD Cert.SquareRowsRefIdeal.τ).loc Cert.SquareRowsRefIdeal.main_arg0) = m ((c.tc : Thread Cert.SquareRowsIdeal.nD Cert.SquareRowsIdeal.τ).loc Cert.SquareRowsIdeal.main_arg0)
      ∧ m' ((c.tc : Thread Cert.SquareRowsRefIdeal.nD Cert.SquareRowsRefIdeal.τ).loc Cert.SquareRowsRefIdeal.main_arg1) = m ((c.tc : Thread Cert.SquareRowsIdeal.nD Cert.SquareRowsIdeal.τ).loc Cert.SquareRowsIdeal.main_arg1)) →
    ∃ (v0 : (c : Dev Cert.SquareRowsIdeal.nD) → Buf (Elt Ideal) ((c.tc : Thread Cert.SquareRowsIdeal.nD Cert.SquareRowsIdeal.τ).loc Cert.SquareRowsIdeal.main_v0)),
      θ_run (Cert.SquareRowsIdeal.defs (F := Ideal)) (onTc (τ := Cert.SquareRowsIdeal.τ) (Cert.SquareRowsIdeal.main (F := Ideal))) ⟨m, fun _ => 0, g⟩ (fun r => ∀ c : Dev Cert.SquareRowsIdeal.nD,
          r.2.mem ((c.tc : Thread Cert.SquareRowsIdeal.nD Cert.SquareRowsIdeal.τ).loc Cert.SquareRowsIdeal.main_v0) = v0 c
          ∧ r.2.mem ((c.tc : Thread Cert.SquareRowsIdeal.nD Cert.SquareRowsIdeal.τ).loc Cert.SquareRowsIdeal.main_arg0) = m ((c.tc : Thread Cert.SquareRowsIdeal.nD Cert.SquareRowsIdeal.τ).loc Cert.SquareRowsIdeal.main_arg0)
          ∧ r.2.mem ((c.tc : Thread Cert.SquareRowsIdeal.nD Cert.SquareRowsIdeal.τ).loc Cert.SquareRowsIdeal.main_arg1) = m ((c.tc : Thread Cert.SquareRowsIdeal.nD Cert.SquareRowsIdeal.τ).loc Cert.SquareRowsIdeal.main_arg1))
      ∧ θ_run (Cert.SquareRowsRefIdeal.defs (F := Ideal)) (onTc (τ := Cert.SquareRowsRefIdeal.τ) (Cert.SquareRowsRefIdeal.main (F := Ideal))) ⟨m', fun _ => 0, g'⟩ (fun r => ∀ c : Dev Cert.SquareRowsRefIdeal.nD,
          r.2.mem ((c.tc : Thread Cert.SquareRowsRefIdeal.nD Cert.SquareRowsRefIdeal.τ).loc Cert.SquareRowsRefIdeal.main_v3) = v0 c
          ∧ r.2.mem ((c.tc : Thread Cert.SquareRowsRefIdeal.nD Cert.SquareRowsRefIdeal.τ).loc Cert.SquareRowsRefIdeal.main_arg0) = m' ((c.tc : Thread Cert.SquareRowsRefIdeal.nD Cert.SquareRowsRefIdeal.τ).loc Cert.SquareRowsRefIdeal.main_arg0)
          ∧ r.2.mem ((c.tc : Thread Cert.SquareRowsRefIdeal.nD Cert.SquareRowsRefIdeal.τ).loc Cert.SquareRowsRefIdeal.main_arg1) = m' ((c.tc : Thread Cert.SquareRowsRefIdeal.nD Cert.SquareRowsRefIdeal.τ).loc Cert.SquareRowsRefIdeal.main_arg1))

def preserves_HeadRows_HeadRowsIdeal : Prop :=
  True

def algebraic_HeadRowsIdeal_HeadRowsRefIdeal [hHeadRowsIdeal : Cert.HeadRowsIdeal.Facts] [hHeadRowsRefIdeal : Cert.HeadRowsRefIdeal.Facts] : Prop :=
  ∀ (m : (ℓ : Loc Cert.HeadRowsIdeal.nD Cert.HeadRowsIdeal.τ Cert.HeadRowsIdeal.sig) → Buf (Elt Ideal) ℓ) (g : Dev Cert.HeadRowsIdeal.nD → PrngReg)
    (m' : (ℓ : Loc Cert.HeadRowsRefIdeal.nD Cert.HeadRowsRefIdeal.τ Cert.HeadRowsRefIdeal.sig) → Buf (Elt Ideal) ℓ) (g' : Dev Cert.HeadRowsRefIdeal.nD → PrngReg), Pre_HeadRowsIdeal m →
    (∀ c : Dev Cert.HeadRowsIdeal.nD,
      m' ((c.tc : Thread Cert.HeadRowsRefIdeal.nD Cert.HeadRowsRefIdeal.τ).loc Cert.HeadRowsRefIdeal.main_arg0) = m ((c.tc : Thread Cert.HeadRowsIdeal.nD Cert.HeadRowsIdeal.τ).loc Cert.HeadRowsIdeal.main_arg0)
      ∧ m' ((c.tc : Thread Cert.HeadRowsRefIdeal.nD Cert.HeadRowsRefIdeal.τ).loc Cert.HeadRowsRefIdeal.main_arg1) = m ((c.tc : Thread Cert.HeadRowsIdeal.nD Cert.HeadRowsIdeal.τ).loc Cert.HeadRowsIdeal.main_arg1)) →
    ∃ (v0 : (c : Dev Cert.HeadRowsIdeal.nD) → Buf (Elt Ideal) ((c.tc : Thread Cert.HeadRowsIdeal.nD Cert.HeadRowsIdeal.τ).loc Cert.HeadRowsIdeal.main_v0)),
      θ_run (Cert.HeadRowsIdeal.defs (F := Ideal)) (onTc (τ := Cert.HeadRowsIdeal.τ) (Cert.HeadRowsIdeal.main (F := Ideal))) ⟨m, fun _ => 0, g⟩ (fun r => ∀ c : Dev Cert.HeadRowsIdeal.nD,
          r.2.mem ((c.tc : Thread Cert.HeadRowsIdeal.nD Cert.HeadRowsIdeal.τ).loc Cert.HeadRowsIdeal.main_v0) = v0 c
          ∧ r.2.mem ((c.tc : Thread Cert.HeadRowsIdeal.nD Cert.HeadRowsIdeal.τ).loc Cert.HeadRowsIdeal.main_arg0) = m ((c.tc : Thread Cert.HeadRowsIdeal.nD Cert.HeadRowsIdeal.τ).loc Cert.HeadRowsIdeal.main_arg0)
          ∧ r.2.mem ((c.tc : Thread Cert.HeadRowsIdeal.nD Cert.HeadRowsIdeal.τ).loc Cert.HeadRowsIdeal.main_arg1) = m ((c.tc : Thread Cert.HeadRowsIdeal.nD Cert.HeadRowsIdeal.τ).loc Cert.HeadRowsIdeal.main_arg1))
      ∧ θ_run (Cert.HeadRowsRefIdeal.defs (F := Ideal)) (onTc (τ := Cert.HeadRowsRefIdeal.τ) (Cert.HeadRowsRefIdeal.main (F := Ideal))) ⟨m', fun _ => 0, g'⟩ (fun r => ∀ c : Dev Cert.HeadRowsRefIdeal.nD,
          r.2.mem ((c.tc : Thread Cert.HeadRowsRefIdeal.nD Cert.HeadRowsRefIdeal.τ).loc Cert.HeadRowsRefIdeal.main_v4) = v0 c
          ∧ r.2.mem ((c.tc : Thread Cert.HeadRowsRefIdeal.nD Cert.HeadRowsRefIdeal.τ).loc Cert.HeadRowsRefIdeal.main_arg0) = m' ((c.tc : Thread Cert.HeadRowsRefIdeal.nD Cert.HeadRowsRefIdeal.τ).loc Cert.HeadRowsRefIdeal.main_arg0)
          ∧ r.2.mem ((c.tc : Thread Cert.HeadRowsRefIdeal.nD Cert.HeadRowsRefIdeal.τ).loc Cert.HeadRowsRefIdeal.main_arg1) = m' ((c.tc : Thread Cert.HeadRowsRefIdeal.nD Cert.HeadRowsRefIdeal.τ).loc Cert.HeadRowsRefIdeal.main_arg1))

def preserves_QkvRows_QkvRowsIdeal : Prop :=
  True

def algebraic_QkvRowsIdeal_QkvRowsRefIdeal [hQkvRowsIdeal : Cert.QkvRowsIdeal.Facts] [hQkvRowsRefIdeal : Cert.QkvRowsRefIdeal.Facts] : Prop :=
  ∀ (m : (ℓ : Loc Cert.QkvRowsIdeal.nD Cert.QkvRowsIdeal.τ Cert.QkvRowsIdeal.sig) → Buf (Elt Ideal) ℓ) (g : Dev Cert.QkvRowsIdeal.nD → PrngReg)
    (m' : (ℓ : Loc Cert.QkvRowsRefIdeal.nD Cert.QkvRowsRefIdeal.τ Cert.QkvRowsRefIdeal.sig) → Buf (Elt Ideal) ℓ) (g' : Dev Cert.QkvRowsRefIdeal.nD → PrngReg), Pre_QkvRowsIdeal m →
    (∀ c : Dev Cert.QkvRowsIdeal.nD,
      m' ((c.tc : Thread Cert.QkvRowsRefIdeal.nD Cert.QkvRowsRefIdeal.τ).loc Cert.QkvRowsRefIdeal.main_arg0) = m ((c.tc : Thread Cert.QkvRowsIdeal.nD Cert.QkvRowsIdeal.τ).loc Cert.QkvRowsIdeal.main_arg0)
      ∧ m' ((c.tc : Thread Cert.QkvRowsRefIdeal.nD Cert.QkvRowsRefIdeal.τ).loc Cert.QkvRowsRefIdeal.main_arg1) = m ((c.tc : Thread Cert.QkvRowsIdeal.nD Cert.QkvRowsIdeal.τ).loc Cert.QkvRowsIdeal.main_arg1)
      ∧ m' ((c.tc : Thread Cert.QkvRowsRefIdeal.nD Cert.QkvRowsRefIdeal.τ).loc Cert.QkvRowsRefIdeal.main_arg2) = m ((c.tc : Thread Cert.QkvRowsIdeal.nD Cert.QkvRowsIdeal.τ).loc Cert.QkvRowsIdeal.main_arg2)
      ∧ m' ((c.tc : Thread Cert.QkvRowsRefIdeal.nD Cert.QkvRowsRefIdeal.τ).loc Cert.QkvRowsRefIdeal.main_arg3) = m ((c.tc : Thread Cert.QkvRowsIdeal.nD Cert.QkvRowsIdeal.τ).loc Cert.QkvRowsIdeal.main_arg3)) →
    ∃ (v0 : (c : Dev Cert.QkvRowsIdeal.nD) → Buf (Elt Ideal) ((c.tc : Thread Cert.QkvRowsIdeal.nD Cert.QkvRowsIdeal.τ).loc Cert.QkvRowsIdeal.main_v0)),
      θ_run (Cert.QkvRowsIdeal.defs (F := Ideal)) (onTc (τ := Cert.QkvRowsIdeal.τ) (Cert.QkvRowsIdeal.main (F := Ideal))) ⟨m, fun _ => 0, g⟩ (fun r => ∀ c : Dev Cert.QkvRowsIdeal.nD,
          r.2.mem ((c.tc : Thread Cert.QkvRowsIdeal.nD Cert.QkvRowsIdeal.τ).loc Cert.QkvRowsIdeal.main_v0) = v0 c
          ∧ r.2.mem ((c.tc : Thread Cert.QkvRowsIdeal.nD Cert.QkvRowsIdeal.τ).loc Cert.QkvRowsIdeal.main_arg0) = m ((c.tc : Thread Cert.QkvRowsIdeal.nD Cert.QkvRowsIdeal.τ).loc Cert.QkvRowsIdeal.main_arg0)
          ∧ r.2.mem ((c.tc : Thread Cert.QkvRowsIdeal.nD Cert.QkvRowsIdeal.τ).loc Cert.QkvRowsIdeal.main_arg1) = m ((c.tc : Thread Cert.QkvRowsIdeal.nD Cert.QkvRowsIdeal.τ).loc Cert.QkvRowsIdeal.main_arg1)
          ∧ r.2.mem ((c.tc : Thread Cert.QkvRowsIdeal.nD Cert.QkvRowsIdeal.τ).loc Cert.QkvRowsIdeal.main_arg2) = m ((c.tc : Thread Cert.QkvRowsIdeal.nD Cert.QkvRowsIdeal.τ).loc Cert.QkvRowsIdeal.main_arg2)
          ∧ r.2.mem ((c.tc : Thread Cert.QkvRowsIdeal.nD Cert.QkvRowsIdeal.τ).loc Cert.QkvRowsIdeal.main_arg3) = m ((c.tc : Thread Cert.QkvRowsIdeal.nD Cert.QkvRowsIdeal.τ).loc Cert.QkvRowsIdeal.main_arg3))
      ∧ θ_run (Cert.QkvRowsRefIdeal.defs (F := Ideal)) (onTc (τ := Cert.QkvRowsRefIdeal.τ) (Cert.QkvRowsRefIdeal.main (F := Ideal))) ⟨m', fun _ => 0, g'⟩ (fun r => ∀ c : Dev Cert.QkvRowsRefIdeal.nD,
          r.2.mem ((c.tc : Thread Cert.QkvRowsRefIdeal.nD Cert.QkvRowsRefIdeal.τ).loc Cert.QkvRowsRefIdeal.main_v8) = v0 c
          ∧ r.2.mem ((c.tc : Thread Cert.QkvRowsRefIdeal.nD Cert.QkvRowsRefIdeal.τ).loc Cert.QkvRowsRefIdeal.main_arg0) = m' ((c.tc : Thread Cert.QkvRowsRefIdeal.nD Cert.QkvRowsRefIdeal.τ).loc Cert.QkvRowsRefIdeal.main_arg0)
          ∧ r.2.mem ((c.tc : Thread Cert.QkvRowsRefIdeal.nD Cert.QkvRowsRefIdeal.τ).loc Cert.QkvRowsRefIdeal.main_arg1) = m' ((c.tc : Thread Cert.QkvRowsRefIdeal.nD Cert.QkvRowsRefIdeal.τ).loc Cert.QkvRowsRefIdeal.main_arg1)
          ∧ r.2.mem ((c.tc : Thread Cert.QkvRowsRefIdeal.nD Cert.QkvRowsRefIdeal.τ).loc Cert.QkvRowsRefIdeal.main_arg2) = m' ((c.tc : Thread Cert.QkvRowsRefIdeal.nD Cert.QkvRowsRefIdeal.τ).loc Cert.QkvRowsRefIdeal.main_arg2)
          ∧ r.2.mem ((c.tc : Thread Cert.QkvRowsRefIdeal.nD Cert.QkvRowsRefIdeal.τ).loc Cert.QkvRowsRefIdeal.main_arg3) = m' ((c.tc : Thread Cert.QkvRowsRefIdeal.nD Cert.QkvRowsRefIdeal.τ).loc Cert.QkvRowsRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)) (v2 : (c : Dev Cert.PleIdeal.nD) → Buf (Elt Ideal) ((c.tc : Thread Cert.PleIdeal.nD Cert.PleIdeal.τ).loc Cert.PleIdeal.main_v0_2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_v0_2) = v2 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v15) = v0 c
          ∧ r.2.mem ((c.tc : Thread Cert.PleRefIdeal.nD Cert.PleRefIdeal.τ).loc Cert.PleRefIdeal.main_v16) = v1 c
          ∧ r.2.mem ((c.tc : Thread Cert.PleRefIdeal.nD Cert.PleRefIdeal.τ).loc Cert.PleRefIdeal.main_v17) = v2 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v6) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3))

def preserves_KvGrad_KvGradIdeal : Prop :=
  True

def algebraic_KvGradIdeal_KvGradRefIdeal [hKvGradIdeal : Cert.KvGradIdeal.Facts] [hKvGradRefIdeal : Cert.KvGradRefIdeal.Facts] : Prop :=
  ∀ (m : (ℓ : Loc Cert.KvGradIdeal.nD Cert.KvGradIdeal.τ Cert.KvGradIdeal.sig) → Buf (Elt Ideal) ℓ) (g : Dev Cert.KvGradIdeal.nD → PrngReg)
    (m' : (ℓ : Loc Cert.KvGradRefIdeal.nD Cert.KvGradRefIdeal.τ Cert.KvGradRefIdeal.sig) → Buf (Elt Ideal) ℓ) (g' : Dev Cert.KvGradRefIdeal.nD → PrngReg), Pre_KvGradIdeal m →
    (∀ c : Dev Cert.KvGradIdeal.nD,
      m' ((c.tc : Thread Cert.KvGradRefIdeal.nD Cert.KvGradRefIdeal.τ).loc Cert.KvGradRefIdeal.main_arg0) = m ((c.tc : Thread Cert.KvGradIdeal.nD Cert.KvGradIdeal.τ).loc Cert.KvGradIdeal.main_arg0)
      ∧ m' ((c.tc : Thread Cert.KvGradRefIdeal.nD Cert.KvGradRefIdeal.τ).loc Cert.KvGradRefIdeal.main_arg1) = m ((c.tc : Thread Cert.KvGradIdeal.nD Cert.KvGradIdeal.τ).loc Cert.KvGradIdeal.main_arg1)) →
    ∃ (v0 : (c : Dev Cert.KvGradIdeal.nD) → Buf (Elt Ideal) ((c.tc : Thread Cert.KvGradIdeal.nD Cert.KvGradIdeal.τ).loc Cert.KvGradIdeal.main_v0)),
      θ_run (Cert.KvGradIdeal.defs (F := Ideal)) (onTc (τ := Cert.KvGradIdeal.τ) (Cert.KvGradIdeal.main (F := Ideal))) ⟨m, fun _ => 0, g⟩ (fun r => ∀ c : Dev Cert.KvGradIdeal.nD,
          r.2.mem ((c.tc : Thread Cert.KvGradIdeal.nD Cert.KvGradIdeal.τ).loc Cert.KvGradIdeal.main_v0) = v0 c
          ∧ r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1))
      ∧ θ_run (Cert.KvGradRefIdeal.defs (F := Ideal)) (onTc (τ := Cert.KvGradRefIdeal.τ) (Cert.KvGradRefIdeal.main (F := Ideal))) ⟨m', fun _ => 0, g'⟩ (fun r => ∀ c : Dev Cert.KvGradRefIdeal.nD,
          r.2.mem ((c.tc : Thread Cert.KvGradRefIdeal.nD Cert.KvGradRefIdeal.τ).loc Cert.KvGradRefIdeal.main_v5) = v0 c
          ∧ r.2.mem ((c.tc : Thread Cert.KvGradRefIdeal.nD Cert.KvGradRefIdeal.τ).loc Cert.KvGradRefIdeal.main_arg0) = m' ((c.tc : Thread Cert.KvGradRefIdeal.nD Cert.KvGradRefIdeal.τ).loc Cert.KvGradRefIdeal.main_arg0)
          ∧ r.2.mem ((c.tc : Thread Cert.KvGradRefIdeal.nD Cert.KvGradRefIdeal.τ).loc Cert.KvGradRefIdeal.main_arg1) = m' ((c.tc : Thread Cert.KvGradRefIdeal.nD Cert.KvGradRefIdeal.τ).loc Cert.KvGradRefIdeal.main_arg1))

def preserves_EmbedSlope_EmbedSlopeIdeal : Prop :=
  True

def algebraic_EmbedSlopeIdeal_EmbedSlopeRefIdeal [hEmbedSlopeIdeal : Cert.EmbedSlopeIdeal.Facts] [hEmbedSlopeRefIdeal : Cert.EmbedSlopeRefIdeal.Facts] : Prop :=
  ∀ (m : (ℓ : Loc Cert.EmbedSlopeIdeal.nD Cert.EmbedSlopeIdeal.τ Cert.EmbedSlopeIdeal.sig) → Buf (Elt Ideal) ℓ) (g : Dev Cert.EmbedSlopeIdeal.nD → PrngReg)
    (m' : (ℓ : Loc Cert.EmbedSlopeRefIdeal.nD Cert.EmbedSlopeRefIdeal.τ Cert.EmbedSlopeRefIdeal.sig) → Buf (Elt Ideal) ℓ) (g' : Dev Cert.EmbedSlopeRefIdeal.nD → PrngReg), Pre_EmbedSlopeIdeal m →
    (∀ c : Dev Cert.EmbedSlopeIdeal.nD,
      m' ((c.tc : Thread Cert.EmbedSlopeRefIdeal.nD Cert.EmbedSlopeRefIdeal.τ).loc Cert.EmbedSlopeRefIdeal.main_arg0) = m ((c.tc : Thread Cert.EmbedSlopeIdeal.nD Cert.EmbedSlopeIdeal.τ).loc Cert.EmbedSlopeIdeal.main_arg0)
      ∧ m' ((c.tc : Thread Cert.EmbedSlopeRefIdeal.nD Cert.EmbedSlopeRefIdeal.τ).loc Cert.EmbedSlopeRefIdeal.main_arg1) = m ((c.tc : Thread Cert.EmbedSlopeIdeal.nD Cert.EmbedSlopeIdeal.τ).loc Cert.EmbedSlopeIdeal.main_arg1)
      ∧ m' ((c.tc : Thread Cert.EmbedSlopeRefIdeal.nD Cert.EmbedSlopeRefIdeal.τ).loc Cert.EmbedSlopeRefIdeal.main_arg2) = m ((c.tc : Thread Cert.EmbedSlopeIdeal.nD Cert.EmbedSlopeIdeal.τ).loc Cert.EmbedSlopeIdeal.main_arg2)) →
    ∃ (v0 : (c : Dev Cert.EmbedSlopeIdeal.nD) → Buf (Elt Ideal) ((c.tc : Thread Cert.EmbedSlopeIdeal.nD Cert.EmbedSlopeIdeal.τ).loc Cert.EmbedSlopeIdeal.main_v7_0)) (v1 : (c : Dev Cert.EmbedSlopeIdeal.nD) → Buf (Elt Ideal) ((c.tc : Thread Cert.EmbedSlopeIdeal.nD Cert.EmbedSlopeIdeal.τ).loc Cert.EmbedSlopeIdeal.main_v7_1)),
      θ_run (Cert.EmbedSlopeIdeal.defs (F := Ideal)) (onTc (τ := Cert.EmbedSlopeIdeal.τ) (Cert.EmbedSlopeIdeal.main (F := Ideal))) ⟨m, fun _ => 0, g⟩ (fun r => ∀ c : Dev Cert.EmbedSlopeIdeal.nD,
          r.2.mem ((c.tc : Thread Cert.EmbedSlopeIdeal.nD Cert.EmbedSlopeIdeal.τ).loc Cert.EmbedSlopeIdeal.main_v7_0) = v0 c
          ∧ r.2.mem ((c.tc : Thread Cert.EmbedSlopeIdeal.nD Cert.EmbedSlopeIdeal.τ).loc Cert.EmbedSlopeIdeal.main_v7_1) = v1 c
          ∧ r.2.mem ((c.tc : Thread Cert.EmbedSlopeIdeal.nD Cert.EmbedSlopeIdeal.τ).loc Cert.EmbedSlopeIdeal.main_arg0) = m ((c.tc : Thread Cert.EmbedSlopeIdeal.nD Cert.EmbedSlopeIdeal.τ).loc Cert.EmbedSlopeIdeal.main_arg0)
          ∧ r.2.mem ((c.tc : Thread Cert.EmbedSlopeIdeal.nD Cert.EmbedSlopeIdeal.τ).loc Cert.EmbedSlopeIdeal.main_arg1) = m ((c.tc : Thread Cert.EmbedSlopeIdeal.nD Cert.EmbedSlopeIdeal.τ).loc Cert.EmbedSlopeIdeal.main_arg1)
          ∧ r.2.mem ((c.tc : Thread Cert.EmbedSlopeIdeal.nD Cert.EmbedSlopeIdeal.τ).loc Cert.EmbedSlopeIdeal.main_arg2) = m ((c.tc : Thread Cert.EmbedSlopeIdeal.nD Cert.EmbedSlopeIdeal.τ).loc Cert.EmbedSlopeIdeal.main_arg2))
      ∧ θ_run (Cert.EmbedSlopeRefIdeal.defs (F := Ideal)) (onTc (τ := Cert.EmbedSlopeRefIdeal.τ) (Cert.EmbedSlopeRefIdeal.main (F := Ideal))) ⟨m', fun _ => 0, g'⟩ (fun r => ∀ c : Dev Cert.EmbedSlopeRefIdeal.nD,
          r.2.mem ((c.tc : Thread Cert.EmbedSlopeRefIdeal.nD Cert.EmbedSlopeRefIdeal.τ).loc Cert.EmbedSlopeRefIdeal.main_v14) = v0 c
          ∧ r.2.mem ((c.tc : Thread Cert.EmbedSlopeRefIdeal.nD Cert.EmbedSlopeRefIdeal.τ).loc Cert.EmbedSlopeRefIdeal.main_v15) = v1 c
          ∧ r.2.mem ((c.tc : Thread Cert.EmbedSlopeRefIdeal.nD Cert.EmbedSlopeRefIdeal.τ).loc Cert.EmbedSlopeRefIdeal.main_arg0) = m' ((c.tc : Thread Cert.EmbedSlopeRefIdeal.nD Cert.EmbedSlopeRefIdeal.τ).loc Cert.EmbedSlopeRefIdeal.main_arg0)
          ∧ r.2.mem ((c.tc : Thread Cert.EmbedSlopeRefIdeal.nD Cert.EmbedSlopeRefIdeal.τ).loc Cert.EmbedSlopeRefIdeal.main_arg1) = m' ((c.tc : Thread Cert.EmbedSlopeRefIdeal.nD Cert.EmbedSlopeRefIdeal.τ).loc Cert.EmbedSlopeRefIdeal.main_arg1)
          ∧ r.2.mem ((c.tc : Thread Cert.EmbedSlopeRefIdeal.nD Cert.EmbedSlopeRefIdeal.τ).loc Cert.EmbedSlopeRefIdeal.main_arg2) = m' ((c.tc : Thread Cert.EmbedSlopeRefIdeal.nD Cert.EmbedSlopeRefIdeal.τ).loc Cert.EmbedSlopeRefIdeal.main_arg2))

def preserves_EmbedGrad_EmbedGradIdeal : Prop :=
  True

def algebraic_EmbedGradIdeal_EmbedGradRefIdeal [hEmbedGradIdeal : Cert.EmbedGradIdeal.Facts] [hEmbedGradRefIdeal : Cert.EmbedGradRefIdeal.Facts] : Prop :=
  ∀ (m : (ℓ : Loc Cert.EmbedGradIdeal.nD Cert.EmbedGradIdeal.τ Cert.EmbedGradIdeal.sig) → Buf (Elt Ideal) ℓ) (g : Dev Cert.EmbedGradIdeal.nD → PrngReg)
    (m' : (ℓ : Loc Cert.EmbedGradRefIdeal.nD Cert.EmbedGradRefIdeal.τ Cert.EmbedGradRefIdeal.sig) → Buf (Elt Ideal) ℓ) (g' : Dev Cert.EmbedGradRefIdeal.nD → PrngReg), Pre_EmbedGradIdeal m →
    (∀ c : Dev Cert.EmbedGradIdeal.nD,
      m' ((c.tc : Thread Cert.EmbedGradRefIdeal.nD Cert.EmbedGradRefIdeal.τ).loc Cert.EmbedGradRefIdeal.main_arg0) = m ((c.tc : Thread Cert.EmbedGradIdeal.nD Cert.EmbedGradIdeal.τ).loc Cert.EmbedGradIdeal.main_arg0)
      ∧ m' ((c.tc : Thread Cert.EmbedGradRefIdeal.nD Cert.EmbedGradRefIdeal.τ).loc Cert.EmbedGradRefIdeal.main_arg1) = m ((c.tc : Thread Cert.EmbedGradIdeal.nD Cert.EmbedGradIdeal.τ).loc Cert.EmbedGradIdeal.main_arg1)) →
    ∃ (v0 : (c : Dev Cert.EmbedGradIdeal.nD) → Buf (Elt Ideal) ((c.tc : Thread Cert.EmbedGradIdeal.nD Cert.EmbedGradIdeal.τ).loc Cert.EmbedGradIdeal.main_v0)),
      θ_run (Cert.EmbedGradIdeal.defs (F := Ideal)) (onTc (τ := Cert.EmbedGradIdeal.τ) (Cert.EmbedGradIdeal.main (F := Ideal))) ⟨m, fun _ => 0, g⟩ (fun r => ∀ c : Dev Cert.EmbedGradIdeal.nD,
          r.2.mem ((c.tc : Thread Cert.EmbedGradIdeal.nD Cert.EmbedGradIdeal.τ).loc Cert.EmbedGradIdeal.main_v0) = v0 c
          ∧ r.2.mem ((c.tc : Thread Cert.EmbedGradIdeal.nD Cert.EmbedGradIdeal.τ).loc Cert.EmbedGradIdeal.main_arg0) = m ((c.tc : Thread Cert.EmbedGradIdeal.nD Cert.EmbedGradIdeal.τ).loc Cert.EmbedGradIdeal.main_arg0)
          ∧ r.2.mem ((c.tc : Thread Cert.EmbedGradIdeal.nD Cert.EmbedGradIdeal.τ).loc Cert.EmbedGradIdeal.main_arg1) = m ((c.tc : Thread Cert.EmbedGradIdeal.nD Cert.EmbedGradIdeal.τ).loc Cert.EmbedGradIdeal.main_arg1))
      ∧ θ_run (Cert.EmbedGradRefIdeal.defs (F := Ideal)) (onTc (τ := Cert.EmbedGradRefIdeal.τ) (Cert.EmbedGradRefIdeal.main (F := Ideal))) ⟨m', fun _ => 0, g'⟩ (fun r => ∀ c : Dev Cert.EmbedGradRefIdeal.nD,
          r.2.mem ((c.tc : Thread Cert.EmbedGradRefIdeal.nD Cert.EmbedGradRefIdeal.τ).loc Cert.EmbedGradRefIdeal.main_v5) = v0 c
          ∧ r.2.mem ((c.tc : Thread Cert.EmbedGradRefIdeal.nD Cert.EmbedGradRefIdeal.τ).loc Cert.EmbedGradRefIdeal.main_arg0) = m' ((c.tc : Thread Cert.EmbedGradRefIdeal.nD Cert.EmbedGradRefIdeal.τ).loc Cert.EmbedGradRefIdeal.main_arg0)
          ∧ r.2.mem ((c.tc : Thread Cert.EmbedGradRefIdeal.nD Cert.EmbedGradRefIdeal.τ).loc Cert.EmbedGradRefIdeal.main_arg1) = m' ((c.tc : Thread Cert.EmbedGradRefIdeal.nD Cert.EmbedGradRefIdeal.τ).loc Cert.EmbedGradRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v34) = v0 c
          ∧ r.2.mem ((c.tc : Thread Cert.NormGradRefIdeal.nD Cert.NormGradRefIdeal.τ).loc Cert.NormGradRefIdeal.main_v35) = v1 c
          ∧ r.2.mem ((c.tc : Thread Cert.NormGradRefIdeal.nD Cert.NormGradRefIdeal.τ).loc Cert.NormGradRefIdeal.main_v17) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v34)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v34) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v42) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)
      ∧ m' ((c.tc : Thread Cert.KeysRefIdeal.nD Cert.KeysRefIdeal.τ).loc Cert.KeysRefIdeal.main_arg2) = m ((c.tc : Thread Cert.KeysIdeal.nD Cert.KeysIdeal.τ).loc Cert.KeysIdeal.main_arg2)) →
    ∃ (v0 : (c : Dev Cert.KeysIdeal.nD) → Buf (Elt Ideal) ((c.tc : Thread Cert.KeysIdeal.nD Cert.KeysIdeal.τ).loc Cert.KeysIdeal.main_v40)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v40) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v45) = v0 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1)
          ∧ r.2.mem ((c.tc : Thread Cert.KeysRefIdeal.nD Cert.KeysRefIdeal.τ).loc Cert.KeysRefIdeal.main_arg2) = m' ((c.tc : Thread Cert.KeysRefIdeal.nD Cert.KeysRefIdeal.τ).loc Cert.KeysRefIdeal.main_arg2))

def preserves_Unturn_UnturnIdeal : Prop :=
  True

def algebraic_UnturnIdeal_UnturnRefIdeal [hUnturnIdeal : Cert.UnturnIdeal.Facts] [hUnturnRefIdeal : Cert.UnturnRefIdeal.Facts] : Prop :=
  ∀ (m : (ℓ : Loc Cert.UnturnIdeal.nD Cert.UnturnIdeal.τ Cert.UnturnIdeal.sig) → Buf (Elt Ideal) ℓ) (g : Dev Cert.UnturnIdeal.nD → PrngReg)
    (m' : (ℓ : Loc Cert.UnturnRefIdeal.nD Cert.UnturnRefIdeal.τ Cert.UnturnRefIdeal.sig) → Buf (Elt Ideal) ℓ) (g' : Dev Cert.UnturnRefIdeal.nD → PrngReg), Pre_UnturnIdeal m →
    (∀ c : Dev Cert.UnturnIdeal.nD,
      m' ((c.tc : Thread Cert.UnturnRefIdeal.nD Cert.UnturnRefIdeal.τ).loc Cert.UnturnRefIdeal.main_arg0) = m ((c.tc : Thread Cert.UnturnIdeal.nD Cert.UnturnIdeal.τ).loc Cert.UnturnIdeal.main_arg0)
      ∧ m' ((c.tc : Thread Cert.UnturnRefIdeal.nD Cert.UnturnRefIdeal.τ).loc Cert.UnturnRefIdeal.main_arg1) = m ((c.tc : Thread Cert.UnturnIdeal.nD Cert.UnturnIdeal.τ).loc Cert.UnturnIdeal.main_arg1)
      ∧ m' ((c.tc : Thread Cert.UnturnRefIdeal.nD Cert.UnturnRefIdeal.τ).loc Cert.UnturnRefIdeal.main_arg2) = m ((c.tc : Thread Cert.UnturnIdeal.nD Cert.UnturnIdeal.τ).loc Cert.UnturnIdeal.main_arg2)) →
    ∃ (v0 : (c : Dev Cert.UnturnIdeal.nD) → Buf (Elt Ideal) ((c.tc : Thread Cert.UnturnIdeal.nD Cert.UnturnIdeal.τ).loc Cert.UnturnIdeal.main_v74_0)) (v1 : (c : Dev Cert.UnturnIdeal.nD) → Buf (Elt Ideal) ((c.tc : Thread Cert.UnturnIdeal.nD Cert.UnturnIdeal.τ).loc Cert.UnturnIdeal.main_v74_1)) (v2 : (c : Dev Cert.UnturnIdeal.nD) → Buf (Elt Ideal) ((c.tc : Thread Cert.UnturnIdeal.nD Cert.UnturnIdeal.τ).loc Cert.UnturnIdeal.main_v74_2)) (v3 : (c : Dev Cert.UnturnIdeal.nD) → Buf (Elt Ideal) ((c.tc : Thread Cert.UnturnIdeal.nD Cert.UnturnIdeal.τ).loc Cert.UnturnIdeal.main_v74_3)),
      θ_run (Cert.UnturnIdeal.defs (F := Ideal)) (onTc (τ := Cert.UnturnIdeal.τ) (Cert.UnturnIdeal.main (F := Ideal))) ⟨m, fun _ => 0, g⟩ (fun r => ∀ c : Dev Cert.UnturnIdeal.nD,
          r.2.mem ((c.tc : Thread Cert.UnturnIdeal.nD Cert.UnturnIdeal.τ).loc Cert.UnturnIdeal.main_v74_0) = v0 c
          ∧ r.2.mem ((c.tc : Thread Cert.UnturnIdeal.nD Cert.UnturnIdeal.τ).loc Cert.UnturnIdeal.main_v74_1) = v1 c
          ∧ r.2.mem ((c.tc : Thread Cert.UnturnIdeal.nD Cert.UnturnIdeal.τ).loc Cert.UnturnIdeal.main_v74_2) = v2 c
          ∧ r.2.mem ((c.tc : Thread Cert.UnturnIdeal.nD Cert.UnturnIdeal.τ).loc Cert.UnturnIdeal.main_v74_3) = v3 c
          ∧ r.2.mem ((c.tc : Thread Cert.UnturnIdeal.nD Cert.UnturnIdeal.τ).loc Cert.UnturnIdeal.main_arg0) = m ((c.tc : Thread Cert.UnturnIdeal.nD Cert.UnturnIdeal.τ).loc Cert.UnturnIdeal.main_arg0)
          ∧ r.2.mem ((c.tc : Thread Cert.UnturnIdeal.nD Cert.UnturnIdeal.τ).loc Cert.UnturnIdeal.main_arg1) = m ((c.tc : Thread Cert.UnturnIdeal.nD Cert.UnturnIdeal.τ).loc Cert.UnturnIdeal.main_arg1)
          ∧ r.2.mem ((c.tc : Thread Cert.UnturnIdeal.nD Cert.UnturnIdeal.τ).loc Cert.UnturnIdeal.main_arg2) = m ((c.tc : Thread Cert.UnturnIdeal.nD Cert.UnturnIdeal.τ).loc Cert.UnturnIdeal.main_arg2))
      ∧ θ_run (Cert.UnturnRefIdeal.defs (F := Ideal)) (onTc (τ := Cert.UnturnRefIdeal.τ) (Cert.UnturnRefIdeal.main (F := Ideal))) ⟨m', fun _ => 0, g'⟩ (fun r => ∀ c : Dev Cert.UnturnRefIdeal.nD,
          r.2.mem ((c.tc : Thread Cert.UnturnRefIdeal.nD Cert.UnturnRefIdeal.τ).loc Cert.UnturnRefIdeal.main_v99) = v0 c
          ∧ r.2.mem ((c.tc : Thread Cert.UnturnRefIdeal.nD Cert.UnturnRefIdeal.τ).loc Cert.UnturnRefIdeal.main_v100) = v1 c
          ∧ r.2.mem ((c.tc : Thread Cert.UnturnRefIdeal.nD Cert.UnturnRefIdeal.τ).loc Cert.UnturnRefIdeal.main_v43) = v2 c
          ∧ r.2.mem ((c.tc : Thread Cert.UnturnRefIdeal.nD Cert.UnturnRefIdeal.τ).loc Cert.UnturnRefIdeal.main_v98) = v3 c
          ∧ r.2.mem ((c.tc : Thread Cert.UnturnRefIdeal.nD Cert.UnturnRefIdeal.τ).loc Cert.UnturnRefIdeal.main_arg0) = m' ((c.tc : Thread Cert.UnturnRefIdeal.nD Cert.UnturnRefIdeal.τ).loc Cert.UnturnRefIdeal.main_arg0)
          ∧ r.2.mem ((c.tc : Thread Cert.UnturnRefIdeal.nD Cert.UnturnRefIdeal.τ).loc Cert.UnturnRefIdeal.main_arg1) = m' ((c.tc : Thread Cert.UnturnRefIdeal.nD Cert.UnturnRefIdeal.τ).loc Cert.UnturnRefIdeal.main_arg1)
          ∧ r.2.mem ((c.tc : Thread Cert.UnturnRefIdeal.nD Cert.UnturnRefIdeal.τ).loc Cert.UnturnRefIdeal.main_arg2) = m' ((c.tc : Thread Cert.UnturnRefIdeal.nD Cert.UnturnRefIdeal.τ).loc Cert.UnturnRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v48) = v0 c
          ∧ r.2.mem ((c.tc : Thread Cert.LossHeadRefIdeal.nD Cert.LossHeadRefIdeal.τ).loc Cert.LossHeadRefIdeal.main_v49) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_v50) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_ColumnSum_ColumnSumIdeal : Prop :=
  True

def algebraic_ColumnSumIdeal_ColumnSumRefIdeal [hColumnSumIdeal : Cert.ColumnSumIdeal.Facts] [hColumnSumRefIdeal : Cert.ColumnSumRefIdeal.Facts] : Prop :=
  ∀ (m : (ℓ : Loc Cert.ColumnSumIdeal.nD Cert.ColumnSumIdeal.τ Cert.ColumnSumIdeal.sig) → Buf (Elt Ideal) ℓ) (g : Dev Cert.ColumnSumIdeal.nD → PrngReg)
    (m' : (ℓ : Loc Cert.ColumnSumRefIdeal.nD Cert.ColumnSumRefIdeal.τ Cert.ColumnSumRefIdeal.sig) → Buf (Elt Ideal) ℓ) (g' : Dev Cert.ColumnSumRefIdeal.nD → PrngReg), Pre_ColumnSumIdeal m →
    (∀ c : Dev Cert.ColumnSumIdeal.nD,
      m' ((c.tc : Thread Cert.ColumnSumRefIdeal.nD Cert.ColumnSumRefIdeal.τ).loc Cert.ColumnSumRefIdeal.main_arg0) = m ((c.tc : Thread Cert.ColumnSumIdeal.nD Cert.ColumnSumIdeal.τ).loc Cert.ColumnSumIdeal.main_arg0)) →
    ∃ (v0 : (c : Dev Cert.ColumnSumIdeal.nD) → Buf (Elt Ideal) ((c.tc : Thread Cert.ColumnSumIdeal.nD Cert.ColumnSumIdeal.τ).loc Cert.ColumnSumIdeal.main_v0)),
      θ_run (Cert.ColumnSumIdeal.defs (F := Ideal)) (onTc (τ := Cert.ColumnSumIdeal.τ) (Cert.ColumnSumIdeal.main (F := Ideal))) ⟨m, fun _ => 0, g⟩ (fun r => ∀ c : Dev Cert.ColumnSumIdeal.nD,
          r.2.mem ((c.tc : Thread Cert.ColumnSumIdeal.nD Cert.ColumnSumIdeal.τ).loc Cert.ColumnSumIdeal.main_v0) = v0 c
          ∧ r.2.mem ((c.tc : Thread Cert.ColumnSumIdeal.nD Cert.ColumnSumIdeal.τ).loc Cert.ColumnSumIdeal.main_arg0) = m ((c.tc : Thread Cert.ColumnSumIdeal.nD Cert.ColumnSumIdeal.τ).loc Cert.ColumnSumIdeal.main_arg0))
      ∧ θ_run (Cert.ColumnSumRefIdeal.defs (F := Ideal)) (onTc (τ := Cert.ColumnSumRefIdeal.τ) (Cert.ColumnSumRefIdeal.main (F := Ideal))) ⟨m', fun _ => 0, g'⟩ (fun r => ∀ c : Dev Cert.ColumnSumRefIdeal.nD,
          r.2.mem ((c.tc : Thread Cert.ColumnSumRefIdeal.nD Cert.ColumnSumRefIdeal.τ).loc Cert.ColumnSumRefIdeal.main_v1) = v0 c
          ∧ r.2.mem ((c.tc : Thread Cert.ColumnSumRefIdeal.nD Cert.ColumnSumRefIdeal.τ).loc Cert.ColumnSumRefIdeal.main_arg0) = m' ((c.tc : Thread Cert.ColumnSumRefIdeal.nD Cert.ColumnSumRefIdeal.τ).loc Cert.ColumnSumRefIdeal.main_arg0))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hUpGrad : Cert.UpGrad.Facts) (hUpGradIdeal : Cert.UpGradIdeal.Facts) (hUpGradRefIdeal : Cert.UpGradRefIdeal.Facts) (hDownGrad : Cert.DownGrad.Facts) (hDownGradIdeal : Cert.DownGradIdeal.Facts) (hDownGradRefIdeal : Cert.DownGradRefIdeal.Facts) (hRowGrad : Cert.RowGrad.Facts) (hRowGradIdeal : Cert.RowGradIdeal.Facts) (hRowGradRefIdeal : Cert.RowGradRefIdeal.Facts) (hDown : Cert.Down.Facts) (hDownIdeal : Cert.DownIdeal.Facts) (hDownRefIdeal : Cert.DownRefIdeal.Facts) (hGmlpIn : Cert.GmlpIn.Facts) (hGmlpInIdeal : Cert.GmlpInIdeal.Facts) (hGmlpInRefIdeal : Cert.GmlpInRefIdeal.Facts) (hGmlpOut : Cert.GmlpOut.Facts) (hGmlpOutIdeal : Cert.GmlpOutIdeal.Facts) (hGmlpOutRefIdeal : Cert.GmlpOutRefIdeal.Facts) (hGatedGrad : Cert.GatedGrad.Facts) (hGatedGradIdeal : Cert.GatedGradIdeal.Facts) (hGatedGradRefIdeal : Cert.GatedGradRefIdeal.Facts) (hOutGrad : Cert.OutGrad.Facts) (hOutGradIdeal : Cert.OutGradIdeal.Facts) (hOutGradRefIdeal : Cert.OutGradRefIdeal.Facts) (hInGrad : Cert.InGrad.Facts) (hInGradIdeal : Cert.InGradIdeal.Facts) (hInGradRefIdeal : Cert.InGradRefIdeal.Facts) (hInRows : Cert.InRows.Facts) (hInRowsIdeal : Cert.InRowsIdeal.Facts) (hInRowsRefIdeal : Cert.InRowsRefIdeal.Facts) (hSquareGrad : Cert.SquareGrad.Facts) (hSquareGradIdeal : Cert.SquareGradIdeal.Facts) (hSquareGradRefIdeal : Cert.SquareGradRefIdeal.Facts) (hSquareRows : Cert.SquareRows.Facts) (hSquareRowsIdeal : Cert.SquareRowsIdeal.Facts) (hSquareRowsRefIdeal : Cert.SquareRowsRefIdeal.Facts) (hHeadRows : Cert.HeadRows.Facts) (hHeadRowsIdeal : Cert.HeadRowsIdeal.Facts) (hHeadRowsRefIdeal : Cert.HeadRowsRefIdeal.Facts) (hQkvRows : Cert.QkvRows.Facts) (hQkvRowsIdeal : Cert.QkvRowsIdeal.Facts) (hQkvRowsRefIdeal : Cert.QkvRowsRefIdeal.Facts) (hPle : Cert.Ple.Facts) (hPleIdeal : Cert.PleIdeal.Facts) (hPleRefIdeal : Cert.PleRefIdeal.Facts) (hProject : Cert.Project.Facts) (hProjectIdeal : Cert.ProjectIdeal.Facts) (hProjectRefIdeal : Cert.ProjectRefIdeal.Facts) (hKvGrad : Cert.KvGrad.Facts) (hKvGradIdeal : Cert.KvGradIdeal.Facts) (hKvGradRefIdeal : Cert.KvGradRefIdeal.Facts) (hEmbedSlope : Cert.EmbedSlope.Facts) (hEmbedSlopeIdeal : Cert.EmbedSlopeIdeal.Facts) (hEmbedSlopeRefIdeal : Cert.EmbedSlopeRefIdeal.Facts) (hEmbedGrad : Cert.EmbedGrad.Facts) (hEmbedGradIdeal : Cert.EmbedGradIdeal.Facts) (hEmbedGradRefIdeal : Cert.EmbedGradRefIdeal.Facts) (hNorm : Cert.Norm.Facts) (hNormIdeal : Cert.NormIdeal.Facts) (hNormRefIdeal : Cert.NormRefIdeal.Facts) (hNormGrad : Cert.NormGrad.Facts) (hNormGradIdeal : Cert.NormGradIdeal.Facts) (hNormGradRefIdeal : Cert.NormGradRefIdeal.Facts) (hQuery : Cert.Query.Facts) (hQueryIdeal : Cert.QueryIdeal.Facts) (hQueryRefIdeal : Cert.QueryRefIdeal.Facts) (hKeys : Cert.Keys.Facts) (hKeysIdeal : Cert.KeysIdeal.Facts) (hKeysRefIdeal : Cert.KeysRefIdeal.Facts) (hUnturn : Cert.Unturn.Facts) (hUnturnIdeal : Cert.UnturnIdeal.Facts) (hUnturnRefIdeal : Cert.UnturnRefIdeal.Facts) (hLossHead : Cert.LossHead.Facts) (hLossHeadIdeal : Cert.LossHeadIdeal.Facts) (hLossHeadRefIdeal : Cert.LossHeadRefIdeal.Facts) (hColumnSum : Cert.ColumnSum.Facts) (hColumnSumIdeal : Cert.ColumnSumIdeal.Facts) (hColumnSumRefIdeal : Cert.ColumnSumRefIdeal.Facts) (hPre_finite : Cert.Pre_finite.Facts) (hPre_finite_swiglu : Cert.Pre_finite_swiglu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Swiglu (hSwiglu := hSwiglu)
    ∧ quiescent_SwigluIdeal (hSwigluIdeal := hSwigluIdeal)
    ∧ quiescent_SwigluIdeal_pre_finite_swiglu (hSwigluIdeal := hSwigluIdeal) (hPre_finite_swiglu := hPre_finite_swiglu)
    ∧ quiescent_SwigluRefIdeal (hSwigluRefIdeal := hSwigluRefIdeal)
    ∧ quiescent_SwigluRefIdeal_pre_finite_swiglu (hSwigluRefIdeal := hSwigluRefIdeal) (hPre_finite_swiglu := hPre_finite_swiglu)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_RowGrad (hRowGrad := hRowGrad)
    ∧ quiescent_RowGradIdeal (hRowGradIdeal := hRowGradIdeal)
    ∧ quiescent_RowGradRefIdeal (hRowGradRefIdeal := hRowGradRefIdeal)
    ∧ quiescent_Down (hDown := hDown)
    ∧ quiescent_DownIdeal (hDownIdeal := hDownIdeal)
    ∧ quiescent_DownRefIdeal (hDownRefIdeal := hDownRefIdeal)
    ∧ quiescent_GmlpIn (hGmlpIn := hGmlpIn)
    ∧ quiescent_GmlpInIdeal (hGmlpInIdeal := hGmlpInIdeal)
    ∧ quiescent_GmlpInRefIdeal (hGmlpInRefIdeal := hGmlpInRefIdeal)
    ∧ quiescent_GmlpOut (hGmlpOut := hGmlpOut)
    ∧ quiescent_GmlpOutIdeal (hGmlpOutIdeal := hGmlpOutIdeal)
    ∧ quiescent_GmlpOutRefIdeal (hGmlpOutRefIdeal := hGmlpOutRefIdeal)
    ∧ quiescent_GatedGrad (hGatedGrad := hGatedGrad)
    ∧ quiescent_GatedGradIdeal (hGatedGradIdeal := hGatedGradIdeal)
    ∧ quiescent_GatedGradRefIdeal (hGatedGradRefIdeal := hGatedGradRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_InRows (hInRows := hInRows)
    ∧ quiescent_InRowsIdeal (hInRowsIdeal := hInRowsIdeal)
    ∧ quiescent_InRowsRefIdeal (hInRowsRefIdeal := hInRowsRefIdeal)
    ∧ quiescent_SquareGrad (hSquareGrad := hSquareGrad)
    ∧ quiescent_SquareGradIdeal (hSquareGradIdeal := hSquareGradIdeal)
    ∧ quiescent_SquareGradRefIdeal (hSquareGradRefIdeal := hSquareGradRefIdeal)
    ∧ quiescent_SquareRows (hSquareRows := hSquareRows)
    ∧ quiescent_SquareRowsIdeal (hSquareRowsIdeal := hSquareRowsIdeal)
    ∧ quiescent_SquareRowsRefIdeal (hSquareRowsRefIdeal := hSquareRowsRefIdeal)
    ∧ quiescent_HeadRows (hHeadRows := hHeadRows)
    ∧ quiescent_HeadRowsIdeal (hHeadRowsIdeal := hHeadRowsIdeal)
    ∧ quiescent_HeadRowsRefIdeal (hHeadRowsRefIdeal := hHeadRowsRefIdeal)
    ∧ quiescent_QkvRows (hQkvRows := hQkvRows)
    ∧ quiescent_QkvRowsIdeal (hQkvRowsIdeal := hQkvRowsIdeal)
    ∧ quiescent_QkvRowsRefIdeal (hQkvRowsRefIdeal := hQkvRowsRefIdeal)
    ∧ quiescent_Ple (hPle := hPle)
    ∧ quiescent_PleIdeal (hPleIdeal := hPleIdeal)
    ∧ quiescent_PleRefIdeal (hPleRefIdeal := hPleRefIdeal)
    ∧ quiescent_Project (hProject := hProject)
    ∧ quiescent_ProjectIdeal (hProjectIdeal := hProjectIdeal)
    ∧ quiescent_ProjectRefIdeal (hProjectRefIdeal := hProjectRefIdeal)
    ∧ quiescent_KvGrad (hKvGrad := hKvGrad)
    ∧ quiescent_KvGradIdeal (hKvGradIdeal := hKvGradIdeal)
    ∧ quiescent_KvGradRefIdeal (hKvGradRefIdeal := hKvGradRefIdeal)
    ∧ quiescent_EmbedSlope (hEmbedSlope := hEmbedSlope)
    ∧ quiescent_EmbedSlopeIdeal (hEmbedSlopeIdeal := hEmbedSlopeIdeal)
    ∧ quiescent_EmbedSlopeRefIdeal (hEmbedSlopeRefIdeal := hEmbedSlopeRefIdeal)
    ∧ quiescent_EmbedGrad (hEmbedGrad := hEmbedGrad)
    ∧ quiescent_EmbedGradIdeal (hEmbedGradIdeal := hEmbedGradIdeal)
    ∧ quiescent_EmbedGradRefIdeal (hEmbedGradRefIdeal := hEmbedGradRefIdeal)
    ∧ quiescent_Norm (hNorm := hNorm)
    ∧ quiescent_NormIdeal (hNormIdeal := hNormIdeal)
    ∧ quiescent_NormRefIdeal (hNormRefIdeal := hNormRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_Query (hQuery := hQuery)
    ∧ quiescent_QueryIdeal (hQueryIdeal := hQueryIdeal)
    ∧ quiescent_QueryRefIdeal (hQueryRefIdeal := hQueryRefIdeal)
    ∧ quiescent_Keys (hKeys := hKeys)
    ∧ quiescent_KeysIdeal (hKeysIdeal := hKeysIdeal)
    ∧ quiescent_KeysRefIdeal (hKeysRefIdeal := hKeysRefIdeal)
    ∧ quiescent_Unturn (hUnturn := hUnturn)
    ∧ quiescent_UnturnIdeal (hUnturnIdeal := hUnturnIdeal)
    ∧ quiescent_UnturnRefIdeal (hUnturnRefIdeal := hUnturnRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_ColumnSum (hColumnSum := hColumnSum)
    ∧ quiescent_ColumnSumIdeal (hColumnSumIdeal := hColumnSumIdeal)
    ∧ quiescent_ColumnSumRefIdeal (hColumnSumRefIdeal := hColumnSumRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Swiglu_SwigluIdeal
    ∧ algebraic_SwigluIdeal_SwigluRefIdeal_pre_finite_swiglu (hSwigluIdeal := hSwigluIdeal) (hSwigluRefIdeal := hSwigluRefIdeal) (hPre_finite_swiglu := hPre_finite_swiglu)
    ∧ preserves_UpGrad_UpGradIdeal
    ∧ algebraic_UpGradIdeal_UpGradRefIdeal (hUpGradIdeal := hUpGradIdeal) (hUpGradRefIdeal := hUpGradRefIdeal)
    ∧ preserves_DownGrad_DownGradIdeal
    ∧ algebraic_DownGradIdeal_DownGradRefIdeal (hDownGradIdeal := hDownGradIdeal) (hDownGradRefIdeal := hDownGradRefIdeal)
    ∧ preserves_RowGrad_RowGradIdeal
    ∧ algebraic_RowGradIdeal_RowGradRefIdeal (hRowGradIdeal := hRowGradIdeal) (hRowGradRefIdeal := hRowGradRefIdeal)
    ∧ preserves_Down_DownIdeal
    ∧ algebraic_DownIdeal_DownRefIdeal (hDownIdeal := hDownIdeal) (hDownRefIdeal := hDownRefIdeal)
    ∧ preserves_GmlpIn_GmlpInIdeal
    ∧ algebraic_GmlpInIdeal_GmlpInRefIdeal (hGmlpInIdeal := hGmlpInIdeal) (hGmlpInRefIdeal := hGmlpInRefIdeal)
    ∧ preserves_GmlpOut_GmlpOutIdeal
    ∧ algebraic_GmlpOutIdeal_GmlpOutRefIdeal (hGmlpOutIdeal := hGmlpOutIdeal) (hGmlpOutRefIdeal := hGmlpOutRefIdeal)
    ∧ preserves_GatedGrad_GatedGradIdeal
    ∧ algebraic_GatedGradIdeal_GatedGradRefIdeal (hGatedGradIdeal := hGatedGradIdeal) (hGatedGradRefIdeal := hGatedGradRefIdeal)
    ∧ preserves_OutGrad_OutGradIdeal
    ∧ algebraic_OutGradIdeal_OutGradRefIdeal (hOutGradIdeal := hOutGradIdeal) (hOutGradRefIdeal := hOutGradRefIdeal)
    ∧ preserves_InGrad_InGradIdeal
    ∧ algebraic_InGradIdeal_InGradRefIdeal (hInGradIdeal := hInGradIdeal) (hInGradRefIdeal := hInGradRefIdeal)
    ∧ preserves_InRows_InRowsIdeal
    ∧ algebraic_InRowsIdeal_InRowsRefIdeal (hInRowsIdeal := hInRowsIdeal) (hInRowsRefIdeal := hInRowsRefIdeal)
    ∧ preserves_SquareGrad_SquareGradIdeal
    ∧ algebraic_SquareGradIdeal_SquareGradRefIdeal (hSquareGradIdeal := hSquareGradIdeal) (hSquareGradRefIdeal := hSquareGradRefIdeal)
    ∧ preserves_SquareRows_SquareRowsIdeal
    ∧ algebraic_SquareRowsIdeal_SquareRowsRefIdeal (hSquareRowsIdeal := hSquareRowsIdeal) (hSquareRowsRefIdeal := hSquareRowsRefIdeal)
    ∧ preserves_HeadRows_HeadRowsIdeal
    ∧ algebraic_HeadRowsIdeal_HeadRowsRefIdeal (hHeadRowsIdeal := hHeadRowsIdeal) (hHeadRowsRefIdeal := hHeadRowsRefIdeal)
    ∧ preserves_QkvRows_QkvRowsIdeal
    ∧ algebraic_QkvRowsIdeal_QkvRowsRefIdeal (hQkvRowsIdeal := hQkvRowsIdeal) (hQkvRowsRefIdeal := hQkvRowsRefIdeal)
    ∧ preserves_Ple_PleIdeal
    ∧ algebraic_PleIdeal_PleRefIdeal (hPleIdeal := hPleIdeal) (hPleRefIdeal := hPleRefIdeal)
    ∧ preserves_Project_ProjectIdeal
    ∧ algebraic_ProjectIdeal_ProjectRefIdeal (hProjectIdeal := hProjectIdeal) (hProjectRefIdeal := hProjectRefIdeal)
    ∧ preserves_KvGrad_KvGradIdeal
    ∧ algebraic_KvGradIdeal_KvGradRefIdeal (hKvGradIdeal := hKvGradIdeal) (hKvGradRefIdeal := hKvGradRefIdeal)
    ∧ preserves_EmbedSlope_EmbedSlopeIdeal
    ∧ algebraic_EmbedSlopeIdeal_EmbedSlopeRefIdeal (hEmbedSlopeIdeal := hEmbedSlopeIdeal) (hEmbedSlopeRefIdeal := hEmbedSlopeRefIdeal)
    ∧ preserves_EmbedGrad_EmbedGradIdeal
    ∧ algebraic_EmbedGradIdeal_EmbedGradRefIdeal (hEmbedGradIdeal := hEmbedGradIdeal) (hEmbedGradRefIdeal := hEmbedGradRefIdeal)
    ∧ preserves_Norm_NormIdeal
    ∧ algebraic_NormIdeal_NormRefIdeal (hNormIdeal := hNormIdeal) (hNormRefIdeal := hNormRefIdeal)
    ∧ preserves_NormGrad_NormGradIdeal
    ∧ algebraic_NormGradIdeal_NormGradRefIdeal (hNormGradIdeal := hNormGradIdeal) (hNormGradRefIdeal := hNormGradRefIdeal)
    ∧ preserves_Query_QueryIdeal
    ∧ algebraic_QueryIdeal_QueryRefIdeal (hQueryIdeal := hQueryIdeal) (hQueryRefIdeal := hQueryRefIdeal)
    ∧ preserves_Keys_KeysIdeal
    ∧ algebraic_KeysIdeal_KeysRefIdeal (hKeysIdeal := hKeysIdeal) (hKeysRefIdeal := hKeysRefIdeal)
    ∧ preserves_Unturn_UnturnIdeal
    ∧ algebraic_UnturnIdeal_UnturnRefIdeal (hUnturnIdeal := hUnturnIdeal) (hUnturnRefIdeal := hUnturnRefIdeal)
    ∧ preserves_LossHead_LossHeadIdeal
    ∧ algebraic_LossHeadIdeal_LossHeadRefIdeal (hLossHeadIdeal := hLossHeadIdeal) (hLossHeadRefIdeal := hLossHeadRefIdeal)
    ∧ preserves_ColumnSum_ColumnSumIdeal
    ∧ algebraic_ColumnSumIdeal_ColumnSumRefIdeal (hColumnSumIdeal := hColumnSumIdeal) (hColumnSumRefIdeal := hColumnSumRefIdeal)
-- ==== Pre_finite.lean ====
abbrev S4096x8192 : Shape := ⟨2, ![4096, 8192]⟩
abbrev S4096x4096 : Shape := ⟨2, ![4096, 4096]⟩
abbrev S1x4096 : Shape := ⟨2, ![1, 4096]⟩
abbrev S16x128x128 : Shape := ⟨3, ![16, 128, 128]⟩
abbrev S16x128 : Shape := ⟨2, ![16, 128]⟩
abbrev S_ : Shape := ⟨0, ![]⟩

class Facts : Prop where
  bcast_S_S4096x8192 : S_.BroadcastsInDim S4096x8192 (![] : Fin 0 → Fin S4096x8192.rank)
  bcast_S_S4096x4096 : S_.BroadcastsInDim S4096x4096 (![] : Fin 0 → Fin S4096x4096.rank)
  bcast_S_S1x4096 : S_.BroadcastsInDim S1x4096 (![] : Fin 0 → Fin S1x4096.rank)
  bcast_S_S16x128x128 : S_.BroadcastsInDim S16x128x128 (![] : Fin 0 → Fin S16x128x128.rank)

variable [Facts]

def fn {F : FTy → Type} [FloatOps F] (main_arg0 : FVec F S4096x8192 .f32) (main_arg1 : FVec F S4096x4096 .bf16) (main_arg2 : FVec F S1x4096 .f32) (main_arg3 : FVec F S1x4096 .f32) (main_arg4 : FVec F S16x128x128 .f32) (main_arg5 : FVec F S16x128 .f32) : IVec S4096x8192 1 × IVec S4096x4096 1 × IVec S1x4096 1 × IVec S16x128x128 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_v3 : FVec F S4096x4096 .bf16 := Host.absf main_arg1
  let main_cst_0 : FVec F S_ .bf16 := constant S_ .bf16 0x7F80#16
  let main_v4 : FVec F S4096x4096 .bf16 := broadcastInDim S4096x4096 ![] bcast_S_S4096x4096 main_cst_0
  let main_v5 : IVec S4096x4096 1 := cmpf .olt main_v3 main_v4
  let main_v6 : FVec F S1x4096 .f32 := Host.absf main_arg2
  let main_cst_1 : FVec F S_ .f32 := constant S_ .f32 0x7F800000#32
  let main_v7 : FVec F S1x4096 .f32 := broadcastInDim S1x4096 ![] bcast_S_S1x4096 main_cst_1
  let main_v8 : IVec S1x4096 1 := cmpf .olt main_v6 main_v7
  let main_v9 : FVec F S16x128x128 .f32 := Host.absf main_arg4
  let main_cst_2 : FVec F S_ .f32 := constant S_ .f32 0x7F800000#32
  let main_v10 : FVec F S16x128x128 .f32 := broadcastInDim S16x128x128 ![] bcast_S_S16x128x128 main_cst_2
  let main_v11 : IVec S16x128x128 1 := cmpf .olt main_v9 main_v10
  (main_v2, main_v5, main_v8, main_v11)
-- ==== Pre_finite_swiglu.lean ====
abbrev S4096x2048 : Shape := ⟨2, ![4096, 2048]⟩
abbrev S4x2048x1408 : Shape := ⟨3, ![4, 2048, 1408]⟩
abbrev S4x1408x2048 : Shape := ⟨3, ![4, 1408, 2048]⟩
abbrev S_ : Shape := ⟨0, ![]⟩

class Facts : Prop where
  bcast_S_S4096x2048 : S_.BroadcastsInDim S4096x2048 (![] : Fin 0 → Fin S4096x2048.rank)
  bcast_S_S4x2048x1408 : S_.BroadcastsInDim S4x2048x1408 (![] : Fin 0 → Fin S4x2048x1408.rank)
  bcast_S_S4x1408x2048 : S_.BroadcastsInDim S4x1408x2048 (![] : Fin 0 → Fin S4x1408x2048.rank)

variable [Facts]

def fn {F : FTy → Type} [FloatOps F] (main_arg0 : FVec F S4096x2048 .bf16) (main_arg1 : FVec F S4x2048x1408 .bf16) (main_arg2 : FVec F S4x2048x1408 .bf16) (main_arg3 : FVec F S4x1408x2048 .bf16) (main_arg4 : FVec F S4096x2048 .bf16) : IVec S4096x2048 1 × IVec S4x2048x1408 1 × IVec S4x1408x2048 1 × IVec S4096x2048 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S4x2048x1408 .bf16 := Host.absf main_arg2
  let main_cst_0 : FVec F S_ .bf16 := constant S_ .bf16 0x7F80#16
  let main_v4 : FVec F S4x2048x1408 .bf16 := broadcastInDim S4x2048x1408 ![] bcast_S_S4x2048x1408 main_cst_0
  let main_v5 : IVec S4x2048x1408 1 := cmpf .olt main_v3 main_v4
  let main_v6 : FVec F S4x1408x2048 .bf16 := Host.absf main_arg3
  let main_cst_1 : FVec F S_ .bf16 := constant S_ .bf16 0x7F80#16
  let main_v7 : FVec F S4x1408x2048 .bf16 := broadcastInDim S4x1408x2048 ![] bcast_S_S4x1408x2048 main_cst_1
  let main_v8 : IVec S4x1408x2048 1 := cmpf .olt main_v6 main_v7
  let main_v9 : FVec F S4096x2048 .bf16 := Host.absf main_arg4
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  (main_v2, main_v5, main_v8, main_v11)
-- ==== Kernel.lean ====
abbrev S4096x8192 : Shape := ⟨2, ![4096, 8192]⟩
abbrev S4096x4096 : Shape := ⟨2, ![4096, 4096]⟩
abbrev S1x4096 : Shape := ⟨2, ![1, 4096]⟩
abbrev S16x128x128 : Shape := ⟨3, ![16, 128, 128]⟩
abbrev S16x128 : Shape := ⟨2, ![16, 128]⟩
abbrev S128x16 : Shape := ⟨2, ![128, 16]⟩
abbrev S_ : Shape := ⟨0, ![]⟩
abbrev S128x128 : Shape := ⟨2, ![128, 128]⟩
abbrev S128x8192 : Shape := ⟨2, ![128, 8192]⟩
abbrev S128x4096 : Shape := ⟨2, ![128, 4096]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩
abbrev S4096 : Shape := ⟨1, ![4096]⟩

abbrev nBuf : Space → Nat
  | .hbm => 15
  | .vmem => 15
  | .smem => 0
  | _ => 0

abbrev bufTy : (tb : Table) → Fin (tcTables nBuf tb) → BufTy
  | .hbm, ⟨0, _⟩ => ⟨S4096x8192, .f32⟩
  | .hbm, ⟨1, _⟩ => ⟨S4096x4096, .bf16⟩
  | .hbm, ⟨2, _⟩ => ⟨S1x4096, .f32⟩
  | .hbm, ⟨3, _⟩ => ⟨S1x4096, .f32⟩
  | .hbm, ⟨4, _⟩ => ⟨S16x128x128, .f32⟩
  | .hbm, ⟨5, _⟩ => ⟨S16x128, .f32⟩
  | .hbm, ⟨6, _⟩ => ⟨S128x16, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S4096x8192, .bf16⟩
  | .hbm, ⟨11, _⟩ => ⟨S16x128x128, .f32⟩
  | .hbm, ⟨12, _⟩ => ⟨S128x128, .f32⟩
  | .hbm, ⟨13, _⟩ => ⟨S1x4096, .f32⟩
  | .hbm, ⟨14, _⟩ => ⟨S1x4096, .f32⟩
  | .local _ .vmem, ⟨0, _⟩ => ⟨S128x8192, .f32⟩
  | .local _ .vmem, ⟨1, _⟩ => ⟨S128x8192, .f32⟩
  | .local _ .vmem, ⟨2, _⟩ => ⟨S128x4096, .bf16⟩
  | .local _ .vmem, ⟨3, _⟩ => ⟨S128x4096, .bf16⟩
  | .local _ .vmem, ⟨4, _⟩ => ⟨S1x4096, .f32⟩
  | .local _ .vmem, ⟨5, _⟩ => ⟨S1x4096, .f32⟩
  | .local _ .vmem, ⟨6, _⟩ => ⟨S16x128x128, .f32⟩
  | .local _ .vmem, ⟨7, _⟩ => ⟨S128x128, .f32⟩
  | .local _ .vmem, ⟨8, _⟩ => ⟨S128x8192, .bf16⟩
  | .local _ .vmem, ⟨9, _⟩ => ⟨S128x8192, .bf16⟩
  | .local _ .vmem, ⟨10, _⟩ => ⟨S16x128x128, .f32⟩
  | .local _ .vmem, ⟨11, _⟩ => ⟨S128x128, .f32⟩
  | .local _ .vmem, ⟨12, _⟩ => ⟨S1x4096, .f32⟩
  | .local _ .vmem, ⟨13, _⟩ => ⟨S1x4096, .f32⟩
  | .local _ .vmem, ⟨14, _⟩ => ⟨S128x4096, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | _ => none
-- ==== ReferenceIdeal.lean ====
abbrev S4096x8192 : Shape := ⟨2, ![4096, 8192]⟩
abbrev S4096x4096 : Shape := ⟨2, ![4096, 4096]⟩
abbrev S1x4096 : Shape := ⟨2, ![1, 4096]⟩
abbrev S16x128x128 : Shape := ⟨3, ![16, 128, 128]⟩
abbrev S16x128 : Shape := ⟨2, ![16, 128]⟩
abbrev S_ : Shape := ⟨0, ![]⟩
abbrev S4096 : Shape := ⟨1, ![4096]⟩
abbrev S4096x1 : Shape := ⟨2, ![4096, 1]⟩
abbrev S32x128x16x256 : Shape := ⟨4, ![32, 128, 16, 256]⟩
abbrev S128x128 : Shape := ⟨2, ![128, 128]⟩
abbrev S1x128x128 : Shape := ⟨3, ![1, 128, 128]⟩
abbrev S16x32x256x128 : Shape := ⟨4, ![16, 32, 256, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 140
  | .vmem => 3
  | .smem => 0
  | _ => 0

abbrev hbmTy0_0 (i : Nat) : BufTy := match i % 128 with
  | 0 => ⟨S4096x8192, .f32⟩
  | 1 => ⟨S4096x4096, .bf16⟩
  | 2 => ⟨S1x4096, .f32⟩
  | 3 => ⟨S1x4096, .f32⟩
  | 4 => ⟨S16x128x128, .f32⟩
  | 5 => ⟨S16x128, .f32⟩
  | 6 => ⟨S4096x8192, .f32⟩
  | 7 => ⟨S4096x8192, .f32⟩
  | 8 => ⟨S4096x4096, .f32⟩
  | 9 => ⟨S4096x4096, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S4096x4096, .f32⟩
  | 17 => ⟨S4096x4096, .f32⟩
  | 18 => ⟨S4096x4096, .f32⟩
  | 19 => ⟨S_, .f32⟩
  | 20 => ⟨S4096x4096, .f32⟩
  | 21 => ⟨S4096x4096, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x4096, .f32⟩
  | 29 => ⟨S4096x4096, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x4096, .f32⟩
  | 39 => ⟨S4096x4096, .f32⟩
  | 40 => ⟨S4096x4096, .f32⟩
  | 41 => ⟨S4096x4096, .f32⟩
  | 42 => ⟨S4096x4096, .f32⟩
  | 43 => ⟨S4096x4096, .f32⟩
  | 44 => ⟨S32x128x16x256, .f32⟩
  | 45 => ⟨S_, .i1⟩
  | 46 => ⟨S128x128, .i1⟩
  | 47 => ⟨S128x128, .i32⟩
  | 48 => ⟨S_, .i32⟩
  | 49 => ⟨S128x128, .i32⟩
  | 50 => ⟨S128x128, .i32⟩
  | 51 => ⟨S128x128, .i32⟩
  | 52 => ⟨S128x128, .i1⟩
  | 53 => ⟨S_, .i1⟩
  | 54 => ⟨S128x128, .i1⟩
  | 55 => ⟨S128x128, .i1⟩
  | 56 => ⟨S1x128x128, .i1⟩
  | 57 => ⟨S_, .f32⟩
  | 58 => ⟨S16x128x128, .i1⟩
  | 59 => ⟨S16x128x128, .f32⟩
  | 60 => ⟨S16x128x128, .f32⟩
  | 61 => ⟨S_, .f32⟩
  | 62 => ⟨S16x128x128, .f32⟩
  | 63 => ⟨S16x32x256x128, .f32⟩
  | 64 => ⟨S32x128x16x256, .f32⟩
  | 65 => ⟨S128x16, .f32⟩
  | 66 => ⟨S128x16x1, .f32⟩
  | 67 => ⟨S1x128x16x1, .f32⟩
  | 68 => ⟨S32x128x16x256, .f32⟩
  | 69 => ⟨S32x128x16x256, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S32x128x16x256, .f32⟩
  | 76 => ⟨S_, .f32⟩
  | 77 => ⟨S128x16, .f32⟩
  | 78 => ⟨S1x128x16x1, .f32⟩
  | 79 => ⟨S_, .f32⟩
  | 80 => ⟨S128x16, .f32⟩
  | 81 => ⟨S128x16x1, .f32⟩
  | 82 => ⟨S_, .f32⟩
  | 83 => ⟨S128x16, .f32⟩
  | 84 => ⟨S16x128, .f32⟩
  | 85 => ⟨S16x32x256x128, .f32⟩
  | 86 => ⟨S16x128x128, .f32⟩
  | 87 => ⟨S16x32x256x128, .f32⟩
  | 88 => ⟨S32x128x16x256, .f32⟩
  | 89 => ⟨S_, .f32⟩
  | 90 => ⟨S16x128x128, .f32⟩
  | 91 => ⟨S16x128x128, .f32⟩
  | 92 => ⟨S4096x4096, .f32⟩
  | 93 => ⟨S_, .f32⟩
  | 94 => ⟨S4096, .f32⟩
  | 95 => ⟨S1x4096, .f32⟩
  | 96 => ⟨S4096x4096, .f32⟩
  | 97 => ⟨S_, .f32⟩
  | 98 => ⟨S4096, .f32⟩
  | 99 => ⟨S1x4096, .f32⟩
  | 100 => ⟨S4096x4096, .f32⟩
  | 101 => ⟨S4096x4096, .f32⟩
  | 102 => ⟨S4096x4096, .f32⟩
  | 103 => ⟨S_, .f32⟩
  | 104 => ⟨S4096, .f32⟩
  | 105 => ⟨S4096x1, .f32⟩
  | 106 => ⟨S4096x4096, .f32⟩
  | 107 => ⟨S4096x4096, .f32⟩
  | 108 => ⟨S4096x1, .f32⟩
  | 109 => ⟨S4096x4096, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x4096, .f32⟩
  | 119 => ⟨S4096x4096, .f32⟩
  | 120 => ⟨S4096x4096, .f32⟩
  | 121 => ⟨S_, .f32⟩
  | 122 => ⟨S4096, .f32⟩
  | 123 => ⟨S4096x1, .f32⟩
  | 124 => ⟨S4096x4096, .f32⟩
  | 125 => ⟨S4096x1, .f32⟩
  | 126 => ⟨S_, .f32⟩
  | 127 => ⟨S4096x1, .f32⟩
  | _ => ⟨S4096x8192, .f32⟩

abbrev hbmTy0_1 (i : Nat) : BufTy := match i % 128 with
  | 0 => ⟨S4096x1, .f32⟩
  | 1 => ⟨S_, .f32⟩
  | 2 => ⟨S4096, .f32⟩
  | 3 => ⟨S4096x4096, .f32⟩
  | 4 => ⟨S4096x4096, .f32⟩
  | 5 => ⟨S4096x8192, .f32⟩
  | 6 => ⟨S128x16, .f32⟩
  | 7 => ⟨S_, .i32⟩
  | 8 => ⟨S_, .f32⟩
  | 9 => ⟨S128x128, .f32⟩
  | 10 => ⟨S4096x8192, .f32⟩
  | 11 => ⟨S4096x8192, .bf16⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | .local _ .vmem, ⟨0, _⟩ => ⟨S4096x8192, .f32⟩
  | .local _ .vmem, ⟨1, _⟩ => ⟨S4096x8192, .f32⟩
  | .local _ .vmem, ⟨2, _⟩ => ⟨S4096x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_v31 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_0 : Ref sig .tc := ⟨.hbm, 53, rfl⟩
abbrev main_call0_v5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34_1 : Ref sig .tc := ⟨.hbm, 58, rfl⟩
abbrev main_call1_v1 : Ref sig .tc := ⟨.hbm, 59, rfl⟩
abbrev main_v34_0 : Ref sig .tc := ⟨.hbm, 60, rfl⟩
abbrev main_call1_cst : Ref sig .tc := ⟨.hbm, 61, rfl⟩
abbrev main_v34_2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call2_cst : Ref sig .tc := ⟨.hbm, 89, rfl⟩
abbrev main_call2_v0 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_13 : Ref sig .tc := ⟨.hbm, 110, rfl⟩
abbrev main_v74 : Ref sig .tc := ⟨.hbm, 111, rfl⟩
abbrev main_v75 : Ref sig .tc := ⟨.hbm, 112, rfl⟩
abbrev main_cst_14 : Ref sig .tc := ⟨.hbm, 113, rfl⟩
abbrev main_v76 : Ref sig .tc := ⟨.hbm, 114, rfl⟩
abbrev main_v77 : Ref sig .tc := ⟨.hbm, 115, rfl⟩
abbrev main_cst_15 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_17 : Ref sig .tc := ⟨.hbm, 126, rfl⟩
abbrev main_v86 : Ref sig .tc := ⟨.hbm, 127, rfl⟩
abbrev main_v87 : Ref sig .tc := ⟨.hbm, 128, rfl⟩
abbrev main_cst_18 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_19 : Ref sig .tc := ⟨.hbm, 135, rfl⟩
abbrev main_call3_v0 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "sqrt_half" => some (((Real.sqrt 2)⁻¹ : ℝ) : EReal)
  | "two_inv_sqrt_pi" => some ((2 * (Real.sqrt Real.pi)⁻¹ : ℝ) : EReal)
  | _ => none

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Swiglu.lean ====
abbrev S4096x2048 : Shape := ⟨2, ![4096, 2048]⟩
abbrev S4x2048x1408 : Shape := ⟨3, ![4, 2048, 1408]⟩
abbrev S4x1408x2048 : Shape := ⟨3, ![4, 1408, 2048]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S256x2048 : Shape := ⟨2, ![256, 2048]⟩
abbrev S1x1408x2048 : Shape := ⟨3, ![1, 1408, 2048]⟩
abbrev S256x1408 : Shape := ⟨2, ![256, 1408]⟩
abbrev S1408x2048 : Shape := ⟨2, ![1408, 2048]⟩

abbrev nBuf : Space → Nat
  | .hbm => 10
  | .vmem => 26
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4x1408x2048, .bf16⟩
  | .hbm, ⟨4, _⟩ => ⟨S4096x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .bf16⟩
  | .local _ .vmem, ⟨5, _⟩ => ⟨S512x2048, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S256x2048, .bf16⟩
  | .local _ .vmem, ⟨15, _⟩ => ⟨S256x2048, .bf16⟩
  | .local _ .vmem, ⟨16, _⟩ => ⟨S1x1408x2048, .bf16⟩
  | .local _ .vmem, ⟨17, _⟩ => ⟨S1x1408x2048, .bf16⟩
  | .local _ .vmem, ⟨18, _⟩ => ⟨S256x1408, .bf16⟩
  | .local _ .vmem, ⟨19, _⟩ => ⟨S256x1408, .bf16⟩
  | .local _ .vmem, ⟨20, _⟩ => ⟨S256x1408, .bf16⟩
  | .local _ .vmem, ⟨21, _⟩ => ⟨S256x1408, .bf16⟩
  | .local _ .vmem, ⟨22, _⟩ => ⟨S256x1408, .bf16⟩
  | .local _ .vmem, ⟨23, _⟩ => ⟨S256x1408, .bf16⟩
  | .local _ .vmem, ⟨24, _⟩ => ⟨S256x1408, .bf16⟩
  | .local _ .vmem, ⟨25, _⟩ => ⟨S256x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![4, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S256x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S256x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S256x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== SwigluRefIdeal.lean ====
abbrev S4096x2048 : Shape := ⟨2, ![4096, 2048]⟩
abbrev S4x2048x1408 : Shape := ⟨3, ![4, 2048, 1408]⟩
abbrev S4x1408x2048 : Shape := ⟨3, ![4, 1408, 2048]⟩
abbrev S2048x4x1408 : Shape := ⟨3, ![2048, 4, 1408]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4x1408x2048, .bf16⟩
  | .hbm, ⟨4, _⟩ => ⟨S4096x2048, .bf16⟩
  | .hbm, ⟨5, _⟩ => ⟨S2048x4x1408, .bf16⟩
  | .hbm, ⟨6, _⟩ => ⟨S2048x5632, .bf16⟩
  | .hbm, ⟨7, _⟩ => ⟨S2048x4x1408, .bf16⟩
  | .hbm, ⟨8, _⟩ => ⟨S2048x5632, .bf16⟩
  | .hbm, ⟨9, _⟩ => ⟨S5632x2048, .bf16⟩
  | .hbm, ⟨10, _⟩ => ⟨S4096x2048, .f32⟩
  | .hbm, ⟨11, _⟩ => ⟨S2048x5632, .f32⟩
  | .hbm, ⟨12, _⟩ => ⟨S2048x5632, .f32⟩
  | .hbm, ⟨13, _⟩ => ⟨S5632x2048, .f32⟩
  | .hbm, ⟨14, _⟩ => ⟨S4096x2048, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S_, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S_, .f32⟩
  | .hbm, ⟨48, _⟩ => ⟨S4096x5632, .f32⟩
  | .hbm, ⟨49, _⟩ => ⟨S4096x5632, .f32⟩
  | .hbm, ⟨50, _⟩ => ⟨S_, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .bf16⟩
  | .hbm, ⟨56, _⟩ => ⟨S4096x5632, .bf16⟩
  | .hbm, ⟨57, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v12_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v12_1 : Ref sig .tc := ⟨.hbm, 28, rfl⟩
abbrev main_v12_0 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== UpGrad.lean ====
abbrev S4096x2048 : Shape := ⟨2, ![4096, 2048]⟩
abbrev S4096x5632 : Shape := ⟨2, ![4096, 5632]⟩
abbrev S4x2048x1408 : Shape := ⟨3, ![4, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 5
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4x2048x1408, .bf16⟩
  | .hbm, ⟨4, _⟩ => ⟨S4x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S2048x512, .bf16⟩
  | .local _ .vmem, ⟨5, _⟩ => ⟨S2048x512, .bf16⟩
  | .local _ .vmem, ⟨6, _⟩ => ⟨S2048x1408, .bf16⟩
  | .local _ .vmem, ⟨7, _⟩ => ⟨S2048x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x512x1408, .bf16⟩
  | .local _ .vmem, ⟨12, _⟩ => ⟨S512x1408, .f32⟩
  | .local _ .vmem, ⟨13, _⟩ => ⟨S512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 2], ![false, false, false]⟩

def k0_cond5 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== UpGradRefIdeal.lean ====
abbrev S4096x2048 : Shape := ⟨2, ![4096, 2048]⟩
abbrev S4096x5632 : Shape := ⟨2, ![4096, 5632]⟩
abbrev S5632x2048 : Shape := ⟨2, ![5632, 2048]⟩
abbrev S2048x5632 : Shape := ⟨2, ![2048, 5632]⟩
abbrev S2048x4x1408 : Shape := ⟨3, ![2048, 4, 1408]⟩
abbrev S4x2048x1408 : Shape := ⟨3, ![4, 2048, 1408]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S5632x2048, .f32⟩
  | .hbm, ⟨7, _⟩ => ⟨S2048x5632, .f32⟩
  | .hbm, ⟨8, _⟩ => ⟨S2048x4x1408, .f32⟩
  | .hbm, ⟨9, _⟩ => ⟨S4x2048x1408, .f32⟩
  | .hbm, ⟨10, _⟩ => ⟨S5632x2048, .f32⟩
  | .hbm, ⟨11, _⟩ => ⟨S2048x5632, .f32⟩
  | .hbm, ⟨12, _⟩ => ⟨S2048x4x1408, .f32⟩
  | .hbm, ⟨13, _⟩ => ⟨S4x2048x1408, .f32⟩
  | .hbm, ⟨14, _⟩ => ⟨S4x2048x1408, .bf16⟩
  | .hbm, ⟨15, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== DownGrad.lean ====
abbrev S4096x5632 : Shape := ⟨2, ![4096, 5632]⟩
abbrev S4096x2048 : Shape := ⟨2, ![4096, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩
abbrev S4x1408x2048 : Shape := ⟨3, ![4, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4x1408x2048, .f32⟩
  | .hbm, ⟨10, _⟩ => ⟨S4x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== RowGrad.lean ====
abbrev S4096x5632 : Shape := ⟨2, ![4096, 5632]⟩
abbrev S4x2048x1408 : Shape := ⟨3, ![4, 2048, 1408]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x1408, .bf16⟩
  | .hbm, ⟨3, _⟩ => ⟨S4x2048x1408, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RowGradRefIdeal.lean ====
abbrev S4096x5632 : Shape := ⟨2, ![4096, 5632]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x1408, .bf16⟩
  | .hbm, ⟨3, _⟩ => ⟨S4x2048x1408, .bf16⟩
  | .hbm, ⟨4, _⟩ => ⟨S2048x4x1408, .bf16⟩
  | .hbm, ⟨5, _⟩ => ⟨S2048x5632, .bf16⟩
  | .hbm, ⟨6, _⟩ => ⟨S2048x4x1408, .bf16⟩
  | .hbm, ⟨7, _⟩ => ⟨S2048x5632, .bf16⟩
  | .hbm, ⟨8, _⟩ => ⟨S4096x5632, .f32⟩
  | .hbm, ⟨9, _⟩ => ⟨S4096x5632, .f32⟩
  | .hbm, ⟨10, _⟩ => ⟨S2048x5632, .f32⟩
  | .hbm, ⟨11, _⟩ => ⟨S2048x5632, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Down.lean ====
abbrev S4096x2048 : Shape := ⟨2, ![4096, 2048]⟩
abbrev S4096x5632 : Shape := ⟨2, ![4096, 5632]⟩
abbrev S4x1408x2048 : Shape := ⟨3, ![4, 1408, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S4x1408x2048, .bf16⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2048 : Shape := ⟨2, ![4096, 2048]⟩
abbrev S4096x5632 : Shape := ⟨2, ![4096, 5632]⟩
abbrev S4x1408x2048 : Shape := ⟨3, ![4, 1408, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S4x1408x2048, .bf16⟩
  | .hbm, ⟨3, _⟩ => ⟨S5632x2048, .bf16⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GmlpIn.lean ====
abbrev S4096x2048 : Shape := ⟨2, ![4096, 2048]⟩
abbrev S4x2048x2048 : Shape := ⟨3, ![4, 2048, 2048]⟩
abbrev S4096x8192 : Shape := ⟨2, ![4096, 8192]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg2
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpInRefIdeal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GmlpOut.lean ====
abbrev S4096x2048 : Shape := ⟨2, ![4096, 2048]⟩
abbrev S4096x4096 : Shape := ⟨2, ![4096, 4096]⟩
abbrev S4x1024x2048 : Shape := ⟨3, ![4, 1024, 2048]⟩
abbrev S1024x1024 : Shape := ⟨2, ![1024, 1024]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x4096, .bf16⟩
  | .hbm, ⟨2, _⟩ => ⟨S4x1024x2048, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GmlpOutRefIdeal.lean ====
abbrev S4096x2048 : Shape := ⟨2, ![4096, 2048]⟩
abbrev S4096x4096 : Shape := ⟨2, ![4096, 4096]⟩
abbrev S4x1024x2048 : Shape := ⟨3, ![4, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .bf16⟩
  | .hbm, ⟨2, _⟩ => ⟨S4x1024x2048, .bf16⟩
  | .hbm, ⟨3, _⟩ => ⟨S4096x2048, .bf16⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GatedGrad.lean ====
abbrev S4096x2048 : Shape := ⟨2, ![4096, 2048]⟩
abbrev S4x1024x2048 : Shape := ⟨3, ![4, 1024, 2048]⟩
abbrev S4096x4096 : Shape := ⟨2, ![4096, 4096]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x1024x2048, .bf16⟩
  | .hbm, ⟨2, _⟩ => ⟨S4096x4096, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatedGradRefIdeal.lean ====
abbrev S4096x2048 : Shape := ⟨2, ![4096, 2048]⟩
abbrev S4x1024x2048 : Shape := ⟨3, ![4, 1024, 2048]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x4096, .f32⟩
  | .hbm, ⟨6, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutGrad.lean ====
abbrev S4096x4096 : Shape := ⟨2, ![4096, 4096]⟩
abbrev S4096x2048 : Shape := ⟨2, ![4096, 2048]⟩
abbrev S4x1024x2048 : Shape := ⟨3, ![4, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRefIdeal.lean ====
abbrev S4096x4096 : Shape := ⟨2, ![4096, 4096]⟩
abbrev S4096x2048 : Shape := ⟨2, ![4096, 2048]⟩
abbrev S2048x4096 : Shape := ⟨2, ![2048, 4096]⟩
abbrev S4x1024x2048 : Shape := ⟨3, ![4, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S2048x4096, .f32⟩
  | .hbm, ⟨5, _⟩ => ⟨S4096x2048, .f32⟩
  | .hbm, ⟨6, _⟩ => ⟨S4x1024x2048, .f32⟩
  | .hbm, ⟨7, _⟩ => ⟨S4x1024x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InGrad.lean ====
abbrev S4096x2048 : Shape := ⟨2, ![4096, 2048]⟩
abbrev S4096x8192 : Shape := ⟨2, ![4096, 8192]⟩
abbrev S4x2048x2048 : Shape := ⟨3, ![4, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradRefIdeal.lean ====
abbrev S4096x2048 : Shape := ⟨2, ![4096, 2048]⟩
abbrev S4096x8192 : Shape := ⟨2, ![4096, 8192]⟩
abbrev S8192x2048 : Shape := ⟨2, ![8192, 2048]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S2048x4x2048, .f32⟩
  | .hbm, ⟨7, _⟩ => ⟨S4x2048x2048, .f32⟩
  | .hbm, ⟨8, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InRows.lean ====
abbrev S4096x8192 : Shape := ⟨2, ![4096, 8192]⟩
abbrev S4x2048x2048 : Shape := ⟨3, ![4, 2048, 2048]⟩
abbrev S4096x2048 : Shape := ⟨2, ![4096, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRowsRefIdeal.lean ====
abbrev S4096x8192 : Shape := ⟨2, ![4096, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S4096x8192, .f32⟩
  | .hbm, ⟨5, _⟩ => ⟨S2048x8192, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SquareGrad.lean ====
abbrev S4096x2048 : Shape := ⟨2, ![4096, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareGradRefIdeal.lean ====
abbrev S4096x2048 : Shape := ⟨2, ![4096, 2048]⟩
abbrev S2048x2048 : Shape := ⟨2, ![2048, 2048]⟩
abbrev S4x512x2048 : Shape := ⟨3, ![4, 512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4x512x2048, .f32⟩
  | .hbm, ⟨7, _⟩ => ⟨S4x512x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SquareRows.lean ====
abbrev S4096x2048 : Shape := ⟨2, ![4096, 2048]⟩
abbrev S4x512x2048 : Shape := ⟨3, ![4, 512, 2048]⟩
abbrev S512x2048 : Shape := ⟨2, ![512, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareRowsRefIdeal.lean ====
abbrev S4096x2048 : Shape := ⟨2, ![4096, 2048]⟩
abbrev S4x512x2048 : Shape := ⟨3, ![4, 512, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HeadRows.lean ====
abbrev S4096x2048 : Shape := ⟨2, ![4096, 2048]⟩
abbrev S4x512x2048 : Shape := ⟨3, ![4, 512, 2048]⟩
abbrev S512x2048 : Shape := ⟨2, ![512, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HeadRowsRefIdeal.lean ====
abbrev S4096x2048 : Shape := ⟨2, ![4096, 2048]⟩
abbrev S4x512x2048 : Shape := ⟨3, ![4, 512, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QkvRows.lean ====
abbrev S4096x2048 : Shape := ⟨2, ![4096, 2048]⟩
abbrev S4096x512 : Shape := ⟨2, ![4096, 512]⟩
abbrev S4x512x2048 : Shape := ⟨3, ![4, 512, 2048]⟩
abbrev S4x512x512 : Shape := ⟨3, ![4, 512, 512]⟩
abbrev S512x2048 : Shape := ⟨2, ![512, 2048]⟩
abbrev S512x512 : Shape := ⟨2, ![512, 512]⟩
abbrev S2048x2048 : Shape := ⟨2, ![2048, 2048]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4x512x2048, .bf16⟩
  | .hbm, ⟨3, _⟩ => ⟨S4x512x512, .bf16⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x512, .bf16⟩
  | .local _ .vmem, ⟨4, _⟩ => ⟨S512x512, .bf16⟩
  | .local _ .vmem, ⟨5, _⟩ => ⟨S4x512x512, .bf16⟩
  | .local _ .vmem, ⟨6, _⟩ => ⟨S512x2048, .f32⟩
  | .local _ .vmem, ⟨7, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== QkvRowsRefIdeal.lean ====
abbrev S4096x2048 : Shape := ⟨2, ![4096, 2048]⟩
abbrev S4096x512 : Shape := ⟨2, ![4096, 512]⟩
abbrev S4x512x2048 : Shape := ⟨3, ![4, 512, 2048]⟩
abbrev S4x512x512 : Shape := ⟨3, ![4, 512, 512]⟩
abbrev S2048x2048 : Shape := ⟨2, ![2048, 2048]⟩
abbrev S2048x512 : Shape := ⟨2, ![2048, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4x512x2048, .bf16⟩
  | .hbm, ⟨3, _⟩ => ⟨S4x512x512, .bf16⟩
  | .hbm, ⟨4, _⟩ => ⟨S2048x2048, .bf16⟩
  | .hbm, ⟨5, _⟩ => ⟨S2048x512, .bf16⟩
  | .hbm, ⟨6, _⟩ => ⟨S4096x2048, .f32⟩
  | .hbm, ⟨7, _⟩ => ⟨S4096x512, .f32⟩
  | .hbm, ⟨8, _⟩ => ⟨S2048x2048, .f32⟩
  | .hbm, ⟨9, _⟩ => ⟨S2048x512, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Ple.lean ====
abbrev S4096x2048 : Shape := ⟨2, ![4096, 2048]⟩
abbrev S4096x256 : Shape := ⟨2, ![4096, 256]⟩
abbrev S4x512x2048 : Shape := ⟨3, ![4, 512, 2048]⟩
abbrev S4x256x512 : Shape := ⟨3, ![4, 256, 512]⟩
abbrev S1024x2048 : Shape := ⟨2, ![1024, 2048]⟩
abbrev S4x512x512 : Shape := ⟨3, ![4, 512, 512]⟩
abbrev S1024x256 : Shape := ⟨2, ![1024, 256]⟩
abbrev S1x256x512 : Shape := ⟨3, ![1, 256, 512]⟩
abbrev S1024x512 : Shape := ⟨2, ![1024, 512]⟩
abbrev S2048x512 : Shape := ⟨2, ![2048, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x256, .f32⟩
  | .hbm, ⟨3, _⟩ => ⟨S4x512x2048, .bf16⟩
  | .hbm, ⟨4, _⟩ => ⟨S4x256x512, .bf16⟩
  | .hbm, ⟨5, _⟩ => ⟨S4096x2048, .f32⟩
  | .hbm, ⟨6, _⟩ => ⟨S4096x2048, .bf16⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S4x512x512, .bf16⟩
  | .local _ .vmem, ⟨3, _⟩ => ⟨S4x512x512, .bf16⟩
  | .local _ .vmem, ⟨4, _⟩ => ⟨S1024x256, .f32⟩
  | .local _ .vmem, ⟨5, _⟩ => ⟨S1024x256, .f32⟩
  | .local _ .vmem, ⟨6, _⟩ => ⟨S1x256x512, .bf16⟩
  | .local _ .vmem, ⟨7, _⟩ => ⟨S1x256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== PleRefIdeal.lean ====
abbrev S4096x2048 : Shape := ⟨2, ![4096, 2048]⟩
abbrev S4096x256 : Shape := ⟨2, ![4096, 256]⟩
abbrev S4x512x2048 : Shape := ⟨3, ![4, 512, 2048]⟩
abbrev S4x256x512 : Shape := ⟨3, ![4, 256, 512]⟩
abbrev S2048x2048 : Shape := ⟨2, ![2048, 2048]⟩
abbrev S256x4x512 : Shape := ⟨3, ![256, 4, 512]⟩
abbrev S256x2048 : Shape := ⟨2, ![256, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x256, .f32⟩
  | .hbm, ⟨3, _⟩ => ⟨S4x512x2048, .bf16⟩
  | .hbm, ⟨4, _⟩ => ⟨S4x256x512, .bf16⟩
  | .hbm, ⟨5, _⟩ => ⟨S2048x2048, .bf16⟩
  | .hbm, ⟨6, _⟩ => ⟨S256x4x512, .bf16⟩
  | .hbm, ⟨7, _⟩ => ⟨S256x2048, .bf16⟩
  | .hbm, ⟨8, _⟩ => ⟨S4096x2048, .f32⟩
  | .hbm, ⟨9, _⟩ => ⟨S2048x2048, .f32⟩
  | .hbm, ⟨10, _⟩ => ⟨S256x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | .hbm, ⟨24, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Project.lean ====
abbrev S4096x2048 : Shape := ⟨2, ![4096, 2048]⟩
abbrev S4x512x2048 : Shape := ⟨3, ![4, 512, 2048]⟩
abbrev S1x2048 : Shape := ⟨2, ![1, 2048]⟩
abbrev S512x2048 : Shape := ⟨2, ![512, 2048]⟩
abbrev S4x512x1024 : Shape := ⟨3, ![4, 512, 1024]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x512x2048, .bf16⟩
  | .hbm, ⟨3, _⟩ => ⟨S1x2048, .f32⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S4x512x1024, .bf16⟩
  | .local _ .vmem, ⟨3, _⟩ => ⟨S4x512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ProjectRefIdeal.lean ====
abbrev S4096x2048 : Shape := ⟨2, ![4096, 2048]⟩
abbrev S4x512x2048 : Shape := ⟨3, ![4, 512, 2048]⟩
abbrev S1x2048 : Shape := ⟨2, ![1, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x512x2048, .bf16⟩
  | .hbm, ⟨3, _⟩ => ⟨S1x2048, .f32⟩
  | .hbm, ⟨4, _⟩ => ⟨S2048x2048, .bf16⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KvGrad.lean ====
abbrev S4096x2048 : Shape := ⟨2, ![4096, 2048]⟩
abbrev S4096x512 : Shape := ⟨2, ![4096, 512]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvGradRefIdeal.lean ====
abbrev S4096x2048 : Shape := ⟨2, ![4096, 2048]⟩
abbrev S4096x512 : Shape := ⟨2, ![4096, 512]⟩
abbrev S512x2048 : Shape := ⟨2, ![512, 2048]⟩
abbrev S2048x512 : Shape := ⟨2, ![2048, 512]⟩
abbrev S4x512x512 : Shape := ⟨3, ![4, 512, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x2048, .f32⟩
  | .hbm, ⟨3, _⟩ => ⟨S4096x512, .f32⟩
  | .hbm, ⟨4, _⟩ => ⟨S512x2048, .f32⟩
  | .hbm, ⟨5, _⟩ => ⟨S2048x512, .f32⟩
  | .hbm, ⟨6, _⟩ => ⟨S4x512x512, .f32⟩
  | .hbm, ⟨7, _⟩ => ⟨S4x512x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== EmbedSlope.lean ====
abbrev S4096x2048 : Shape := ⟨2, ![4096, 2048]⟩
abbrev S_ : Shape := ⟨0, ![]⟩
abbrev S512x2048 : Shape := ⟨2, ![512, 2048]⟩

abbrev nBuf : Space → Nat
  | .hbm => 14
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S4096x2048, .bf16⟩
  | .hbm, ⟨13, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EmbedSlopeRefIdeal.lean ====
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== EmbedGrad.lean ====
abbrev S4096x256 : Shape := ⟨2, ![4096, 256]⟩
abbrev S4096x2048 : Shape := ⟨2, ![4096, 2048]⟩
abbrev S4x256x512 : Shape := ⟨3, ![4, 256, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S4x256x512, .bf16⟩
  | .local _ .vmem, ⟨0, _⟩ => ⟨S2048x256, .f32⟩
  | .local _ .vmem, ⟨1, _⟩ => ⟨S2048x256, .f32⟩
  | .local _ .vmem, ⟨2, _⟩ => ⟨S2048x512, .bf16⟩
  | .local _ .vmem, ⟨3, _⟩ => ⟨S2048x512, .bf16⟩
  | .local _ .vmem, ⟨4, _⟩ => ⟨S1x256x512, .bf16⟩
  | .local _ .vmem, ⟨5, _⟩ => ⟨S1x256x512, .bf16⟩
  | .local _ .vmem, ⟨6, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== EmbedGradRefIdeal.lean ====
abbrev S4096x256 : Shape := ⟨2, ![4096, 256]⟩
abbrev S4096x2048 : Shape := ⟨2, ![4096, 2048]⟩
abbrev S2048x256 : Shape := ⟨2, ![2048, 256]⟩
abbrev S256x2048 : Shape := ⟨2, ![256, 2048]⟩
abbrev S256x4x512 : Shape := ⟨3, ![256, 4, 512]⟩
abbrev S4x256x512 : Shape := ⟨3, ![4, 256, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S4096x2048, .f32⟩
  | .hbm, ⟨3, _⟩ => ⟨S2048x256, .f32⟩
  | .hbm, ⟨4, _⟩ => ⟨S256x2048, .f32⟩
  | .hbm, ⟨5, _⟩ => ⟨S256x4x512, .f32⟩
  | .hbm, ⟨6, _⟩ => ⟨S4x256x512, .f32⟩
  | .hbm, ⟨7, _⟩ => ⟨S4x256x512, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormGrad.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Query.lean ====
abbrev S4096x2048 : Shape := ⟨2, ![4096, 2048]⟩
abbrev S4x512x2048 : Shape := ⟨3, ![4, 512, 2048]⟩
abbrev S1x2048 : Shape := ⟨2, ![1, 2048]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S512x2048 : Shape := ⟨2, ![512, 2048]⟩
abbrev S4x512x1024 : Shape := ⟨3, ![4, 512, 1024]⟩
abbrev S1x1024 : Shape := ⟨2, ![1, 1024]⟩
abbrev S512x128 : Shape := ⟨2, ![512, 128]⟩
abbrev S512x1024 : Shape := ⟨2, ![512, 1024]⟩
abbrev S2048x1024 : Shape := ⟨2, ![2048, 1024]⟩

abbrev nBuf : Space → Nat
  | .hbm => 45
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S1x2048, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096x48, .f32⟩
  | .hbm, ⟨27, _⟩ => ⟨S_, .f32⟩
  | .hbm, ⟨28, _⟩ => ⟨S4096x48, .f32⟩
  | .hbm, ⟨29, _⟩ => ⟨S_, .f32⟩
  | .hbm, ⟨30, _⟩ => ⟨S4096x8, .f32⟩
  | .hbm, ⟨31, _⟩ => ⟨S4096x64, .f32⟩
  | .hbm, ⟨32, _⟩ => ⟨S4096x8, .f32⟩
  | .hbm, ⟨33, _⟩ => ⟨S4096x64, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S1x4096x1x64, .f32⟩
  | .hbm, ⟨42, _⟩ => ⟨S1x4096x2x64, .f32⟩
  | .hbm, ⟨43, _⟩ => ⟨S4096x128, .f32⟩
  | .hbm, ⟨44, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S4x512x1024, .bf16⟩
  | .local _ .vmem, ⟨3, _⟩ => ⟨S4x512x1024, .bf16⟩
  | .local _ .vmem, ⟨4, _⟩ => ⟨S1x1024, .f32⟩
  | .local _ .vmem, ⟨5, _⟩ => ⟨S1x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== QueryRefIdeal.lean ====
abbrev S4096x2048 : Shape := ⟨2, ![4096, 2048]⟩
abbrev S4x512x2048 : Shape := ⟨3, ![4, 512, 2048]⟩
abbrev S1x2048 : Shape := ⟨2, ![1, 2048]⟩
abbrev S2048x2048 : Shape := ⟨2, ![2048, 2048]⟩
abbrev S4096x32x64 : Shape := ⟨3, ![4096, 32, 64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x32x8 : Shape := ⟨3, ![4096, 32, 8]⟩
abbrev S4096x32x48 : Shape := ⟨3, ![4096, 32, 48]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S1x2048, .f32⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x32x64, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S4096, .f32⟩
  | .hbm, ⟨25, _⟩ => ⟨S4096x1, .f32⟩
  | .hbm, ⟨26, _⟩ => ⟨S1x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x1x8, .f32⟩
  | .hbm, ⟨33, _⟩ => ⟨S4096x1x8, .f32⟩
  | .hbm, ⟨34, _⟩ => ⟨S4096x32x8, .f32⟩
  | .hbm, ⟨35, _⟩ => ⟨S4096x32x8, .f32⟩
  | .hbm, ⟨36, _⟩ => ⟨S4096x32x8, .f32⟩
  | .hbm, ⟨37, _⟩ => ⟨S4096x32x8, .f32⟩
  | .hbm, ⟨38, _⟩ => ⟨S4096x32x8, .f32⟩
  | .hbm, ⟨39, _⟩ => ⟨S4096x32x8, .f32⟩
  | .hbm, ⟨40, _⟩ => ⟨S4096x32x8, .f32⟩
  | .hbm, ⟨41, _⟩ => ⟨S4096x32x8, .f32⟩
  | .hbm, ⟨42, _⟩ => ⟨S4096x32x8, .f32⟩
  | .hbm, ⟨43, _⟩ => ⟨S4096x32x8, .f32⟩
  | .hbm, ⟨44, _⟩ => ⟨S4096x32x8, .f32⟩
  | .hbm, ⟨45, _⟩ => ⟨S4096x32x8, .f32⟩
  | .hbm, ⟨46, _⟩ => ⟨S4096x32x48, .f32⟩
  | .hbm, ⟨47, _⟩ => ⟨S4096x32x64, .f32⟩
  | .hbm, ⟨48, _⟩ => ⟨S4096x2048, .f32⟩
  | .hbm, ⟨49, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩

abbrev nD : Nat := 1
abbrev τ : Topo := Topo.v7x

variable {F : FTy → Type} [FloatOps F]
-- ==== Keys.lean ====
abbrev S4096x2048 : Shape := ⟨2, ![4096, 2048]⟩
abbrev S4x512x512 : Shape := ⟨3, ![4, 512, 512]⟩
abbrev S1x512 : Shape := ⟨2, ![1, 512]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S4096x512 : Shape := ⟨2, ![4096, 512]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 54
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S1x512, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096x48, .f32⟩
  | .hbm, ⟨27, _⟩ => ⟨S_, .f32⟩
  | .hbm, ⟨28, _⟩ => ⟨S4096x48, .f32⟩
  | .hbm, ⟨29, _⟩ => ⟨S_, .f32⟩
  | .hbm, ⟨30, _⟩ => ⟨S4096x8, .f32⟩
  | .hbm, ⟨31, _⟩ => ⟨S4096x64, .f32⟩
  | .hbm, ⟨32, _⟩ => ⟨S4096x8, .f32⟩
  | .hbm, ⟨33, _⟩ => ⟨S4096x64, .f32⟩
  | .hbm, ⟨34, _⟩ => ⟨S4096x64, .f32⟩
  | .hbm, ⟨35, _⟩ => ⟨S1x4096x1x64, .f32⟩
  | .hbm, ⟨36, _⟩ => ⟨S1x4096x4x64, .f32⟩
  | .hbm, ⟨37, _⟩ => ⟨S4096x256, .f32⟩
  | .hbm, ⟨38, _⟩ => ⟨S_, .f32⟩
  | .hbm, ⟨39, _⟩ => ⟨S4096x256, .f32⟩
  | .hbm, ⟨40, _⟩ => ⟨S4096x512, .f32⟩
  | .hbm, ⟨41, _⟩ => ⟨S1x4096x1x64, .f32⟩
  | .hbm, ⟨42, _⟩ => ⟨S1x4096x4x64, .f32⟩
  | .hbm, ⟨43, _⟩ => ⟨S4096x256, .f32⟩
  | .hbm, ⟨44, _⟩ => ⟨S_, .f32⟩
  | .hbm, ⟨45, _⟩ => ⟨S4096x256, .f32⟩
  | .hbm, ⟨46, _⟩ => ⟨S4096x512, .f32⟩
  | .hbm, ⟨47, _⟩ => ⟨S1x4096x1x64, .f32⟩
  | .hbm, ⟨48, _⟩ => ⟨S1x4096x4x64, .f32⟩
  | .hbm, ⟨49, _⟩ => ⟨S4096x256, .f32⟩
  | .hbm, ⟨50, _⟩ => ⟨S_, .f32⟩
  | .hbm, ⟨51, _⟩ => ⟨S4096x256, .f32⟩
  | .hbm, ⟨52, _⟩ => ⟨S4096x512, .f32⟩
  | .hbm, ⟨53, _⟩ => ⟨S4096x512, .bf16⟩
  | .local _ .vmem, ⟨0, _⟩ => ⟨S512x2048, .bf16⟩
  | .local _ .vmem, ⟨1, _⟩ => ⟨S512x2048, .bf16⟩
  | .local _ .vmem, ⟨2, _⟩ => ⟨S4x512x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KeysRefIdeal.lean ====
abbrev S4096x2048 : Shape := ⟨2, ![4096, 2048]⟩
abbrev S4x512x512 : Shape := ⟨3, ![4, 512, 512]⟩
abbrev S1x512 : Shape := ⟨2, ![1, 512]⟩
abbrev S2048x512 : Shape := ⟨2, ![2048, 512]⟩
abbrev S4096x512 : Shape := ⟨2, ![4096, 512]⟩
abbrev S4096x256 : Shape := ⟨2, ![4096, 256]⟩
abbrev S4096x4x64 : Shape := ⟨3, ![4096, 4, 64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x4x8 : Shape := ⟨3, ![4096, 4, 8]⟩
abbrev S4096x4x48 : Shape := ⟨3, ![4096, 4, 48]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S1x512, .f32⟩
  | .hbm, ⟨3, _⟩ => ⟨S2048x512, .bf16⟩
  | .hbm, ⟨4, _⟩ => ⟨S4096x2048, .f32⟩
  | .hbm, ⟨5, _⟩ => ⟨S2048x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x256, .f32⟩
  | .hbm, ⟨10, _⟩ => ⟨S4096x4x64, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S4096, .f32⟩
  | .hbm, ⟨26, _⟩ => ⟨S4096x1, .f32⟩
  | .hbm, ⟨27, _⟩ => ⟨S1x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x1x8, .f32⟩
  | .hbm, ⟨34, _⟩ => ⟨S4096x1x8, .f32⟩
  | .hbm, ⟨35, _⟩ => ⟨S4096x4x8, .f32⟩
  | .hbm, ⟨36, _⟩ => ⟨S4096x4x8, .f32⟩
  | .hbm, ⟨37, _⟩ => ⟨S4096x4x8, .f32⟩
  | .hbm, ⟨38, _⟩ => ⟨S4096x4x8, .f32⟩
  | .hbm, ⟨39, _⟩ => ⟨S4096x4x8, .f32⟩
  | .hbm, ⟨40, _⟩ => ⟨S4096x4x8, .f32⟩
  | .hbm, ⟨41, _⟩ => ⟨S4096x4x8, .f32⟩
  | .hbm, ⟨42, _⟩ => ⟨S4096x4x8, .f32⟩
  | .hbm, ⟨43, _⟩ => ⟨S4096x4x8, .f32⟩
  | .hbm, ⟨44, _⟩ => ⟨S4096x4x8, .f32⟩
  | .hbm, ⟨45, _⟩ => ⟨S4096x4x8, .f32⟩
  | .hbm, ⟨46, _⟩ => ⟨S4096x4x8, .f32⟩
  | .hbm, ⟨47, _⟩ => ⟨S4096x4x48, .f32⟩
  | .hbm, ⟨48, _⟩ => ⟨S4096x4x64, .f32⟩
  | .hbm, ⟨49, _⟩ => ⟨S4096x256, .f32⟩
  | .hbm, ⟨50, _⟩ => ⟨S4096x256, .f32⟩
  | .hbm, ⟨51, _⟩ => ⟨S4096x512, .f32⟩
  | .hbm, ⟨52, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== Unturn.lean ====
abbrev S4096x2048 : Shape := ⟨2, ![4096, 2048]⟩
abbrev S4096x512 : Shape := ⟨2, ![4096, 512]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x4x64 : Shape := ⟨4, ![1, 4096, 4, 64]⟩
abbrev S4096x256 : Shape := ⟨2, ![4096, 256]⟩
abbrev S1x2048 : Shape := ⟨2, ![1, 2048]⟩
abbrev S1x512 : Shape := ⟨2, ![1, 512]⟩
abbrev S128x2048 : Shape := ⟨2, ![128, 2048]⟩
abbrev S128x512 : Shape := ⟨2, ![128, 512]⟩
abbrev S128x128 : Shape := ⟨2, ![128, 128]⟩
abbrev S2048 : Shape := ⟨1, ![2048]⟩
abbrev S512 : Shape := ⟨1, ![512]⟩

abbrev nBuf : Space → Nat
  | .hbm => 98
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S4096x512, .f32⟩
  | .hbm, ⟨2, _⟩ => ⟨S4096x512, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096x48, .f32⟩
  | .hbm, ⟨27, _⟩ => ⟨S_, .f32⟩
  | .hbm, ⟨28, _⟩ => ⟨S4096x48, .f32⟩
  | .hbm, ⟨29, _⟩ => ⟨S_, .f32⟩
  | .hbm, ⟨30, _⟩ => ⟨S4096x8, .f32⟩
  | .hbm, ⟨31, _⟩ => ⟨S4096x64, .f32⟩
  | .hbm, ⟨32, _⟩ => ⟨S4096x8, .f32⟩
  | .hbm, ⟨33, _⟩ => ⟨S4096x64, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S1x4096x1x64, .f32⟩
  | .hbm, ⟨42, _⟩ => ⟨S1x4096x2x64, .f32⟩
  | .hbm, ⟨43, _⟩ => ⟨S4096x128, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S4096, .f32⟩
  | .hbm, ⟨59, _⟩ => ⟨S4096x1, .f32⟩
  | .hbm, ⟨60, _⟩ => ⟨S1x8, .f32⟩
  | .hbm, ⟨61, _⟩ => ⟨S4096x8, .f32⟩
  | .hbm, ⟨62, _⟩ => ⟨S4096x8, .f32⟩
  | .hbm, ⟨63, _⟩ => ⟨S4096x8, .f32⟩
  | .hbm, ⟨64, _⟩ => ⟨S4096x8, .f32⟩
  | .hbm, ⟨65, _⟩ => ⟨S4096x8, .f32⟩
  | .hbm, ⟨66, _⟩ => ⟨S_, .f32⟩
  | .hbm, ⟨67, _⟩ => ⟨S4096x48, .f32⟩
  | .hbm, ⟨68, _⟩ => ⟨S_, .f32⟩
  | .hbm, ⟨69, _⟩ => ⟨S4096x48, .f32⟩
  | .hbm, ⟨70, _⟩ => ⟨S_, .f32⟩
  | .hbm, ⟨71, _⟩ => ⟨S4096x8, .f32⟩
  | .hbm, ⟨72, _⟩ => ⟨S4096x64, .f32⟩
  | .hbm, ⟨73, _⟩ => ⟨S4096x8, .f32⟩
  | .hbm, ⟨74, _⟩ => ⟨S4096x64, .f32⟩
  | .hbm, ⟨75, _⟩ => ⟨S4096x64, .f32⟩
  | .hbm, ⟨76, _⟩ => ⟨S1x4096x1x64, .f32⟩
  | .hbm, ⟨77, _⟩ => ⟨S1x4096x4x64, .f32⟩
  | .hbm, ⟨78, _⟩ => ⟨S4096x256, .f32⟩
  | .hbm, ⟨79, _⟩ => ⟨S_, .f32⟩
  | .hbm, ⟨80, _⟩ => ⟨S4096x256, .f32⟩
  | .hbm, ⟨81, _⟩ => ⟨S4096x512, .f32⟩
  | .hbm, ⟨82, _⟩ => ⟨S1x4096x1x64, .f32⟩
  | .hbm, ⟨83, _⟩ => ⟨S1x4096x4x64, .f32⟩
  | .hbm, ⟨84, _⟩ => ⟨S4096x256, .f32⟩
  | .hbm, ⟨85, _⟩ => ⟨S_, .f32⟩
  | .hbm, ⟨86, _⟩ => ⟨S4096x256, .f32⟩
  | .hbm, ⟨87, _⟩ => ⟨S4096x512, .f32⟩
  | .hbm, ⟨88, _⟩ => ⟨S1x4096x1x64, .f32⟩
  | .hbm, ⟨89, _⟩ => ⟨S1x4096x4x64, .f32⟩
  | .hbm, ⟨90, _⟩ => ⟨S4096x256, .f32⟩
  | .hbm, ⟨91, _⟩ => ⟨S_, .f32⟩
  | .hbm, ⟨92, _⟩ => ⟨S4096x256, .f32⟩
  | .hbm, ⟨93, _⟩ => ⟨S4096x512, .f32⟩
  | .hbm, ⟨94, _⟩ => ⟨S4096x2048, .bf16⟩
  | .hbm, ⟨95, _⟩ => ⟨S4096x512, .bf16⟩
  | .hbm, ⟨96, _⟩ => ⟨S1x2048, .f32⟩
  | .hbm, ⟨97, _⟩ => ⟨S1x512, .f32⟩
  | .local _ .vmem, ⟨0, _⟩ => ⟨S128x2048, .bf16⟩
  | .local _ .vmem, ⟨1, _⟩ => ⟨S128x2048, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x2048, .bf16⟩
  | .local _ .vmem, ⟨19, _⟩ => ⟨S128x2048, .bf16⟩
  | .local _ .vmem, ⟨20, _⟩ => ⟨S128x512, .bf16⟩
  | .local _ .vmem, ⟨21, _⟩ => ⟨S128x512, .bf16⟩
  | .local _ .vmem, ⟨22, _⟩ => ⟨S1x2048, .f32⟩
  | .local _ .vmem, ⟨23, _⟩ => ⟨S1x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_v74_0 : Ref sig .tc := ⟨.hbm, 94, rfl⟩
abbrev main_v74_1 : Ref sig .tc := ⟨.hbm, 95, rfl⟩
abbrev main_v74_2 : Ref sig .tc := ⟨.hbm, 96, rfl⟩
abbrev main_v74_3 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== UnturnRefIdeal.lean ====
abbrev S4096x2048 : Shape := ⟨2, ![4096, 2048]⟩
abbrev S4096x512 : Shape := ⟨2, ![4096, 512]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x32x64 : Shape := ⟨3, ![4096, 32, 64]⟩
abbrev S4096x32x8 : Shape := ⟨3, ![4096, 32, 8]⟩
abbrev S4096x32x48 : Shape := ⟨3, ![4096, 32, 48]⟩
abbrev S2048 : Shape := ⟨1, ![2048]⟩
abbrev S1x2048 : Shape := ⟨2, ![1, 2048]⟩
abbrev S1x128x512 : Shape := ⟨3, ![1, 128, 512]⟩
abbrev S32x128x512 : Shape := ⟨3, ![32, 128, 512]⟩
abbrev S31x128x512 : Shape := ⟨3, ![31, 128, 512]⟩
abbrev S4096x256 : Shape := ⟨2, ![4096, 256]⟩
abbrev S4096x4x64 : Shape := ⟨3, ![4096, 4, 64]⟩
abbrev S4096x4x8 : Shape := ⟨3, ![4096, 4, 8]⟩
abbrev S4096x4x48 : Shape := ⟨3, ![4096, 4, 48]⟩
abbrev S512 : Shape := ⟨1, ![512]⟩
abbrev S1x512 : Shape := ⟨2, ![1, 512]⟩

abbrev nBuf : Space → Nat
  | .hbm => 124
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .f32⟩
  | .hbm, ⟨2, _⟩ => ⟨S4096x512, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x1x8, .f32⟩
  | .hbm, ⟨26, _⟩ => ⟨S4096x1x8, .f32⟩
  | .hbm, ⟨27, _⟩ => ⟨S4096x2048, .f32⟩
  | .hbm, ⟨28, _⟩ => ⟨S4096x32x64, .f32⟩
  | .hbm, ⟨29, _⟩ => ⟨S4096x32x8, .f32⟩
  | .hbm, ⟨30, _⟩ => ⟨S4096x32x8, .f32⟩
  | .hbm, ⟨31, _⟩ => ⟨S4096x32x48, .f32⟩
  | .hbm, ⟨32, _⟩ => ⟨S_, .f32⟩
  | .hbm, ⟨33, _⟩ => ⟨S4096x32x64, .f32⟩
  | .hbm, ⟨34, _⟩ => ⟨S4096x32x8, .f32⟩
  | .hbm, ⟨35, _⟩ => ⟨S4096x32x8, .f32⟩
  | .hbm, ⟨36, _⟩ => ⟨S4096x32x8, .f32⟩
  | .hbm, ⟨37, _⟩ => ⟨S4096x32x8, .f32⟩
  | .hbm, ⟨38, _⟩ => ⟨S4096x32x8, .f32⟩
  | .hbm, ⟨39, _⟩ => ⟨S4096x32x8, .f32⟩
  | .hbm, ⟨40, _⟩ => ⟨S4096x32x8, .f32⟩
  | .hbm, ⟨41, _⟩ => ⟨S4096x32x8, .f32⟩
  | .hbm, ⟨42, _⟩ => ⟨S4096x32x8, .f32⟩
  | .hbm, ⟨43, _⟩ => ⟨S4096x32x8, .f32⟩
  | .hbm, ⟨44, _⟩ => ⟨S4096x32x8, .f32⟩
  | .hbm, ⟨45, _⟩ => ⟨S_, .f32⟩
  | .hbm, ⟨46, _⟩ => ⟨S4096x32x64, .f32⟩
  | .hbm, ⟨47, _⟩ => ⟨S4096x32x64, .f32⟩
  | .hbm, ⟨48, _⟩ => ⟨S_, .f32⟩
  | .hbm, ⟨49, _⟩ => ⟨S4096x32x64, .f32⟩
  | .hbm, ⟨50, _⟩ => ⟨S4096x32x64, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S4096, .f32⟩
  | .hbm, ⟨70, _⟩ => ⟨S4096x1, .f32⟩
  | .hbm, ⟨71, _⟩ => ⟨S1x8, .f32⟩
  | .hbm, ⟨72, _⟩ => ⟨S4096x8, .f32⟩
  | .hbm, ⟨73, _⟩ => ⟨S4096x8, .f32⟩
  | .hbm, ⟨74, _⟩ => ⟨S4096x8, .f32⟩
  | .hbm, ⟨75, _⟩ => ⟨S4096x8, .f32⟩
  | .hbm, ⟨76, _⟩ => ⟨S4096x8, .f32⟩
  | .hbm, ⟨77, _⟩ => ⟨S4096x1x8, .f32⟩
  | .hbm, ⟨78, _⟩ => ⟨S4096x1x8, .f32⟩
  | .hbm, ⟨79, _⟩ => ⟨S_, .f32⟩
  | .hbm, ⟨80, _⟩ => ⟨S1x128x512, .f32⟩
  | .hbm, ⟨81, _⟩ => ⟨S32x128x512, .f32⟩
  | .hbm, ⟨82, _⟩ => ⟨S1x128x512, .f32⟩
  | .hbm, ⟨83, _⟩ => ⟨S31x128x512, .f32⟩
  | .hbm, ⟨84, _⟩ => ⟨S_, .f32⟩
  | .hbm, ⟨85, _⟩ => ⟨S32x128x512, .f32⟩
  | .hbm, ⟨86, _⟩ => ⟨S4096x512, .f32⟩
  | .hbm, ⟨87, _⟩ => ⟨S4096x512, .f32⟩
  | .hbm, ⟨88, _⟩ => ⟨S4096x256, .f32⟩
  | .hbm, ⟨89, _⟩ => ⟨S4096x256, .f32⟩
  | .hbm, ⟨90, _⟩ => ⟨S_, .f32⟩
  | .hbm, ⟨91, _⟩ => ⟨S4096x512, .f32⟩
  | .hbm, ⟨92, _⟩ => ⟨S4096x4x64, .f32⟩
  | .hbm, ⟨93, _⟩ => ⟨S4096x4x8, .f32⟩
  | .hbm, ⟨94, _⟩ => ⟨S4096x4x8, .f32⟩
  | .hbm, ⟨95, _⟩ => ⟨S4096x4x48, .f32⟩
  | .hbm, ⟨96, _⟩ => ⟨S_, .f32⟩
  | .hbm, ⟨97, _⟩ => ⟨S4096x4x64, .f32⟩
  | .hbm, ⟨98, _⟩ => ⟨S4096x4x8, .f32⟩
  | .hbm, ⟨99, _⟩ => ⟨S4096x4x8, .f32⟩
  | .hbm, ⟨100, _⟩ => ⟨S4096x4x8, .f32⟩
  | .hbm, ⟨101, _⟩ => ⟨S4096x4x8, .f32⟩
  | .hbm, ⟨102, _⟩ => ⟨S4096x4x8, .f32⟩
  | .hbm, ⟨103, _⟩ => ⟨S4096x4x8, .f32⟩
  | .hbm, ⟨104, _⟩ => ⟨S4096x4x8, .f32⟩
  | .hbm, ⟨105, _⟩ => ⟨S4096x4x8, .f32⟩
  | .hbm, ⟨106, _⟩ => ⟨S4096x4x8, .f32⟩
  | .hbm, ⟨107, _⟩ => ⟨S4096x4x8, .f32⟩
  | .hbm, ⟨108, _⟩ => ⟨S4096x4x8, .f32⟩
  | .hbm, ⟨109, _⟩ => ⟨S_, .f32⟩
  | .hbm, ⟨110, _⟩ => ⟨S4096x4x64, .f32⟩
  | .hbm, ⟨111, _⟩ => ⟨S4096x4x64, .f32⟩
  | .hbm, ⟨112, _⟩ => ⟨S_, .f32⟩
  | .hbm, ⟨113, _⟩ => ⟨S4096x4x64, .f32⟩
  | .hbm, ⟨114, _⟩ => ⟨S4096x4x64, .f32⟩
  | .hbm, ⟨115, _⟩ => ⟨S4096x256, .f32⟩
  | .hbm, ⟨116, _⟩ => ⟨S_, .f32⟩
  | .hbm, ⟨117, _⟩ => ⟨S4096x512, .f32⟩
  | .hbm, ⟨118, _⟩ => ⟨S4096x512, .f32⟩
  | .hbm, ⟨119, _⟩ => ⟨S_, .f32⟩
  | .hbm, ⟨120, _⟩ => ⟨S512, .f32⟩
  | .hbm, ⟨121, _⟩ => ⟨S1x512, .f32⟩
  | .hbm, ⟨122, _⟩ => ⟨S4096x2048, .bf16⟩
  | .hbm, ⟨123, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_13 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_14 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_15 : Ref sig .tc := ⟨.hbm, 109, rfl⟩
abbrev main_v90 : Ref sig .tc := ⟨.hbm, 110, rfl⟩
abbrev main_v91 : Ref sig .tc := ⟨.hbm, 111, rfl⟩
abbrev main_cst_16 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_17 : Ref sig .tc := ⟨.hbm, 116, rfl⟩
abbrev main_v95 : Ref sig .tc := ⟨.hbm, 117, rfl⟩
abbrev main_v96 : Ref sig .tc := ⟨.hbm, 118, rfl⟩
abbrev main_cst_18 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .bf16⟩
  | .hbm, ⟨69, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== ColumnSum.lean ====
abbrev S4096x2048 : Shape := ⟨2, ![4096, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 2
  | .vmem => 3
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ColumnSumRefIdeal.lean ====
abbrev S4096x2048 : Shape := ⟨2, ![4096, 2048]⟩
abbrev S_ : Shape := ⟨0, ![]⟩
abbrev S2048 : Shape := ⟨1, ![2048]⟩
abbrev S1x2048 : Shape := ⟨2, ![1, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S2048, .f32⟩
  | .hbm, ⟨3, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Group.lean ====
/-
  The kernel's body at one grid point, as functions of the blocks it loads.

  A point holds 128 rows; its body runs sixteen groups of 256 columns with the same text, then the rows' layer
  normalisation backwards. Here the group's values are written once, for a group number `g`, and the lists of stores
  the body's run records (`Gen.kernelRun0_A` at the first point, `Gen.kernelRun0_B` at the others) are shown to be
  the lists of those values. Everything in this file holds for any reading of the floats.
-/
module

public import proofs.«01_k».proof.Proof.Gen.KernelIdeal.Value
public import Idealize.ShloMosaic.Lib.WholeRead
public import Idealize.ShloMosaic.Lib.VecWindow

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-! ### Where a group lies -/

/-- Group `g`'s 256 columns lie inside the 4096. -/
theorem cols_inb (g : Fin 16) : ∀ a, (![0, 256 * g.val]) a + S128x256.size a ≤ S128x4096.size a := by
  intro a
  have := g.isLt
  match a with
  | ⟨0, _⟩ => show 0 + 128 ≤ 128; omega
  | ⟨1, _⟩ => show 256 * g.val + 256 ≤ 4096; omega

/-- They lie inside the 8192 columns of the result as well. -/
theorem wide_inb (g : Fin 16) : ∀ a, (![0, 256 * g.val]) a + S128x256.size a ≤ S128x8192.size a := by
  intro a
  have := g.isLt
  match a with
  | ⟨0, _⟩ => show 0 + 128 ≤ 128; omega
  | ⟨1, _⟩ => show 256 * g.val + 256 ≤ 8192; omega

/-- Group `g`'s mixing matrix lies inside the sixteen. -/
theorem mat_inb (g : Fin 16) : ∀ a, (![g.val, 0, 0]) a + S1x128x128.size a ≤ S16x128x128.size a := by
  intro a
  have := g.isLt
  match a with
  | ⟨0, _⟩ => show g.val + 1 ≤ 16; omega
  | ⟨1, _⟩ => show 0 + 128 ≤ 128; omega
  | ⟨2, _⟩ => show 0 + 128 ≤ 128; omega

/-- Group `g`'s column of the bias block lies inside its 128 lanes. -/
theorem lane_inb (g : Fin 16) : ∀ a, (![0, g.val]) a + S128x1.size a ≤ S128x128.size a := by
  intro a
  have := g.isLt
  match a with
  | ⟨0, _⟩ => show 0 + 128 ≤ 128; omega
  | ⟨1, _⟩ => show g.val + 1 ≤ 128; omega

theorem cols_slices (g : Fin 16) : S128x4096.Slices ![0, 256 * g.val] S128x256 := ⟨rfl, cols_inb g⟩
theorem lane_slices (g : Fin 16) : S128x128.Slices ![0, g.val] S128x1 := ⟨rfl, lane_inb g⟩

/-- Group `g`'s columns of a block of 4096. -/
def cols {α : Type} (g : Fin 16) (x : S128x4096.Idx → α) : S128x256.Idx → α :=
  extractStridedSlice S128x256 ![0, 256 * g.val] x (cols_slices g)

/-- Group `g`'s matrix of the sixteen. -/
def mat {α : Type} (g : Fin 16) (x : S16x128x128.Idx → α) : S1x128x128.Idx → α :=
  fun j => x ((Rect.unit (s := S16x128x128) ![g.val, 0, 0] S1x128x128.size (mat_inb g)).emb j)

/-! ### A group's values -/

/-- The slope of the GELU at every element of a block, in the kernel's order of operations. -/
def slope (s : Shape) (z : FVec F s .f32) : FVec F s .f32 :=
  addf (mulf (broadcast s (Scalar.ofBits .f32 0x3F000000#32))
      (addf (broadcast s (Scalar.ofBits .f32 0x3F800000#32)) (erf (mulf z (broadcast s (Named.named κ "sqrt_half" 0x3F3504F3#32))))))
    (mulf z (mulf (broadcast s (Named.named κ "inv_sqrt_2pi" 0x3ECC422A#32))
      (exp (mulf (mulf (broadcast s (Scalar.ofBits .f32 0xBF000000#32)) z) z))))

/-- The normalised, scaled and shifted second half. -/
def vln (z : Vec F S128x8192 .f32) (lg lb : Vec F S1x4096 .f32) : FVec F S128x4096 .bf16 := k0_pay13 (k0_pay12 z lg) lb

/-- The gradient of the mixed values: the incoming gradient times the first half. -/
def ds (z : Vec F S128x8192 .f32) (d : Vec F S128x256 .bf16) (g : Fin 16) : FVec F S128x256 .f32 :=
  mulf (extf .f32 d bitsLt_bf16_f32) (cols g (k0_pay8 z))

/-- The same, rounded for the products. -/
def dsr (z : Vec F S128x8192 .f32) (d : Vec F S128x256 .bf16) (g : Fin 16) : FVec F S128x256 .bf16 :=
  truncf .bf16 (ds z d g) bitsLt_bf16_f32

/-- The mixed values of the group: the masked matrix times the normalised columns, plus the bias. -/
def mix (z : Vec F S128x8192 .f32) (lg lb : Vec F S1x4096 .f32) (b : Vec F S128x128 .f32) (w : Vec F S1x128x128 .f32) (g : Fin 16) :
    FVec F S128x256 .f32 :=
  addf (matmul dot_S128x128_S128x256_S128x256_1_0_0_1_n_n none (k0_pay17 w) (cols g (vln z lg lb)) (constant S128x256 .f32 0x00000000#32))
    (broadcastTo S128x256 (extractStridedSlice S128x1 ![0, g.val] (shapeCast S128x128 b shapeCasts_S128x128_S128x128) (lane_slices g))
      broadcasts_S128x1_S128x256)

/-- The gradient of the pre-activation's first half, the group's columns. -/
def dzu (z : Vec F S128x8192 .f32) (lg lb : Vec F S1x4096 .f32) (b : Vec F S128x128 .f32) (w : Vec F S1x128x128 .f32) (d : Vec F S128x256 .bf16)
    (g : Fin 16) : FVec F S128x256 .bf16 :=
  truncf .bf16 (mulf (mulf (extf .f32 d bitsLt_bf16_f32) (mix z lg lb b w g)) (slope S128x256 (cols g (k0_pay6 z)))) bitsLt_bf16_f32

/-- The gradient of the normalised columns: the masked matrix, transposed, times the gradient of the mixed values. -/
def dv (z : Vec F S128x8192 .f32) (w : Vec F S1x128x128 .f32) (d : Vec F S128x256 .bf16) (g : Fin 16) : FVec F S128x256 .f32 :=
  shapeCast S128x256 (matmul dot_S128x128_S128x256_S128x256_0_0_1_1_n_n none (k0_pay17 w) (dsr z d g) (constant S128x256 .f32 0x00000000#32))
    shapeCasts_S128x256_S128x256

/-- What the point adds to the gradient of the group's matrix, over what was there. -/
def dw (z : Vec F S128x8192 .f32) (lg lb : Vec F S1x4096 .f32) (d : Vec F S128x256 .bf16) (o : Vec F S1x128x128 .f32) (g : Fin 16) :
    FVec F S1x128x128 .f32 :=
  shapeCast S1x128x128 (addf (shapeCast S128x128 o shapeCasts_S1x128x128_S128x128)
    (select k0_pay16 (matmul dot_S128x256_S128x256_S128x128_1_1_0_0_n_n none (dsr z d g) (cols g (vln z lg lb)) (constant S128x128 .f32 0x00000000#32))
      (broadcast S128x128 (Scalar.ofBits .f32 0x00000000#32)))) shapeCasts_S128x128_S1x128x128

/-- The group's row sums of the gradient of the mixed values, in the group's lane and zero in the others. -/
def db (z : Vec F S128x8192 .f32) (d : Vec F S128x256 .bf16) (g : Fin 16) : FVec F S128x128 .f32 :=
  select (cmpi .eq (iota .tc S128x128 32 [1] iota_S128x128_d1_w32) (broadcast S128x128 (BitVec.ofNat 32 g.val)))
    (broadcastTo S128x128 (shapeCast S128x1 (shapeCast S128x1
      (multiReduction .add [1] S128 (ds z d g) 0x00000000#32 reduces_S128x256_S128 (.inl rfl) rfl) shapeCasts_S128_S128x1)
      shapeCasts_S128x1_S128x1) broadcasts_S128x1_S128x128) (broadcast S128x128 (Scalar.ofBits .f32 0x00000000#32))

/-- The first `n` groups' row sums, added up in order from zero. -/
def dbs (z : Vec F S128x8192 .f32) (d : Fin 16 → Vec F S128x256 .bf16) : (n : ℕ) → n ≤ 16 → FVec F S128x128 .f32
  | 0, _ => broadcast S128x128 (Scalar.ofBits .f32 0x00000000#32)
  | n + 1, h => addf (dbs z d n (Nat.le_of_succ_le h)) (db z (d ⟨n, h⟩) ⟨n, h⟩)

/-! ### The whole rows -/

/-- The gradient of the second half before its activation, from the gradient `x` of the normalised values. -/
def dnorm (z : Vec F S128x8192 .f32) (lg : Vec F S1x4096 .f32) (x : Vec F S128x4096 .f32) : FVec F S128x4096 .f32 :=
  k0_pay224 (k0_pay10 z) (k0_pay11 z) lg x

/-- The gradient of the pre-activation's second half. -/
def dzv (z : Vec F S128x8192 .f32) (lg : Vec F S1x4096 .f32) (x : Vec F S128x4096 .f32) : FVec F S128x4096 .bf16 :=
  truncf .bf16 (mulf (dnorm z lg x) (slope S128x4096 (k0_pay7 z))) bitsLt_bf16_f32

/-- What the point adds to the scale's gradient, over what was there. -/
def dlg (z : Vec F S128x8192 .f32) (x : Vec F S128x4096 .f32) (o : Vec F S1x4096 .f32) : FVec F S1x4096 .f32 :=
  addf (shapeCast S1x4096 o shapeCasts_S1x4096_S1x4096) (shapeCast S1x4096
    (multiReduction .add [0] S4096 (mulf x (k0_pay11 z)) 0x00000000#32 reduces_S128x4096_S4096 (.inl rfl) rfl) shapeCasts_S4096_S1x4096)

/-- What the point adds to the shift's gradient, over what was there. -/
def dlb (x : Vec F S128x4096 .f32) (o : Vec F S1x4096 .f32) : FVec F S1x4096 .f32 :=
  addf (shapeCast S1x4096 o shapeCasts_S1x4096_S1x4096) (shapeCast S1x4096
    (multiReduction .add [0] S4096 x 0x00000000#32 reduces_S128x4096_S4096 (.inl rfl) rfl) shapeCasts_S4096_S1x4096)

/-! ### The lists of stores -/

/-- The groups, the last first: a list of stores holds the newest in front. -/
def order : List (Fin 16) := [15, 14, 13, 12, 11, 10, 9, 8, 7, 6, 5, 4, 3, 2, 1, 0]

/-- The first `n` groups, the last of them first. -/
def upto : (n : ℕ) → n ≤ 16 → List (Fin 16)
  | 0, _ => []
  | n + 1, h => ⟨n, h⟩ :: upto n (Nat.le_of_succ_le h)

section loads

variable (a1 : Memref sig .tc .vmem S128x8192 .f32) (h1 : a1.IsWhole) (a2 : Memref sig .tc .vmem S128x4096 .bf16) (h2 : a2.IsWhole)
  (a3 : Memref sig .tc .vmem S1x4096 .f32) (h3 : a3.IsWhole) (a5 : Memref sig .tc .vmem S16x128x128 .f32) (h5 : a5.IsWhole)
  (a6 : Memref sig .tc .vmem S128x128 .f32) (h6 : a6.IsWhole)

/-- The load of a whole block of 128 rows of 8192. -/
def ldZ (x : Vec F S128x8192 .f32) : Vec F S128x8192 .f32 :=
  View.readAt (Elt F) a1.view (Rect.unit ![0, 0] S128x8192.size inb_S128x8192_S128x8192_0_0).toLoadRect (h1.unread x)

/-- The load of a group's columns of the incoming gradient. -/
def ldD (x : Vec F S128x4096 .bf16) (g : Fin 16) : Vec F S128x256 .bf16 :=
  View.readAt (Elt F) a2.view (Rect.unit (s := S128x4096) ![0, 256 * g.val] S128x256.size (cols_inb g)).toLoadRect (h2.unread x)

/-- The load of a whole row of 4096. -/
def ldL (x : Vec F S1x4096 .f32) : Vec F S1x4096 .f32 :=
  View.readAt (Elt F) a3.view (Rect.unit ![0, 0] S1x4096.size inb_S1x4096_S1x4096_0_0).toLoadRect (h3.unread x)

/-- The load of a group's matrix. -/
def ldW (x : Vec F S16x128x128 .f32) (g : Fin 16) : Vec F S1x128x128 .f32 :=
  View.readAt (Elt F) a5.view (Rect.unit (s := S16x128x128) ![g.val, 0, 0] S1x128x128.size (mat_inb g)).toLoadRect (h5.unread x)

/-- The load of a whole block of 128 rows of 128. -/
def ldB (x : Vec F S128x128 .f32) : Vec F S128x128 .f32 :=
  View.readAt (Elt F) a6.view (Rect.unit ![0, 0] S128x128.size inb_S128x128_S128x128_0_0).toLoadRect (h6.unread x)

theorem zero2 : (![0, 0] : Fin 2 → Nat) = fun _ => 0 := funext fun a => by fin_cases a <;> rfl

theorem ldZ_eq (x : Vec F S128x8192 .f32) : ldZ a1 h1 x = x :=
  (View.readAt_full a1.view (h1.unread x) inb_S128x8192_S128x8192_0_0).trans (h1.read_unread x)
theorem ldL_eq (x : Vec F S1x4096 .f32) : ldL a3 h3 x = x :=
  (View.readAt_full a3.view (h3.unread x) inb_S1x4096_S1x4096_0_0).trans (h3.read_unread x)
theorem ldB_eq (x : Vec F S128x128 .f32) : ldB a6 h6 x = x :=
  (View.readAt_full a6.view (h6.unread x) inb_S128x128_S128x128_0_0).trans (h6.read_unread x)
theorem ldW_eq (x : Vec F S16x128x128 .f32) (g : Fin 16) : ldW a5 h5 x g = mat g x := by
  funext j
  exact h5.readAt_unread x (Rect.unit (s := S16x128x128) ![g.val, 0, 0] S1x128x128.size (mat_inb g)).toLoadRect j
theorem ldD_eq (x : Vec F S128x4096 .bf16) (g : Fin 16) : ldD a2 h2 x g = cols g x := by
  funext j
  refine (h2.readAt_unread x (Rect.unit (s := S128x4096) ![0, 256 * g.val] S128x256.size (cols_inb g)).toLoadRect j).trans ?_
  unfold cols extractStridedSlice
  refine congrArg x (funext fun a => Fin.ext ?_)
  match a with
  | ⟨0, _⟩ => show 0 + 1 * (j 0).val = 0 + (j 0).val; omega
  | ⟨1, _⟩ => show 256 * g.val + 1 * (j 1).val = 256 * g.val + (j 1).val; omega

end loads

/-- The stores of the sixteen groups' values into a block of 4096 columns. -/
def colPieces (v : Fin 16 → Vec F S128x256 .f32) (l : List (Fin 16)) : List (View.Piece (Elt F) S128x4096 .f32) :=
  l.map fun g => ⟨Rect.unit (s := S128x4096) ![0, 256 * g.val] S128x256.size (cols_inb g), v g⟩

/-- The stores into the result of 8192 columns: the second half's over the groups'. -/
def widePieces (y : Vec F S128x4096 .bf16) (v : Fin 16 → Vec F S128x256 .bf16) : List (View.Piece (Elt F) S128x8192 .bf16) :=
  ⟨Rect.unit (s := S128x8192) ![0, 4096] S128x4096.size inb_S128x8192_S128x4096_0_4096, y⟩ ::
    order.map fun g => ⟨Rect.unit (s := S128x8192) ![0, 256 * g.val] S128x256.size (wide_inb g), v g⟩

/-- The stores into the sixteen matrices. -/
def matPieces (v : Fin 16 → Vec F S1x128x128 .f32) (l : List (Fin 16)) : List (View.Piece (Elt F) S16x128x128 .f32) :=
  l.map fun g => ⟨Rect.unit (s := S16x128x128) ![g.val, 0, 0] S1x128x128.size (mat_inb g), v g⟩

section runs

variable (c : Dev nD) (i : grid0.Coords) (arg1 : Memref sig .tc .vmem S128x8192 .f32) (harg1 : arg1.IsWhole)
  (arg2 : Memref sig .tc .vmem S128x4096 .bf16) (harg2 : arg2.IsWhole) (arg3 : Memref sig .tc .vmem S1x4096 .f32) (harg3 : arg3.IsWhole)
  (arg4 : Memref sig .tc .vmem S1x4096 .f32) (harg4 : arg4.IsWhole) (arg5 : Memref sig .tc .vmem S16x128x128 .f32) (harg5 : arg5.IsWhole)
  (arg6 : Memref sig .tc .vmem S128x128 .f32) (harg6 : arg6.IsWhole) (arg7 : Memref sig .tc .vmem S128x8192 .bf16) (harg7 : arg7.IsWhole)
  (arg8 : Memref sig .tc .vmem S16x128x128 .f32) (harg8 : arg8.IsWhole) (arg9 : Memref sig .tc .vmem S128x128 .f32) (harg9 : arg9.IsWhole)
  (arg10 : Memref sig .tc .vmem S1x4096 .f32) (harg10 : arg10.IsWhole) (arg11 : Memref sig .tc .vmem S1x4096 .f32) (harg11 : arg11.IsWhole)
  (arg12 : Memref sig .tc .vmem S128x4096 .f32) (harg12 : arg12.IsWhole)
  (x0 : Vec F S128x8192 .f32) (x1 : Vec F S128x4096 .bf16) (x2 x3 : Vec F S1x4096 .f32) (x4 : Vec F S16x128x128 .f32) (x5 : Vec F S128x128 .f32)
  (xo7 : Vec F S16x128x128 .f32) (xo8 : Vec F S128x128 .f32) (xo9 xo10 : Vec F S1x4096 .f32)

/-- The scratch's sixteen stores, over the loads. -/
def scrL : List (View.Piece (Elt F) S128x4096 .f32) :=
  colPieces (fun g => dv (ldZ arg1 harg1 x0) (ldW arg5 harg5 x4 g) (ldD arg2 harg2 x1 g) g) order

/-- The scratch read back whole. -/
def scrR : Vec F S128x4096 .f32 :=
  arg12.view.readCov (scrL arg1 harg1 arg2 harg2 arg5 harg5 x0 x1 x4) (Rect.unit ![0, 0] S128x4096.size inb_S128x4096_S128x4096_0_0).toLoadRect

/-- The zeros the first point stores into the bias gradient's block. -/
def zeroB : List (View.Piece (Elt F) S128x128 .f32) := [⟨Rect.unit ![0, 0] S128x128.size inb_S128x128_S128x128_0_0, k0_pay3⟩]

/-- The zeros the first point stores into the scale gradient's row. -/
def zeroG : List (View.Piece (Elt F) S1x4096 .f32) := [⟨Rect.unit ![0, 0] S1x4096.size inb_S1x4096_S1x4096_0_0, k0_pay4⟩]

/-- The zeros the first point stores into the shift gradient's row. -/
def zeroL : List (View.Piece (Elt F) S1x4096 .f32) := [⟨Rect.unit ![0, 0] S1x4096.size inb_S1x4096_S1x4096_0_0, k0_pay5⟩]

/-- The stores of the result, over the loads: the same at every point. -/
def dzL : List (View.Piece (Elt F) S128x8192 .bf16) :=
  widePieces (dzv (ldZ arg1 harg1 x0) (ldL arg3 harg3 x2) (scrR arg1 harg1 arg2 harg2 arg5 harg5 arg12 x0 x1 x4))
    (fun g => dzu (ldZ arg1 harg1 x0) (ldL arg3 harg3 x2) (ldL arg4 harg4 x3) (ldB arg6 harg6 x5) (ldW arg5 harg5 x4 g) (ldD arg2 harg2 x1 g) g)

theorem runB_dz (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10).1
    = dzL arg1 harg1 arg2 harg2 arg3 harg3 arg4 harg4 arg5 harg5 arg6 harg6 arg12 x0 x1 x2 x3 x4 x5 := rfl

theorem runA_dz (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1
    = dzL arg1 harg1 arg2 harg2 arg3 harg3 arg4 harg4 arg5 harg5 arg6 harg6 arg12 x0 x1 x2 x3 x4 x5 := rfl

theorem runB_dw (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10).2.1
    = matPieces (fun g => dw (ldZ arg1 harg1 x0) (ldL arg3 harg3 x2) (ldL arg4 harg4 x3) (ldD arg2 harg2 x1 g) (ldW arg8 harg8 xo7 g) g) order := rfl

/-- The stores into the sixteen matrices at the first point, the first `n` groups': each reads what the ones before it
    left, over the zeros stored at the start. -/
def dwL : (n : ℕ) → n ≤ 16 → List (View.Piece (Elt F) S16x128x128 .f32)
  | 0, _ => [⟨Rect.unit (s := S16x128x128) ![0, 0, 0] S16x128x128.size inb_S16x128x128_S16x128x128_0_0_0, k0_pay2⟩]
  | n + 1, h =>
    ⟨Rect.unit (s := S16x128x128) ![n, 0, 0] S1x128x128.size (mat_inb ⟨n, h⟩),
      dw (ldZ arg1 harg1 x0) (ldL arg3 harg3 x2) (ldL arg4 harg4 x3) (ldD arg2 harg2 x1 ⟨n, h⟩)
        (arg8.view.readCov (dwL n (Nat.le_of_succ_le h))
          (Rect.unit (s := S16x128x128) ![n, 0, 0] S1x128x128.size (mat_inb ⟨n, h⟩)).toLoadRect) ⟨n, h⟩⟩ ::
    dwL n (Nat.le_of_succ_le h)

theorem runA_dw (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1
    = dwL arg1 harg1 arg2 harg2 arg3 harg3 arg4 harg4 arg8 x0 x1 x2 x3 16 (Nat.le_refl _) := rfl

theorem runB_db (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10).2.2.1
    = [⟨Rect.unit ![0, 0] S128x128.size inb_S128x128_S128x128_0_0,
        addf (shapeCast S128x128 (ldB arg9 harg9 xo8) shapeCasts_S128x128_S128x128) (dbs (ldZ arg1 harg1 x0) (ldD arg2 harg2 x1) 16 (Nat.le_refl _))⟩] := rfl

theorem runA_db (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.1
    = ⟨Rect.unit ![0, 0] S128x128.size inb_S128x128_S128x128_0_0,
        addf (shapeCast S128x128 (arg9.view.readCov zeroB
          (Rect.unit ![0, 0] S128x128.size inb_S128x128_S128x128_0_0).toLoadRect) shapeCasts_S128x128_S128x128)
          (dbs (ldZ arg1 harg1 x0) (ldD arg2 harg2 x1) 16 (Nat.le_refl _))⟩ :: zeroB := rfl

theorem runB_dlg (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10).2.2.2.1
    = [⟨Rect.unit ![0, 0] S1x4096.size inb_S1x4096_S1x4096_0_0,
        dlg (ldZ arg1 harg1 x0) (scrR arg1 harg1 arg2 harg2 arg5 harg5 arg12 x0 x1 x4) (ldL arg10 harg10 xo9)⟩] := rfl

theorem runA_dlg (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.1
    = ⟨Rect.unit ![0, 0] S1x4096.size inb_S1x4096_S1x4096_0_0,
        dlg (ldZ arg1 harg1 x0) (scrR arg1 harg1 arg2 harg2 arg5 harg5 arg12 x0 x1 x4)
          (arg10.view.readCov zeroG
            (Rect.unit ![0, 0] S1x4096.size inb_S1x4096_S1x4096_0_0).toLoadRect)⟩ :: zeroG := rfl

theorem runB_dlb (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10).2.2.2.2.1
    = [⟨Rect.unit ![0, 0] S1x4096.size inb_S1x4096_S1x4096_0_0,
        dlb (scrR arg1 harg1 arg2 harg2 arg5 harg5 arg12 x0 x1 x4) (ldL arg11 harg11 xo10)⟩] := rfl

theorem runA_dlb (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.1
    = ⟨Rect.unit ![0, 0] S1x4096.size inb_S1x4096_S1x4096_0_0,
        dlb (scrR arg1 harg1 arg2 harg2 arg5 harg5 arg12 x0 x1 x4)
          (arg11.view.readCov zeroL
            (Rect.unit ![0, 0] S1x4096.size inb_S1x4096_S1x4096_0_0).toLoadRect)⟩ :: zeroL := rfl

end runs

end Cert.KernelIdeal.Body
-- ==== Proof.Point.lean ====
/-
  What a grid point leaves in each result's block, as a function of the blocks it was given.

  The lists of stores of `Group.lean` are read back: a place of the result lies in one group's columns (or in the second
  half), so it holds that group's value; the sixteen matrices, the bias block and the two rows hold what was there plus
  the point's part, and the first point starts from zeros. Everything in this file holds for any reading of the floats.
-/
module

public import proofs.«01_k».proof.Proof.Group
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-- The group of a column. -/
def grp (k : ℕ) (h : k < 4096) : Fin 16 := ⟨k / 256, by omega⟩

/-- A column's place in its group. -/
def loc (k : ℕ) : Fin 256 := ⟨k % 256, Nat.mod_lt _ (by decide)⟩

theorem mem_order (g : Fin 16) : g ∈ order := by revert g; decide

section reads

variable {sig' : RefSig} {κ' : Kind} {sp' : Space}

/-- A place of a block of 4096 columns holds its group's value once the group has been stored. -/
theorem read_colPieces (v : View sig' κ' sp' S128x4096 .f32) (f : v.ty.Contents (Elt F)) (w : Fin 16 → Vec F S128x256 .f32)
    (r : Fin 128) (k : Fin 4096) (l : List (Fin 16)) (h : grp k.val k.isLt ∈ l) :
    v.read (Elt F) (v.writes (Elt F) f (colPieces w l)) (ix2 r k) = w (grp k.val k.isLt) (ix2 r (loc k.val)) := by
  induction l with
  | nil => exact absurd h List.not_mem_nil
  | cons g l ih =>
    by_cases hg : grp k.val k.isLt = g
    · subst hg
      refine View.read_writes_cons_hit_of_coords v f _ _ _ _ _ fun a => ?_
      match a with
      | ⟨0, _⟩ => show r.val = 0 + 1 * r.val; omega
      | ⟨1, _⟩ => show k.val = 256 * (k.val / 256) + 1 * (k.val % 256); omega
    · refine (View.read_writes_cons_miss_of_axis v f _ _ _ 1 (256 * g.val) 256 rfl rfl rfl ?_).trans
        (ih ((List.mem_cons.mp h).resolve_left hg))
      have hne : k.val / 256 ≠ g.val := fun e => hg (Fin.ext e)
      show k.val < 256 * g.val ∨ 256 * g.val + 256 ≤ k.val
      omega

/-- A place of the wide result's first half holds its group's value. -/
theorem read_wide_lo (v : View sig' κ' sp' S128x8192 .bf16) (f : v.ty.Contents (Elt F)) (y : Vec F S128x4096 .bf16)
    (w : Fin 16 → Vec F S128x256 .bf16) (r : Fin 128) (k : Fin 8192) (hk : k.val < 4096) :
    v.read (Elt F) (v.writes (Elt F) f (widePieces y w)) (ix2 r k) = w (grp k.val hk) (ix2 r (loc k.val)) := by
  refine (View.read_writes_cons_miss_of_axis v f _ _ _ 1 4096 4096 rfl rfl rfl (.inl hk)).trans ?_
  generalize hl : order = l
  have h : grp k.val hk ∈ l := hl ▸ mem_order _
  clear hl
  induction l with
  | nil => exact absurd h List.not_mem_nil
  | cons g l ih =>
    by_cases hg : grp k.val hk = g
    · subst hg
      refine View.read_writes_cons_hit_of_coords v f _ _ _ _ _ fun a => ?_
      match a with
      | ⟨0, _⟩ => show r.val = 0 + 1 * r.val; omega
      | ⟨1, _⟩ => show k.val = 256 * (k.val / 256) + 1 * (k.val % 256); omega
    · refine (View.read_writes_cons_miss_of_axis v f _ _ _ 1 (256 * g.val) 256 rfl rfl rfl ?_).trans
        (ih ((List.mem_cons.mp h).resolve_left hg))
      have hne : k.val / 256 ≠ g.val := fun e => hg (Fin.ext e)
      show k.val < 256 * g.val ∨ 256 * g.val + 256 ≤ k.val
      omega

/-- A place of the wide result's second half holds the second half's value. -/
theorem read_wide_hi (v : View sig' κ' sp' S128x8192 .bf16) (f : v.ty.Contents (Elt F)) (y : Vec F S128x4096 .bf16)
    (w : Fin 16 → Vec F S128x256 .bf16) (r : Fin 128) (k : Fin 4096) :
    v.read (Elt F) (v.writes (Elt F) f (widePieces y w)) (ix2 r ⟨4096 + k.val, by omega⟩) = y (ix2 r k) := by
  refine View.read_writes_cons_hit_of_coords v f _ _ _ _ _ fun a => ?_
  match a with
  | ⟨0, _⟩ => show r.val = 0 + 1 * r.val; omega
  | ⟨1, _⟩ => show 4096 + k.val = 4096 + 1 * k.val; omega

/-- A place of the sixteen matrices holds its group's value once the group has been stored. -/
theorem read_matPieces (v : View sig' κ' sp' S16x128x128 .f32) (f : v.ty.Contents (Elt F)) (w : Fin 16 → Vec F S1x128x128 .f32)
    (g : Fin 16) (p q : Fin 128) (l : List (Fin 16)) (h : g ∈ l) :
    v.read (Elt F) (v.writes (Elt F) f (matPieces w l)) (ix3 g p q) = w g (ix3 0 p q) := by
  induction l with
  | nil => exact absurd h List.not_mem_nil
  | cons g' l ih =>
    by_cases hg : g = g'
    · subst hg
      refine View.read_writes_cons_hit_of_coords v f _ _ _ _ _ fun a => ?_
      match a with
      | ⟨0, _⟩ => show g.val = g.val + 1 * 0; omega
      | ⟨1, _⟩ => show p.val = 0 + 1 * p.val; omega
      | ⟨2, _⟩ => show q.val = 0 + 1 * q.val; omega
    · refine (View.read_writes_cons_miss_of_axis v f _ _ _ 0 g'.val 1 rfl rfl rfl ?_).trans
        (ih ((List.mem_cons.mp h).resolve_left hg))
      have hne : g.val ≠ g'.val := fun e => hg (Fin.ext e)
      show g.val < g'.val ∨ g'.val + 1 ≤ g.val
      omega

end reads

/-! ### A point's results -/

/-- The gradient of the normalised values at a point: every group's columns. -/
def scr (x0 : Vec F S128x8192 .f32) (x1 : Vec F S128x4096 .bf16) (x4 : Vec F S16x128x128 .f32) : Vec F S128x4096 .f32 := fun y =>
  dv x0 (mat (grp (y 1).val (y 1).isLt) x4) (cols (grp (y 1).val (y 1).isLt) x1) (grp (y 1).val (y 1).isLt) (ix2 (y 0) (loc (y 1).val))

/-- The first half of the point's rows of the pre-activation's gradient. -/
def ptU (x0 : Vec F S128x8192 .f32) (x1 : Vec F S128x4096 .bf16) (x2 x3 : Vec F S1x4096 .f32) (x4 : Vec F S16x128x128 .f32)
    (x5 : Vec F S128x128 .f32) (r : Fin 128) (k : ℕ) (hk : k < 4096) : F .bf16 :=
  dzu x0 x2 x3 x5 (mat (grp k hk) x4) (cols (grp k hk) x1) (grp k hk) (ix2 r (loc k))

/-- The second half of the point's rows of the pre-activation's gradient. -/
def ptV (x0 : Vec F S128x8192 .f32) (x1 : Vec F S128x4096 .bf16) (x2 : Vec F S1x4096 .f32) (x4 : Vec F S16x128x128 .f32) :
    Vec F S128x4096 .bf16 := dzv x0 x2 (scr x0 x1 x4)

/-- The sixteen matrices' gradient after the point, over what was there. -/
def ptW (x0 : Vec F S128x8192 .f32) (x1 : Vec F S128x4096 .bf16) (x2 x3 : Vec F S1x4096 .f32) (o : Vec F S16x128x128 .f32) :
    Vec F S16x128x128 .f32 := fun y => dw x0 x2 x3 (cols (y 0) x1) (mat (y 0) o) (y 0) (ix3 0 (y 1) (y 2))

/-- The bias block's gradient after the point, over what was there. -/
def ptB (x0 : Vec F S128x8192 .f32) (x1 : Vec F S128x4096 .bf16) (o : Vec F S128x128 .f32) : Vec F S128x128 .f32 :=
  addf (shapeCast S128x128 o shapeCasts_S128x128_S128x128) (dbs x0 (fun g => cols g x1) 16 (Nat.le_refl _))

section runs

variable (c : Dev nD) (i : grid0.Coords) (arg1 : Memref sig .tc .vmem S128x8192 .f32) (harg1 : arg1.IsWhole)
  (arg2 : Memref sig .tc .vmem S128x4096 .bf16) (harg2 : arg2.IsWhole) (arg3 : Memref sig .tc .vmem S1x4096 .f32) (harg3 : arg3.IsWhole)
  (arg4 : Memref sig .tc .vmem S1x4096 .f32) (harg4 : arg4.IsWhole) (arg5 : Memref sig .tc .vmem S16x128x128 .f32) (harg5 : arg5.IsWhole)
  (arg6 : Memref sig .tc .vmem S128x128 .f32) (harg6 : arg6.IsWhole) (arg7 : Memref sig .tc .vmem S128x8192 .bf16) (harg7 : arg7.IsWhole)
  (arg8 : Memref sig .tc .vmem S16x128x128 .f32) (harg8 : arg8.IsWhole) (arg9 : Memref sig .tc .vmem S128x128 .f32) (harg9 : arg9.IsWhole)
  (arg10 : Memref sig .tc .vmem S1x4096 .f32) (harg10 : arg10.IsWhole) (arg11 : Memref sig .tc .vmem S1x4096 .f32) (harg11 : arg11.IsWhole)
  (arg12 : Memref sig .tc .vmem S128x4096 .f32) (harg12 : arg12.IsWhole)
  (x0 : Vec F S128x8192 .f32) (x1 : Vec F S128x4096 .bf16) (x2 x3 : Vec F S1x4096 .f32) (x4 : Vec F S16x128x128 .f32) (x5 : Vec F S128x128 .f32)
  (xo7 : Vec F S16x128x128 .f32) (xo8 : Vec F S128x128 .f32) (xo9 xo10 : Vec F S1x4096 .f32)

theorem ldD_fun : ldD arg2 harg2 x1 = fun g => cols g x1 := funext fun g => ldD_eq arg2 harg2 x1 g

/-- The scratch read back is the groups' columns. -/
theorem scrR_eq : scrR arg1 harg1 arg2 harg2 arg5 harg5 arg12 x0 x1 x4 = scr x0 x1 x4 := by
  unfold scrR View.readCov
  rw [View.readAt_full]
  funext y
  rw [eq_ix2 y]
  refine (read_colPieces arg12.view _ _ (y 0) (y 1) order (mem_order _)).trans ?_
  unfold scr
  rw [ldZ_eq, ldD_eq, ldW_eq]
  rfl

/-- The first half of the result's stores. -/
theorem dzL_lo {sig' : RefSig} {κ' : Kind} {sp' : Space} (v : View sig' κ' sp' S128x8192 .bf16) (f : v.ty.Contents (Elt F)) (r : Fin 128)
    (k : Fin 8192) (hk : k.val < 4096) :
    v.read (Elt F) (v.writes (Elt F) f (dzL arg1 harg1 arg2 harg2 arg3 harg3 arg4 harg4 arg5 harg5 arg6 harg6 arg12 x0 x1 x2 x3 x4 x5)) (ix2 r k)
      = ptU x0 x1 x2 x3 x4 x5 r k.val hk := by
  unfold dzL
  rw [read_wide_lo v f _ _ r k hk, ldZ_eq, ldL_eq, ldL_eq, ldB_eq, ldW_eq, ldD_eq]
  rfl

/-- The second half of the result's stores. -/
theorem dzL_hi {sig' : RefSig} {κ' : Kind} {sp' : Space} (v : View sig' κ' sp' S128x8192 .bf16) (f : v.ty.Contents (Elt F)) (r : Fin 128)
    (k : Fin 4096) :
    v.read (Elt F) (v.writes (Elt F) f (dzL arg1 harg1 arg2 harg2 arg3 harg3 arg4 harg4 arg5 harg5 arg6 harg6 arg12 x0 x1 x2 x3 x4 x5))
        (ix2 r ⟨4096 + k.val, by omega⟩)
      = ptV x0 x1 x2 x4 (ix2 r k) := by
  unfold dzL
  rw [read_wide_hi v f _ _ r k, ldZ_eq, ldL_eq, scrR_eq]
  rfl

/-- At the first point a group not yet stored still holds zeros. -/
theorem dwL_zero {sig' : RefSig} {κ' : Kind} {sp' : Space} (v : View sig' κ' sp' S16x128x128 .f32) (f : v.ty.Contents (Elt F)) (g : Fin 16)
    (p q : Fin 128) : ∀ (n : ℕ) (hn : n ≤ 16), n ≤ g.val →
    v.read (Elt F) (v.writes (Elt F) f (dwL arg1 harg1 arg2 harg2 arg3 harg3 arg4 harg4 arg8 x0 x1 x2 x3 n hn)) (ix3 g p q)
      = k0_pay2 (ix3 g p q)
  | 0, _, _ => by
    refine View.read_writes_cons_hit_of_coords v f _ _ _ (ix3 g p q) _ fun a => ?_
    match a with
    | ⟨0, _⟩ => show g.val = 0 + 1 * g.val; omega
    | ⟨1, _⟩ => show p.val = 0 + 1 * p.val; omega
    | ⟨2, _⟩ => show q.val = 0 + 1 * q.val; omega
  | n + 1, hn, h => by
    refine (View.read_writes_cons_miss_of_axis v f _ _ _ 0 n 1 rfl rfl rfl ?_).trans (dwL_zero v f g p q n (Nat.le_of_succ_le hn) (Nat.le_of_succ_le h))
    show g.val < n ∨ n + 1 ≤ g.val
    omega

/-- At the first point a group once stored holds its part over zeros. -/
theorem dwL_done {sig' : RefSig} {κ' : Kind} {sp' : Space} (v : View sig' κ' sp' S16x128x128 .f32) (f : v.ty.Contents (Elt F)) (g : Fin 16)
    (p q : Fin 128) : ∀ (n : ℕ) (hn : n ≤ 16), g.val < n →
    v.read (Elt F) (v.writes (Elt F) f (dwL arg1 harg1 arg2 harg2 arg3 harg3 arg4 harg4 arg8 x0 x1 x2 x3 n hn)) (ix3 g p q)
      = ptW x0 x1 x2 x3 k0_pay2 (ix3 g p q)
  | 0, _, h => absurd h (Nat.not_lt_zero _)
  | n + 1, hn, h => by
    by_cases hg : g.val = n
    · obtain rfl : g = ⟨n, hn⟩ := Fin.ext hg
      refine (View.read_writes_cons_hit_of_coords v f _ _ _ (ix3 (0 : Fin 1) p q) _ fun a => ?_).trans ?_
      · match a with
        | ⟨0, _⟩ => show n = n + 1 * 0; omega
        | ⟨1, _⟩ => show p.val = 0 + 1 * p.val; omega
        | ⟨2, _⟩ => show q.val = 0 + 1 * q.val; omega
      · rw [ldZ_eq, ldL_eq, ldL_eq, ldD_eq]
        refine congrFun (congrArg (fun o => dw x0 x2 x3 (cols ⟨n, hn⟩ x1) o ⟨n, hn⟩) ?_) (ix3 0 p q)
        funext j
        have hj : (Rect.unit (s := S16x128x128) ![n, 0, 0] S1x128x128.size (mat_inb ⟨n, hn⟩)).emb j = ix3 ⟨n, hn⟩ (j 1) (j 2) := by
          refine funext fun a => Fin.ext ?_
          match a with
          | ⟨0, _⟩ => show n + 1 * (j 0).val = n; have h0 : (j 0).val < 1 := (j 0).isLt; omega
          | ⟨1, _⟩ => show 0 + 1 * (j 1).val = (j 1).val; omega
          | ⟨2, _⟩ => show 0 + 1 * (j 2).val = (j 2).val; omega
        unfold View.readCov mat
        refine Eq.trans ?_ ((dwL_zero arg1 harg1 arg2 harg2 arg3 harg3 arg4 harg4 arg8 x0 x1 x2 x3 arg8.view arg8.view.junk ⟨n, hn⟩ (j 1) (j 2) n
          (Nat.le_of_succ_le hn) (Nat.le_refl _)).trans (congrArg k0_pay2 hj.symm))
        exact congrArg (View.read (Elt F) arg8.view _) hj
    · refine (View.read_writes_cons_miss_of_axis v f _ _ _ 0 n 1 rfl rfl rfl ?_).trans
        (dwL_done v f g p q n (Nat.le_of_succ_le hn) (by omega))
      show g.val < n ∨ n + 1 ≤ g.val
      omega

theorem outA_lo (hc0 : cond0_0 i) (r : Fin 128) (k : Fin 8192) (hk : k.val < 4096) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 (ix2 r k)
      = ptU x0 x1 x2 x3 x4 x5 r k.val hk := by
  unfold out0_A_6
  rw [runA_dz]
  exact dzL_lo _ _ _ _ _ _ _ _ _ _ _ _ _ _ _ _ _ _ _ _ _ r k hk

theorem outA_hi (hc0 : cond0_0 i) (r : Fin 128) (k : Fin 4096) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5
        (ix2 r ⟨4096 + k.val, by omega⟩)
      = ptV x0 x1 x2 x4 (ix2 r k) := by
  unfold out0_A_6
  rw [runA_dz]
  exact dzL_hi _ _ _ _ _ _ _ _ _ _ _ _ _ _ _ _ _ _ _ _ _ r k

theorem outA_w (hc0 : cond0_0 i) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5
      = ptW x0 x1 x2 x3 k0_pay2 := by
  unfold out0_A_7
  rw [runA_dw]
  funext y
  obtain ⟨g, p, q, rfl⟩ : ∃ (g : Fin 16) (p q : Fin 128), y = ix3 g p q := ⟨_, _, _, eq_ix3 y⟩
  exact dwL_done arg1 harg1 arg2 harg2 arg3 harg3 arg4 harg4 arg8 x0 x1 x2 x3 _ _ g p q 16 (Nat.le_refl _) g.isLt

theorem outA_b (hc0 : cond0_0 i) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5
      = ptB x0 x1 k0_pay3 := by
  unfold out0_A_8
  rw [runA_db]
  rw [View.read_writes_full, ldZ_eq, ldD_fun, zeroB, View.readCov_full]
  rfl

theorem outA_g (hc0 : cond0_0 i) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5
      = dlg x0 (scr x0 x1 x4) k0_pay4 := by
  unfold out0_A_9
  rw [runA_dlg]
  rw [View.read_writes_full, ldZ_eq, scrR_eq, zeroG, View.readCov_full]

theorem outA_l (hc0 : cond0_0 i) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5
      = dlb (scr x0 x1 x4) k0_pay5 := by
  unfold out0_A_10
  rw [runA_dlb]
  rw [View.read_writes_full, scrR_eq, zeroL, View.readCov_full]

theorem outB_lo (hc0 : ¬cond0_0 i) (r : Fin 128) (k : Fin 8192) (hk : k.val < 4096) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 (ix2 r k)
      = ptU x0 x1 x2 x3 x4 x5 r k.val hk := by
  unfold out0_B_6
  rw [runB_dz]
  exact dzL_lo _ _ _ _ _ _ _ _ _ _ _ _ _ _ _ _ _ _ _ _ _ r k hk

theorem outB_hi (hc0 : ¬cond0_0 i) (r : Fin 128) (k : Fin 4096) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
        (ix2 r ⟨4096 + k.val, by omega⟩)
      = ptV x0 x1 x2 x4 (ix2 r k) := by
  unfold out0_B_6
  rw [runB_dz]
  exact dzL_hi _ _ _ _ _ _ _ _ _ _ _ _ _ _ _ _ _ _ _ _ _ r k

theorem outB_w (hc0 : ¬cond0_0 i) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
      = ptW x0 x1 x2 x3 xo7 := by
  unfold out0_B_7
  rw [runB_dw]
  funext y
  obtain ⟨g, p, q, rfl⟩ : ∃ (g : Fin 16) (p q : Fin 128), y = ix3 g p q := ⟨_, _, _, eq_ix3 y⟩
  refine (read_matPieces _ _ _ g p q order (mem_order _)).trans ?_
  rw [ldZ_eq, ldL_eq, ldL_eq, ldD_eq, ldW_eq]
  rfl

theorem outB_b (hc0 : ¬cond0_0 i) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
      = ptB x0 x1 xo8 := by
  unfold out0_B_8
  rw [runB_db]
  rw [View.read_writes_full, ldZ_eq, ldD_fun, ldB_eq]
  rfl

theorem outB_g (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
      = dlg x0 (scr x0 x1 x4) xo9 := by
  unfold out0_B_9
  rw [runB_dlg]
  rw [View.read_writes_full, ldZ_eq, scrR_eq, ldL_eq]

theorem outB_l (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
      = dlb (scr x0 x1 x4) xo10 := by
  unfold out0_B_10
  rw [runB_dlb]
  rw [View.read_writes_full, scrR_eq, ldL_eq]

end runs

end Cert.KernelIdeal.Body
-- ==== Proof.Arrays.lean ====
/-
  The results' arrays after the 32 grid points.

  Point `t` holds rows `128 t … 128 t + 127`. The wide result's block is written back at every point; the other four are
  carried from point to point and written back at the last. Everything in this file holds for any reading of the floats.
-/
module

public import proofs.«01_k».proof.Proof.Point
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD)

/-! ### The blocks a point is given -/

/-- The whole-array operands: scale, shift, mixing matrices and the bias block the host prepared. -/
def aLg : Vec F S1x4096 .f32 := m ((c : Thread nD τ).loc main_arg2)
def aLb : Vec F S1x4096 .f32 := m ((c : Thread nD τ).loc main_arg3)
def aW : Vec F S16x128x128 .f32 := m ((c : Thread nD τ).loc main_arg4)
def aB : Vec F S128x128 .f32 := V m c main_v1
def aZ : Vec F S4096x8192 .f32 := m ((c : Thread nD τ).loc main_arg0)
def aD : Vec F S4096x4096 .bf16 := m ((c : Thread nD τ).loc main_arg1)

/-- Row `r` of point `n`'s block, as a row of the whole array. -/
def rowOf (n : ℕ) (hn : n < 32) (r : Fin 128) : Fin 4096 := ⟨128 * n + r.val, by omega⟩

/-- Point `n`'s rows of the pre-activation. -/
def blkZ (n : ℕ) (hn : n < 32) : Vec F S128x8192 .f32 := fun y => aZ m c (ix2 (rowOf n hn (y 0)) (y 1))

/-- Point `n`'s rows of the incoming gradient. -/
def blkD (n : ℕ) (hn : n < 32) : Vec F S128x4096 .bf16 := fun y => aD m c (ix2 (rowOf n hn (y 0)) (y 1))

theorem ltN (t : Fin cfg0.N) : t.val < 32 := by have h := t.isLt; have hN : cfg0.N = 32 := N_0; omega

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx2 : ∀ t : Fin cfg0.N, ∀ a, win0_2.index t a = 0 := (by decide +kernel : ∀ t : Fin grid0.N, ∀ a, win0_2.index t a = 0)
theorem idx3 : ∀ t : Fin cfg0.N, ∀ a, win0_3.index t a = 0 := (by decide +kernel : ∀ t : Fin grid0.N, ∀ a, win0_3.index t a = 0)
theorem idx4 : ∀ t : Fin cfg0.N, ∀ a, win0_4.index t a = 0 := (by decide +kernel : ∀ t : Fin grid0.N, ∀ a, win0_4.index t a = 0)
theorem idx5 : ∀ t : Fin cfg0.N, ∀ a, win0_5.index t a = 0 := (by decide +kernel : ∀ t : Fin grid0.N, ∀ a, win0_5.index t a = 0)
theorem idx7 : ∀ t : Fin cfg0.N, ∀ a, win0_7.index t a = 0 := (by decide +kernel : ∀ t : Fin grid0.N, ∀ a, win0_7.index t a = 0)
theorem idx8 : ∀ t : Fin cfg0.N, ∀ a, win0_8.index t a = 0 := (by decide +kernel : ∀ t : Fin grid0.N, ∀ a, win0_8.index t a = 0)
theorem idx9 : ∀ t : Fin cfg0.N, ∀ a, win0_9.index t a = 0 := (by decide +kernel : ∀ t : Fin grid0.N, ∀ a, win0_9.index t a = 0)
theorem idx10 : ∀ t : Fin cfg0.N, ∀ a, win0_10.index t a = 0 := (by decide +kernel : ∀ t : Fin grid0.N, ∀ a, win0_10.index t a = 0)

theorem iblk0 (t : Fin cfg0.N) : (iblk m c 0 t : Vec F S128x8192 .f32) = blkZ m c t.val (ltN t) := by
  funext j
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 128 + 1 * (j 0).val = 128 * t.val + (j 0).val; rw [(idx0 t).1]; omega
  | ⟨1, _⟩ => show win0_0.index t 1 * 8192 + 1 * (j 1).val = (j 1).val; rw [(idx0 t).2]; omega

theorem iblk1 (t : Fin cfg0.N) : (iblk m c 1 t : Vec F S128x4096 .bf16) = blkD m c t.val (ltN t) := by
  funext j
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 128 + 1 * (j 0).val = 128 * t.val + (j 0).val; rw [(idx1 t).1]; omega
  | ⟨1, _⟩ => show win0_1.index t 1 * 4096 + 1 * (j 1).val = (j 1).val; rw [(idx1 t).2]; omega

theorem iblk2 (t : Fin cfg0.N) : (iblk m c 2 t : Vec F S1x4096 .f32) = aLg m c := by
  funext j
  unfold iblk
  rw [View.read_apply]
  show V m c main_arg2 _ = m (c.tc.loc main_arg2) _
  rw [V_main_arg2]
  refine congrArg (m (c.tc.loc main_arg2)) (funext fun a => Fin.ext ?_)
  show win0_2.index t a * S1x4096.size a + 1 * (j a).val = (j a).val
  rw [idx2 t a]; omega

theorem iblk3 (t : Fin cfg0.N) : (iblk m c 3 t : Vec F S1x4096 .f32) = aLb m c := by
  funext j
  unfold iblk
  rw [View.read_apply]
  show V m c main_arg3 _ = m (c.tc.loc main_arg3) _
  rw [V_main_arg3]
  refine congrArg (m (c.tc.loc main_arg3)) (funext fun a => Fin.ext ?_)
  show win0_3.index t a * S1x4096.size a + 1 * (j a).val = (j a).val
  rw [idx3 t a]; omega

theorem iblk4 (t : Fin cfg0.N) : (iblk m c 4 t : Vec F S16x128x128 .f32) = aW m c := by
  funext j
  unfold iblk
  rw [View.read_apply]
  show V m c main_arg4 _ = m (c.tc.loc main_arg4) _
  rw [V_main_arg4]
  refine congrArg (m (c.tc.loc main_arg4)) (funext fun a => Fin.ext ?_)
  show win0_4.index t a * S16x128x128.size a + 1 * (j a).val = (j a).val
  rw [idx4 t a]; omega

theorem iblk5 (t : Fin cfg0.N) : (iblk m c 5 t : Vec F S128x128 .f32) = aB m c := by
  funext j
  unfold iblk
  rw [View.read_apply]
  show V m c main_v1 _ = V m c main_v1 _
  refine congrArg (V m c main_v1) (funext fun a => Fin.ext ?_)
  show win0_5.index t a * S128x128.size a + 1 * (j a).val = (j a).val
  rw [idx5 t a]; omega

/-! ### The running results -/

/-- The sixteen matrices' gradient after point `n`. -/
def accW : (n : ℕ) → n < 32 → Vec F S16x128x128 .f32
  | 0, h => ptW (blkZ m c 0 h) (blkD m c 0 h) (aLg m c) (aLb m c) k0_pay2
  | n + 1, h => ptW (blkZ m c (n + 1) h) (blkD m c (n + 1) h) (aLg m c) (aLb m c) (accW n (Nat.lt_of_succ_lt h))

/-- The bias block's gradient after point `n`. -/
def accB : (n : ℕ) → n < 32 → Vec F S128x128 .f32
  | 0, h => ptB (blkZ m c 0 h) (blkD m c 0 h) k0_pay3
  | n + 1, h => ptB (blkZ m c (n + 1) h) (blkD m c (n + 1) h) (accB n (Nat.lt_of_succ_lt h))

/-- The gradient of the normalised values at point `n`. -/
def scrAt (n : ℕ) (h : n < 32) : Vec F S128x4096 .f32 := scr (blkZ m c n h) (blkD m c n h) (aW m c)

/-- The scale's gradient after point `n`. -/
def accG : (n : ℕ) → n < 32 → Vec F S1x4096 .f32
  | 0, h => dlg (blkZ m c 0 h) (scrAt m c 0 h) k0_pay4
  | n + 1, h => dlg (blkZ m c (n + 1) h) (scrAt m c (n + 1) h) (accG n (Nat.lt_of_succ_lt h))

/-- The shift's gradient after point `n`. -/
def accL : (n : ℕ) → n < 32 → Vec F S1x4096 .f32
  | 0, h => dlb (scrAt m c 0 h) k0_pay5
  | n + 1, h => dlb (scrAt m c (n + 1) h) (accL n (Nat.lt_of_succ_lt h))

/-- What the carried results hold after a point: by induction on the points. -/
theorem outs_acc : ∀ (n : ℕ) (h : n < cfg0.N) (h' : n < 32),
    (outsAt0 m c n h).2 = (accW m c n h', accB m c n h', accG m c n h', accL m c n h')
  | 0, h, h' => by
    rw [outsAt0_A m c ⟨0, h⟩ rfl]
    dsimp only
    rw [outA_w, outA_b, outA_g, outA_l, iblk0, iblk1, iblk2, iblk3, iblk4]
    rfl
  | n + 1, h, h' => by
    have hB : ¬(⟨n + 1, h⟩ : Fin cfg0.N).val % 32 = 0 := by dsimp only; omega
    rw [outsAt0_B m c ⟨n + 1, h⟩ hB]
    dsimp only
    rw [outB_w, outB_b, outB_g, outB_l, iblk0, iblk1, iblk2, iblk3, iblk4]
    have ih := outs_acc n (Nat.lt_of_succ_lt h) (Nat.lt_of_succ_lt h')
    rw [show (outsAt0 m c (n + 1 - 1) (Nat.lt_of_le_of_lt (Nat.sub_le _ _) h)).2 = _ from ih]
    rfl

/-- What the wide result's block holds after a point, in its first half, -/
theorem outs_lo (t : Fin cfg0.N) (r : Fin 128) (k : Fin 8192) (hk : k.val < 4096) :
    (outsAt0 m c t.val t.isLt).1 (ix2 r k)
      = ptU (blkZ m c t.val (ltN t)) (blkD m c t.val (ltN t)) (aLg m c) (aLb m c) (aW m c) (aB m c) r k.val hk := by
  by_cases h0 : t.val % 32 = 0
  · rw [outsAt0_A m c t h0]
    dsimp only
    rw [outA_lo _ _ _ _ _ _ _ _ _ _ _ _ _ _ _ _ _ _ _ _ _ _ _ _ _ _ _ _ _ _ _ _ _ r k hk, iblk0, iblk1, iblk2, iblk3, iblk4, iblk5]
  · rw [outsAt0_B m c t h0]
    dsimp only
    rw [outB_lo _ _ _ _ _ _ _ _ _ _ _ _ _ _ _ _ _ _ _ _ _ _ _ _ _ _ _ _ _ _ _ _ _ _ _ _ _ r k hk, iblk0, iblk1, iblk2, iblk3, iblk4, iblk5]

/-- and in its second half. -/
theorem outs_hi (t : Fin cfg0.N) (r : Fin 128) (k : Fin 4096) :
    (outsAt0 m c t.val t.isLt).1 (ix2 r ⟨4096 + k.val, by omega⟩)
      = ptV (blkZ m c t.val (ltN t)) (blkD m c t.val (ltN t)) (aLg m c) (aW m c) (ix2 r k) := by
  by_cases h0 : t.val % 32 = 0
  · rw [outsAt0_A m c t h0]
    dsimp only
    rw [outA_hi _ _ _ _ _ _ _ _ _ _ _ _ _ _ _ _ _ _ _ _ _ _ _ _ _ _ _ _ _ _ _ _ _ r k, iblk0, iblk1, iblk2, iblk4]
  · rw [outsAt0_B m c t h0]
    dsimp only
    rw [outB_hi _ _ _ _ _ _ _ _ _ _ _ _ _ _ _ _ _ _ _ _ _ _ _ _ _ _ _ _ _ _ _ _ _ _ _ _ _ r k, iblk0, iblk1, iblk2, iblk4]

/-! ### The arrays -/

/-- The last point. -/
def tLast : Fin cfg0.N := ⟨31, by show 31 < grid0.N; rw [N_0]; omega⟩

theorem eq_last (t : Fin cfg0.N) (h : t.val % 32 = 31) : t = tLast := Fin.ext (by have := ltN t; show t.val = 31; omega)

theorem h31 : 31 < 32 := by decide

theorem final7 : (dats m 0 c).arrAt 7 cfg0.N = accW m c 31 h31 :=
  (dats m 0 c).arrAt_eq_of_cover 7 (accW m c 31 h31 : Buf (Elt F) ((c : Thread nD τ).loc main_v2_1))
    (fun t hf => by
      obtain rfl : t = tLast := eq_last t ((flush0_7 t).mp hf)
      rw [Value.flushed7]
      rw [outs_acc m c tLast.val tLast.isLt h31]
      have hz : (fun a => win0_7.index tLast a * main_v2_1.ty.shape.size a) = fun _ => 0 := funext fun a => by rw [idx7 tLast a]; omega
      exact (Memref.read_access_unit_zero (Elt F) main_v2_1 hz (fun a => by rw [congrFun hz a]; simp) _).symm)
    fun i => ⟨tLast, (flush0_7 tLast).mpr rfl, by
      show i ∈ ((View.whole main_v2_1).slice (win0_7.rect tLast)).set
      rw [View.set_slice_whole, Rect.mem_set_unit]
      intro a
      show win0_7.index tLast a * S16x128x128.size a ≤ (i a : Nat) ∧ (i a : Nat) < win0_7.index tLast a * S16x128x128.size a + S16x128x128.size a
      rw [idx7 tLast a]
      have := (i a).isLt
      have h : (i a : Nat) < S16x128x128.size a := this
      omega⟩

theorem final8 : (dats m 0 c).arrAt 8 cfg0.N = accB m c 31 h31 :=
  (dats m 0 c).arrAt_eq_of_cover 8 (accB m c 31 h31 : Buf (Elt F) ((c : Thread nD τ).loc main_v2_2))
    (fun t hf => by
      obtain rfl : t = tLast := eq_last t ((flush0_8 t).mp hf)
      rw [Value.flushed8]
      rw [outs_acc m c tLast.val tLast.isLt h31]
      have hz : (fun a => win0_8.index tLast a * main_v2_2.ty.shape.size a) = fun _ => 0 := funext fun a => by rw [idx8 tLast a]; omega
      exact (Memref.read_access_unit_zero (Elt F) main_v2_2 hz (fun a => by rw [congrFun hz a]; simp) _).symm)
    fun i => ⟨tLast, (flush0_8 tLast).mpr rfl, by
      show i ∈ ((View.whole main_v2_2).slice (win0_8.rect tLast)).set
      rw [View.set_slice_whole, Rect.mem_set_unit]
      intro a
      show win0_8.index tLast a * S128x128.size a ≤ (i a : Nat) ∧ (i a : Nat) < win0_8.index tLast a * S128x128.size a + S128x128.size a
      rw [idx8 tLast a]
      have h : (i a : Nat) < S128x128.size a := (i a).isLt
      omega⟩

theorem final9 : (dats m 0 c).arrAt 9 cfg0.N = accG m c 31 h31 :=
  (dats m 0 c).arrAt_eq_of_cover 9 (accG m c 31 h31 : Buf (Elt F) ((c : Thread nD τ).loc main_v2_3))
    (fun t hf => by
      obtain rfl : t = tLast := eq_last t ((flush0_9 t).mp hf)
      rw [Value.flushed9]
      rw [outs_acc m c tLast.val tLast.isLt h31]
      have hz : (fun a => win0_9.index tLast a * main_v2_3.ty.shape.size a) = fun _ => 0 := funext fun a => by rw [idx9 tLast a]; omega
      exact (Memref.read_access_unit_zero (Elt F) main_v2_3 hz (fun a => by rw [congrFun hz a]; simp) _).symm)
    fun i => ⟨tLast, (flush0_9 tLast).mpr rfl, by
      show i ∈ ((View.whole main_v2_3).slice (win0_9.rect tLast)).set
      rw [View.set_slice_whole, Rect.mem_set_unit]
      intro a
      show win0_9.index tLast a * S1x4096.size a ≤ (i a : Nat) ∧ (i a : Nat) < win0_9.index tLast a * S1x4096.size a + S1x4096.size a
      rw [idx9 tLast a]
      have h : (i a : Nat) < S1x4096.size a := (i a).isLt
      omega⟩

theorem final10 : (dats m 0 c).arrAt 10 cfg0.N = accL m c 31 h31 :=
  (dats m 0 c).arrAt_eq_of_cover 10 (accL m c 31 h31 : Buf (Elt F) ((c : Thread nD τ).loc main_v2_4))
    (fun t hf => by
      obtain rfl : t = tLast := eq_last t ((flush0_10 t).mp hf)
      rw [Value.flushed10]
      rw [outs_acc m c tLast.val tLast.isLt h31]
      have hz : (fun a => win0_10.index tLast a * main_v2_4.ty.shape.size a) = fun _ => 0 := funext fun a => by rw [idx10 tLast a]; omega
      exact (Memref.read_access_unit_zero (Elt F) main_v2_4 hz (fun a => by rw [congrFun hz a]; simp) _).symm)
    fun i => ⟨tLast, (flush0_10 tLast).mpr rfl, by
      show i ∈ ((View.whole main_v2_4).slice (win0_10.rect tLast)).set
      rw [View.set_slice_whole, Rect.mem_set_unit]
      intro a
      show win0_10.index tLast a * S1x4096.size a ≤ (i a : Nat) ∧ (i a : Nat) < win0_10.index tLast a * S1x4096.size a + S1x4096.size a
      rw [idx10 tLast a]
      have h : (i a : Nat) < S1x4096.size a := (i a).isLt
      omega⟩

/-- Point `n`, as a point of the grid. -/
def tAt (n : ℕ) (h : n < 32) : Fin cfg0.N := ⟨n, by show n < grid0.N; rw [N_0]; exact h⟩

/-- A place of the wide result's array is the place of its point's block. -/
theorem final6_read (n : ℕ) (h : n < 32) (r : Fin 128) (k : Fin 8192) :
    (dats m 0 c).arrAt 6 cfg0.N (ix2 (rowOf n h r) k) = (outsAt0 m c n (tAt n h).isLt).1 (ix2 r k) := by
  have e := congrFun (Value.blocks6 m c (tAt n h) (flush0_6 _)) (ix2 r k)
  rw [Value.flushed6, View.read_apply] at e
  refine Eq.trans (congrArg _ (funext fun a => Fin.ext ?_)) e
  match a with
  | ⟨0, _⟩ => show 128 * n + r.val = win0_6.index (tAt n h) 0 * 128 + 1 * r.val; rw [(idx6 _).1]; show _ = n * 128 + _; omega
  | ⟨1, _⟩ => show k.val = win0_6.index (tAt n h) 1 * 8192 + 1 * k.val; rw [(idx6 _).2]; omega

theorem final6_lo (n : ℕ) (h : n < 32) (r : Fin 128) (k : Fin 8192) (hk : k.val < 4096) :
    (dats m 0 c).arrAt 6 cfg0.N (ix2 (rowOf n h r) k)
      = ptU (blkZ m c n h) (blkD m c n h) (aLg m c) (aLb m c) (aW m c) (aB m c) r k.val hk :=
  (final6_read m c n h r k).trans (outs_lo m c (tAt n h) r k hk)

theorem final6_hi (n : ℕ) (h : n < 32) (r : Fin 128) (k : Fin 4096) :
    (dats m 0 c).arrAt 6 cfg0.N (ix2 (rowOf n h r) ⟨4096 + k.val, by omega⟩)
      = ptV (blkZ m c n h) (blkD m c n h) (aLg m c) (aW m c) (ix2 r k) :=
  (final6_read m c n h r _).trans (outs_hi m c (tAt n h) r k)

end Cert.KernelIdeal.Body
-- ==== Proof.Spec.lean ====
/-
  The gate's gradient in plain formulas over the extended reals: what both programs are compared with.
-/
module

public import Idealize.ShloMosaic.PureOps.Ideal.Laws

@[expose] public section

noncomputable section

namespace Cert.Gate

open Idealize.ShloMosaic

/-- The constants, as the programs hold them: ½, −½, 2, 4096 and the normalisation's 10⁻⁵. -/
def half : EReal := Ideal.ofBits .f32 0x3F000000#32
def minusHalf : EReal := Ideal.ofBits .f32 0xBF000000#32
def two : EReal := Ideal.ofBits .f32 0x40000000#32
def width : EReal := Ideal.ofBits .f32 0x45800000#32
def eps : EReal := Ideal.ofBits .f32 0x3727C5AC#32

/-- `1/√2` and `1/√(2π)`. -/
def rootHalf : EReal := (((Real.sqrt 2)⁻¹ : ℝ) : EReal)
def density : EReal := (((Real.sqrt (2 * Real.pi))⁻¹ : ℝ) : EReal)

/-- The GELU of one number and its slope, in the kernel's order. -/
def act (z : EReal) : EReal := z * (Ideal.erf (z * rootHalf) + 1) * half
def slp (z : EReal) : EReal := half * (1 + Ideal.erf (z * rootHalf)) + z * (density * Ideal.exp (minusHalf * z * z))

/-- `2/√π`, and the slope as differentiating the reference's line gives it. -/
def slopeScale : EReal := ((2 * (Real.sqrt Real.pi)⁻¹ : ℝ) : EReal)
def slpRef (z : EReal) : EReal :=
  slopeScale * (half * z) * Ideal.exp (0 - z * rootHalf * (z * rootHalf)) * rootHalf + half * (1 + Ideal.erf (z * rootHalf))

/-- The activated second half of a row. -/
def vrow (z : Fin 8192 → EReal) (k : Fin 4096) : EReal := act (z ⟨4096 + k.val, by omega⟩)

/-- The activated first half of a row. -/
def urow (z : Fin 8192 → EReal) (k : Fin 4096) : EReal := act (z ⟨k.val, by omega⟩)

def mean (v : Fin 4096 → EReal) : EReal := Ideal.div (∑ k, v k) width
def cen (v : Fin 4096 → EReal) (k : Fin 4096) : EReal := v k - mean v
def rstd (v : Fin 4096 → EReal) : EReal := Ideal.rsqrt (mean (fun k => cen v k * cen v k) + eps)
def vn (v : Fin 4096 → EReal) (k : Fin 4096) : EReal := cen v k * rstd v
def vl (v lg lb : Fin 4096 → EReal) (k : Fin 4096) : EReal := vn v k * lg k + lb k

/-- The normalisation's gradient, from the gradient `x` of its scaled output. -/
def dn (v lg x : Fin 4096 → EReal) (k : Fin 4096) : EReal :=
  rstd v * (x k * lg k - mean (fun j => x j * lg j) - vn v k * mean (fun j => x j * lg j * vn v j))

/-- What the normalisation takes the square root of. -/
def spread (v : Fin 4096 → EReal) : EReal := mean (fun k => cen v k * cen v k) + eps

/-- The same gradient as differentiating the reference's lines gives it: the share through the inverse root, and the shares
through the two means. -/
def viaRoot (v lg x : Fin 4096 → EReal) : EReal :=
  Ideal.div ((∑ j, cen v j * (x j * lg j)) * (minusHalf * Ideal.div (rstd v) (spread v))) width
def dnRef (v lg x : Fin 4096 → EReal) (k : Fin 4096) : EReal :=
  x k * lg k * rstd v + viaRoot v lg x * (two * cen v k)
    + Ideal.div ((∑ j, -(x j * lg j * rstd v)) + ∑ j, -(viaRoot v lg x * (two * cen v j))) width

/-- The lower triangle of a matrix, zero above. -/
def low (w : Fin 128 → Fin 128 → EReal) (a b : Fin 128) : EReal := if b.val ≤ a.val then w a b else 0

/-- The group a column is in. -/
def group (k : Fin 4096) : Fin 16 := ⟨k.val / 256, by omega⟩

/-- Column `e` of group `g`. -/
def col (g : Fin 16) (e : Fin 256) : Fin 4096 := ⟨256 * g.val + e.val, by omega⟩

/-- The gradient of the mixed values of a chunk. -/
def ds (z : Fin 128 → Fin 8192 → EReal) (d : Fin 128 → Fin 4096 → EReal) (r : Fin 128) (k : Fin 4096) : EReal := d r k * urow (z r) k

/-- The mixed values of a chunk. -/
def mixed (z : Fin 128 → Fin 8192 → EReal) (lg lb : Fin 4096 → EReal) (w : Fin 16 → Fin 128 → Fin 128 → EReal) (s : Fin 16 → Fin 128 → EReal)
    (r : Fin 128) (k : Fin 4096) : EReal :=
  (∑ b, low (w (group k)) r b * vl (vrow (z b)) lg lb k) + s (group k) r

/-- The gradient of the normalised values of a chunk. -/
def dvl (z : Fin 128 → Fin 8192 → EReal) (d : Fin 128 → Fin 4096 → EReal) (w : Fin 16 → Fin 128 → Fin 128 → EReal) (a : Fin 128)
    (k : Fin 4096) : EReal :=
  ∑ x, low (w (group k)) x a * ds z d x k

/-! ### The results over all 4096 rows -/

/-- Row `r` of chunk `i`. -/
def at' (i : Fin 32) (r : Fin 128) : Fin 4096 := ⟨128 * i.val + r.val, by omega⟩

/-- A sum over all rows, chunk by chunk. -/
theorem sum_rows (f : Fin 4096 → EReal) : ∑ t, f t = ∑ i, ∑ r, f (at' i r) := by
  rw [← Fintype.sum_prod_type' (fun i r => f (at' i r))]
  refine (Fintype.sum_equiv (finProdFinEquiv (m := 32) (n := 128)) _ _ fun x => congrArg f (Fin.ext ?_)).symm
  show 128 * x.1.val + x.2.val = x.2.val + 128 * x.1.val
  omega

/-- Chunk `i` of a table. -/
def chunk {k : ℕ} (x : Fin 4096 → Fin k → EReal) (i : Fin 32) : Fin 128 → Fin k → EReal := fun r => x (at' i r)

variable (z : Fin 4096 → Fin 8192 → EReal) (d : Fin 4096 → Fin 4096 → EReal) (lg lb : Fin 4096 → EReal)
  (w : Fin 16 → Fin 128 → Fin 128 → EReal) (s : Fin 16 → Fin 128 → EReal)

/-- The pre-activation's gradient, first half. -/
def resU (i : Fin 32) (r : Fin 128) (k : Fin 4096) : EReal :=
  d (at' i r) k * mixed (chunk z i) lg lb w s r k * slp (z (at' i r) ⟨k.val, by omega⟩)

/-- The pre-activation's gradient, second half. -/
def resV (i : Fin 32) (r : Fin 128) (k : Fin 4096) : EReal :=
  dn (vrow (z (at' i r))) lg (dvl (chunk z i) (chunk d i) w r) k * slp (z (at' i r) ⟨4096 + k.val, by omega⟩)

/-- The mixing matrices' gradient. -/
def resW (g : Fin 16) : Fin 128 → Fin 128 → EReal :=
  low fun p q => ∑ i, ∑ e : Fin 256, ds (chunk z i) (chunk d i) p (col g e) * vl (vrow (z (at' i q))) lg lb (col g e)

/-- The biases' gradient, one group a lane. -/
def resB (p q : Fin 128) : EReal :=
  if hq : q.val < 16 then ∑ i, ∑ e : Fin 256, ds (chunk z i) (chunk d i) p (col ⟨q.val, hq⟩ e) else 0

/-- The scale's gradient. -/
def resG (k : Fin 4096) : EReal := ∑ i, ∑ r, dvl (chunk z i) (chunk d i) w r k * vn (vrow (z (at' i r))) k

/-- The shift's gradient. -/
def resL (k : Fin 4096) : EReal := ∑ i, ∑ r, dvl (chunk z i) (chunk d i) w r k

end Cert.Gate
-- ==== Proof.Rows.lean ====
/-
  A grid point's values at the ideal reading, as the plain formulas of the chunk of 128 rows it holds.
-/
module

public import proofs.«01_k».proof.Proof.Point
public import proofs.«01_k».proof.Proof.Spec
public import Idealize.ShloMosaic.Lib.Pointwise
public import Idealize.ShloMosaic.Lib.WordCmp
public import Idealize.ShloMosaic.PureOps.Ideal.Laws

@[expose] public section

set_option maxRecDepth 16384

noncomputable section

namespace Cert.KernelIdeal.Rows

open Cert.KernelIdeal Cert.KernelIdeal.Gen Cert.KernelIdeal.Body Idealize.ShloMosaic Idealize.ShloMosaic.TcCoe Idealize.SL.Sem

variable (z : Vec Ideal S128x8192 .f32) (d : Vec Ideal S128x4096 .bf16) (lg lb : Vec Ideal S1x4096 .f32) (w : Vec Ideal S16x128x128 .f32)
  (b : Vec Ideal S128x128 .f32)

/-- The operands as plain tables. -/
def tz : Fin 128 → Fin 8192 → EReal := fun r k => z (ix2 r k)
def td : Fin 128 → Fin 4096 → EReal := fun r k => d (ix2 r k)
def tl : Fin 4096 → EReal := fun k => lg (ix2 0 k)
def tw : Fin 16 → Fin 128 → Fin 128 → EReal := fun g a b => w (ix3 g a b)
def tb : Fin 16 → Fin 128 → EReal := fun g a => b (ix2 a ⟨g.val, by omega⟩)

theorem root_at : (Named.named κ "sqrt_half" 0x3F3504F3#32 : Ideal .f32) = Gate.rootHalf :=
  IdealRules.named_const.ideal_named_scalar _ _ _ _ rfl
theorem dens_at : (Named.named κ "inv_sqrt_2pi" 0x3ECC422A#32 : Ideal .f32) = Gate.density :=
  IdealRules.named_const.ideal_named_scalar _ _ _ _ rfl

theorem pay8_at (r : Fin 128) (k : Fin 4096) : k0_pay8 z (ix2 r k) = Gate.urow (tz z r) k := by
  pointwise [k0_pay8, k0_pay6]
  rw [root_at]; rfl
theorem pay9_at (r : Fin 128) (k : Fin 4096) : k0_pay9 z (ix2 r k) = Gate.cen (Gate.vrow (tz z r)) k := by
  pointwise [k0_pay9, k0_pay7]
  rw [root_at]; rfl
theorem pay10_at (r : Fin 128) : k0_pay10 z (ix2 r 0) = Gate.rstd (Gate.vrow (tz z r)) := by
  pointwise [k0_pay10]
  simp only [pay9_at]; rfl
theorem pay11_at (r : Fin 128) (k : Fin 4096) : k0_pay11 z (ix2 r k) = Gate.vn (Gate.vrow (tz z r)) k := by
  pointwise [k0_pay11]
  rw [pay9_at, pay10_at]; rfl
theorem vln_at (r : Fin 128) (k : Fin 4096) : vln z lg lb (ix2 r k) = Gate.vl (Gate.vrow (tz z r)) (tl lg) (tl lb) k := by
  pointwise [vln, k0_pay13, k0_pay12]
  rw [pay11_at]; rfl

/-- The two masks, as comparisons of places. -/
theorem mask_at (a b : Fin 128) {α : Type} (x y : α) :
    Scalar.select (IntOp.cmpi CmpIPredicate.sge (BitVec.ofNat 32 a.val) (BitVec.ofNat 32 b.val)) x y = if b.val ≤ a.val then x else y := by
  rw [WordCmp.cmpi_sge_ofNat (by omega) (by omega)]
  unfold Scalar.select
  by_cases h : b.val ≤ a.val <;> simp [h]
theorem lane_at (a : Fin 128) (b : Fin 16) {α : Type} (x y : α) :
    Scalar.select (IntOp.cmpi CmpIPredicate.eq (BitVec.ofNat 32 a.val) (BitVec.ofNat 32 b.val)) x y = if a.val = b.val then x else y := by
  rw [WordCmp.cmpi_eq_ofNat (by omega) (by omega)]
  unfold Scalar.select
  by_cases h : a.val = b.val <;> simp [h]

/-- Column `k` is the `k % 256`-th of group `k / 256`. -/
theorem col_grp (k : Fin 4096) (h : 256 * (grp k.val k.isLt).val + (loc k.val).val < 4096) :
    (⟨256 * (grp k.val k.isLt).val + (loc k.val).val, h⟩ : Fin 4096) = k := by
  refine Fin.ext ?_
  show 256 * (k.val / 256) + k.val % 256 = k.val
  omega

theorem pay17_at (g : Fin 16) (p q : Fin 128) : k0_pay17 (mat g w) (ix2 p q) = Gate.low (tw w g) p q := by
  pointwise [k0_pay17, k0_pay16]
  rw [mask_at]
  have e : mat g w (ix3 0 p q) = w (ix3 g p q) := congrArg w (funext fun a => Fin.ext (by
    match a with
    | ⟨0, _⟩ => show g.val + 1 * 0 = g.val; omega
    | ⟨1, _⟩ => show 0 + 1 * p.val = p.val; omega
    | ⟨2, _⟩ => show 0 + 1 * q.val = q.val; omega))
  rw [e]; rfl

/-- The gradient of the normalised values. -/
theorem scr_at (a : Fin 128) (k : Fin 4096) : scr z d w (ix2 a k) = Gate.dvl (tz z) (td d) (tw w) a k := by
  unfold scr
  pointwise [dv, dsr, Body.ds, cols]
  simp only [pay8_at, col_grp]
  exact Finset.sum_congr rfl fun x _ => congrArg (· * (d (ix2 x k) * Gate.urow (tz z x) k)) (pay17_at w _ x a)

theorem slope_at (s : Shape) (z : FVec Ideal s .f32) (i : s.Idx) : Body.slope s z i = Gate.slp (z i) := by
  pointwise [Body.slope]
  rw [root_at, dens_at]; rfl

/-- The gradient of the pre-activation's first half. -/
theorem ptU_at (r : Fin 128) (k : Fin 4096) :
    ptU z d lg lb w b r k.val k.isLt
      = d (ix2 r k) * Gate.mixed (tz z) (tl lg) (tl lb) (tw w) (tb b) r k * Gate.slp (z (ix2 r ⟨k.val, by omega⟩)) := by
  unfold ptU
  pointwise [dzu, mix, cols, k0_pay6]
  rw [slope_at]
  simp only [vln_at, col_grp]
  refine congrArg₂ (· * ·) (congrArg (d (ix2 r k) * ·) (congrArg₂ (· + ·) (Finset.sum_congr rfl fun x _ => ?_) rfl)) (congrArg Gate.slp ?_)
  · exact congrArg (· * Gate.vl (Gate.vrow (tz z x)) (tl lg) (tl lb) k) (pay17_at w _ r x)
  · show z _ = z _
    refine congrArg z (funext fun a => Fin.ext ?_)
    match a with
    | ⟨0, _⟩ => show 0 + (0 + r.val) = r.val; omega
    | ⟨1, _⟩ => show 0 + (256 * (k.val / 256) + k.val % 256) = k.val; omega

/-- The gradient of the pre-activation's second half. -/
theorem ptV_at (r : Fin 128) (k : Fin 4096) :
    ptV z d lg w (ix2 r k) = Gate.dn (Gate.vrow (tz z r)) (tl lg) (Gate.dvl (tz z) (td d) (tw w) r) k * Gate.slp (z (ix2 r ⟨4096 + k.val, by omega⟩)) := by
  unfold ptV
  pointwise [dzv, dnorm, k0_pay224, k0_pay7]
  rw [slope_at]
  simp only [scr_at, pay10_at, pay11_at]
  pointwise []
  rfl

/-- What a point adds to a matrix's gradient. -/
def addW (z : Fin 128 → Fin 8192 → EReal) (d : Fin 128 → Fin 4096 → EReal) (lg lb : Fin 4096 → EReal) (g : Fin 16) (p q : Fin 128) : EReal :=
  ∑ e : Fin 256, Gate.ds z d p (Gate.col g e) * Gate.vl (Gate.vrow (z q)) lg lb (Gate.col g e)

theorem ptW_at (o : Vec Ideal S16x128x128 .f32) (g : Fin 16) (p q : Fin 128) :
    ptW z d lg lb o (ix3 g p q) = o (ix3 g p q) + Gate.low (addW (tz z) (td d) (tl lg) (tl lb) g) p q := by
  unfold ptW
  pointwise [dw, dsr, Body.ds, cols, k0_pay16]
  rw [mask_at]
  have e : mat g o (ix3 0 p q) = o (ix3 g p q) := congrArg o (funext fun a => Fin.ext (by
    match a with
    | ⟨0, _⟩ => show g.val + 1 * 0 = g.val; omega
    | ⟨1, _⟩ => show 0 + 1 * p.val = p.val; omega
    | ⟨2, _⟩ => show 0 + 1 * q.val = q.val; omega))
  simp only [pay8_at, vln_at, e]
  rfl

/-- What a point adds to a bias's gradient. -/
def addB (z : Fin 128 → Fin 8192 → EReal) (d : Fin 128 → Fin 4096 → EReal) (g : Fin 16) (p : Fin 128) : EReal :=
  ∑ e : Fin 256, Gate.ds z d p (Gate.col g e)

theorem db_at (g : Fin 16) (p q : Fin 128) :
    db z (cols g d) g (ix2 p q) = if q.val = g.val then addB (tz z) (td d) g p else 0 := by
  pointwise [db, Body.ds, cols]
  rw [lane_at]
  simp only [pay8_at]
  rfl

theorem dbs_at : ∀ (n : ℕ) (h : n ≤ 16) (p q : Fin 128),
    dbs z (fun g => cols g d) n h (ix2 p q) = if hq : q.val < n then addB (tz z) (td d) ⟨q.val, by omega⟩ p else 0
  | 0, h, p, q => by
    pointwise [dbs]
    simp
  | n + 1, h, p, q => by
    rw [dbs]
    pointwise []
    rw [db_at, dbs_at n (Nat.le_of_succ_le h) p q]
    by_cases h1 : q.val < n
    · have h2 : ¬q.val = n := by omega
      have h3 : q.val < n + 1 := by omega
      simp [h1, h2, h3]
    · by_cases h2 : q.val = n
      · have h3 : q.val < n + 1 := by omega
        simp only [h1, h2, h3, dite_true, dite_false, if_true]
        simp [h2]
      · have h3 : ¬q.val < n + 1 := by omega
        simp [h1, h2, h3]

theorem ptB_at (o : Vec Ideal S128x128 .f32) (p q : Fin 128) :
    ptB z d o (ix2 p q) = o (ix2 p q) + if hq : q.val < 16 then addB (tz z) (td d) ⟨q.val, hq⟩ p else 0 := by
  unfold ptB
  pointwise []
  rw [dbs_at]

theorem dlg_at (x : Vec Ideal S128x4096 .f32) (o : Vec Ideal S1x4096 .f32) (k : Fin 4096) :
    dlg z x o (ix2 0 k) = o (ix2 0 k) + ∑ r, x (ix2 r k) * Gate.vn (Gate.vrow (tz z r)) k := by
  pointwise [dlg]
  simp only [pay11_at]

theorem dlb_at (x : Vec Ideal S128x4096 .f32) (o : Vec Ideal S1x4096 .f32) (k : Fin 4096) :
    dlb x o (ix2 0 k) = o (ix2 0 k) + ∑ r, x (ix2 r k) := by
  pointwise [dlb]

end Cert.KernelIdeal.Rows
-- ==== Proof.Finals.lean ====
/-
  The kernel's five results at the ideal reading, as the plain formulas over all rows.
-/
module

public import proofs.«01_k».proof.Proof.Arrays
public import proofs.«01_k».proof.Proof.Rows

@[expose] public section

set_option maxRecDepth 16384

noncomputable section

namespace Cert.KernelIdeal.Rows

open Cert.KernelIdeal Cert.KernelIdeal.Gen Cert.KernelIdeal.Body Idealize.ShloMosaic Idealize.ShloMosaic.TcCoe Idealize.SL.Sem

/-- What starts at the first point's share and gains each further point's share is, at the last point, the sum of all shares. -/
theorem sum_points (a : (n : ℕ) → n < 32 → EReal) (f : Fin 32 → EReal) (h0 : a 0 (by decide) = f 0)
    (hs : ∀ n (h : n + 1 < 32), a (n + 1) h = a n (Nat.lt_of_succ_lt h) + f ⟨n + 1, h⟩) : a 31 h31 = ∑ i, f i := by
  have key : ∀ n (h : n < 32), a n h = ∑ i : Fin (n + 1), f ⟨i.val, by omega⟩ := by
    intro n
    induction n with
    | zero => intro h; rw [h0]; simp
    | succ n ih => intro h; rw [hs n h, ih, Fin.sum_univ_castSucc (n := n + 1)]; rfl
  exact key 31 h31

variable (m : (ℓ : Loc nD τ sig) → Buf (Elt Ideal) ℓ) (c : Dev nD)

/-- The arguments as plain tables. -/
def gZ : Fin 4096 → Fin 8192 → EReal := fun t k => m ((c : Thread nD τ).loc main_arg0) (ix2 t k)
def gD : Fin 4096 → Fin 4096 → EReal := fun t k => m ((c : Thread nD τ).loc main_arg1) (ix2 t k)
def gG : Fin 4096 → EReal := fun k => m ((c : Thread nD τ).loc main_arg2) (ix2 0 k)
def gL : Fin 4096 → EReal := fun k => m ((c : Thread nD τ).loc main_arg3) (ix2 0 k)
def gW : Fin 16 → Fin 128 → Fin 128 → EReal := fun g a b => m ((c : Thread nD τ).loc main_arg4) (ix3 g a b)
def gS : Fin 16 → Fin 128 → EReal := fun g a => m ((c : Thread nD τ).loc main_arg5) (ix2 g a)

theorem tz_blk (n : ℕ) (h : n < 32) : tz (blkZ m c n h) = Gate.chunk (gZ m c) ⟨n, h⟩ := rfl
theorem td_blk (n : ℕ) (h : n < 32) : td (blkD m c n h) = Gate.chunk (gD m c) ⟨n, h⟩ := rfl

theorem zero2 (g : Fin 16) (p q : Fin 128) : k0_pay2 (F := Ideal) (ix3 g p q) = 0 := by pointwise [k0_pay2]
theorem zero3 (p q : Fin 128) : k0_pay3 (F := Ideal) (ix2 p q) = 0 := by pointwise [k0_pay3]
theorem zero4 (k : Fin 4096) : k0_pay4 (F := Ideal) (ix2 0 k) = 0 := by pointwise [k0_pay4]
theorem zero5 (k : Fin 4096) : k0_pay5 (F := Ideal) (ix2 0 k) = 0 := by pointwise [k0_pay5]

/-- The mixing matrices' gradient. -/
theorem valW (g : Fin 16) (p q : Fin 128) : accW m c 31 h31 (ix3 g p q) = Gate.resW (gZ m c) (gD m c) (gG m c) (gL m c) g p q := by
  rw [sum_points (fun n h => accW m c n h (ix3 g p q))
    (fun i => Gate.low (addW (Gate.chunk (gZ m c) i) (Gate.chunk (gD m c) i) (gG m c) (gL m c) g) p q)
    (by show ptW _ _ _ _ _ _ = _; rw [ptW_at, zero2, zero_add]; rfl)
    (fun n h => by show ptW _ _ _ _ _ _ = _; rw [ptW_at]; rfl)]
  unfold Gate.resW Gate.low
  by_cases h : q.val ≤ p.val
  · simp only [h, if_true]; rfl
  · simp only [h, if_false]; exact Finset.sum_const_zero

/-- The biases' gradient. -/
theorem valB (p q : Fin 128) : accB m c 31 h31 (ix2 p q) = Gate.resB (gZ m c) (gD m c) p q := by
  rw [sum_points (fun n h => accB m c n h (ix2 p q))
    (fun i => if hq : q.val < 16 then addB (Gate.chunk (gZ m c) i) (Gate.chunk (gD m c) i) ⟨q.val, hq⟩ p else 0)
    (by show ptB _ _ _ _ = _; rw [ptB_at, zero3, zero_add]; rfl)
    (fun n h => by show ptB _ _ _ _ = _; rw [ptB_at]; rfl)]
  unfold Gate.resB
  by_cases h : q.val < 16
  · simp only [h, dite_true]; rfl
  · simp only [h, dite_false]; exact Finset.sum_const_zero

theorem scrAt_at (n : ℕ) (h : n < 32) (r : Fin 128) (k : Fin 4096) :
    scrAt m c n h (ix2 r k) = Gate.dvl (Gate.chunk (gZ m c) ⟨n, h⟩) (Gate.chunk (gD m c) ⟨n, h⟩) (gW m c) r k :=
  scr_at _ _ _ r k

/-- The scale's gradient. -/
theorem valG (k : Fin 4096) : accG m c 31 h31 (ix2 0 k) = Gate.resG (gZ m c) (gD m c) (gW m c) k :=
  sum_points (fun n h => accG m c n h (ix2 0 k))
    (fun i => ∑ r, Gate.dvl (Gate.chunk (gZ m c) i) (Gate.chunk (gD m c) i) (gW m c) r k * Gate.vn (Gate.vrow (gZ m c (Gate.at' i r))) k)
    (by show dlg _ _ _ _ = _; rw [dlg_at, zero4, zero_add]; simp only [scrAt_at]; rfl)
    (fun n h => by show dlg _ _ _ _ = _; rw [dlg_at]; simp only [scrAt_at]; rfl)

/-- The shift's gradient. -/
theorem valL (k : Fin 4096) : accL m c 31 h31 (ix2 0 k) = Gate.resL (gZ m c) (gD m c) (gW m c) k :=
  sum_points (fun n h => accL m c n h (ix2 0 k))
    (fun i => ∑ r, Gate.dvl (Gate.chunk (gZ m c) i) (Gate.chunk (gD m c) i) (gW m c) r k)
    (by show dlb _ _ _ = _; rw [dlb_at, zero5, zero_add]; simp only [scrAt_at]; rfl)
    (fun n h => by show dlb _ _ _ = _; rw [dlb_at]; simp only [scrAt_at])

/-- The bias block the host prepares: the transposed biases in the first sixteen lanes. -/
theorem bias_at (g : Fin 16) (a : Fin 128) : tb (aB m c) g a = gS m c g a := by
  unfold tb aB gS
  have e : V m c main_v1 = pad S128x128 ![0, 0] ![0, 112] ![0, 0]
      (transpose S128x16 [1, 0] (m ((c : Thread nD τ).loc main_arg5)) transposes_S16x128_S128x16_1_0)
      (sitofp (F := Ideal) .f32 (constantI S_ 32 0#32)) pads_S128x16_S128x128_000_01120 h_S_ := rfl
  rw [e]
  pointwise []

/-- The pre-activation's gradient, in its two halves. -/
theorem valU (i : Fin 32) (r : Fin 128) (k : Fin 4096) :
    (dats m 0 c).arrAt 6 cfg0.N (ix2 (Gate.at' i r) ⟨k.val, by omega⟩)
      = Gate.resU (gZ m c) (gD m c) (gG m c) (gL m c) (gW m c) (gS m c) i r k := by
  refine (final6_lo m c i.val i.isLt r ⟨k.val, by omega⟩ k.isLt).trans ?_
  rw [ptU_at _ _ _ _ _ _ r k]
  have e : tb (aB m c) = gS m c := funext fun g => funext fun a => bias_at m c g a
  rw [e]; rfl

theorem valV (i : Fin 32) (r : Fin 128) (k : Fin 4096) :
    (dats m 0 c).arrAt 6 cfg0.N (ix2 (Gate.at' i r) ⟨4096 + k.val, by omega⟩) = Gate.resV (gZ m c) (gD m c) (gG m c) (gW m c) i r k :=
  (final6_hi m c i.val i.isLt r k).trans (ptV_at _ _ _ _ r k)

end Cert.KernelIdeal.Rows
-- ==== Proof.RefRows.lean ====
/-
  The reference's arrays at the ideal reading, an element at a time.
-/
module

public import proofs.«01_k».proof.Proof.Gen.ReferenceIdeal.Read
public import proofs.«01_k».proof.Proof.Spec
public import Idealize.ShloMosaic.Lib.Pointwise
public import Idealize.ShloMosaic.Lib.WordCmp
public import Idealize.ShloMosaic.PureOps.Ideal.Laws

@[expose] public section

set_option maxRecDepth 16384

noncomputable section

namespace Cert.ReferenceIdeal.Rows

open Cert.ReferenceIdeal Cert.ReferenceIdeal.Gen Cert.ReferenceIdeal.Read Idealize.ShloMosaic Idealize.ShloMosaic.TcCoe Idealize.SL.Sem

variable (x1 : Vec Ideal S4096x4096 .bf16) (x2 x3 : Vec Ideal S1x4096 .f32) (x4 : Vec Ideal S16x128x128 .f32) (x5 : Vec Ideal S16x128 .f32)
  (r0 r1 : Vec Ideal S4096x8192 .f32)

/-- The activated second half of a row. -/
def vr (t : Fin 4096) : Fin 4096 → EReal := fun k => r0 (ix2 t ⟨4096 + k.val, by omega⟩)

theorem v2_at (t k : Fin 4096) : val_main_v2 (F := Ideal) r0 (ix2 t k) = vr r0 t k := by
  pointwise [val_main_v2]
  rfl
theorem v6_at (t : Fin 4096) : val_main_v6 (F := Ideal) r0 (ix2 t 0) = Gate.mean (vr r0 t) := by
  pointwise [val_main_v6, val_main_v4, val_main_v3, val_main_v5, val_main_cst_0, val_main_cst]
  simp only [v2_at]
  rfl
theorem v17_at (t k : Fin 4096) : val_main_v17 (F := Ideal) r0 (ix2 t k) = Gate.cen (vr r0 t) k := by
  pointwise [val_main_v17, val_main_v16]
  rw [v2_at, v6_at]; rfl
theorem v8_at (t k : Fin 4096) : val_main_v8 (F := Ideal) r0 (ix2 t k) = Gate.cen (vr r0 t) k := by
  pointwise [val_main_v8, val_main_v7]
  rw [v2_at, v6_at]; rfl
theorem v19_at (t : Fin 4096) : val_main_v19 (F := Ideal) r0 (ix2 t 0) = Gate.mean (fun k => Gate.cen (vr r0 t) k * Gate.cen (vr r0 t) k) + Gate.eps := by
  pointwise [val_main_v19, val_main_v18, val_main_v15, val_main_v14, val_main_v13, val_main_v12, val_main_v9, val_main_cst_2, val_main_cst_3, val_main_cst_4]
  simp only [v8_at]
  rfl
theorem v20_at (t : Fin 4096) : val_main_v20 (F := Ideal) r0 (ix2 t 0) = Gate.rstd (vr r0 t) := by
  pointwise [val_main_v20]
  rw [v19_at]; rfl
theorem v25_at (t k : Fin 4096) : val_main_v25 (F := Ideal) r0 (ix2 t k) = Gate.vn (vr r0 t) k := by
  pointwise [val_main_v25, val_main_v24]
  rw [v17_at, v20_at]; rfl
theorem v29_at (t k : Fin 4096) : val_main_v29 (F := Ideal) x2 x3 r0 (ix2 t k) = Gate.vl (vr r0 t) (fun k => x2 (ix2 0 k)) (fun k => x3 (ix2 0 k)) k := by
  pointwise [val_main_v29, val_main_v28, val_main_v27, val_main_v26]
  rw [v25_at]; rfl
/-- Row `r` of chunk `i`, column `e` of group `g`. -/
theorem v30_at (i : Fin 32) (r : Fin 128) (g : Fin 16) (e : Fin 256) : val_main_v30 (F := Ideal) x2 x3 r0 (ix4 i r g e)
    = Gate.vl (vr r0 (Gate.at' i r)) (fun k => x2 (ix2 0 k)) (fun k => x3 (ix2 0 k)) (Gate.col g e) := by
  pointwise [val_main_v30]
  rw [v29_at]
  exact congrArg₂ (fun a b => Gate.vl (vr r0 a) (fun k => x2 (ix2 0 k)) (fun k => x3 (ix2 0 k)) b)
    (Fin.ext (by show i.val * 128 + r.val = 128 * i.val + r.val; omega)) (Fin.ext (by show g.val * 256 + e.val = 256 * g.val + e.val; omega))

/-- The mask, as a comparison of places. -/
theorem v341_at (g : Fin 16) (p q : Fin 128) {α : Type} (x y : α) :
    Scalar.select (val_main_v34_1 (F := Ideal) (ix3 g p q)) x y = if q.val ≤ p.val then x else y := by
  pointwise [val_main_v34_1, val_main_v33, val_main_v32, val_main_call0_v4, val_main_v31, val_main_call0_v5, val_main_call0_v0,
    val_main_call0_v1, val_main_call0_v2, val_main_call0_v3, val_main_c, val_main_call0_c, val_main_call0_c_0]
  have e : IntOp.addi (BitVec.ofNat 32 p.val) 0#32 = BitVec.ofNat 32 p.val := by simp [IntOp.addi]
  rw [e, WordCmp.cmpi_sge_ofNat (by omega) (by omega)]
  unfold Scalar.select
  by_cases h : q.val ≤ p.val <;> simp [h]

theorem v34_at (g : Fin 16) (p q : Fin 128) : val_main_v34_0 (F := Ideal) x4 (ix3 g p q) = Gate.low (fun a b => x4 (ix3 g a b)) p q := by
  pointwise [val_main_v34_0, val_main_call1_v1, val_main_cst_6]
  rw [v341_at]; rfl

/-- A sum over the first and the last of four axes. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ i : Fin n0, ∑ e : Fin n3, v (ix4 i a b e) := by
  have fiber : ∀ i, h.drop i = ix2 a b ↔ ∃ k : Fin n0 × Fin n3, ix4 k.1 a b k.2 = i := by
    intro i
    have d0 : (h.drop i 0 : Nat) = i 1 := Shape.ReducesTo.drop_apply_val h i 0
    have d1 : (h.drop i 1 : Nat) = i 2 := Shape.ReducesTo.drop_apply_val h i 1
    constructor
    · intro e
      refine ⟨(i 0, i 3), funext fun x => Fin.ext ?_⟩
      match x with
      | ⟨0, _⟩ => rfl
      | ⟨1, _⟩ => rw [e] at d0; exact d0
      | ⟨2, _⟩ => rw [e] at d1; exact d1
      | ⟨3, _⟩ => rfl
    · rintro ⟨k, rfl⟩
      refine funext fun x => Fin.ext ?_
      match x with
      | ⟨0, _⟩ => exact d0
      | ⟨1, _⟩ => exact d1
  refine congrArg (init + ·) ((Finset.sum_filter_eq_sum_of_fiber _ (fun k : Fin n0 × Fin n3 => ix4 k.1 a b k.2)
    (fun _ _ e => Prod.ext (congrFun e 0) (congrFun e 3)) fiber v).trans ?_)
  simp only [Fintype.sum_prod_type]

theorem div_at (i : Fin 32) (r : Fin 128) (h : (Gate.at' i r).val / 128 < 32) : (⟨(Gate.at' i r).val / 128, h⟩ : Fin 32) = i :=
  Fin.ext (by show (128 * i.val + r.val) / 128 = i.val; omega)
theorem mod_at (i : Fin 32) (r : Fin 128) (h : (Gate.at' i r).val % 128 < 128) : (⟨(Gate.at' i r).val % 128, h⟩ : Fin 128) = r :=
  Fin.ext (by show (128 * i.val + r.val) % 128 = r.val; omega)
theorem col_at (k : Fin 4096) (h : k.val % 256 < 256) : Gate.col (Gate.group k) ⟨k.val % 256, h⟩ = k :=
  Fin.ext (by show 256 * (k.val / 256) + k.val % 256 = k.val; omega)

section
variable (z : Fin 4096 → Fin 8192 → EReal) (hr : ∀ t k, r0 (ix2 t k) = Gate.act (z t k))
include hr

theorem vr_eq (t : Fin 4096) : vr r0 t = Gate.vrow (z t) := funext fun _ => hr _ _
theorem v1_at (t k : Fin 4096) : val_main_v1 (F := Ideal) r0 (ix2 t k) = Gate.urow (z t) k := by
  pointwise [val_main_v1]
  exact hr _ _

/-- The mixed values. -/
theorem v42_at (i : Fin 32) (r : Fin 128) (k : Fin 4096) : val_main_v42 (F := Ideal) x2 x3 x4 x5 r0 (ix2 (Gate.at' i r) k)
    = Gate.mixed (Gate.chunk z i) (fun k => x2 (ix2 0 k)) (fun k => x3 (ix2 0 k)) (fun g a b => x4 (ix3 g a b)) (fun g a => x5 (ix2 g a)) r k := by
  pointwise [val_main_v42, val_main_v41, val_main_v36, val_main_v35, val_main_v40, val_main_v39, val_main_v38, val_main_v37]
  simp only [div_at, mod_at, v30_at, v34_at, vr_eq r0 z hr]
  refine congrArg₂ (· + ·) (Finset.sum_congr rfl fun x _ => ?_) rfl
  rw [mul_comm]
  exact congrArg (_ * Gate.vl (Gate.vrow (z (Gate.at' i x))) _ _ ·) (col_at k _)

/-- The gradient of the mixed values. -/
theorem v47_at (i : Fin 32) (r : Fin 128) (g : Fin 16) (e : Fin 256) : val_main_v47 (F := Ideal) x1 r0 (ix4 i r g e)
    = Gate.ds (Gate.chunk z i) (Gate.chunk (fun t k => x1 (ix2 t k)) i) r (Gate.col g e) := by
  pointwise [val_main_v47, val_main_v45, val_main_v44]
  rw [v1_at r0 z hr, mul_comm]
  exact congrArg₂ (fun a b => x1 (ix2 a b) * Gate.urow (z a) b) (Fin.ext (by show i.val * 128 + r.val = 128 * i.val + r.val; omega))
    (Fin.ext (by show g.val * 256 + e.val = 256 * g.val + e.val; omega))

/-- The gradient of the normalised values. -/
theorem v59_at (i : Fin 32) (r : Fin 128) (k : Fin 4096) : val_main_v59 (F := Ideal) x1 x4 r0 (ix2 (Gate.at' i r) k)
    = Gate.dvl (Gate.chunk z i) (Gate.chunk (fun t k => x1 (ix2 t k)) i) (fun g a b => x4 (ix3 g a b)) r k := by
  pointwise [val_main_v59, val_main_v57, val_main_v56, val_main_v54]
  simp only [div_at, mod_at, v34_at, v47_at x1 r0 z hr]
  refine Finset.sum_congr rfl fun x _ => ?_
  rw [mul_comm]
  exact congrArg (_ * Gate.ds (Gate.chunk z i) (Gate.chunk (fun t k => x1 (ix2 t k)) i) x ·) (col_at k _)

/-- The mixing matrices' gradient. -/
theorem v58_at (g : Fin 16) (p q : Fin 128) : val_main_v58 (F := Ideal) x1 x2 x3 r0 (ix3 g p q)
    = Gate.resW z (fun t k => x1 (ix2 t k)) (fun k => x2 (ix2 0 k)) (fun k => x3 (ix2 0 k)) g p q := by
  pointwise [val_main_v58, val_main_v55, val_main_v54]
  rw [v341_at]
  pointwise [val_main_call2_v0, val_main_call2_cst]
  simp only [v30_at, vr_eq r0 z hr, v47_at x1 r0 z hr]
  rfl

/-- The biases' gradient. -/
theorem v93_at (p q : Fin 128) : val_main_v93 (F := Ideal) x1 r0 (ix2 p q) = Gate.resB z (fun t k => x1 (ix2 t k)) p q := by
  pointwise [val_main_v93, val_main_v92, val_main_v53, val_main_v52, val_main_v51, val_main_v50, val_main_v49, val_main_v48, val_main_cst_7, val_main_cst_8, val_main_cst_9, val_main_c_19, val_main_call3_v0]
  unfold Gate.resB
  by_cases h : q.val < 16
  · simp only [h, dite_true, sum_outer, Fin.sum_univ_one, zero_add]
    pointwise []
    simp only [sum_outer, zero_add, v47_at x1 r0 z hr]
  · simp only [h, dite_false]
    show ((((0#32 : BitVec 32).toInt : ℤ) : ℝ) : EReal) = 0
    simp

/-- The shift's gradient. -/
theorem v61_at (k : Fin 4096) : val_main_v61 (F := Ideal) x1 x4 r0 (ix2 0 k) = Gate.resL z (fun t k => x1 (ix2 t k)) (fun g a b => x4 (ix3 g a b)) k := by
  pointwise [val_main_v61, val_main_v60, val_main_cst_10]
  rw [Gate.sum_rows]
  simp only [v59_at x1 x4 r0 z hr]
  rfl

/-- The scale's gradient. -/
theorem v64_at (k : Fin 4096) : val_main_v64 (F := Ideal) x1 x4 r0 (ix2 0 k) = Gate.resG z (fun t k => x1 (ix2 t k)) (fun g a b => x4 (ix3 g a b)) k := by
  pointwise [val_main_v64, val_main_v63, val_main_v62, val_main_cst_11]
  rw [Gate.sum_rows]
  simp only [v59_at x1 x4 r0 z hr, v25_at, vr_eq r0 z hr]
  exact Finset.sum_congr rfl fun i _ => Finset.sum_congr rfl fun r _ => mul_comm _ _
end

theorem v90_at (t k : Fin 4096) : val_main_v90 (F := Ideal) x1 x2 x4 r0 (ix2 t k)
    = Gate.dnRef (vr r0 t) (fun k => x2 (ix2 0 k)) (fun k => val_main_v59 (F := Ideal) x1 x4 r0 (ix2 t k)) k := by
  pointwise [val_main_v90, val_main_v84, val_main_v89, val_main_v88, val_main_v87, val_main_v86, val_main_v85, val_main_v83, val_main_v82,
    val_main_v81, val_main_v80, val_main_v79, val_main_v78, val_main_v77, val_main_v76, val_main_v75, val_main_v74, val_main_v73, val_main_v72,
    val_main_v71, val_main_v70, val_main_v69, val_main_v68, val_main_v67, val_main_v66, val_main_v65, val_main_v23, val_main_v22, val_main_v21, val_main_v11, val_main_v10,
    val_main_cst_1, val_main_cst_5, val_main_cst_12, val_main_cst_13, val_main_cst_14, val_main_cst_15, val_main_cst_16, val_main_cst_17, val_main_cst_18]
  simp only [Fin.sum_univ_one, v17_at, v19_at, v20_at, v8_at]
  rfl

section
variable (z : Fin 4096 → Fin 8192 → EReal) (hr : ∀ t k, r0 (ix2 t k) = Gate.act (z t k))
include hr

/-- The pre-activation's gradient, first half, -/
theorem v95_lo (i : Fin 32) (r : Fin 128) (k : Fin 4096) :
    val_main_v95 (F := Ideal) x1 x2 x3 x4 x5 r0 r1 (ix2 (Gate.at' i r) ⟨k.val, by omega⟩)
      = x1 (ix2 (Gate.at' i r) k) * Gate.mixed (Gate.chunk z i) (fun k => x2 (ix2 0 k)) (fun k => x3 (ix2 0 k)) (fun g a b => x4 (ix3 g a b))
          (fun g a => x5 (ix2 g a)) r k * r1 (ix2 (Gate.at' i r) ⟨k.val, by omega⟩) := by
  pointwise [val_main_v95, val_main_v94, val_main_v91]
  pointwise [val_main_v46, val_main_v44]
  rw [v42_at x2 x3 x4 x5 r0 z hr]

/-- and second half. -/
theorem v95_hi (i : Fin 32) (r : Fin 128) (k : Fin 4096) :
    val_main_v95 (F := Ideal) x1 x2 x3 x4 x5 r0 r1 (ix2 (Gate.at' i r) ⟨4096 + k.val, by omega⟩)
      = Gate.dnRef (Gate.vrow (z (Gate.at' i r))) (fun k => x2 (ix2 0 k))
          (Gate.dvl (Gate.chunk z i) (Gate.chunk (fun t k => x1 (ix2 t k)) i) (fun g a b => x4 (ix3 g a b)) r) k
          * r1 (ix2 (Gate.at' i r) ⟨4096 + k.val, by omega⟩) := by
  pointwise [val_main_v95, val_main_v94, val_main_v91]
  rw [v90_at]
  simp only [v59_at x1 x4 r0 z hr, vr_eq r0 z hr]
end

end Cert.ReferenceIdeal.Rows
-- ==== Proof.RefGelu.lean ====
/-
  What the reference's one pallas_call leaves: the activation of every element and its slope.
-/
module

public import proofs.«01_k».proof.Proof.Gen.ReferenceIdeal.Run
public import proofs.«01_k».proof.Proof.Spec
public import Idealize.ShloMosaic.Lib.Pointwise
public import Idealize.ShloMosaic.Lib.Pipeline.Value
public import Idealize.ShloMosaic.Lib.Pipeline.ValueKit.Basic
public import Idealize.ShloMosaic.PureOps.Ideal.Laws

@[expose] public section

set_option maxRecDepth 16384

noncomputable section

namespace Cert.ReferenceIdeal.Rows

open Cert.ReferenceIdeal Cert.ReferenceIdeal.Gen Idealize.ShloMosaic Idealize.ShloMosaic.TcCoe Idealize.SL.Sem

section
variable {F : FTy → Type} [FloatOps F] [Named F]
variable (m : (ℓ : Loc nD τ sig) → Buf (Elt F) ℓ) (c : Dev nD)

theorem gx0 : ∀ t : Fin cfg0.N, ∀ a, win0_0.index t a = 0 := (by decide +kernel : ∀ t : Fin grid0.N, ∀ a, win0_0.index t a = 0)
theorem gx1 : ∀ t : Fin cfg0.N, ∀ a, win0_1.index t a = 0 := (by decide +kernel : ∀ t : Fin grid0.N, ∀ a, win0_1.index t a = 0)
theorem gx2 : ∀ t : Fin cfg0.N, ∀ a, win0_2.index t a = 0 := (by decide +kernel : ∀ t : Fin grid0.N, ∀ a, win0_2.index t a = 0)

/-- The call's one block is the whole argument. -/
theorem gblk (t : Fin cfg0.N) : (iblk m c 0 t : Vec F S4096x8192 .f32) = m ((c : Thread nD τ).loc main_arg0) := by
  funext j
  unfold iblk
  rw [View.read_apply]
  show V m c main_arg0 _ = m (c.tc.loc main_arg0) _
  rw [V_main_arg0]
  refine congrArg (m (c.tc.loc main_arg0)) (funext fun a => Fin.ext ?_)
  show win0_0.index t a * S4096x8192.size a + 1 * (j a).val = (j a).val
  rw [gx0 t a]; omega

theorem out1_eq (x : Vec F S4096x8192 .f32) : out0_1 x = k0_pay4 x := by
  unfold out0_1
  rw [View.canon_cons_unit_lit _ _ _ (by decide), View.ld_unit_lit _ _ (by decide)]
theorem out2_eq (x : Vec F S4096x8192 .f32) : out0_2 x = k0_pay5 x := by
  unfold out0_2
  rw [View.canon_cons_unit_lit _ _ _ (by decide), View.ld_unit_lit _ _ (by decide)]

/-- The call's one point. -/
def gt : Fin cfg0.N := ⟨0, by decide⟩

theorem reg0 : Value.reg_main_v0_0 m c = k0_pay4 (m ((c : Thread nD τ).loc main_arg0)) :=
  (dats m 0 c).arrAt_eq_of_cover 1 (k0_pay4 (m ((c : Thread nD τ).loc main_arg0)) : Buf (Elt F) ((c : Thread nD τ).loc main_v0_0))
    (fun t _ => by
      show (cfg0.win 1).cut (grid0.coords t) ((dats m 0 c).after 1 t) = _
      rw [after0_1, gblk, out1_eq]
      have hz : (fun a => win0_1.index t a * main_v0_0.ty.shape.size a) = fun _ => 0 := funext fun a => by rw [gx1 t a]; omega
      exact (Memref.read_access_unit_zero (Elt F) main_v0_0 hz (fun a => by rw [congrFun hz a]; simp) _).symm)
    fun i => ⟨gt, flush0_1 gt, by
      show i ∈ ((View.whole main_v0_0).slice (win0_1.rect gt)).set
      rw [View.set_slice_whole, Rect.mem_set_unit]
      intro a
      show win0_1.index gt a * S4096x8192.size a ≤ (i a : Nat) ∧ (i a : Nat) < win0_1.index gt a * S4096x8192.size a + S4096x8192.size a
      rw [gx1 gt a]
      have h : (i a : Nat) < S4096x8192.size a := (i a).isLt
      omega⟩

theorem reg1 : Value.reg_main_v0_1 m c = k0_pay5 (m ((c : Thread nD τ).loc main_arg0)) :=
  (dats m 0 c).arrAt_eq_of_cover 2 (k0_pay5 (m ((c : Thread nD τ).loc main_arg0)) : Buf (Elt F) ((c : Thread nD τ).loc main_v0_1))
    (fun t _ => by
      show (cfg0.win 2).cut (grid0.coords t) ((dats m 0 c).after 2 t) = _
      rw [after0_2, gblk, out2_eq]
      have hz : (fun a => win0_2.index t a * main_v0_1.ty.shape.size a) = fun _ => 0 := funext fun a => by rw [gx2 t a]; omega
      exact (Memref.read_access_unit_zero (Elt F) main_v0_1 hz (fun a => by rw [congrFun hz a]; simp) _).symm)
    fun i => ⟨gt, flush0_2 gt, by
      show i ∈ ((View.whole main_v0_1).slice (win0_2.rect gt)).set
      rw [View.set_slice_whole, Rect.mem_set_unit]
      intro a
      show win0_2.index gt a * S4096x8192.size a ≤ (i a : Nat) ∧ (i a : Nat) < win0_2.index gt a * S4096x8192.size a + S4096x8192.size a
      rw [gx2 gt a]
      have h : (i a : Nat) < S4096x8192.size a := (i a).isLt
      omega⟩
end

theorem root_at : (Named.named κ "sqrt_half" 0x3F3504F3#32 : Ideal .f32) = Gate.rootHalf :=
  IdealRules.named_const.ideal_named_scalar _ _ _ _ rfl
theorem scale_at : (Named.named κ "two_inv_sqrt_pi" 0x3F906EBB#32 : Ideal .f32) = Gate.slopeScale :=
  IdealRules.named_const.ideal_named_scalar _ _ _ _ rfl

/-- Its first result is the activation of every element, -/
theorem act_at (z : Vec Ideal S4096x8192 .f32) (t : Fin 4096) (k : Fin 8192) : k0_pay4 z (ix2 t k) = Gate.act (z (ix2 t k)) := by
  pointwise [k0_pay4, k0_pay3, k0_pay2, k0_pay1]
  rw [root_at]
  show Gate.half * z (ix2 t k) * (1 + Ideal.erf (z (ix2 t k) * Gate.rootHalf)) = z (ix2 t k) * (Ideal.erf (z (ix2 t k) * Gate.rootHalf) + 1) * Gate.half
  rw [add_comm, mul_assoc, mul_comm]

/-- and its second the slope. -/
theorem slp_at (z : Vec Ideal S4096x8192 .f32) (t : Fin 4096) (k : Fin 8192) : k0_pay5 z (ix2 t k) = Gate.slpRef (z (ix2 t k)) := by
  pointwise [k0_pay5, k0_pay3, k0_pay2, k0_pay1]
  rw [root_at, scale_at]; rfl

end Cert.ReferenceIdeal.Rows
-- ==== Proof.Equation.lean ====
/-
  The two identities behind the equality of the results: the two slopes of the GELU agree at a real number, and the two
  gradients of the normalisation agree on real rows.
-/
module

public import proofs.«01_k».proof.Proof.Spec
public import Mathlib.Tactic.FieldSimp
public import Mathlib.Tactic.LinearCombination

@[expose] public section

noncomputable section

namespace Cert.Gate

open Idealize.ShloMosaic

theorem half_eq : half = ((1 / 2 : ℝ) : EReal) := by unfold half; simp [Ideal.ofBits, Ideal.ieee]; rw [← EReal.coe_mul]; norm_num
theorem minusHalf_eq : minusHalf = ((-(1 / 2) : ℝ) : EReal) := by
  unfold minusHalf; simp [Ideal.ofBits, Ideal.ieee]; rw [← EReal.coe_mul]; norm_num
theorem two_eq : two = ((2 : ℝ) : EReal) := by unfold two; simp [Ideal.ofBits, Ideal.ieee]; rw [← EReal.coe_mul]; norm_num
theorem width_eq : width = ((4096 : ℝ) : EReal) := by unfold width; simp [Ideal.ofBits, Ideal.ieee]; rw [← EReal.coe_mul]; norm_num
theorem eps_eq : ∃ e : ℝ, 0 < e ∧ eps = (e : EReal) := by
  unfold eps; simp [Ideal.ofBits, Ideal.ieee]
  rw [← EReal.coe_mul]
  exact ⟨_, by positivity, rfl⟩

theorem coe_sum' {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-! ### The GELU's slope -/

theorem act_coe (x : ℝ) : ∃ y : ℝ, act x = (y : EReal) := by
  unfold act rootHalf
  rw [half_eq, ← EReal.coe_mul, Ideal.erf_coe, ← EReal.coe_one, ← EReal.coe_add, ← EReal.coe_mul, ← EReal.coe_mul]
  exact ⟨_, rfl⟩

theorem slope_eq (x : ℝ) : slpRef x = slp x := by
  unfold slpRef slp slopeScale rootHalf density
  rw [half_eq, minusHalf_eq, ← EReal.coe_mul x, Ideal.erf_coe]
  simp only [← EReal.coe_mul, ← EReal.coe_one, ← EReal.coe_add, ← EReal.coe_zero, ← EReal.coe_sub, Ideal.exp_coe]
  congr 1
  have h2 : (Real.sqrt 2)⁻¹ * (Real.sqrt 2)⁻¹ = 1 / 2 := by
    rw [← mul_inv, Real.mul_self_sqrt (by norm_num)]; norm_num
  have hx : 0 - x * (Real.sqrt 2)⁻¹ * (x * (Real.sqrt 2)⁻¹) = -(1 / 2) * x * x := by linear_combination (-(x * x)) * h2
  rw [hx, Real.sqrt_mul (by norm_num), mul_inv]
  ring

/-! ### The normalisation's gradient -/

theorem mean_coe (f : Fin 4096 → ℝ) : mean (fun k => (f k : EReal)) = (((∑ k, f k) * (1 / 4096) : ℝ) : EReal) := by
  unfold mean
  rw [coe_sum', width_eq, Ideal.div_coe (by norm_num), EReal.coe_mul]

section
variable (a g y : Fin 4096 → ℝ)

/-- A row less its mean. -/
def dev (k : Fin 4096) : ℝ := a k - (∑ j, a j) * (1 / 4096)

theorem cen_coe (k : Fin 4096) : cen (fun k => (a k : EReal)) k = (dev a k : EReal) := by
  unfold cen dev
  rw [mean_coe, EReal.coe_sub]

theorem dev_sum : ∑ k, dev a k = 0 := by
  unfold dev
  rw [Finset.sum_sub_distrib, Finset.sum_const, Finset.card_univ, Fintype.card_fin]
  simp; ring

theorem spread_coe : ∃ σ : ℝ, 0 < σ ∧ spread (fun k => (a k : EReal)) = (σ : EReal) := by
  obtain ⟨e, he, hee⟩ := eps_eq
  unfold spread
  simp only [cen_coe, ← EReal.coe_mul]
  rw [mean_coe, hee, ← EReal.coe_add]
  have : 0 ≤ ∑ k, dev a k * dev a k := Finset.sum_nonneg fun k _ => mul_self_nonneg _
  exact ⟨_, by positivity, rfl⟩

theorem dn_eq (k : Fin 4096) :
    dnRef (fun k => (a k : EReal)) (fun k => (g k : EReal)) (fun k => (y k : EReal)) k
      = dn (fun k => (a k : EReal)) (fun k => (g k : EReal)) (fun k => (y k : EReal)) k := by
  obtain ⟨σ, hσ, hs⟩ := spread_coe a
  have hr : rstd (fun k => (a k : EReal)) = (((Real.sqrt σ)⁻¹ : ℝ) : EReal) := by
    show Ideal.rsqrt (spread _) = _
    rw [hs, Ideal.rsqrt_coe, if_neg (not_lt.mpr hσ.le), if_neg hσ.ne']
  have hq : (Real.sqrt σ)⁻¹ * (Real.sqrt σ)⁻¹ = 1 / σ := by rw [← mul_inv, Real.mul_self_sqrt hσ.le, one_div]
  generalize (Real.sqrt σ)⁻¹ = ρ at hr hq
  have hv : viaRoot (fun k => (a k : EReal)) (fun k => (g k : EReal)) (fun k => (y k : EReal))
      = (((∑ j, dev a j * (y j * g j)) * (-(1 / 2) * (ρ * (1 / σ))) * (1 / 4096) : ℝ) : EReal) := by
    unfold viaRoot
    rw [hs, hr, width_eq, minusHalf_eq, Ideal.div_coe (by norm_num), Ideal.div_coe hσ.ne']
    simp only [cen_coe, ← EReal.coe_mul, coe_sum']
  unfold dnRef dn
  simp only [vn, hv, hr, width_eq, two_eq, Ideal.div_coe (show (4096 : ℝ) ≠ 0 by norm_num), cen_coe, ← EReal.coe_mul, ← EReal.coe_neg, coe_sum',
    mean_coe, ← EReal.coe_add, ← EReal.coe_sub]
  congr 1
  have h1 : ∑ j, -(y j * g j * ρ) = -ρ * ∑ j, y j * g j := by
    rw [Finset.mul_sum]; exact Finset.sum_congr rfl fun j _ => by ring
  generalize hS : ∑ j, dev a j * (y j * g j) = S
  have h2 : ∑ j, -(S * (-(1 / 2) * (ρ * (1 / σ))) * (1 / 4096) * (2 * dev a j)) = 0 := by
    rw [Finset.sum_congr rfl fun j _ => show _ = -(S * (-(1 / 2) * (ρ * (1 / σ))) * (1 / 4096) * 2) * dev a j by ring, ← Finset.mul_sum, dev_sum, mul_zero]
  have h3 : ∑ j, y j * g j * (dev a j * ρ) = ρ * S := by
    rw [← hS, Finset.mul_sum]; exact Finset.sum_congr rfl fun j _ => by ring
  rw [h1, h2, h3]
  linear_combination (ρ * dev a k * S * (1 / 4096)) * hq
end

/-- A number that is neither infinity. -/
def Finite (x : EReal) : Prop := ∃ r : ℝ, x = (r : EReal)

theorem Finite.mul {x y : EReal} : Finite x → Finite y → Finite (x * y) := by rintro ⟨a, rfl⟩ ⟨b, rfl⟩; exact ⟨a * b, rfl⟩
theorem Finite.sum {ι : Type} [Fintype ι] {f : ι → EReal} (h : ∀ k, Finite (f k)) : Finite (∑ k, f k) := by
  choose r hr using h
  exact ⟨∑ k, r k, by rw [← coe_sum']; exact Finset.sum_congr rfl fun k _ => hr k⟩
theorem Finite.act {x : EReal} : Finite x → Finite (act x) := by rintro ⟨a, rfl⟩; exact act_coe a

theorem Finite.slope {x : EReal} : Finite x → slpRef x = slp x := by rintro ⟨a, rfl⟩; exact slope_eq a

theorem Finite.dn {v lg x : Fin 4096 → EReal} (hv : ∀ k, Finite (v k)) (hg : ∀ k, Finite (lg k)) (hx : ∀ k, Finite (x k)) (k : Fin 4096) :
    dnRef v lg x k = dn v lg x k := by
  choose a ha using hv
  choose g hg using hg
  choose y hy using hx
  obtain rfl : v = fun k => (a k : EReal) := funext ha
  obtain rfl : lg = fun k => (g k : EReal) := funext hg
  obtain rfl : x = fun k => (y k : EReal) := funext hy
  exact dn_eq a g y k

theorem Finite.low {w : Fin 128 → Fin 128 → EReal} (h : ∀ a b, Finite (w a b)) (a b : Fin 128) : Finite (low w a b) := by
  unfold Gate.low
  split
  · exact h a b
  · exact ⟨0, rfl⟩

theorem Finite.dvl {z : Fin 128 → Fin 8192 → EReal} {d : Fin 128 → Fin 4096 → EReal} {w : Fin 16 → Fin 128 → Fin 128 → EReal}
    (hz : ∀ t k, Finite (z t k)) (hd : ∀ t k, Finite (d t k)) (hw : ∀ g a b, Finite (w g a b)) (a : Fin 128) (k : Fin 4096) :
    Finite (dvl z d w a k) :=
  .sum fun x => (Finite.low (hw _) x a).mul ((hd x k).mul (hz x _).act)

/-- What the bound on the absolute value says. -/
theorem finite_of_lt {x : EReal} (h : x ≠ ⊤) (h' : x ≠ ⊥) : Finite x := ⟨x.toReal, (EReal.coe_toReal h h').symm⟩

end Cert.Gate
-- ==== Proof.Agree.lean ====
/-
  The reference's results are the kernel's: both meet in the plain formulas.
-/
module

public import proofs.«01_k».proof.Proof.Finals
public import proofs.«01_k».proof.Proof.RefRows
public import proofs.«01_k».proof.Proof.RefGelu
public import proofs.«01_k».proof.Proof.Equation
public import proofs.«01_k».proof.Pre_finite

@[expose] public section

set_option maxRecDepth 16384

noncomputable section

namespace Cert.Agree

open Idealize.ShloMosaic Idealize.ShloMosaic.TcCoe Idealize.SL.Sem Cert.ReferenceIdeal.Read Cert.ReferenceIdeal.Rows

/-! ### The precondition -/

theorem bound {x top : EReal} (ht : top = ⊤) (h : BitVec.ofBool (decide (max x (-x) < top)) = 1#1) : Gate.Finite x := by
  subst ht
  have h' : max x (-x) < ⊤ := by
    by_contra hn
    rw [decide_eq_false hn] at h
    exact absurd h (by decide)
  refine Gate.finite_of_lt (fun e => ?_) (fun e => ?_) <;> simp [e] at h'

section
variable [Cert.Pre_finite.Facts] (x0 : Vec Ideal Cert.Pre_finite.S4096x8192 .f32) (x1 : Vec Ideal Cert.Pre_finite.S4096x4096 .bf16)
  (x2 x3 : Vec Ideal Cert.Pre_finite.S1x4096 .f32) (x4 : Vec Ideal Cert.Pre_finite.S16x128x128 .f32) (x5 : Vec Ideal Cert.Pre_finite.S16x128 .f32)

theorem pre0 (t : Fin 4096) (k : Fin 8192) (h : (Cert.Pre_finite.fn (F := Ideal) x0 x1 x2 x3 x4 x5).1 (ix2 t k) = 1#1) :
    Gate.Finite (x0 (ix2 t k)) := by
  revert h
  pointwise [Cert.Pre_finite.fn]
  exact bound (by simp [Ideal.ofBits, Ideal.ieee])

theorem pre1 (t k : Fin 4096) (h : (Cert.Pre_finite.fn (F := Ideal) x0 x1 x2 x3 x4 x5).2.1 (ix2 t k) = 1#1) : Gate.Finite (x1 (ix2 t k)) := by
  revert h
  pointwise [Cert.Pre_finite.fn]
  exact bound (by simp [Ideal.ofBits, Ideal.ieee])

theorem pre2 (k : Fin 4096) (h : (Cert.Pre_finite.fn (F := Ideal) x0 x1 x2 x3 x4 x5).2.2.1 (ix2 0 k) = 1#1) : Gate.Finite (x2 (ix2 0 k)) := by
  revert h
  pointwise [Cert.Pre_finite.fn]
  exact bound (by simp [Ideal.ofBits, Ideal.ieee])

theorem pre4 (g : Fin 16) (a b : Fin 128) (h : (Cert.Pre_finite.fn (F := Ideal) x0 x1 x2 x3 x4 x5).2.2.2 (ix3 g a b) = 1#1) :
    Gate.Finite (x4 (ix3 g a b)) := by
  revert h
  pointwise [Cert.Pre_finite.fn]
  exact bound (by simp [Ideal.ofBits, Ideal.ieee])
end

/-! ### The results -/

section
open Cert.KernelIdeal Cert.KernelIdeal.Rows Cert.KernelIdeal.Body Cert.KernelIdeal.Gen
variable (m : (ℓ : Loc nD τ sig) → Buf (Elt Ideal) ℓ) (c : Dev nD)
  (x0 : Vec Ideal Cert.ReferenceIdeal.S4096x8192 .f32) (x1 : Vec Ideal Cert.ReferenceIdeal.S4096x4096 .bf16)
  (x2 x3 : Vec Ideal Cert.ReferenceIdeal.S1x4096 .f32) (x4 : Vec Ideal Cert.ReferenceIdeal.S16x128x128 .f32) (x5 : Vec Ideal Cert.ReferenceIdeal.S16x128 .f32)
  (e0 : x0 = m ((c : Thread nD τ).loc main_arg0)) (e1 : x1 = m ((c : Thread nD τ).loc main_arg1)) (e2 : x2 = m ((c : Thread nD τ).loc main_arg2))
  (e3 : x3 = m ((c : Thread nD τ).loc main_arg3)) (e4 : x4 = m ((c : Thread nD τ).loc main_arg4)) (e5 : x5 = m ((c : Thread nD τ).loc main_arg5))

include e0 e1 e2 e3 in
theorem mats : val_main_v58 (F := Ideal) x1 x2 x3 (Cert.ReferenceIdeal.Gen.k0_pay4 x0) = (dats m 0 c).arrAt 7 cfg0.N := by
  rw [final7]
  funext j
  obtain ⟨g, p, q, rfl⟩ : ∃ (g : Fin 16) (p q : Fin 128), j = ix3 g p q := ⟨j 0, j 1, j 2, eq_ix3 j⟩
  refine (v58_at x1 x2 x3 _ (fun t k => x0 (ix2 t k)) (act_at x0) g p q).trans ?_
  subst e0 e1 e2 e3
  exact (valW m c g p q).symm

include e0 e1 in
theorem biases : val_main_v93 (F := Ideal) x1 (Cert.ReferenceIdeal.Gen.k0_pay4 x0) = (dats m 0 c).arrAt 8 cfg0.N := by
  rw [final8]
  funext j
  obtain ⟨p, q, rfl⟩ : ∃ (p q : Fin 128), j = ix2 p q := ⟨j 0, j 1, eq_ix2 j⟩
  refine (v93_at x1 _ (fun t k => x0 (ix2 t k)) (act_at x0) p q).trans ?_
  subst e0 e1
  exact (valB m c p q).symm

include e0 e1 e4 in
theorem scales : val_main_v64 (F := Ideal) x1 x4 (Cert.ReferenceIdeal.Gen.k0_pay4 x0) = (dats m 0 c).arrAt 9 cfg0.N := by
  rw [final9]
  funext j
  obtain ⟨k, rfl⟩ : ∃ k : Fin 4096, j = ix2 0 k := ⟨j 1, (eq_ix2 j).trans (congrArg (ix2 · (j 1)) (Subsingleton.elim (α := Fin 1) _ _))⟩
  refine (v64_at x1 x4 _ (fun t k => x0 (ix2 t k)) (act_at x0) k).trans ?_
  subst e0 e1 e4
  exact (valG m c k).symm

include e0 e1 e4 in
theorem shifts : val_main_v61 (F := Ideal) x1 x4 (Cert.ReferenceIdeal.Gen.k0_pay4 x0) = (dats m 0 c).arrAt 10 cfg0.N := by
  rw [final10]
  funext j
  obtain ⟨k, rfl⟩ : ∃ k : Fin 4096, j = ix2 0 k := ⟨j 1, (eq_ix2 j).trans (congrArg (ix2 · (j 1)) (Subsingleton.elim (α := Fin 1) _ _))⟩
  refine (v61_at x1 x4 _ (fun t k => x0 (ix2 t k)) (act_at x0) k).trans ?_
  subst e0 e1 e4
  exact (valL m c k).symm

include e0 e1 e2 e3 e4 e5 in
theorem inputs (h0 : ∀ t k, Gate.Finite (x0 (ix2 t k))) (h1 : ∀ t k, Gate.Finite (x1 (ix2 t k))) (h2 : ∀ k, Gate.Finite (x2 (ix2 0 k)))
    (h4 : ∀ g a b, Gate.Finite (x4 (ix3 g a b))) :
    val_main_v95 (F := Ideal) x1 x2 x3 x4 x5 (Cert.ReferenceIdeal.Gen.k0_pay4 x0) (Cert.ReferenceIdeal.Gen.k0_pay5 x0) = (dats m 0 c).arrAt 6 cfg0.N := by
  funext j
  obtain ⟨t, k, rfl⟩ : ∃ (t : Fin 4096) (k : Fin 8192), j = ix2 t k := ⟨j 0, j 1, eq_ix2 j⟩
  obtain ⟨i, r, rfl⟩ : ∃ i r, t = Gate.at' i r :=
    ⟨⟨t.val / 128, by omega⟩, ⟨t.val % 128, by omega⟩, Fin.ext (by show t.val = 128 * (t.val / 128) + t.val % 128; omega)⟩
  by_cases h : k.val < 4096
  · refine (v95_lo x1 x2 x3 x4 x5 _ _ (fun t k => x0 (ix2 t k)) (act_at x0) i r ⟨k.val, h⟩).trans ?_
    rw [slp_at, (h0 _ _).slope]
    subst e0 e1 e2 e3 e4 e5
    exact (valU m c i r ⟨k.val, h⟩).symm
  · obtain ⟨k', hk⟩ : ∃ k' : Fin 4096, k = ⟨4096 + k'.val, by omega⟩ := ⟨⟨k.val - 4096, by omega⟩, Fin.ext (by show k.val = 4096 + (k.val - 4096); omega)⟩
    rw [hk]
    refine (v95_hi x1 x2 x3 x4 x5 _ _ (fun t k => x0 (ix2 t k)) (act_at x0) i r k').trans ?_
    have hx : ∀ j, Gate.Finite (Gate.dvl (Gate.chunk (fun t k => x0 (ix2 t k)) i) (Gate.chunk (fun t k => x1 (ix2 t k)) i)
        (fun g a b => x4 (ix3 g a b)) r j) := Gate.Finite.dvl (fun _ _ => h0 _ _) (fun _ _ => h1 _ _) h4 r
    have hv : ∀ j, Gate.Finite (Gate.vrow (fun k => x0 (ix2 (Gate.at' i r) k)) j) := fun j => (h0 _ _).act
    rw [slp_at, (h0 _ _).slope, Gate.Finite.dn hv h2 hx]
    subst e0 e1 e2 e4
    exact (valV m c i r k').symm
end

end Cert.Agree
-- ==== Proof.Blocks.lean ====
/-
  Sums over a long axis, block by block, and where a chip's part of the inner width lies.
-/
module

public import Idealize.ShloMosaic.PureOps.Ideal.Laws

@[expose] public section

noncomputable section

namespace Cert.Ffn

open Idealize.ShloMosaic

/-- Place `b` of block `a`, of blocks of `k`. -/
def blk {n k N : ℕ} (hN : N = n * k) (a : Fin n) (b : Fin k) : Fin N :=
  ⟨k * a.val + b.val, by
    subst hN
    calc k * a.val + b.val < k * a.val + k := Nat.add_lt_add_left b.isLt _
      _ = k * (a.val + 1) := rfl
      _ ≤ k * n := Nat.mul_le_mul_left k a.isLt
      _ = n * k := Nat.mul_comm k n⟩

/-- A place's block is its quotient by a block's length, and its place there the remainder. -/
theorem blk_div {n k N : ℕ} (hN : N = n * k) (a : Fin n) (b : Fin k) : (blk hN a b).val / k = a.val := by
  show (k * a.val + b.val) / k = a.val
  rw [Nat.mul_add_div (Nat.lt_of_le_of_lt (Nat.zero_le _) b.isLt), Nat.div_eq_of_lt b.isLt, Nat.add_zero]
theorem blk_mod {n k N : ℕ} (hN : N = n * k) (a : Fin n) (b : Fin k) : (blk hN a b).val % k = b.val := by
  show (k * a.val + b.val) % k = b.val
  rw [Nat.mul_add_mod, Nat.mod_eq_of_lt b.isLt]

theorem blk_eq {n k N : ℕ} (hN : N = n * k) (a : Fin n) (b : Fin k) (h : a.val * k + b.val < N) : blk hN a b = ⟨a.val * k + b.val, h⟩ :=
  Fin.ext (congrArg (· + b.val) (Nat.mul_comm k a.val))

/-- A sum over an axis is the sum over its blocks. -/
theorem sum_blocks {n k N : ℕ} (hN : N = n * k) (f : Fin N → EReal) : ∑ x, f x = ∑ a, ∑ b, f (blk hN a b) := by
  subst hN
  rw [← Fintype.sum_prod_type' (fun a b => f (blk rfl a b))]
  refine (Fintype.sum_equiv (finProdFinEquiv (m := n) (n := k)) _ _ fun x => congrArg f (Fin.ext ?_)).symm
  show k * x.1.val + x.2.val = x.2.val + k * x.1.val
  exact Nat.add_comm _ _

/-- The product of a row and a column, summed. -/
def dot {n : ℕ} (f g : Fin n → EReal) : EReal := ∑ x, f x * g x

/-- It is the sum of its blocks' products. -/
theorem dot_blocks {n k N : ℕ} (hN : N = n * k) (f g : Fin N → EReal) :
    dot f g = ∑ a, dot (fun b => f (blk hN a b)) (fun b => g (blk hN a b)) :=
  sum_blocks hN _

/-- Of two halves, the first's and the second's. -/
theorem dot_halves (f g : Fin 4096 → EReal) :
    dot f g = dot (fun r => f (blk (n := 2) (k := 2048) (by decide) 0 r)) (fun r => g (blk (n := 2) (k := 2048) (by decide) 0 r))
      + dot (fun r => f (blk (n := 2) (k := 2048) (by decide) 1 r)) (fun r => g (blk (n := 2) (k := 2048) (by decide) 1 r)) := by
  rw [dot_blocks (n := 2) (k := 2048) (by decide), Fin.sum_univ_two]

/-- Of four blocks, one after another. -/
theorem dot_quarters {k N : ℕ} (hN : N = 4 * k) (f g : Fin N → EReal) :
    dot f g = dot (fun r => f (blk hN 0 r)) (fun r => g (blk hN 0 r)) + dot (fun r => f (blk hN 1 r)) (fun r => g (blk hN 1 r))
      + dot (fun r => f (blk hN 2 r)) (fun r => g (blk hN 2 r)) + dot (fun r => f (blk hN 3 r)) (fun r => g (blk hN 3 r)) := by
  rw [dot_blocks hN, Fin.sum_univ_four]

/-- The order of the two factors does not matter. -/
theorem dot_comm {n : ℕ} (f g : Fin n → EReal) : dot f g = dot g f := Finset.sum_congr rfl fun x _ => mul_comm (f x) (g x)

/-- Products with equal factors are equal. -/
theorem dot_congr {n : ℕ} {f f' g g' : Fin n → EReal} (hf : ∀ x, f x = f' x) (hg : ∀ x, g x = g' x) : dot f g = dot f' g' :=
  congrArg₂ dot (funext hf) (funext hg)

/-- Column `j` of chip `q`, among the inner columns. -/
abbrev col (q : Fin 4) (j : Fin 1408) : Fin 5632 := blk (n := 4) (k := 1408) (by decide) q j

/-- Row `r` of half `k`, among the rows. -/
abbrev row (k : Fin 2) (r : Fin 2048) : Fin 4096 := blk (n := 2) (k := 2048) (by decide) k r

/-- The gradient of an up-projection's weight, at chip `q`'s row `i` and column `j`. -/
def upGrad (h : Fin 4096 → Fin 2048 → EReal) (d : Fin 4096 → Fin 5632 → EReal) (q : Fin 4) (i : Fin 2048) (j : Fin 1408) : EReal :=
  ∑ t, h t i * d t (col q j)

/-- It is summed over the first half of the rows, then over the last. -/
theorem upGrad_halves (h : Fin 4096 → Fin 2048 → EReal) (d : Fin 4096 → Fin 5632 → EReal) (q : Fin 4) (i : Fin 2048) (j : Fin 1408) :
    upGrad h d q i j = ∑ r, h (row 0 r) i * d (row 0 r) (col q j) + ∑ r, h (row 1 r) i * d (row 1 r) (col q j) := by
  unfold upGrad
  rw [sum_blocks (n := 2) (k := 2048) (by decide), Fin.sum_univ_two]

/-- The product of a row with a weight's row, chip by chip, at row `t` and the weight's row `k`. -/
def rowGrad (d : Fin 4096 → Fin 5632 → EReal) (w : Fin 4 → Fin 2048 → Fin 1408 → EReal) (t : Fin 4096) (k : Fin 2048) : EReal :=
  ∑ q, ∑ j, d t (col q j) * w q k j

/-- The gradient of a down-projection's weight, at chip `q`'s row `j` and column `k`. -/
def downGrad (f : Fin 4096 → Fin 5632 → EReal) (d : Fin 4096 → Fin 2048 → EReal) (q : Fin 4) (j : Fin 1408) (k : Fin 2048) : EReal :=
  ∑ t, f t (col q j) * d t k

/-- It is summed over the first half of the rows, then over the last. -/
theorem downGrad_halves (f : Fin 4096 → Fin 5632 → EReal) (d : Fin 4096 → Fin 2048 → EReal) (q : Fin 4) (j : Fin 1408) (k : Fin 2048) :
    downGrad f d q j k = ∑ r, f (row 0 r) (col q j) * d (row 0 r) k + ∑ r, f (row 1 r) (col q j) * d (row 1 r) k := by
  unfold downGrad
  rw [sum_blocks (n := 2) (k := 2048) (by decide), Fin.sum_univ_two]

/-- The product of a row of the inner width with a weight's column, at row `t` and column `k`. -/
def down (f : Fin 4096 → Fin 5632 → EReal) (w : Fin 4 → Fin 1408 → Fin 2048 → EReal) (t : Fin 4096) (k : Fin 2048) : EReal :=
  ∑ q, ∑ j, f t (col q j) * w q j k

/-- The rows `x` and half that product. -/
def out (x : Fin 4096 → Fin 2048 → EReal) (f : Fin 4096 → Fin 5632 → EReal) (w : Fin 4 → Fin 1408 → Fin 2048 → EReal)
    (t : Fin 4096) (k : Fin 2048) : EReal :=
  x t k + Ideal.ofBits .f32 0x3F000000#32 * down f w t k

/-- A column of the inner width lies at its quotient and remainder by a chip's width. -/
theorem col_divmod (q : Fin 4) (j : Fin 1408) (h : (col q j).val / 1408 < 4) (h' : (col q j).val % 1408 < 1408) :
    (⟨(col q j).val / 1408, h⟩ : Fin 4) = q ∧ (⟨(col q j).val % 1408, h'⟩ : Fin 1408) = j :=
  ⟨Fin.ext (by show (1408 * q.val + j.val) / 1408 = q.val; omega), Fin.ext (by show (1408 * q.val + j.val) % 1408 = j.val; omega)⟩

/-- Multiplying by a finite number that is not negative distributes over a sum. -/
theorem mul_sum {ι : Type} (s : Finset ι) (f : ι → EReal) {a : ℝ} (ha : 0 ≤ a) : (a : EReal) * ∑ x ∈ s, f x = ∑ x ∈ s, (a : EReal) * f x := by
  classical
  induction s using Finset.induction_on with
  | empty => simp
  | insert x s hx ih => rw [Finset.sum_insert hx, Finset.sum_insert hx, EReal.left_distrib_of_nonneg_of_ne_top (by exact_mod_cast ha) (EReal.coe_ne_top a), ih]

/-- The constant one half. -/
theorem half_at : (Ideal.ofBits .f32 0x3F000000#32 : Ideal .f32) = ((1 / 2 : ℝ) : EReal) := by
  simp [Ideal.ofBits, Ideal.ieee]
  rw [← EReal.coe_mul]
  norm_num

end Cert.Ffn
-- ==== Proof.Gated.lean ====
/-
  The gated feed-forward, element by element: its two products, its gate, and the gradients through them.
-/
module

public import proofs.«01_k».proof.Proof.Blocks
public import proofs.«01_k».proof.Proof.Equation

@[expose] public section

noncomputable section

namespace Cert.Ffn

open Idealize.ShloMosaic

/-- The chip that holds an inner column, -/
abbrev chip (f : Fin 5632) : Fin 4 := ⟨f.val / 1408, by omega⟩
/-- and the column's place there. -/
abbrev place (f : Fin 5632) : Fin 1408 := ⟨f.val % 1408, by omega⟩

/-- A row times an up-projection, at inner column `f`. -/
def up (x : Fin 4096 → Fin 2048 → EReal) (w : Fin 4 → Fin 2048 → Fin 1408 → EReal) (t : Fin 4096) (f : Fin 5632) : EReal :=
  ∑ r, x t r * w (chip f) r (place f)

/-- A row times a down-projection's row of inner column `f`. -/
def back (d : Fin 4096 → Fin 2048 → EReal) (w : Fin 4 → Fin 1408 → Fin 2048 → EReal) (t : Fin 4096) (f : Fin 5632) : EReal :=
  ∑ k, d t k * w (chip f) (place f) k

/-- The gate's activation, -/
def silu (a : EReal) : EReal := a * Ideal.logistic a

/-- and its derivative, times `b`. -/
def slope (a b : EReal) : EReal := b * Ideal.logistic a * (1 + a * (1 - Ideal.logistic a))

/-- Half the gradient, times the derivative, is what differentiating the gate's two factors one after the other gives. -/
theorem slope_eq (a : EReal) (b d : ℝ) :
    (d : EReal) * b * Ideal.logistic a + a * ((d : EReal) * b) * (Ideal.logistic a * (1 - Ideal.logistic a)) = d * slope a b := by
  unfold slope
  induction a with
  | bot => simp
  | top =>
    have h : (1 : EReal) - 1 = 0 := by rw [← EReal.coe_one, ← EReal.coe_sub]; simp
    simp [h]
  | coe a =>
    rw [Ideal.logistic_coe]
    simp only [← EReal.coe_one, ← EReal.coe_sub, ← EReal.coe_mul, ← EReal.coe_add]
    congr 1
    ring

/-- A product of finite rows is finite. -/
theorem up_finite {x : Fin 4096 → Fin 2048 → EReal} {w : Fin 4 → Fin 2048 → Fin 1408 → EReal} (hx : ∀ t r, Gate.Finite (x t r))
    (hw : ∀ q r j, Gate.Finite (w q r j)) (t : Fin 4096) (f : Fin 5632) : Gate.Finite (up x w t f) :=
  Gate.Finite.sum fun r => (hx t r).mul (hw _ r _)

theorem back_finite {d : Fin 4096 → Fin 2048 → EReal} {w : Fin 4 → Fin 1408 → Fin 2048 → EReal} (hd : ∀ t k, Gate.Finite (d t k))
    (hw : ∀ q j k, Gate.Finite (w q j k)) (t : Fin 4096) (f : Fin 5632) : Gate.Finite (back d w t f) :=
  Gate.Finite.sum fun k => (hd t k).mul (hw _ _ k)

end Cert.Ffn
-- ==== Proof.Swiglu.lean ====
/-
  The gated feed-forward's backward pass: what the arrays of its two calls hold.

  The first call stores, block by block, the gate's derivative, its activation and the gated product; the second
  multiplies the first two by half the gradient that comes back through the down-projection.
-/
module

public import proofs.«01_k».proof.Proof.Gen.SwigluIdeal.Frame
public import proofs.«01_k».proof.Proof.Gated
public import Idealize.ShloMosaic.Lib.Pointwise
public import Idealize.ShloMosaic.Lib.Pipeline.Value
public import Idealize.ShloMosaic.Lib.Pipeline.ValueKit.Basic

@[expose] public section

set_option maxRecDepth 16384

noncomputable section

namespace Cert.SwigluIdeal.Body

open Cert.SwigluIdeal Cert.SwigluIdeal.Gen Idealize.ShloMosaic Idealize.ShloMosaic.TcCoe Idealize.SL.Sem

/-! ### The blocks -/

theorem idx0_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx0_1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx0_2 : ∀ t : Fin cfg0.N, win0_2.index t 0 = t.val % 8 ∧ win0_2.index t 1 = 0 :=
  (by decide +kernel : ∀ t : Fin grid0.N, win0_2.index t 0 = t.val % 8 ∧ win0_2.index t 1 = 0)
theorem idx0_3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem idx0_4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)
theorem idx0_5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)
theorem idx0_6 : ∀ t : Fin cfg0.N, win0_6.index t 0 = t.val % 8 ∧ win0_6.index t 1 = t.val / 8 :=
  (by decide +kernel : ∀ t : Fin grid0.N, win0_6.index t 0 = t.val % 8 ∧ win0_6.index t 1 = t.val / 8)
theorem idx1_0 : ∀ t : Fin cfg1.N, win1_0.index t 0 = t.val % 16 ∧ win1_0.index t 1 = 0 :=
  (by decide +kernel : ∀ t : Fin grid1.N, win1_0.index t 0 = t.val % 16 ∧ win1_0.index t 1 = 0)
theorem idx1_1 : ∀ t : Fin cfg1.N, win1_1.index t 0 = t.val / 16 ∧ win1_1.index t 1 = 0 ∧ win1_1.index t 2 = 0 :=
  (by decide +kernel : ∀ t : Fin grid1.N, win1_1.index t 0 = t.val / 16 ∧ win1_1.index t 1 = 0 ∧ win1_1.index t 2 = 0)
theorem idx1_2 : ∀ t : Fin cfg1.N, win1_2.index t 0 = t.val % 16 ∧ win1_2.index t 1 = t.val / 16 :=
  (by decide +kernel : ∀ t : Fin grid1.N, win1_2.index t 0 = t.val % 16 ∧ win1_2.index t 1 = t.val / 16)
theorem idx1_3 : ∀ t : Fin cfg1.N, win1_3.index t 0 = t.val % 16 ∧ win1_3.index t 1 = t.val / 16 :=
  (by decide +kernel : ∀ t : Fin grid1.N, win1_3.index t 0 = t.val % 16 ∧ win1_3.index t 1 = t.val / 16)
theorem idx1_4 : ∀ t : Fin cfg1.N, win1_4.index t 0 = t.val % 16 ∧ win1_4.index t 1 = t.val / 16 :=
  (by decide +kernel : ∀ t : Fin grid1.N, win1_4.index t 0 = t.val % 16 ∧ win1_4.index t 1 = t.val / 16)
theorem idx1_5 : ∀ t : Fin cfg1.N, win1_5.index t 0 = t.val % 16 ∧ win1_5.index t 1 = t.val / 16 :=
  (by decide +kernel : ∀ t : Fin grid1.N, win1_5.index t 0 = t.val % 16 ∧ win1_5.index t 1 = t.val / 16)

theorem lt0 (t : Fin cfg0.N) : t.val < 32 := by have h := t.isLt; have e : cfg0.N = 32 := N_0; omega
theorem lt1 (t : Fin cfg1.N) : t.val < 64 := by have h := t.isLt; have e : cfg1.N = 64 := N_1; omega

/-- Row `i` and column `l` of point `t`'s block of the first call, -/
def row0 (t : Fin cfg0.N) (i : Fin 512) : Fin 4096 := ⟨512 * (t.val % 8) + i.val, by omega⟩
def col0 (t : Fin cfg0.N) (l : Fin 1408) : Fin 5632 := ⟨1408 * (t.val / 8) + l.val, by have := lt0 t; omega⟩
/-- and of the second's. -/
def row1 (t : Fin cfg1.N) (i : Fin 256) : Fin 4096 := ⟨256 * (t.val % 16) + i.val, by omega⟩
def col1 (t : Fin cfg1.N) (l : Fin 1408) : Fin 5632 := ⟨1408 * (t.val / 16) + l.val, by have := lt1 t; omega⟩

section
variable {F : FTy → Type} [FloatOps F]
variable (V : (c : Dev nD) → (b : Ref sig .tc) → Buf (Elt F) ((c : Thread nD τ).loc b)) (c : Dev nD)

theorem out0_4_eq (x0 : Vec F S512x2048 .bf16) (x1 : Vec F S1x2048x1408 .bf16) (x2 : Vec F S512x2048 .bf16) (x3 : Vec F S1x2048x1408 .bf16) :
    out0_4 x0 x1 x2 x3 = k0_pay5 x0 x1 x2 x3 := by
  unfold out0_4
  rw [View.canon_cons_unit_lit _ _ _ (by decide), View.ld_unit_lit _ _ (by decide), View.ld_unit_lit _ _ (by decide),
    View.ld_unit_lit _ _ (by decide), View.ld_unit_lit _ _ (by decide)]
theorem out0_5_eq (x0 : Vec F S512x2048 .bf16) (x1 : Vec F S1x2048x1408 .bf16) (x2 : Vec F S512x2048 .bf16) (x3 : Vec F S1x2048x1408 .bf16) :
    out0_5 x0 x1 x2 x3 = k0_pay6 x0 x1 := by
  unfold out0_5
  rw [View.canon_cons_unit_lit _ _ _ (by decide), View.ld_unit_lit _ _ (by decide), View.ld_unit_lit _ _ (by decide)]
theorem out0_6_eq (x0 : Vec F S512x2048 .bf16) (x1 : Vec F S1x2048x1408 .bf16) (x2 : Vec F S512x2048 .bf16) (x3 : Vec F S1x2048x1408 .bf16) :
    out0_6 x0 x1 x2 x3 = k0_pay7 x0 x1 x2 x3 := by
  unfold out0_6
  rw [View.canon_cons_unit_lit _ _ _ (by decide), View.ld_unit_lit _ _ (by decide), View.ld_unit_lit _ _ (by decide),
    View.ld_unit_lit _ _ (by decide), View.ld_unit_lit _ _ (by decide)]
theorem out1_4_eq (x0 : Vec F S256x2048 .bf16) (x1 : Vec F S1x1408x2048 .bf16) (x2 x3 : Vec F S256x1408 .bf16) :
    out1_4 x0 x1 x2 x3 = k1_pay2 x0 x1 x2 := by
  unfold out1_4
  rw [View.canon_cons_unit_lit _ _ _ (by decide), View.ld_unit_lit _ _ (by decide), View.ld_unit_lit _ _ (by decide),
    View.ld_unit_lit _ _ (by decide)]
theorem out1_5_eq (x0 : Vec F S256x2048 .bf16) (x1 : Vec F S1x1408x2048 .bf16) (x2 x3 : Vec F S256x1408 .bf16) :
    out1_5 x0 x1 x2 x3 = k1_pay3 x0 x1 x3 := by
  unfold out1_5
  rw [View.canon_cons_unit_lit _ _ _ (by decide), View.ld_unit_lit _ _ (by decide), View.ld_unit_lit _ _ (by decide),
    View.ld_unit_lit _ _ (by decide)]

variable (t : Fin cfg0.N) (u : Fin cfg1.N) (i : Fin 512) (p : Fin 256) (r : Fin 2048) (l : Fin 1408)

theorem blk0_0 : iblk0 V c 0 t (ix2 i r) = V c main_arg0 (ix2 (row0 t i) r) := by
  unfold iblk0
  rw [View.read_apply]
  refine congrArg (V c main_arg0) (funext fun b => Fin.ext ?_)
  match b with
  | ⟨0, _⟩ => show win0_0.index t 0 * 512 + 1 * i.val = 512 * (t.val % 8) + i.val; rw [(idx0_0 t).1]; omega
  | ⟨1, _⟩ => show win0_0.index t 1 * 2048 + 1 * r.val = r.val; rw [(idx0_0 t).2]; omega
theorem blk0_2 : iblk0 V c 2 t (ix2 i r) = V c main_arg0 (ix2 (row0 t i) r) := by
  unfold iblk0
  rw [View.read_apply]
  refine congrArg (V c main_arg0) (funext fun b => Fin.ext ?_)
  match b with
  | ⟨0, _⟩ => show win0_2.index t 0 * 512 + 1 * i.val = 512 * (t.val % 8) + i.val; rw [(idx0_2 t).1]; omega
  | ⟨1, _⟩ => show win0_2.index t 1 * 2048 + 1 * r.val = r.val; rw [(idx0_2 t).2]; omega
theorem blk0_1 : iblk0 V c 1 t (ix3 0 r l) = V c main_arg1 (ix3 (Ffn.chip (col0 t l)) r (Ffn.place (col0 t l))) := by
  unfold iblk0
  rw [View.read_apply]
  refine congrArg (V c main_arg1) (funext fun b => Fin.ext ?_)
  match b with
  | ⟨0, _⟩ => show win0_1.index t 0 * 1 + 1 * 0 = (1408 * (t.val / 8) + l.val) / 1408; rw [(idx0_1 t).1]; omega
  | ⟨1, _⟩ => show win0_1.index t 1 * 2048 + 1 * r.val = r.val; rw [(idx0_1 t).2.1]; omega
  | ⟨2, _⟩ => show win0_1.index t 2 * 1408 + 1 * l.val = (1408 * (t.val / 8) + l.val) % 1408; rw [(idx0_1 t).2.2]; omega
theorem blk0_3 : iblk0 V c 3 t (ix3 0 r l) = V c main_arg2 (ix3 (Ffn.chip (col0 t l)) r (Ffn.place (col0 t l))) := by
  unfold iblk0
  rw [View.read_apply]
  refine congrArg (V c main_arg2) (funext fun b => Fin.ext ?_)
  match b with
  | ⟨0, _⟩ => show win0_3.index t 0 * 1 + 1 * 0 = (1408 * (t.val / 8) + l.val) / 1408; rw [(idx0_3 t).1]; omega
  | ⟨1, _⟩ => show win0_3.index t 1 * 2048 + 1 * r.val = r.val; rw [(idx0_3 t).2.1]; omega
  | ⟨2, _⟩ => show win0_3.index t 2 * 1408 + 1 * l.val = (1408 * (t.val / 8) + l.val) % 1408; rw [(idx0_3 t).2.2]; omega

theorem blk1_0 : iblk1 V c 0 u (ix2 p r) = V c main_arg4 (ix2 (row1 u p) r) := by
  unfold iblk1
  rw [View.read_apply]
  refine congrArg (V c main_arg4) (funext fun b => Fin.ext ?_)
  match b with
  | ⟨0, _⟩ => show win1_0.index u 0 * 256 + 1 * p.val = 256 * (u.val % 16) + p.val; rw [(idx1_0 u).1]; omega
  | ⟨1, _⟩ => show win1_0.index u 1 * 2048 + 1 * r.val = r.val; rw [(idx1_0 u).2]; omega
theorem blk1_1 : iblk1 V c 1 u (ix3 0 l r) = V c main_arg3 (ix3 (Ffn.chip (col1 u l)) (Ffn.place (col1 u l)) r) := by
  unfold iblk1
  rw [View.read_apply]
  refine congrArg (V c main_arg3) (funext fun b => Fin.ext ?_)
  match b with
  | ⟨0, _⟩ => show win1_1.index u 0 * 1 + 1 * 0 = (1408 * (u.val / 16) + l.val) / 1408; rw [(idx1_1 u).1]; omega
  | ⟨1, _⟩ => show win1_1.index u 1 * 1408 + 1 * l.val = (1408 * (u.val / 16) + l.val) % 1408; rw [(idx1_1 u).2.1]; omega
  | ⟨2, _⟩ => show win1_1.index u 2 * 2048 + 1 * r.val = r.val; rw [(idx1_1 u).2.2]; omega
theorem blk1_2 : iblk1 V c 2 u (ix2 p l) = V c main_v0_0 (ix2 (row1 u p) (col1 u l)) := by
  unfold iblk1
  rw [View.read_apply]
  refine congrArg (V c main_v0_0) (funext fun b => Fin.ext ?_)
  match b with
  | ⟨0, _⟩ => show win1_2.index u 0 * 256 + 1 * p.val = 256 * (u.val % 16) + p.val; rw [(idx1_2 u).1]; omega
  | ⟨1, _⟩ => show win1_2.index u 1 * 1408 + 1 * l.val = 1408 * (u.val / 16) + l.val; rw [(idx1_2 u).2]; omega
theorem blk1_3 : iblk1 V c 3 u (ix2 p l) = V c main_v0_1 (ix2 (row1 u p) (col1 u l)) := by
  unfold iblk1
  rw [View.read_apply]
  refine congrArg (V c main_v0_1) (funext fun b => Fin.ext ?_)
  match b with
  | ⟨0, _⟩ => show win1_3.index u 0 * 256 + 1 * p.val = 256 * (u.val % 16) + p.val; rw [(idx1_3 u).1]; omega
  | ⟨1, _⟩ => show win1_3.index u 1 * 1408 + 1 * l.val = 1408 * (u.val / 16) + l.val; rw [(idx1_3 u).2]; omega
end

/-! ### Over the extended reals -/

section
variable (x0 x2 : Vec Ideal S512x2048 .bf16) (x1 x3 : Vec Ideal S1x2048x1408 .bf16) (i : Fin 512) (l : Fin 1408)

theorem pay5_at : k0_pay5 x0 x1 x2 x3 (ix2 i l)
    = Ffn.slope (∑ r, x0 (ix2 i r) * x1 (ix3 0 r l)) (∑ r, x2 (ix2 i r) * x3 (ix3 0 r l)) := by
  pointwise [k0_pay5, k0_pay3, k0_pay2, k0_pay1]
  rfl
theorem pay6_at : k0_pay6 x0 x1 (ix2 i l) = Ffn.silu (∑ r, x0 (ix2 i r) * x1 (ix3 0 r l)) := by
  pointwise [k0_pay6, k0_pay4, k0_pay3, k0_pay1]
  rfl
theorem pay7_at : k0_pay7 x0 x1 x2 x3 (ix2 i l)
    = Ffn.silu (∑ r, x0 (ix2 i r) * x1 (ix3 0 r l)) * (∑ r, x2 (ix2 i r) * x3 (ix3 0 r l)) := by
  pointwise [k0_pay7, k0_pay4, k0_pay3, k0_pay2, k0_pay1]
  rfl
end

section
variable (x0 : Vec Ideal S256x2048 .bf16) (x1 : Vec Ideal S1x1408x2048 .bf16) (x2 : Vec Ideal S256x1408 .bf16) (p : Fin 256) (l : Fin 1408)

theorem pay2_at : k1_pay2 x0 x1 x2 (ix2 p l)
    = Ideal.ofBits .f32 0x3F000000#32 * (∑ k, x0 (ix2 p k) * x1 (ix3 0 l k)) * x2 (ix2 p l) := by
  pointwise [k1_pay2, k1_pay1]
theorem pay3_at : k1_pay3 x0 x1 x2 (ix2 p l)
    = Ideal.ofBits .f32 0x3F000000#32 * (∑ k, x0 (ix2 p k) * x1 (ix3 0 l k)) * x2 (ix2 p l) := by
  pointwise [k1_pay3, k1_pay1]
end

/-! ### The arrays -/

section
variable (V : (c : Dev nD) → (b : Ref sig .tc) → Buf (Elt Ideal) ((c : Thread nD τ).loc b)) (c : Dev nD)

/-- The gate before its activation, -/
abbrev preA (t : Fin 4096) (f : Fin 5632) : EReal :=
  Ffn.up (fun t r => V c main_arg0 (ix2 t r)) (fun q r j => V c main_arg1 (ix3 q r j)) t f
/-- the other factor, -/
abbrev preB (t : Fin 4096) (f : Fin 5632) : EReal :=
  Ffn.up (fun t r => V c main_arg0 (ix2 t r)) (fun q r j => V c main_arg2 (ix3 q r j)) t f
/-- and half the gradient through the down-projection. -/
abbrev half (t : Fin 4096) (f : Fin 5632) : EReal :=
  ((1 / 2 : ℝ) : EReal) * Ffn.back (fun t k => V c main_arg4 (ix2 t k)) (fun q j k => V c main_arg3 (ix3 q j k)) t f

/-- What the three arrays of the first call end with, -/
def slopes : Buf (Elt Ideal) ((c : Thread nD τ).loc main_v0_0) := fun y : S4096x5632.Idx => Ffn.slope (preA V c (y 0) (y 1)) (preB V c (y 0) (y 1))
def silus : Buf (Elt Ideal) ((c : Thread nD τ).loc main_v0_1) := fun y : S4096x5632.Idx => Ffn.silu (preA V c (y 0) (y 1))
def gated : Buf (Elt Ideal) ((c : Thread nD τ).loc main_v0_2) := fun y : S4096x5632.Idx => Ffn.silu (preA V c (y 0) (y 1)) * preB V c (y 0) (y 1)
/-- and the two of the second. -/
def gradA : Buf (Elt Ideal) ((c : Thread nD τ).loc main_v1_0) := fun y : S4096x5632.Idx => half V c (y 0) (y 1) * (V c main_v0_0 y : EReal)
def gradB : Buf (Elt Ideal) ((c : Thread nD τ).loc main_v1_1) := fun y : S4096x5632.Idx => half V c (y 0) (y 1) * (V c main_v0_1 y : EReal)

variable (t : Fin cfg0.N) (u : Fin cfg1.N) (i : Fin 512) (p : Fin 256) (l : Fin 1408)

/-- A block of rows times a block of columns, -/
abbrev prod0 (x : Vec Ideal S512x2048 .bf16) (w : Vec Ideal S1x2048x1408 .bf16) (i : Fin 512) (l : Fin 1408) : EReal :=
  ∑ r, x (ix2 i r) * w (ix3 0 r l)
/-- and a block of rows times a block of rows. -/
abbrev prod1 (x : Vec Ideal S256x2048 .bf16) (w : Vec Ideal S1x1408x2048 .bf16) (p : Fin 256) (l : Fin 1408) : EReal :=
  ∑ k, x (ix2 p k) * w (ix3 0 l k)

theorem sumA : prod0 (iblk0 V c 0 t) (iblk0 V c 1 t) i l = preA V c (row0 t i) (col0 t l) :=
  Finset.sum_congr rfl fun r _ => congrArg₂ (fun a b : EReal => a * b) (blk0_0 V c t i r) (blk0_1 V c t r l)
theorem sumB : prod0 (iblk0 V c 2 t) (iblk0 V c 3 t) i l = preB V c (row0 t i) (col0 t l) :=
  Finset.sum_congr rfl fun r _ => congrArg₂ (fun a b : EReal => a * b) (blk0_2 V c t i r) (blk0_3 V c t r l)
theorem sumD : Ideal.ofBits .f32 0x3F000000#32 * prod1 (iblk1 V c 0 u) (iblk1 V c 1 u) p l = half V c (row1 u p) (col1 u l) :=
  congrArg₂ (fun a b : EReal => a * b) Ffn.half_at
    (Finset.sum_congr rfl fun r _ => congrArg₂ (fun a b : EReal => a * b) (blk1_0 V c u p r) (blk1_1 V c u r l))

/-- The point of the first call that works on an element, -/
def pt0 (y : S4096x5632.Idx) : Fin cfg0.N :=
  ⟨8 * ((y 1).val / 1408) + (y 0).val / 512, by
    have h0 : (y 0).val < 4096 := (y 0).isLt
    have h1 : (y 1).val < 5632 := (y 1).isLt
    show _ < grid0.N; rw [N_0]; omega⟩
/-- and the point of the second. -/
def pt1 (y : S4096x5632.Idx) : Fin cfg1.N :=
  ⟨16 * ((y 1).val / 1408) + (y 0).val / 256, by
    have h0 : (y 0).val < 4096 := (y 0).isLt
    have h1 : (y 1).val < 5632 := (y 1).isLt
    show _ < grid1.N; rw [N_1]; omega⟩

theorem slopes_at : (dat0 V c).arrAt 4 cfg0.N = slopes V c :=
  (dat0 V c).arrAt_eq_of_cover 4 (slopes V c)
    (fun t _ => by
      show (cfg0.win 4).cut (grid0.coords t) ((dat0 V c).after 4 t) = _
      rw [after0_4, out0_4_eq]
      funext j
      obtain ⟨i, l, rfl⟩ : ∃ (i : Fin 512) (l : Fin 1408), j = ix2 i l := ⟨j 0, j 1, eq_ix2 j⟩
      rw [View.read_apply]
      refine (show _ = slopes V c (ix2 (row0 t i) (col0 t l)) from (pay5_at _ _ _ _ i l).trans (congrArg₂ Ffn.slope (sumA V c t i l) (sumB V c t i l))).trans (congrArg (slopes V c) (funext fun b => Fin.ext ?_))
      match b with
      | ⟨0, _⟩ => show 512 * (t.val % 8) + i.val = win0_4.index t 0 * 512 + 1 * i.val; rw [(idx0_4 t).1]; omega
      | ⟨1, _⟩ => show 1408 * (t.val / 8) + l.val = win0_4.index t 1 * 1408 + 1 * l.val; rw [(idx0_4 t).2]; omega)
    fun y => ⟨pt0 y, flush0_4 _, by
      show y ∈ ((View.whole main_v0_0).slice (win0_4.rect (pt0 y))).set
      rw [View.set_slice_whole, Rect.mem_set_unit]
      have h0 : (y 0).val < 4096 := (y 0).isLt
      have h1 : (y 1).val < 5632 := (y 1).isLt
      intro b
      match b with
      | ⟨0, _⟩ =>
        show win0_4.index (pt0 y) 0 * 512 ≤ (y 0).val ∧ (y 0).val < win0_4.index (pt0 y) 0 * 512 + 512
        rw [(idx0_4 _).1]
        show (8 * ((y 1).val / 1408) + (y 0).val / 512) % 8 * 512 ≤ _ ∧ _ < (8 * ((y 1).val / 1408) + (y 0).val / 512) % 8 * 512 + 512
        omega
      | ⟨1, _⟩ =>
        show win0_4.index (pt0 y) 1 * 1408 ≤ (y 1).val ∧ (y 1).val < win0_4.index (pt0 y) 1 * 1408 + 1408
        rw [(idx0_4 _).2]
        show (8 * ((y 1).val / 1408) + (y 0).val / 512) / 8 * 1408 ≤ _ ∧ _ < (8 * ((y 1).val / 1408) + (y 0).val / 512) / 8 * 1408 + 1408
        omega⟩

theorem silus_at : (dat0 V c).arrAt 5 cfg0.N = silus V c :=
  (dat0 V c).arrAt_eq_of_cover 5 (silus V c)
    (fun t _ => by
      show (cfg0.win 5).cut (grid0.coords t) ((dat0 V c).after 5 t) = _
      rw [after0_5, out0_5_eq]
      funext j
      obtain ⟨i, l, rfl⟩ : ∃ (i : Fin 512) (l : Fin 1408), j = ix2 i l := ⟨j 0, j 1, eq_ix2 j⟩
      rw [View.read_apply]
      refine (show _ = silus V c (ix2 (row0 t i) (col0 t l)) from (pay6_at _ _ i l).trans (congrArg Ffn.silu (sumA V c t i l))).trans (congrArg (silus V c) (funext fun b => Fin.ext ?_))
      match b with
      | ⟨0, _⟩ => show 512 * (t.val % 8) + i.val = win0_5.index t 0 * 512 + 1 * i.val; rw [(idx0_5 t).1]; omega
      | ⟨1, _⟩ => show 1408 * (t.val / 8) + l.val = win0_5.index t 1 * 1408 + 1 * l.val; rw [(idx0_5 t).2]; omega)
    fun y => ⟨pt0 y, flush0_5 _, by
      show y ∈ ((View.whole main_v0_1).slice (win0_5.rect (pt0 y))).set
      rw [View.set_slice_whole, Rect.mem_set_unit]
      have h0 : (y 0).val < 4096 := (y 0).isLt
      have h1 : (y 1).val < 5632 := (y 1).isLt
      intro b
      match b with
      | ⟨0, _⟩ =>
        show win0_5.index (pt0 y) 0 * 512 ≤ (y 0).val ∧ (y 0).val < win0_5.index (pt0 y) 0 * 512 + 512
        rw [(idx0_5 _).1]
        show (8 * ((y 1).val / 1408) + (y 0).val / 512) % 8 * 512 ≤ _ ∧ _ < (8 * ((y 1).val / 1408) + (y 0).val / 512) % 8 * 512 + 512
        omega
      | ⟨1, _⟩ =>
        show win0_5.index (pt0 y) 1 * 1408 ≤ (y 1).val ∧ (y 1).val < win0_5.index (pt0 y) 1 * 1408 + 1408
        rw [(idx0_5 _).2]
        show (8 * ((y 1).val / 1408) + (y 0).val / 512) / 8 * 1408 ≤ _ ∧ _ < (8 * ((y 1).val / 1408) + (y 0).val / 512) / 8 * 1408 + 1408
        omega⟩

theorem gated_at : (dat0 V c).arrAt 6 cfg0.N = gated V c :=
  (dat0 V c).arrAt_eq_of_cover 6 (gated V c)
    (fun t _ => by
      show (cfg0.win 6).cut (grid0.coords t) ((dat0 V c).after 6 t) = _
      rw [after0_6, out0_6_eq]
      funext j
      obtain ⟨i, l, rfl⟩ : ∃ (i : Fin 512) (l : Fin 1408), j = ix2 i l := ⟨j 0, j 1, eq_ix2 j⟩
      rw [View.read_apply]
      refine (show _ = gated V c (ix2 (row0 t i) (col0 t l)) from (pay7_at _ _ _ _ i l).trans (congrArg₂ (fun a b : EReal => a * b) (congrArg Ffn.silu (sumA V c t i l)) (sumB V c t i l))).trans (congrArg (gated V c) (funext fun b => Fin.ext ?_))
      match b with
      | ⟨0, _⟩ => show 512 * (t.val % 8) + i.val = win0_6.index t 0 * 512 + 1 * i.val; rw [(idx0_6 t).1]; omega
      | ⟨1, _⟩ => show 1408 * (t.val / 8) + l.val = win0_6.index t 1 * 1408 + 1 * l.val; rw [(idx0_6 t).2]; omega)
    fun y => ⟨pt0 y, flush0_6 _, by
      show y ∈ ((View.whole main_v0_2).slice (win0_6.rect (pt0 y))).set
      rw [View.set_slice_whole, Rect.mem_set_unit]
      have h0 : (y 0).val < 4096 := (y 0).isLt
      have h1 : (y 1).val < 5632 := (y 1).isLt
      intro b
      match b with
      | ⟨0, _⟩ =>
        show win0_6.index (pt0 y) 0 * 512 ≤ (y 0).val ∧ (y 0).val < win0_6.index (pt0 y) 0 * 512 + 512
        rw [(idx0_6 _).1]
        show (8 * ((y 1).val / 1408) + (y 0).val / 512) % 8 * 512 ≤ _ ∧ _ < (8 * ((y 1).val / 1408) + (y 0).val / 512) % 8 * 512 + 512
        omega
      | ⟨1, _⟩ =>
        show win0_6.index (pt0 y) 1 * 1408 ≤ (y 1).val ∧ (y 1).val < win0_6.index (pt0 y) 1 * 1408 + 1408
        rw [(idx0_6 _).2]
        show (8 * ((y 1).val / 1408) + (y 0).val / 512) / 8 * 1408 ≤ _ ∧ _ < (8 * ((y 1).val / 1408) + (y 0).val / 512) / 8 * 1408 + 1408
        omega⟩

theorem gradA_at : (dat1 V c).arrAt 4 cfg1.N = gradA V c :=
  (dat1 V c).arrAt_eq_of_cover 4 (gradA V c)
    (fun t _ => by
      show (cfg1.win 4).cut (grid1.coords t) ((dat1 V c).after 4 t) = _
      rw [after1_4, out1_4_eq]
      funext j
      obtain ⟨i, l, rfl⟩ : ∃ (i : Fin 256) (l : Fin 1408), j = ix2 i l := ⟨j 0, j 1, eq_ix2 j⟩
      rw [View.read_apply]
      refine (show _ = gradA V c (ix2 (row1 t i) (col1 t l)) from (pay2_at _ _ _ i l).trans (congrArg₂ (fun a b : EReal => a * b) (sumD V c t i l) (blk1_2 V c t i l))).trans (congrArg (gradA V c) (funext fun b => Fin.ext ?_))
      match b with
      | ⟨0, _⟩ => show 256 * (t.val % 16) + i.val = win1_4.index t 0 * 256 + 1 * i.val; rw [(idx1_4 t).1]; omega
      | ⟨1, _⟩ => show 1408 * (t.val / 16) + l.val = win1_4.index t 1 * 1408 + 1 * l.val; rw [(idx1_4 t).2]; omega)
    fun y => ⟨pt1 y, flush1_4 _, by
      show y ∈ ((View.whole main_v1_0).slice (win1_4.rect (pt1 y))).set
      rw [View.set_slice_whole, Rect.mem_set_unit]
      have h0 : (y 0).val < 4096 := (y 0).isLt
      have h1 : (y 1).val < 5632 := (y 1).isLt
      intro b
      match b with
      | ⟨0, _⟩ =>
        show win1_4.index (pt1 y) 0 * 256 ≤ (y 0).val ∧ (y 0).val < win1_4.index (pt1 y) 0 * 256 + 256
        rw [(idx1_4 _).1]
        show (16 * ((y 1).val / 1408) + (y 0).val / 256) % 16 * 256 ≤ _ ∧ _ < (16 * ((y 1).val / 1408) + (y 0).val / 256) % 16 * 256 + 256
        omega
      | ⟨1, _⟩ =>
        show win1_4.index (pt1 y) 1 * 1408 ≤ (y 1).val ∧ (y 1).val < win1_4.index (pt1 y) 1 * 1408 + 1408
        rw [(idx1_4 _).2]
        show (16 * ((y 1).val / 1408) + (y 0).val / 256) / 16 * 1408 ≤ _ ∧ _ < (16 * ((y 1).val / 1408) + (y 0).val / 256) / 16 * 1408 + 1408
        omega⟩

theorem gradB_at : (dat1 V c).arrAt 5 cfg1.N = gradB V c :=
  (dat1 V c).arrAt_eq_of_cover 5 (gradB V c)
    (fun t _ => by
      show (cfg1.win 5).cut (grid1.coords t) ((dat1 V c).after 5 t) = _
      rw [after1_5, out1_5_eq]
      funext j
      obtain ⟨i, l, rfl⟩ : ∃ (i : Fin 256) (l : Fin 1408), j = ix2 i l := ⟨j 0, j 1, eq_ix2 j⟩
      rw [View.read_apply]
      refine (show _ = gradB V c (ix2 (row1 t i) (col1 t l)) from (pay3_at _ _ _ i l).trans (congrArg₂ (fun a b : EReal => a * b) (sumD V c t i l) (blk1_3 V c t i l))).trans (congrArg (gradB V c) (funext fun b => Fin.ext ?_))
      match b with
      | ⟨0, _⟩ => show 256 * (t.val % 16) + i.val = win1_5.index t 0 * 256 + 1 * i.val; rw [(idx1_5 t).1]; omega
      | ⟨1, _⟩ => show 1408 * (t.val / 16) + l.val = win1_5.index t 1 * 1408 + 1 * l.val; rw [(idx1_5 t).2]; omega)
    fun y => ⟨pt1 y, flush1_5 _, by
      show y ∈ ((View.whole main_v1_1).slice (win1_5.rect (pt1 y))).set
      rw [View.set_slice_whole, Rect.mem_set_unit]
      have h0 : (y 0).val < 4096 := (y 0).isLt
      have h1 : (y 1).val < 5632 := (y 1).isLt
      intro b
      match b with
      | ⟨0, _⟩ =>
        show win1_5.index (pt1 y) 0 * 256 ≤ (y 0).val ∧ (y 0).val < win1_5.index (pt1 y) 0 * 256 + 256
        rw [(idx1_5 _).1]
        show (16 * ((y 1).val / 1408) + (y 0).val / 256) % 16 * 256 ≤ _ ∧ _ < (16 * ((y 1).val / 1408) + (y 0).val / 256) % 16 * 256 + 256
        omega
      | ⟨1, _⟩ =>
        show win1_5.index (pt1 y) 1 * 1408 ≤ (y 1).val ∧ (y 1).val < win1_5.index (pt1 y) 1 * 1408 + 1408
        rw [(idx1_5 _).2]
        show (16 * ((y 1).val / 1408) + (y 0).val / 256) / 16 * 1408 ≤ _ ∧ _ < (16 * ((y 1).val / 1408) + (y 0).val / 256) / 16 * 1408 + 1408
        omega⟩
end

end Cert.SwigluIdeal.Body
-- ==== Proof.SwigluRun.lean ====
/-
  The gated feed-forward's backward pass, run: every array ends at what its call leaves.
-/
module

public import proofs.«01_k».proof.Proof.Swiglu

@[expose] public section

set_option maxRecDepth 16384

noncomputable section

namespace Cert.SwigluIdeal.Body

open Cert.SwigluIdeal Cert.SwigluIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F]
variable (m : (ℓ : Loc nD τ sig) → Buf (Elt F) ℓ) (ρ : Dev nD → PrngReg)

-- the launch theorem is matched against this statement through plain definitions
set_option backward.isDefEq.respectTransparency.types false in
/-- Every array the program keeps ends at the last boundary's contents. -/
theorem ends : θ_run defs (onTc (τ := τ) (main (F := F))) ⟨m, fun _ => 0, ρ⟩ fun r =>
    ∀ (c : Dev nD), ∀ b ∈ Pipeline.ucRefs τ sig, r.2.mem ((c : Thread nD τ).1, b) = W2 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact H
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hm, -, Ho, -, Hr, -⟩, -⟩
      imodintro
      isplitl [Hm]
      · iexact Hm
      isplitl [Hr]
      · iexists _; iexact Hr
      · iexists ∅; iexact Ho)
    (QY := fun c s => ∀ b ∈ Pipeline.ucRefs τ sig, s.mem ((c : Thread nD τ).1, b) = W2 m ρ c b)
    (hfin := fun c s => by
      iintro ⟨⟨Hm, -⟩, Hs⟩
      unfold StableHlo.held
      imodintro
      iapply (pointsTo_read_all (Pipeline.ucRefs τ sig) (fun b => ((c : Thread nD τ).1, b)) (W2 m ρ c) s)
      isplitl [Hm] <;> iassumption)
    (hQ := fun _ h _ => h)
end

/-! ### Over the extended reals -/

section
variable (m : (ℓ : Loc nD τ sig) → Buf (Elt Ideal) ℓ) (ρ : Dev nD → PrngReg) (c : Dev nD)

/-- The gradient of the gate's factor, -/
def da : Buf (Elt Ideal) ((c : Thread nD τ).loc main_v1_0) :=
  fun y : S4096x5632.Idx => half (V0 m ρ) c (y 0) (y 1) * Ffn.slope (preA (V0 m ρ) c (y 0) (y 1)) (preB (V0 m ρ) c (y 0) (y 1))
/-- and of the other. -/
def db : Buf (Elt Ideal) ((c : Thread nD τ).loc main_v1_1) :=
  fun y : S4096x5632.Idx => half (V0 m ρ) c (y 0) (y 1) * Ffn.silu (preA (V0 m ρ) c (y 0) (y 1))

theorem half_kept : half (V1 m ρ) c = half (V0 m ρ) c := by
  have e3 : V1 m ρ c main_arg3 = V0 m ρ c main_arg3 := W1_args m ρ c main_arg3 (by decide)
  have e4 : V1 m ρ c main_arg4 = V0 m ρ c main_arg4 := W1_args m ρ c main_arg4 (by decide)
  unfold half
  rw [e3, e4]

theorem W2_da : W2 m ρ c (Proc.devRef .tc main_v1_0) = da m ρ c := by
  refine (W2_arr m ρ c 4).trans ((gradA_at (V1 m ρ) c).trans (funext fun y => ?_))
  exact congrArg₂ (fun a b : EReal => a * b) (congrFun (congrFun (half_kept m ρ c) _) _)
    (congrFun ((W1_arr m ρ c 4).trans (slopes_at (V0 m ρ) c)) y)
theorem W2_db : W2 m ρ c (Proc.devRef .tc main_v1_1) = db m ρ c := by
  refine (W2_arr m ρ c 5).trans ((gradB_at (V1 m ρ) c).trans (funext fun y => ?_))
  exact congrArg₂ (fun a b : EReal => a * b) (congrFun (congrFun (half_kept m ρ c) _) _)
    (congrFun ((W1_arr m ρ c 5).trans (silus_at (V0 m ρ) c)) y)
theorem W2_act : W2 m ρ c (Proc.devRef .tc main_v0_2) = gated (V0 m ρ) c :=
  (W2_of_ne m ρ c main_v0_2 (by decide)).trans ((W1_arr m ρ c 6).trans (gated_at (V0 m ρ) c))

/-- The two gradients and the gated product, with the arguments as they were. -/
theorem values : θ_run defs (onTc (τ := τ) (main (F := Ideal))) ⟨m, fun _ => 0, ρ⟩ fun r => ∀ c : Dev nD,
    r.2.mem ((c.tc : Thread nD τ).loc main_v1_0) = da m ρ c
    ∧ r.2.mem ((c.tc : Thread nD τ).loc main_v1_1) = db m ρ c
    ∧ r.2.mem ((c.tc : Thread nD τ).loc main_v0_2) = gated (V0 m ρ) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c =>
    ⟨(h c _ (mem_uc main_v1_0 (by decide))).trans (W2_da m ρ c), (h c _ (mem_uc main_v1_1 (by decide))).trans (W2_db m ρ c),
      (h c _ (mem_uc main_v0_2 (by decide))).trans (W2_act m ρ c), (h c _ (mem_uc main_arg0 (by decide))).trans (W2_main_arg0 m ρ c),
      (h c _ (mem_uc main_arg1 (by decide))).trans (W2_main_arg1 m ρ c), (h c _ (mem_uc main_arg2 (by decide))).trans (W2_main_arg2 m ρ c),
      (h c _ (mem_uc main_arg3 (by decide))).trans (W2_main_arg3 m ρ c), (h c _ (mem_uc main_arg4 (by decide))).trans (W2_main_arg4 m ρ c)⟩)
    (ends m ρ)
end

end Cert.SwigluIdeal.Body
-- ==== Proof.SwigluAgree.lean ====
/-
  The gated feed-forward's backward pass: the reference's results are the kernel's, from finite arguments.
-/
module

public import proofs.«01_k».proof.Proof.SwigluRun
public import proofs.«01_k».proof.Proof.Gen.SwigluRefIdeal.Read
public import proofs.«01_k».proof.Proof.Agree
public import proofs.«01_k».proof.Defs
public import Idealize.ShloMosaic.Lib.Quiescent

@[expose] public section

set_option maxRecDepth 16384

noncomputable section

namespace Cert.SwigluRefIdeal.Agree

open Idealize.ShloMosaic Idealize.ShloMosaic.TcCoe Idealize.SL.Sem Cert.SwigluRefIdeal Cert.SwigluRefIdeal.Read

/-! ### The precondition -/

/-- The shapes its operations need. -/
theorem shapes : Cert.Pre_finite_swiglu.Facts where
  bcast_S_S4096x2048 := by decide
  bcast_S_S4x2048x1408 := by decide
  bcast_S_S4x1408x2048 := by decide

section
variable [Cert.Pre_finite_swiglu.Facts] (x0 x4 : Vec Ideal S4096x2048 .bf16) (x1 x2 : Vec Ideal S4x2048x1408 .bf16) (x3 : Vec Ideal S4x1408x2048 .bf16)

theorem pre0 (t : Fin 4096) (k : Fin 2048) (h : (Cert.Pre_finite_swiglu.fn (F := Ideal) x0 x1 x2 x3 x4).1 (ix2 t k) = 1#1) :
    Gate.Finite (x0 (ix2 t k)) := by
  revert h
  pointwise [Cert.Pre_finite_swiglu.fn]
  exact Cert.Agree.bound (by simp [Ideal.ofBits, Ideal.ieee])
theorem pre2 (q : Fin 4) (r : Fin 2048) (j : Fin 1408) (h : (Cert.Pre_finite_swiglu.fn (F := Ideal) x0 x1 x2 x3 x4).2.1 (ix3 q r j) = 1#1) :
    Gate.Finite (x2 (ix3 q r j)) := by
  revert h
  pointwise [Cert.Pre_finite_swiglu.fn]
  exact Cert.Agree.bound (by simp [Ideal.ofBits, Ideal.ieee])
theorem pre3 (q : Fin 4) (j : Fin 1408) (k : Fin 2048) (h : (Cert.Pre_finite_swiglu.fn (F := Ideal) x0 x1 x2 x3 x4).2.2.1 (ix3 q j k) = 1#1) :
    Gate.Finite (x3 (ix3 q j k)) := by
  revert h
  pointwise [Cert.Pre_finite_swiglu.fn]
  exact Cert.Agree.bound (by simp [Ideal.ofBits, Ideal.ieee])
theorem pre4 (t : Fin 4096) (k : Fin 2048) (h : (Cert.Pre_finite_swiglu.fn (F := Ideal) x0 x1 x2 x3 x4).2.2.2 (ix2 t k) = 1#1) :
    Gate.Finite (x4 (ix2 t k)) := by
  revert h
  pointwise [Cert.Pre_finite_swiglu.fn]
  exact Cert.Agree.bound (by simp [Ideal.ofBits, Ideal.ieee])
end

/-! ### The reference's arrays -/

section
variable (x0 x4 : Vec Ideal S4096x2048 .bf16) (x1 x2 : Vec Ideal S4x2048x1408 .bf16) (x3 : Vec Ideal S4x1408x2048 .bf16) (t : Fin 4096) (f : Fin 5632)

theorem v10_at : val_main_v10 (F := Ideal) x0 x1 (ix2 t f) = Ffn.up (fun t r => x0 (ix2 t r)) (fun q r j => x1 (ix3 q r j)) t f := by
  pointwise [val_main_v10, val_main_v6, val_main_v5, val_main_v1, val_main_v0]
  rfl
theorem v11_at : val_main_v11 (F := Ideal) x0 x2 (ix2 t f) = Ffn.up (fun t r => x0 (ix2 t r)) (fun q r j => x2 (ix3 q r j)) t f := by
  pointwise [val_main_v11, val_main_v7, val_main_v5, val_main_v3, val_main_v2]
  rfl
theorem v19_at : val_main_v19 (F := Ideal) x3 x4 (ix2 t f)
    = ((1 / 2 : ℝ) : EReal) * Ffn.back (fun t k => x4 (ix2 t k)) (fun q j k => x3 (ix3 q j k)) t f := by
  pointwise [val_main_v19, val_main_v18, val_main_v17, val_main_v9, val_main_v8, val_main_v4, val_main_cst_0]
  unfold Ffn.back
  rw [Ffn.mul_sum _ _ (by norm_num)]
  refine Finset.sum_congr rfl fun k _ => ?_
  rw [← mul_assoc, show (Ideal.ofBits .f32 0x3F000000#32 : EReal) = _ from Ffn.half_at]
theorem sig_at : val_main_v12_2 (F := Ideal) x0 x1 (ix2 t f) = Ideal.logistic (val_main_v10 (F := Ideal) x0 x1 (ix2 t f)) := by
  pointwise [val_main_v12_2, val_main_call0_v4, val_main_call0_v3, val_main_call0_v2, val_main_call0_v1, val_main_call0_v0, val_main_call0_cst,
    val_main_call0_cst_0]
  rfl
theorem sig2_at : val_main_call2_v5 (F := Ideal) x0 x1 (ix2 t f) = Ideal.logistic (val_main_v10 (F := Ideal) x0 x1 (ix2 t f)) := by
  pointwise [val_main_call2_v5, val_main_call2_v4, val_main_call2_v3, val_main_call2_v2, val_main_call2_v1, val_main_call2_v0, val_main_call2_cst,
    val_main_call2_cst_0]
  rfl

/-- The gated product, -/
theorem v27_at : val_main_v27 (F := Ideal) x0 x1 x2 (ix2 t f)
    = Ffn.silu (Ffn.up (fun t r => x0 (ix2 t r)) (fun q r j => x1 (ix3 q r j)) t f)
      * Ffn.up (fun t r => x0 (ix2 t r)) (fun q r j => x2 (ix3 q r j)) t f := by
  pointwise [val_main_v27, val_main_v24, val_main_v23]
  rw [sig2_at, v10_at, v11_at]; rfl
/-- the gradient of the factor that is not activated, -/
theorem v26_at : val_main_v26 (F := Ideal) x0 x1 x3 x4 (ix2 t f)
    = ((1 / 2 : ℝ) : EReal) * Ffn.back (fun t k => x4 (ix2 t k)) (fun q j k => x3 (ix3 q j k)) t f
      * Ffn.silu (Ffn.up (fun t r => x0 (ix2 t r)) (fun q r j => x1 (ix3 q r j)) t f) := by
  pointwise [val_main_v26, val_main_v20, val_main_v12_0]
  rw [sig_at, v10_at, v19_at]; exact mul_comm _ _
/-- and the gradient of the activated one. -/
theorem v25_at (h0 : ∀ t r, Gate.Finite (x0 (ix2 t r))) (h2 : ∀ q r j, Gate.Finite (x2 (ix3 q r j))) (h3 : ∀ q j k, Gate.Finite (x3 (ix3 q j k)))
    (h4 : ∀ t k, Gate.Finite (x4 (ix2 t k))) : val_main_v25 (F := Ideal) x0 x1 x2 x3 x4 (ix2 t f)
    = ((1 / 2 : ℝ) : EReal) * Ffn.back (fun t k => x4 (ix2 t k)) (fun q j k => x3 (ix3 q j k)) t f
      * Ffn.slope (Ffn.up (fun t r => x0 (ix2 t r)) (fun q r j => x1 (ix3 q r j)) t f)
        (Ffn.up (fun t r => x0 (ix2 t r)) (fun q r j => x2 (ix3 q r j)) t f) := by
  pointwise [val_main_v25, val_main_v22, val_main_call1_v2, val_main_call1_v1, val_main_call1_v0, val_main_v21, val_main_v12_1, val_main_call0_v7,
    val_main_call0_v6, val_main_call0_cst_1]
  rw [sig_at, v10_at, v11_at, v19_at]
  obtain ⟨b, hb⟩ := Ffn.up_finite h0 h2 t f
  obtain ⟨d, hd⟩ := (show Gate.Finite ((1 / 2 : ℝ) : EReal) from ⟨_, rfl⟩).mul (Ffn.back_finite h4 h3 t f)
  rw [hb, hd]
  exact Ffn.slope_eq _ b d
end

/-! ### The claims -/

/-- The reference leaves its arguments, and no counter raised. -/
theorem frame : quiescent_SwigluRefIdeal (hSwigluRefIdeal := Gen.facts) := fun m ρ _ =>
  (θ_run _ _ _).mono (fun r h => ⟨fun c => (h c).2.2.2, sem_eq_zero_of_no_sems (by decide) r.2⟩) (Value.run m ρ)

/-- The same, under the precondition. -/
theorem frame_pre : quiescent_SwigluRefIdeal_pre_finite_swiglu (hSwigluRefIdeal := Gen.facts) (hPre_finite_swiglu := shapes) :=
  fun m ρ _ => frame m ρ trivial

/-- From finite arguments that agree, both programs end with the same two gradients and the same gated product. -/
theorem algebraic : algebraic_SwigluIdeal_SwigluRefIdeal_pre_finite_swiglu (hSwigluIdeal := Cert.SwigluIdeal.Gen.facts)
    (hSwigluRefIdeal := Gen.facts) (hPre_finite_swiglu := shapes) := by
  letI := shapes
  intro m ρ m' ρ' hpre hag
  refine ⟨fun c => Cert.SwigluIdeal.Body.da m ρ c, fun c => Cert.SwigluIdeal.Body.db m ρ c,
    fun c => Cert.SwigluIdeal.Body.gated (Cert.SwigluIdeal.Gen.V0 m ρ) c, Cert.SwigluIdeal.Body.values m ρ, ?_⟩
  refine (θ_run _ _ _).mono (fun r h c => ?_) (Value.run m' ρ')
  obtain ⟨e0, e1, e2, e3, e4⟩ := hag c
  obtain ⟨p0, p2, p3, p4⟩ := hpre c
  obtain ⟨r0, r1, r2, rest⟩ := h c
  refine ⟨r0.trans ?_, r1.trans ?_, r2.trans ?_, rest⟩
  · rw [val_main_v25_eq, e0, e1, e2, e3, e4]
    funext y
    obtain ⟨t, f, rfl⟩ : ∃ (t : Fin 4096) (f : Fin 5632), y = ix2 t f := ⟨y 0, y 1, eq_ix2 y⟩
    exact v25_at _ _ _ _ _ t f (fun t k => pre0 _ _ _ _ _ t k (congrFun p0 _)) (fun q r j => pre2 _ _ _ _ _ q r j (congrFun p2 _))
      (fun q j k => pre3 _ _ _ _ _ q j k (congrFun p3 _)) (fun t k => pre4 _ _ _ _ _ t k (congrFun p4 _))
  · rw [val_main_v26_eq, e0, e1, e3, e4]
    funext y
    obtain ⟨t, f, rfl⟩ : ∃ (t : Fin 4096) (f : Fin 5632), y = ix2 t f := ⟨y 0, y 1, eq_ix2 y⟩
    exact v26_at _ _ _ _ t f
  · rw [val_main_v27_eq, e0, e1, e2]
    funext y
    obtain ⟨t, f, rfl⟩ : ∃ (t : Fin 4096) (f : Fin 5632), y = ix2 t f := ⟨y 0, y 1, eq_ix2 y⟩
    exact v27_at _ _ _ t f

end Cert.SwigluRefIdeal.Agree
-- ==== Proof.UpGrad.lean ====
/-
  The gradient of the two up-projections: what the call's arrays hold.

  A block of the result is accumulated over two points: the first stores the product over the first 2048 rows, the
  second adds the product over the last 2048 and writes the block back.
-/
module

public import proofs.«01_k».proof.Proof.Gen.UpGradIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.UpGradIdeal.Body

open Cert.UpGradIdeal Cert.UpGradIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first point of a block leaves in the first sum -/
theorem first0 (t : Fin cfg0.N) (h : t.val % 2 = 0) :
    (outsAt0 m c t.val t.isLt).2.2.1 = k0_pay1 (iblk m c 0 t) (iblk m c 1 t) := by
  rw [outsAt0_A m c t h (by omega) h (by omega) (by omega)]
  dsimp only
  unfold sout0_A_0
  dsimp only [kernelRun0_A]
  refine (View.read_writes_full ..).trans ?_
  rw [View.readAt_full, View.readAt_full, (hs0_0 t).read_unread, (hs0_1 t).read_unread]

/-- and in the second sum, -/
theorem first1 (t : Fin cfg0.N) (h : t.val % 2 = 0) :
    (outsAt0 m c t.val t.isLt).2.2.2 = k0_pay3 (iblk m c 2 t) (iblk m c 3 t) := by
  rw [outsAt0_A m c t h (by omega) h (by omega) (by omega)]
  dsimp only
  unfold sout0_A_1
  dsimp only [kernelRun0_A]
  refine (View.read_writes_full ..).trans ?_
  rw [View.readAt_full, View.readAt_full, (hs0_2 t).read_unread, (hs0_3 t).read_unread]

/-- and what the second leaves in the first result's block -/
theorem second4 (t : Fin cfg0.N) (h : t.val % 2 = 1) (ht : t.val - 1 < cfg0.N) :
    (outsAt0 m c t.val t.isLt).1 = k0_pay5 (k0_pay2 (k0_pay1 (iblk m c 0 ⟨t.val - 1, ht⟩) (iblk m c 1 ⟨t.val - 1, ht⟩)) (iblk m c 0 t) (iblk m c 1 t)) := by
  have e := first0 m c ⟨t.val - 1, ht⟩ (by show (t.val - 1) % 2 = 0; omega)
  rw [outsAt0_B m c t (by omega) h (by omega) h h]
  dsimp only
  unfold out0_B_4
  dsimp only [kernelRun0_B]
  refine (View.read_writes_full ..).trans ?_
  refine congrArg k0_pay5 ((View.readCov_full ..).trans ?_)
  rw [View.readAt_full, View.readAt_full, View.readAt_full, (hs0_0 t).read_unread, (hs0_1 t).read_unread, (Memref.isWhole_whole _).read_unread]
  rw [show (outsAt0 m c (t.val - 1) (Nat.lt_of_le_of_lt (Nat.sub_le _ _) t.isLt)).2.2.1 = _ from e]

/-- and in the second's. -/
theorem second5 (t : Fin cfg0.N) (h : t.val % 2 = 1) (ht : t.val - 1 < cfg0.N) :
    (outsAt0 m c t.val t.isLt).2.1 = k0_pay6 (k0_pay4 (k0_pay3 (iblk m c 2 ⟨t.val - 1, ht⟩) (iblk m c 3 ⟨t.val - 1, ht⟩)) (iblk m c 2 t) (iblk m c 3 t)) := by
  have e := first1 m c ⟨t.val - 1, ht⟩ (by show (t.val - 1) % 2 = 0; omega)
  rw [outsAt0_B m c t (by omega) h (by omega) h h]
  dsimp only
  unfold out0_B_5
  dsimp only [kernelRun0_B]
  refine (View.read_writes_full ..).trans ?_
  refine congrArg k0_pay6 ((View.readCov_full ..).trans ?_)
  rw [View.readAt_full, View.readAt_full, View.readAt_full, (hs0_2 t).read_unread, (hs0_3 t).read_unread, (Memref.isWhole_whole _).read_unread]
  rw [show (outsAt0 m c (t.val - 1) (Nat.lt_of_le_of_lt (Nat.sub_le _ _) t.isLt)).2.2.2 = _ from e]

/-! ### The blocks -/

theorem idx0 : ∀ t : Fin cfg0.N, win0_0.index t 0 = t.val % 2 ∧ win0_0.index t 1 = t.val / 8 :=
  (by decide +kernel : ∀ t : Fin grid0.N, win0_0.index t 0 = t.val % 2 ∧ win0_0.index t 1 = t.val / 8)
theorem idx1 : ∀ t : Fin cfg0.N, win0_1.index t 0 = t.val % 2 ∧ win0_1.index t 1 = t.val / 2 % 4 :=
  (by decide +kernel : ∀ t : Fin grid0.N, win0_1.index t 0 = t.val % 2 ∧ win0_1.index t 1 = t.val / 2 % 4)
theorem idx2 : ∀ t : Fin cfg0.N, win0_2.index t 0 = t.val % 2 ∧ win0_2.index t 1 = t.val / 8 :=
  (by decide +kernel : ∀ t : Fin grid0.N, win0_2.index t 0 = t.val % 2 ∧ win0_2.index t 1 = t.val / 8)
theorem idx3 : ∀ t : Fin cfg0.N, win0_3.index t 0 = t.val % 2 ∧ win0_3.index t 1 = t.val / 2 % 4 :=
  (by decide +kernel : ∀ t : Fin grid0.N, win0_3.index t 0 = t.val % 2 ∧ win0_3.index t 1 = t.val / 2 % 4)

/-- The point that works on half `k` of the rows for chip `q` and row `i` of the weight. -/
def pt (q : Fin 4) (i : Fin 2048) (k : Fin 2) : Fin cfg0.N :=
  ⟨2 * (q.val + 4 * (i.val / 512)) + k.val, by show _ < grid0.N; rw [N_0]; omega⟩

variable (q : Fin 4) (i : Fin 2048) (k : Fin 2) (j : Fin 1408) (r : Fin 2048)

theorem hBlk0 : iblk m c 0 (pt q i k) (ix2 r ⟨i.val % 512, by omega⟩) = m (c.tc.loc main_arg0) (ix2 (Ffn.row k r) i) := by
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ =>
    show win0_0.index (pt q i k) 0 * 2048 + 1 * r.val = 2048 * k.val + r.val
    rw [(idx0 _).1]; show (2 * (q.val + 4 * (i.val / 512)) + k.val) % 2 * 2048 + _ = _; omega
  | ⟨1, _⟩ =>
    show win0_0.index (pt q i k) 1 * 512 + 1 * (i.val % 512) = i.val
    rw [(idx0 _).2]; show (2 * (q.val + 4 * (i.val / 512)) + k.val) / 8 * 512 + _ = _; omega

theorem dBlk0 : iblk m c 1 (pt q i k) (ix2 r j) = m (c.tc.loc main_arg1) (ix2 (Ffn.row k r) (Ffn.col q j)) := by
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ =>
    show win0_1.index (pt q i k) 0 * 2048 + 1 * r.val = 2048 * k.val + r.val
    rw [(idx1 _).1]; show (2 * (q.val + 4 * (i.val / 512)) + k.val) % 2 * 2048 + _ = _; omega
  | ⟨1, _⟩ =>
    show win0_1.index (pt q i k) 1 * 1408 + 1 * j.val = 1408 * q.val + j.val
    rw [(idx1 _).2]; show (2 * (q.val + 4 * (i.val / 512)) + k.val) / 2 % 4 * 1408 + _ = _; omega

theorem hBlk1 : iblk m c 2 (pt q i k) (ix2 r ⟨i.val % 512, by omega⟩) = m (c.tc.loc main_arg0) (ix2 (Ffn.row k r) i) := by
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ =>
    show win0_2.index (pt q i k) 0 * 2048 + 1 * r.val = 2048 * k.val + r.val
    rw [(idx2 _).1]; show (2 * (q.val + 4 * (i.val / 512)) + k.val) % 2 * 2048 + _ = _; omega
  | ⟨1, _⟩ =>
    show win0_2.index (pt q i k) 1 * 512 + 1 * (i.val % 512) = i.val
    rw [(idx2 _).2]; show (2 * (q.val + 4 * (i.val / 512)) + k.val) / 8 * 512 + _ = _; omega

theorem dBlk1 : iblk m c 3 (pt q i k) (ix2 r j) = m (c.tc.loc main_arg2) (ix2 (Ffn.row k r) (Ffn.col q j)) := by
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ =>
    show win0_3.index (pt q i k) 0 * 2048 + 1 * r.val = 2048 * k.val + r.val
    rw [(idx3 _).1]; show (2 * (q.val + 4 * (i.val / 512)) + k.val) % 2 * 2048 + _ = _; omega
  | ⟨1, _⟩ =>
    show win0_3.index (pt q i k) 1 * 1408 + 1 * j.val = 1408 * q.val + j.val
    rw [(idx3 _).2]; show (2 * (q.val + 4 * (i.val / 512)) + k.val) / 2 % 4 * 1408 + _ = _; omega

/-! ### The arrays -/

/-- An element of the first array is its block's, after the second point, -/
theorem arr4 : (dats m 0 c).arrAt 4 cfg0.N (ix3 q i j)
    = (outsAt0 m c (pt q i 1).val (pt q i 1).isLt).1 (ix3 0 ⟨i.val % 512, by omega⟩ j) := by
  have hp : Value.pt4Of (ix3 q i j) = (pt q i 1).val := by
    show 2 * (1 * (q.val / 1 - 0) + 4 * (i.val / 512 - 0) + 16 * (j.val / 1408 - 0)) + 1 = 2 * (q.val + 4 * (i.val / 512)) + 1
    omega
  rw [Value.final4, Value.G4, dif_pos (by rw [hp]; exact (pt q i 1).isLt), Value.outsAt0_sweep,
    Value.fold0_congr m c _ _ (pt q i 1).val (by have := (pt q i 1).isLt; omega) hp]
  refine congrArg _ (funext fun a => Fin.ext ?_)
  match a with
  | ⟨0, _⟩ => show q.val % 1 = 0; omega
  | ⟨1, _⟩ => rfl
  | ⟨2, _⟩ => show j.val % 1408 = j.val; omega

/-- and so is the second's. -/
theorem arr5 : (dats m 0 c).arrAt 5 cfg0.N (ix3 q i j)
    = (outsAt0 m c (pt q i 1).val (pt q i 1).isLt).2.1 (ix3 0 ⟨i.val % 512, by omega⟩ j) := by
  have hp : Value.pt5Of (ix3 q i j) = (pt q i 1).val := by
    show 2 * (1 * (q.val / 1 - 0) + 4 * (i.val / 512 - 0) + 16 * (j.val / 1408 - 0)) + 1 = 2 * (q.val + 4 * (i.val / 512)) + 1
    omega
  rw [Value.final5, Value.G5, dif_pos (by rw [hp]; exact (pt q i 1).isLt), Value.outsAt0_sweep,
    Value.fold0_congr m c _ _ (pt q i 1).val (by have := (pt q i 1).isLt; omega) hp]
  refine congrArg _ (funext fun a => Fin.ext ?_)
  match a with
  | ⟨0, _⟩ => show q.val % 1 = 0; omega
  | ⟨1, _⟩ => rfl
  | ⟨2, _⟩ => show j.val % 1408 = j.val; omega

theorem pt_odd : (pt q i 1).val % 2 = 1 := by show (2 * (q.val + 4 * (i.val / 512)) + 1) % 2 = 1; omega

/-- The point before a block's second is its first. -/
theorem pt_pred (h : (pt q i 1).val - 1 < cfg0.N) : (⟨(pt q i 1).val - 1, h⟩ : Fin cfg0.N) = pt q i 0 := Fin.ext rfl

end

/-! ### Over the extended reals -/

section
variable (x : Vec Ideal S2048x512 .bf16) (y : Vec Ideal S2048x1408 .bf16) (x' : Vec Ideal S2048x512 .bf16) (y' : Vec Ideal S2048x1408 .bf16)
  (p : Fin 512) (j : Fin 1408)

theorem pay4_at : k0_pay5 (k0_pay2 (k0_pay1 x y) x' y') (ix3 0 p j) = ∑ r, x (ix2 r p) * y (ix2 r j) + ∑ r, x' (ix2 r p) * y' (ix2 r j) := by
  pointwise [k0_pay5, k0_pay2, k0_pay1]
theorem pay5_at : k0_pay6 (k0_pay4 (k0_pay3 x y) x' y') (ix3 0 p j) = ∑ r, x (ix2 r p) * y (ix2 r j) + ∑ r, x' (ix2 r p) * y' (ix2 r j) := by
  pointwise [k0_pay6, k0_pay4, k0_pay3]
end

variable (m : (ℓ : Loc nD τ sig) → Buf (Elt Ideal) ℓ) (c : Dev nD) (q : Fin 4) (i : Fin 2048) (j : Fin 1408)

/-- The first result is the first weight's gradient, -/
theorem val4 : (dats m 0 c).arrAt 4 cfg0.N (ix3 q i j)
    = Ffn.upGrad (fun t k => m (c.tc.loc main_arg0) (ix2 t k)) (fun t k => m (c.tc.loc main_arg1) (ix2 t k)) q i j := by
  rw [arr4, second4 m c _ (pt_odd q i) (Nat.lt_of_le_of_lt (Nat.sub_le _ _) (pt q i 1).isLt), pt_pred, pay4_at, Ffn.upGrad_halves]
  simp only [hBlk0, dBlk0]

/-- and the second the second's. -/
theorem val5 : (dats m 0 c).arrAt 5 cfg0.N (ix3 q i j)
    = Ffn.upGrad (fun t k => m (c.tc.loc main_arg0) (ix2 t k)) (fun t k => m (c.tc.loc main_arg2) (ix2 t k)) q i j := by
  rw [arr5, second5 m c _ (pt_odd q i) (Nat.lt_of_le_of_lt (Nat.sub_le _ _) (pt q i 1).isLt), pt_pred, pay5_at, Ffn.upGrad_halves]
  simp only [hBlk1, dBlk1]

end Cert.UpGradIdeal.Body
-- ==== Proof.UpGradAgree.lean ====
/-
  The gradient of the two up-projections: the reference's results are the kernel's.
-/
module

public import proofs.«01_k».proof.Proof.UpGrad
public import proofs.«01_k».proof.Proof.Gen.UpGradRefIdeal.Read
public import proofs.«01_k».proof.Proof.Gen.UpGradIdeal.Frame
public import proofs.«01_k».proof.Defs
public import Idealize.ShloMosaic.Lib.Quiescent

@[expose] public section

set_option maxRecDepth 16384

noncomputable section

namespace Cert.UpGradRefIdeal.Agree

open Idealize.ShloMosaic Idealize.ShloMosaic.TcCoe Idealize.SL.Sem Cert.UpGradRefIdeal Cert.UpGradRefIdeal.Read

section
variable (x0 : Vec Ideal S4096x2048 .bf16) (x1 : Vec Ideal S4096x5632 .bf16) (q : Fin 4) (i : Fin 2048) (j : Fin 1408)

/-- The reference's product over the rows, put in the layout of the first weight, is the gradient; -/
theorem v11_at : val_main_v11 (F := Ideal) x0 x1 (ix3 q i j) = Ffn.upGrad (fun t k => x0 (ix2 t k)) (fun t k => x1 (ix2 t k)) q i j := by
  pointwise [val_main_v11, val_main_v10, val_main_v9, val_main_v8, val_main_v7, val_main_v1, val_main_v0]
  unfold Ffn.upGrad
  refine Finset.sum_congr rfl fun t _ => ?_
  rw [mul_comm]
  exact congrArg (fun k => x0 (ix2 t i) * x1 (ix2 t k)) (Fin.ext (by show q.val * 1408 + j.val = 1408 * q.val + j.val; omega))

/-- and of the second weight likewise. -/
theorem v12_at : val_main_v12 (F := Ideal) x0 x1 (ix3 q i j) = Ffn.upGrad (fun t k => x0 (ix2 t k)) (fun t k => x1 (ix2 t k)) q i j := by
  pointwise [val_main_v12, val_main_v6, val_main_v5, val_main_v4, val_main_v3, val_main_v2, val_main_v0]
  unfold Ffn.upGrad
  refine Finset.sum_congr rfl fun t _ => ?_
  rw [mul_comm]
  exact congrArg (fun k => x0 (ix2 t i) * x1 (ix2 t k)) (Fin.ext (by show q.val * 1408 + j.val = 1408 * q.val + j.val; omega))
end

/-- The reference leaves its arguments, and no counter raised. -/
theorem frame : quiescent_UpGradRefIdeal (hUpGradRefIdeal := Gen.facts) := fun m ρ _ =>
  (θ_run _ _ _).mono (fun r h => ⟨fun c => (h c).2.2, sem_eq_zero_of_no_sems (by decide) r.2⟩) (Value.run m ρ)

/-- From arguments that agree, both programs end with the two gradients. -/
theorem algebraic : algebraic_UpGradIdeal_UpGradRefIdeal (hUpGradIdeal := Cert.UpGradIdeal.Gen.facts) (hUpGradRefIdeal := Gen.facts) := by
  intro m ρ m' ρ' _ hag
  refine ⟨fun c => (Cert.UpGradIdeal.Gen.dats m 0 c).arrAt 4 Cert.UpGradIdeal.cfg0.N,
    fun c => (Cert.UpGradIdeal.Gen.dats m 0 c).arrAt 5 Cert.UpGradIdeal.cfg0.N, Cert.UpGradIdeal.Value.run_blocks m ρ, ?_⟩
  refine (θ_run _ _ _).mono (fun r h c => ?_) (Value.run m' ρ')
  obtain ⟨e0, e1, e2⟩ := hag c
  obtain ⟨r0, r1, rest⟩ := h c
  refine ⟨r0.trans ?_, r1.trans ?_, rest⟩
  · rw [val_main_v11_eq, e0, e1]
    funext y
    obtain ⟨q, i, j, rfl⟩ : ∃ (q : Fin 4) (i : Fin 2048) (j : Fin 1408), y = ix3 q i j := ⟨y 0, y 1, y 2, eq_ix3 y⟩
    exact (v11_at _ _ q i j).trans (Cert.UpGradIdeal.Body.val4 m c q i j).symm
  · rw [val_main_v12_eq, e0, e2]
    funext y
    obtain ⟨q, i, j, rfl⟩ : ∃ (q : Fin 4) (i : Fin 2048) (j : Fin 1408), y = ix3 q i j := ⟨y 0, y 1, y 2, eq_ix3 y⟩
    exact (v12_at _ _ q i j).trans (Cert.UpGradIdeal.Body.val5 m c q i j).symm

end Cert.UpGradRefIdeal.Agree
-- ==== Proof.DownGrad.lean ====
/-
  The gradient of the down-projection: what the call's array holds.

  A block of the result is accumulated over two points: the first stores the product over the first 2048 rows, the
  second adds the product over the last 2048, halves the sum and writes the block back.
-/
module

public import proofs.«01_k».proof.Proof.Gen.DownGradIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.DownGradIdeal.Body

open Cert.DownGradIdeal Cert.DownGradIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first point of a block leaves in the sum -/
theorem first (t : Fin cfg0.N) (h : t.val % 2 = 0) :
    (outsAt0 m c t.val t.isLt).2 = k0_pay1 (iblk m c 0 t) (iblk m c 1 t) := by
  rw [outsAt0_A m c t h (by omega) (by omega)]
  dsimp only
  unfold sout0_A_0
  dsimp only [kernelRun0_A]
  refine (View.read_writes_full ..).trans ?_
  rw [View.readAt_full, View.readAt_full, (hs0_0 t).read_unread, (hs0_1 t).read_unread]

/-- and what the second leaves in the block. -/
theorem second (t : Fin cfg0.N) (h : t.val % 2 = 1) :
    (outsAt0 m c t.val t.isLt).1 = k0_pay3 (k0_pay2 (outsAt0 m c (t.val - 1) (Nat.lt_of_le_of_lt (Nat.sub_le _ _) t.isLt)).2
      (iblk m c 0 t) (iblk m c 1 t)) := by
  rw [outsAt0_B m c t (by omega) h h]
  dsimp only
  unfold out0_B_2
  dsimp only [kernelRun0_B]
  refine (View.read_writes_full ..).trans ?_
  refine congrArg k0_pay3 ((View.readCov_full ..).trans ?_)
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val % 2 ∧ win0_0.index t 1 = t.val / 4 :=
  (by decide +kernel : ∀ t : Fin grid0.N, win0_0.index t 0 = t.val % 2 ∧ win0_0.index t 1 = t.val / 4)
theorem idx1 : ∀ t : Fin cfg0.N, win0_1.index t 0 = t.val % 2 ∧ win0_1.index t 1 = t.val / 2 % 2 :=
  (by decide +kernel : ∀ t : Fin grid0.N, win0_1.index t 0 = t.val % 2 ∧ win0_1.index t 1 = t.val / 2 % 2)

/-- The point that works on half `a` of the rows for chip `q` and column `k` of the weight. -/
def pt (q : Fin 4) (k : Fin 2048) (a : Fin 2) : Fin cfg0.N :=
  ⟨4 * q.val + 2 * (k.val / 1024) + a.val, by show _ < grid0.N; rw [N_0]; omega⟩

variable (q : Fin 4) (j : Fin 1408) (k : Fin 2048) (a : Fin 2) (r : Fin 2048)

theorem fBlk : iblk m c 0 (pt q k a) (ix2 r j) = m (c.tc.loc main_arg0) (ix2 (Ffn.row a r) (Ffn.col q j)) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt q k a) 0 * 2048 + 1 * r.val = 2048 * a.val + r.val
    rw [(idx0 _).1]; show (4 * q.val + 2 * (k.val / 1024) + a.val) % 2 * 2048 + _ = _; omega
  | ⟨1, _⟩ =>
    show win0_0.index (pt q k a) 1 * 1408 + 1 * j.val = 1408 * q.val + j.val
    rw [(idx0 _).2]; show (4 * q.val + 2 * (k.val / 1024) + a.val) / 4 * 1408 + _ = _; omega

theorem dBlk : iblk m c 1 (pt q k a) (ix2 r ⟨k.val % 1024, by omega⟩) = m (c.tc.loc main_arg1) (ix2 (Ffn.row a r) k) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ =>
    show win0_1.index (pt q k a) 0 * 2048 + 1 * r.val = 2048 * a.val + r.val
    rw [(idx1 _).1]; show (4 * q.val + 2 * (k.val / 1024) + a.val) % 2 * 2048 + _ = _; omega
  | ⟨1, _⟩ =>
    show win0_1.index (pt q k a) 1 * 1024 + 1 * (k.val % 1024) = k.val
    rw [(idx1 _).2]; show (4 * q.val + 2 * (k.val / 1024) + a.val) / 2 % 2 * 1024 + _ = _; omega

/-- An element of the array is its block's, after the second point. -/
theorem arr2 : (dats m 0 c).arrAt 2 cfg0.N (ix3 q j k)
    = (outsAt0 m c (pt q k 1).val (pt q k 1).isLt).1 (ix3 0 j ⟨k.val % 1024, by omega⟩) := by
  have hp : Value.pt2Of (ix3 q j k) = (pt q k 1).val := by
    show 2 * (2 * (q.val / 1 - 0) + 2 * (j.val / 1408 - 0) + 1 * (k.val / 1024 - 0)) + 1 = 4 * q.val + 2 * (k.val / 1024) + 1
    omega
  rw [Value.final2, Value.G2, dif_pos (by rw [hp]; exact (pt q k 1).isLt), Value.outsAt0_sweep,
    Value.fold0_congr m c _ _ (pt q k 1).val (by have := (pt q k 1).isLt; omega) hp]
  refine congrArg _ (funext fun b => Fin.ext ?_)
  match b with
  | ⟨0, _⟩ => show q.val % 1 = 0; omega
  | ⟨1, _⟩ => show j.val % 1408 = j.val; omega
  | ⟨2, _⟩ => rfl

/-- What the block holds after its two points. -/
theorem both : (outsAt0 m c (pt q k 1).val (pt q k 1).isLt).1
    = k0_pay3 (k0_pay2 (k0_pay1 (iblk m c 0 (pt q k 0)) (iblk m c 1 (pt q k 0))) (iblk m c 0 (pt q k 1)) (iblk m c 1 (pt q k 1))) := by
  rw [← first m c (pt q k 0) (by show (4 * q.val + 2 * (k.val / 1024) + 0) % 2 = 0; omega)]
  exact second m c _ (by show (4 * q.val + 2 * (k.val / 1024) + 1) % 2 = 1; omega)

end

/-! ### Over the extended reals -/

section
variable (x x' : Vec Ideal S2048x1408 .bf16) (y y' : Vec Ideal S2048x1024 .bf16) (j : Fin 1408) (p : Fin 1024)

theorem pay_at : k0_pay3 (k0_pay2 (k0_pay1 x y) x' y') (ix3 0 j p)
    = Ideal.ofBits .f32 0x3F000000#32 * (∑ r, x (ix2 r j) * y (ix2 r p) + ∑ r, x' (ix2 r j) * y' (ix2 r p)) := by
  pointwise [k0_pay3, k0_pay2, k0_pay1]
end

variable (m : (ℓ : Loc nD τ sig) → Buf (Elt Ideal) ℓ) (c : Dev nD) (q : Fin 4) (j : Fin 1408) (k : Fin 2048)

/-- The result is half the product over the rows. -/
theorem val2 : (dats m 0 c).arrAt 2 cfg0.N (ix3 q j k)
    = ((1 / 2 : ℝ) : EReal) * Ffn.downGrad (fun t f => m (c.tc.loc main_arg0) (ix2 t f)) (fun t k => m (c.tc.loc main_arg1) (ix2 t k)) q j k := by
  rw [arr2, both, pay_at, Ffn.half_at, Ffn.downGrad_halves]
  simp only [fBlk, dBlk]

end Cert.DownGradIdeal.Body
-- ==== Proof.DownGradAgree.lean ====
/-
  The gradient of the down-projection: the reference's result is the kernel's.
-/
module

public import proofs.«01_k».proof.Proof.DownGrad
public import proofs.«01_k».proof.Proof.Gen.DownGradRefIdeal.Read
public import proofs.«01_k».proof.Proof.Gen.DownGradIdeal.Frame
public import proofs.«01_k».proof.Defs
public import Idealize.ShloMosaic.Lib.Quiescent

@[expose] public section

set_option maxRecDepth 16384

noncomputable section

namespace Cert.DownGradRefIdeal.Agree

open Idealize.ShloMosaic Idealize.ShloMosaic.TcCoe Idealize.SL.Sem Cert.DownGradRefIdeal Cert.DownGradRefIdeal.Read

section
variable (x0 : Vec Ideal S4096x5632 .bf16) (x1 : Vec Ideal S4096x2048 .bf16) (q : Fin 4) (j : Fin 1408) (k : Fin 2048)

/-- The reference's product over the rows, of the halved rows, is half the gradient. -/
theorem v7_at : val_main_v7 (F := Ideal) x0 x1 (ix3 q j k)
    = ((1 / 2 : ℝ) : EReal) * Ffn.downGrad (fun t f => x0 (ix2 t f)) (fun t k => x1 (ix2 t k)) q j k := by
  pointwise [val_main_v7, val_main_v6, val_main_v5, val_main_v4, val_main_v3, val_main_v2, val_main_v1, val_main_v0, val_main_cst]
  unfold Ffn.downGrad
  rw [Ffn.mul_sum _ _ (by norm_num)]
  refine Finset.sum_congr rfl fun t _ => ?_
  rw [show (⟨q.val * 1408 + j.val, by omega⟩ : Fin 5632) = Ffn.col q j from Fin.ext (by show q.val * 1408 + j.val = 1408 * q.val + j.val; omega),
    mul_assoc, mul_comm (x1 _), show (Ideal.ofBits .f32 0x3F000000#32 : EReal) = _ from Ffn.half_at]
end

/-- The reference leaves its arguments, and no counter raised. -/
theorem frame : quiescent_DownGradRefIdeal (hDownGradRefIdeal := Gen.facts) := fun m ρ _ =>
  (θ_run _ _ _).mono (fun r h => ⟨fun c => (h c).2, sem_eq_zero_of_no_sems (by decide) r.2⟩) (Value.run m ρ)

/-- From arguments that agree, both programs end with the weight's gradient. -/
theorem algebraic : algebraic_DownGradIdeal_DownGradRefIdeal (hDownGradIdeal := Cert.DownGradIdeal.Gen.facts) (hDownGradRefIdeal := Gen.facts) := by
  intro m ρ m' ρ' _ hag
  refine ⟨fun c => (Cert.DownGradIdeal.Gen.dats m 0 c).arrAt 2 Cert.DownGradIdeal.cfg0.N, Cert.DownGradIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v7_eq, e0, e1]
  funext y
  obtain ⟨q, j, k, rfl⟩ : ∃ (q : Fin 4) (j : Fin 1408) (k : Fin 2048), y = ix3 q j k := ⟨y 0, y 1, y 2, eq_ix3 y⟩
  exact (v7_at _ _ q j k).trans (Cert.DownGradIdeal.Body.val2 m c q j k).symm

end Cert.DownGradRefIdeal.Agree
-- ==== Proof.RowGrad.lean ====
/-
  The gradient of the rows: what the call's array holds.

  A block of the result is accumulated over the four chips: the first chip's point stores the sum of its two products,
  each later one adds its own, and the last writes the block back.
-/
module

public import proofs.«01_k».proof.Proof.Gen.RowGradIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.RowGradIdeal.Body

open Cert.RowGradIdeal Cert.RowGradIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first chip's point leaves in the sum, -/
theorem first (t : Fin cfg0.N) (h : t.val % 4 = 0) :
    (outsAt0 m c t.val t.isLt).2 = k0_pay3 (k0_pay1 (iblk m c 0 t) (iblk m c 1 t)) (iblk m c 2 t) (iblk m c 3 t) := by
  rw [outsAt0_A m c t h (by omega) (by omega)]
  dsimp only
  unfold sout0_A_0
  dsimp only [kernelRun0_A]
  refine (View.read_writes_full ..).trans ?_
  rw [View.readAt_full, View.readAt_full, (hs0_2 t).read_unread, (hs0_3 t).read_unread]
  refine congrArg (fun x => k0_pay3 x (iblk m c 2 t) (iblk m c 3 t)) ((View.readCov_full ..).trans ?_)
  rw [View.readAt_full, View.readAt_full, (hs0_0 t).read_unread, (hs0_1 t).read_unread]

/-- what a later one does, -/
theorem next (t : Fin cfg0.N) (h : 1 ≤ t.val % 4) (h3 : ¬t.val % 4 = 3) :
    (outsAt0 m c t.val t.isLt).2 = k0_pay3 (k0_pay2 (outsAt0 m c (t.val - 1) (Nat.lt_of_le_of_lt (Nat.sub_le _ _) t.isLt)).2
      (iblk m c 0 t) (iblk m c 1 t)) (iblk m c 2 t) (iblk m c 3 t) := by
  rw [outsAt0_B m c t (by omega) h h3]
  dsimp only
  unfold sout0_B_0
  dsimp only [kernelRun0_B]
  refine (View.read_writes_full ..).trans ?_
  rw [View.readAt_full, View.readAt_full, (hs0_2 t).read_unread, (hs0_3 t).read_unread]
  refine congrArg (fun x => k0_pay3 x (iblk m c 2 t) (iblk m c 3 t)) ((View.readCov_full ..).trans ?_)
  rw [View.readAt_full, View.readAt_full, View.readAt_full, (hs0_0 t).read_unread, (hs0_1 t).read_unread, (Memref.isWhole_whole _).read_unread]

/-- and what the last leaves in the block. -/
theorem last (t : Fin cfg0.N) (h : t.val % 4 = 3) :
    (outsAt0 m c t.val t.isLt).1 = k0_pay3 (k0_pay2 (outsAt0 m c (t.val - 1) (Nat.lt_of_le_of_lt (Nat.sub_le _ _) t.isLt)).2
      (iblk m c 0 t) (iblk m c 1 t)) (iblk m c 2 t) (iblk m c 3 t) := by
  rw [outsAt0_C m c t (by omega) (by omega) h]
  dsimp only
  unfold out0_C_4
  dsimp only [kernelRun0_C]
  refine (View.read_writes_full ..).trans ?_
  refine (View.readCov_full ..).trans ?_
  rw [View.readAt_full, View.readAt_full, (hs0_2 t).read_unread, (hs0_3 t).read_unread]
  refine congrArg (fun x => k0_pay3 x (iblk m c 2 t) (iblk m c 3 t)) ((View.readCov_full ..).trans ?_)
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem idx1 : ∀ t : Fin cfg0.N, win0_1.index t 0 = t.val % 4 ∧ win0_1.index t 1 = t.val / 4 % 2 ∧ win0_1.index t 2 = 0 :=
  (by decide +kernel : ∀ t : Fin grid0.N, win0_1.index t 0 = t.val % 4 ∧ win0_1.index t 1 = t.val / 4 % 2 ∧ win0_1.index t 2 = 0)
theorem idx2 : ∀ t : Fin cfg0.N, win0_2.index t 0 = t.val / 8 ∧ win0_2.index t 1 = t.val % 4 :=
  (by decide +kernel : ∀ t : Fin grid0.N, win0_2.index t 0 = t.val / 8 ∧ win0_2.index t 1 = t.val % 4)
theorem idx3 : ∀ t : Fin cfg0.N, win0_3.index t 0 = t.val % 4 ∧ win0_3.index t 1 = t.val / 4 % 2 ∧ win0_3.index t 2 = 0 :=
  (by decide +kernel : ∀ t : Fin grid0.N, win0_3.index t 0 = t.val % 4 ∧ win0_3.index t 1 = t.val / 4 % 2 ∧ win0_3.index t 2 = 0)

/-- The point that works on chip `q`'s columns for row `t` and column `k` of the result. -/
def pt (t : Fin 4096) (k : Fin 2048) (q : Fin 4) : Fin cfg0.N :=
  ⟨8 * (t.val / 1024) + 4 * (k.val / 1024) + q.val, by show _ < grid0.N; rw [N_0]; omega⟩

variable (t : Fin 4096) (k : Fin 2048) (q : Fin 4) (j : Fin 1408)

theorem dBlk0 : iblk m c 0 (pt t k q) (ix2 ⟨t.val % 1024, by omega⟩ j) = m (c.tc.loc main_arg0) (ix2 t (Ffn.col q j)) := by
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ =>
    show win0_0.index (pt t k q) 0 * 1024 + 1 * (t.val % 1024) = t.val
    rw [(idx0 _).1]; show (8 * (t.val / 1024) + 4 * (k.val / 1024) + q.val) / 8 * 1024 + _ = _; omega
  | ⟨1, _⟩ =>
    show win0_0.index (pt t k q) 1 * 1408 + 1 * j.val = 1408 * q.val + j.val
    rw [(idx0 _).2]; show (8 * (t.val / 1024) + 4 * (k.val / 1024) + q.val) % 4 * 1408 + _ = _; omega

theorem wBlk0 : iblk m c 1 (pt t k q) (ix3 0 ⟨k.val % 1024, by omega⟩ j) = m (c.tc.loc main_arg2) (ix3 q k j) := by
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ =>
    show win0_1.index (pt t k q) 0 * 1 + 1 * 0 = q.val
    rw [(idx1 _).1]; show (8 * (t.val / 1024) + 4 * (k.val / 1024) + q.val) % 4 * 1 + _ = _; omega
  | ⟨1, _⟩ =>
    show win0_1.index (pt t k q) 1 * 1024 + 1 * (k.val % 1024) = k.val
    rw [(idx1 _).2.1]; show (8 * (t.val / 1024) + 4 * (k.val / 1024) + q.val) / 4 % 2 * 1024 + _ = _; omega
  | ⟨2, _⟩ =>
    show win0_1.index (pt t k q) 2 * 1408 + 1 * j.val = j.val
    rw [(idx1 _).2.2]; omega

theorem dBlk1 : iblk m c 2 (pt t k q) (ix2 ⟨t.val % 1024, by omega⟩ j) = m (c.tc.loc main_arg1) (ix2 t (Ffn.col q j)) := by
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ =>
    show win0_2.index (pt t k q) 0 * 1024 + 1 * (t.val % 1024) = t.val
    rw [(idx2 _).1]; show (8 * (t.val / 1024) + 4 * (k.val / 1024) + q.val) / 8 * 1024 + _ = _; omega
  | ⟨1, _⟩ =>
    show win0_2.index (pt t k q) 1 * 1408 + 1 * j.val = 1408 * q.val + j.val
    rw [(idx2 _).2]; show (8 * (t.val / 1024) + 4 * (k.val / 1024) + q.val) % 4 * 1408 + _ = _; omega

theorem wBlk1 : iblk m c 3 (pt t k q) (ix3 0 ⟨k.val % 1024, by omega⟩ j) = m (c.tc.loc main_arg3) (ix3 q k j) := by
  unfold iblk
  rw [View.read_apply]
  show V m c main_arg3 _ = m (c.tc.loc main_arg3) _
  rw [V_main_arg3]
  refine congrArg (m (c.tc.loc main_arg3)) (funext fun a => Fin.ext ?_)
  match a with
  | ⟨0, _⟩ =>
    show win0_3.index (pt t k q) 0 * 1 + 1 * 0 = q.val
    rw [(idx3 _).1]; show (8 * (t.val / 1024) + 4 * (k.val / 1024) + q.val) % 4 * 1 + _ = _; omega
  | ⟨1, _⟩ =>
    show win0_3.index (pt t k q) 1 * 1024 + 1 * (k.val % 1024) = k.val
    rw [(idx3 _).2.1]; show (8 * (t.val / 1024) + 4 * (k.val / 1024) + q.val) / 4 % 2 * 1024 + _ = _; omega
  | ⟨2, _⟩ =>
    show win0_3.index (pt t k q) 2 * 1408 + 1 * j.val = j.val
    rw [(idx3 _).2.2]; omega

/-- An element of the array is its block's, after the last chip's point. -/
theorem arr4 : (dats m 0 c).arrAt 4 cfg0.N (ix2 t k)
    = (outsAt0 m c (pt t k 3).val (pt t k 3).isLt).1 (ix2 ⟨t.val % 1024, by omega⟩ ⟨k.val % 1024, by omega⟩) := by
  have hp : Value.pt4Of (ix2 t k) = (pt t k 3).val := by
    show 4 * (2 * (t.val / 1024 - 0) + 1 * (k.val / 1024 - 0)) + 3 = 8 * (t.val / 1024) + 4 * (k.val / 1024) + 3
    omega
  rw [Value.final4, Value.G4, dif_pos (by rw [hp]; exact (pt t k 3).isLt), Value.outsAt0_sweep,
    Value.fold0_congr m c _ _ (pt t k 3).val (by have := (pt t k 3).isLt; omega) hp]
  refine congrArg _ (funext fun a => Fin.ext ?_)
  match a with
  | ⟨0, _⟩ => rfl
  | ⟨1, _⟩ => rfl

/-- The two products of a chip's point, added to what came before. -/
def step (acc : Vec F S1024x1024 .f32) (q : Fin 4) : Vec F S1024x1024 .f32 :=
  k0_pay3 (k0_pay2 acc (iblk m c 0 (pt t k q)) (iblk m c 1 (pt t k q))) (iblk m c 2 (pt t k q)) (iblk m c 3 (pt t k q))

/-- After the first chip's point, -/
theorem sum0 : (outsAt0 m c (pt t k 0).val (pt t k 0).isLt).2
    = k0_pay3 (k0_pay1 (iblk m c 0 (pt t k 0)) (iblk m c 1 (pt t k 0))) (iblk m c 2 (pt t k 0)) (iblk m c 3 (pt t k 0)) :=
  first m c _ (by show (8 * (t.val / 1024) + 4 * (k.val / 1024) + 0) % 4 = 0; omega)

/-- the second's, -/
theorem sum1 : (outsAt0 m c (pt t k 1).val (pt t k 1).isLt).2 = step m c t k (outsAt0 m c (pt t k 0).val (pt t k 0).isLt).2 1 :=
  next m c _ (by show 1 ≤ (8 * (t.val / 1024) + 4 * (k.val / 1024) + 1) % 4; omega)
    (by show ¬(8 * (t.val / 1024) + 4 * (k.val / 1024) + 1) % 4 = 3; omega)

/-- the third's, -/
theorem sum2 : (outsAt0 m c (pt t k 2).val (pt t k 2).isLt).2 = step m c t k (outsAt0 m c (pt t k 1).val (pt t k 1).isLt).2 2 :=
  next m c _ (by show 1 ≤ (8 * (t.val / 1024) + 4 * (k.val / 1024) + 2) % 4; omega)
    (by show ¬(8 * (t.val / 1024) + 4 * (k.val / 1024) + 2) % 4 = 3; omega)

/-- and the last's. -/
theorem sum3 : (outsAt0 m c (pt t k 3).val (pt t k 3).isLt).1 = step m c t k (outsAt0 m c (pt t k 2).val (pt t k 2).isLt).2 3 :=
  last m c _ (by show (8 * (t.val / 1024) + 4 * (k.val / 1024) + 3) % 4 = 3; omega)

end

/-! ### Over the extended reals -/

section
variable (acc : Vec Ideal S1024x1024 .f32) (x x' : Vec Ideal S1024x1408 .bf16) (y y' : Vec Ideal S1x1024x1408 .bf16) (p r : Fin 1024)

theorem pay_first : k0_pay3 (k0_pay1 x y) x' y' (ix2 p r) = ∑ j, x (ix2 p j) * y (ix3 0 r j) + ∑ j, x' (ix2 p j) * y' (ix3 0 r j) := by
  pointwise [k0_pay3, k0_pay1]
theorem pay_next : k0_pay3 (k0_pay2 acc x y) x' y' (ix2 p r)
    = acc (ix2 p r) + ∑ j, x (ix2 p j) * y (ix3 0 r j) + ∑ j, x' (ix2 p j) * y' (ix3 0 r j) := by
  pointwise [k0_pay3, k0_pay2]
end

variable (m : (ℓ : Loc nD τ sig) → Buf (Elt Ideal) ℓ) (c : Dev nD) (t : Fin 4096) (k : Fin 2048)

/-- The result is the sum of the two products with the weights' rows. -/
theorem val4 : (dats m 0 c).arrAt 4 cfg0.N (ix2 t k)
    = Ffn.rowGrad (fun t f => m (c.tc.loc main_arg0) (ix2 t f)) (fun q k j => m (c.tc.loc main_arg2) (ix3 q k j)) t k
      + Ffn.rowGrad (fun t f => m (c.tc.loc main_arg1) (ix2 t f)) (fun q k j => m (c.tc.loc main_arg3) (ix3 q k j)) t k := by
  rw [arr4, sum3, step, pay_next, sum2, step, pay_next, sum1, step, pay_next, sum0, pay_first]
  simp only [dBlk0, wBlk0, dBlk1, wBlk1]
  unfold Ffn.rowGrad
  rw [Fin.sum_univ_four, Fin.sum_univ_four]
  abel

end Cert.RowGradIdeal.Body
-- ==== Proof.RowGradAgree.lean ====
/-
  The gradient of the rows: the reference's result is the kernel's.
-/
module

public import proofs.«01_k».proof.Proof.RowGrad
public import proofs.«01_k».proof.Proof.Gen.RowGradRefIdeal.Read
public import proofs.«01_k».proof.Proof.Gen.RowGradIdeal.Frame
public import proofs.«01_k».proof.Defs
public import Idealize.ShloMosaic.Lib.Quiescent

@[expose] public section

set_option maxRecDepth 16384

noncomputable section

namespace Cert.RowGradRefIdeal.Agree

open Idealize.ShloMosaic Idealize.ShloMosaic.TcCoe Idealize.SL.Sem Cert.RowGradRefIdeal Cert.RowGradRefIdeal.Read

section
variable (x0 x1 : Vec Ideal S4096x5632 .bf16) (x2 x3 : Vec Ideal S4x2048x1408 .bf16) (t : Fin 4096) (k : Fin 2048)

/-- A product over the inner columns, with a weight laid out side by side, is the sum over its chips. -/
theorem side (x : Vec Ideal S4096x5632 .bf16) (w : Vec Ideal S4x2048x1408 .bf16)
    (h : ∀ f : Fin 5632, f.val / 1408 < 4) (h' : ∀ f : Fin 5632, f.val % 1408 < 1408) :
    ∑ f : Fin 5632, (x (ix2 t f) : EReal) * w (ix3 ⟨f.val / 1408, h f⟩ k ⟨f.val % 1408, h' f⟩)
      = Ffn.rowGrad (fun t f => x (ix2 t f)) (fun q k j => w (ix3 q k j)) t k := by
  rw [Ffn.sum_blocks (n := 4) (k := 1408) (by decide)]
  refine Finset.sum_congr rfl fun q _ => Finset.sum_congr rfl fun j _ => ?_
  have e := Ffn.col_divmod q j (h _) (h' _)
  rw [e.1, e.2]

/-- The reference's result is the sum of the two products. -/
theorem v10_at : val_main_v10 (F := Ideal) x0 x1 x2 x3 (ix2 t k)
    = Ffn.rowGrad (fun t f => x0 (ix2 t f)) (fun q k j => x2 (ix3 q k j)) t k
      + Ffn.rowGrad (fun t f => x1 (ix2 t f)) (fun q k j => x3 (ix3 q k j)) t k := by
  pointwise [val_main_v10, val_main_v9, val_main_v8, val_main_v7, val_main_v6, val_main_v5, val_main_v4, val_main_v3, val_main_v2, val_main_v1, val_main_v0]
  rw [add_comm]
  exact congrArg₂ (· + ·) (side t k x0 x2 _ _) (side t k x1 x3 _ _)
end

/-- The reference leaves its arguments, and no counter raised. -/
theorem frame : quiescent_RowGradRefIdeal (hRowGradRefIdeal := Gen.facts) := fun m ρ _ =>
  (θ_run _ _ _).mono (fun r h => ⟨fun c => (h c).2, sem_eq_zero_of_no_sems (by decide) r.2⟩) (Value.run m ρ)

/-- From arguments that agree, both programs end with the rows' gradient. -/
theorem algebraic : algebraic_RowGradIdeal_RowGradRefIdeal (hRowGradIdeal := Cert.RowGradIdeal.Gen.facts) (hRowGradRefIdeal := Gen.facts) := by
  intro m ρ m' ρ' _ hag
  refine ⟨fun c => (Cert.RowGradIdeal.Gen.dats m 0 c).arrAt 4 Cert.RowGradIdeal.cfg0.N, Cert.RowGradIdeal.Value.run_blocks m ρ, ?_⟩
  refine (θ_run _ _ _).mono (fun r h c => ?_) (Value.run m' ρ')
  obtain ⟨e0, e1, e2, e3⟩ := hag c
  obtain ⟨r0, rest⟩ := h c
  refine ⟨r0.trans ?_, rest⟩
  rw [val_main_v10_eq, e0, e1, e2, e3]
  funext y
  obtain ⟨t, k, rfl⟩ : ∃ (t : Fin 4096) (k : Fin 2048), y = ix2 t k := ⟨y 0, y 1, eq_ix2 y⟩
  exact (v10_at _ _ _ _ t k).trans (Cert.RowGradIdeal.Body.val4 m c t k).symm

end Cert.RowGradRefIdeal.Agree
-- ==== Proof.Down.lean ====
/-
  The down-projection: what the call's array holds.

  A block of the result is accumulated over the four chips: the first chip's point stores its product, each later one
  adds its own, and the last adds half the sum to the rows coming in and writes the block back.
-/
module

public import proofs.«01_k».proof.Proof.Gen.DownIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.DownIdeal.Body

open Cert.DownIdeal Cert.DownIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first chip's point leaves in the sum, -/
theorem first (t : Fin cfg0.N) (h : t.val % 4 = 0) :
    (outsAt0 m c t.val t.isLt).2 = k0_pay1 (iblk m c 0 t) (iblk m c 1 t) := by
  rw [outsAt0_A m c t h (by omega) (by omega)]
  dsimp only
  unfold sout0_A_0
  dsimp only [kernelRun0_A]
  refine (View.read_writes_full ..).trans ?_
  rw [View.readAt_full, View.readAt_full, (hs0_0 t).read_unread, (hs0_1 t).read_unread]

/-- what a later one does, -/
theorem next (t : Fin cfg0.N) (h : 1 ≤ t.val % 4) (h3 : ¬t.val % 4 = 3) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t (by omega) h h3]
  dsimp only
  unfold sout0_B_0
  dsimp only [kernelRun0_B]
  refine (View.read_writes_full ..).trans ?_
  rw [View.readAt_full, View.readAt_full, View.readAt_full, (hs0_0 t).read_unread, (hs0_1 t).read_unread, (Memref.isWhole_whole _).read_unread]

/-- and what the last leaves in the block. -/
theorem last (t : Fin cfg0.N) (h : t.val % 4 = 3) :
    (outsAt0 m c t.val t.isLt).1 = k0_pay3 (k0_pay2 (outsAt0 m c (t.val - 1) (Nat.lt_of_le_of_lt (Nat.sub_le _ _) t.isLt)).2
      (iblk m c 0 t) (iblk m c 1 t)) (iblk m c 2 t) := by
  rw [outsAt0_C m c t (by omega) (by omega) h]
  dsimp only
  unfold out0_C_3
  dsimp only [kernelRun0_C]
  refine (View.read_writes_full ..).trans ?_
  rw [View.readAt_full, (hs0_2 t).read_unread]
  refine congrArg (fun x => k0_pay3 x (iblk m c 2 t)) ((View.readCov_full ..).trans ?_)
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem idx1 : ∀ t : Fin cfg0.N, win0_1.index t 0 = t.val % 4 ∧ win0_1.index t 1 = 0 ∧ win0_1.index t 2 = t.val / 4 % 2 :=
  (by decide +kernel : ∀ t : Fin grid0.N, win0_1.index t 0 = t.val % 4 ∧ win0_1.index t 1 = 0 ∧ win0_1.index t 2 = t.val / 4 % 2)
theorem idx2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

/-- The point that works on chip `q`'s columns for row `t` and column `k` of the result. -/
def pt (t : Fin 4096) (k : Fin 2048) (q : Fin 4) : Fin cfg0.N :=
  ⟨8 * (t.val / 1024) + 4 * (k.val / 1024) + q.val, by show _ < grid0.N; rw [N_0]; omega⟩

variable (t : Fin 4096) (k : Fin 2048) (q : Fin 4) (j : Fin 1408)

theorem fBlk : iblk m c 0 (pt t k q) (ix2 ⟨t.val % 1024, by omega⟩ j) = m (c.tc.loc main_arg1) (ix2 t (Ffn.col q j)) := by
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ =>
    show win0_0.index (pt t k q) 0 * 1024 + 1 * (t.val % 1024) = t.val
    rw [(idx0 _).1]; show (8 * (t.val / 1024) + 4 * (k.val / 1024) + q.val) / 8 * 1024 + _ = _; omega
  | ⟨1, _⟩ =>
    show win0_0.index (pt t k q) 1 * 1408 + 1 * j.val = 1408 * q.val + j.val
    rw [(idx0 _).2]; show (8 * (t.val / 1024) + 4 * (k.val / 1024) + q.val) % 4 * 1408 + _ = _; omega

theorem wBlk : iblk m c 1 (pt t k q) (ix3 0 j ⟨k.val % 1024, by omega⟩) = m (c.tc.loc main_arg2) (ix3 q j k) := by
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ =>
    show win0_1.index (pt t k q) 0 * 1 + 1 * 0 = q.val
    rw [(idx1 _).1]; show (8 * (t.val / 1024) + 4 * (k.val / 1024) + q.val) % 4 * 1 + _ = _; omega
  | ⟨1, _⟩ =>
    show win0_1.index (pt t k q) 1 * 1408 + 1 * j.val = j.val
    rw [(idx1 _).2.1]; omega
  | ⟨2, _⟩ =>
    show win0_1.index (pt t k q) 2 * 1024 + 1 * (k.val % 1024) = k.val
    rw [(idx1 _).2.2]; show (8 * (t.val / 1024) + 4 * (k.val / 1024) + q.val) / 4 % 2 * 1024 + _ = _; omega

theorem xBlk : iblk m c 2 (pt t k q) (ix2 ⟨t.val % 1024, by omega⟩ ⟨k.val % 1024, by omega⟩) = m (c.tc.loc main_arg0) (ix2 t k) := by
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ =>
    show win0_2.index (pt t k q) 0 * 1024 + 1 * (t.val % 1024) = t.val
    rw [(idx2 _).1]; show (8 * (t.val / 1024) + 4 * (k.val / 1024) + q.val) / 8 * 1024 + _ = _; omega
  | ⟨1, _⟩ =>
    show win0_2.index (pt t k q) 1 * 1024 + 1 * (k.val % 1024) = k.val
    rw [(idx2 _).2]; show (8 * (t.val / 1024) + 4 * (k.val / 1024) + q.val) / 4 % 2 * 1024 + _ = _; omega

/-- An element of the array is its block's, after the last chip's point. -/
theorem arr3 : (dats m 0 c).arrAt 3 cfg0.N (ix2 t k)
    = (outsAt0 m c (pt t k 3).val (pt t k 3).isLt).1 (ix2 ⟨t.val % 1024, by omega⟩ ⟨k.val % 1024, by omega⟩) := by
  have hp : Value.pt3Of (ix2 t k) = (pt t k 3).val := by
    show 4 * (2 * (t.val / 1024 - 0) + 1 * (k.val / 1024 - 0)) + 3 = 8 * (t.val / 1024) + 4 * (k.val / 1024) + 3
    omega
  rw [Value.final3, Value.G3, dif_pos (by rw [hp]; exact (pt t k 3).isLt), Value.outsAt0_sweep,
    Value.fold0_congr m c _ _ (pt t k 3).val (by have := (pt t k 3).isLt; omega) hp]
  refine congrArg _ (funext fun a => Fin.ext ?_)
  match a with
  | ⟨0, _⟩ => rfl
  | ⟨1, _⟩ => rfl

/-- The product of a chip's point, added to what came before. -/
def step (acc : Vec F S1024x1024 .f32) (q : Fin 4) : Vec F S1024x1024 .f32 :=
  k0_pay2 acc (iblk m c 0 (pt t k q)) (iblk m c 1 (pt t k q))

/-- After the first chip's point, -/
theorem sum0 : (outsAt0 m c (pt t k 0).val (pt t k 0).isLt).2 = k0_pay1 (iblk m c 0 (pt t k 0)) (iblk m c 1 (pt t k 0)) :=
  first m c _ (by show (8 * (t.val / 1024) + 4 * (k.val / 1024) + 0) % 4 = 0; omega)

/-- the second's, -/
theorem sum1 : (outsAt0 m c (pt t k 1).val (pt t k 1).isLt).2 = step m c t k (outsAt0 m c (pt t k 0).val (pt t k 0).isLt).2 1 :=
  next m c _ (by show 1 ≤ (8 * (t.val / 1024) + 4 * (k.val / 1024) + 1) % 4; omega)
    (by show ¬(8 * (t.val / 1024) + 4 * (k.val / 1024) + 1) % 4 = 3; omega)

/-- the third's, -/
theorem sum2 : (outsAt0 m c (pt t k 2).val (pt t k 2).isLt).2 = step m c t k (outsAt0 m c (pt t k 1).val (pt t k 1).isLt).2 2 :=
  next m c _ (by show 1 ≤ (8 * (t.val / 1024) + 4 * (k.val / 1024) + 2) % 4; omega)
    (by show ¬(8 * (t.val / 1024) + 4 * (k.val / 1024) + 2) % 4 = 3; omega)

/-- and the last's. -/
theorem sum3 : (outsAt0 m c (pt t k 3).val (pt t k 3).isLt).1
    = k0_pay3 (step m c t k (outsAt0 m c (pt t k 2).val (pt t k 2).isLt).2 3) (iblk m c 2 (pt t k 3)) :=
  last m c _ (by show (8 * (t.val / 1024) + 4 * (k.val / 1024) + 3) % 4 = 3; omega)

end

/-! ### Over the extended reals -/

section
variable (acc : Vec Ideal S1024x1024 .f32) (x : Vec Ideal S1024x1408 .bf16) (y : Vec Ideal S1x1408x1024 .bf16) (z : Vec Ideal S1024x1024 .f32) (p r : Fin 1024)

theorem pay_first : k0_pay1 x y (ix2 p r) = ∑ j, x (ix2 p j) * y (ix3 0 j r) := by
  pointwise [k0_pay1]
theorem pay_next : k0_pay2 acc x y (ix2 p r) = acc (ix2 p r) + ∑ j, x (ix2 p j) * y (ix3 0 j r) := by
  pointwise [k0_pay2]
theorem pay_last : k0_pay3 acc z (ix2 p r) = z (ix2 p r) + Ideal.ofBits .f32 0x3F000000#32 * acc (ix2 p r) := by
  pointwise [k0_pay3]
end

variable (m : (ℓ : Loc nD τ sig) → Buf (Elt Ideal) ℓ) (c : Dev nD) (t : Fin 4096) (k : Fin 2048)

/-- The result is the rows coming in and half the product with the weight. -/
theorem val3 : (dats m 0 c).arrAt 3 cfg0.N (ix2 t k)
    = Ffn.out (fun t k => m (c.tc.loc main_arg0) (ix2 t k)) (fun t f => m (c.tc.loc main_arg1) (ix2 t f))
      (fun q j k => m (c.tc.loc main_arg2) (ix3 q j k)) t k := by
  rw [arr3, sum3, pay_last, step, pay_next, sum2, step, pay_next, sum1, step, pay_next, sum0, pay_first]
  simp only [fBlk, wBlk, xBlk]
  unfold Ffn.out Ffn.down
  rw [Fin.sum_univ_four]

end Cert.DownIdeal.Body
-- ==== Proof.DownAgree.lean ====
/-
  The down-projection: the reference's result is the kernel's.
-/
module

public import proofs.«01_k».proof.Proof.Down
public import proofs.«01_k».proof.Proof.Gen.DownRefIdeal.Read
public import proofs.«01_k».proof.Proof.Gen.DownIdeal.Frame
public import proofs.«01_k».proof.Defs
public import Idealize.ShloMosaic.Lib.Quiescent

@[expose] public section

set_option maxRecDepth 16384

noncomputable section

namespace Cert.DownRefIdeal.Agree

open Idealize.ShloMosaic Idealize.ShloMosaic.TcCoe Idealize.SL.Sem Cert.DownRefIdeal Cert.DownRefIdeal.Read

section
variable (x0 : Vec Ideal S4096x2048 .f32) (x1 : Vec Ideal S4096x5632 .bf16) (x2 : Vec Ideal S4x1408x2048 .bf16) (t : Fin 4096) (k : Fin 2048)

/-- The reference's result is the rows coming in and half the product. -/
theorem v6_at : val_main_v6 (F := Ideal) x0 x1 x2 (ix2 t k)
    = Ffn.out (fun t k => x0 (ix2 t k)) (fun t f => x1 (ix2 t f)) (fun q j k => x2 (ix3 q j k)) t k := by
  pointwise [val_main_v6, val_main_v5, val_main_v4, val_main_v3, val_main_v2, val_main_v1, val_main_v0, val_main_cst]
  refine congrArg (fun s : EReal => (x0 (ix2 t k) : EReal) + Ideal.ofBits .f32 0x3F000000#32 * s) ?_
  unfold Ffn.down
  rw [Ffn.sum_blocks (n := 4) (k := 1408) (by decide)]
  refine Finset.sum_congr rfl fun q _ => Finset.sum_congr rfl fun j _ => ?_
  have e := Ffn.col_divmod q j (by omega) (by omega)
  rw [e.1, e.2]
end

/-- The reference leaves its arguments, and no counter raised. -/
theorem frame : quiescent_DownRefIdeal (hDownRefIdeal := Gen.facts) := fun m ρ _ =>
  (θ_run _ _ _).mono (fun r h => ⟨fun c => (h c).2, sem_eq_zero_of_no_sems (by decide) r.2⟩) (Value.run m ρ)

/-- From arguments that agree, both programs end with the rows coming in and half the product. -/
theorem algebraic : algebraic_DownIdeal_DownRefIdeal (hDownIdeal := Cert.DownIdeal.Gen.facts) (hDownRefIdeal := Gen.facts) := by
  intro m ρ m' ρ' _ hag
  refine ⟨fun c => (Cert.DownIdeal.Gen.dats m 0 c).arrAt 3 Cert.DownIdeal.cfg0.N, Cert.DownIdeal.Value.run_blocks m ρ, ?_⟩
  refine (θ_run _ _ _).mono (fun r h c => ?_) (Value.run m' ρ')
  obtain ⟨e0, e1, e2⟩ := hag c
  obtain ⟨r0, rest⟩ := h c
  refine ⟨r0.trans ?_, rest⟩
  rw [val_main_v6_eq, e0, e1, e2]
  funext y
  obtain ⟨t, k, rfl⟩ : ∃ (t : Fin 4096) (k : Fin 2048), y = ix2 t k := ⟨y 0, y 1, eq_ix2 y⟩
  exact (v6_at _ _ _ t k).trans (Cert.DownIdeal.Body.val3 m c t k).symm

end Cert.DownRefIdeal.Agree
-- ==== Proof.GmlpIn.lean ====
/-
  The product that opens the gated unit: what the call's array holds.

  Each point stores one block of the result, the product of 512 rows with 1024 columns of a chip's weight.
-/
module

public import proofs.«01_k».proof.Proof.Gen.GmlpInIdeal.Value
public import proofs.«01_k».proof.Proof.Blocks
public import Idealize.ShloMosaic.Lib.Pointwise
public import Idealize.ShloMosaic.Lib.Pipeline.ValueKit.Basic

@[expose] public section

set_option maxRecDepth 16384

noncomputable section

namespace Cert.GmlpInIdeal.Body

open Cert.GmlpInIdeal Cert.GmlpInIdeal.Gen Idealize.ShloMosaic Idealize.ShloMosaic.TcCoe Idealize.SL.Sem

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val / 16 ∧ win0_1.index t 1 = 0 ∧ win0_1.index t 2 = t.val / 8 % 2 :=
  (by decide +kernel : ∀ t : Fin grid0.N, win0_1.index t 0 = t.val / 16 ∧ win0_1.index t 1 = 0 ∧ win0_1.index t 2 = t.val / 8 % 2)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- The point that works on row `t` and column `l` of the result. -/
def pt (t : Fin 4096) (l : Fin 8192) : Fin cfg0.N := ⟨8 * (l.val / 1024) + t.val / 512, by show _ < grid0.N; rw [N_0]; omega⟩

section
variable {F : FTy → Type} [FloatOps F]
variable (m : (ℓ : Loc nD τ sig) → Buf (Elt F) ℓ) (c : Dev nD) (t : Fin 4096) (l : Fin 8192) (r : Fin 2048)

theorem hBlk : iblk m c 0 (pt t l) (ix2 ⟨t.val % 512, by omega⟩ r) = m (c.tc.loc main_arg0) (ix2 t r) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt t l) 0 * 512 + 1 * (t.val % 512) = t.val
    rw [(idx0 _).1]; show (8 * (l.val / 1024) + t.val / 512) % 8 * 512 + _ = _; omega
  | ⟨1, _⟩ =>
    show win0_0.index (pt t l) 1 * 2048 + 1 * r.val = r.val
    rw [(idx0 _).2]; omega

theorem wBlk : iblk m c 1 (pt t l) (ix3 0 r ⟨l.val % 1024, by omega⟩)
    = m (c.tc.loc main_arg1) (ix3 ⟨l.val / 2048, by omega⟩ r ⟨l.val % 2048, by omega⟩) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ =>
    show win0_1.index (pt t l) 0 * 1 + 1 * 0 = l.val / 2048
    rw [(idx1 _).1]; show (8 * (l.val / 1024) + t.val / 512) / 16 * 1 + _ = _; omega
  | ⟨1, _⟩ =>
    show win0_1.index (pt t l) 1 * 2048 + 1 * r.val = r.val
    rw [(idx1 _).2.1]; omega
  | ⟨2, _⟩ =>
    show win0_1.index (pt t l) 2 * 1024 + 1 * (l.val % 1024) = l.val % 2048
    rw [(idx1 _).2.2]; show (8 * (l.val / 1024) + t.val / 512) / 8 % 2 * 1024 + _ = _; omega

theorem out_eq (x : Vec F S512x2048 .bf16) (w : Vec F S1x2048x1024 .bf16) : out0_2 x w = k0_pay1 x w := by
  unfold out0_2
  rw [View.canon_cons_unit_lit _ _ _ (by decide), View.ld_unit_lit _ _ (by decide), View.ld_unit_lit _ _ (by decide)]

/-- An element of the array is its block's. -/
theorem arr2 : (dats m 0 c).arrAt 2 cfg0.N (ix2 t l)
    = k0_pay1 (iblk m c 0 (pt t l)) (iblk m c 1 (pt t l)) (ix2 ⟨t.val % 512, by omega⟩ ⟨l.val % 1024, by omega⟩) := by
  have h := congrFun ((Value.blocks2 m c (pt t l) (flush0_2 _)).trans (Value.flushed2 m c (pt t l))) (ix2 ⟨t.val % 512, by omega⟩ ⟨l.val % 1024, by omega⟩)
  rw [View.read_apply, out_eq] at h
  refine Eq.trans (congrArg ((dats m 0 c).arrAt 2 cfg0.N) (funext fun b => Fin.ext ?_)) h
  match b with
  | ⟨0, _⟩ =>
    show t.val = win0_2.index (pt t l) 0 * 512 + 1 * (t.val % 512)
    rw [(idx2 _).1]; show _ = (8 * (l.val / 1024) + t.val / 512) % 8 * 512 + _; omega
  | ⟨1, _⟩ =>
    show l.val = win0_2.index (pt t l) 1 * 1024 + 1 * (l.val % 1024)
    rw [(idx2 _).2]; show _ = (8 * (l.val / 1024) + t.val / 512) / 8 * 1024 + _; omega
end

theorem pay_at (x : Vec Ideal S512x2048 .bf16) (w : Vec Ideal S1x2048x1024 .bf16) (i : Fin 512) (p : Fin 1024) :
    k0_pay1 x w (ix2 i p) = Ffn.dot (fun r => x (ix2 i r)) (fun r => w (ix3 0 r p)) := by
  unfold Ffn.dot
  pointwise [k0_pay1]

/-- The result is the product of the rows with the chips' weights, side by side. -/
theorem val2 (m : (ℓ : Loc nD τ sig) → Buf (Elt Ideal) ℓ) (c : Dev nD) (t : Fin 4096) (l : Fin 8192) :
    (dats m 0 c).arrAt 2 cfg0.N (ix2 t l) = Ffn.dot (fun r => m (c.tc.loc main_arg0) (ix2 t r))
      (fun r => m (c.tc.loc main_arg1) (ix3 ⟨l.val / 2048, by omega⟩ r ⟨l.val % 2048, by omega⟩)) :=
  (arr2 m c t l).trans ((pay_at _ _ _ _).trans (Ffn.dot_congr (hBlk m c t l) (wBlk m c t l)))

end Cert.GmlpInIdeal.Body
-- ==== Proof.GmlpInAgree.lean ====
/-
  The product that opens the gated unit: the reference's result is the kernel's.
-/
module

public import proofs.«01_k».proof.Proof.GmlpIn
public import proofs.«01_k».proof.Proof.Gen.GmlpInRefIdeal.Read
public import proofs.«01_k».proof.Proof.Gen.GmlpInIdeal.Frame
public import proofs.«01_k».proof.Defs
public import Idealize.ShloMosaic.Lib.Quiescent

@[expose] public section

set_option maxRecDepth 16384

noncomputable section

namespace Cert.GmlpInRefIdeal.Agree

open Idealize.ShloMosaic Idealize.ShloMosaic.TcCoe Idealize.SL.Sem Cert.GmlpInRefIdeal Cert.GmlpInRefIdeal.Read

theorem v4_at (x0 : Vec Ideal S4096x2048 .bf16) (x1 : Vec Ideal S4x2048x2048 .bf16) (t : Fin 4096) (l : Fin 8192) :
    val_main_v4 (F := Ideal) x0 x1 (ix2 t l)
      = Ffn.dot (fun r => x0 (ix2 t r)) (fun r => x1 (ix3 ⟨l.val / 2048, by omega⟩ r ⟨l.val % 2048, by omega⟩)) := by
  unfold Ffn.dot
  pointwise [val_main_v4, val_main_v3, val_main_v2, val_main_v1, val_main_v0]

/-- The reference leaves its arguments, and no counter raised. -/
theorem frame : quiescent_GmlpInRefIdeal (hGmlpInRefIdeal := Gen.facts) := fun m ρ _ =>
  (θ_run _ _ _).mono (fun r h => ⟨fun c => (h c).2, sem_eq_zero_of_no_sems (by decide) r.2⟩) (Value.run m ρ)

/-- From arguments that agree, both programs end with the product. -/
theorem algebraic : algebraic_GmlpInIdeal_GmlpInRefIdeal (hGmlpInIdeal := Cert.GmlpInIdeal.Gen.facts) (hGmlpInRefIdeal := Gen.facts) := by
  intro m ρ m' ρ' _ hag
  refine ⟨fun c => (Cert.GmlpInIdeal.Gen.dats m 0 c).arrAt 2 Cert.GmlpInIdeal.cfg0.N, Cert.GmlpInIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v4_eq, e0, e1]
  funext y
  obtain ⟨t, l, rfl⟩ : ∃ (t : Fin 4096) (l : Fin 8192), y = ix2 t l := ⟨y 0, y 1, eq_ix2 y⟩
  exact (v4_at _ _ t l).trans (Cert.GmlpInIdeal.Body.val2 m c t l).symm

end Cert.GmlpInRefIdeal.Agree
-- ==== Proof.GmlpOut.lean ====
/-
  The product that closes the gated unit: what the call's array holds.

  A block of the result is accumulated over four points, one for each chip's columns; the last adds the rows coming in
  and writes the block back.
-/
module

public import proofs.«01_k».proof.Proof.Gen.GmlpOutIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.GmlpOutIdeal.Body

open Cert.GmlpOutIdeal Cert.GmlpOutIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first chip's point leaves in the sum, -/
theorem first (t : Fin cfg0.N) (h : t.val % 4 = 0) :
    (outsAt0 m c t.val t.isLt).2 = k0_pay1 (iblk m c 0 t) (iblk m c 1 t) := by
  rw [outsAt0_A m c t h (by omega) (by omega)]
  dsimp only
  unfold sout0_A_0
  dsimp only [kernelRun0_A]
  refine (View.read_writes_full ..).trans ?_
  rw [View.readAt_full, View.readAt_full, (hs0_0 t).read_unread, (hs0_1 t).read_unread]

/-- what a later one does, -/
theorem next (t : Fin cfg0.N) (h : 1 ≤ t.val % 4) (h3 : ¬t.val % 4 = 3) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t (by omega) h h3]
  dsimp only
  unfold sout0_B_0
  dsimp only [kernelRun0_B]
  refine (View.read_writes_full ..).trans ?_
  rw [View.readAt_full, View.readAt_full, View.readAt_full, (hs0_0 t).read_unread, (hs0_1 t).read_unread, (Memref.isWhole_whole _).read_unread]

/-- and what the last leaves in the block. -/
theorem last (t : Fin cfg0.N) (h : t.val % 4 = 3) :
    (outsAt0 m c t.val t.isLt).1 = k0_pay3 (k0_pay2 (outsAt0 m c (t.val - 1) (Nat.lt_of_le_of_lt (Nat.sub_le _ _) t.isLt)).2
      (iblk m c 0 t) (iblk m c 1 t)) (iblk m c 2 t) := by
  rw [outsAt0_C m c t (by omega) (by omega) h]
  dsimp only
  unfold out0_C_3
  dsimp only [kernelRun0_C]
  refine (View.read_writes_full ..).trans ?_
  rw [View.readAt_full, (hs0_2 t).read_unread]
  refine congrArg (fun x => k0_pay3 x (iblk m c 2 t)) ((View.readCov_full ..).trans ?_)
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem idx1 : ∀ t : Fin cfg0.N, win0_1.index t 0 = t.val % 4 ∧ win0_1.index t 1 = 0 ∧ win0_1.index t 2 = t.val / 4 % 2 :=
  (by decide +kernel : ∀ t : Fin grid0.N, win0_1.index t 0 = t.val % 4 ∧ win0_1.index t 1 = 0 ∧ win0_1.index t 2 = t.val / 4 % 2)
theorem idx2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

/-- The point that works on chip `q`'s columns for row `t` and column `k` of the result. -/
def pt (t : Fin 4096) (k : Fin 2048) (q : Fin 4) : Fin cfg0.N :=
  ⟨8 * (t.val / 1024) + 4 * (k.val / 1024) + q.val, by show _ < grid0.N; rw [N_0]; omega⟩

variable (t : Fin 4096) (k : Fin 2048) (q : Fin 4) (j : Fin 1024)

theorem fBlk : iblk m c 0 (pt t k q) (ix2 ⟨t.val % 1024, by omega⟩ j) = m (c.tc.loc main_arg1) (ix2 t (Ffn.blk (n := 4) (k := 1024) (N := 4096) (by decide) q j)) := by
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ =>
    show win0_0.index (pt t k q) 0 * 1024 + 1 * (t.val % 1024) = t.val
    rw [(idx0 _).1]; show (8 * (t.val / 1024) + 4 * (k.val / 1024) + q.val) / 8 * 1024 + _ = _; omega
  | ⟨1, _⟩ =>
    show win0_0.index (pt t k q) 1 * 1024 + 1 * j.val = 1024 * q.val + j.val
    rw [(idx0 _).2]; show (8 * (t.val / 1024) + 4 * (k.val / 1024) + q.val) % 4 * 1024 + _ = _; omega

theorem wBlk : iblk m c 1 (pt t k q) (ix3 0 j ⟨k.val % 1024, by omega⟩) = m (c.tc.loc main_arg2) (ix3 q j k) := by
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ =>
    show win0_1.index (pt t k q) 0 * 1 + 1 * 0 = q.val
    rw [(idx1 _).1]; show (8 * (t.val / 1024) + 4 * (k.val / 1024) + q.val) % 4 * 1 + _ = _; omega
  | ⟨1, _⟩ =>
    show win0_1.index (pt t k q) 1 * 1024 + 1 * j.val = j.val
    rw [(idx1 _).2.1]; omega
  | ⟨2, _⟩ =>
    show win0_1.index (pt t k q) 2 * 1024 + 1 * (k.val % 1024) = k.val
    rw [(idx1 _).2.2]; show (8 * (t.val / 1024) + 4 * (k.val / 1024) + q.val) / 4 % 2 * 1024 + _ = _; omega

theorem xBlk : iblk m c 2 (pt t k q) (ix2 ⟨t.val % 1024, by omega⟩ ⟨k.val % 1024, by omega⟩) = m (c.tc.loc main_arg0) (ix2 t k) := by
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ =>
    show win0_2.index (pt t k q) 0 * 1024 + 1 * (t.val % 1024) = t.val
    rw [(idx2 _).1]; show (8 * (t.val / 1024) + 4 * (k.val / 1024) + q.val) / 8 * 1024 + _ = _; omega
  | ⟨1, _⟩ =>
    show win0_2.index (pt t k q) 1 * 1024 + 1 * (k.val % 1024) = k.val
    rw [(idx2 _).2]; show (8 * (t.val / 1024) + 4 * (k.val / 1024) + q.val) / 4 % 2 * 1024 + _ = _; omega

/-- An element of the array is its block's, after the last chip's point. -/
theorem arr3 : (dats m 0 c).arrAt 3 cfg0.N (ix2 t k)
    = (outsAt0 m c (pt t k 3).val (pt t k 3).isLt).1 (ix2 ⟨t.val % 1024, by omega⟩ ⟨k.val % 1024, by omega⟩) := by
  have hp : Value.pt3Of (ix2 t k) = (pt t k 3).val := by
    show 4 * (2 * (t.val / 1024 - 0) + 1 * (k.val / 1024 - 0)) + 3 = 8 * (t.val / 1024) + 4 * (k.val / 1024) + 3
    omega
  rw [Value.final3, Value.G3, dif_pos (by rw [hp]; exact (pt t k 3).isLt), Value.outsAt0_sweep,
    Value.fold0_congr m c _ _ (pt t k 3).val (by have := (pt t k 3).isLt; omega) hp]
  refine congrArg _ (funext fun a => Fin.ext ?_)
  match a with
  | ⟨0, _⟩ => rfl
  | ⟨1, _⟩ => rfl

/-- The product of a chip's point, added to what came before. -/
def step (acc : Vec F S1024x1024 .f32) (q : Fin 4) : Vec F S1024x1024 .f32 :=
  k0_pay2 acc (iblk m c 0 (pt t k q)) (iblk m c 1 (pt t k q))

/-- After the first chip's point, -/
theorem sum0 : (outsAt0 m c (pt t k 0).val (pt t k 0).isLt).2 = k0_pay1 (iblk m c 0 (pt t k 0)) (iblk m c 1 (pt t k 0)) :=
  first m c _ (by show (8 * (t.val / 1024) + 4 * (k.val / 1024) + 0) % 4 = 0; omega)

/-- the second's, -/
theorem sum1 : (outsAt0 m c (pt t k 1).val (pt t k 1).isLt).2 = step m c t k (outsAt0 m c (pt t k 0).val (pt t k 0).isLt).2 1 :=
  next m c _ (by show 1 ≤ (8 * (t.val / 1024) + 4 * (k.val / 1024) + 1) % 4; omega)
    (by show ¬(8 * (t.val / 1024) + 4 * (k.val / 1024) + 1) % 4 = 3; omega)

/-- the third's, -/
theorem sum2 : (outsAt0 m c (pt t k 2).val (pt t k 2).isLt).2 = step m c t k (outsAt0 m c (pt t k 1).val (pt t k 1).isLt).2 2 :=
  next m c _ (by show 1 ≤ (8 * (t.val / 1024) + 4 * (k.val / 1024) + 2) % 4; omega)
    (by show ¬(8 * (t.val / 1024) + 4 * (k.val / 1024) + 2) % 4 = 3; omega)

/-- and the last's. -/
theorem sum3 : (outsAt0 m c (pt t k 3).val (pt t k 3).isLt).1
    = k0_pay3 (step m c t k (outsAt0 m c (pt t k 2).val (pt t k 2).isLt).2 3) (iblk m c 2 (pt t k 3)) :=
  last m c _ (by show (8 * (t.val / 1024) + 4 * (k.val / 1024) + 3) % 4 = 3; omega)

end

/-! ### Over the extended reals -/

section
variable (acc : Vec Ideal S1024x1024 .f32) (x : Vec Ideal S1024x1024 .bf16) (y : Vec Ideal S1x1024x1024 .bf16) (z : Vec Ideal S1024x1024 .f32) (p r : Fin 1024)

theorem pay_first : k0_pay1 x y (ix2 p r) = Ffn.dot (fun j => x (ix2 p j)) (fun j => y (ix3 0 j r)) := by
  unfold Ffn.dot
  pointwise [k0_pay1]
theorem pay_next : k0_pay2 acc x y (ix2 p r) = acc (ix2 p r) + Ffn.dot (fun j => x (ix2 p j)) (fun j => y (ix3 0 j r)) := by
  unfold Ffn.dot
  pointwise [k0_pay2]
theorem pay_last : k0_pay3 acc z (ix2 p r) = z (ix2 p r) + acc (ix2 p r) := by
  pointwise [k0_pay3]
end

variable (m : (ℓ : Loc nD τ sig) → Buf (Elt Ideal) ℓ) (c : Dev nD) (t : Fin 4096) (k : Fin 2048)

/-- The result is the rows coming in and the product with the chips' weights. -/
theorem val3 : (dats m 0 c).arrAt 3 cfg0.N (ix2 t k)
    = (fun a b : EReal => a + b) (m (c.tc.loc main_arg0) (ix2 t k))
      (Ffn.dot (fun f => m (c.tc.loc main_arg1) (ix2 t f)) (fun f => m (c.tc.loc main_arg2) (ix3 ⟨f.val / 1024, by omega⟩ ⟨f.val % 1024, by omega⟩ k))) := by
  have e : ∀ q j, m (c.tc.loc main_arg2) (ix3 ⟨(Ffn.blk (n := 4) (k := 1024) (N := 4096) (by decide) q j).val / 1024, by omega⟩
      ⟨(Ffn.blk (n := 4) (k := 1024) (N := 4096) (by decide) q j).val % 1024, by omega⟩ k) = m (c.tc.loc main_arg2) (ix3 q j k) := fun q j =>
    congrArg₂ (fun a b => m (c.tc.loc main_arg2) (ix3 a b k)) (Fin.ext (Ffn.blk_div _ _ _)) (Fin.ext (Ffn.blk_mod _ _ _))
  rw [arr3, sum3, pay_last, step, pay_next, sum2, step, pay_next, sum1, step, pay_next, sum0, pay_first, Ffn.dot_quarters (k := 1024) (N := 4096) (by decide)]
  simp only [fBlk, wBlk, xBlk, e]

end Cert.GmlpOutIdeal.Body
-- ==== Proof.GmlpOutAgree.lean ====
/-
  The product that closes the gated unit: the reference's result is the kernel's.
-/
module

public import proofs.«01_k».proof.Proof.GmlpOut
public import proofs.«01_k».proof.Proof.Gen.GmlpOutRefIdeal.Read
public import proofs.«01_k».proof.Proof.Gen.GmlpOutIdeal.Frame
public import proofs.«01_k».proof.Defs
public import Idealize.ShloMosaic.Lib.Quiescent

@[expose] public section

set_option maxRecDepth 16384

noncomputable section

namespace Cert.GmlpOutRefIdeal.Agree

open Idealize.ShloMosaic Idealize.ShloMosaic.TcCoe Idealize.SL.Sem Cert.GmlpOutRefIdeal Cert.GmlpOutRefIdeal.Read

theorem v4_at (x0 : Vec Ideal S4096x2048 .f32) (x1 : Vec Ideal S4096x4096 .bf16) (x2 : Vec Ideal S4x1024x2048 .bf16) (t : Fin 4096) (l : Fin 2048) :
    val_main_v4 (F := Ideal) x0 x1 x2 (ix2 t l)
      = x0 (ix2 t l) + Ffn.dot (fun f => x1 (ix2 t f)) (fun f => x2 (ix3 ⟨f.val / 1024, by omega⟩ ⟨f.val % 1024, by omega⟩ l)) := by
  unfold Ffn.dot
  pointwise [val_main_v4, val_main_v3, val_main_v2, val_main_v1, val_main_v0]

/-- The reference leaves its arguments, and no counter raised. -/
theorem frame : quiescent_GmlpOutRefIdeal (hGmlpOutRefIdeal := Gen.facts) := fun m ρ _ =>
  (θ_run _ _ _).mono (fun r h => ⟨fun c => (h c).2, sem_eq_zero_of_no_sems (by decide) r.2⟩) (Value.run m ρ)

/-- From arguments that agree, both programs end with the rows and the product. -/
theorem algebraic : algebraic_GmlpOutIdeal_GmlpOutRefIdeal (hGmlpOutIdeal := Cert.GmlpOutIdeal.Gen.facts) (hGmlpOutRefIdeal := Gen.facts) := by
  intro m ρ m' ρ' _ hag
  refine ⟨fun c => (Cert.GmlpOutIdeal.Gen.dats m 0 c).arrAt 3 Cert.GmlpOutIdeal.cfg0.N, Cert.GmlpOutIdeal.Value.run_blocks m ρ, ?_⟩
  refine (θ_run _ _ _).mono (fun r h c => ?_) (Value.run m' ρ')
  obtain ⟨e0, e1, e2⟩ := hag c
  obtain ⟨r0, rest⟩ := h c
  refine ⟨r0.trans ?_, rest⟩
  rw [val_main_v4_eq, e0, e1, e2]
  funext y
  obtain ⟨t, l, rfl⟩ : ∃ (t : Fin 4096) (l : Fin 2048), y = ix2 t l := ⟨y 0, y 1, eq_ix2 y⟩
  exact (v4_at _ _ _ t l).trans (Cert.GmlpOutIdeal.Body.val3 m c t l).symm

end Cert.GmlpOutRefIdeal.Agree
-- ==== Proof.GatedGrad.lean ====
/-
  The gradient of the gated rows: what the call's array holds.

  Each point stores one block of the result, the product of 512 rows with 1024 rows of a chip's weight.
-/
module

public import proofs.«01_k».proof.Proof.Gen.GatedGradIdeal.Value
public import proofs.«01_k».proof.Proof.Blocks
public import Idealize.ShloMosaic.Lib.Pointwise
public import Idealize.ShloMosaic.Lib.Pipeline.ValueKit.Basic

@[expose] public section

set_option maxRecDepth 16384

noncomputable section

namespace Cert.GatedGradIdeal.Body

open Cert.GatedGradIdeal Cert.GatedGradIdeal.Gen Idealize.ShloMosaic Idealize.ShloMosaic.TcCoe Idealize.SL.Sem

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- The point that works on row `t` and column `l` of the result. -/
def pt (t l : Fin 4096) : Fin cfg0.N := ⟨8 * (l.val / 1024) + t.val / 512, by show _ < grid0.N; rw [N_0]; omega⟩

section
variable {F : FTy → Type} [FloatOps F]
variable (m : (ℓ : Loc nD τ sig) → Buf (Elt F) ℓ) (c : Dev nD) (t l : Fin 4096) (r : Fin 2048)

theorem dBlk : iblk m c 0 (pt t l) (ix2 ⟨t.val % 512, by omega⟩ r) = m (c.tc.loc main_arg0) (ix2 t r) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt t l) 0 * 512 + 1 * (t.val % 512) = t.val
    rw [(idx0 _).1]; show (8 * (l.val / 1024) + t.val / 512) % 8 * 512 + _ = _; omega
  | ⟨1, _⟩ =>
    show win0_0.index (pt t l) 1 * 2048 + 1 * r.val = r.val
    rw [(idx0 _).2]; omega

theorem wBlk : iblk m c 1 (pt t l) (ix3 0 ⟨l.val % 1024, by omega⟩ r)
    = m (c.tc.loc main_arg1) (ix3 ⟨l.val / 1024, by omega⟩ ⟨l.val % 1024, by omega⟩ r) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ =>
    show win0_1.index (pt t l) 0 * 1 + 1 * 0 = l.val / 1024
    rw [(idx1 _).1]; show (8 * (l.val / 1024) + t.val / 512) / 8 * 1 + _ = _; omega
  | ⟨1, _⟩ =>
    show win0_1.index (pt t l) 1 * 1024 + 1 * (l.val % 1024) = l.val % 1024
    rw [(idx1 _).2.1]; omega
  | ⟨2, _⟩ =>
    show win0_1.index (pt t l) 2 * 2048 + 1 * r.val = r.val
    rw [(idx1 _).2.2]; omega

theorem out_eq (x : Vec F S512x2048 .bf16) (w : Vec F S1x1024x2048 .bf16) : out0_2 x w = k0_pay1 x w := by
  unfold out0_2
  rw [View.canon_cons_unit_lit _ _ _ (by decide), View.ld_unit_lit _ _ (by decide), View.ld_unit_lit _ _ (by decide)]

/-- An element of the array is its block's. -/
theorem arr2 : (dats m 0 c).arrAt 2 cfg0.N (ix2 t l)
    = k0_pay1 (iblk m c 0 (pt t l)) (iblk m c 1 (pt t l)) (ix2 ⟨t.val % 512, by omega⟩ ⟨l.val % 1024, by omega⟩) := by
  have h := congrFun ((Value.blocks2 m c (pt t l) (flush0_2 _)).trans (Value.flushed2 m c (pt t l))) (ix2 ⟨t.val % 512, by omega⟩ ⟨l.val % 1024, by omega⟩)
  rw [View.read_apply, out_eq] at h
  refine Eq.trans (congrArg ((dats m 0 c).arrAt 2 cfg0.N) (funext fun b => Fin.ext ?_)) h
  match b with
  | ⟨0, _⟩ =>
    show t.val = win0_2.index (pt t l) 0 * 512 + 1 * (t.val % 512)
    rw [(idx2 _).1]; show _ = (8 * (l.val / 1024) + t.val / 512) % 8 * 512 + _; omega
  | ⟨1, _⟩ =>
    show l.val = win0_2.index (pt t l) 1 * 1024 + 1 * (l.val % 1024)
    rw [(idx2 _).2]; show _ = (8 * (l.val / 1024) + t.val / 512) / 8 * 1024 + _; omega
end

theorem pay_at (x : Vec Ideal S512x2048 .bf16) (w : Vec Ideal S1x1024x2048 .bf16) (i : Fin 512) (p : Fin 1024) :
    k0_pay1 x w (ix2 i p) = Ffn.dot (fun r => x (ix2 i r)) (fun r => w (ix3 0 p r)) := by
  unfold Ffn.dot
  pointwise [k0_pay1]

/-- The result is the product of the rows with the rows of the chips' weights. -/
theorem val2 (m : (ℓ : Loc nD τ sig) → Buf (Elt Ideal) ℓ) (c : Dev nD) (t l : Fin 4096) :
    (dats m 0 c).arrAt 2 cfg0.N (ix2 t l) = Ffn.dot (fun r => m (c.tc.loc main_arg0) (ix2 t r))
      (fun r => m (c.tc.loc main_arg1) (ix3 ⟨l.val / 1024, by omega⟩ ⟨l.val % 1024, by omega⟩ r)) :=
  (arr2 m c t l).trans ((pay_at _ _ _ _).trans (Ffn.dot_congr (dBlk m c t l) (wBlk m c t l)))

end Cert.GatedGradIdeal.Body
-- ==== Proof.GatedGradAgree.lean ====
/-
  The gradient of the gated rows: the reference's result is the kernel's.
-/
module

public import proofs.«01_k».proof.Proof.GatedGrad
public import proofs.«01_k».proof.Proof.Gen.GatedGradRefIdeal.Read
public import proofs.«01_k».proof.Proof.Gen.GatedGradIdeal.Frame
public import proofs.«01_k».proof.Defs
public import Idealize.ShloMosaic.Lib.Quiescent

@[expose] public section

set_option maxRecDepth 16384

noncomputable section

namespace Cert.GatedGradRefIdeal.Agree

open Idealize.ShloMosaic Idealize.ShloMosaic.TcCoe Idealize.SL.Sem Cert.GatedGradRefIdeal Cert.GatedGradRefIdeal.Read

theorem v4_at (x0 : Vec Ideal S4096x2048 .bf16) (x1 : Vec Ideal S4x1024x2048 .bf16) (t : Fin 4096) (l : Fin 4096) :
    val_main_v4 (F := Ideal) x0 x1 (ix2 t l)
      = Ffn.dot (fun r => x0 (ix2 t r)) (fun r => x1 (ix3 ⟨l.val / 1024, by omega⟩ ⟨l.val % 1024, by omega⟩ r)) := by
  unfold Ffn.dot
  pointwise [val_main_v4, val_main_v3, val_main_v2, val_main_v1, val_main_v0]

/-- The reference leaves its arguments, and no counter raised. -/
theorem frame : quiescent_GatedGradRefIdeal (hGatedGradRefIdeal := Gen.facts) := fun m ρ _ =>
  (θ_run _ _ _).mono (fun r h => ⟨fun c => (h c).2, sem_eq_zero_of_no_sems (by decide) r.2⟩) (Value.run m ρ)

/-- From arguments that agree, both programs end with the product. -/
theorem algebraic : algebraic_GatedGradIdeal_GatedGradRefIdeal (hGatedGradIdeal := Cert.GatedGradIdeal.Gen.facts) (hGatedGradRefIdeal := Gen.facts) := by
  intro m ρ m' ρ' _ hag
  refine ⟨fun c => (Cert.GatedGradIdeal.Gen.dats m 0 c).arrAt 2 Cert.GatedGradIdeal.cfg0.N, Cert.GatedGradIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v4_eq, e0, e1]
  funext y
  obtain ⟨t, l, rfl⟩ : ∃ (t : Fin 4096) (l : Fin 4096), y = ix2 t l := ⟨y 0, y 1, eq_ix2 y⟩
  exact (v4_at _ _ t l).trans (Cert.GatedGradIdeal.Body.val2 m c t l).symm

end Cert.GatedGradRefIdeal.Agree
-- ==== Proof.OutGrad.lean ====
/-
  The gradient of the weight that closes the gated unit: what the call's array holds.

  A block of the result is accumulated over two points: the first stores the product over the first 2048 rows, the
  second adds the product over the last 2048 and writes the block back.
-/
module

public import proofs.«01_k».proof.Proof.Gen.OutGradIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.OutGradIdeal.Body

open Cert.OutGradIdeal Cert.OutGradIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first point of a block leaves in the sum -/
theorem first (t : Fin cfg0.N) (h : t.val % 2 = 0) :
    (outsAt0 m c t.val t.isLt).2 = k0_pay1 (iblk m c 0 t) (iblk m c 1 t) := by
  rw [outsAt0_A m c t h (by omega) (by omega)]
  dsimp only
  unfold sout0_A_0
  dsimp only [kernelRun0_A]
  refine (View.read_writes_full ..).trans ?_
  rw [View.readAt_full, View.readAt_full, (hs0_0 t).read_unread, (hs0_1 t).read_unread]

/-- and what the second leaves in the block. -/
theorem second (t : Fin cfg0.N) (h : t.val % 2 = 1) :
    (outsAt0 m c t.val t.isLt).1 = k0_pay3 (k0_pay2 (outsAt0 m c (t.val - 1) (Nat.lt_of_le_of_lt (Nat.sub_le _ _) t.isLt)).2
      (iblk m c 0 t) (iblk m c 1 t)) := by
  rw [outsAt0_B m c t (by omega) h h]
  dsimp only
  unfold out0_B_2
  dsimp only [kernelRun0_B]
  refine (View.read_writes_full ..).trans ?_
  refine congrArg k0_pay3 ((View.readCov_full ..).trans ?_)
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val % 2 ∧ win0_0.index t 1 = t.val / 4 :=
  (by decide +kernel : ∀ t : Fin grid0.N, win0_0.index t 0 = t.val % 2 ∧ win0_0.index t 1 = t.val / 4)
theorem idx1 : ∀ t : Fin cfg0.N, win0_1.index t 0 = t.val % 2 ∧ win0_1.index t 1 = t.val / 2 % 2 :=
  (by decide +kernel : ∀ t : Fin grid0.N, win0_1.index t 0 = t.val % 2 ∧ win0_1.index t 1 = t.val / 2 % 2)

/-- The point that works on half `a` of the rows for chip `q` and column `k` of the weight. -/
def pt (q : Fin 4) (k : Fin 2048) (a : Fin 2) : Fin cfg0.N :=
  ⟨4 * q.val + 2 * (k.val / 1024) + a.val, by show _ < grid0.N; rw [N_0]; omega⟩

variable (q : Fin 4) (j : Fin 1024) (k : Fin 2048) (a : Fin 2) (r : Fin 2048)

theorem fBlk : iblk m c 0 (pt q k a) (ix2 r j) = m (c.tc.loc main_arg0) (ix2 (Ffn.row a r) (Ffn.blk (n := 4) (k := 1024) (N := 4096) (by decide) q j)) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt q k a) 0 * 2048 + 1 * r.val = 2048 * a.val + r.val
    rw [(idx0 _).1]; show (4 * q.val + 2 * (k.val / 1024) + a.val) % 2 * 2048 + _ = _; omega
  | ⟨1, _⟩ =>
    show win0_0.index (pt q k a) 1 * 1024 + 1 * j.val = 1024 * q.val + j.val
    rw [(idx0 _).2]; show (4 * q.val + 2 * (k.val / 1024) + a.val) / 4 * 1024 + _ = _; omega

theorem dBlk : iblk m c 1 (pt q k a) (ix2 r ⟨k.val % 1024, by omega⟩) = m (c.tc.loc main_arg1) (ix2 (Ffn.row a r) k) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ =>
    show win0_1.index (pt q k a) 0 * 2048 + 1 * r.val = 2048 * a.val + r.val
    rw [(idx1 _).1]; show (4 * q.val + 2 * (k.val / 1024) + a.val) % 2 * 2048 + _ = _; omega
  | ⟨1, _⟩ =>
    show win0_1.index (pt q k a) 1 * 1024 + 1 * (k.val % 1024) = k.val
    rw [(idx1 _).2]; show (4 * q.val + 2 * (k.val / 1024) + a.val) / 2 % 2 * 1024 + _ = _; omega

/-- An element of the array is its block's, after the second point. -/
theorem arr2 : (dats m 0 c).arrAt 2 cfg0.N (ix3 q j k)
    = (outsAt0 m c (pt q k 1).val (pt q k 1).isLt).1 (ix3 0 j ⟨k.val % 1024, by omega⟩) := by
  have hp : Value.pt2Of (ix3 q j k) = (pt q k 1).val := by
    show 2 * (2 * (q.val / 1 - 0) + 2 * (j.val / 1024 - 0) + 1 * (k.val / 1024 - 0)) + 1 = 4 * q.val + 2 * (k.val / 1024) + 1
    omega
  rw [Value.final2, Value.G2, dif_pos (by rw [hp]; exact (pt q k 1).isLt), Value.outsAt0_sweep,
    Value.fold0_congr m c _ _ (pt q k 1).val (by have := (pt q k 1).isLt; omega) hp]
  refine congrArg _ (funext fun b => Fin.ext ?_)
  match b with
  | ⟨0, _⟩ => show q.val % 1 = 0; omega
  | ⟨1, _⟩ => show j.val % 1024 = j.val; omega
  | ⟨2, _⟩ => rfl

/-- What the block holds after its two points. -/
theorem both : (outsAt0 m c (pt q k 1).val (pt q k 1).isLt).1
    = k0_pay3 (k0_pay2 (k0_pay1 (iblk m c 0 (pt q k 0)) (iblk m c 1 (pt q k 0))) (iblk m c 0 (pt q k 1)) (iblk m c 1 (pt q k 1))) := by
  rw [← first m c (pt q k 0) (by show (4 * q.val + 2 * (k.val / 1024) + 0) % 2 = 0; omega)]
  exact second m c _ (by show (4 * q.val + 2 * (k.val / 1024) + 1) % 2 = 1; omega)

end

/-! ### Over the extended reals -/

section
variable (x x' : Vec Ideal S2048x1024 .bf16) (y y' : Vec Ideal S2048x1024 .bf16) (j : Fin 1024) (p : Fin 1024)

theorem pay_at : k0_pay3 (k0_pay2 (k0_pay1 x y) x' y') (ix3 0 j p)
    = Ffn.dot (fun r => x (ix2 r j)) (fun r => y (ix2 r p)) + Ffn.dot (fun r => x' (ix2 r j)) (fun r => y' (ix2 r p)) := by
  unfold Ffn.dot
  pointwise [k0_pay3, k0_pay2, k0_pay1]
end

/-- The result is the product over the rows. -/
theorem val2 (m : (ℓ : Loc nD τ sig) → Buf (Elt Ideal) ℓ) (c : Dev nD) (q : Fin 4) (j : Fin 1024) (k : Fin 2048) :
    (dats m 0 c).arrAt 2 cfg0.N (ix3 q j k)
      = Ffn.dot (fun t => m (c.tc.loc main_arg0) (ix2 t (Ffn.blk (n := 4) (k := 1024) (N := 4096) (by decide) q j))) (fun t => m (c.tc.loc main_arg1) (ix2 t k)) := by
  rw [arr2, both, pay_at, Ffn.dot_halves]
  exact congrArg₂ (fun a b : EReal => a + b)
    (Ffn.dot_congr (fBlk m c q j k 0) (dBlk m c q k 0)) (Ffn.dot_congr (fBlk m c q j k 1) (dBlk m c q k 1))

end Cert.OutGradIdeal.Body
-- ==== Proof.OutGradAgree.lean ====
/-
  The gradient of the weight that closes the gated unit: the reference's result is the kernel's.
-/
module

public import proofs.«01_k».proof.Proof.OutGrad
public import proofs.«01_k».proof.Proof.Gen.OutGradRefIdeal.Read
public import proofs.«01_k».proof.Proof.Gen.OutGradIdeal.Frame
public import proofs.«01_k».proof.Defs
public import Idealize.ShloMosaic.Lib.Quiescent

@[expose] public section

set_option maxRecDepth 16384

noncomputable section

namespace Cert.OutGradRefIdeal.Agree

open Idealize.ShloMosaic Idealize.ShloMosaic.TcCoe Idealize.SL.Sem Cert.OutGradRefIdeal Cert.OutGradRefIdeal.Read

theorem v5_at (x0 : Vec Ideal S4096x4096 .bf16) (x1 : Vec Ideal S4096x2048 .bf16) (q : Fin 4) (j : Fin 1024) (k : Fin 2048) :
    val_main_v5 (F := Ideal) x0 x1 (ix3 q j k)
      = Ffn.dot (fun t => x0 (ix2 t (Ffn.blk (n := 4) (k := 1024) (N := 4096) (by decide) q j))) (fun t => x1 (ix2 t k)) := by
  have e : Ffn.blk (n := 4) (k := 1024) (N := 4096) (by decide) q j = ⟨q.val * 1024 + j.val, by omega⟩ := Ffn.blk_eq _ _ _ _
  rw [Ffn.dot_comm, e]
  unfold Ffn.dot
  pointwise [val_main_v5, val_main_v4, val_main_v3, val_main_v2, val_main_v1, val_main_v0]

/-- The reference leaves its arguments, and no counter raised. -/
theorem frame : quiescent_OutGradRefIdeal (hOutGradRefIdeal := Gen.facts) := fun m ρ _ =>
  (θ_run _ _ _).mono (fun r h => ⟨fun c => (h c).2, sem_eq_zero_of_no_sems (by decide) r.2⟩) (Value.run m ρ)

/-- From arguments that agree, both programs end with the weight's gradient. -/
theorem algebraic : algebraic_OutGradIdeal_OutGradRefIdeal (hOutGradIdeal := Cert.OutGradIdeal.Gen.facts) (hOutGradRefIdeal := Gen.facts) := by
  intro m ρ m' ρ' _ hag
  refine ⟨fun c => (Cert.OutGradIdeal.Gen.dats m 0 c).arrAt 2 Cert.OutGradIdeal.cfg0.N, Cert.OutGradIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v5_eq, e0, e1]
  funext y
  obtain ⟨q, j, k, rfl⟩ : ∃ (q : Fin 4) (j : Fin 1024) (k : Fin 2048), y = ix3 q j k := ⟨y 0, y 1, y 2, eq_ix3 y⟩
  exact (v5_at _ _ q j k).trans (Cert.OutGradIdeal.Body.val2 m c q j k).symm

end Cert.OutGradRefIdeal.Agree
-- ==== Proof.InGrad.lean ====
/-
  The gradient of the weight that opens the gated unit: what the call's array holds.

  A block of the result is accumulated over two points: the first stores the product over the first 2048 rows, the
  second adds the product over the last 2048 and writes the block back.
-/
module

public import proofs.«01_k».proof.Proof.Gen.InGradIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.InGradIdeal.Body

open Cert.InGradIdeal Cert.InGradIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first point of a block leaves in the sum -/
theorem first (t : Fin cfg0.N) (h : t.val % 2 = 0) :
    (outsAt0 m c t.val t.isLt).2 = k0_pay1 (iblk m c 0 t) (iblk m c 1 t) := by
  rw [outsAt0_A m c t h (by omega) (by omega)]
  dsimp only
  unfold sout0_A_0
  dsimp only [kernelRun0_A]
  refine (View.read_writes_full ..).trans ?_
  rw [View.readAt_full, View.readAt_full, (hs0_0 t).read_unread, (hs0_1 t).read_unread]

/-- and what the second leaves in the block. -/
theorem second (t : Fin cfg0.N) (h : t.val % 2 = 1) :
    (outsAt0 m c t.val t.isLt).1 = k0_pay3 (k0_pay2 (outsAt0 m c (t.val - 1) (Nat.lt_of_le_of_lt (Nat.sub_le _ _) t.isLt)).2
      (iblk m c 0 t) (iblk m c 1 t)) := by
  rw [outsAt0_B m c t (by omega) h h]
  dsimp only
  unfold out0_B_2
  dsimp only [kernelRun0_B]
  refine (View.read_writes_full ..).trans ?_
  refine congrArg k0_pay3 ((View.readCov_full ..).trans ?_)
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val % 2 ∧ win0_0.index t 1 = t.val / 16 :=
  (by decide +kernel : ∀ t : Fin grid0.N, win0_0.index t 0 = t.val % 2 ∧ win0_0.index t 1 = t.val / 16)
theorem idx1 : ∀ t : Fin cfg0.N, win0_1.index t 0 = t.val % 2 ∧ win0_1.index t 1 = t.val / 2 % 8 :=
  (by decide +kernel : ∀ t : Fin grid0.N, win0_1.index t 0 = t.val % 2 ∧ win0_1.index t 1 = t.val / 2 % 8)
theorem idx2 : ∀ t : Fin cfg0.N, win0_2.index t 0 = t.val / 4 % 4 ∧ win0_2.index t 1 = t.val / 16 ∧ win0_2.index t 2 = t.val / 2 % 2 :=
  (by decide +kernel : ∀ t : Fin grid0.N, win0_2.index t 0 = t.val / 4 % 4 ∧ win0_2.index t 1 = t.val / 16 ∧ win0_2.index t 2 = t.val / 2 % 2)

/-- A block is written back after its second point, -/
theorem odd : ∀ t : Fin cfg0.N, (cfg0.win 2).flush t = true ↔ t.val % 2 = 1 :=
  (by decide +kernel : ∀ t : Fin grid0.N, win0_2.flush t = true ↔ t.val % 2 = 1)
/-- and two blocks written back share no element. -/
theorem apart : ∀ t t' : Fin cfg0.N, (cfg0.win 2).flush t = true → (cfg0.win 2).flush t' = true → t ≠ t' →
    Disjoint ((cfg0.win 2).blk t).view.set ((cfg0.win 2).blk t').view.set := fun t t' h h' hne =>
  (cfg0.win 2).disjoint_blk fun e => hne (by
    have e0 : win0_2.index t 0 = win0_2.index t' 0 := congrFun e 0
    have e1 : win0_2.index t 1 = win0_2.index t' 1 := congrFun e 1
    have e2 : win0_2.index t 2 = win0_2.index t' 2 := congrFun e 2
    rw [(idx2 t).1, (idx2 t').1] at e0
    rw [(idx2 t).2.1, (idx2 t').2.1] at e1
    rw [(idx2 t).2.2, (idx2 t').2.2] at e2
    rw [odd] at h h'
    exact Fin.ext (by omega))

/-- The point that works on half `a` of the rows for row `i` and column `j` of chip `q`'s weight. -/
def pt (q : Fin 4) (i j : Fin 2048) (a : Fin 2) : Fin cfg0.N :=
  ⟨16 * (i.val / 512) + 4 * q.val + 2 * (j.val / 1024) + a.val, by show _ < grid0.N; rw [N_0]; omega⟩

variable (q : Fin 4) (i j : Fin 2048) (a : Fin 2) (r : Fin 2048)

theorem hBlk : iblk m c 0 (pt q i j a) (ix2 r ⟨i.val % 512, by omega⟩) = m (c.tc.loc main_arg0) (ix2 (Ffn.row a r) i) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt q i j a) 0 * 2048 + 1 * r.val = 2048 * a.val + r.val
    rw [(idx0 _).1]; show (16 * (i.val / 512) + 4 * q.val + 2 * (j.val / 1024) + a.val) % 2 * 2048 + _ = _; omega
  | ⟨1, _⟩ =>
    show win0_0.index (pt q i j a) 1 * 512 + 1 * (i.val % 512) = i.val
    rw [(idx0 _).2]; show (16 * (i.val / 512) + 4 * q.val + 2 * (j.val / 1024) + a.val) / 16 * 512 + _ = _; omega

theorem dBlk : iblk m c 1 (pt q i j a) (ix2 r ⟨j.val % 1024, by omega⟩)
    = m (c.tc.loc main_arg1) (ix2 (Ffn.row a r) (Ffn.blk (n := 4) (k := 2048) (N := 8192) (by decide) q j)) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ =>
    show win0_1.index (pt q i j a) 0 * 2048 + 1 * r.val = 2048 * a.val + r.val
    rw [(idx1 _).1]; show (16 * (i.val / 512) + 4 * q.val + 2 * (j.val / 1024) + a.val) % 2 * 2048 + _ = _; omega
  | ⟨1, _⟩ =>
    show win0_1.index (pt q i j a) 1 * 1024 + 1 * (j.val % 1024) = 2048 * q.val + j.val
    rw [(idx1 _).2]; show (16 * (i.val / 512) + 4 * q.val + 2 * (j.val / 1024) + a.val) / 2 % 8 * 1024 + _ = _; omega

/-- An element of the array is its block's, after the second point. -/
theorem arr2 : (dats m 0 c).arrAt 2 cfg0.N (ix3 q i j)
    = (outsAt0 m c (pt q i j 1).val (pt q i j 1).isLt).1 (ix3 0 ⟨i.val % 512, by omega⟩ ⟨j.val % 1024, by omega⟩) := by
  have h := congrFun (((dats m 0 c).read_blk_arrAt_eq_flushed 2 apart cfg0.N (pt q i j 1) (pt q i j 1).isLt
    ((odd _).mpr (by show (16 * (i.val / 512) + 4 * q.val + 2 * (j.val / 1024) + 1) % 2 = 1; omega))).trans (Value.flushed2 m c (pt q i j 1)))
    (ix3 0 ⟨i.val % 512, by omega⟩ ⟨j.val % 1024, by omega⟩)
  rw [View.read_apply] at h
  refine Eq.trans (congrArg ((dats m 0 c).arrAt 2 cfg0.N) (funext fun b => Fin.ext ?_)) h
  match b with
  | ⟨0, _⟩ =>
    show q.val = win0_2.index (pt q i j 1) 0 * 1 + 1 * 0
    rw [(idx2 _).1]; show _ = (16 * (i.val / 512) + 4 * q.val + 2 * (j.val / 1024) + 1) / 4 % 4 * 1 + _; omega
  | ⟨1, _⟩ =>
    show i.val = win0_2.index (pt q i j 1) 1 * 512 + 1 * (i.val % 512)
    rw [(idx2 _).2.1]; show _ = (16 * (i.val / 512) + 4 * q.val + 2 * (j.val / 1024) + 1) / 16 * 512 + _; omega
  | ⟨2, _⟩ =>
    show j.val = win0_2.index (pt q i j 1) 2 * 1024 + 1 * (j.val % 1024)
    rw [(idx2 _).2.2]; show _ = (16 * (i.val / 512) + 4 * q.val + 2 * (j.val / 1024) + 1) / 2 % 2 * 1024 + _; omega

/-- What the block holds after its two points. -/
theorem both : (outsAt0 m c (pt q i j 1).val (pt q i j 1).isLt).1
    = k0_pay3 (k0_pay2 (k0_pay1 (iblk m c 0 (pt q i j 0)) (iblk m c 1 (pt q i j 0))) (iblk m c 0 (pt q i j 1)) (iblk m c 1 (pt q i j 1))) := by
  rw [← first m c (pt q i j 0) (by show (16 * (i.val / 512) + 4 * q.val + 2 * (j.val / 1024) + 0) % 2 = 0; omega)]
  exact second m c _ (by show (16 * (i.val / 512) + 4 * q.val + 2 * (j.val / 1024) + 1) % 2 = 1; omega)

end

/-! ### Over the extended reals -/

section
variable (x x' : Vec Ideal S2048x512 .bf16) (y y' : Vec Ideal S2048x1024 .bf16) (j : Fin 512) (p : Fin 1024)

theorem pay_at : k0_pay3 (k0_pay2 (k0_pay1 x y) x' y') (ix3 0 j p)
    = Ffn.dot (fun r => x (ix2 r j)) (fun r => y (ix2 r p)) + Ffn.dot (fun r => x' (ix2 r j)) (fun r => y' (ix2 r p)) := by
  unfold Ffn.dot
  pointwise [k0_pay3, k0_pay2, k0_pay1]
end

/-- The result is the product over the rows. -/
theorem val2 (m : (ℓ : Loc nD τ sig) → Buf (Elt Ideal) ℓ) (c : Dev nD) (q : Fin 4) (i j : Fin 2048) :
    (dats m 0 c).arrAt 2 cfg0.N (ix3 q i j)
      = Ffn.dot (fun t => m (c.tc.loc main_arg0) (ix2 t i)) (fun t => m (c.tc.loc main_arg1) (ix2 t (Ffn.blk (n := 4) (k := 2048) (N := 8192) (by decide) q j))) := by
  rw [arr2, both, pay_at, Ffn.dot_halves]
  exact congrArg₂ (fun a b : EReal => a + b)
    (Ffn.dot_congr (hBlk m c q i j 0) (dBlk m c q i j 0)) (Ffn.dot_congr (hBlk m c q i j 1) (dBlk m c q i j 1))

end Cert.InGradIdeal.Body
-- ==== Proof.InGradAgree.lean ====
/-
  The gradient of the weight that opens the gated unit: the reference's result is the kernel's.
-/
module

public import proofs.«01_k».proof.Proof.InGrad
public import proofs.«01_k».proof.Proof.Gen.InGradRefIdeal.Read
public import proofs.«01_k».proof.Proof.Gen.InGradIdeal.Frame
public import proofs.«01_k».proof.Defs
public import Idealize.ShloMosaic.Lib.Quiescent

@[expose] public section

set_option maxRecDepth 16384

noncomputable section

namespace Cert.InGradRefIdeal.Agree

open Idealize.ShloMosaic Idealize.ShloMosaic.TcCoe Idealize.SL.Sem Cert.InGradRefIdeal Cert.InGradRefIdeal.Read

theorem v6_at (x0 : Vec Ideal S4096x2048 .bf16) (x1 : Vec Ideal S4096x8192 .bf16) (q : Fin 4) (j : Fin 2048) (k : Fin 2048) :
    val_main_v6 (F := Ideal) x0 x1 (ix3 q j k)
      = Ffn.dot (fun t => x0 (ix2 t j)) (fun t => x1 (ix2 t (Ffn.blk (n := 4) (k := 2048) (N := 8192) (by decide) q k))) := by
  have e : Ffn.blk (n := 4) (k := 2048) (N := 8192) (by decide) q k = ⟨q.val * 2048 + k.val, by omega⟩ := Ffn.blk_eq _ _ _ _
  rw [Ffn.dot_comm, e]
  unfold Ffn.dot
  pointwise [val_main_v6, val_main_v5, val_main_v4, val_main_v3, val_main_v2, val_main_v1, val_main_v0]

/-- The reference leaves its arguments, and no counter raised. -/
theorem frame : quiescent_InGradRefIdeal (hInGradRefIdeal := Gen.facts) := fun m ρ _ =>
  (θ_run _ _ _).mono (fun r h => ⟨fun c => (h c).2, sem_eq_zero_of_no_sems (by decide) r.2⟩) (Value.run m ρ)

/-- From arguments that agree, both programs end with the weight's gradient. -/
theorem algebraic : algebraic_InGradIdeal_InGradRefIdeal (hInGradIdeal := Cert.InGradIdeal.Gen.facts) (hInGradRefIdeal := Gen.facts) := by
  intro m ρ m' ρ' _ hag
  refine ⟨fun c => (Cert.InGradIdeal.Gen.dats m 0 c).arrAt 2 Cert.InGradIdeal.cfg0.N, Cert.InGradIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v6_eq, e0, e1]
  funext y
  obtain ⟨q, j, k, rfl⟩ : ∃ (q : Fin 4) (j : Fin 2048) (k : Fin 2048), y = ix3 q j k := ⟨y 0, y 1, y 2, eq_ix3 y⟩
  exact (v6_at _ _ q j k).trans (Cert.InGradIdeal.Body.val2 m c q j k).symm

end Cert.InGradRefIdeal.Agree
-- ==== Proof.InRows.lean ====
/-
  The gradient of the rows, through the product that opens the gated unit: what the call's array holds.

  A block of the result is accumulated over four points, one for each chip's columns.
-/
module

public import proofs.«01_k».proof.Proof.Gen.InRowsIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.InRowsIdeal.Body

open Cert.InRowsIdeal Cert.InRowsIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first chip's point leaves in the sum, -/
theorem first (t : Fin cfg0.N) (h : t.val % 4 = 0) :
    (outsAt0 m c t.val t.isLt).2 = k0_pay1 (iblk m c 0 t) (iblk m c 1 t) := by
  rw [outsAt0_A m c t h (by omega) (by omega)]
  dsimp only
  unfold sout0_A_0
  dsimp only [kernelRun0_A]
  refine (View.read_writes_full ..).trans ?_
  rw [View.readAt_full, View.readAt_full, (hs0_0 t).read_unread, (hs0_1 t).read_unread]

/-- what a later one does, -/
theorem next (t : Fin cfg0.N) (h : 1 ≤ t.val % 4) (h3 : ¬t.val % 4 = 3) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t (by omega) h h3]
  dsimp only
  unfold sout0_B_0
  dsimp only [kernelRun0_B]
  refine (View.read_writes_full ..).trans ?_
  rw [View.readAt_full, View.readAt_full, View.readAt_full, (hs0_0 t).read_unread, (hs0_1 t).read_unread, (Memref.isWhole_whole _).read_unread]

/-- and what the last leaves in the block. -/
theorem last (t : Fin cfg0.N) (h : t.val % 4 = 3) :
    (outsAt0 m c t.val t.isLt).1 = k0_pay2 (outsAt0 m c (t.val - 1) (Nat.lt_of_le_of_lt (Nat.sub_le _ _) t.isLt)).2
      (iblk m c 0 t) (iblk m c 1 t) := by
  rw [outsAt0_C m c t (by omega) (by omega) h]
  dsimp only
  unfold out0_C_2
  dsimp only [kernelRun0_C]
  refine (View.read_writes_full ..).trans ?_
  refine (View.readCov_full ..).trans ?_
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem idx1 : ∀ t : Fin cfg0.N, win0_1.index t 0 = t.val % 4 ∧ win0_1.index t 1 = t.val / 4 % 2 ∧ win0_1.index t 2 = 0 :=
  (by decide +kernel : ∀ t : Fin grid0.N, win0_1.index t 0 = t.val % 4 ∧ win0_1.index t 1 = t.val / 4 % 2 ∧ win0_1.index t 2 = 0)

/-- The point that works on chip `q`'s columns for row `t` and column `k` of the result. -/
def pt (t : Fin 4096) (k : Fin 2048) (q : Fin 4) : Fin cfg0.N :=
  ⟨8 * (t.val / 512) + 4 * (k.val / 1024) + q.val, by show _ < grid0.N; rw [N_0]; omega⟩

variable (t : Fin 4096) (k : Fin 2048) (q : Fin 4) (j : Fin 2048)

theorem fBlk : iblk m c 0 (pt t k q) (ix2 ⟨t.val % 512, by omega⟩ j)
    = m (c.tc.loc main_arg0) (ix2 t (Ffn.blk (n := 4) (k := 2048) (N := 8192) (by decide) q j)) := by
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ =>
    show win0_0.index (pt t k q) 0 * 512 + 1 * (t.val % 512) = t.val
    rw [(idx0 _).1]; show (8 * (t.val / 512) + 4 * (k.val / 1024) + q.val) / 8 * 512 + _ = _; omega
  | ⟨1, _⟩ =>
    show win0_0.index (pt t k q) 1 * 2048 + 1 * j.val = 2048 * q.val + j.val
    rw [(idx0 _).2]; show (8 * (t.val / 512) + 4 * (k.val / 1024) + q.val) % 4 * 2048 + _ = _; omega

theorem wBlk : iblk m c 1 (pt t k q) (ix3 0 ⟨k.val % 1024, by omega⟩ j) = m (c.tc.loc main_arg1) (ix3 q k j) := by
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ =>
    show win0_1.index (pt t k q) 0 * 1 + 1 * 0 = q.val
    rw [(idx1 _).1]; show (8 * (t.val / 512) + 4 * (k.val / 1024) + q.val) % 4 * 1 + _ = _; omega
  | ⟨1, _⟩ =>
    show win0_1.index (pt t k q) 1 * 1024 + 1 * (k.val % 1024) = k.val
    rw [(idx1 _).2.1]; show (8 * (t.val / 512) + 4 * (k.val / 1024) + q.val) / 4 % 2 * 1024 + _ = _; omega
  | ⟨2, _⟩ =>
    show win0_1.index (pt t k q) 2 * 2048 + 1 * j.val = j.val
    rw [(idx1 _).2.2]; omega

/-- An element of the array is its block's, after the last chip's point. -/
theorem arr2 : (dats m 0 c).arrAt 2 cfg0.N (ix2 t k)
    = (outsAt0 m c (pt t k 3).val (pt t k 3).isLt).1 (ix2 ⟨t.val % 512, by omega⟩ ⟨k.val % 1024, by omega⟩) := by
  have hp : Value.pt2Of (ix2 t k) = (pt t k 3).val := by
    show 4 * (2 * (t.val / 512 - 0) + 1 * (k.val / 1024 - 0)) + 3 = 8 * (t.val / 512) + 4 * (k.val / 1024) + 3
    omega
  rw [Value.final2, Value.G2, dif_pos (by rw [hp]; exact (pt t k 3).isLt), Value.outsAt0_sweep,
    Value.fold0_congr m c _ _ (pt t k 3).val (by have := (pt t k 3).isLt; omega) hp]
  refine congrArg _ (funext fun a => Fin.ext ?_)
  match a with
  | ⟨0, _⟩ => rfl
  | ⟨1, _⟩ => rfl

/-- The product of a chip's point, added to what came before. -/
def step (acc : Vec F S512x1024 .f32) (q : Fin 4) : Vec F S512x1024 .f32 :=
  k0_pay2 acc (iblk m c 0 (pt t k q)) (iblk m c 1 (pt t k q))

/-- After the first chip's point, -/
theorem sum0 : (outsAt0 m c (pt t k 0).val (pt t k 0).isLt).2 = k0_pay1 (iblk m c 0 (pt t k 0)) (iblk m c 1 (pt t k 0)) :=
  first m c _ (by show (8 * (t.val / 512) + 4 * (k.val / 1024) + 0) % 4 = 0; omega)

/-- the second's, -/
theorem sum1 : (outsAt0 m c (pt t k 1).val (pt t k 1).isLt).2 = step m c t k (outsAt0 m c (pt t k 0).val (pt t k 0).isLt).2 1 :=
  next m c _ (by show 1 ≤ (8 * (t.val / 512) + 4 * (k.val / 1024) + 1) % 4; omega)
    (by show ¬(8 * (t.val / 512) + 4 * (k.val / 1024) + 1) % 4 = 3; omega)

/-- the third's, -/
theorem sum2 : (outsAt0 m c (pt t k 2).val (pt t k 2).isLt).2 = step m c t k (outsAt0 m c (pt t k 1).val (pt t k 1).isLt).2 2 :=
  next m c _ (by show 1 ≤ (8 * (t.val / 512) + 4 * (k.val / 1024) + 2) % 4; omega)
    (by show ¬(8 * (t.val / 512) + 4 * (k.val / 1024) + 2) % 4 = 3; omega)

/-- and the last's. -/
theorem sum3 : (outsAt0 m c (pt t k 3).val (pt t k 3).isLt).1 = step m c t k (outsAt0 m c (pt t k 2).val (pt t k 2).isLt).2 3 :=
  last m c _ (by show (8 * (t.val / 512) + 4 * (k.val / 1024) + 3) % 4 = 3; omega)

end

/-! ### Over the extended reals -/

section
variable (acc : Vec Ideal S512x1024 .f32) (x : Vec Ideal S512x2048 .bf16) (y : Vec Ideal S1x1024x2048 .bf16) (p : Fin 512) (r : Fin 1024)

theorem pay_first : k0_pay1 x y (ix2 p r) = Ffn.dot (fun j => x (ix2 p j)) (fun j => y (ix3 0 r j)) := by
  unfold Ffn.dot
  pointwise [k0_pay1]
theorem pay_next : k0_pay2 acc x y (ix2 p r) = acc (ix2 p r) + Ffn.dot (fun j => x (ix2 p j)) (fun j => y (ix3 0 r j)) := by
  unfold Ffn.dot
  pointwise [k0_pay2]
end

variable (m : (ℓ : Loc nD τ sig) → Buf (Elt Ideal) ℓ) (c : Dev nD) (t : Fin 4096) (k : Fin 2048)

/-- The result is the product with the rows of the chips' weights, side by side. -/
theorem val2 : (dats m 0 c).arrAt 2 cfg0.N (ix2 t k)
    = Ffn.dot (fun f => m (c.tc.loc main_arg0) (ix2 t f)) (fun f => m (c.tc.loc main_arg1) (ix3 ⟨f.val / 2048, by omega⟩ k ⟨f.val % 2048, by omega⟩)) := by
  have e : ∀ q j, m (c.tc.loc main_arg1) (ix3 ⟨(Ffn.blk (n := 4) (k := 2048) (N := 8192) (by decide) q j).val / 2048, by omega⟩ k
      ⟨(Ffn.blk (n := 4) (k := 2048) (N := 8192) (by decide) q j).val % 2048, by omega⟩) = m (c.tc.loc main_arg1) (ix3 q k j) := fun q j =>
    congrArg₂ (fun a b => m (c.tc.loc main_arg1) (ix3 a k b)) (Fin.ext (Ffn.blk_div _ _ _)) (Fin.ext (Ffn.blk_mod _ _ _))
  rw [arr2, sum3, step, pay_next, sum2, step, pay_next, sum1, step, pay_next, sum0, pay_first, Ffn.dot_quarters (k := 2048) (N := 8192) (by decide)]
  simp only [fBlk, wBlk, e]

end Cert.InRowsIdeal.Body
-- ==== Proof.InRowsAgree.lean ====
/-
  The gradient of the rows, through the product that opens the gated unit: the reference's result is the kernel's.
-/
module

public import proofs.«01_k».proof.Proof.InRows
public import proofs.«01_k».proof.Proof.Gen.InRowsRefIdeal.Read
public import proofs.«01_k».proof.Proof.Gen.InRowsIdeal.Frame
public import proofs.«01_k».proof.Defs
public import Idealize.ShloMosaic.Lib.Quiescent

@[expose] public section

set_option maxRecDepth 16384

noncomputable section

namespace Cert.InRowsRefIdeal.Agree

open Idealize.ShloMosaic Idealize.ShloMosaic.TcCoe Idealize.SL.Sem Cert.InRowsRefIdeal Cert.InRowsRefIdeal.Read

theorem v4_at (x0 : Vec Ideal S4096x8192 .bf16) (x1 : Vec Ideal S4x2048x2048 .bf16) (t : Fin 4096) (l : Fin 2048) :
    val_main_v4 (F := Ideal) x0 x1 (ix2 t l)
      = Ffn.dot (fun f => x0 (ix2 t f)) (fun f => x1 (ix3 ⟨f.val / 2048, by omega⟩ l ⟨f.val % 2048, by omega⟩)) := by
  unfold Ffn.dot
  pointwise [val_main_v4, val_main_v3, val_main_v2, val_main_v1, val_main_v0]

/-- The reference leaves its arguments, and no counter raised. -/
theorem frame : quiescent_InRowsRefIdeal (hInRowsRefIdeal := Gen.facts) := fun m ρ _ =>
  (θ_run _ _ _).mono (fun r h => ⟨fun c => (h c).2, sem_eq_zero_of_no_sems (by decide) r.2⟩) (Value.run m ρ)

/-- From arguments that agree, both programs end with the product. -/
theorem algebraic : algebraic_InRowsIdeal_InRowsRefIdeal (hInRowsIdeal := Cert.InRowsIdeal.Gen.facts) (hInRowsRefIdeal := Gen.facts) := by
  intro m ρ m' ρ' _ hag
  refine ⟨fun c => (Cert.InRowsIdeal.Gen.dats m 0 c).arrAt 2 Cert.InRowsIdeal.cfg0.N, Cert.InRowsIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v4_eq, e0, e1]
  funext y
  obtain ⟨t, l, rfl⟩ : ∃ (t : Fin 4096) (l : Fin 2048), y = ix2 t l := ⟨y 0, y 1, eq_ix2 y⟩
  exact (v4_at _ _ t l).trans (Cert.InRowsIdeal.Body.val2 m c t l).symm

end Cert.InRowsRefIdeal.Agree
-- ==== Proof.SquareGrad.lean ====
/-
  The gradient of a square weight, whose rows the chips share: what the call's array holds.

  A block of the result is accumulated over two points: the first stores the product over the first 2048 rows, the
  second adds the product over the last 2048 and writes the block back.
-/
module

public import proofs.«01_k».proof.Proof.Gen.SquareGradIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.SquareGradIdeal.Body

open Cert.SquareGradIdeal Cert.SquareGradIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first point of a block leaves in the sum -/
theorem first (t : Fin cfg0.N) (h : t.val % 2 = 0) :
    (outsAt0 m c t.val t.isLt).2 = k0_pay1 (iblk m c 0 t) (iblk m c 1 t) := by
  rw [outsAt0_A m c t h (by omega) (by omega)]
  dsimp only
  unfold sout0_A_0
  dsimp only [kernelRun0_A]
  refine (View.read_writes_full ..).trans ?_
  rw [View.readAt_full, View.readAt_full, (hs0_0 t).read_unread, (hs0_1 t).read_unread]

/-- and what the second leaves in the block. -/
theorem second (t : Fin cfg0.N) (h : t.val % 2 = 1) :
    (outsAt0 m c t.val t.isLt).1 = k0_pay3 (k0_pay2 (outsAt0 m c (t.val - 1) (Nat.lt_of_le_of_lt (Nat.sub_le _ _) t.isLt)).2
      (iblk m c 0 t) (iblk m c 1 t)) := by
  rw [outsAt0_B m c t (by omega) h h]
  dsimp only
  unfold out0_B_2
  dsimp only [kernelRun0_B]
  refine (View.read_writes_full ..).trans ?_
  refine congrArg k0_pay3 ((View.readCov_full ..).trans ?_)
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val % 2 ∧ win0_0.index t 1 = t.val / 4 :=
  (by decide +kernel : ∀ t : Fin grid0.N, win0_0.index t 0 = t.val % 2 ∧ win0_0.index t 1 = t.val / 4)
theorem idx1 : ∀ t : Fin cfg0.N, win0_1.index t 0 = t.val % 2 ∧ win0_1.index t 1 = t.val / 2 % 2 :=
  (by decide +kernel : ∀ t : Fin grid0.N, win0_1.index t 0 = t.val % 2 ∧ win0_1.index t 1 = t.val / 2 % 2)

/-- The point that works on half `a` of the rows for chip `q` and column `k` of the weight. -/
def pt (q : Fin 4) (k : Fin 2048) (a : Fin 2) : Fin cfg0.N :=
  ⟨4 * q.val + 2 * (k.val / 1024) + a.val, by show _ < grid0.N; rw [N_0]; omega⟩

variable (q : Fin 4) (j : Fin 512) (k : Fin 2048) (a : Fin 2) (r : Fin 2048)

theorem fBlk : iblk m c 0 (pt q k a) (ix2 r j) = m (c.tc.loc main_arg0) (ix2 (Ffn.row a r) (Ffn.blk (n := 4) (k := 512) (N := 2048) (by decide) q j)) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt q k a) 0 * 2048 + 1 * r.val = 2048 * a.val + r.val
    rw [(idx0 _).1]; show (4 * q.val + 2 * (k.val / 1024) + a.val) % 2 * 2048 + _ = _; omega
  | ⟨1, _⟩ =>
    show win0_0.index (pt q k a) 1 * 512 + 1 * j.val = 512 * q.val + j.val
    rw [(idx0 _).2]; show (4 * q.val + 2 * (k.val / 1024) + a.val) / 4 * 512 + _ = _; omega

theorem dBlk : iblk m c 1 (pt q k a) (ix2 r ⟨k.val % 1024, by omega⟩) = m (c.tc.loc main_arg1) (ix2 (Ffn.row a r) k) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ =>
    show win0_1.index (pt q k a) 0 * 2048 + 1 * r.val = 2048 * a.val + r.val
    rw [(idx1 _).1]; show (4 * q.val + 2 * (k.val / 1024) + a.val) % 2 * 2048 + _ = _; omega
  | ⟨1, _⟩ =>
    show win0_1.index (pt q k a) 1 * 1024 + 1 * (k.val % 1024) = k.val
    rw [(idx1 _).2]; show (4 * q.val + 2 * (k.val / 1024) + a.val) / 2 % 2 * 1024 + _ = _; omega

/-- An element of the array is its block's, after the second point. -/
theorem arr2 : (dats m 0 c).arrAt 2 cfg0.N (ix3 q j k)
    = (outsAt0 m c (pt q k 1).val (pt q k 1).isLt).1 (ix3 0 j ⟨k.val % 1024, by omega⟩) := by
  have hp : Value.pt2Of (ix3 q j k) = (pt q k 1).val := by
    show 2 * (2 * (q.val / 1 - 0) + 2 * (j.val / 512 - 0) + 1 * (k.val / 1024 - 0)) + 1 = 4 * q.val + 2 * (k.val / 1024) + 1
    omega
  rw [Value.final2, Value.G2, dif_pos (by rw [hp]; exact (pt q k 1).isLt), Value.outsAt0_sweep,
    Value.fold0_congr m c _ _ (pt q k 1).val (by have := (pt q k 1).isLt; omega) hp]
  refine congrArg _ (funext fun b => Fin.ext ?_)
  match b with
  | ⟨0, _⟩ => show q.val % 1 = 0; omega
  | ⟨1, _⟩ => show j.val % 512 = j.val; omega
  | ⟨2, _⟩ => rfl

/-- What the block holds after its two points. -/
theorem both : (outsAt0 m c (pt q k 1).val (pt q k 1).isLt).1
    = k0_pay3 (k0_pay2 (k0_pay1 (iblk m c 0 (pt q k 0)) (iblk m c 1 (pt q k 0))) (iblk m c 0 (pt q k 1)) (iblk m c 1 (pt q k 1))) := by
  rw [← first m c (pt q k 0) (by show (4 * q.val + 2 * (k.val / 1024) + 0) % 2 = 0; omega)]
  exact second m c _ (by show (4 * q.val + 2 * (k.val / 1024) + 1) % 2 = 1; omega)

end

/-! ### Over the extended reals -/

section
variable (x x' : Vec Ideal S2048x512 .bf16) (y y' : Vec Ideal S2048x1024 .bf16) (j : Fin 512) (p : Fin 1024)

theorem pay_at : k0_pay3 (k0_pay2 (k0_pay1 x y) x' y') (ix3 0 j p)
    = Ffn.dot (fun r => x (ix2 r j)) (fun r => y (ix2 r p)) + Ffn.dot (fun r => x' (ix2 r j)) (fun r => y' (ix2 r p)) := by
  unfold Ffn.dot
  pointwise [k0_pay3, k0_pay2, k0_pay1]
end

/-- The result is the product over the rows. -/
theorem val2 (m : (ℓ : Loc nD τ sig) → Buf (Elt Ideal) ℓ) (c : Dev nD) (q : Fin 4) (j : Fin 512) (k : Fin 2048) :
    (dats m 0 c).arrAt 2 cfg0.N (ix3 q j k)
      = Ffn.dot (fun t => m (c.tc.loc main_arg0) (ix2 t (Ffn.blk (n := 4) (k := 512) (N := 2048) (by decide) q j))) (fun t => m (c.tc.loc main_arg1) (ix2 t k)) := by
  rw [arr2, both, pay_at, Ffn.dot_halves]
  exact congrArg₂ (fun a b : EReal => a + b)
    (Ffn.dot_congr (fBlk m c q j k 0) (dBlk m c q k 0)) (Ffn.dot_congr (fBlk m c q j k 1) (dBlk m c q k 1))

end Cert.SquareGradIdeal.Body
-- ==== Proof.SquareGradAgree.lean ====
/-
  The gradient of a square weight, whose rows the chips share: the reference's result is the kernel's.
-/
module

public import proofs.«01_k».proof.Proof.SquareGrad
public import proofs.«01_k».proof.Proof.Gen.SquareGradRefIdeal.Read
public import proofs.«01_k».proof.Proof.Gen.SquareGradIdeal.Frame
public import proofs.«01_k».proof.Defs
public import Idealize.ShloMosaic.Lib.Quiescent

@[expose] public section

set_option maxRecDepth 16384

noncomputable section

namespace Cert.SquareGradRefIdeal.Agree

open Idealize.ShloMosaic Idealize.ShloMosaic.TcCoe Idealize.SL.Sem Cert.SquareGradRefIdeal Cert.SquareGradRefIdeal.Read

theorem v5_at (x0 : Vec Ideal S4096x2048 .bf16) (x1 : Vec Ideal S4096x2048 .bf16) (q : Fin 4) (j : Fin 512) (k : Fin 2048) :
    val_main_v5 (F := Ideal) x0 x1 (ix3 q j k)
      = Ffn.dot (fun t => x0 (ix2 t (Ffn.blk (n := 4) (k := 512) (N := 2048) (by decide) q j))) (fun t => x1 (ix2 t k)) := by
  have e : Ffn.blk (n := 4) (k := 512) (N := 2048) (by decide) q j = ⟨q.val * 512 + j.val, by omega⟩ := Ffn.blk_eq _ _ _ _
  rw [Ffn.dot_comm, e]
  unfold Ffn.dot
  pointwise [val_main_v5, val_main_v4, val_main_v3, val_main_v2, val_main_v1, val_main_v0]

/-- The reference leaves its arguments, and no counter raised. -/
theorem frame : quiescent_SquareGradRefIdeal (hSquareGradRefIdeal := Gen.facts) := fun m ρ _ =>
  (θ_run _ _ _).mono (fun r h => ⟨fun c => (h c).2, sem_eq_zero_of_no_sems (by decide) r.2⟩) (Value.run m ρ)

/-- From arguments that agree, both programs end with the weight's gradient. -/
theorem algebraic : algebraic_SquareGradIdeal_SquareGradRefIdeal (hSquareGradIdeal := Cert.SquareGradIdeal.Gen.facts) (hSquareGradRefIdeal := Gen.facts) := by
  intro m ρ m' ρ' _ hag
  refine ⟨fun c => (Cert.SquareGradIdeal.Gen.dats m 0 c).arrAt 2 Cert.SquareGradIdeal.cfg0.N, Cert.SquareGradIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v5_eq, e0, e1]
  funext y
  obtain ⟨q, j, k, rfl⟩ : ∃ (q : Fin 4) (j : Fin 512) (k : Fin 2048), y = ix3 q j k := ⟨y 0, y 1, y 2, eq_ix3 y⟩
  exact (v5_at _ _ q j k).trans (Cert.SquareGradIdeal.Body.val2 m c q j k).symm

end Cert.SquareGradRefIdeal.Agree
-- ==== Proof.SquareRows.lean ====
/-
  The gradient of the rows, through the gate of the per-layer embedding: what the call's array holds.

  Each point stores 512 rows of the result, the product of the rows with all four chips' weights.
-/
module

public import proofs.«01_k».proof.Proof.Gen.SquareRowsIdeal.Value
public import proofs.«01_k».proof.Proof.Blocks
public import Idealize.ShloMosaic.Lib.Pointwise
public import Idealize.ShloMosaic.Lib.Pipeline.ValueKit.Basic

@[expose] public section

set_option maxRecDepth 16384

noncomputable section

namespace Cert.SquareRowsIdeal.Body

open Cert.SquareRowsIdeal Cert.SquareRowsIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The point that works on row `t` of the result. -/
def pt (t : Fin 4096) : Fin cfg0.N := ⟨t.val / 512, by show _ < grid0.N; rw [N_0]; omega⟩

section
variable {F : FTy → Type} [FloatOps F]
variable (m : (ℓ : Loc nD τ sig) → Buf (Elt F) ℓ) (c : Dev nD) (t : Fin 4096) (l r : Fin 2048) (q : Fin 4) (j : Fin 512)

theorem dBlk : iblk m c 0 (pt t) (ix2 ⟨t.val % 512, by omega⟩ r) = m (c.tc.loc main_arg0) (ix2 t r) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt t) 0 * 512 + 1 * (t.val % 512) = t.val
    rw [(idx0 _).1]; show t.val / 512 * 512 + _ = _; omega
  | ⟨1, _⟩ =>
    show win0_0.index (pt t) 1 * 2048 + 1 * r.val = r.val
    rw [(idx0 _).2]; omega

theorem wBlk : iblk m c 1 (pt t) (ix3 q j r) = m (c.tc.loc main_arg1) (ix3 q j r) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_1.index (pt t) 0 * 4 + 1 * q.val = q.val; rw [(idx1 _).1]; omega
  | ⟨1, _⟩ => show win0_1.index (pt t) 1 * 512 + 1 * j.val = j.val; rw [(idx1 _).2.1]; omega
  | ⟨2, _⟩ => show win0_1.index (pt t) 2 * 2048 + 1 * r.val = r.val; rw [(idx1 _).2.2]; omega

theorem out_eq (x : Vec F S512x2048 .bf16) (w : Vec F S4x512x2048 .bf16) : out0_2 x w = k0_pay1 x w := by
  unfold out0_2
  rw [View.canon_cons_unit_lit _ _ _ (by decide), View.ld_unit_lit _ _ (by decide), View.ld_unit_lit _ _ (by decide)]

/-- An element of the array is its block's. -/
theorem arr2 : (dats m 0 c).arrAt 2 cfg0.N (ix2 t l)
    = k0_pay1 (iblk m c 0 (pt t)) (iblk m c 1 (pt t)) (ix2 ⟨t.val % 512, by omega⟩ l) := by
  have h := congrFun ((Value.blocks2 m c (pt t) (flush0_2 _)).trans (Value.flushed2 m c (pt t))) (ix2 ⟨t.val % 512, by omega⟩ l)
  rw [View.read_apply, out_eq] at h
  refine Eq.trans (congrArg ((dats m 0 c).arrAt 2 cfg0.N) (funext fun b => Fin.ext ?_)) h
  match b with
  | ⟨0, _⟩ =>
    show t.val = win0_2.index (pt t) 0 * 512 + 1 * (t.val % 512)
    rw [(idx2 _).1]; show _ = t.val / 512 * 512 + _; omega
  | ⟨1, _⟩ =>
    show l.val = win0_2.index (pt t) 1 * 2048 + 1 * l.val
    rw [(idx2 _).2]; omega
end

theorem pay_at (x : Vec Ideal S512x2048 .bf16) (w : Vec Ideal S4x512x2048 .bf16) (i : Fin 512) (p : Fin 2048) :
    k0_pay1 x w (ix2 i p) = Ffn.dot (fun r => x (ix2 i r)) (fun r => w (ix3 ⟨p.val / 512, by omega⟩ ⟨p.val % 512, by omega⟩ r)) := by
  unfold Ffn.dot
  pointwise [k0_pay1]

/-- The result is the product of the rows with the rows of the chips' weights. -/
theorem val2 (m : (ℓ : Loc nD τ sig) → Buf (Elt Ideal) ℓ) (c : Dev nD) (t : Fin 4096) (l : Fin 2048) :
    (dats m 0 c).arrAt 2 cfg0.N (ix2 t l) = Ffn.dot (fun r => m (c.tc.loc main_arg0) (ix2 t r))
      (fun r => m (c.tc.loc main_arg1) (ix3 ⟨l.val / 512, by omega⟩ ⟨l.val % 512, by omega⟩ r)) :=
  (arr2 m c t l).trans ((pay_at _ _ _ _).trans (Ffn.dot_congr (dBlk m c t) (fun r => wBlk m c t r _ _)))

end Cert.SquareRowsIdeal.Body
-- ==== Proof.SquareRowsAgree.lean ====
/-
  The gradient of the rows, through the gate of the per-layer embedding: the reference's result is the kernel's.
-/
module

public import proofs.«01_k».proof.Proof.SquareRows
public import proofs.«01_k».proof.Proof.Gen.SquareRowsRefIdeal.Read
public import proofs.«01_k».proof.Proof.Gen.SquareRowsIdeal.Frame
public import proofs.«01_k».proof.Defs
public import Idealize.ShloMosaic.Lib.Quiescent

@[expose] public section

set_option maxRecDepth 16384

noncomputable section

namespace Cert.SquareRowsRefIdeal.Agree

open Idealize.ShloMosaic Idealize.ShloMosaic.TcCoe Idealize.SL.Sem Cert.SquareRowsRefIdeal Cert.SquareRowsRefIdeal.Read

theorem v3_at (x0 : Vec Ideal S4096x2048 .bf16) (x1 : Vec Ideal S4x512x2048 .bf16) (t : Fin 4096) (l : Fin 2048) :
    val_main_v3 (F := Ideal) x0 x1 (ix2 t l)
      = Ffn.dot (fun r => x0 (ix2 t r)) (fun r => x1 (ix3 ⟨l.val / 512, by omega⟩ ⟨l.val % 512, by omega⟩ r)) := by
  unfold Ffn.dot
  pointwise [val_main_v3, val_main_v2, val_main_v1, val_main_v0]

/-- The reference leaves its arguments, and no counter raised. -/
theorem frame : quiescent_SquareRowsRefIdeal (hSquareRowsRefIdeal := Gen.facts) := fun m ρ _ =>
  (θ_run _ _ _).mono (fun r h => ⟨fun c => (h c).2, sem_eq_zero_of_no_sems (by decide) r.2⟩) (Value.run m ρ)

/-- From arguments that agree, both programs end with the product. -/
theorem algebraic : algebraic_SquareRowsIdeal_SquareRowsRefIdeal (hSquareRowsIdeal := Cert.SquareRowsIdeal.Gen.facts) (hSquareRowsRefIdeal := Gen.facts) := by
  intro m ρ m' ρ' _ hag
  refine ⟨fun c => (Cert.SquareRowsIdeal.Gen.dats m 0 c).arrAt 2 Cert.SquareRowsIdeal.cfg0.N, Cert.SquareRowsIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v3_eq, e0, e1]
  funext y
  obtain ⟨t, l, rfl⟩ : ∃ (t : Fin 4096) (l : Fin 2048), y = ix2 t l := ⟨y 0, y 1, eq_ix2 y⟩
  exact (v3_at _ _ t l).trans (Cert.SquareRowsIdeal.Body.val2 m c t l).symm

end Cert.SquareRowsRefIdeal.Agree
-- ==== Proof.HeadRows.lean ====
/-
  The gradient of the heads' rows, through the attention's last product: what the call's array holds.

  Each point stores 512 rows of the result, the product of the rows with all four chips' weights.
-/
module

public import proofs.«01_k».proof.Proof.Gen.HeadRowsIdeal.Value
public import proofs.«01_k».proof.Proof.Blocks
public import Idealize.ShloMosaic.Lib.Pointwise
public import Idealize.ShloMosaic.Lib.Pipeline.ValueKit.Basic

@[expose] public section

set_option maxRecDepth 16384

noncomputable section

namespace Cert.HeadRowsIdeal.Body

open Cert.HeadRowsIdeal Cert.HeadRowsIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The point that works on row `t` of the result. -/
def pt (t : Fin 4096) : Fin cfg0.N := ⟨t.val / 512, by show _ < grid0.N; rw [N_0]; omega⟩

section
variable {F : FTy → Type} [FloatOps F]
variable (m : (ℓ : Loc nD τ sig) → Buf (Elt F) ℓ) (c : Dev nD) (t : Fin 4096) (l r : Fin 2048) (q : Fin 4) (j : Fin 512)

theorem dBlk : iblk m c 0 (pt t) (ix2 ⟨t.val % 512, by omega⟩ r) = m (c.tc.loc main_arg0) (ix2 t r) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt t) 0 * 512 + 1 * (t.val % 512) = t.val
    rw [(idx0 _).1]; show t.val / 512 * 512 + _ = _; omega
  | ⟨1, _⟩ =>
    show win0_0.index (pt t) 1 * 2048 + 1 * r.val = r.val
    rw [(idx0 _).2]; omega

theorem wBlk : iblk m c 1 (pt t) (ix3 q j r) = m (c.tc.loc main_arg1) (ix3 q j r) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_1.index (pt t) 0 * 4 + 1 * q.val = q.val; rw [(idx1 _).1]; omega
  | ⟨1, _⟩ => show win0_1.index (pt t) 1 * 512 + 1 * j.val = j.val; rw [(idx1 _).2.1]; omega
  | ⟨2, _⟩ => show win0_1.index (pt t) 2 * 2048 + 1 * r.val = r.val; rw [(idx1 _).2.2]; omega

theorem out_eq (x : Vec F S512x2048 .bf16) (w : Vec F S4x512x2048 .bf16) : out0_2 x w = k0_pay1 x w := by
  unfold out0_2
  rw [View.canon_cons_unit_lit _ _ _ (by decide), View.ld_unit_lit _ _ (by decide), View.ld_unit_lit _ _ (by decide)]

/-- An element of the array is its block's. -/
theorem arr2 : (dats m 0 c).arrAt 2 cfg0.N (ix2 t l)
    = k0_pay1 (iblk m c 0 (pt t)) (iblk m c 1 (pt t)) (ix2 ⟨t.val % 512, by omega⟩ l) := by
  have h := congrFun ((Value.blocks2 m c (pt t) (flush0_2 _)).trans (Value.flushed2 m c (pt t))) (ix2 ⟨t.val % 512, by omega⟩ l)
  rw [View.read_apply, out_eq] at h
  refine Eq.trans (congrArg ((dats m 0 c).arrAt 2 cfg0.N) (funext fun b => Fin.ext ?_)) h
  match b with
  | ⟨0, _⟩ =>
    show t.val = win0_2.index (pt t) 0 * 512 + 1 * (t.val % 512)
    rw [(idx2 _).1]; show _ = t.val / 512 * 512 + _; omega
  | ⟨1, _⟩ =>
    show l.val = win0_2.index (pt t) 1 * 2048 + 1 * l.val
    rw [(idx2 _).2]; omega
end

theorem pay_at (x : Vec Ideal S512x2048 .bf16) (w : Vec Ideal S4x512x2048 .bf16) (i : Fin 512) (p : Fin 2048) :
    k0_pay1 x w (ix2 i p) = Ffn.dot (fun r => x (ix2 i r)) (fun r => w (ix3 ⟨p.val / 512, by omega⟩ ⟨p.val % 512, by omega⟩ r)) := by
  unfold Ffn.dot
  pointwise [k0_pay1]

/-- The result is the product of the rows with the rows of the chips' weights. -/
theorem val2 (m : (ℓ : Loc nD τ sig) → Buf (Elt Ideal) ℓ) (c : Dev nD) (t : Fin 4096) (l : Fin 2048) :
    (dats m 0 c).arrAt 2 cfg0.N (ix2 t l) = Ffn.dot (fun r => m (c.tc.loc main_arg0) (ix2 t r))
      (fun r => m (c.tc.loc main_arg1) (ix3 ⟨l.val / 512, by omega⟩ ⟨l.val % 512, by omega⟩ r)) :=
  (arr2 m c t l).trans ((pay_at _ _ _ _).trans (Ffn.dot_congr (dBlk m c t) (fun r => wBlk m c t r _ _)))

end Cert.HeadRowsIdeal.Body
-- ==== Proof.HeadRowsAgree.lean ====
/-
  The gradient of the heads' rows, through the attention's last product: the reference's result is the kernel's.
-/
module

public import proofs.«01_k».proof.Proof.HeadRows
public import proofs.«01_k».proof.Proof.Gen.HeadRowsRefIdeal.Read
public import proofs.«01_k».proof.Proof.Gen.HeadRowsIdeal.Frame
public import proofs.«01_k».proof.Defs
public import Idealize.ShloMosaic.Lib.Quiescent

@[expose] public section

set_option maxRecDepth 16384

noncomputable section

namespace Cert.HeadRowsRefIdeal.Agree

open Idealize.ShloMosaic Idealize.ShloMosaic.TcCoe Idealize.SL.Sem Cert.HeadRowsRefIdeal Cert.HeadRowsRefIdeal.Read

theorem v4_at (x0 : Vec Ideal S4096x2048 .bf16) (x1 : Vec Ideal S4x512x2048 .bf16) (t : Fin 4096) (l : Fin 2048) :
    val_main_v4 (F := Ideal) x0 x1 (ix2 t l)
      = Ffn.dot (fun r => x0 (ix2 t r)) (fun r => x1 (ix3 ⟨l.val / 512, by omega⟩ ⟨l.val % 512, by omega⟩ r)) := by
  unfold Ffn.dot
  pointwise [val_main_v4, val_main_v3, val_main_v2, val_main_v1, val_main_v0]

/-- The reference leaves its arguments, and no counter raised. -/
theorem frame : quiescent_HeadRowsRefIdeal (hHeadRowsRefIdeal := Gen.facts) := fun m ρ _ =>
  (θ_run _ _ _).mono (fun r h => ⟨fun c => (h c).2, sem_eq_zero_of_no_sems (by decide) r.2⟩) (Value.run m ρ)

/-- From arguments that agree, both programs end with the product. -/
theorem algebraic : algebraic_HeadRowsIdeal_HeadRowsRefIdeal (hHeadRowsIdeal := Cert.HeadRowsIdeal.Gen.facts) (hHeadRowsRefIdeal := Gen.facts) := by
  intro m ρ m' ρ' _ hag
  refine ⟨fun c => (Cert.HeadRowsIdeal.Gen.dats m 0 c).arrAt 2 Cert.HeadRowsIdeal.cfg0.N, Cert.HeadRowsIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v4_eq, e0, e1]
  funext y
  obtain ⟨t, l, rfl⟩ : ∃ (t : Fin 4096) (l : Fin 2048), y = ix2 t l := ⟨y 0, y 1, eq_ix2 y⟩
  exact (v4_at _ _ t l).trans (Cert.HeadRowsIdeal.Body.val2 m c t l).symm

end Cert.HeadRowsRefIdeal.Agree
-- ==== Proof.QkvRows.lean ====
/-
  The gradient of the rows, through the queries, keys and values: what the call's array holds.

  Each point stores 512 rows of the result: the product with the queries' weights and the product with the keys' and values'.
-/
module

public import proofs.«01_k».proof.Proof.Gen.QkvRowsIdeal.Value
public import proofs.«01_k».proof.Proof.Blocks
public import Idealize.ShloMosaic.Lib.Pointwise
public import Idealize.ShloMosaic.Lib.Pipeline.ValueKit.Basic

@[expose] public section

set_option maxRecDepth 16384

noncomputable section

namespace Cert.QkvRowsIdeal.Body

open Cert.QkvRowsIdeal Cert.QkvRowsIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- The point that works on row `t` of the result. -/
def pt (t : Fin 4096) : Fin cfg0.N := ⟨t.val / 512, by show _ < grid0.N; rw [N_0]; omega⟩

section
variable {F : FTy → Type} [FloatOps F]
variable (m : (ℓ : Loc nD τ sig) → Buf (Elt F) ℓ) (c : Dev nD) (t : Fin 4096) (l r : Fin 2048) (q : Fin 4) (j k : Fin 512)

theorem dBlk : iblk m c 0 (pt t) (ix2 ⟨t.val % 512, by omega⟩ r) = m (c.tc.loc main_arg0) (ix2 t r) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt t) 0 * 512 + 1 * (t.val % 512) = t.val
    rw [(idx0 _).1]; show t.val / 512 * 512 + _ = _; omega
  | ⟨1, _⟩ =>
    show win0_0.index (pt t) 1 * 2048 + 1 * r.val = r.val
    rw [(idx0 _).2]; omega

theorem wBlk : iblk m c 1 (pt t) (ix3 q j r) = m (c.tc.loc main_arg2) (ix3 q j r) := by
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_1.index (pt t) 0 * 4 + 1 * q.val = q.val; rw [(idx1 _).1]; omega
  | ⟨1, _⟩ => show win0_1.index (pt t) 1 * 512 + 1 * j.val = j.val; rw [(idx1 _).2.1]; omega
  | ⟨2, _⟩ => show win0_1.index (pt t) 2 * 2048 + 1 * r.val = r.val; rw [(idx1 _).2.2]; omega

theorem eBlk : iblk m c 2 (pt t) (ix2 ⟨t.val % 512, by omega⟩ k) = m (c.tc.loc main_arg1) (ix2 t k) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ =>
    show win0_2.index (pt t) 0 * 512 + 1 * (t.val % 512) = t.val
    rw [(idx2 _).1]; show t.val / 512 * 512 + _ = _; omega
  | ⟨1, _⟩ =>
    show win0_2.index (pt t) 1 * 512 + 1 * k.val = k.val
    rw [(idx2 _).2]; omega

theorem uBlk : iblk m c 3 (pt t) (ix3 q j k) = m (c.tc.loc main_arg3) (ix3 q j k) := by
  unfold iblk
  rw [View.read_apply]
  show V m c main_arg3 _ = m (c.tc.loc main_arg3) _
  rw [V_main_arg3]
  refine congrArg (m (c.tc.loc main_arg3)) (funext fun b => Fin.ext ?_)
  match b with
  | ⟨0, _⟩ => show win0_3.index (pt t) 0 * 4 + 1 * q.val = q.val; rw [(idx3 _).1]; omega
  | ⟨1, _⟩ => show win0_3.index (pt t) 1 * 512 + 1 * j.val = j.val; rw [(idx3 _).2.1]; omega
  | ⟨2, _⟩ => show win0_3.index (pt t) 2 * 512 + 1 * k.val = k.val; rw [(idx3 _).2.2]; omega

theorem out_eq (x : Vec F S512x2048 .bf16) (w : Vec F S4x512x2048 .bf16) (y : Vec F S512x512 .bf16) (u : Vec F S4x512x512 .bf16) :
    out0_4 x w y u = k0_pay1 x w y u := by
  unfold out0_4
  rw [View.canon_cons_unit_lit _ _ _ (by decide), View.ld_unit_lit _ _ (by decide), View.ld_unit_lit _ _ (by decide),
    View.ld_unit_lit _ _ (by decide), View.ld_unit_lit _ _ (by decide)]

/-- An element of the array is its block's. -/
theorem arr4 : (dats m 0 c).arrAt 4 cfg0.N (ix2 t l)
    = k0_pay1 (iblk m c 0 (pt t)) (iblk m c 1 (pt t)) (iblk m c 2 (pt t)) (iblk m c 3 (pt t)) (ix2 ⟨t.val % 512, by omega⟩ l) := by
  have h := congrFun ((Value.blocks4 m c (pt t) (flush0_4 _)).trans (Value.flushed4 m c (pt t))) (ix2 ⟨t.val % 512, by omega⟩ l)
  rw [View.read_apply, out_eq] at h
  refine Eq.trans (congrArg ((dats m 0 c).arrAt 4 cfg0.N) (funext fun b => Fin.ext ?_)) h
  match b with
  | ⟨0, _⟩ =>
    show t.val = win0_4.index (pt t) 0 * 512 + 1 * (t.val % 512)
    rw [(idx4 _).1]; show _ = t.val / 512 * 512 + _; omega
  | ⟨1, _⟩ =>
    show l.val = win0_4.index (pt t) 1 * 2048 + 1 * l.val
    rw [(idx4 _).2]; omega
end

theorem pay_at (x : Vec Ideal S512x2048 .bf16) (w : Vec Ideal S4x512x2048 .bf16) (y : Vec Ideal S512x512 .bf16) (u : Vec Ideal S4x512x512 .bf16)
    (i : Fin 512) (p : Fin 2048) :
    k0_pay1 x w y u (ix2 i p) = Ffn.dot (fun r => x (ix2 i r)) (fun r => w (ix3 ⟨p.val / 512, by omega⟩ ⟨p.val % 512, by omega⟩ r))
      + Ffn.dot (fun k => y (ix2 i k)) (fun k => u (ix3 ⟨p.val / 512, by omega⟩ ⟨p.val % 512, by omega⟩ k)) := by
  unfold Ffn.dot
  pointwise [k0_pay1]

/-- The result is the sum of the two products. -/
theorem val4 (m : (ℓ : Loc nD τ sig) → Buf (Elt Ideal) ℓ) (c : Dev nD) (t : Fin 4096) (l : Fin 2048) :
    (dats m 0 c).arrAt 4 cfg0.N (ix2 t l)
      = Ffn.dot (fun r => m (c.tc.loc main_arg0) (ix2 t r)) (fun r => m (c.tc.loc main_arg2) (ix3 ⟨l.val / 512, by omega⟩ ⟨l.val % 512, by omega⟩ r))
        + Ffn.dot (fun k => m (c.tc.loc main_arg1) (ix2 t k)) (fun k => m (c.tc.loc main_arg3) (ix3 ⟨l.val / 512, by omega⟩ ⟨l.val % 512, by omega⟩ k)) :=
  (arr4 m c t l).trans ((pay_at _ _ _ _ _ _).trans (congrArg₂ (fun a b : EReal => a + b)
    (Ffn.dot_congr (dBlk m c t) (fun r => wBlk m c t r _ _)) (Ffn.dot_congr (eBlk m c t) (fun k => uBlk m c t _ _ k))))

end Cert.QkvRowsIdeal.Body
-- ==== Proof.QkvRowsAgree.lean ====
/-
  The gradient of the rows, through the queries, keys and values: the reference's result is the kernel's.
-/
module

public import proofs.«01_k».proof.Proof.QkvRows
public import proofs.«01_k».proof.Proof.Gen.QkvRowsRefIdeal.Read
public import proofs.«01_k».proof.Proof.Gen.QkvRowsIdeal.Frame
public import proofs.«01_k».proof.Defs
public import Idealize.ShloMosaic.Lib.Quiescent

@[expose] public section

set_option maxRecDepth 16384

noncomputable section

namespace Cert.QkvRowsRefIdeal.Agree

open Idealize.ShloMosaic Idealize.ShloMosaic.TcCoe Idealize.SL.Sem Cert.QkvRowsRefIdeal Cert.QkvRowsRefIdeal.Read

theorem v8_at (x0 : Vec Ideal S4096x2048 .bf16) (x1 : Vec Ideal S4096x512 .bf16) (x2 : Vec Ideal S4x512x2048 .bf16) (x3 : Vec Ideal S4x512x512 .bf16) (t : Fin 4096) (l : Fin 2048) :
    val_main_v8 (F := Ideal) x0 x1 x2 x3 (ix2 t l)
      = Ffn.dot (fun r => x0 (ix2 t r)) (fun r => x2 (ix3 ⟨l.val / 512, by omega⟩ ⟨l.val % 512, by omega⟩ r))
        + Ffn.dot (fun k => x1 (ix2 t k)) (fun k => x3 (ix3 ⟨l.val / 512, by omega⟩ ⟨l.val % 512, by omega⟩ k)) := by
  unfold Ffn.dot
  rw [add_comm]
  pointwise [val_main_v8, val_main_v7, val_main_v6, val_main_v5, val_main_v4, val_main_v3, val_main_v2, val_main_v1, val_main_v0]

/-- The reference leaves its arguments, and no counter raised. -/
theorem frame : quiescent_QkvRowsRefIdeal (hQkvRowsRefIdeal := Gen.facts) := fun m ρ _ =>
  (θ_run _ _ _).mono (fun r h => ⟨fun c => (h c).2, sem_eq_zero_of_no_sems (by decide) r.2⟩) (Value.run m ρ)

/-- From arguments that agree, both programs end with the sum of the two products. -/
theorem algebraic : algebraic_QkvRowsIdeal_QkvRowsRefIdeal (hQkvRowsIdeal := Cert.QkvRowsIdeal.Gen.facts) (hQkvRowsRefIdeal := Gen.facts) := by
  intro m ρ m' ρ' _ hag
  refine ⟨fun c => (Cert.QkvRowsIdeal.Gen.dats m 0 c).arrAt 4 Cert.QkvRowsIdeal.cfg0.N, Cert.QkvRowsIdeal.Value.run_blocks m ρ, ?_⟩
  refine (θ_run _ _ _).mono (fun r h c => ?_) (Value.run m' ρ')
  obtain ⟨e0, e1, e2, e3⟩ := hag c
  obtain ⟨r0, rest⟩ := h c
  refine ⟨r0.trans ?_, rest⟩
  rw [val_main_v8_eq, e0, e1, e2, e3]
  funext y
  obtain ⟨t, l, rfl⟩ : ∃ (t : Fin 4096) (l : Fin 2048), y = ix2 t l := ⟨y 0, y 1, eq_ix2 y⟩
  exact (v8_at _ _ _ _ t l).trans (Cert.QkvRowsIdeal.Body.val4 m c t l).symm

end Cert.QkvRowsRefIdeal.Agree
-- ==== Proof.Ple.lean ====
/-
  The per-layer embedding's product: what the call's three arrays hold.

  Each point stores 1024 rows of a chip's 512 columns: the rows coming in and the gated projection, the gate, and the
  projection.
-/
module

public import proofs.«01_k».proof.Proof.Gen.PleIdeal.Value
public import proofs.«01_k».proof.Proof.Blocks
public import Idealize.ShloMosaic.Lib.Pointwise
public import Idealize.ShloMosaic.Lib.Pipeline.ValueKit.Basic

@[expose] public section

set_option maxRecDepth 16384

noncomputable section

namespace Cert.PleIdeal.Body

open Cert.PleIdeal Cert.PleIdeal.Gen Idealize.ShloMosaic Idealize.ShloMosaic.TcCoe Idealize.SL.Sem

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = 0 ∧ win0_1.index t 2 = t.val % 4 :=
  (by decide +kernel : ∀ t : Fin grid0.N, win0_1.index t 0 = 0 ∧ win0_1.index t 1 = 0 ∧ win0_1.index t 2 = t.val % 4)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx3 : ∀ t : Fin cfg0.N, win0_3.index t 0 = t.val % 4 ∧ win0_3.index t 1 = 0 ∧ win0_3.index t 2 = 0 :=
  (by decide +kernel : ∀ t : Fin grid0.N, win0_3.index t 0 = t.val % 4 ∧ win0_3.index t 1 = 0 ∧ win0_3.index t 2 = 0)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)
theorem idx5 : ∀ t : Fin cfg0.N, win0_5.index t 0 = t.val / 4 ∧ win0_5.index t 1 = t.val % 4 := idx4
theorem idx6 : ∀ t : Fin cfg0.N, win0_6.index t 0 = t.val / 4 ∧ win0_6.index t 1 = t.val % 4 := idx4
theorem idx7 : ∀ t : Fin cfg0.N, win0_7.index t 0 = t.val / 4 ∧ win0_7.index t 1 = t.val % 4 := idx4

/-- The point that works on row `t` and column `l` of the results. -/
def pt (t : Fin 4096) (l : Fin 2048) : Fin cfg0.N := ⟨4 * (t.val / 1024) + l.val / 512, by show _ < grid0.N; rw [N_0]; omega⟩

theorem pt_row (t : Fin 4096) (l : Fin 2048) : (pt t l).val / 4 = t.val / 1024 := by
  show (4 * (t.val / 1024) + l.val / 512) / 4 = _; omega
theorem pt_col (t : Fin 4096) (l : Fin 2048) : (pt t l).val % 4 = l.val / 512 := by
  show (4 * (t.val / 1024) + l.val / 512) % 4 = _; omega

section
variable {F : FTy → Type} [FloatOps F]
variable (m : (ℓ : Loc nD τ sig) → Buf (Elt F) ℓ) (c : Dev nD) (t : Fin 4096) (l r : Fin 2048) (q : Fin 4) (j : Fin 512) (k : Fin 256)

theorem hBlk : iblk m c 0 (pt t l) (ix2 ⟨t.val % 1024, by omega⟩ r) = m (c.tc.loc main_arg1) (ix2 t r) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_0.index (pt t l) 0 * 1024 + 1 * (t.val % 1024) = t.val; rw [(idx0 _).1, pt_row]; omega
  | ⟨1, _⟩ => show win0_0.index (pt t l) 1 * 2048 + 1 * r.val = r.val; rw [(idx0 _).2]; omega

theorem wBlk : iblk m c 1 (pt t l) (ix3 q j ⟨l.val % 512, by omega⟩) = m (c.tc.loc main_arg3) (ix3 q j l) := by
  unfold iblk
  rw [View.read_apply]
  show V m c main_arg3 _ = m (c.tc.loc main_arg3) _
  rw [V_main_arg3]
  refine congrArg (m (c.tc.loc main_arg3)) (funext fun b => Fin.ext ?_)
  match b with
  | ⟨0, _⟩ => show win0_1.index (pt t l) 0 * 4 + 1 * q.val = q.val; rw [(idx1 _).1]; omega
  | ⟨1, _⟩ => show win0_1.index (pt t l) 1 * 512 + 1 * j.val = j.val; rw [(idx1 _).2.1]; omega
  | ⟨2, _⟩ => show win0_1.index (pt t l) 2 * 512 + 1 * (l.val % 512) = l.val; rw [(idx1 _).2.2, pt_col]; omega

theorem pBlk : iblk m c 2 (pt t l) (ix2 ⟨t.val % 1024, by omega⟩ k) = m (c.tc.loc main_arg2) (ix2 t k) := by
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_2.index (pt t l) 0 * 1024 + 1 * (t.val % 1024) = t.val; rw [(idx2 _).1, pt_row]; omega
  | ⟨1, _⟩ => show win0_2.index (pt t l) 1 * 256 + 1 * k.val = k.val; rw [(idx2 _).2]; omega

theorem uBlk : iblk m c 3 (pt t l) (ix3 0 k ⟨l.val % 512, by omega⟩) = m (c.tc.loc main_arg4) (ix3 ⟨l.val / 512, by omega⟩ k ⟨l.val % 512, by omega⟩) := by
  unfold iblk
  rw [View.read_apply]
  show V m c main_arg4 _ = m (c.tc.loc main_arg4) _
  rw [V_main_arg4]
  refine congrArg (m (c.tc.loc main_arg4)) (funext fun b => Fin.ext ?_)
  match b with
  | ⟨0, _⟩ => show win0_3.index (pt t l) 0 * 1 + 1 * 0 = l.val / 512; rw [(idx3 _).1, pt_col]; omega
  | ⟨1, _⟩ => show win0_3.index (pt t l) 1 * 256 + 1 * k.val = k.val; rw [(idx3 _).2.1]; omega
  | ⟨2, _⟩ => show win0_3.index (pt t l) 2 * 512 + 1 * (l.val % 512) = l.val % 512; rw [(idx3 _).2.2]; omega

theorem xBlk : iblk m c 4 (pt t l) (ix2 ⟨t.val % 1024, by omega⟩ ⟨l.val % 512, by omega⟩) = m (c.tc.loc main_arg0) (ix2 t l) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_4.index (pt t l) 0 * 1024 + 1 * (t.val % 1024) = t.val; rw [(idx4 _).1, pt_row]; omega
  | ⟨1, _⟩ => show win0_4.index (pt t l) 1 * 512 + 1 * (l.val % 512) = l.val; rw [(idx4 _).2, pt_col]; omega

section
variable (h : Vec F S1024x2048 .bf16) (w : Vec F S4x512x512 .bf16) (p : Vec F S1024x256 .f32) (u : Vec F S1x256x512 .bf16) (x : Vec F S1024x512 .f32)

theorem out5_eq : out0_5 h w p u x = k0_pay3 h w p u x := by
  unfold out0_5
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
theorem out6_eq : out0_6 h w p u x = k0_pay4 h w := by
  unfold out0_6
  rw [View.canon_cons_unit_lit _ _ _ (by decide), View.ld_unit_lit _ _ (by decide), View.ld_unit_lit _ _ (by decide)]
theorem out7_eq : out0_7 h w p u x = k0_pay5 p u := by
  unfold out0_7
  rw [View.canon_cons_unit_lit _ _ _ (by decide), View.ld_unit_lit _ _ (by decide), View.ld_unit_lit _ _ (by decide)]
end

/-! An element of each array is its block's. -/

theorem arr5 : (dats m 0 c).arrAt 5 cfg0.N (ix2 t l) = k0_pay3 (iblk m c 0 (pt t l)) (iblk m c 1 (pt t l)) (iblk m c 2 (pt t l)) (iblk m c 3 (pt t l)) (iblk m c 4 (pt t l))
    (ix2 ⟨t.val % 1024, by omega⟩ ⟨l.val % 512, by omega⟩) := by
  have h := congrFun ((Value.blocks5 m c (pt t l) (flush0_5 _)).trans (Value.flushed5 m c (pt t l))) (ix2 ⟨t.val % 1024, by omega⟩ ⟨l.val % 512, by omega⟩)
  rw [View.read_apply, out5_eq] at h
  refine Eq.trans (congrArg ((dats m 0 c).arrAt 5 cfg0.N) (funext fun b => Fin.ext ?_)) h
  match b with
  | ⟨0, _⟩ => show t.val = win0_5.index (pt t l) 0 * 1024 + 1 * (t.val % 1024); rw [(idx5 _).1, pt_row]; omega
  | ⟨1, _⟩ => show l.val = win0_5.index (pt t l) 1 * 512 + 1 * (l.val % 512); rw [(idx5 _).2, pt_col]; omega

theorem arr6 : (dats m 0 c).arrAt 6 cfg0.N (ix2 t l) = k0_pay4 (iblk m c 0 (pt t l)) (iblk m c 1 (pt t l))
    (ix2 ⟨t.val % 1024, by omega⟩ ⟨l.val % 512, by omega⟩) := by
  have h := congrFun ((Value.blocks6 m c (pt t l) (flush0_6 _)).trans (Value.flushed6 m c (pt t l))) (ix2 ⟨t.val % 1024, by omega⟩ ⟨l.val % 512, by omega⟩)
  rw [View.read_apply, out6_eq] at h
  refine Eq.trans (congrArg ((dats m 0 c).arrAt 6 cfg0.N) (funext fun b => Fin.ext ?_)) h
  match b with
  | ⟨0, _⟩ => show t.val = win0_6.index (pt t l) 0 * 1024 + 1 * (t.val % 1024); rw [(idx6 _).1, pt_row]; omega
  | ⟨1, _⟩ => show l.val = win0_6.index (pt t l) 1 * 512 + 1 * (l.val % 512); rw [(idx6 _).2, pt_col]; omega

theorem arr7 : (dats m 0 c).arrAt 7 cfg0.N (ix2 t l) = k0_pay5 (iblk m c 2 (pt t l)) (iblk m c 3 (pt t l))
    (ix2 ⟨t.val % 1024, by omega⟩ ⟨l.val % 512, by omega⟩) := by
  have h := congrFun ((Value.blocks7 m c (pt t l) (flush0_7 _)).trans (Value.flushed7 m c (pt t l))) (ix2 ⟨t.val % 1024, by omega⟩ ⟨l.val % 512, by omega⟩)
  rw [View.read_apply, out7_eq] at h
  refine Eq.trans (congrArg ((dats m 0 c).arrAt 7 cfg0.N) (funext fun b => Fin.ext ?_)) h
  match b with
  | ⟨0, _⟩ => show t.val = win0_7.index (pt t l) 0 * 1024 + 1 * (t.val % 1024); rw [(idx7 _).1, pt_row]; omega
  | ⟨1, _⟩ => show l.val = win0_7.index (pt t l) 1 * 512 + 1 * (l.val % 512); rw [(idx7 _).2, pt_col]; omega

end

section
variable (h : Vec Ideal S1024x2048 .bf16) (w : Vec Ideal S4x512x512 .bf16) (p : Vec Ideal S1024x256 .f32) (u : Vec Ideal S1x256x512 .bf16)
  (x : Vec Ideal S1024x512 .f32) (i : Fin 1024) (l : Fin 512)

theorem pay4_at : k0_pay4 h w (ix2 i l)
    = Ideal.logistic (Ffn.dot (fun r => h (ix2 i r)) (fun r => w (ix3 ⟨r.val / 512, by omega⟩ ⟨r.val % 512, by omega⟩ l))) := by
  unfold Ffn.dot
  pointwise [k0_pay4, k0_pay2]
theorem pay5_at : k0_pay5 p u (ix2 i l) = Ffn.dot (fun k => p (ix2 i k)) (fun k => u (ix3 0 k l)) := by
  unfold Ffn.dot
  pointwise [k0_pay5, k0_pay1]
theorem pay3_at : k0_pay3 h w p u x (ix2 i l) = x (ix2 i l)
    + Ideal.logistic (Ffn.dot (fun r => h (ix2 i r)) (fun r => w (ix3 ⟨r.val / 512, by omega⟩ ⟨r.val % 512, by omega⟩ l)))
      * Ffn.dot (fun k => p (ix2 i k)) (fun k => u (ix3 0 k l)) := by
  unfold Ffn.dot
  pointwise [k0_pay3, k0_pay2, k0_pay1]
end

variable (m : (ℓ : Loc nD τ sig) → Buf (Elt Ideal) ℓ) (c : Dev nD) (t : Fin 4096) (l : Fin 2048)

/-- The gate before its activation, -/
def gate : EReal := Ffn.dot (fun r => m (c.tc.loc main_arg1) (ix2 t r)) (fun r => m (c.tc.loc main_arg3) (ix3 ⟨r.val / 512, by omega⟩ ⟨r.val % 512, by omega⟩ l))
/-- and the projection. -/
def proj : EReal := Ffn.dot (fun k => m (c.tc.loc main_arg2) (ix2 t k)) (fun k => m (c.tc.loc main_arg4) (ix3 ⟨l.val / 512, by omega⟩ k ⟨l.val % 512, by omega⟩))

theorem val6 : (dats m 0 c).arrAt 6 cfg0.N (ix2 t l) = Ideal.logistic (gate m c t l) :=
  (arr6 m c t l).trans ((pay4_at _ _ _ _).trans (congrArg Ideal.logistic (Ffn.dot_congr (hBlk m c t l) (fun _ => wBlk m c t l _ _))))
theorem val7 : (dats m 0 c).arrAt 7 cfg0.N (ix2 t l) = proj m c t l :=
  (arr7 m c t l).trans ((pay5_at _ _ _ _).trans (Ffn.dot_congr (pBlk m c t l) (uBlk m c t l)))
theorem val5 : (dats m 0 c).arrAt 5 cfg0.N (ix2 t l)
    = (fun a b : EReal => a + b) (m (c.tc.loc main_arg0) (ix2 t l)) (Ideal.logistic (gate m c t l) * proj m c t l) :=
  (arr5 m c t l).trans ((pay3_at _ _ _ _ _ _ _).trans (congrArg₂ (fun a b : EReal => a + b) (xBlk m c t l)
    (congrArg₂ (fun a b : EReal => a * b) (congrArg Ideal.logistic (Ffn.dot_congr (hBlk m c t l) (fun _ => wBlk m c t l _ _)))
      (Ffn.dot_congr (pBlk m c t l) (uBlk m c t l)))))

end Cert.PleIdeal.Body
-- ==== Proof.PleAgree.lean ====
/-
  The per-layer embedding's product: the reference's results are the kernel's.
-/
module

public import proofs.«01_k».proof.Proof.Ple
public import proofs.«01_k».proof.Proof.Gen.PleRefIdeal.Read
public import proofs.«01_k».proof.Proof.Gen.PleIdeal.Frame
public import proofs.«01_k».proof.Defs
public import Idealize.ShloMosaic.Lib.Quiescent

@[expose] public section

set_option maxRecDepth 16384

noncomputable section

namespace Cert.PleRefIdeal.Agree

open Idealize.ShloMosaic Idealize.ShloMosaic.TcCoe Idealize.SL.Sem Cert.PleRefIdeal Cert.PleRefIdeal.Read

section
variable (x0 : Vec Ideal S4096x2048 .f32) (x1 : Vec Ideal S4096x2048 .bf16) (x2 : Vec Ideal S4096x256 .f32) (x3 : Vec Ideal S4x512x2048 .bf16)
  (x4 : Vec Ideal S4x256x512 .bf16) (t : Fin 4096) (l : Fin 2048)

/-- The reference's gate, -/
theorem v12_at : val_main_v12 (F := Ideal) x1 x3 (ix2 t l)
    = Ideal.logistic (Ffn.dot (fun r => x1 (ix2 t r)) (fun r => x3 (ix3 ⟨r.val / 512, by omega⟩ ⟨r.val % 512, by omega⟩ l))) := by
  unfold Ffn.dot
  pointwise [val_main_v12, val_main_v11, val_main_v10, val_main_v9, val_main_v8, val_main_v7, val_main_v6, val_main_v4, val_main_v3, val_main_v0, val_main_cst, val_main_cst_0]
  rfl
/-- its projection -/
theorem v13_at : val_main_v13 (F := Ideal) x2 x4 (ix2 t l)
    = Ffn.dot (fun k => x2 (ix2 t k)) (fun k => x4 (ix3 ⟨l.val / 512, by omega⟩ k ⟨l.val % 512, by omega⟩)) := by
  unfold Ffn.dot
  pointwise [val_main_v13, val_main_v5, val_main_v2, val_main_v1]
/-- and its rows. -/
theorem v15_at : val_main_v15 (F := Ideal) x0 x1 x2 x3 x4 (ix2 t l)
    = x0 (ix2 t l) + val_main_v12 (F := Ideal) x1 x3 (ix2 t l) * val_main_v13 (F := Ideal) x2 x4 (ix2 t l) := by
  pointwise [val_main_v15, val_main_v14]
end

/-- The reference leaves its arguments, and no counter raised. -/
theorem frame : quiescent_PleRefIdeal (hPleRefIdeal := Gen.facts) := fun m ρ _ =>
  (θ_run _ _ _).mono (fun r h => ⟨fun c => (h c).2.2.2, sem_eq_zero_of_no_sems (by decide) r.2⟩) (Value.run m ρ)

/-- From arguments that agree, both programs end with the rows, the gate and the projection. -/
theorem algebraic : algebraic_PleIdeal_PleRefIdeal (hPleIdeal := Cert.PleIdeal.Gen.facts) (hPleRefIdeal := Gen.facts) := by
  intro m ρ m' ρ' _ hag
  refine ⟨fun c => (Cert.PleIdeal.Gen.dats m 0 c).arrAt 5 Cert.PleIdeal.cfg0.N, fun c => (Cert.PleIdeal.Gen.dats m 0 c).arrAt 6 Cert.PleIdeal.cfg0.N,
    fun c => (Cert.PleIdeal.Gen.dats m 0 c).arrAt 7 Cert.PleIdeal.cfg0.N, Cert.PleIdeal.Value.run_blocks m ρ, ?_⟩
  refine (θ_run _ _ _).mono (fun r h c => ?_) (Value.run m' ρ')
  obtain ⟨e0, e1, e2, e3, e4⟩ := hag c
  obtain ⟨r0, r1, r2, rest⟩ := h c
  refine ⟨r0.trans ?_, r1.trans ?_, r2.trans ?_, rest⟩
  · rw [val_main_v15_eq, e0, e1, e2, e3, e4]
    funext y
    obtain ⟨t, l, rfl⟩ : ∃ (t : Fin 4096) (l : Fin 2048), y = ix2 t l := ⟨y 0, y 1, eq_ix2 y⟩
    rw [v15_at, v12_at, v13_at]
    exact (Cert.PleIdeal.Body.val5 m c t l).symm
  · rw [val_main_v16_eq, e1, e3]
    funext y
    obtain ⟨t, l, rfl⟩ : ∃ (t : Fin 4096) (l : Fin 2048), y = ix2 t l := ⟨y 0, y 1, eq_ix2 y⟩
    exact (v12_at _ _ t l).trans (Cert.PleIdeal.Body.val6 m c t l).symm
  · rw [val_main_v17_eq, e2, e4]
    funext y
    obtain ⟨t, l, rfl⟩ : ∃ (t : Fin 4096) (l : Fin 2048), y = ix2 t l := ⟨y 0, y 1, eq_ix2 y⟩
    exact (v13_at _ _ t l).trans (Cert.PleIdeal.Body.val7 m c t l).symm

end Cert.PleRefIdeal.Agree
-- ==== Proof.Project.lean ====
/-
  The attention's output projection: what the call's array holds.

  Each point stores 512 rows of 1024 columns: the rows coming in, the product with the chips' weights, and the bias.
-/
module

public import proofs.«01_k».proof.Proof.Gen.ProjectIdeal.Value
public import proofs.«01_k».proof.Proof.Blocks
public import Idealize.ShloMosaic.Lib.Pointwise
public import Idealize.ShloMosaic.Lib.Pipeline.ValueKit.Basic

@[expose] public section

set_option maxRecDepth 16384

noncomputable section

namespace Cert.ProjectIdeal.Body

open Cert.ProjectIdeal Cert.ProjectIdeal.Gen Idealize.ShloMosaic Idealize.ShloMosaic.TcCoe Idealize.SL.Sem

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
theorem idx3 : ∀ t : Fin cfg0.N, win0_3.index t 0 = 0 ∧ win0_3.index t 1 = t.val / 8 :=
  (by decide +kernel : ∀ t : Fin grid0.N, win0_3.index t 0 = 0 ∧ win0_3.index t 1 = t.val / 8)
theorem idx4 : ∀ t : Fin cfg0.N, win0_4.index t 0 = t.val % 8 ∧ win0_4.index t 1 = t.val / 8 := idx2

/-- The point that works on row `t` and column `l` of the result. -/
def pt (t : Fin 4096) (l : Fin 2048) : Fin cfg0.N := ⟨8 * (l.val / 1024) + t.val / 512, by show _ < grid0.N; rw [N_0]; omega⟩

theorem pt_row (t : Fin 4096) (l : Fin 2048) : (pt t l).val % 8 = t.val / 512 := by
  show (8 * (l.val / 1024) + t.val / 512) % 8 = _; omega
theorem pt_col (t : Fin 4096) (l : Fin 2048) : (pt t l).val / 8 = l.val / 1024 := by
  show (8 * (l.val / 1024) + t.val / 512) / 8 = _; omega

section
variable {F : FTy → Type} [FloatOps F]
variable (m : (ℓ : Loc nD τ sig) → Buf (Elt F) ℓ) (c : Dev nD) (t : Fin 4096) (l r : Fin 2048) (q : Fin 4) (j : Fin 512)

theorem oBlk : iblk m c 0 (pt t l) (ix2 ⟨t.val % 512, by omega⟩ r) = m (c.tc.loc main_arg1) (ix2 t r) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_0.index (pt t l) 0 * 512 + 1 * (t.val % 512) = t.val; rw [(idx0 _).1, pt_row]; omega
  | ⟨1, _⟩ => show win0_0.index (pt t l) 1 * 2048 + 1 * r.val = r.val; rw [(idx0 _).2]; omega

theorem wBlk : iblk m c 1 (pt t l) (ix3 q j ⟨l.val % 1024, by omega⟩) = m (c.tc.loc main_arg2) (ix3 q j l) := by
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_1.index (pt t l) 0 * 4 + 1 * q.val = q.val; rw [(idx1 _).1]; omega
  | ⟨1, _⟩ => show win0_1.index (pt t l) 1 * 512 + 1 * j.val = j.val; rw [(idx1 _).2.1]; omega
  | ⟨2, _⟩ => show win0_1.index (pt t l) 2 * 1024 + 1 * (l.val % 1024) = l.val; rw [(idx1 _).2.2, pt_col]; omega

theorem xBlk : iblk m c 2 (pt t l) (ix2 ⟨t.val % 512, by omega⟩ ⟨l.val % 1024, by omega⟩) = m (c.tc.loc main_arg0) (ix2 t l) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_2.index (pt t l) 0 * 512 + 1 * (t.val % 512) = t.val; rw [(idx2 _).1, pt_row]; omega
  | ⟨1, _⟩ => show win0_2.index (pt t l) 1 * 1024 + 1 * (l.val % 1024) = l.val; rw [(idx2 _).2, pt_col]; omega

theorem bBlk : iblk m c 3 (pt t l) (ix2 0 ⟨l.val % 1024, by omega⟩) = m (c.tc.loc main_arg3) (ix2 0 l) := by
  unfold iblk
  rw [View.read_apply]
  show V m c main_arg3 _ = m (c.tc.loc main_arg3) _
  rw [V_main_arg3]
  refine congrArg (m (c.tc.loc main_arg3)) (funext fun b => Fin.ext ?_)
  match b with
  | ⟨0, _⟩ => show win0_3.index (pt t l) 0 * 1 + 1 * 0 = 0; rw [(idx3 _).1]
  | ⟨1, _⟩ => show win0_3.index (pt t l) 1 * 1024 + 1 * (l.val % 1024) = l.val; rw [(idx3 _).2, pt_col]; omega

theorem out_eq (o : Vec F S512x2048 .bf16) (w : Vec F S4x512x1024 .bf16) (x : Vec F S512x1024 .f32) (b : Vec F S1x1024 .f32) : out0_4 o w x b = k0_pay1 o w x b := by
  unfold out0_4
  rw [View.canon_cons_unit_lit _ _ _ (by decide), View.ld_unit_lit _ _ (by decide), View.ld_unit_lit _ _ (by decide),
    View.ld_unit_lit _ _ (by decide), View.ld_unit_lit _ _ (by decide)]

/-- An element of the array is its block's. -/
theorem arr4 : (dats m 0 c).arrAt 4 cfg0.N (ix2 t l) = k0_pay1 (iblk m c 0 (pt t l)) (iblk m c 1 (pt t l)) (iblk m c 2 (pt t l)) (iblk m c 3 (pt t l))
    (ix2 ⟨t.val % 512, by omega⟩ ⟨l.val % 1024, by omega⟩) := by
  have h := congrFun ((Value.blocks4 m c (pt t l) (flush0_4 _)).trans (Value.flushed4 m c (pt t l))) (ix2 ⟨t.val % 512, by omega⟩ ⟨l.val % 1024, by omega⟩)
  rw [View.read_apply, out_eq] at h
  refine Eq.trans (congrArg ((dats m 0 c).arrAt 4 cfg0.N) (funext fun b => Fin.ext ?_)) h
  match b with
  | ⟨0, _⟩ => show t.val = win0_4.index (pt t l) 0 * 512 + 1 * (t.val % 512); rw [(idx4 _).1, pt_row]; omega
  | ⟨1, _⟩ => show l.val = win0_4.index (pt t l) 1 * 1024 + 1 * (l.val % 1024); rw [(idx4 _).2, pt_col]; omega
end

theorem pay_at (o : Vec Ideal S512x2048 .bf16) (w : Vec Ideal S4x512x1024 .bf16) (x : Vec Ideal S512x1024 .f32) (b : Vec Ideal S1x1024 .f32)
    (i : Fin 512) (p : Fin 1024) : k0_pay1 o w x b (ix2 i p)
      = x (ix2 i p) + Ffn.dot (fun r => o (ix2 i r)) (fun r => w (ix3 ⟨r.val / 512, by omega⟩ ⟨r.val % 512, by omega⟩ p)) + b (ix2 0 p) := by
  unfold Ffn.dot
  pointwise [k0_pay1]

/-- The result is the rows, the product with the chips' weights one above the other, and the bias. -/
theorem val4 (m : (ℓ : Loc nD τ sig) → Buf (Elt Ideal) ℓ) (c : Dev nD) (t : Fin 4096) (l : Fin 2048) :
    (dats m 0 c).arrAt 4 cfg0.N (ix2 t l) = (fun x b : EReal => x + Ffn.dot (fun r => m (c.tc.loc main_arg1) (ix2 t r))
      (fun r => m (c.tc.loc main_arg2) (ix3 ⟨r.val / 512, by omega⟩ ⟨r.val % 512, by omega⟩ l)) + b) (m (c.tc.loc main_arg0) (ix2 t l)) (m (c.tc.loc main_arg3) (ix2 0 l)) :=
  (arr4 m c t l).trans ((pay_at _ _ _ _ _ _).trans (congrArg₂ (fun a b : EReal => a + b)
    (congrArg₂ (fun a b : EReal => a + b) (xBlk m c t l) (Ffn.dot_congr (oBlk m c t l) (fun _ => wBlk m c t l _ _))) (bBlk m c t l)))

end Cert.ProjectIdeal.Body
-- ==== Proof.ProjectAgree.lean ====
/-
  The attention's output projection: the reference's result is the kernel's.
-/
module

public import proofs.«01_k».proof.Proof.Project
public import proofs.«01_k».proof.Proof.Gen.ProjectRefIdeal.Read
public import proofs.«01_k».proof.Proof.Gen.ProjectIdeal.Frame
public import proofs.«01_k».proof.Defs
public import Idealize.ShloMosaic.Lib.Quiescent

@[expose] public section

set_option maxRecDepth 16384

noncomputable section

namespace Cert.ProjectRefIdeal.Agree

open Idealize.ShloMosaic Idealize.ShloMosaic.TcCoe Idealize.SL.Sem Cert.ProjectRefIdeal Cert.ProjectRefIdeal.Read

theorem v6_at (x0 : Vec Ideal S4096x2048 .f32) (x1 : Vec Ideal S4096x2048 .bf16) (x2 : Vec Ideal S4x512x2048 .bf16) (x3 : Vec Ideal S1x2048 .f32)
    (t : Fin 4096) (l : Fin 2048) : val_main_v6 (F := Ideal) x0 x1 x2 x3 (ix2 t l)
      = x0 (ix2 t l) + Ffn.dot (fun r => x1 (ix2 t r)) (fun r => x2 (ix3 ⟨r.val / 512, by omega⟩ ⟨r.val % 512, by omega⟩ l)) + x3 (ix2 0 l) := by
  unfold Ffn.dot
  pointwise [val_main_v6, val_main_v5, val_main_v4, val_main_v3, val_main_v2, val_main_v1, val_main_v0]
  exact (add_assoc _ _ _).symm

/-- The reference leaves its arguments, and no counter raised. -/
theorem frame : quiescent_ProjectRefIdeal (hProjectRefIdeal := Gen.facts) := fun m ρ _ =>
  (θ_run _ _ _).mono (fun r h => ⟨fun c => (h c).2, sem_eq_zero_of_no_sems (by decide) r.2⟩) (Value.run m ρ)

/-- From arguments that agree, both programs end with the projected rows. -/
theorem algebraic : algebraic_ProjectIdeal_ProjectRefIdeal (hProjectIdeal := Cert.ProjectIdeal.Gen.facts) (hProjectRefIdeal := Gen.facts) := by
  intro m ρ m' ρ' _ hag
  refine ⟨fun c => (Cert.ProjectIdeal.Gen.dats m 0 c).arrAt 4 Cert.ProjectIdeal.cfg0.N, Cert.ProjectIdeal.Value.run_blocks m ρ, ?_⟩
  refine (θ_run _ _ _).mono (fun r h c => ?_) (Value.run m' ρ')
  obtain ⟨e0, e1, e2, e3⟩ := hag c
  obtain ⟨r0, rest⟩ := h c
  refine ⟨r0.trans ?_, rest⟩
  rw [val_main_v6_eq, e0, e1, e2, e3]
  funext y
  obtain ⟨t, l, rfl⟩ : ∃ (t : Fin 4096) (l : Fin 2048), y = ix2 t l := ⟨y 0, y 1, eq_ix2 y⟩
  exact (v6_at _ _ _ _ t l).trans (Cert.ProjectIdeal.Body.val4 m c t l).symm

end Cert.ProjectRefIdeal.Agree
-- ==== Proof.KvGrad.lean ====
/-
  The gradient of a key and value weight, whose rows the chips share: what the call's array holds.

  A block of the result is accumulated over two points: the first stores the product over the first 2048 rows, the
  second adds the product over the last 2048 and writes the block back.
-/
module

public import proofs.«01_k».proof.Proof.Gen.KvGradIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.KvGradIdeal.Body

open Cert.KvGradIdeal Cert.KvGradIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first point of a block leaves in the sum -/
theorem first (t : Fin cfg0.N) (h : t.val % 2 = 0) :
    (outsAt0 m c t.val t.isLt).2 = k0_pay1 (iblk m c 0 t) (iblk m c 1 t) := by
  rw [outsAt0_A m c t h (by omega) (by omega)]
  dsimp only
  unfold sout0_A_0
  dsimp only [kernelRun0_A]
  refine (View.read_writes_full ..).trans ?_
  rw [View.readAt_full, View.readAt_full, (hs0_0 t).read_unread, (hs0_1 t).read_unread]

/-- and what the second leaves in the block. -/
theorem second (t : Fin cfg0.N) (h : t.val % 2 = 1) :
    (outsAt0 m c t.val t.isLt).1 = k0_pay3 (k0_pay2 (outsAt0 m c (t.val - 1) (Nat.lt_of_le_of_lt (Nat.sub_le _ _) t.isLt)).2
      (iblk m c 0 t) (iblk m c 1 t)) := by
  rw [outsAt0_B m c t (by omega) h h]
  dsimp only
  unfold out0_B_2
  dsimp only [kernelRun0_B]
  refine (View.read_writes_full ..).trans ?_
  refine congrArg k0_pay3 ((View.readCov_full ..).trans ?_)
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val % 2 ∧ win0_0.index t 1 = t.val / 2 :=
  (by decide +kernel : ∀ t : Fin grid0.N, win0_0.index t 0 = t.val % 2 ∧ win0_0.index t 1 = t.val / 2)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)

/-- The point that works on half `a` of the rows for chip `q`. -/
def pt (q : Fin 4) (a : Fin 2) : Fin cfg0.N :=
  ⟨2 * q.val + a.val, by show _ < grid0.N; rw [N_0]; omega⟩

variable (q : Fin 4) (j : Fin 512) (k : Fin 512) (a : Fin 2) (r : Fin 2048)

theorem fBlk : iblk m c 0 (pt q a) (ix2 r j) = m (c.tc.loc main_arg0) (ix2 (Ffn.row a r) (Ffn.blk (n := 4) (k := 512) (N := 2048) (by decide) q j)) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt q a) 0 * 2048 + 1 * r.val = 2048 * a.val + r.val
    rw [(idx0 _).1]; show (2 * q.val + a.val) % 2 * 2048 + _ = _; omega
  | ⟨1, _⟩ =>
    show win0_0.index (pt q a) 1 * 512 + 1 * j.val = 512 * q.val + j.val
    rw [(idx0 _).2]; show (2 * q.val + a.val) / 2 * 512 + _ = _; omega

theorem dBlk : iblk m c 1 (pt q a) (ix2 r k) = m (c.tc.loc main_arg1) (ix2 (Ffn.row a r) k) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ =>
    show win0_1.index (pt q a) 0 * 2048 + 1 * r.val = 2048 * a.val + r.val
    rw [(idx1 _).1]; show (2 * q.val + a.val) % 2 * 2048 + _ = _; omega
  | ⟨1, _⟩ =>
    show win0_1.index (pt q a) 1 * 512 + 1 * k.val = k.val
    rw [(idx1 _).2]; omega

/-- An element of the array is its block's, after the second point. -/
theorem arr2 : (dats m 0 c).arrAt 2 cfg0.N (ix3 q j k)
    = (outsAt0 m c (pt q 1).val (pt q 1).isLt).1 (ix3 0 j k) := by
  have hp : Value.pt2Of (ix3 q j k) = (pt q 1).val := by
    show 2 * (1 * (q.val / 1 - 0) + 1 * (j.val / 512 - 0) + 1 * (k.val / 512 - 0)) + 1 = 2 * q.val + 1
    omega
  rw [Value.final2, Value.G2, dif_pos (by rw [hp]; exact (pt q 1).isLt), Value.outsAt0_sweep,
    Value.fold0_congr m c _ _ (pt q 1).val (by have := (pt q 1).isLt; omega) hp]
  refine congrArg _ (funext fun b => Fin.ext ?_)
  match b with
  | ⟨0, _⟩ => show q.val % 1 = 0; omega
  | ⟨1, _⟩ => show j.val % 512 = j.val; omega
  | ⟨2, _⟩ => show k.val % 512 = k.val; omega

/-- What the block holds after its two points. -/
theorem both : (outsAt0 m c (pt q 1).val (pt q 1).isLt).1
    = k0_pay3 (k0_pay2 (k0_pay1 (iblk m c 0 (pt q 0)) (iblk m c 1 (pt q 0))) (iblk m c 0 (pt q 1)) (iblk m c 1 (pt q 1))) := by
  rw [← first m c (pt q 0) (by show (2 * q.val + 0) % 2 = 0; omega)]
  exact second m c _ (by show (2 * q.val + 1) % 2 = 1; omega)

end

/-! ### Over the extended reals -/

section
variable (x x' : Vec Ideal S2048x512 .bf16) (y y' : Vec Ideal S2048x512 .bf16) (j : Fin 512) (p : Fin 512)

theorem pay_at : k0_pay3 (k0_pay2 (k0_pay1 x y) x' y') (ix3 0 j p)
    = Ffn.dot (fun r => x (ix2 r j)) (fun r => y (ix2 r p)) + Ffn.dot (fun r => x' (ix2 r j)) (fun r => y' (ix2 r p)) := by
  unfold Ffn.dot
  pointwise [k0_pay3, k0_pay2, k0_pay1]
end

/-- The result is the product over the rows. -/
theorem val2 (m : (ℓ : Loc nD τ sig) → Buf (Elt Ideal) ℓ) (c : Dev nD) (q : Fin 4) (j : Fin 512) (k : Fin 512) :
    (dats m 0 c).arrAt 2 cfg0.N (ix3 q j k)
      = Ffn.dot (fun t => m (c.tc.loc main_arg0) (ix2 t (Ffn.blk (n := 4) (k := 512) (N := 2048) (by decide) q j))) (fun t => m (c.tc.loc main_arg1) (ix2 t k)) := by
  rw [arr2, both, pay_at, Ffn.dot_halves]
  exact congrArg₂ (fun a b : EReal => a + b)
    (Ffn.dot_congr (fBlk m c q j 0) (dBlk m c q k 0)) (Ffn.dot_congr (fBlk m c q j 1) (dBlk m c q k 1))

end Cert.KvGradIdeal.Body
-- ==== Proof.KvGradAgree.lean ====
/-
  The gradient of a key and value weight, whose rows the chips share: the reference's result is the kernel's.
-/
module

public import proofs.«01_k».proof.Proof.KvGrad
public import proofs.«01_k».proof.Proof.Gen.KvGradRefIdeal.Read
public import proofs.«01_k».proof.Proof.Gen.KvGradIdeal.Frame
public import proofs.«01_k».proof.Defs
public import Idealize.ShloMosaic.Lib.Quiescent

@[expose] public section

set_option maxRecDepth 16384

noncomputable section

namespace Cert.KvGradRefIdeal.Agree

open Idealize.ShloMosaic Idealize.ShloMosaic.TcCoe Idealize.SL.Sem Cert.KvGradRefIdeal Cert.KvGradRefIdeal.Read

theorem v5_at (x0 : Vec Ideal S4096x2048 .bf16) (x1 : Vec Ideal S4096x512 .bf16) (q : Fin 4) (j : Fin 512) (k : Fin 512) :
    val_main_v5 (F := Ideal) x0 x1 (ix3 q j k)
      = Ffn.dot (fun t => x0 (ix2 t (Ffn.blk (n := 4) (k := 512) (N := 2048) (by decide) q j))) (fun t => x1 (ix2 t k)) := by
  have e : Ffn.blk (n := 4) (k := 512) (N := 2048) (by decide) q j = ⟨q.val * 512 + j.val, by omega⟩ := Ffn.blk_eq _ _ _ _
  rw [Ffn.dot_comm, e]
  unfold Ffn.dot
  pointwise [val_main_v5, val_main_v4, val_main_v3, val_main_v2, val_main_v1, val_main_v0]

/-- The reference leaves its arguments, and no counter raised. -/
theorem frame : quiescent_KvGradRefIdeal (hKvGradRefIdeal := Gen.facts) := fun m ρ _ =>
  (θ_run _ _ _).mono (fun r h => ⟨fun c => (h c).2, sem_eq_zero_of_no_sems (by decide) r.2⟩) (Value.run m ρ)

/-- From arguments that agree, both programs end with the weight's gradient. -/
theorem algebraic : algebraic_KvGradIdeal_KvGradRefIdeal (hKvGradIdeal := Cert.KvGradIdeal.Gen.facts) (hKvGradRefIdeal := Gen.facts) := by
  intro m ρ m' ρ' _ hag
  refine ⟨fun c => (Cert.KvGradIdeal.Gen.dats m 0 c).arrAt 2 Cert.KvGradIdeal.cfg0.N, Cert.KvGradIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v5_eq, e0, e1]
  funext y
  obtain ⟨q, j, k, rfl⟩ : ∃ (q : Fin 4) (j : Fin 512) (k : Fin 512), y = ix3 q j k := ⟨y 0, y 1, y 2, eq_ix3 y⟩
  exact (v5_at _ _ q j k).trans (Cert.KvGradIdeal.Body.val2 m c q j k).symm

end Cert.KvGradRefIdeal.Agree
-- ==== Proof.EmbedSlope.lean ====
/-
  The gradients of the per-layer embedding's gate and projection: what the call's two arrays hold.

  Each point stores 512 rows of both, from the incoming gradient, the gate and the projection.
-/
module

public import proofs.«01_k».proof.Proof.Gen.EmbedSlopeIdeal.Value
public import proofs.«01_k».proof.Proof.Blocks
public import Idealize.ShloMosaic.Lib.Pointwise
public import Idealize.ShloMosaic.Lib.Pipeline.ValueKit.Basic

@[expose] public section

set_option maxRecDepth 16384

noncomputable section

namespace Cert.EmbedSlopeIdeal.Body

open Cert.EmbedSlopeIdeal Cert.EmbedSlopeIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 := idx0
theorem idx2 : ∀ t : Fin cfg0.N, win0_2.index t 0 = t.val ∧ win0_2.index t 1 = 0 := idx0
theorem idx3 : ∀ t : Fin cfg0.N, win0_3.index t 0 = t.val ∧ win0_3.index t 1 = 0 := idx0
theorem idx4 : ∀ t : Fin cfg0.N, win0_4.index t 0 = t.val ∧ win0_4.index t 1 = 0 := idx0

/-- The point that works on row `t`. -/
def pt (t : Fin 4096) : Fin cfg0.N := ⟨t.val / 512, by show _ < grid0.N; rw [N_0]; omega⟩

section
variable {F : FTy → Type} [FloatOps F]
variable (m : (ℓ : Loc nD τ sig) → Buf (Elt F) ℓ) (c : Dev nD) (t : Fin 4096) (l : Fin 2048)

theorem dBlk : iblk m c 0 (pt t) (ix2 ⟨t.val % 512, by omega⟩ l) = m (c.tc.loc main_arg2) (ix2 t l) := by
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_0.index (pt t) 0 * 512 + 1 * (t.val % 512) = t.val; rw [(idx0 _).1]; show t.val / 512 * 512 + _ = _; omega
  | ⟨1, _⟩ => show win0_0.index (pt t) 1 * 2048 + 1 * l.val = l.val; rw [(idx0 _).2]; omega

theorem pBlk : iblk m c 2 (pt t) (ix2 ⟨t.val % 512, by omega⟩ l) = m (c.tc.loc main_arg1) (ix2 t l) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_2.index (pt t) 0 * 512 + 1 * (t.val % 512) = t.val; rw [(idx2 _).1]; show t.val / 512 * 512 + _ = _; omega
  | ⟨1, _⟩ => show win0_2.index (pt t) 1 * 2048 + 1 * l.val = l.val; rw [(idx2 _).2]; omega

theorem sBlk : iblk m c 1 (pt t) (ix2 ⟨t.val % 512, by omega⟩ l) = V m c main_v6 (ix2 t l) := by
  unfold iblk
  rw [View.read_apply]
  show V m c main_v6 _ = V m c main_v6 _
  refine congrArg (V m c main_v6) (funext fun b => Fin.ext ?_)
  match b with
  | ⟨0, _⟩ => show win0_1.index (pt t) 0 * 512 + 1 * (t.val % 512) = t.val; rw [(idx1 _).1]; show t.val / 512 * 512 + _ = _; omega
  | ⟨1, _⟩ => show win0_1.index (pt t) 1 * 2048 + 1 * l.val = l.val; rw [(idx1 _).2]; omega

section
variable (d : Vec F S512x2048 .f32) (s p : Vec F S512x2048 .bf16)

theorem out3_eq : out0_3 d s p = k0_pay2 d s := by
  unfold out0_3
  rw [View.canon_cons_unit_lit _ _ _ (by decide), View.ld_unit_lit _ _ (by decide), View.ld_unit_lit _ _ (by decide)]
theorem out4_eq : out0_4 d s p = k0_pay3 d s p := by
  unfold out0_4
  rw [View.canon_cons_unit_lit _ _ _ (by decide), View.ld_unit_lit _ _ (by decide), View.ld_unit_lit _ _ (by decide), View.ld_unit_lit _ _ (by decide)]
end

/-! An element of each array is its block's. -/

theorem arr3 : (dats m 0 c).arrAt 3 cfg0.N (ix2 t l) = k0_pay2 (iblk m c 0 (pt t)) (iblk m c 1 (pt t)) (ix2 ⟨t.val % 512, by omega⟩ l) := by
  have h := congrFun ((Value.blocks3 m c (pt t) (flush0_3 _)).trans (Value.flushed3 m c (pt t))) (ix2 ⟨t.val % 512, by omega⟩ l)
  rw [View.read_apply, out3_eq] at h
  refine Eq.trans (congrArg ((dats m 0 c).arrAt 3 cfg0.N) (funext fun b => Fin.ext ?_)) h
  match b with
  | ⟨0, _⟩ => show t.val = win0_3.index (pt t) 0 * 512 + 1 * (t.val % 512); rw [(idx3 _).1]; show _ = t.val / 512 * 512 + _; omega
  | ⟨1, _⟩ => show l.val = win0_3.index (pt t) 1 * 2048 + 1 * l.val; rw [(idx3 _).2]; omega

theorem arr4 : (dats m 0 c).arrAt 4 cfg0.N (ix2 t l) = k0_pay3 (iblk m c 0 (pt t)) (iblk m c 1 (pt t)) (iblk m c 2 (pt t)) (ix2 ⟨t.val % 512, by omega⟩ l) := by
  have h := congrFun ((Value.blocks4 m c (pt t) (flush0_4 _)).trans (Value.flushed4 m c (pt t))) (ix2 ⟨t.val % 512, by omega⟩ l)
  rw [View.read_apply, out4_eq] at h
  refine Eq.trans (congrArg ((dats m 0 c).arrAt 4 cfg0.N) (funext fun b => Fin.ext ?_)) h
  match b with
  | ⟨0, _⟩ => show t.val = win0_4.index (pt t) 0 * 512 + 1 * (t.val % 512); rw [(idx4 _).1]; show _ = t.val / 512 * 512 + _; omega
  | ⟨1, _⟩ => show l.val = win0_4.index (pt t) 1 * 2048 + 1 * l.val; rw [(idx4 _).2]; omega

end

section
variable (d : Vec Ideal S512x2048 .f32) (s p : Vec Ideal S512x2048 .bf16) (i : Fin 512) (l : Fin 2048)

theorem pay2_at : k0_pay2 d s (ix2 i l) = d (ix2 i l) * s (ix2 i l) := by
  pointwise [k0_pay2, k0_pay1]
theorem pay3_at : k0_pay3 d s p (ix2 i l) = d (ix2 i l) * p (ix2 i l) * s (ix2 i l) * (Ideal.ofBits .f32 0x3F800000#32 - s (ix2 i l)) := by
  pointwise [k0_pay3, k0_pay1]
end

variable (m : (ℓ : Loc nD τ sig) → Buf (Elt Ideal) ℓ) (c : Dev nD) (t : Fin 4096) (l : Fin 2048)

/-- The gate the host prepares is the logistic function of the pre-activation. -/
theorem gate_at : V m c main_v6 (ix2 t l) = Ideal.logistic (m (c.tc.loc main_arg0) (ix2 t l)) := by
  have e : V m c main_v6 = truncf (F := Ideal) .bf16 (Host.divf (broadcastInDim S4096x2048 ![] bcast_S_S4096x2048 (constant S_ .f32 0x3F800000#32))
      (addf (broadcastInDim S4096x2048 ![] bcast_S_S4096x2048 (constant S_ .f32 0x3F800000#32)) (Host.exp (negf (m ((c : Thread nD τ).loc main_arg0)))))) bitsLt_bf16_f32 := rfl
  rw [e]
  pointwise []
  rfl

theorem val3 : (dats m 0 c).arrAt 3 cfg0.N (ix2 t l)
    = (fun d g : EReal => d * Ideal.logistic g) (m (c.tc.loc main_arg2) (ix2 t l)) (m (c.tc.loc main_arg0) (ix2 t l)) :=
  (arr3 m c t l).trans ((pay2_at _ _ _ _).trans (congrArg₂ (fun a b : EReal => a * b) (dBlk m c t l) ((sBlk m c t l).trans (gate_at m c t l))))
theorem val4 : (dats m 0 c).arrAt 4 cfg0.N (ix2 t l)
    = (fun d p g : EReal => d * p * Ideal.logistic g * (Ideal.ofBits .f32 0x3F800000#32 - Ideal.logistic g))
      (m (c.tc.loc main_arg2) (ix2 t l)) (m (c.tc.loc main_arg1) (ix2 t l)) (m (c.tc.loc main_arg0) (ix2 t l)) := by
  rw [arr4, pay3_at, dBlk, pBlk, sBlk, gate_at]

end Cert.EmbedSlopeIdeal.Body
-- ==== Proof.EmbedSlopeAgree.lean ====
/-
  The gradients of the per-layer embedding's gate and projection: the reference's results are the kernel's.
-/
module

public import proofs.«01_k».proof.Proof.EmbedSlope
public import proofs.«01_k».proof.Proof.Gen.EmbedSlopeRefIdeal.Read
public import proofs.«01_k».proof.Proof.Gen.EmbedSlopeIdeal.Frame
public import proofs.«01_k».proof.Defs
public import Idealize.ShloMosaic.Lib.Quiescent

@[expose] public section

set_option maxRecDepth 16384

noncomputable section

namespace Cert.EmbedSlopeRefIdeal.Agree

open Idealize.ShloMosaic Idealize.ShloMosaic.TcCoe Idealize.SL.Sem Cert.EmbedSlopeRefIdeal Cert.EmbedSlopeRefIdeal.Read

section
variable (x0 x2 : Vec Ideal S4096x2048 .f32) (x1 : Vec Ideal S4096x2048 .bf16) (t : Fin 4096) (l : Fin 2048)

/-- The reference's gate, -/
theorem v6_at : val_main_v6 (F := Ideal) x0 (ix2 t l) = Ideal.logistic (x0 (ix2 t l)) := by
  pointwise [val_main_v6, val_main_v5, val_main_v4, val_main_v3, val_main_v2, val_main_v1, val_main_cst, val_main_cst_0]
  rfl
/-- the projection's gradient -/
theorem v14_at : val_main_v14 (F := Ideal) x0 x2 (ix2 t l) = x2 (ix2 t l) * Ideal.logistic (x0 (ix2 t l)) := by
  pointwise [val_main_v14, val_main_v11]
  rw [v6_at, mul_comm]
/-- and the gate's. -/
theorem v15_at : val_main_v15 (F := Ideal) x0 x1 x2 (ix2 t l)
    = x2 (ix2 t l) * x1 (ix2 t l) * Ideal.logistic (x0 (ix2 t l)) * (Ideal.ofBits .f32 0x3F800000#32 - Ideal.logistic (x0 (ix2 t l))) := by
  pointwise [val_main_v15, val_main_v13, val_main_v12, val_main_v9, val_main_v8, val_main_v7, val_main_cst_1, val_main_v0]
  rw [v6_at]
  exact (mul_assoc _ _ _).symm
end

/-- The reference leaves its arguments, and no counter raised. -/
theorem frame : quiescent_EmbedSlopeRefIdeal (hEmbedSlopeRefIdeal := Gen.facts) := fun m ρ _ =>
  (θ_run _ _ _).mono (fun r h => ⟨fun c => (h c).2.2, sem_eq_zero_of_no_sems (by decide) r.2⟩) (Value.run m ρ)

/-- From arguments that agree, both programs end with the two gradients. -/
theorem algebraic : algebraic_EmbedSlopeIdeal_EmbedSlopeRefIdeal (hEmbedSlopeIdeal := Cert.EmbedSlopeIdeal.Gen.facts) (hEmbedSlopeRefIdeal := Gen.facts) := by
  intro m ρ m' ρ' _ hag
  refine ⟨fun c => (Cert.EmbedSlopeIdeal.Gen.dats m 0 c).arrAt 3 Cert.EmbedSlopeIdeal.cfg0.N,
    fun c => (Cert.EmbedSlopeIdeal.Gen.dats m 0 c).arrAt 4 Cert.EmbedSlopeIdeal.cfg0.N, Cert.EmbedSlopeIdeal.Value.run_blocks m ρ, ?_⟩
  refine (θ_run _ _ _).mono (fun r h c => ?_) (Value.run m' ρ')
  obtain ⟨e0, e1, e2⟩ := hag c
  obtain ⟨r0, r1, rest⟩ := h c
  refine ⟨r0.trans ?_, r1.trans ?_, rest⟩
  · rw [val_main_v14_eq, e0, e2]
    funext y
    obtain ⟨t, l, rfl⟩ : ∃ (t : Fin 4096) (l : Fin 2048), y = ix2 t l := ⟨y 0, y 1, eq_ix2 y⟩
    exact (v14_at _ _ t l).trans (Cert.EmbedSlopeIdeal.Body.val3 m c t l).symm
  · rw [val_main_v15_eq, e0, e1, e2]
    funext y
    obtain ⟨t, l, rfl⟩ : ∃ (t : Fin 4096) (l : Fin 2048), y = ix2 t l := ⟨y 0, y 1, eq_ix2 y⟩
    exact (v15_at _ _ _ t l).trans (Cert.EmbedSlopeIdeal.Body.val4 m c t l).symm

end Cert.EmbedSlopeRefIdeal.Agree
-- ==== Proof.EmbedGrad.lean ====
/-
  The gradient of the per-layer embedding's projection: what the call's array holds.

  A block of the result is accumulated over two points: the first stores the product over the first 2048 rows, the
  second adds the product over the last 2048 and writes the block back.
-/
module

public import proofs.«01_k».proof.Proof.Gen.EmbedGradIdeal.Value
public import proofs.«01_k».proof.Proof.Blocks
public import Idealize.ShloMosaic.Lib.WholeRead
public import Idealize.ShloMosaic.Lib.VecWindow
public import Idealize.ShloMosaic.Lib.Pointwise

@[expose] public section

set_option maxRecDepth 16384

noncomputable section

namespace Cert.EmbedGradIdeal.Body

open Cert.EmbedGradIdeal Cert.EmbedGradIdeal.Gen Idealize.ShloMosaic Idealize.ShloMosaic.TcCoe Idealize.SL.Sem

section
variable {F : FTy → Type} [FloatOps F]
variable (m : (ℓ : Loc nD τ sig) → Buf (Elt F) ℓ) (c : Dev nD)

/-- What the first point of a block leaves in the sum -/
theorem first (t : Fin cfg0.N) (h : t.val % 2 = 0) :
    (outsAt0 m c t.val t.isLt).2 = k0_pay1 (iblk m c 0 t) (iblk m c 1 t) := by
  rw [outsAt0_A m c t h (by omega) (by omega)]
  dsimp only
  unfold sout0_A_0
  dsimp only [kernelRun0_A]
  refine (View.read_writes_full ..).trans ?_
  rw [View.readAt_full, View.readAt_full, (hs0_0 t).read_unread, (hs0_1 t).read_unread]

/-- and what the second leaves in the block. -/
theorem second (t : Fin cfg0.N) (h : t.val % 2 = 1) :
    (outsAt0 m c t.val t.isLt).1 = k0_pay3 (k0_pay2 (outsAt0 m c (t.val - 1) (Nat.lt_of_le_of_lt (Nat.sub_le _ _) t.isLt)).2
      (iblk m c 0 t) (iblk m c 1 t)) := by
  rw [outsAt0_B m c t (by omega) h h]
  dsimp only
  unfold out0_B_2
  dsimp only [kernelRun0_B]
  refine (View.read_writes_full ..).trans ?_
  refine congrArg k0_pay3 ((View.readCov_full ..).trans ?_)
  rw [View.readAt_full, View.readAt_full, View.readAt_full, (hs0_0 t).read_unread, (hs0_1 t).read_unread, (Memref.isWhole_whole _).read_unread]

/-! ### The blocks -/

theorem idx0 : ∀ t : Fin cfg0.N, win0_0.index t 0 = t.val % 2 ∧ win0_0.index t 1 = 0 :=
  (by decide +kernel : ∀ t : Fin grid0.N, win0_0.index t 0 = t.val % 2 ∧ win0_0.index t 1 = 0)
theorem idx1 : ∀ t : Fin cfg0.N, win0_1.index t 0 = t.val % 2 ∧ win0_1.index t 1 = t.val / 2 :=
  (by decide +kernel : ∀ t : Fin grid0.N, win0_1.index t 0 = t.val % 2 ∧ win0_1.index t 1 = t.val / 2)

/-- The point that works on half `a` of the rows for chip `q`. -/
def pt (q : Fin 4) (a : Fin 2) : Fin cfg0.N :=
  ⟨2 * q.val + a.val, by show _ < grid0.N; rw [N_0]; omega⟩

variable (q : Fin 4) (j : Fin 256) (k : Fin 512) (a : Fin 2) (r : Fin 2048)

theorem pBlk : iblk m c 0 (pt q a) (ix2 r j) = m (c.tc.loc main_arg0) (ix2 (Ffn.row a r) j) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ =>
    show win0_0.index (pt q a) 0 * 2048 + 1 * r.val = 2048 * a.val + r.val
    rw [(idx0 _).1]; show (2 * q.val + a.val) % 2 * 2048 + _ = _; omega
  | ⟨1, _⟩ =>
    show win0_0.index (pt q a) 1 * 256 + 1 * j.val = j.val
    rw [(idx0 _).2]; omega

theorem dBlk : iblk m c 1 (pt q a) (ix2 r k) = m (c.tc.loc main_arg1) (ix2 (Ffn.row a r) (Ffn.blk (n := 4) (k := 512) (N := 2048) (by decide) q k)) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ =>
    show win0_1.index (pt q a) 0 * 2048 + 1 * r.val = 2048 * a.val + r.val
    rw [(idx1 _).1]; show (2 * q.val + a.val) % 2 * 2048 + _ = _; omega
  | ⟨1, _⟩ =>
    show win0_1.index (pt q a) 1 * 512 + 1 * k.val = 512 * q.val + k.val
    rw [(idx1 _).2]; show (2 * q.val + a.val) / 2 * 512 + _ = _; omega

/-- An element of the array is its block's, after the second point. -/
theorem arr2 : (dats m 0 c).arrAt 2 cfg0.N (ix3 q j k)
    = (outsAt0 m c (pt q 1).val (pt q 1).isLt).1 (ix3 0 j k) := by
  have hp : Value.pt2Of (ix3 q j k) = (pt q 1).val := by
    show 2 * (1 * (q.val / 1 - 0) + 1 * (j.val / 256 - 0) + 1 * (k.val / 512 - 0)) + 1 = 2 * q.val + 1
    omega
  rw [Value.final2, Value.G2, dif_pos (by rw [hp]; exact (pt q 1).isLt), Value.outsAt0_sweep,
    Value.fold0_congr m c _ _ (pt q 1).val (by have := (pt q 1).isLt; omega) hp]
  refine congrArg _ (funext fun b => Fin.ext ?_)
  match b with
  | ⟨0, _⟩ => show q.val % 1 = 0; omega
  | ⟨1, _⟩ => show j.val % 256 = j.val; omega
  | ⟨2, _⟩ => show k.val % 512 = k.val; omega

/-- What the block holds after its two points. -/
theorem both : (outsAt0 m c (pt q 1).val (pt q 1).isLt).1
    = k0_pay3 (k0_pay2 (k0_pay1 (iblk m c 0 (pt q 0)) (iblk m c 1 (pt q 0))) (iblk m c 0 (pt q 1)) (iblk m c 1 (pt q 1))) := by
  rw [← first m c (pt q 0) (by show (2 * q.val + 0) % 2 = 0; omega)]
  exact second m c _ (by show (2 * q.val + 1) % 2 = 1; omega)

end

/-! ### Over the extended reals -/

section
variable (x x' : Vec Ideal S2048x256 .f32) (y y' : Vec Ideal S2048x512 .bf16) (j : Fin 256) (p : Fin 512)

theorem pay_at : k0_pay3 (k0_pay2 (k0_pay1 x y) x' y') (ix3 0 j p)
    = Ffn.dot (fun r => x (ix2 r j)) (fun r => y (ix2 r p)) + Ffn.dot (fun r => x' (ix2 r j)) (fun r => y' (ix2 r p)) := by
  unfold Ffn.dot
  pointwise [k0_pay3, k0_pay2, k0_pay1]
end

/-- The result is the product over the rows. -/
theorem val2 (m : (ℓ : Loc nD τ sig) → Buf (Elt Ideal) ℓ) (c : Dev nD) (q : Fin 4) (j : Fin 256) (k : Fin 512) :
    (dats m 0 c).arrAt 2 cfg0.N (ix3 q j k)
      = Ffn.dot (fun t => m (c.tc.loc main_arg0) (ix2 t j)) (fun t => m (c.tc.loc main_arg1) (ix2 t (Ffn.blk (n := 4) (k := 512) (N := 2048) (by decide) q k))) := by
  rw [arr2, both, pay_at, Ffn.dot_halves]
  exact congrArg₂ (fun a b : EReal => a + b)
    (Ffn.dot_congr (pBlk m c q j 0) (dBlk m c q k 0)) (Ffn.dot_congr (pBlk m c q j 1) (dBlk m c q k 1))

end Cert.EmbedGradIdeal.Body
-- ==== Proof.EmbedGradAgree.lean ====
/-
  The gradient of the per-layer embedding's projection: the reference's result is the kernel's.
-/
module

public import proofs.«01_k».proof.Proof.EmbedGrad
public import proofs.«01_k».proof.Proof.Gen.EmbedGradRefIdeal.Read
public import proofs.«01_k».proof.Proof.Gen.EmbedGradIdeal.Frame
public import proofs.«01_k».proof.Defs
public import Idealize.ShloMosaic.Lib.Quiescent

@[expose] public section

set_option maxRecDepth 16384

noncomputable section

namespace Cert.EmbedGradRefIdeal.Agree

open Idealize.ShloMosaic Idealize.ShloMosaic.TcCoe Idealize.SL.Sem Cert.EmbedGradRefIdeal Cert.EmbedGradRefIdeal.Read

theorem v5_at (x0 : Vec Ideal S4096x256 .f32) (x1 : Vec Ideal S4096x2048 .bf16) (q : Fin 4) (j : Fin 256) (k : Fin 512) :
    val_main_v5 (F := Ideal) x0 x1 (ix3 q j k)
      = Ffn.dot (fun t => x0 (ix2 t j)) (fun t => x1 (ix2 t (Ffn.blk (n := 4) (k := 512) (N := 2048) (by decide) q k))) := by
  have e : Ffn.blk (n := 4) (k := 512) (N := 2048) (by decide) q k = ⟨q.val * 512 + k.val, by omega⟩ := Ffn.blk_eq _ _ _ _
  rw [Ffn.dot_comm, e]
  unfold Ffn.dot
  pointwise [val_main_v5, val_main_v4, val_main_v3, val_main_v2, val_main_v1, val_main_v0]

/-- The reference leaves its arguments, and no counter raised. -/
theorem frame : quiescent_EmbedGradRefIdeal (hEmbedGradRefIdeal := Gen.facts) := fun m ρ _ =>
  (θ_run _ _ _).mono (fun r h => ⟨fun c => (h c).2, sem_eq_zero_of_no_sems (by decide) r.2⟩) (Value.run m ρ)

/-- From arguments that agree, both programs end with the weight's gradient. -/
theorem algebraic : algebraic_EmbedGradIdeal_EmbedGradRefIdeal (hEmbedGradIdeal := Cert.EmbedGradIdeal.Gen.facts) (hEmbedGradRefIdeal := Gen.facts) := by
  intro m ρ m' ρ' _ hag
  refine ⟨fun c => (Cert.EmbedGradIdeal.Gen.dats m 0 c).arrAt 2 Cert.EmbedGradIdeal.cfg0.N, Cert.EmbedGradIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v5_eq, e0, e1]
  funext y
  obtain ⟨q, j, k, rfl⟩ : ∃ (q : Fin 4) (j : Fin 256) (k : Fin 512), y = ix3 q j k := ⟨y 0, y 1, y 2, eq_ix3 y⟩
  exact (v5_at _ _ q j k).trans (Cert.EmbedGradIdeal.Body.val2 m c q j k).symm

end Cert.EmbedGradRefIdeal.Agree
-- ==== Proof.Root.lean ====
/-
  The reciprocal root of a row's mean square, and the gradient through it.
-/
module

public import proofs.«01_k».proof.Proof.Blocks

@[expose] public section

noncomputable section

namespace Cert.Root

open Idealize.ShloMosaic

/-- The length of a row, -/
def width : EReal := Ideal.ofBits .f32 0x45000000#32
/-- the mean of its squares and a small constant, -/
def var (x : Fin 2048 → EReal) : EReal := Ideal.div (∑ k, x k * x k) width + Ideal.ofBits .f32 0x358637BD#32
/-- and the reciprocal of its root. -/
def inv (x : Fin 2048 → EReal) : EReal := Ideal.rsqrt (var x)

/-- The gradient of a normalised row, from that of its values times the weights, -/
def grad (x e : Fin 2048 → EReal) (l : Fin 2048) : EReal := inv x * (e l - x l * inv x * Ideal.div (∑ k, e k * (x k * inv x)) width)

/-- and what each of the two factors of a square receives, through the root. -/
def viaRoot (x e : Fin 2048 → EReal) : EReal := Ideal.div ((∑ k, x k * e k) * (Ideal.ofBits .f32 0xBF000000#32 * Ideal.div (inv x) (var x))) width

theorem width_eq : width = ((2048 : ℝ) : EReal) := by unfold width; simp [Ideal.ofBits, Ideal.ieee]; rw [← EReal.coe_mul]; norm_num
theorem minusHalf_eq : (Ideal.ofBits .f32 0xBF000000#32 : EReal) = ((-(1 / 2) : ℝ) : EReal) := by
  simp [Ideal.ofBits, Ideal.ieee]; rw [← EReal.coe_mul]; norm_num
theorem eps_eq : ∃ e : ℝ, 0 < e ∧ (Ideal.ofBits .f32 0x358637BD#32 : EReal) = (e : EReal) := by
  simp [Ideal.ofBits, Ideal.ieee]
  rw [← EReal.coe_mul]
  exact ⟨_, by positivity, rfl⟩

theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- The reciprocal root is a number, not negative; over the mean square, its cube. -/
theorem inv_num (x : Fin 2048 → EReal) : ∃ ρ : ℝ, 0 ≤ ρ ∧ inv x = ρ ∧ Ideal.div (inv x) (var x) = ((ρ * ρ * ρ : ℝ) : EReal) := by
  obtain ⟨e, he, hε⟩ := eps_eq
  have hpos : (0 : EReal) < var x := by
    unfold var
    rw [hε, width_eq, Ideal.div_coe (by norm_num)]
    refine lt_of_lt_of_le (by exact_mod_cast he : (0 : EReal) < (e : EReal)) (le_add_of_nonneg_left (mul_nonneg (Finset.sum_nonneg fun k _ => square_nonneg _) ?_))
    exact_mod_cast (by norm_num : (0 : ℝ) ≤ 1 / 2048)
  unfold inv
  generalize var x = v at hpos
  induction v with
  | bot => exact absurd hpos (not_lt.mpr bot_le)
  | top => exact ⟨0, le_rfl, rfl, by simp [Ideal.div]⟩
  | coe r =>
    have hr : 0 < r := by exact_mod_cast hpos
    have hs : Ideal.rsqrt (r : EReal) = (((Real.sqrt r)⁻¹ : ℝ) : EReal) := by rw [Ideal.rsqrt_coe, if_neg (not_lt.mpr hr.le), if_neg hr.ne']
    refine ⟨(Real.sqrt r)⁻¹, by positivity, hs, ?_⟩
    rw [hs, Ideal.div_coe hr.ne', ← EReal.coe_mul]
    congr 1
    rw [mul_assoc, ← mul_inv, Real.mul_self_sqrt hr.le, one_div]

/-- The gradient, written with what comes through the root twice. -/
theorem grad_eq (x e : Fin 2048 → EReal) (l : Fin 2048) : e l * inv x + x l * viaRoot x e + viaRoot x e * x l = grad x e l := by
  obtain ⟨ρ, h0, hi, hd⟩ := inv_num x
  unfold grad viaRoot
  rw [hd, hi, minusHalf_eq, width_eq, Ideal.div_coe (by norm_num), Ideal.div_coe (by norm_num)]
  have hS : ∑ k, e k * (x k * (ρ : EReal)) = (ρ : EReal) * ∑ k, x k * e k := by
    rw [Ffn.mul_sum _ _ h0]
    exact Finset.sum_congr rfl fun k _ => by ac_rfl
  rw [hS]
  generalize ∑ k, x k * e k = S
  generalize e l = E
  generalize x l = X
  have ha : (0 : EReal) ≤ ((1 / 2 * (ρ * ρ * ρ) * (1 / 2048) : ℝ) : EReal) := by exact_mod_cast (by positivity : (0 : ℝ) ≤ 1 / 2 * (ρ * ρ * ρ) * (1 / 2048))
  have h1 : X * (S * (((-(1 / 2) : ℝ) : EReal) * ((ρ * ρ * ρ : ℝ) : EReal)) * ((1 / 2048 : ℝ) : EReal)) = -(X * S) * ((1 / 2 * (ρ * ρ * ρ) * (1 / 2048) : ℝ) : EReal) := by
    rw [← EReal.coe_mul, mul_assoc S, ← EReal.coe_mul, ← mul_assoc,
      show -(1 / 2) * (ρ * ρ * ρ) * (1 / 2048) = -(1 / 2 * (ρ * ρ * ρ) * (1 / 2048)) by ring, EReal.coe_neg, mul_neg, neg_mul]
  have h2 : (ρ : EReal) * -(X * ρ * (ρ * S * ((1 / 2048 : ℝ) : EReal))) = -(X * S) * ((1 / 2 * (ρ * ρ * ρ) * (1 / 2048) + 1 / 2 * (ρ * ρ * ρ) * (1 / 2048) : ℝ) : EReal) := by
    have h3 : ((1 / 2 * (ρ * ρ * ρ) * (1 / 2048) + 1 / 2 * (ρ * ρ * ρ) * (1 / 2048) : ℝ) : EReal) = (ρ : EReal) * ρ * ρ * ((1 / 2048 : ℝ) : EReal) := by
      rw [← EReal.coe_mul, ← EReal.coe_mul, ← EReal.coe_mul]
      congr 1
      ring
    rw [h3, mul_neg, neg_mul]
    congr 1
    ac_rfl
  rw [mul_comm (S * _ * _) X, h1, sub_eq_add_neg, EReal.left_distrib_of_nonneg_of_ne_top (by exact_mod_cast h0) (EReal.coe_ne_top ρ), h2, EReal.coe_add,
    EReal.left_distrib_of_nonneg ha ha, mul_comm E, add_assoc]

end Cert.Root
-- ==== Proof.Norm.lean ====
/-
  The normalisation by the root mean square: what the call's array holds.

  Each point stores 512 rows, every row scaled by its own root and by the weights of the columns.
-/
module

public import proofs.«01_k».proof.Proof.Gen.NormIdeal.Value
public import proofs.«01_k».proof.Proof.Root
public import Idealize.ShloMosaic.Lib.Pointwise
public import Idealize.ShloMosaic.Lib.Pipeline.ValueKit.Basic

@[expose] public section

set_option maxRecDepth 16384

noncomputable section

namespace Cert.NormIdeal.Body

open Cert.NormIdeal Cert.NormIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 := idx0

/-- The point that works on row `t`. -/
def pt (t : Fin 4096) : Fin cfg0.N := ⟨t.val / 512, by show _ < grid0.N; rw [N_0]; omega⟩

section
variable {F : FTy → Type} [FloatOps F]
variable (m : (ℓ : Loc nD τ sig) → Buf (Elt F) ℓ) (c : Dev nD) (t : Fin 4096) (l : Fin 2048)

theorem xBlk : iblk m c 0 (pt t) (ix2 ⟨t.val % 512, by omega⟩ l) = m (c.tc.loc main_arg0) (ix2 t l) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index (pt t) 0 * 512 + 1 * (t.val % 512) = t.val; rw [(idx0 _).1]; show t.val / 512 * 512 + _ = _; omega
  | ⟨1, _⟩ => show win0_0.index (pt t) 1 * 2048 + 1 * l.val = l.val; rw [(idx0 _).2]; omega

theorem gBlk : iblk m c 1 (pt t) (ix2 0 l) = m (c.tc.loc main_arg1) (ix2 0 l) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_1.index (pt t) 0 * 1 + 1 * 0 = 0; rw [(idx1 _).1]
  | ⟨1, _⟩ => show win0_1.index (pt t) 1 * 2048 + 1 * l.val = l.val; rw [(idx1 _).2]; omega

theorem out_eq (x : Vec F S512x2048 .f32) (g : Vec F S1x2048 .f32) : out0_2 x g = k0_pay1 x g := by
  unfold out0_2
  rw [View.canon_cons_unit_lit _ _ _ (by decide), View.ld_unit_lit _ _ (by decide), View.ld_unit_lit _ _ (by decide)]

/-- An element of the array is its block's. -/
theorem arr2 : (dats m 0 c).arrAt 2 cfg0.N (ix2 t l) = k0_pay1 (iblk m c 0 (pt t)) (iblk m c 1 (pt t)) (ix2 ⟨t.val % 512, by omega⟩ l) := by
  have h := congrFun ((Value.blocks2 m c (pt t) (flush0_2 _)).trans (Value.flushed2 m c (pt t))) (ix2 ⟨t.val % 512, by omega⟩ l)
  rw [View.read_apply, out_eq] at h
  refine Eq.trans (congrArg ((dats m 0 c).arrAt 2 cfg0.N) (funext fun b => Fin.ext ?_)) h
  match b with
  | ⟨0, _⟩ => show t.val = win0_2.index (pt t) 0 * 512 + 1 * (t.val % 512); rw [(idx2 _).1]; show _ = t.val / 512 * 512 + _; omega
  | ⟨1, _⟩ => show l.val = win0_2.index (pt t) 1 * 2048 + 1 * l.val; rw [(idx2 _).2]; omega
end

theorem pay_at (x : Vec Ideal S512x2048 .f32) (g : Vec Ideal S1x2048 .f32) (i : Fin 512) (l : Fin 2048) :
    k0_pay1 x g (ix2 i l) = x (ix2 i l) * Root.inv (fun k => x (ix2 i k)) * g (ix2 0 l) := by
  pointwise [k0_pay1]
  rfl

/-- The result is each row over its root mean square, times the weights. -/
theorem val2 (m : (ℓ : Loc nD τ sig) → Buf (Elt Ideal) ℓ) (c : Dev nD) (t : Fin 4096) (l : Fin 2048) :
    (dats m 0 c).arrAt 2 cfg0.N (ix2 t l) = (fun (x : Fin 2048 → EReal) (g : EReal) => x l * Root.inv x * g)
      (fun k => m (c.tc.loc main_arg0) (ix2 t k)) (m (c.tc.loc main_arg1) (ix2 0 l)) := by
  rw [arr2, pay_at, xBlk, gBlk]
  simp only [xBlk]

end Cert.NormIdeal.Body
-- ==== Proof.NormAgree.lean ====
/-
  The normalisation by the root mean square: the reference's result is the kernel's.
-/
module

public import proofs.«01_k».proof.Proof.Norm
public import proofs.«01_k».proof.Proof.Gen.NormRefIdeal.Read
public import proofs.«01_k».proof.Proof.Gen.NormIdeal.Frame
public import proofs.«01_k».proof.Defs
public import Idealize.ShloMosaic.Lib.Quiescent

@[expose] public section

set_option maxRecDepth 16384

noncomputable section

namespace Cert.NormRefIdeal.Agree

open Idealize.ShloMosaic Idealize.ShloMosaic.TcCoe Idealize.SL.Sem Cert.NormRefIdeal Cert.NormRefIdeal.Read

theorem v12_at (x0 : Vec Ideal S4096x2048 .f32) (x1 : Vec Ideal S1x2048 .f32) (t : Fin 4096) (l : Fin 2048) :
    val_main_v12 (F := Ideal) x0 x1 (ix2 t l) = x0 (ix2 t l) * Root.inv (fun k => x0 (ix2 t k)) * x1 (ix2 0 l) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The reference leaves its arguments, and no counter raised. -/
theorem frame : quiescent_NormRefIdeal (hNormRefIdeal := Gen.facts) := fun m ρ _ =>
  (θ_run _ _ _).mono (fun r h => ⟨fun c => (h c).2, sem_eq_zero_of_no_sems (by decide) r.2⟩) (Value.run m ρ)

/-- From arguments that agree, both programs end with the normalised rows. -/
theorem algebraic : algebraic_NormIdeal_NormRefIdeal (hNormIdeal := Cert.NormIdeal.Gen.facts) (hNormRefIdeal := Gen.facts) := by
  intro m ρ m' ρ' _ hag
  refine ⟨fun c => (Cert.NormIdeal.Gen.dats m 0 c).arrAt 2 Cert.NormIdeal.cfg0.N, Cert.NormIdeal.Value.run_blocks m ρ, ?_⟩
  refine (θ_run _ _ _).mono (fun r h c => ?_) (Value.run m' ρ')
  obtain ⟨e0, e1⟩ := hag c
  obtain ⟨r0, rest⟩ := h c
  refine ⟨r0.trans ?_, rest⟩
  rw [val_main_v12_eq, e0, e1]
  funext y
  obtain ⟨t, l, rfl⟩ : ∃ (t : Fin 4096) (l : Fin 2048), y = ix2 t l := ⟨y 0, y 1, eq_ix2 y⟩
  exact (v12_at _ _ t l).trans (Cert.NormIdeal.Body.val2 m c t l).symm

end Cert.NormRefIdeal.Agree
-- ==== Proof.NormGrad.lean ====
/-
  The gradient of the normalisation by the root mean square: what the call's three arrays hold.

  Each point stores 512 rows of the gradient and of its narrow copy, and adds their share to the weights' gradient, which the
  last point writes back.
-/
module

public import proofs.«01_k».proof.Proof.Gen.NormGradIdeal.Value
public import proofs.«01_k».proof.Proof.Root
public import Idealize.ShloMosaic.Lib.WholeRead
public import Idealize.ShloMosaic.Lib.VecWindow
public import Idealize.ShloMosaic.Lib.Pointwise
public import Idealize.ShloMosaic.Lib.Pipeline.ValueKit.Basic

@[expose] public section

set_option maxRecDepth 16384

noncomputable section

namespace Cert.NormGradIdeal.Body

open Cert.NormGradIdeal Cert.NormGradIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 := idx0
theorem idx3 : ∀ t : Fin cfg0.N, win0_3.index t 0 = t.val ∧ win0_3.index t 1 = 0 := idx0
theorem idx4 : ∀ t : Fin cfg0.N, win0_4.index t 0 = t.val ∧ win0_4.index t 1 = 0 := idx0
theorem idx5 : ∀ t : Fin cfg0.N, win0_5.index t 0 = t.val ∧ win0_5.index t 1 = 0 := idx0
theorem idx2 : ∀ t : Fin cfg0.N, win0_2.index t 0 = 0 ∧ win0_2.index t 1 = 0 :=
  (by decide +kernel : ∀ t : Fin grid0.N, win0_2.index t 0 = 0 ∧ win0_2.index t 1 = 0)
theorem idx6 : ∀ t : Fin cfg0.N, ∀ a, win0_6.index t a = 0 := (by decide +kernel : ∀ t : Fin grid0.N, ∀ a, win0_6.index t a = 0)

/-- The point that works on row `t`. -/
def pt (t : Fin 4096) : Fin cfg0.N := ⟨t.val / 512, by show _ < grid0.N; rw [N_0]; omega⟩

section
variable {F : FTy → Type} [FloatOps F]
variable (m : (ℓ : Loc nD τ sig) → Buf (Elt F) ℓ) (c : Dev nD)

/-! ### What a point leaves in its blocks -/

/-- What the points up to `n` leave in the weights' gradient. -/
def acc : (n : ℕ) → n < cfg0.N → Vec F S1x2048 .f32
  | 0, h => k0_pay1 (k0_pay4 (iblk m c 1 ⟨0, h⟩)) (iblk m c 0 ⟨0, h⟩) (k0_pay7 k0_pay2)
  | n + 1, h => k0_pay1 (k0_pay4 (iblk m c 1 ⟨n + 1, h⟩)) (iblk m c 0 ⟨n + 1, h⟩) (k0_pay7 (acc n (Nat.lt_of_succ_lt h)))

theorem outA (t : Fin cfg0.N) (h0 : t.val % 8 = 0) : outsAt0 m c t.val t.isLt
    = (k0_pay5 (iblk m c 1 t) (iblk m c 0 t) (iblk m c 2 t) (iblk m c 3 t), k0_pay6 (iblk m c 1 t) (iblk m c 0 t) (iblk m c 2 t) (iblk m c 3 t),
        k0_pay1 (k0_pay4 (iblk m c 1 t)) (iblk m c 0 t) (k0_pay7 k0_pay2)) := by
  rw [outsAt0_A m c t h0]
  unfold out0_A_4 out0_A_5 out0_A_6
  dsimp only [kernelRun0_A]
  unfold kernelRun0_A.sl.r kernelRun0_A.sl.r_1 kernelRun0_A.sl.r_2
  refine congrArg₂ Prod.mk ((View.read_writes_full ..).trans ?_) (congrArg₂ Prod.mk ((View.read_writes_full ..).trans ?_) ((View.read_writes_full ..).trans ?_))
  · rw [View.readAt_full, View.readAt_full, View.readAt_full, View.readAt_full, (hs0_0 t).read_unread, (hs0_1 t).read_unread, (hs0_2 t).read_unread, (hs0_3 t).read_unread]
  · rw [View.readAt_full, View.readAt_full, View.readAt_full, View.readAt_full, (hs0_0 t).read_unread, (hs0_1 t).read_unread, (hs0_2 t).read_unread, (hs0_3 t).read_unread]
  · rw [View.readAt_full, View.readAt_full, (hs0_0 t).read_unread, (hs0_1 t).read_unread]
    exact congrArg (fun v => k0_pay1 _ _ (k0_pay7 v)) (View.readCov_full ..)

theorem outB (t : Fin cfg0.N) (h0 : ¬t.val % 8 = 0) : outsAt0 m c t.val t.isLt
    = (k0_pay5 (iblk m c 1 t) (iblk m c 0 t) (iblk m c 2 t) (iblk m c 3 t), k0_pay6 (iblk m c 1 t) (iblk m c 0 t) (iblk m c 2 t) (iblk m c 3 t),
        k0_pay1 (k0_pay4 (iblk m c 1 t)) (iblk m c 0 t) (k0_pay7 (outsAt0 m c (t.val - 1) (Nat.lt_of_le_of_lt (Nat.sub_le _ _) t.isLt)).2.2)) := by
  rw [outsAt0_B m c t h0]
  unfold out0_B_4 out0_B_5 out0_B_6
  dsimp only [kernelRun0_B]
  unfold kernelRun0_B.sl.r kernelRun0_B.sl.r_1 kernelRun0_B.sl.r_2
  refine congrArg₂ Prod.mk ((View.read_writes_full ..).trans ?_) (congrArg₂ Prod.mk ((View.read_writes_full ..).trans ?_) ((View.read_writes_full ..).trans ?_))
  · rw [View.readAt_full, View.readAt_full, View.readAt_full, View.readAt_full, (hs0_0 t).read_unread, (hs0_1 t).read_unread, (hs0_2 t).read_unread, (hs0_3 t).read_unread]
  · rw [View.readAt_full, View.readAt_full, View.readAt_full, View.readAt_full, (hs0_0 t).read_unread, (hs0_1 t).read_unread, (hs0_2 t).read_unread, (hs0_3 t).read_unread]
  · rw [View.readAt_full, View.readAt_full, View.readAt_full, (hs0_0 t).read_unread, (hs0_1 t).read_unread, (hs0_6 t).read_unread]

/-- The two wide results' blocks depend on the point alone. -/
theorem out_rows (t : Fin cfg0.N) : (outsAt0 m c t.val t.isLt).1 = k0_pay5 (iblk m c 1 t) (iblk m c 0 t) (iblk m c 2 t) (iblk m c 3 t)
    ∧ (outsAt0 m c t.val t.isLt).2.1 = k0_pay6 (iblk m c 1 t) (iblk m c 0 t) (iblk m c 2 t) (iblk m c 3 t) := by
  by_cases h0 : t.val % 8 = 0
  · rw [outA m c t h0]; exact ⟨rfl, rfl⟩
  · rw [outB m c t h0]; exact ⟨rfl, rfl⟩

theorem out_acc : ∀ (n : ℕ) (h : n < cfg0.N), (outsAt0 m c n h).2.2 = acc m c n h
  | 0, h => by rw [show outsAt0 m c 0 h = _ from outA m c ⟨0, h⟩ rfl]; rfl
  | n + 1, h => by
    have hN : cfg0.N = 8 := N_0
    rw [show outsAt0 m c (n + 1) h = _ from outB m c ⟨n + 1, h⟩ (by dsimp only; omega)]
    show k0_pay1 _ _ (k0_pay7 (outsAt0 m c n _).2.2) = _
    rw [out_acc n (Nat.lt_of_succ_lt h)]
    rfl

/-! ### The arrays -/

variable (t : Fin 4096) (l : Fin 2048)

theorem dBlk : iblk m c 0 (pt t) (ix2 ⟨t.val % 512, by omega⟩ l) = m (c.tc.loc main_arg0) (ix2 t l) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index (pt t) 0 * 512 + 1 * (t.val % 512) = t.val; rw [(idx0 _).1]; show t.val / 512 * 512 + _ = _; omega
  | ⟨1, _⟩ => show win0_0.index (pt t) 1 * 2048 + 1 * l.val = l.val; rw [(idx0 _).2]; omega

theorem xBlk : iblk m c 1 (pt t) (ix2 ⟨t.val % 512, by omega⟩ l) = m (c.tc.loc main_arg1) (ix2 t l) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_1.index (pt t) 0 * 512 + 1 * (t.val % 512) = t.val; rw [(idx1 _).1]; show t.val / 512 * 512 + _ = _; omega
  | ⟨1, _⟩ => show win0_1.index (pt t) 1 * 2048 + 1 * l.val = l.val; rw [(idx1 _).2]; omega

theorem gBlk : iblk m c 2 (pt t) (ix2 0 l) = m (c.tc.loc main_arg2) (ix2 0 l) := by
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_2.index (pt t) 0 * 1 + 1 * 0 = 0; rw [(idx2 _).1]
  | ⟨1, _⟩ => show win0_2.index (pt t) 1 * 2048 + 1 * l.val = l.val; rw [(idx2 _).2]; omega

theorem rBlk : iblk m c 3 (pt t) (ix2 ⟨t.val % 512, by omega⟩ l) = m (c.tc.loc main_arg3) (ix2 t l) := by
  unfold iblk
  rw [View.read_apply]
  show V m c main_arg3 _ = m (c.tc.loc main_arg3) _
  rw [V_main_arg3]
  refine congrArg (m (c.tc.loc main_arg3)) (funext fun b => Fin.ext ?_)
  match b with
  | ⟨0, _⟩ => show win0_3.index (pt t) 0 * 512 + 1 * (t.val % 512) = t.val; rw [(idx3 _).1]; show t.val / 512 * 512 + _ = _; omega
  | ⟨1, _⟩ => show win0_3.index (pt t) 1 * 2048 + 1 * l.val = l.val; rw [(idx3 _).2]; omega

theorem arr4 : (dats m 0 c).arrAt 4 cfg0.N (ix2 t l) = k0_pay5 (iblk m c 1 (pt t)) (iblk m c 0 (pt t)) (iblk m c 2 (pt t)) (iblk m c 3 (pt t)) (ix2 ⟨t.val % 512, by omega⟩ l) := by
  have h := congrFun ((Value.blocks4 m c (pt t) (flush0_4 _)).trans (Value.flushed4 m c (pt t))) (ix2 ⟨t.val % 512, by omega⟩ l)
  rw [View.read_apply, (out_rows m c (pt t)).1] at h
  refine Eq.trans (congrArg ((dats m 0 c).arrAt 4 cfg0.N) (funext fun b => Fin.ext ?_)) h
  match b with
  | ⟨0, _⟩ => show t.val = win0_4.index (pt t) 0 * 512 + 1 * (t.val % 512); rw [(idx4 _).1]; show _ = t.val / 512 * 512 + _; omega
  | ⟨1, _⟩ => show l.val = win0_4.index (pt t) 1 * 2048 + 1 * l.val; rw [(idx4 _).2]; omega

theorem arr5 : (dats m 0 c).arrAt 5 cfg0.N (ix2 t l) = k0_pay6 (iblk m c 1 (pt t)) (iblk m c 0 (pt t)) (iblk m c 2 (pt t)) (iblk m c 3 (pt t)) (ix2 ⟨t.val % 512, by omega⟩ l) := by
  have h := congrFun ((Value.blocks5 m c (pt t) (flush0_5 _)).trans (Value.flushed5 m c (pt t))) (ix2 ⟨t.val % 512, by omega⟩ l)
  rw [View.read_apply, (out_rows m c (pt t)).2] at h
  refine Eq.trans (congrArg ((dats m 0 c).arrAt 5 cfg0.N) (funext fun b => Fin.ext ?_)) h
  match b with
  | ⟨0, _⟩ => show t.val = win0_5.index (pt t) 0 * 512 + 1 * (t.val % 512); rw [(idx5 _).1]; show _ = t.val / 512 * 512 + _; omega
  | ⟨1, _⟩ => show l.val = win0_5.index (pt t) 1 * 2048 + 1 * l.val; rw [(idx5 _).2]; omega

/-- The last point. -/
def tLast : Fin cfg0.N := ⟨7, by show 7 < grid0.N; rw [N_0]; omega⟩

theorem final6 : (dats m 0 c).arrAt 6 cfg0.N = acc m c 7 tLast.isLt :=
  (dats m 0 c).arrAt_eq_of_cover 6 (acc m c 7 tLast.isLt : Buf (Elt F) ((c : Thread nD τ).loc main_v0_2))
    (fun t hf => by
      obtain rfl : t = tLast := Fin.ext (by have h := (flush0_6 t).mp hf; have hN : cfg0.N = 8 := N_0; have := t.isLt; show t.val = 7; omega)
      rw [Value.flushed6, out_acc m c tLast.val tLast.isLt]
      have hz : (fun a => win0_6.index tLast a * main_v0_2.ty.shape.size a) = fun _ => 0 := funext fun a => by rw [idx6 tLast a]; omega
      exact (Memref.read_access_unit_zero (Elt F) main_v0_2 hz (fun a => by rw [congrFun hz a]; simp) _).symm)
    fun i => ⟨tLast, (flush0_6 tLast).mpr rfl, by
      show i ∈ ((View.whole main_v0_2).slice (win0_6.rect tLast)).set
      rw [View.set_slice_whole, Rect.mem_set_unit]
      intro a
      show win0_6.index tLast a * S1x2048.size a ≤ (i a : Nat) ∧ (i a : Nat) < win0_6.index tLast a * S1x2048.size a + S1x2048.size a
      rw [idx6 tLast a]
      have h : (i a : Nat) < S1x2048.size a := (i a).isLt
      omega⟩

end

/-! ### Over the extended reals -/

section
variable (x d r : Vec Ideal S512x2048 .f32) (g a : Vec Ideal S1x2048 .f32) (i : Fin 512) (l : Fin 2048)

theorem pay3_at : k0_pay3 x (ix2 i 0) = Root.inv (fun k => x (ix2 i k)) := by
  unfold Root.inv Root.var Root.width
  pointwise [k0_pay3]
theorem pay4_at : k0_pay4 x (ix2 i l) = x (ix2 i l) * Root.inv (fun k => x (ix2 i k)) := by
  pointwise [k0_pay4]
  rw [pay3_at]
theorem pay5_at : k0_pay5 x d g r (ix2 i l) = r (ix2 i l) + Root.grad (fun k => x (ix2 i k)) (fun k => d (ix2 i k) * g (ix2 0 k)) l := by
  unfold Root.grad Root.width
  pointwise [k0_pay5]
  simp only [pay4_at, pay3_at]
theorem pay6_at : k0_pay6 x d g r (ix2 i l) = k0_pay5 x d g r (ix2 i l) := by
  pointwise [k0_pay6]
/-- What 512 rows add to the weights' gradient. -/
def part : EReal := Ffn.dot (fun i => d (ix2 i l)) (fun i => x (ix2 i l) * Root.inv (fun k => x (ix2 i k)))
theorem pay1_at : k0_pay1 (k0_pay4 x) d (k0_pay7 a) (ix2 0 l) = a (ix2 0 l) + part x d l := by
  unfold part Ffn.dot
  pointwise [k0_pay1, k0_pay7]
  simp only [pay4_at]
theorem pay2_at : (k0_pay2 : FVec Ideal S1x2048 .f32) (ix2 0 l) = 0 := by
  pointwise [k0_pay2]
end

variable (m : (ℓ : Loc nD τ sig) → Buf (Elt Ideal) ℓ) (c : Dev nD) (t : Fin 4096) (l : Fin 2048)

/-- The arguments as plain tables: the gradient of the normalised rows, the rows, the weights, the gradient coming in. -/
def aD : Fin 4096 → Fin 2048 → EReal := fun t k => m (c.tc.loc main_arg0) (ix2 t k)
def aX : Fin 4096 → Fin 2048 → EReal := fun t k => m (c.tc.loc main_arg1) (ix2 t k)
def aG : Fin 2048 → EReal := fun k => m (c.tc.loc main_arg2) (ix2 0 k)
def aR : Fin 4096 → Fin 2048 → EReal := fun t k => m (c.tc.loc main_arg3) (ix2 t k)

/-- The gradient of the rows, -/
def rows : EReal := aR m c t l + Root.grad (aX m c t) (fun k => aD m c t k * aG m c k) l

theorem val4 : (dats m 0 c).arrAt 4 cfg0.N (ix2 t l) = rows m c t l := by
  rw [arr4, pay5_at]
  simp only [dBlk, xBlk, gBlk, rBlk]
  rfl
theorem val5 : (dats m 0 c).arrAt 5 cfg0.N (ix2 t l) = rows m c t l := by
  rw [arr5, pay6_at, pay5_at]
  simp only [dBlk, xBlk, gBlk, rBlk]
  rfl

/-- A point's share of the weights' gradient: the product over its rows. -/
def share (n : Fin 8) : EReal := Ffn.dot (fun i => aD m c (Ffn.blk (n := 8) (k := 512) (by decide) n i) l)
  (fun i => aX m c (Ffn.blk (n := 8) (k := 512) (by decide) n i) l * Root.inv (aX m c (Ffn.blk (n := 8) (k := 512) (by decide) n i)))

theorem share_at (n : ℕ) (h : n < cfg0.N) (h' : n < 8) :
    part (iblk m c 1 ⟨n, h⟩) (iblk m c 0 ⟨n, h⟩) l = share m c l ⟨n, h'⟩ := by
  have hp (i : Fin 512) : pt (Ffn.blk (n := 8) (k := 512) (by decide) ⟨n, h'⟩ i) = ⟨n, h⟩ := Fin.ext (Ffn.blk_div (by decide) ⟨n, h'⟩ i)
  have hi (i : Fin 512) : (⟨(Ffn.blk (n := 8) (k := 512) (N := 4096) (by decide) ⟨n, h'⟩ i).val % 512, by omega⟩ : Fin 512) = i := Fin.ext (Ffn.blk_mod (by decide) ⟨n, h'⟩ i)
  have hd (i : Fin 512) (k : Fin 2048) := dBlk m c (Ffn.blk (n := 8) (k := 512) (by decide) ⟨n, h'⟩ i) k
  have hx (i : Fin 512) (k : Fin 2048) := xBlk m c (Ffn.blk (n := 8) (k := 512) (by decide) ⟨n, h'⟩ i) k
  simp only [hi] at hd hx
  have ed (i : Fin 512) (k : Fin 2048) := (congrArg (fun p : Fin cfg0.N => (iblk m c 0 p : Vec Ideal S512x2048 .f32) (ix2 i k)) (hp i).symm).trans (hd i k)
  have ex (i : Fin 512) (k : Fin 2048) := (congrArg (fun p : Fin cfg0.N => (iblk m c 1 p : Vec Ideal S512x2048 .f32) (ix2 i k)) (hp i).symm).trans (hx i k)
  exact Ffn.dot_congr (fun i => ed i l) (fun i => congrArg₂ (fun a b : EReal => a * b) (ex i l) (congrArg Root.inv (funext (ex i))))

theorem acc_at : ∀ (n : ℕ) (h : n < cfg0.N) (h' : n < 8), acc m c n h (ix2 0 l) = ∑ i : Fin (n + 1), share m c l ⟨i.val, by omega⟩
  | 0, h, h' => by
    unfold acc
    rw [pay1_at, pay2_at, share_at m c l 0 h h', zero_add]
    simp
  | n + 1, h, h' => by
    unfold acc
    rw [pay1_at, acc_at n (Nat.lt_of_succ_lt h) (Nat.lt_of_succ_lt h'), share_at m c l (n + 1) h h', Fin.sum_univ_castSucc (n := n + 1)]
    rfl

/-- and the gradient of the weights. -/
theorem val6 : (dats m 0 c).arrAt 6 cfg0.N (ix2 0 l) = Ffn.dot (fun t => aD m c t l) (fun t => aX m c t l * Root.inv (aX m c t)) := by
  rw [final6, acc_at m c l 7 tLast.isLt (by decide), Ffn.dot_blocks (n := 8) (k := 512) (by decide)]
  rfl

end Cert.NormGradIdeal.Body
-- ==== Proof.NormGradAgree.lean ====
/-
  The gradient of the normalisation by the root mean square: the reference's results are the kernel's.
-/
module

public import proofs.«01_k».proof.Proof.NormGrad
public import proofs.«01_k».proof.Proof.Gen.NormGradRefIdeal.Read
public import proofs.«01_k».proof.Proof.Gen.NormGradIdeal.Frame
public import proofs.«01_k».proof.Defs
public import Idealize.ShloMosaic.Lib.Quiescent

@[expose] public section

set_option maxRecDepth 16384

noncomputable section

namespace Cert.NormGradRefIdeal.Agree

open Idealize.ShloMosaic Idealize.ShloMosaic.TcCoe Idealize.SL.Sem Cert.NormGradRefIdeal Cert.NormGradRefIdeal.Read

section
variable (x0 x1 x3 : Vec Ideal S4096x2048 .f32) (x2 : Vec Ideal S1x2048 .f32) (t : Fin 4096) (l : Fin 2048)

/-- The reference's reciprocal root, -/
theorem v7_at : val_main_v7 (F := Ideal) x1 (ix2 t 0) = Root.inv (fun k => x1 (ix2 t k)) := by
  unfold Root.inv Root.var Root.width
  pointwise [val_main_v7, val_main_v6, val_main_v5, val_main_v4, val_main_v3, val_main_v2, val_main_v1, val_main_v0, val_main_cst, val_main_cst_0, val_main_cst_1]
theorem v6_at : val_main_v6 (F := Ideal) x1 (ix2 t 0) = Root.var (fun k => x1 (ix2 t k)) := by
  unfold Root.var Root.width
  pointwise [val_main_v6, val_main_v5, val_main_v4, val_main_v3, val_main_v2, val_main_v1, val_main_v0, val_main_cst, val_main_cst_0, val_main_cst_1]
/-- what comes through it -/
theorem v29_at : val_main_v29 (F := Ideal) x0 x1 x2 (ix2 t l) = Root.viaRoot (fun k => x1 (ix2 t k)) (fun k => x0 (ix2 t k) * x2 (ix2 0 k)) := by
  unfold Root.viaRoot Root.width
  pointwise [val_main_v29, val_main_v28, val_main_v27, val_main_v26, val_main_v25, val_main_v22, val_main_v21, val_main_v20, val_main_v19, val_main_v18,
    val_main_v10, val_main_v9, val_main_v8, val_main_cst_2, val_main_cst_4, val_main_cst_5, val_main_cst_6]
  rw [Fin.sum_univ_one, v7_at, v6_at]
/-- and the gradient of the rows. -/
theorem v34_at : val_main_v34 (F := Ideal) x0 x1 x2 x3 (ix2 t l)
    = x3 (ix2 t l) + Root.grad (fun k => x1 (ix2 t k)) (fun k => x0 (ix2 t k) * x2 (ix2 0 k)) l := by
  rw [← Root.grad_eq]
  pointwise [val_main_v34, val_main_v33, val_main_v32, val_main_v31, val_main_v30, val_main_v24, val_main_v23, val_main_v19, val_main_v18]
  rw [v29_at, v7_at]
theorem v35_at : val_main_v35 (F := Ideal) x0 x1 x2 x3 (ix2 t l) = val_main_v34 (F := Ideal) x0 x1 x2 x3 (ix2 t l) := by
  pointwise [val_main_v35]
/-- The gradient of the weights. -/
theorem v17_at : val_main_v17 (F := Ideal) x0 x1 (ix2 0 l) = Ffn.dot (fun t => x0 (ix2 t l)) (fun t => x1 (ix2 t l) * Root.inv (fun k => x1 (ix2 t k))) := by
  rw [Ffn.dot_comm]
  unfold Ffn.dot
  pointwise [val_main_v17, val_main_v16, val_main_v15, val_main_v12, val_main_v11, val_main_cst_3]
  simp only [v7_at]
end

/-- The reference leaves its arguments, and no counter raised. -/
theorem frame : quiescent_NormGradRefIdeal (hNormGradRefIdeal := Gen.facts) := fun m ρ _ =>
  (θ_run _ _ _).mono (fun r h => ⟨fun c => (h c).2.2.2, sem_eq_zero_of_no_sems (by decide) r.2⟩) (Value.run m ρ)

/-- From arguments that agree, both programs end with the gradient of the rows, its copy and the gradient of the weights. -/
theorem algebraic : algebraic_NormGradIdeal_NormGradRefIdeal (hNormGradIdeal := Cert.NormGradIdeal.Gen.facts) (hNormGradRefIdeal := Gen.facts) := by
  intro m ρ m' ρ' _ hag
  refine ⟨fun c => (Cert.NormGradIdeal.Gen.dats m 0 c).arrAt 4 Cert.NormGradIdeal.cfg0.N, fun c => (Cert.NormGradIdeal.Gen.dats m 0 c).arrAt 5 Cert.NormGradIdeal.cfg0.N,
    fun c => (Cert.NormGradIdeal.Gen.dats m 0 c).arrAt 6 Cert.NormGradIdeal.cfg0.N, Cert.NormGradIdeal.Value.run_blocks m ρ, ?_⟩
  refine (θ_run _ _ _).mono (fun r h c => ?_) (Value.run m' ρ')
  obtain ⟨e0, e1, e2, e3⟩ := hag c
  obtain ⟨r0, r1, r2, rest⟩ := h c
  refine ⟨r0.trans ?_, r1.trans ?_, r2.trans ?_, rest⟩
  · rw [val_main_v34_eq, e0, e1, e2, e3]
    funext y
    obtain ⟨t, l, rfl⟩ : ∃ (t : Fin 4096) (l : Fin 2048), y = ix2 t l := ⟨y 0, y 1, eq_ix2 y⟩
    exact (v34_at _ _ _ _ t l).trans (Cert.NormGradIdeal.Body.val4 m c t l).symm
  · rw [val_main_v35_eq, e0, e1, e2, e3]
    funext y
    obtain ⟨t, l, rfl⟩ : ∃ (t : Fin 4096) (l : Fin 2048), y = ix2 t l := ⟨y 0, y 1, eq_ix2 y⟩
    exact ((v35_at _ _ _ _ t l).trans (v34_at _ _ _ _ t l)).trans (Cert.NormGradIdeal.Body.val5 m c t l).symm
  · rw [val_main_v17_eq, e0, e1]
    funext y
    obtain ⟨a, l, rfl⟩ : ∃ (a : Fin 1) (l : Fin 2048), y = ix2 a l := ⟨y 0, y 1, eq_ix2 y⟩
    obtain rfl : a = 0 := Subsingleton.elim _ _
    exact (v17_at _ _ l).trans (Cert.NormGradIdeal.Body.val6 m c l).symm

end Cert.NormGradRefIdeal.Agree
-- ==== Proof.Turn.lean ====
/-
  The rotary embedding: its tables, laid out over a row's columns, and what turning does to a head's columns.
-/
module

public import proofs.«01_k».proof.Proof.Blocks
public import Idealize.ShloMosaic.Lib.Pointwise
public import Idealize.ShloMosaic.Lib.KernelVsHost
public import Idealize.ShloMosaic.Lib.Pipeline.ValueKit.Basic

@[expose] public section

set_option maxRecDepth 16384

noncomputable section

namespace Cert.Turn

open Idealize.ShloMosaic

abbrev Tab (k : ℕ) : Shape := ⟨2, ![4096, k]⟩

/-- One value everywhere. -/
abbrev splat (s : Shape) (h : (⟨0, ![]⟩ : Shape).BroadcastsInDim s (![] : Fin 0 → Fin s.rank)) (b : BitVec 32) : FVec Ideal s .f32 :=
  broadcastInDim s ![] h (constant (F := Ideal) ⟨0, ![]⟩ .f32 b)

/-- The eight frequencies, -/
def freq : FVec Ideal ⟨1, ![8]⟩ .f32 :=
  Host.powf (splat ⟨1, ![8]⟩ (by decide) 0x48F42400#32)
    (Host.divf (Host.negf (addf (splat ⟨1, ![8]⟩ (by decide) 0x00000000#32)
      (mulf (splat ⟨1, ![8]⟩ (by decide) 0x40000000#32) (sitofp .f32 (iotaInDim ⟨1, ![8]⟩ 32 0))))) (splat ⟨1, ![8]⟩ (by decide) 0x41800000#32))

/-- each row's angles, -/
def angle : FVec Ideal (Tab 8) .f32 :=
  mulf (broadcastInDim (Tab 8) ![0, 1] (by decide) (broadcastInDim (s := ⟨1, ![4096]⟩) (Tab 1) ![0] (by decide) (sitofp (F := Ideal) .f32 (iotaInDim ⟨1, ![4096]⟩ 32 0))))
    (broadcastInDim (Tab 8) ![0, 1] (by decide) (broadcastInDim (s := ⟨1, ![8]⟩) ⟨2, ![1, 8]⟩ ![1] (by decide) freq))

/-- and their cosines and sines. -/
def cs (t : Fin 4096) (i : Fin 8) : EReal := Ideal.cos (angle (ix2 t i))
def sn (t : Fin 4096) (i : Fin 8) : EReal := Ideal.sin (angle (ix2 t i))

/-- A head's columns, turned: the first eight against the next eight. -/
def turned (z : Fin 64 → EReal) (t : Fin 4096) (w : Fin 64) : EReal :=
  if h : w.val < 8 then z w * cs t ⟨w.val, h⟩ - z ⟨w.val + 8, by omega⟩ * sn t ⟨w.val, h⟩
  else if h' : w.val - 8 < 8 then z w * cs t ⟨w.val - 8, h'⟩ + z ⟨w.val - 8, by omega⟩ * sn t ⟨w.val - 8, h'⟩
  else z w

/-- Turned back. -/
def unturned (z : Fin 64 → EReal) (t : Fin 4096) (w : Fin 64) : EReal :=
  if h : w.val < 8 then z w * cs t ⟨w.val, h⟩ + z ⟨w.val + 8, by omega⟩ * sn t ⟨w.val, h⟩
  else if h' : w.val - 8 < 8 then z w * cs t ⟨w.val - 8, h'⟩ - z ⟨w.val - 8, by omega⟩ * sn t ⟨w.val - 8, h'⟩
  else z w

/-! The kernel's three tables over a head's columns: the factor of a column, of the one eight to its right and of the one eight to its left. -/

theorem threes : Shape.Concatenates [Tab 8, Tab 8, Tab 48] (Tab 64) 1 := by decide
theorem twos : Shape.Concatenates [Tab 256, Tab 256] (Tab 512) 1 := by decide
abbrev three (x y : FVec Ideal (Tab 8) .f32) (z : FVec Ideal (Tab 48) .f32) : FVec Ideal (Tab 64) .f32 :=
  concatenate (Tab 64) 1 [⟨Tab 8, x⟩, ⟨Tab 8, y⟩, ⟨Tab 48, z⟩] threes
def own : FVec Ideal (Tab 64) .f32 := three (Host.cos angle) (Host.cos angle) (splat (Tab 48) (by decide) 0x3F800000#32)
def next : FVec Ideal (Tab 64) .f32 := three (Host.negf (Host.sin angle)) (splat (Tab 8) (by decide) 0x00000000#32) (splat (Tab 48) (by decide) 0x00000000#32)
def prev : FVec Ideal (Tab 64) .f32 := three (splat (Tab 8) (by decide) 0x00000000#32) (Host.sin angle) (splat (Tab 48) (by decide) 0x00000000#32)

theorem own_at (t : Fin 4096) (w : Fin 64) : own (ix2 t w)
    = if h : w.val < 8 then cs t ⟨w.val, h⟩ else if h' : w.val - 8 < 8 then cs t ⟨w.val - 8, h'⟩ else Ideal.ofBits .f32 0x3F800000#32 := by
  unfold own three cs
  pointwise []
theorem next_at (t : Fin 4096) (w : Fin 64) : next (ix2 t w)
    = if h : w.val < 8 then -sn t ⟨w.val, h⟩ else if _ : w.val - 8 < 8 then 0 else 0 := by
  unfold next three sn
  pointwise []
theorem prev_at (t : Fin 4096) (w : Fin 64) : prev (ix2 t w)
    = if _ : w.val < 8 then 0 else if h' : w.val - 8 < 8 then sn t ⟨w.val - 8, h'⟩ else 0 := by
  unfold prev three sn
  pointwise []

theorem one_eq : (Ideal.ofBits .f32 0x3F800000#32 : EReal) = 1 := by
  simp [Ideal.ofBits, Ideal.ieee]; rw [← EReal.coe_mul]; norm_num
theorem minusOne_eq : (Ideal.ofBits .f32 0xBF800000#32 : EReal) = -1 := by
  simp [Ideal.ofBits, Ideal.ieee]; rw [← EReal.coe_mul]; norm_num

/-- The kernel's sum of three, with its sign. -/
def sum3 (b : BitVec 32) (a c n q o r : EReal) : EReal := a * c + Ideal.ofBits .f32 b * (n * q + o * r)

/-- It is the turned column, -/
theorem turn_eq (z : Fin 64 → EReal) (t : Fin 4096) (w : Fin 64) (n p : EReal) (hn : ∀ h : w.val < 8, n = z ⟨w.val + 8, by omega⟩)
    (hp : ∀ h : 8 ≤ w.val, w.val - 8 < 8 → p = z ⟨w.val - 8, by omega⟩) :
    sum3 0x3F800000#32 (z w) (own (ix2 t w)) n (next (ix2 t w)) p (prev (ix2 t w)) = turned z t w := by
  unfold sum3
  rw [own_at, next_at, prev_at, one_eq, one_mul]
  unfold turned
  by_cases h : w.val < 8
  · rw [dif_pos h, dif_pos h, dif_pos h, dif_pos h, hn h, mul_zero, add_zero, mul_neg, sub_eq_add_neg]
  · rw [dif_neg h, dif_neg h, dif_neg h, dif_neg h, dite_eq_ite, ite_self, mul_zero, zero_add]
    by_cases h' : w.val - 8 < 8
    · rw [dif_pos h', dif_pos h', dif_pos h', hp (by omega) h']
    · rw [dif_neg h', dif_neg h', dif_neg h', mul_zero, add_zero, mul_one]

/-- and with the sign turned, the column turned back. -/
theorem unturn_eq (z : Fin 64 → EReal) (t : Fin 4096) (w : Fin 64) (n p : EReal) (hn : ∀ h : w.val < 8, n = z ⟨w.val + 8, by omega⟩)
    (hp : ∀ h : 8 ≤ w.val, w.val - 8 < 8 → p = z ⟨w.val - 8, by omega⟩) :
    sum3 0xBF800000#32 (z w) (own (ix2 t w)) n (next (ix2 t w)) p (prev (ix2 t w)) = unturned z t w := by
  unfold sum3
  rw [own_at, next_at, prev_at, minusOne_eq, one_eq]
  unfold unturned
  by_cases h : w.val < 8
  · rw [dif_pos h, dif_pos h, dif_pos h, dif_pos h, hn h, mul_zero, add_zero, mul_neg, neg_mul_neg, one_mul]
  · rw [dif_neg h, dif_neg h, dif_neg h, dif_neg h, dite_eq_ite, ite_self, mul_zero, zero_add]
    by_cases h' : w.val - 8 < 8
    · rw [dif_pos h', dif_pos h', dif_pos h', hp (by omega) h', neg_mul, one_mul, sub_eq_add_neg]
    · rw [dif_neg h', dif_neg h', dif_neg h', mul_zero, mul_zero, add_zero, mul_one]

/-- A head turned back, as the sum of its three stretches of columns. -/
theorem unturned_sum {A B C : Prop} [Decidable A] [Decidable B] [Decidable C] (a : A → EReal) (b : B → EReal) (d : C → EReal) (z : Fin 64 → EReal) (t : Fin 4096)
    (w : Fin 64) (hA : A ↔ 16 ≤ w.val) (hB : B ↔ 8 ≤ w.val ∧ w.val < 16) (hC : C ↔ w.val < 8) (ha : ∀ h, a h = z w)
    (hb : ∀ h, ∀ h' : w.val - 8 < 8, b h = z w * cs t ⟨w.val - 8, h'⟩ + -z ⟨w.val - 8, by omega⟩ * sn t ⟨w.val - 8, h'⟩)
    (hd : ∀ h, ∀ h' : w.val < 8, d h = z ⟨w.val + 8, by omega⟩ * sn t ⟨w.val, h'⟩ + z w * cs t ⟨w.val, h'⟩) :
    (((if h : A then a h else 0) + if h : B then b h else 0) + if h : C then d h else 0) = unturned z t w := by
  unfold unturned
  by_cases h : w.val < 8
  · have hA' : ¬A := fun x => by have := hA.mp x; omega
    have hB' : ¬B := fun x => by have := hB.mp x; omega
    rw [dif_neg hA', dif_neg hB', dif_pos (hC.mpr h), dif_pos h, zero_add, zero_add, hd _ h, add_comm]
  · rw [dif_neg h, dif_neg (fun x => h (hC.mp x)), add_zero]
    by_cases h' : w.val - 8 < 8
    · have hA' : ¬A := fun x => by have := hA.mp x; omega
      rw [dif_neg hA', dif_pos (hB.mpr (by omega)), dif_pos h', zero_add, hb _ h', neg_mul, sub_eq_add_neg]
    · have hB' : ¬B := fun x => by have := hB.mp x; omega
      rw [dif_neg hB', dif_pos (hA.mpr (by omega)), dif_neg h', add_zero, ha]

/-- A value's column, which the tables leave alone. -/
theorem sum3_plain (b : BitVec 32) (z n p : EReal) : sum3 b z (Ideal.ofBits .f32 0x3F800000#32) n (Ideal.ofBits .f32 0x00000000#32) p (Ideal.ofBits .f32 0x00000000#32) = z := by
  unfold sum3
  rw [one_eq, show (Ideal.ofBits .f32 0x00000000#32 : EReal) = 0 by simp [Ideal.ofBits, Ideal.ieee], mul_zero, mul_zero, add_zero, mul_zero, add_zero, mul_one]

/-! The tables repeat for each head of a row. -/

def pair (x : FVec Ideal (Tab 64) .f32) : FVec Ideal (Tab 128) .f32 :=
  shapeCast (Tab 128) (broadcastInDim (s := ⟨4, ![1, 4096, 1, 64]⟩) ⟨4, ![1, 4096, 2, 64]⟩ ![0, 1, 2, 3] (by decide) (shapeCast ⟨4, ![1, 4096, 1, 64]⟩ x (by decide))) (by decide)
def keysOnly (x : FVec Ideal (Tab 64) .f32) (b : BitVec 32) : FVec Ideal (Tab 512) .f32 :=
  concatenate (Tab 512) 1 [⟨Tab 256, shapeCast (Tab 256) (broadcastInDim (s := ⟨4, ![1, 4096, 1, 64]⟩) ⟨4, ![1, 4096, 4, 64]⟩ ![0, 1, 2, 3] (by decide)
    (shapeCast ⟨4, ![1, 4096, 1, 64]⟩ x (by decide))) (by decide)⟩, ⟨Tab 256, splat (Tab 256) (by decide) b⟩] twos

theorem pair_at (x : FVec Ideal (Tab 64) .f32) (t : Fin 4096) (l : Fin 128) : pair x (ix2 t l) = x (ix2 t ⟨l.val % 64, by omega⟩) := by
  unfold pair
  pointwise []
theorem keysOnly_at (x : FVec Ideal (Tab 64) .f32) (b : BitVec 32) (t : Fin 4096) (l : Fin 512) : keysOnly x b (ix2 t l)
    = if _ : l.val < 256 then x (ix2 t ⟨l.val % 64, by omega⟩) else Ideal.ofBits .f32 b := by
  unfold keysOnly
  pointwise []

/-- The keys' heads turned, the values left alone, -/
def turnedKeys (f : Fin 512 → EReal) (t : Fin 4096) (l : Fin 512) : EReal :=
  if _ : l.val < 256 then turned (fun w => f ⟨(64 * (l.val / 64) + w.val) % 512, by omega⟩) t ⟨l.val % 64, by omega⟩ else f l
/-- and turned back. -/
def unturnedKeys (f : Fin 512 → EReal) (t : Fin 4096) (l : Fin 512) : EReal :=
  if _ : l.val < 256 then unturned (fun w => f ⟨(64 * (l.val / 64) + w.val) % 512, by omega⟩) t ⟨l.val % 64, by omega⟩ else f l

/-- The keys and the values turned back, as the sum of the two. -/
theorem unturnedKeys_sum {A : Prop} [Decidable A] (f : Fin 512 → EReal) (t : Fin 4096) (l : Fin 512) (a : A → EReal) (b : l.val < 256 → EReal) (hA : A ↔ 256 ≤ l.val)
    (ha : ∀ h, a h = f l) (hb : ∀ h, b h = unturned (fun w => f ⟨(64 * (l.val / 64) + w.val) % 512, by omega⟩) t ⟨l.val % 64, by omega⟩) :
    ((if h : A then a h else 0) + if h : l.val < 256 then b h else 0) = unturnedKeys f t l := by
  unfold unturnedKeys
  by_cases hl : l.val < 256
  · rw [dif_neg (fun x => by have := hA.mp x; omega), dif_pos hl, dif_pos hl, zero_add, hb]
  · rw [dif_pos (hA.mpr (by omega)), dif_neg hl, dif_neg hl, add_zero, ha]

/-- What a column's sum of three reads is in its head. -/
theorem keys_eq {T : (Fin 64 → EReal) → Fin 4096 → Fin 64 → EReal} {b : BitVec 32}
    (hT : ∀ (z : Fin 64 → EReal) (t : Fin 4096) (w : Fin 64) (n p : EReal), (∀ h : w.val < 8, n = z ⟨w.val + 8, by omega⟩) →
      (∀ h : 8 ≤ w.val, w.val - 8 < 8 → p = z ⟨w.val - 8, by omega⟩) → sum3 b (z w) (own (ix2 t w)) n (next (ix2 t w)) p (prev (ix2 t w)) = T z t w)
    (f : Fin 512 → EReal) (t : Fin 4096) (l x y : Fin 512) (hx : x.val = (l.val + 8) % 512) (hy : y.val = (l.val + 512 - 8) % 512) :
    sum3 b (f l) (keysOnly own 0x3F800000#32 (ix2 t l)) (f x) (keysOnly next 0x00000000#32 (ix2 t l)) (f y) (keysOnly prev 0x00000000#32 (ix2 t l))
      = if _ : l.val < 256 then T (fun w => f ⟨(64 * (l.val / 64) + w.val) % 512, by omega⟩) t ⟨l.val % 64, by omega⟩ else f l := by
  rw [keysOnly_at, keysOnly_at, keysOnly_at]
  by_cases h : l.val < 256
  · rw [dif_pos h, dif_pos h, dif_pos h, dif_pos h, ← hT _ t ⟨l.val % 64, by omega⟩ (f x) (f y)
      (fun h' => congrArg f (Fin.ext (by simp only at h' ⊢; omega))) (fun h' h'' => congrArg f (Fin.ext (by simp only at h' h'' ⊢; omega)))]
    exact congrArg (fun a => sum3 b (f a) _ _ _ _ _) (Fin.ext (by simp only; omega))
  · rw [dif_neg h, dif_neg h, dif_neg h, dif_neg h, sum3_plain]

theorem turnKeys_eq (f : Fin 512 → EReal) (t : Fin 4096) (l x y : Fin 512) (hx : x.val = (l.val + 8) % 512) (hy : y.val = (l.val + 512 - 8) % 512) :
    sum3 0x3F800000#32 (f l) (keysOnly own 0x3F800000#32 (ix2 t l)) (f x) (keysOnly next 0x00000000#32 (ix2 t l)) (f y) (keysOnly prev 0x00000000#32 (ix2 t l))
      = turnedKeys f t l := keys_eq turn_eq f t l x y hx hy
theorem unturnKeys_eq (f : Fin 512 → EReal) (t : Fin 4096) (l x y : Fin 512) (hx : x.val = (l.val + 8) % 512) (hy : y.val = (l.val + 512 - 8) % 512) :
    sum3 0xBF800000#32 (f l) (keysOnly own 0x3F800000#32 (ix2 t l)) (f x) (keysOnly next 0x00000000#32 (ix2 t l)) (f y) (keysOnly prev 0x00000000#32 (ix2 t l))
      = unturnedKeys f t l := keys_eq unturn_eq f t l x y hx hy

/-- Rotating a block's columns. -/
theorem rotate_at {n k : ℕ} (hk : 0 < k) (s : BitVec 32) (x : Vec Ideal ⟨2, ![n, k]⟩ .f32) (h : (⟨2, ![n, k]⟩ : Shape).Rotates 1 none) (i : Fin n) (p : Fin k) :
    dynamicRotate 1 s none x h (ix2 i p) = x (ix2 i ⟨(p.val + k - s.toNat % k) % k, Nat.mod_lt _ hk⟩) :=
  dynamicRotate_apply 1 s x h _ _ fun b => match b with
    | ⟨0, _⟩ => rfl
    | ⟨1, _⟩ => rfl

/-- A block of `N` copies. -/
theorem copies_at {n k : ℕ} (N : ℕ) (x : FVec Ideal ⟨2, ![n, 128]⟩ .f32)
    (h : Shape.Concatenates ((List.replicate N (⟨⟨2, ![n, 128]⟩, x⟩ : (s : Shape) × (s.Idx → Ideal .f32))).map (·.1)) ⟨2, ![n, k]⟩ 1)
    (i : Fin n) (p : Fin k) :
    concatenate ⟨2, ![n, k]⟩ 1 (List.replicate N (⟨⟨2, ![n, 128]⟩, x⟩ : (s : Shape) × (s.Idx → Ideal .f32))) h (ix2 i p)
      = x (ix2 i ⟨p.val % 128, by omega⟩) :=
  concatenate_replicate_apply 1 N x h rfl _ _ rfl fun b hb => match b, hb with
    | ⟨0, _⟩, _ => rfl
    | ⟨1, _⟩, hb => absurd rfl hb

end Cert.Turn
-- ==== Proof.Query.lean ====
/-
  The queries: what the call's array holds.

  Each point stores 512 rows of 1024 columns: the product with the chips' weights and the bias, each head turned by its row's angles.
-/
module

public import proofs.«01_k».proof.Proof.Gen.QueryIdeal.Value
public import proofs.«01_k».proof.Proof.Turn

@[expose] public section

set_option maxRecDepth 16384

noncomputable section

namespace Cert.QueryIdeal.Body

open Cert.QueryIdeal Cert.QueryIdeal.Gen Idealize.ShloMosaic Idealize.ShloMosaic.TcCoe Idealize.SL.Sem

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
theorem idx2 : ∀ t : Fin cfg0.N, win0_2.index t 0 = 0 ∧ win0_2.index t 1 = t.val / 8 :=
  (by decide +kernel : ∀ t : Fin grid0.N, win0_2.index t 0 = 0 ∧ win0_2.index t 1 = t.val / 8)
theorem idx3 : ∀ t : Fin cfg0.N, win0_3.index t 0 = t.val % 8 ∧ win0_3.index t 1 = 0 :=
  (by decide +kernel : ∀ t : Fin grid0.N, win0_3.index t 0 = t.val % 8 ∧ win0_3.index t 1 = 0)
theorem idx4 : ∀ t : Fin cfg0.N, win0_4.index t 0 = t.val % 8 ∧ win0_4.index t 1 = 0 :=
  (by decide +kernel : ∀ t : Fin grid0.N, win0_4.index t 0 = t.val % 8 ∧ win0_4.index t 1 = 0)
theorem idx5 : ∀ t : Fin cfg0.N, win0_5.index t 0 = t.val % 8 ∧ win0_5.index t 1 = 0 :=
  (by decide +kernel : ∀ t : Fin grid0.N, win0_5.index t 0 = t.val % 8 ∧ win0_5.index t 1 = 0)
theorem idx6 : ∀ t : Fin cfg0.N, win0_6.index t 0 = t.val % 8 ∧ win0_6.index t 1 = t.val / 8 :=
  (by decide +kernel : ∀ t : Fin grid0.N, win0_6.index t 0 = t.val % 8 ∧ win0_6.index t 1 = t.val / 8)

/-- The point that works on row `t` and column `l` of the result. -/
def pt (t : Fin 4096) (l : Fin 2048) : Fin cfg0.N := ⟨8 * (l.val / 1024) + t.val / 512, by show _ < grid0.N; rw [N_0]; omega⟩

theorem pt_row (t : Fin 4096) (l : Fin 2048) : (pt t l).val % 8 = t.val / 512 := by
  show (8 * (l.val / 1024) + t.val / 512) % 8 = _; omega
theorem pt_col (t : Fin 4096) (l : Fin 2048) : (pt t l).val / 8 = l.val / 1024 := by
  show (8 * (l.val / 1024) + t.val / 512) / 8 = _; omega

section
variable {F : FTy → Type} [FloatOps F]
variable (m : (ℓ : Loc nD τ sig) → Buf (Elt F) ℓ) (c : Dev nD) (t : Fin 4096) (l r : Fin 2048) (u : Fin 128) (q : Fin 4) (j : Fin 512)

theorem hBlk : iblk m c 0 (pt t l) (ix2 ⟨t.val % 512, by omega⟩ r) = m (c.tc.loc main_arg0) (ix2 t r) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index (pt t l) 0 * 512 + 1 * (t.val % 512) = t.val; rw [(idx0 _).1, pt_row]; omega
  | ⟨1, _⟩ => show win0_0.index (pt t l) 1 * 2048 + 1 * r.val = r.val; rw [(idx0 _).2]; omega

theorem wBlk : iblk m c 1 (pt t l) (ix3 q j ⟨l.val % 1024, by omega⟩) = m (c.tc.loc main_arg1) (ix3 q j l) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_1.index (pt t l) 0 * 4 + 1 * q.val = q.val; rw [(idx1 _).1]; omega
  | ⟨1, _⟩ => show win0_1.index (pt t l) 1 * 512 + 1 * j.val = j.val; rw [(idx1 _).2.1]; omega
  | ⟨2, _⟩ => show win0_1.index (pt t l) 2 * 1024 + 1 * (l.val % 1024) = l.val; rw [(idx1 _).2.2, pt_col]; omega

theorem bBlk : iblk m c 2 (pt t l) (ix2 0 ⟨l.val % 1024, by omega⟩) = m (c.tc.loc main_arg2) (ix2 0 l) := by
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_2.index (pt t l) 0 * 1 + 1 * 0 = 0; rw [(idx2 _).1]
  | ⟨1, _⟩ => show win0_2.index (pt t l) 1 * 1024 + 1 * (l.val % 1024) = l.val; rw [(idx2 _).2, pt_col]; omega

theorem cBlk : iblk m c 3 (pt t l) (ix2 ⟨t.val % 512, by omega⟩ u) = V m c main_v27 (ix2 t u) := by
  unfold iblk
  rw [View.read_apply]
  show V m c main_v27 _ = V m c main_v27 _
  refine congrArg (V m c main_v27) (funext fun b => Fin.ext ?_)
  match b with
  | ⟨0, _⟩ => show win0_3.index (pt t l) 0 * 512 + 1 * (t.val % 512) = t.val; rw [(idx3 _).1, pt_row]; omega
  | ⟨1, _⟩ => show win0_3.index (pt t l) 1 * 128 + 1 * u.val = u.val; rw [(idx3 _).2]; omega
theorem nBlk : iblk m c 4 (pt t l) (ix2 ⟨t.val % 512, by omega⟩ u) = V m c main_v30 (ix2 t u) := by
  unfold iblk
  rw [View.read_apply]
  show V m c main_v30 _ = V m c main_v30 _
  refine congrArg (V m c main_v30) (funext fun b => Fin.ext ?_)
  match b with
  | ⟨0, _⟩ => show win0_4.index (pt t l) 0 * 512 + 1 * (t.val % 512) = t.val; rw [(idx4 _).1, pt_row]; omega
  | ⟨1, _⟩ => show win0_4.index (pt t l) 1 * 128 + 1 * u.val = u.val; rw [(idx4 _).2]; omega
theorem pBlk : iblk m c 5 (pt t l) (ix2 ⟨t.val % 512, by omega⟩ u) = V m c main_v33 (ix2 t u) := by
  unfold iblk
  rw [View.read_apply]
  show V m c main_v33 _ = V m c main_v33 _
  refine congrArg (V m c main_v33) (funext fun b => Fin.ext ?_)
  match b with
  | ⟨0, _⟩ => show win0_5.index (pt t l) 0 * 512 + 1 * (t.val % 512) = t.val; rw [(idx5 _).1, pt_row]; omega
  | ⟨1, _⟩ => show win0_5.index (pt t l) 1 * 128 + 1 * u.val = u.val; rw [(idx5 _).2]; omega

theorem out_eq (h : Vec F S512x2048 .bf16) (w : Vec F S4x512x1024 .bf16) (b : Vec F S1x1024 .f32) (x y z : Vec F S512x128 .f32) :
    out0_6 h w b x y z = k0_pay1 h w b x y z := by
  unfold out0_6
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

/-- An element of the array is its block's. -/
theorem arr6 : (dats m 0 c).arrAt 6 cfg0.N (ix2 t l) = k0_pay1 (iblk m c 0 (pt t l)) (iblk m c 1 (pt t l)) (iblk m c 2 (pt t l)) (iblk m c 3 (pt t l))
    (iblk m c 4 (pt t l)) (iblk m c 5 (pt t l)) (ix2 ⟨t.val % 512, by omega⟩ ⟨l.val % 1024, by omega⟩) := by
  have h := congrFun ((Value.blocks6 m c (pt t l) (flush0_6 _)).trans (Value.flushed6 m c (pt t l))) (ix2 ⟨t.val % 512, by omega⟩ ⟨l.val % 1024, by omega⟩)
  rw [View.read_apply, out_eq] at h
  refine Eq.trans (congrArg ((dats m 0 c).arrAt 6 cfg0.N) (funext fun b => Fin.ext ?_)) h
  match b with
  | ⟨0, _⟩ => show t.val = win0_6.index (pt t l) 0 * 512 + 1 * (t.val % 512); rw [(idx6 _).1, pt_row]; omega
  | ⟨1, _⟩ => show l.val = win0_6.index (pt t l) 1 * 1024 + 1 * (l.val % 1024); rw [(idx6 _).2, pt_col]; omega
end

section
variable (h : FVec Ideal S512x2048 .bf16) (w : FVec Ideal S4x512x1024 .bf16) (b : FVec Ideal S1x1024 .f32) (x y z : FVec Ideal S512x128 .f32) (i : Fin 512) (p : Fin 1024)

/-- The product and the bias. -/
def lin : FVec Ideal S512x1024 .f32 :=
  addf (matmul dot_S512x2048_S2048x1024_S512x1024_1_0_0_1_n_n none h (shapeCast S2048x1024 w shapeCasts_S4x512x1024_S2048x1024) (constant S512x1024 .f32 0x00000000#32))
    (broadcastTo S512x1024 b broadcasts_S1x1024_S512x1024)

theorem lin_at : lin h w b (ix2 i p)
    = Ffn.dot (fun r => h (ix2 i r)) (fun r => w (ix3 ⟨r.val / 512, by omega⟩ ⟨r.val % 512, by omega⟩ p)) + b (ix2 0 p) := by
  unfold Ffn.dot lin
  pointwise []

theorem same_at : shapeCast S512x128 x shapeCasts_S512x128_S512x128 = x := by
  funext j
  obtain ⟨i, u, rfl⟩ : ∃ (i : Fin 512) (u : Fin 128), j = ix2 i u := ⟨j 0, j 1, eq_ix2 j⟩
  pointwise []

/-- A table laid out over the block. -/
abbrev wide (x : FVec Ideal S512x128 .f32) : FVec Ideal S512x1024 .f32 :=
  concatenate S512x1024 1 (List.replicate 8 (⟨S512x128, shapeCast S512x128 x shapeCasts_S512x128_S512x128⟩ : (s : Shape) × (s.Idx → Ideal .f32)))
    concatenates_S512x128_S512x128_S512x128_S512x128_S512x128_S512x128_S512x128_S512x128_S512x1024_d1

theorem wide_at : wide x (ix2 i p) = x (ix2 i ⟨p.val % 128, by omega⟩) := by
  unfold wide
  rw [Turn.copies_at, same_at]

theorem pay_at : k0_pay1 (F := Ideal) h w b x y z (ix2 i p)
    = Turn.sum3 0x3F800000#32 (lin h w b (ix2 i p)) (x (ix2 i ⟨p.val % 128, by omega⟩))
        (lin h w b (ix2 i ⟨(p.val + 1024 - 1016) % 1024, by omega⟩)) (y (ix2 i ⟨p.val % 128, by omega⟩))
        (lin h w b (ix2 i ⟨(p.val + 1024 - 8) % 1024, by omega⟩)) (z (ix2 i ⟨p.val % 128, by omega⟩)) := by
  have e1 := Turn.rotate_at (by decide) 1016#32 (lin h w b) rotates_S512x1024_d1 i p
  have e2 := Turn.rotate_at (by decide) 8#32 (lin h w b) rotates_S512x1024_d1 i p
  have e : k0_pay1 (F := Ideal) h w b x y z (ix2 i p) = Turn.sum3 0x3F800000#32 (lin h w b (ix2 i p)) (wide x (ix2 i p)) (dynamicRotate 1 1016#32 none (lin h w b) rotates_S512x1024_d1 (ix2 i p))
    (wide y (ix2 i p)) (dynamicRotate 1 8#32 none (lin h w b) rotates_S512x1024_d1 (ix2 i p)) (wide z (ix2 i p)) := rfl
  rw [e, e1, e2, wide_at, wide_at, wide_at]
  rfl
end

section
variable (m : (ℓ : Loc nD τ sig) → Buf (Elt Ideal) ℓ) (c : Dev nD) (t : Fin 4096) (l : Fin 2048)

theorem own_eq : V m c main_v27 = Turn.pair Turn.own := rfl
theorem next_eq : V m c main_v30 = Turn.pair Turn.next := rfl
theorem prev_eq : V m c main_v33 = Turn.pair Turn.prev := rfl

/-- A row's product and bias. -/
def row (l : Fin 2048) : EReal :=
  (fun a b : EReal => a + b) (Ffn.dot (fun r => m (c.tc.loc main_arg0) (ix2 t r)) (fun r => m (c.tc.loc main_arg1) (ix3 ⟨r.val / 512, by omega⟩ ⟨r.val % 512, by omega⟩ l)))
    (m (c.tc.loc main_arg2) (ix2 0 l))

theorem lin_eq (l l' : Fin 2048) (p : Fin 1024) (e : l'.val / 1024 = l.val / 1024) (hp : p.val = l'.val % 1024) :
    lin (iblk m c 0 (pt t l)) (iblk m c 1 (pt t l)) (iblk m c 2 (pt t l)) (ix2 ⟨t.val % 512, by omega⟩ p) = row m c t l' := by
  have hq : p = ⟨l'.val % 1024, by omega⟩ := Fin.ext hp
  have e' : pt t l = pt t l' := Fin.ext (by show 8 * _ + _ = 8 * _ + _; rw [e])
  rw [e', hq]
  exact (lin_at _ _ _ _ _).trans (congrArg₂ (fun a b : EReal => a + b) (Ffn.dot_congr (hBlk m c t l') (fun _ => wBlk m c t l' _ _)) (bBlk m c t l'))

/-- The result is the row's product and bias, each head turned. -/
theorem val6 : (dats m 0 c).arrAt 6 cfg0.N (ix2 t l) = Turn.turned (fun w => row m c t ⟨64 * (l.val / 64) + w.val, by omega⟩) t ⟨l.val % 64, by omega⟩ := by
  rw [arr6, pay_at, cBlk, nBlk, pBlk, own_eq, next_eq, prev_eq, Turn.pair_at, Turn.pair_at, Turn.pair_at]
  refine Eq.trans ?_ (Turn.turn_eq _ t ⟨l.val % 64, by omega⟩
    (lin (iblk m c 0 (pt t l)) (iblk m c 1 (pt t l)) (iblk m c 2 (pt t l)) (ix2 ⟨t.val % 512, by omega⟩ ⟨(l.val % 1024 + 1024 - 1016) % 1024, by omega⟩))
    (lin (iblk m c 0 (pt t l)) (iblk m c 1 (pt t l)) (iblk m c 2 (pt t l)) (ix2 ⟨t.val % 512, by omega⟩ ⟨(l.val % 1024 + 1024 - 8) % 1024, by omega⟩))
    (fun h => lin_eq m c t l _ _ (by simp only at h ⊢; omega) (by simp only at h ⊢; omega))
    (fun h h' => lin_eq m c t l _ _ (by simp only at h h' ⊢; omega) (by simp only at h h' ⊢; omega)))
  rw [← lin_eq m c t l ⟨64 * (l.val / 64) + l.val % 64, by omega⟩ ⟨l.val % 1024, by omega⟩ (by simp only; omega) (by simp only; omega)]
  have hu : (⟨l.val % 1024 % 128 % 64, by omega⟩ : Fin 64) = ⟨l.val % 64, by omega⟩ := Fin.ext (by simp only; omega)
  simp only [hu]
end

end Cert.QueryIdeal.Body
-- ==== Proof.QueryAgree.lean ====
/-
  The queries: the reference's result is the kernel's.
-/
module

public import proofs.«01_k».proof.Proof.Query
public import proofs.«01_k».proof.Proof.Gen.QueryRefIdeal.Read
public import proofs.«01_k».proof.Proof.Gen.QueryIdeal.Frame
public import proofs.«01_k».proof.Defs
public import Idealize.ShloMosaic.Lib.Quiescent

@[expose] public section

set_option maxRecDepth 16384

noncomputable section

namespace Cert.QueryRefIdeal.Agree

open Idealize.ShloMosaic Idealize.ShloMosaic.TcCoe Idealize.SL.Sem Cert.QueryRefIdeal Cert.QueryRefIdeal.Read

theorem angle_eq : val_main_v22 (F := Ideal) = Turn.angle := rfl

theorem cos_at (t : Fin 4096) (i : Fin 8) : val_main_v23 (F := Ideal) (ix2 t i) = Turn.cs t i := by
  unfold Turn.cs val_main_v23
  rw [angle_eq]
  pointwise []
theorem sin_at (t : Fin 4096) (i : Fin 8) : val_main_v24 (F := Ideal) (ix2 t i) = Turn.sn t i := by
  unfold Turn.sn val_main_v24
  rw [angle_eq]
  pointwise []

section
variable (x0 : Vec Ideal S4096x2048 .bf16) (x1 : Vec Ideal S4x512x2048 .bf16) (x2 : Vec Ideal S1x2048 .f32) (t : Fin 4096) (l : Fin 2048)

theorem v5_at : val_main_v5 (F := Ideal) x0 x1 x2 (ix2 t l)
    = Ffn.dot (fun r => x0 (ix2 t r)) (fun r => x1 (ix3 ⟨r.val / 512, by omega⟩ ⟨r.val % 512, by omega⟩ l)) + x2 (ix2 0 l) := by
  unfold Ffn.dot
  pointwise [val_main_v5, val_main_v4, val_main_v3, val_main_v2, val_main_v1, val_main_v0]

theorem v42_at : val_main_v42 (F := Ideal) x0 x1 x2 (ix2 t l)
    = Turn.turned (fun w => val_main_v5 (F := Ideal) x0 x1 x2 (ix2 t ⟨64 * (l.val / 64) + w.val, by omega⟩)) t ⟨l.val % 64, by omega⟩ := by
  unfold Turn.turned
  pointwise [val_main_v42, val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_v6, cos_at, sin_at]
  have e : ∀ (a b : ℕ) (ha : a < 2048) (hb : b < 2048), a = b → val_main_v5 (F := Ideal) x0 x1 x2 (ix2 t ⟨a, ha⟩) = val_main_v5 (F := Ideal) x0 x1 x2 (ix2 t ⟨b, hb⟩) :=
    fun a b _ _ h => by subst h; rfl
  refine dite_congr rfl (fun h => ?_) fun h => dite_congr rfl (fun h' => ?_) fun h' => ?_
  · exact congrArg₂ (fun a b : EReal => a * _ - b * _) (e _ _ _ _ (by omega)) (e _ _ _ _ (by omega))
  · exact congrArg₂ (fun a b : EReal => a * _ + b * _) (e _ _ _ _ (by omega)) (e _ _ _ _ (by omega))
  · exact e _ _ _ _ (by omega)
end

/-- The reference leaves its arguments, and no counter raised. -/
theorem frame : quiescent_QueryRefIdeal (hQueryRefIdeal := Gen.facts) := fun m ρ _ =>
  (θ_run _ _ _).mono (fun r h => ⟨fun c => (h c).2, sem_eq_zero_of_no_sems (by decide) r.2⟩) (Value.run m ρ)

/-- From arguments that agree, both programs end with the queries. -/
theorem algebraic : algebraic_QueryIdeal_QueryRefIdeal (hQueryIdeal := Cert.QueryIdeal.Gen.facts) (hQueryRefIdeal := Gen.facts) := by
  intro m ρ m' ρ' _ hag
  refine ⟨fun c => (Cert.QueryIdeal.Gen.dats m 0 c).arrAt 6 Cert.QueryIdeal.cfg0.N, Cert.QueryIdeal.Value.run_blocks m ρ, ?_⟩
  refine (θ_run _ _ _).mono (fun r h c => ?_) (Value.run m' ρ')
  obtain ⟨e0, e1, e2⟩ := hag c
  obtain ⟨r0, rest⟩ := h c
  refine ⟨r0.trans ?_, rest⟩
  rw [val_main_v42_eq, e0, e1, e2]
  funext y
  obtain ⟨t, l, rfl⟩ : ∃ (t : Fin 4096) (l : Fin 2048), y = ix2 t l := ⟨y 0, y 1, eq_ix2 y⟩
  refine (v42_at _ _ _ t l).trans (Eq.trans ?_ (Cert.QueryIdeal.Body.val6 m c t l).symm)
  exact congrArg (fun z => Turn.turned z t _) (funext fun w => v5_at _ _ _ t _)

end Cert.QueryRefIdeal.Agree
-- ==== Proof.Keys.lean ====
/-
  The keys and the values: what the call's array holds.

  Each point stores 512 rows: the product with the chips' weights and the bias, each head of the keys turned by its row's angles.
-/
module

public import proofs.«01_k».proof.Proof.Gen.KeysIdeal.Value
public import proofs.«01_k».proof.Proof.Turn

@[expose] public section

set_option maxRecDepth 16384

noncomputable section

namespace Cert.KeysIdeal.Body

open Cert.KeysIdeal Cert.KeysIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

/-- The point that works on row `t`. -/
def pt (t : Fin 4096) : Fin cfg0.N := ⟨t.val / 512, by show _ < grid0.N; rw [N_0]; omega⟩

theorem pt_row (t : Fin 4096) : (pt t).val = t.val / 512 := rfl

section
variable {F : FTy → Type} [FloatOps F]
variable (m : (ℓ : Loc nD τ sig) → Buf (Elt F) ℓ) (c : Dev nD) (t : Fin 4096) (r : Fin 2048) (q : Fin 4) (j l : Fin 512)

theorem hBlk : iblk m c 0 (pt t) (ix2 ⟨t.val % 512, by omega⟩ r) = m (c.tc.loc main_arg0) (ix2 t r) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index (pt t) 0 * 512 + 1 * (t.val % 512) = t.val; rw [(idx0 _).1, pt_row]; omega
  | ⟨1, _⟩ => show win0_0.index (pt t) 1 * 2048 + 1 * r.val = r.val; rw [(idx0 _).2]; omega

theorem wBlk : iblk m c 1 (pt t) (ix3 q j l) = m (c.tc.loc main_arg1) (ix3 q j l) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_1.index (pt t) 0 * 4 + 1 * q.val = q.val; rw [(idx1 _).1]; omega
  | ⟨1, _⟩ => show win0_1.index (pt t) 1 * 512 + 1 * j.val = j.val; rw [(idx1 _).2.1]; omega
  | ⟨2, _⟩ => show win0_1.index (pt t) 2 * 512 + 1 * l.val = l.val; rw [(idx1 _).2.2]; omega

theorem bBlk : iblk m c 2 (pt t) (ix2 0 l) = m (c.tc.loc main_arg2) (ix2 0 l) := by
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_2.index (pt t) 0 * 1 + 1 * 0 = 0; rw [(idx2 _).1]
  | ⟨1, _⟩ => show win0_2.index (pt t) 1 * 512 + 1 * l.val = l.val; rw [(idx2 _).2]; omega

theorem cBlk : iblk m c 3 (pt t) (ix2 ⟨t.val % 512, by omega⟩ l) = V m c main_v29 (ix2 t l) := by
  unfold iblk
  rw [View.read_apply]
  show V m c main_v29 _ = V m c main_v29 _
  refine congrArg (V m c main_v29) (funext fun b => Fin.ext ?_)
  match b with
  | ⟨0, _⟩ => show win0_3.index (pt t) 0 * 512 + 1 * (t.val % 512) = t.val; rw [(idx3 _).1, pt_row]; omega
  | ⟨1, _⟩ => show win0_3.index (pt t) 1 * 512 + 1 * l.val = l.val; rw [(idx3 _).2]; omega
theorem nBlk : iblk m c 4 (pt t) (ix2 ⟨t.val % 512, by omega⟩ l) = V m c main_v34 (ix2 t l) := by
  unfold iblk
  rw [View.read_apply]
  show V m c main_v34 _ = V m c main_v34 _
  refine congrArg (V m c main_v34) (funext fun b => Fin.ext ?_)
  match b with
  | ⟨0, _⟩ => show win0_4.index (pt t) 0 * 512 + 1 * (t.val % 512) = t.val; rw [(idx4 _).1, pt_row]; omega
  | ⟨1, _⟩ => show win0_4.index (pt t) 1 * 512 + 1 * l.val = l.val; rw [(idx4 _).2]; omega
theorem pBlk : iblk m c 5 (pt t) (ix2 ⟨t.val % 512, by omega⟩ l) = V m c main_v39 (ix2 t l) := by
  unfold iblk
  rw [View.read_apply]
  show V m c main_v39 _ = V m c main_v39 _
  refine congrArg (V m c main_v39) (funext fun b => Fin.ext ?_)
  match b with
  | ⟨0, _⟩ => show win0_5.index (pt t) 0 * 512 + 1 * (t.val % 512) = t.val; rw [(idx5 _).1, pt_row]; omega
  | ⟨1, _⟩ => show win0_5.index (pt t) 1 * 512 + 1 * l.val = l.val; rw [(idx5 _).2]; omega

theorem out_eq (h : Vec F S512x2048 .bf16) (w : Vec F S4x512x512 .bf16) (b : Vec F S1x512 .f32) (x y z : Vec F S512x512 .f32) :
    out0_6 h w b x y z = k0_pay1 h w b x y z := by
  unfold out0_6
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

/-- An element of the array is its block's. -/
theorem arr6 : (dats m 0 c).arrAt 6 cfg0.N (ix2 t l) = k0_pay1 (iblk m c 0 (pt t)) (iblk m c 1 (pt t)) (iblk m c 2 (pt t)) (iblk m c 3 (pt t))
    (iblk m c 4 (pt t)) (iblk m c 5 (pt t)) (ix2 ⟨t.val % 512, by omega⟩ l) := by
  have h := congrFun ((Value.blocks6 m c (pt t) (flush0_6 _)).trans (Value.flushed6 m c (pt t))) (ix2 ⟨t.val % 512, by omega⟩ l)
  rw [View.read_apply, out_eq] at h
  refine Eq.trans (congrArg ((dats m 0 c).arrAt 6 cfg0.N) (funext fun b => Fin.ext ?_)) h
  match b with
  | ⟨0, _⟩ => show t.val = win0_6.index (pt t) 0 * 512 + 1 * (t.val % 512); rw [(idx6 _).1, pt_row]; omega
  | ⟨1, _⟩ => show l.val = win0_6.index (pt t) 1 * 512 + 1 * l.val; rw [(idx6 _).2]; omega
end

section
variable (h : FVec Ideal S512x2048 .bf16) (w : FVec Ideal S4x512x512 .bf16) (b : FVec Ideal S1x512 .f32) (x y z : FVec Ideal S512x512 .f32) (i : Fin 512) (p : Fin 512)

/-- The product and the bias. -/
def lin : FVec Ideal S512x512 .f32 :=
  addf (matmul dot_S512x2048_S2048x512_S512x512_1_0_0_1_n_n none h (shapeCast S2048x512 w shapeCasts_S4x512x512_S2048x512) (constant S512x512 .f32 0x00000000#32))
    (broadcastTo S512x512 b broadcasts_S1x512_S512x512)

theorem lin_at : lin h w b (ix2 i p)
    = Ffn.dot (fun r => h (ix2 i r)) (fun r => w (ix3 ⟨r.val / 512, by omega⟩ ⟨r.val % 512, by omega⟩ p)) + b (ix2 0 p) := by
  unfold Ffn.dot lin
  pointwise []

theorem same_at : shapeCast S512x512 x shapeCasts_S512x512_S512x512 (ix2 i p) = x (ix2 i p) := by
  pointwise []

theorem pay_at : k0_pay1 (F := Ideal) h w b x y z (ix2 i p)
    = Turn.sum3 0x3F800000#32 (lin h w b (ix2 i p)) (x (ix2 i p)) (lin h w b (ix2 i ⟨(p.val + 512 - 504) % 512, by omega⟩)) (y (ix2 i p))
        (lin h w b (ix2 i ⟨(p.val + 512 - 8) % 512, by omega⟩)) (z (ix2 i p)) := by
  have e1 := Turn.rotate_at (by decide) 504#32 (lin h w b) rotates_S512x512_d1 i p
  have e2 := Turn.rotate_at (by decide) 8#32 (lin h w b) rotates_S512x512_d1 i p
  have e : k0_pay1 (F := Ideal) h w b x y z (ix2 i p) = Turn.sum3 0x3F800000#32 (lin h w b (ix2 i p)) (shapeCast S512x512 x shapeCasts_S512x512_S512x512 (ix2 i p))
    (dynamicRotate 1 504#32 none (lin h w b) rotates_S512x512_d1 (ix2 i p)) (shapeCast S512x512 y shapeCasts_S512x512_S512x512 (ix2 i p))
    (dynamicRotate 1 8#32 none (lin h w b) rotates_S512x512_d1 (ix2 i p)) (shapeCast S512x512 z shapeCasts_S512x512_S512x512 (ix2 i p)) := rfl
  rw [e, e1, e2, same_at, same_at, same_at]
  rfl
end

section
variable (m : (ℓ : Loc nD τ sig) → Buf (Elt Ideal) ℓ) (c : Dev nD) (t : Fin 4096) (l : Fin 512)

theorem own_eq : V m c main_v29 = Turn.keysOnly Turn.own 0x3F800000#32 := rfl
theorem next_eq : V m c main_v34 = Turn.keysOnly Turn.next 0x00000000#32 := rfl
theorem prev_eq : V m c main_v39 = Turn.keysOnly Turn.prev 0x00000000#32 := rfl

/-- A row's product and bias. -/
def row (l : Fin 512) : EReal :=
  (fun a b : EReal => a + b) (Ffn.dot (fun r => m (c.tc.loc main_arg0) (ix2 t r)) (fun r => m (c.tc.loc main_arg1) (ix3 ⟨r.val / 512, by omega⟩ ⟨r.val % 512, by omega⟩ l)))
    (m (c.tc.loc main_arg2) (ix2 0 l))

theorem lin_eq : lin (iblk m c 0 (pt t)) (iblk m c 1 (pt t)) (iblk m c 2 (pt t)) (ix2 ⟨t.val % 512, by omega⟩ l) = row m c t l :=
  (lin_at _ _ _ _ _).trans (congrArg₂ (fun a b : EReal => a + b) (Ffn.dot_congr (hBlk m c t) (fun _ => wBlk m c t _ _ l)) (bBlk m c t l))

/-- The result is the row's product and bias, each head of the keys turned. -/
theorem val6 : (dats m 0 c).arrAt 6 cfg0.N (ix2 t l) = Turn.turnedKeys (row m c t) t l := by
  rw [arr6, pay_at, cBlk, nBlk, pBlk, own_eq, next_eq, prev_eq, lin_eq, lin_eq, lin_eq]
  exact Turn.turnKeys_eq _ t l _ _ (by simp only; omega) rfl
end

end Cert.KeysIdeal.Body
-- ==== Proof.KeysAgree.lean ====
/-
  The keys and the values: the reference's result is the kernel's.
-/
module

public import proofs.«01_k».proof.Proof.Keys
public import proofs.«01_k».proof.Proof.Gen.KeysRefIdeal.Read
public import proofs.«01_k».proof.Proof.Gen.KeysIdeal.Frame
public import proofs.«01_k».proof.Defs
public import Idealize.ShloMosaic.Lib.Quiescent

@[expose] public section

set_option maxRecDepth 16384

noncomputable section

namespace Cert.KeysRefIdeal.Agree

open Idealize.ShloMosaic Idealize.ShloMosaic.TcCoe Idealize.SL.Sem Cert.KeysRefIdeal Cert.KeysRefIdeal.Read

theorem angle_eq : val_main_v23 (F := Ideal) = Turn.angle := rfl

theorem cos_at (t : Fin 4096) (i : Fin 8) : val_main_v24 (F := Ideal) (ix2 t i) = Turn.cs t i := by
  unfold Turn.cs val_main_v24
  rw [angle_eq]
  pointwise []
theorem sin_at (t : Fin 4096) (i : Fin 8) : val_main_v25 (F := Ideal) (ix2 t i) = Turn.sn t i := by
  unfold Turn.sn val_main_v25
  rw [angle_eq]
  pointwise []

section
variable (x0 : Vec Ideal S4096x2048 .bf16) (x1 : Vec Ideal S4x512x512 .bf16) (x2 : Vec Ideal S1x512 .f32) (t : Fin 4096) (l : Fin 512)

theorem v5_at : val_main_v5 (F := Ideal) x0 x1 x2 (ix2 t l)
    = Ffn.dot (fun r => x0 (ix2 t r)) (fun r => x1 (ix3 ⟨r.val / 512, by omega⟩ ⟨r.val % 512, by omega⟩ l)) + x2 (ix2 0 l) := by
  unfold Ffn.dot
  pointwise [val_main_v5, val_main_v4, val_main_v3, val_main_v2, val_main_v1, val_main_v0]

theorem v45_at : val_main_v45 (F := Ideal) x0 x1 x2 (ix2 t l) = Turn.turnedKeys (fun l => val_main_v5 (F := Ideal) x0 x1 x2 (ix2 t l)) t l := by
  unfold Turn.turnedKeys Turn.turned
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v7, val_main_v6, cos_at, sin_at]
  have e : ∀ (a b : ℕ) (ha : a < 512) (hb : b < 512), a = b → val_main_v5 (F := Ideal) x0 x1 x2 (ix2 t ⟨a, ha⟩) = val_main_v5 (F := Ideal) x0 x1 x2 (ix2 t ⟨b, hb⟩) :=
    fun a b _ _ h => by subst h; rfl
  refine dite_congr rfl (fun _ => dite_congr rfl (fun h => ?_) fun h => dite_congr rfl (fun h' => ?_) fun h' => ?_) fun h => ?_
  · exact congrArg₂ (fun a b : EReal => a * _ - b * _) (e _ _ _ _ (by omega)) (e _ _ _ _ (by omega))
  · exact congrArg₂ (fun a b : EReal => a * _ + b * _) (e _ _ _ _ (by omega)) (e _ _ _ _ (by omega))
  · exact e _ _ _ _ (by omega)
  · exact e _ _ _ _ (by omega)
end

/-- The reference leaves its arguments, and no counter raised. -/
theorem frame : quiescent_KeysRefIdeal (hKeysRefIdeal := Gen.facts) := fun m ρ _ =>
  (θ_run _ _ _).mono (fun r h => ⟨fun c => (h c).2, sem_eq_zero_of_no_sems (by decide) r.2⟩) (Value.run m ρ)

/-- From arguments that agree, both programs end with the keys and the values. -/
theorem algebraic : algebraic_KeysIdeal_KeysRefIdeal (hKeysIdeal := Cert.KeysIdeal.Gen.facts) (hKeysRefIdeal := Gen.facts) := by
  intro m ρ m' ρ' _ hag
  refine ⟨fun c => (Cert.KeysIdeal.Gen.dats m 0 c).arrAt 6 Cert.KeysIdeal.cfg0.N, Cert.KeysIdeal.Value.run_blocks m ρ, ?_⟩
  refine (θ_run _ _ _).mono (fun r h c => ?_) (Value.run m' ρ')
  obtain ⟨e0, e1, e2⟩ := hag c
  obtain ⟨r0, rest⟩ := h c
  refine ⟨r0.trans ?_, rest⟩
  rw [val_main_v45_eq, e0, e1, e2]
  funext y
  obtain ⟨t, l, rfl⟩ : ∃ (t : Fin 4096) (l : Fin 512), y = ix2 t l := ⟨y 0, y 1, eq_ix2 y⟩
  refine (v45_at _ _ _ t l).trans (Eq.trans ?_ (Cert.KeysIdeal.Body.val6 m c t l).symm)
  exact congrArg (fun z => Turn.turnedKeys z t l) (funext fun l => v5_at _ _ _ t l)

end Cert.KeysRefIdeal.Agree
-- ==== Proof.Unturn.lean ====
/-
  Turning the attention's gradients back: what the call's four arrays hold.

  Each point turns back 128 rows of the queries' gradient and of the keys', whose two parts it adds, and adds both to the
  biases' gradients, which the last point writes back.
-/
module

public import proofs.«01_k».proof.Proof.Gen.UnturnIdeal.Value
public import proofs.«01_k».proof.Proof.Turn
public import Idealize.ShloMosaic.Lib.WholeRead
public import Idealize.ShloMosaic.Lib.VecWindow

@[expose] public section

set_option maxRecDepth 16384

noncomputable section

namespace Cert.UnturnIdeal.Body

open Cert.UnturnIdeal Cert.UnturnIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx2 : ∀ t : Fin cfg0.N, win0_2.index t 0 = min (t.val + 1) 31 ∧ win0_2.index t 1 = 0 :=
  (by decide +kernel : ∀ t : Fin grid0.N, win0_2.index t 0 = min (t.val + 1) 31 ∧ win0_2.index t 1 = 0)
theorem idx11 : ∀ t : Fin cfg0.N, ∀ a, win0_11.index t a = 0 := (by decide +kernel : ∀ t : Fin grid0.N, ∀ a, win0_11.index t a = 0)
theorem idx12 : ∀ t : Fin cfg0.N, ∀ a, win0_12.index t a = 0 := (by decide +kernel : ∀ t : Fin grid0.N, ∀ a, win0_12.index t a = 0)

/-- The point that works on row `t`. -/
def pt (t : Fin 4096) : Fin cfg0.N := ⟨t.val / 128, by show _ < grid0.N; rw [N_0]; omega⟩

section
variable {F : FTy → Type} [FloatOps F]
variable (m : (ℓ : Loc nD τ sig) → Buf (Elt F) ℓ) (c : Dev nD)

/-! ### What a point leaves in its blocks -/

/-- The queries' gradient of point `p`, turned back, -/
def qs (p : Fin cfg0.N) : FVec F S128x2048 .f32 := k0_pay8 (iblk m c 0 p) (iblk m c 3 p) (iblk m c 4 p) (iblk m c 5 p)
/-- the two parts of the keys' added, -/
def both (p : Fin cfg0.N) : FVec F S128x512 .f32 := k0_pay9 (grid0.coords p) (iblk m c 1 p) (iblk m c 2 p)
/-- and turned back. -/
def ks (p : Fin cfg0.N) : FVec F S128x512 .f32 := k0_pay1 (both m c p) (k0_pay10 (iblk m c 6 p)) (k0_pay11 (iblk m c 7 p)) (iblk m c 8 p)
def ks16 (p : Fin cfg0.N) : FVec F S128x512 .bf16 := k0_pay3 (both m c p) (k0_pay10 (iblk m c 6 p)) (k0_pay11 (iblk m c 7 p)) (iblk m c 8 p)
def addK (p : Fin cfg0.N) (a : Vec F S1x512 .f32) : FVec F S1x512 .f32 := k0_pay5 (both m c p) (k0_pay10 (iblk m c 6 p)) (k0_pay11 (iblk m c 7 p)) (iblk m c 8 p) a

/-- What the points up to `n` leave in the biases' gradients. -/
def accQ : (n : ℕ) → n < cfg0.N → Vec F S1x2048 .f32
  | 0, h => k0_pay4 (qs m c ⟨0, h⟩) k0_pay6
  | n + 1, h => k0_pay4 (qs m c ⟨n + 1, h⟩) (accQ n (Nat.lt_of_succ_lt h))
def accK : (n : ℕ) → n < cfg0.N → Vec F S1x512 .f32
  | 0, h => addK m c ⟨0, h⟩ k0_pay7
  | n + 1, h => addK m c ⟨n + 1, h⟩ (accK n (Nat.lt_of_succ_lt h))

theorem outA (t : Fin cfg0.N) (h0 : t.val % 32 = 0) : outsAt0 m c t.val t.isLt
    = (k0_pay2 (qs m c t), ks16 m c t, k0_pay4 (qs m c t) k0_pay6, addK m c t k0_pay7) := by
  rw [outsAt0_A m c t h0]
  unfold out0_A_9 out0_A_10 out0_A_11 out0_A_12
  dsimp only [kernelRun0_A]
  refine congrArg₂ Prod.mk ((View.read_writes_full ..).trans ?_) (congrArg₂ Prod.mk ((View.read_writes_full ..).trans ?_)
    (congrArg₂ Prod.mk ((View.read_writes_full ..).trans ?_) ((View.read_writes_full ..).trans ?_)))
  · unfold kernelRun0_A.sl.r qs
    rw [View.readAt_full, View.readAt_full, View.readAt_full, View.readAt_full, (hs0_0 t).read_unread, (hs0_3 t).read_unread, (hs0_4 t).read_unread, (hs0_5 t).read_unread]
  · unfold kernelRun0_A.sl.r_1 kernelRun0_A.sl.r_2 kernelRun0_A.sl.r_3 ks16 both
    rw [View.readAt_full, View.readAt_full, View.readAt_full, View.readAt_full, View.readAt_full, (hs0_1 t).read_unread, (hs0_2 t).read_unread, (hs0_6 t).read_unread, (hs0_7 t).read_unread, (hs0_8 t).read_unread]
  · unfold kernelRun0_A.sl.r kernelRun0_A.sl.v48 qs
    rw [View.readAt_full, View.readAt_full, View.readAt_full, View.readAt_full, (hs0_0 t).read_unread, (hs0_3 t).read_unread, (hs0_4 t).read_unread, (hs0_5 t).read_unread]
    exact congrArg (k0_pay4 _) (View.readCov_full ..)
  · unfold kernelRun0_A.sl.r_1 kernelRun0_A.sl.r_2 kernelRun0_A.sl.r_3 kernelRun0_A.sl.v54 addK both
    rw [View.readAt_full, View.readAt_full, View.readAt_full, View.readAt_full, View.readAt_full, (hs0_1 t).read_unread, (hs0_2 t).read_unread, (hs0_6 t).read_unread, (hs0_7 t).read_unread, (hs0_8 t).read_unread]
    exact congrArg (k0_pay5 _ _ _ _) (View.readCov_full ..)

theorem outB (t : Fin cfg0.N) (h0 : ¬t.val % 32 = 0) : outsAt0 m c t.val t.isLt
    = (k0_pay2 (qs m c t), ks16 m c t, k0_pay4 (qs m c t) (outsAt0 m c (t.val - 1) (Nat.lt_of_le_of_lt (Nat.sub_le _ _) t.isLt)).2.2.1,
        addK m c t (outsAt0 m c (t.val - 1) (Nat.lt_of_le_of_lt (Nat.sub_le _ _) t.isLt)).2.2.2) := by
  rw [outsAt0_B m c t h0]
  unfold out0_B_9 out0_B_10 out0_B_11 out0_B_12
  dsimp only [kernelRun0_B]
  refine congrArg₂ Prod.mk ((View.read_writes_full ..).trans ?_) (congrArg₂ Prod.mk ((View.read_writes_full ..).trans ?_)
    (congrArg₂ Prod.mk ((View.read_writes_full ..).trans ?_) ((View.read_writes_full ..).trans ?_)))
  · unfold kernelRun0_B.sl.r qs
    rw [View.readAt_full, View.readAt_full, View.readAt_full, View.readAt_full, (hs0_0 t).read_unread, (hs0_3 t).read_unread, (hs0_4 t).read_unread, (hs0_5 t).read_unread]
  · unfold kernelRun0_B.sl.r_1 kernelRun0_B.sl.r_2 kernelRun0_B.sl.r_3 ks16 both
    rw [View.readAt_full, View.readAt_full, View.readAt_full, View.readAt_full, View.readAt_full, (hs0_1 t).read_unread, (hs0_2 t).read_unread, (hs0_6 t).read_unread, (hs0_7 t).read_unread, (hs0_8 t).read_unread]
  · unfold kernelRun0_B.sl.r qs
    rw [View.readAt_full, View.readAt_full, View.readAt_full, View.readAt_full, View.readAt_full, (hs0_0 t).read_unread, (hs0_3 t).read_unread, (hs0_4 t).read_unread, (hs0_5 t).read_unread, (hs0_11 t).read_unread]
  · unfold kernelRun0_B.sl.r_1 kernelRun0_B.sl.r_2 kernelRun0_B.sl.r_3 addK both
    rw [View.readAt_full, View.readAt_full, View.readAt_full, View.readAt_full, View.readAt_full, View.readAt_full, (hs0_1 t).read_unread, (hs0_2 t).read_unread, (hs0_6 t).read_unread, (hs0_7 t).read_unread, (hs0_8 t).read_unread, (hs0_12 t).read_unread]

/-- The two wide results' blocks depend on the point alone. -/
theorem out_rows (t : Fin cfg0.N) : (outsAt0 m c t.val t.isLt).1 = k0_pay2 (qs m c t) ∧ (outsAt0 m c t.val t.isLt).2.1 = ks16 m c t := by
  by_cases h0 : t.val % 32 = 0
  · rw [outA m c t h0]; exact ⟨rfl, rfl⟩
  · rw [outB m c t h0]; exact ⟨rfl, rfl⟩

theorem out_acc : ∀ (n : ℕ) (h : n < cfg0.N), (outsAt0 m c n h).2.2 = (accQ m c n h, accK m c n h)
  | 0, h => by rw [show outsAt0 m c 0 h = _ from outA m c ⟨0, h⟩ rfl]; rfl
  | n + 1, h => by
    have hN : cfg0.N = 32 := N_0
    rw [show outsAt0 m c (n + 1) h = _ from outB m c ⟨n + 1, h⟩ (by dsimp only; omega)]
    show (k0_pay4 _ (outsAt0 m c n _).2.2.1, addK m c _ (outsAt0 m c n _).2.2.2) = _
    rw [out_acc n (Nat.lt_of_succ_lt h)]
    rfl

/-! ### The arrays -/

variable (t : Fin 4096) (k : Fin 2048) (l : Fin 512) (u : Fin 128)

theorem qBlk : iblk m c 0 (pt t) (ix2 ⟨t.val % 128, by omega⟩ k) = (m (c.tc.loc main_arg0)) (ix2 t k) := by
  unfold iblk
  rw [View.read_apply]
  show V m c main_arg0 _ = (m (c.tc.loc main_arg0)) _
  rw [V_main_arg0]
  refine congrArg ((m (c.tc.loc main_arg0))) (funext fun b => Fin.ext ?_)
  match b with
  | ⟨0, _⟩ => show win0_0.index (pt t) 0 * 128 + 1 * (t.val % 128) = t.val; rw [(idx0 _).1]; show t.val / 128 * 128 + _ = _; omega
  | ⟨1, _⟩ => show win0_0.index (pt t) 1 * 2048 + 1 * k.val = k.val; rw [(idx0 _).2]; omega
theorem oBlk : iblk m c 1 (pt t) (ix2 ⟨t.val % 128, by omega⟩ l) = (m (c.tc.loc main_arg1)) (ix2 t l) := by
  unfold iblk
  rw [View.read_apply]
  show V m c main_arg1 _ = (m (c.tc.loc main_arg1)) _
  rw [V_main_arg1]
  refine congrArg ((m (c.tc.loc main_arg1))) (funext fun b => Fin.ext ?_)
  match b with
  | ⟨0, _⟩ => show win0_1.index (pt t) 0 * 128 + 1 * (t.val % 128) = t.val; rw [(idx1 _).1]; show t.val / 128 * 128 + _ = _; omega
  | ⟨1, _⟩ => show win0_1.index (pt t) 1 * 512 + 1 * l.val = l.val; rw [(idx1 _).2]; omega
/-- The block after, but for the last. -/
theorem nBlk (h : t.val / 128 < 31) : iblk m c 2 (pt t) (ix2 ⟨t.val % 128, by omega⟩ l) = m (c.tc.loc main_arg2) (ix2 ⟨t.val + 128, by omega⟩ l) := by
  unfold iblk
  rw [View.read_apply]
  show V m c main_arg2 _ = (m (c.tc.loc main_arg2)) _
  rw [V_main_arg2]
  refine congrArg (m (c.tc.loc main_arg2)) (funext fun b => Fin.ext ?_)
  match b with
  | ⟨0, _⟩ => show win0_2.index (pt t) 0 * 128 + 1 * (t.val % 128) = t.val + 128; rw [(idx2 _).1]; show min (t.val / 128 + 1) 31 * 128 + _ = _; omega
  | ⟨1, _⟩ => show win0_2.index (pt t) 1 * 512 + 1 * l.val = l.val; rw [(idx2 _).2]; omega
theorem tab3 : iblk m c 3 (pt t) (ix2 ⟨t.val % 128, by omega⟩ u) = (V m c main_v27) (ix2 t u) := by
  unfold iblk
  rw [View.read_apply]
  show V m c main_v27 _ = (V m c main_v27) _
  refine congrArg ((V m c main_v27)) (funext fun b => Fin.ext ?_)
  match b with
  | ⟨0, _⟩ => show win0_3.index (pt t) 0 * 128 + 1 * (t.val % 128) = t.val; rw [(idx3 _).1]; show t.val / 128 * 128 + _ = _; omega
  | ⟨1, _⟩ => show win0_3.index (pt t) 1 * 128 + 1 * u.val = u.val; rw [(idx3 _).2]; omega
theorem tab4 : iblk m c 4 (pt t) (ix2 ⟨t.val % 128, by omega⟩ u) = (V m c main_v30) (ix2 t u) := by
  unfold iblk
  rw [View.read_apply]
  show V m c main_v30 _ = (V m c main_v30) _
  refine congrArg ((V m c main_v30)) (funext fun b => Fin.ext ?_)
  match b with
  | ⟨0, _⟩ => show win0_4.index (pt t) 0 * 128 + 1 * (t.val % 128) = t.val; rw [(idx4 _).1]; show t.val / 128 * 128 + _ = _; omega
  | ⟨1, _⟩ => show win0_4.index (pt t) 1 * 128 + 1 * u.val = u.val; rw [(idx4 _).2]; omega
theorem tab5 : iblk m c 5 (pt t) (ix2 ⟨t.val % 128, by omega⟩ u) = (V m c main_v33) (ix2 t u) := by
  unfold iblk
  rw [View.read_apply]
  show V m c main_v33 _ = (V m c main_v33) _
  refine congrArg ((V m c main_v33)) (funext fun b => Fin.ext ?_)
  match b with
  | ⟨0, _⟩ => show win0_5.index (pt t) 0 * 128 + 1 * (t.val % 128) = t.val; rw [(idx5 _).1]; show t.val / 128 * 128 + _ = _; omega
  | ⟨1, _⟩ => show win0_5.index (pt t) 1 * 128 + 1 * u.val = u.val; rw [(idx5 _).2]; omega
theorem tab6 : iblk m c 6 (pt t) (ix2 ⟨t.val % 128, by omega⟩ l) = (V m c main_v63) (ix2 t l) := by
  unfold iblk
  rw [View.read_apply]
  show V m c main_v63 _ = (V m c main_v63) _
  refine congrArg ((V m c main_v63)) (funext fun b => Fin.ext ?_)
  match b with
  | ⟨0, _⟩ => show win0_6.index (pt t) 0 * 128 + 1 * (t.val % 128) = t.val; rw [(idx6 _).1]; show t.val / 128 * 128 + _ = _; omega
  | ⟨1, _⟩ => show win0_6.index (pt t) 1 * 512 + 1 * l.val = l.val; rw [(idx6 _).2]; omega
theorem tab7 : iblk m c 7 (pt t) (ix2 ⟨t.val % 128, by omega⟩ l) = (V m c main_v68) (ix2 t l) := by
  unfold iblk
  rw [View.read_apply]
  show V m c main_v68 _ = (V m c main_v68) _
  refine congrArg ((V m c main_v68)) (funext fun b => Fin.ext ?_)
  match b with
  | ⟨0, _⟩ => show win0_7.index (pt t) 0 * 128 + 1 * (t.val % 128) = t.val; rw [(idx7 _).1]; show t.val / 128 * 128 + _ = _; omega
  | ⟨1, _⟩ => show win0_7.index (pt t) 1 * 512 + 1 * l.val = l.val; rw [(idx7 _).2]; omega
theorem tab8 : iblk m c 8 (pt t) (ix2 ⟨t.val % 128, by omega⟩ l) = (V m c main_v73) (ix2 t l) := by
  unfold iblk
  rw [View.read_apply]
  show V m c main_v73 _ = (V m c main_v73) _
  refine congrArg ((V m c main_v73)) (funext fun b => Fin.ext ?_)
  match b with
  | ⟨0, _⟩ => show win0_8.index (pt t) 0 * 128 + 1 * (t.val % 128) = t.val; rw [(idx8 _).1]; show t.val / 128 * 128 + _ = _; omega
  | ⟨1, _⟩ => show win0_8.index (pt t) 1 * 512 + 1 * l.val = l.val; rw [(idx8 _).2]; omega

theorem arr9 : (dats m 0 c).arrAt 9 cfg0.N (ix2 t k) = k0_pay2 (qs m c (pt t)) (ix2 ⟨t.val % 128, by omega⟩ k) := by
  have h := congrFun ((Value.blocks9 m c (pt t) (flush0_9 _)).trans (Value.flushed9 m c (pt t))) (ix2 ⟨t.val % 128, by omega⟩ k)
  rw [View.read_apply, (out_rows m c (pt t)).1] at h
  refine Eq.trans (congrArg ((dats m 0 c).arrAt 9 cfg0.N) (funext fun b => Fin.ext ?_)) h
  match b with
  | ⟨0, _⟩ => show t.val = win0_9.index (pt t) 0 * 128 + 1 * (t.val % 128); rw [(idx9 _).1]; show _ = t.val / 128 * 128 + _; omega
  | ⟨1, _⟩ => show k.val = win0_9.index (pt t) 1 * 2048 + 1 * k.val; rw [(idx9 _).2]; omega

theorem arr10 : (dats m 0 c).arrAt 10 cfg0.N (ix2 t l) = ks16 m c (pt t) (ix2 ⟨t.val % 128, by omega⟩ l) := by
  have h := congrFun ((Value.blocks10 m c (pt t) (flush0_10 _)).trans (Value.flushed10 m c (pt t))) (ix2 ⟨t.val % 128, by omega⟩ l)
  rw [View.read_apply, (out_rows m c (pt t)).2] at h
  refine Eq.trans (congrArg ((dats m 0 c).arrAt 10 cfg0.N) (funext fun b => Fin.ext ?_)) h
  match b with
  | ⟨0, _⟩ => show t.val = win0_10.index (pt t) 0 * 128 + 1 * (t.val % 128); rw [(idx10 _).1]; show _ = t.val / 128 * 128 + _; omega
  | ⟨1, _⟩ => show l.val = win0_10.index (pt t) 1 * 512 + 1 * l.val; rw [(idx10 _).2]; omega

/-- The last point. -/
def tLast : Fin cfg0.N := ⟨31, by show 31 < grid0.N; rw [N_0]; omega⟩

theorem final11 : (dats m 0 c).arrAt 11 cfg0.N = accQ m c 31 tLast.isLt :=
  (dats m 0 c).arrAt_eq_of_cover 11 (accQ m c 31 tLast.isLt : Buf (Elt F) ((c : Thread nD τ).loc main_v74_2))
    (fun t hf => by
      obtain rfl : t = tLast := Fin.ext (by have h := (flush0_11 t).mp hf; have hN : cfg0.N = 32 := N_0; have := t.isLt; show t.val = 31; omega)
      rw [Value.flushed11, out_acc m c tLast.val tLast.isLt]
      have hz : (fun a => win0_11.index tLast a * main_v74_2.ty.shape.size a) = fun _ => 0 := funext fun a => by rw [idx11 tLast a]; omega
      exact (Memref.read_access_unit_zero (Elt F) main_v74_2 hz (fun a => by rw [congrFun hz a]; simp) _).symm)
    fun i => ⟨tLast, (flush0_11 tLast).mpr rfl, by
      show i ∈ ((View.whole main_v74_2).slice (win0_11.rect tLast)).set
      rw [View.set_slice_whole, Rect.mem_set_unit]
      intro a
      show win0_11.index tLast a * S1x2048.size a ≤ (i a : Nat) ∧ (i a : Nat) < win0_11.index tLast a * S1x2048.size a + S1x2048.size a
      rw [idx11 tLast a]
      have h : (i a : Nat) < S1x2048.size a := (i a).isLt
      omega⟩

theorem final12 : (dats m 0 c).arrAt 12 cfg0.N = accK m c 31 tLast.isLt :=
  (dats m 0 c).arrAt_eq_of_cover 12 (accK m c 31 tLast.isLt : Buf (Elt F) ((c : Thread nD τ).loc main_v74_3))
    (fun t hf => by
      obtain rfl : t = tLast := Fin.ext (by have h := (flush0_12 t).mp hf; have hN : cfg0.N = 32 := N_0; have := t.isLt; show t.val = 31; omega)
      rw [Value.flushed12, out_acc m c tLast.val tLast.isLt]
      have hz : (fun a => win0_12.index tLast a * main_v74_3.ty.shape.size a) = fun _ => 0 := funext fun a => by rw [idx12 tLast a]; omega
      exact (Memref.read_access_unit_zero (Elt F) main_v74_3 hz (fun a => by rw [congrFun hz a]; simp) _).symm)
    fun i => ⟨tLast, (flush0_12 tLast).mpr rfl, by
      show i ∈ ((View.whole main_v74_3).slice (win0_12.rect tLast)).set
      rw [View.set_slice_whole, Rect.mem_set_unit]
      intro a
      show win0_12.index tLast a * S1x512.size a ≤ (i a : Nat) ∧ (i a : Nat) < win0_12.index tLast a * S1x512.size a + S1x512.size a
      rw [idx12 tLast a]
      have h : (i a : Nat) < S1x512.size a := (i a).isLt
      omega⟩

end

/-! ### Over the extended reals -/

section
variable (d : FVec Ideal S128x2048 .bf16) (x y z : FVec Ideal S128x128 .f32) (b f g h : FVec Ideal S128x512 .f32) (q : FVec Ideal S128x2048 .f32)
  (a : FVec Ideal S1x2048 .f32) (a' : FVec Ideal S1x512 .f32) (i : Fin 128) (k : Fin 2048) (l : Fin 512)

theorem same_at : shapeCast S128x128 x shapeCasts_S128x128_S128x128 = x := by
  funext j
  obtain ⟨i, u, rfl⟩ : ∃ (i : Fin 128) (u : Fin 128), j = ix2 i u := ⟨j 0, j 1, eq_ix2 j⟩
  pointwise []
theorem whole_at : shapeCast S128x512 b shapeCasts_S128x512_S128x512 (ix2 i l) = b (ix2 i l) := by
  pointwise []

/-- A table laid out over the block. -/
abbrev wide (x : FVec Ideal S128x128 .f32) : FVec Ideal S128x2048 .f32 :=
  concatenate S128x2048 1 (List.replicate 16 (⟨S128x128, shapeCast S128x128 x shapeCasts_S128x128_S128x128⟩ : (s : Shape) × (s.Idx → Ideal .f32)))
    concatenates_S128x128_S128x128_S128x128_S128x128_S128x128_S128x128_S128x128_S128x128_S128x128_S128x128_S128x128_S128x128_S128x128_S128x128_S128x128_S128x128_S128x2048_d1

theorem wide_at : wide x (ix2 i k) = x (ix2 i ⟨k.val % 128, by omega⟩) := by
  unfold wide
  rw [Turn.copies_at, same_at]

theorem pay8_at : k0_pay8 (F := Ideal) d x y z (ix2 i k)
    = Turn.sum3 0xBF800000#32 (d (ix2 i k)) (x (ix2 i ⟨k.val % 128, by omega⟩))
        (d (ix2 i ⟨(k.val + 2048 - 2040) % 2048, by omega⟩)) (y (ix2 i ⟨k.val % 128, by omega⟩))
        (d (ix2 i ⟨(k.val + 2048 - 8) % 2048, by omega⟩)) (z (ix2 i ⟨k.val % 128, by omega⟩)) := by
  have e1 := Turn.rotate_at (by decide) 2040#32 (extf .f32 d bitsLt_bf16_f32) rotates_S128x2048_d1 i k
  have e2 := Turn.rotate_at (by decide) 8#32 (extf .f32 d bitsLt_bf16_f32) rotates_S128x2048_d1 i k
  have e : k0_pay8 (F := Ideal) d x y z (ix2 i k) = Turn.sum3 0xBF800000#32 (d (ix2 i k)) (wide x (ix2 i k))
    (dynamicRotate 1 2040#32 none (extf .f32 d bitsLt_bf16_f32) rotates_S128x2048_d1 (ix2 i k)) (wide y (ix2 i k))
    (dynamicRotate 1 8#32 none (extf .f32 d bitsLt_bf16_f32) rotates_S128x2048_d1 (ix2 i k)) (wide z (ix2 i k)) := rfl
  rw [e, e1, e2, wide_at, wide_at, wide_at]
  rfl

theorem pay1_at : k0_pay1 b (k0_pay10 f) (k0_pay11 g) h (ix2 i l)
    = Turn.sum3 0xBF800000#32 (b (ix2 i l)) (f (ix2 i l)) (b (ix2 i ⟨(l.val + 512 - 504) % 512, by omega⟩)) (g (ix2 i l))
        (b (ix2 i ⟨(l.val + 512 - 8) % 512, by omega⟩)) (h (ix2 i l)) := by
  have e1 := Turn.rotate_at (by decide) 504#32 b rotates_S128x512_d1 i l
  have e2 := Turn.rotate_at (by decide) 8#32 b rotates_S128x512_d1 i l
  have e : k0_pay1 b (k0_pay10 f) (k0_pay11 g) h (ix2 i l) = Turn.sum3 0xBF800000#32 (b (ix2 i l)) (shapeCast S128x512 f shapeCasts_S128x512_S128x512 (ix2 i l))
    (dynamicRotate 1 504#32 none b rotates_S128x512_d1 (ix2 i l)) (shapeCast S128x512 g shapeCasts_S128x512_S128x512 (ix2 i l))
    (dynamicRotate 1 8#32 none b rotates_S128x512_d1 (ix2 i l)) (shapeCast S128x512 h shapeCasts_S128x512_S128x512 (ix2 i l)) := rfl
  rw [e, e1, e2, whole_at, whole_at, whole_at]
  rfl

theorem pay2_at : k0_pay2 q (ix2 i k) = q (ix2 i k) := by
  pointwise [k0_pay2]
theorem pay3_at : k0_pay3 b f g h (ix2 i l) = k0_pay1 b f g h (ix2 i l) := by
  pointwise [k0_pay3]
theorem pay4_at : k0_pay4 q a (ix2 0 k) = a (ix2 0 k) + ∑ i : Fin 128, q (ix2 i k) := by
  pointwise [k0_pay4]
theorem pay5_at : k0_pay5 b f g h a' (ix2 0 l) = a' (ix2 0 l) + ∑ i : Fin 128, k0_pay1 b f g h (ix2 i l) := by
  pointwise [k0_pay5]
theorem pay6_at : (k0_pay6 : FVec Ideal S1x2048 .f32) (ix2 0 k) = 0 := by
  pointwise [k0_pay6]
theorem pay7_at : (k0_pay7 : FVec Ideal S1x512 .f32) (ix2 0 l) = 0 := by
  pointwise [k0_pay7]
end

/-- All points but the last have a block after. -/
theorem before_last : ∀ p : Fin cfg0.N, Scalar.cmpi .slt (BitVec.ofNat 32 ((grid0.coords p) 0).val) 31#32 = if p.val < 31 then 1#1 else 0#1 :=
  (by decide +kernel : ∀ p : Fin grid0.N, Scalar.cmpi .slt (BitVec.ofNat 32 ((grid0.coords p) 0).val) 31#32 = if p.val < 31 then 1#1 else 0#1)

theorem pay9_at (p : Fin cfg0.N) (b f : FVec Ideal S128x512 .f32) (i : Fin 128) (l : Fin 512) :
    k0_pay9 (grid0.coords p) b f (ix2 i l) = b (ix2 i l) + if p.val < 31 then f (ix2 i l) else 0 := by
  have e : k0_pay9 (grid0.coords p) b f = addf b (Scalar.select (Scalar.cmpi .slt (BitVec.ofNat 32 ((grid0.coords p) 0).val) 31#32) f
    (broadcast S128x512 (Scalar.ofBits (F := Ideal) .f32 0x00000000#32))) := rfl
  rw [e, before_last]
  by_cases h : p.val < 31
  · rw [if_pos h, if_pos h]; rfl
  · rw [if_neg h, if_neg h]
    refine congrArg (fun a : EReal => b (ix2 i l) + a) ?_
    show (Ideal.ofBits .f32 0x00000000#32 : EReal) = 0
    simp [Ideal.ofBits, Ideal.ieee]

variable (m : (ℓ : Loc nD τ sig) → Buf (Elt Ideal) ℓ) (c : Dev nD) (t : Fin 4096) (k : Fin 2048) (l : Fin 512)

theorem own_eq : V m c main_v27 = Turn.pair Turn.own := rfl
theorem next_eq : V m c main_v30 = Turn.pair Turn.next := rfl
theorem prev_eq : V m c main_v33 = Turn.pair Turn.prev := rfl
set_option maxHeartbeats 2000000 in
theorem ownKeys_eq : V m c main_v63 = Turn.keysOnly Turn.own 0x3F800000#32 := rfl
set_option maxHeartbeats 2000000 in
theorem nextKeys_eq : V m c main_v68 = Turn.keysOnly Turn.next 0x00000000#32 := rfl
set_option maxHeartbeats 2000000 in
theorem prevKeys_eq : V m c main_v73 = Turn.keysOnly Turn.prev 0x00000000#32 := rfl

/-- The queries' gradient, turned back. -/
def rowQ : EReal := Turn.unturned (fun w => m (c.tc.loc main_arg0) (ix2 t ⟨64 * (k.val / 64) + w.val, by omega⟩)) t ⟨k.val % 64, by omega⟩
/-- What the block after adds to a row's gradient. -/
def after : EReal := if h : t.val / 128 < 31 then m (c.tc.loc main_arg2) (ix2 ⟨t.val + 128, by omega⟩ l) else 0
def sumK : EReal := (fun a b : EReal => a + b) (m (c.tc.loc main_arg1) (ix2 t l)) (after m c t l)
/-- The keys' and the values' gradient, the keys' turned back. -/
def rowK : EReal := Turn.unturnedKeys (sumK m c t) t l

theorem qs_at : qs m c (pt t) (ix2 ⟨t.val % 128, by omega⟩ k) = rowQ m c t k := by
  unfold qs
  rw [pay8_at, qBlk, qBlk, qBlk, tab3, tab4, tab5, own_eq, next_eq, prev_eq, Turn.pair_at, Turn.pair_at, Turn.pair_at]
  refine Eq.trans ?_ (Turn.unturn_eq _ t ⟨k.val % 64, by omega⟩ (m (c.tc.loc main_arg0) (ix2 t ⟨(k.val + 2048 - 2040) % 2048, by omega⟩))
    (m (c.tc.loc main_arg0) (ix2 t ⟨(k.val + 2048 - 8) % 2048, by omega⟩))
    (fun h => congrArg (fun a => m (c.tc.loc main_arg0) (ix2 t a)) (Fin.ext (by simp only at h ⊢; omega)))
    (fun h h' => congrArg (fun a => m (c.tc.loc main_arg0) (ix2 t a)) (Fin.ext (by simp only at h h' ⊢; omega))))
  have hu : (⟨k.val % 128 % 64, by omega⟩ : Fin 64) = ⟨k.val % 64, by omega⟩ := Fin.ext (by simp only; omega)
  have hk : (⟨64 * (k.val / 64) + k.val % 64, by omega⟩ : Fin 2048) = k := Fin.ext (by simp only; omega)
  simp only [hu, hk]

theorem both_at : both m c (pt t) (ix2 ⟨t.val % 128, by omega⟩ l) = sumK m c t l := by
  unfold both
  rw [pay9_at, oBlk]
  refine congrArg ((fun a b : EReal => a + b) (m (c.tc.loc main_arg1) (ix2 t l))) ?_
  unfold after
  by_cases h : t.val / 128 < 31
  · rw [if_pos (show (pt t).val < 31 from h), dif_pos h, nBlk m c t l h]
  · rw [if_neg (show ¬(pt t).val < 31 from h), dif_neg h]

theorem ks_at : ks m c (pt t) (ix2 ⟨t.val % 128, by omega⟩ l) = rowK m c t l := by
  unfold ks
  rw [pay1_at, both_at, both_at, both_at, tab6, tab7, tab8, ownKeys_eq, nextKeys_eq, prevKeys_eq]
  exact Turn.unturnKeys_eq _ t l _ _ (by simp only; omega) rfl

theorem val9 : (dats m 0 c).arrAt 9 cfg0.N (ix2 t k) = rowQ m c t k := by
  rw [arr9, pay2_at, qs_at]
theorem val10 : (dats m 0 c).arrAt 10 cfg0.N (ix2 t l) = rowK m c t l := by
  rw [arr10]
  unfold ks16
  rw [pay3_at]
  exact ks_at m c t l

/-- A block's rows. -/
abbrev rowOf (n : Fin 32) (i : Fin 128) : Fin 4096 := Ffn.blk (n := 32) (k := 128) (by decide) n i

theorem at_block (f : (p : Fin cfg0.N) → Fin 128 → EReal) (r : Fin 4096 → EReal) (hf : ∀ t : Fin 4096, f (pt t) ⟨t.val % 128, by omega⟩ = r t)
    (n : ℕ) (h : n < cfg0.N) (h' : n < 32) (i : Fin 128) : f ⟨n, h⟩ i = r (rowOf ⟨n, h'⟩ i) := by
  have hp : pt (rowOf ⟨n, h'⟩ i) = ⟨n, h⟩ := Fin.ext (Ffn.blk_div (by decide) ⟨n, h'⟩ i)
  have hi : (⟨(rowOf ⟨n, h'⟩ i).val % 128, by omega⟩ : Fin 128) = i := Fin.ext (Ffn.blk_mod (by decide) ⟨n, h'⟩ i)
  rw [← hf, hp, hi]

theorem accQ_at : ∀ (n : ℕ) (h : n < cfg0.N) (h' : n < 32), accQ m c n h (ix2 0 k)
    = ∑ j : Fin (n + 1), ∑ i : Fin 128, rowQ m c (rowOf ⟨j.val, by omega⟩ i) k
  | 0, h, h' => by
    unfold accQ
    rw [pay4_at, pay6_at, zero_add, Fin.sum_univ_one]
    exact Finset.sum_congr rfl fun i _ => at_block (fun p i => qs m c p (ix2 i k)) (fun t => rowQ m c t k) (fun t => qs_at m c t k) 0 h h' i
  | n + 1, h, h' => by
    unfold accQ
    rw [pay4_at, accQ_at n (Nat.lt_of_succ_lt h) (Nat.lt_of_succ_lt h'), Fin.sum_univ_castSucc (n := n + 1)]
    exact congrArg (fun a : EReal => _ + a) (Finset.sum_congr rfl fun i _ =>
      at_block (fun p i => qs m c p (ix2 i k)) (fun t => rowQ m c t k) (fun t => qs_at m c t k) (n + 1) h h' i)

theorem accK_at : ∀ (n : ℕ) (h : n < cfg0.N) (h' : n < 32), accK m c n h (ix2 0 l)
    = ∑ j : Fin (n + 1), ∑ i : Fin 128, rowK m c (rowOf ⟨j.val, by omega⟩ i) l
  | 0, h, h' => by
    unfold accK addK
    rw [pay5_at, pay7_at, zero_add, Fin.sum_univ_one]
    exact Finset.sum_congr rfl fun i _ => at_block (fun p i => ks m c p (ix2 i l)) (fun t => rowK m c t l) (fun t => ks_at m c t l) 0 h h' i
  | n + 1, h, h' => by
    unfold accK addK
    rw [pay5_at, accK_at n (Nat.lt_of_succ_lt h) (Nat.lt_of_succ_lt h'), Fin.sum_univ_castSucc (n := n + 1)]
    exact congrArg (fun a : EReal => _ + a) (Finset.sum_congr rfl fun i _ =>
      at_block (fun p i => ks m c p (ix2 i l)) (fun t => rowK m c t l) (fun t => ks_at m c t l) (n + 1) h h' i)

/-- The biases' gradients are the sums over the rows. -/
theorem val11 : (dats m 0 c).arrAt 11 cfg0.N (ix2 0 k) = ∑ t, rowQ m c t k := by
  rw [final11, accQ_at m c k 31 tLast.isLt (by decide), Ffn.sum_blocks (n := 32) (k := 128) (N := 4096) (by decide)]
theorem val12 : (dats m 0 c).arrAt 12 cfg0.N (ix2 0 l) = ∑ t, rowK m c t l := by
  rw [final12, accK_at m c l 31 tLast.isLt (by decide), Ffn.sum_blocks (n := 32) (k := 128) (N := 4096) (by decide)]

end Cert.UnturnIdeal.Body
-- ==== Proof.UnturnAgree.lean ====
/-
  The gradients of the queries and the keys, turned back: the reference's results are the kernel's.
-/
module

public import proofs.«01_k».proof.Proof.Unturn
public import proofs.«01_k».proof.Proof.Gen.UnturnRefIdeal.Read
public import proofs.«01_k».proof.Proof.Gen.UnturnIdeal.Frame
public import proofs.«01_k».proof.Defs
public import Idealize.ShloMosaic.Lib.Quiescent

@[expose] public section

set_option maxRecDepth 16384

noncomputable section

namespace Cert.UnturnRefIdeal.Agree

open Idealize.ShloMosaic Idealize.ShloMosaic.TcCoe Idealize.SL.Sem Cert.UnturnRefIdeal Cert.UnturnRefIdeal.Read

theorem angle_eq : val_main_v15 (F := Ideal) = Turn.angle := rfl
theorem angleKeys_eq : val_main_v59 (F := Ideal) = Turn.angle := rfl

theorem cos_at (t : Fin 4096) (i : Fin 8) : val_main_v16 (F := Ideal) (ix2 t i) = Turn.cs t i := by
  unfold Turn.cs val_main_v16
  rw [angle_eq]
  pointwise []
theorem sin_at (t : Fin 4096) (i : Fin 8) : val_main_v17 (F := Ideal) (ix2 t i) = Turn.sn t i := by
  unfold Turn.sn val_main_v17
  rw [angle_eq]
  pointwise []
theorem cosKeys_at (t : Fin 4096) (i : Fin 8) : val_main_v60 (F := Ideal) (ix2 t i) = Turn.cs t i := by
  unfold Turn.cs val_main_v60
  rw [angleKeys_eq]
  pointwise []
theorem sinKeys_at (t : Fin 4096) (i : Fin 8) : val_main_v61 (F := Ideal) (ix2 t i) = Turn.sn t i := by
  unfold Turn.sn val_main_v61
  rw [angleKeys_eq]
  pointwise []

section
variable (x0 : Vec Ideal S4096x2048 .bf16) (x1 x2 : Vec Ideal S4096x512 .f32) (t : Fin 4096) (k : Fin 2048) (l : Fin 512)

theorem v41_at : val_main_v41 (F := Ideal) x0 (ix2 t k)
    = Turn.unturned (fun w => x0 (ix2 t ⟨64 * (k.val / 64) + w.val, by omega⟩)) t ⟨k.val % 64, by omega⟩ := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_3, val_main_cst_4, val_main_cst_5, cos_at, sin_at]
  have e : ∀ (a b : ℕ) (ha : a < 2048) (hb : b < 2048), a = b → x0 (ix2 t ⟨a, ha⟩) = x0 (ix2 t ⟨b, hb⟩) := fun a b _ _ h => by subst h; rfl
  refine Turn.unturned_sum _ _ _ _ t _ (by dsimp only; omega) (by dsimp only; omega) (by dsimp only; omega) (fun h => ?_) (fun h _ => ?_) fun h _ => ?_
  · exact e _ _ _ _ (by dsimp only; omega)
  · exact congrArg₂ (fun a b : EReal => a * _ + -b * _) (e _ _ _ _ (by dsimp only; omega)) (e _ _ _ _ (by dsimp only; omega))
  · exact congrArg₂ (fun a b : EReal => a * _ + b * _) (e _ _ _ _ (by dsimp only; omega)) (e _ _ _ _ (by dsimp only; omega))

theorem v70_at : val_main_v70 (F := Ideal) x1 x2 (ix2 t l)
    = x1 (ix2 t l) + if h : t.val / 128 < 31 then x2 (ix2 ⟨t.val + 128, by omega⟩ l) else 0 := by
  pointwise [val_main_v70, val_main_v69, val_main_v68, val_main_v67, val_main_v65, val_main_cst_12]
  refine congrArg ((fun a b : EReal => a + b) (x1 (ix2 t l))) ?_
  by_cases h : t.val / 128 < 31
  · rw [dif_pos (⟨h, by omega⟩ : t.val / 128 < 31 ∧ t.val % 128 < 128), dif_pos h]
    exact congrArg (fun t => x2 (ix2 t l)) (Fin.ext (by dsimp only; omega))
  · rw [dif_neg (fun x => h x.1), dif_neg h]

theorem v96_at : val_main_v96 (F := Ideal) x1 x2 (ix2 t l) = Turn.unturnedKeys (fun l => val_main_v70 (F := Ideal) x1 x2 (ix2 t l)) t l := by
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v63, val_main_v62, val_main_cst_13, val_main_cst_14, val_main_cst_15, val_main_cst_16, val_main_cst_17, cosKeys_at, sinKeys_at]
  have e : ∀ (a b : ℕ) (ha : a < 512) (hb : b < 512), a = b → val_main_v70 (F := Ideal) x1 x2 (ix2 t ⟨a, ha⟩) = val_main_v70 (F := Ideal) x1 x2 (ix2 t ⟨b, hb⟩) :=
    fun a b _ _ h => by subst h; rfl
  refine Turn.unturnedKeys_sum _ t l _ _ (by omega) (fun h => e _ _ _ _ (by omega)) fun hl => ?_
  refine Turn.unturned_sum _ _ _ _ t _ (by dsimp only; omega) (by dsimp only; omega) (by dsimp only; omega) (fun h => ?_) (fun h _ => ?_) fun h _ => ?_
  · exact e _ _ _ _ (by dsimp only; omega)
  · exact congrArg₂ (fun a b : EReal => a * _ + -b * _) (e _ _ _ _ (by dsimp only; omega)) (e _ _ _ _ (by dsimp only; omega))
  · exact congrArg₂ (fun a b : EReal => a * _ + b * _) (e _ _ _ _ (by dsimp only; omega)) (e _ _ _ _ (by dsimp only; omega))

theorem v43_at : val_main_v43 (F := Ideal) x0 (ix2 0 k) = ∑ t, val_main_v41 (F := Ideal) x0 (ix2 t k) := by
  pointwise [val_main_v43, val_main_v42, val_main_cst_6]
theorem v98_at : val_main_v98 (F := Ideal) x1 x2 (ix2 0 l) = ∑ t, val_main_v96 (F := Ideal) x1 x2 (ix2 t l) := by
  pointwise [val_main_v98, val_main_v97, val_main_cst_18]
theorem v99_at : val_main_v99 (F := Ideal) x0 (ix2 t k) = val_main_v41 (F := Ideal) x0 (ix2 t k) := by
  pointwise [val_main_v99]
theorem v100_at : val_main_v100 (F := Ideal) x1 x2 (ix2 t l) = val_main_v96 (F := Ideal) x1 x2 (ix2 t l) := by
  pointwise [val_main_v100]
end

/-- The reference leaves its arguments, and no counter raised. -/
theorem frame : quiescent_UnturnRefIdeal (hUnturnRefIdeal := Gen.facts) := fun m ρ _ =>
  (θ_run _ _ _).mono (fun r h => ⟨fun c => (h c).2.2.2.2, sem_eq_zero_of_no_sems (by decide) r.2⟩) (Value.run m ρ)

section
variable (m : (ℓ : Loc Cert.UnturnIdeal.nD Cert.UnturnIdeal.τ Cert.UnturnIdeal.sig) → Buf (Elt Ideal) ℓ) (c : Dev Cert.UnturnIdeal.nD) (t : Fin 4096) (k : Fin 2048) (l : Fin 512)

abbrev arg0 : Vec Ideal S4096x2048 .bf16 := m (c.tc.loc Cert.UnturnIdeal.main_arg0)
abbrev arg1 : Vec Ideal S4096x512 .f32 := m (c.tc.loc Cert.UnturnIdeal.main_arg1)
abbrev arg2 : Vec Ideal S4096x512 .f32 := m (c.tc.loc Cert.UnturnIdeal.main_arg2)

/-- The four results at an element. -/
theorem queries_eq : val_main_v41 (F := Ideal) (arg0 m c) (ix2 t k) = Cert.UnturnIdeal.Body.rowQ m c t k := v41_at (arg0 m c) t k
theorem keys_eq : val_main_v96 (F := Ideal) (arg1 m c) (arg2 m c) (ix2 t l) = Cert.UnturnIdeal.Body.rowK m c t l :=
  (v96_at (arg1 m c) (arg2 m c) t l).trans (congrArg (fun f => Turn.unturnedKeys f t l) (funext fun l => v70_at (arg1 m c) (arg2 m c) t l))
theorem queriesCopy_eq : val_main_v99 (F := Ideal) (arg0 m c) (ix2 t k) = Cert.UnturnIdeal.Body.rowQ m c t k := by
  rw [v99_at, queries_eq]
theorem keysCopy_eq : val_main_v100 (F := Ideal) (arg1 m c) (arg2 m c) (ix2 t l) = Cert.UnturnIdeal.Body.rowK m c t l := by
  rw [v100_at, keys_eq]
theorem queriesSum_eq : val_main_v43 (F := Ideal) (arg0 m c) (ix2 0 k) = ∑ t, Cert.UnturnIdeal.Body.rowQ m c t k := by
  rw [v43_at]
  exact Finset.sum_congr rfl fun t _ => queries_eq m c t k
theorem keysSum_eq : val_main_v98 (F := Ideal) (arg1 m c) (arg2 m c) (ix2 0 l) = ∑ t, Cert.UnturnIdeal.Body.rowK m c t l := by
  rw [v98_at]
  exact Finset.sum_congr rfl fun t _ => keys_eq m c t l
end

set_option maxHeartbeats 2000000 in
/-- From arguments that agree, both programs end with the gradients turned back and those of the biases. -/
theorem algebraic : algebraic_UnturnIdeal_UnturnRefIdeal (hUnturnIdeal := Cert.UnturnIdeal.Gen.facts) (hUnturnRefIdeal := Gen.facts) := by
  intro m ρ m' ρ' _ hag
  refine ⟨fun c => (Cert.UnturnIdeal.Gen.dats m 0 c).arrAt 9 Cert.UnturnIdeal.cfg0.N, fun c => (Cert.UnturnIdeal.Gen.dats m 0 c).arrAt 10 Cert.UnturnIdeal.cfg0.N,
    fun c => (Cert.UnturnIdeal.Gen.dats m 0 c).arrAt 11 Cert.UnturnIdeal.cfg0.N, fun c => (Cert.UnturnIdeal.Gen.dats m 0 c).arrAt 12 Cert.UnturnIdeal.cfg0.N,
    Cert.UnturnIdeal.Value.run_blocks m ρ, ?_⟩
  refine (θ_run _ _ _).mono (fun r h c => ?_) (Value.run m' ρ')
  obtain ⟨e0, e1, e2⟩ := hag c
  obtain ⟨r0, r1, r2, r3, rest⟩ := h c
  refine ⟨r0.trans ?_, r1.trans ?_, r2.trans ?_, r3.trans ?_, rest⟩
  · rw [val_main_v99_eq, e0]
    funext y
    obtain ⟨t, k, rfl⟩ : ∃ (t : Fin 4096) (k : Fin 2048), y = ix2 t k := ⟨y 0, y 1, eq_ix2 y⟩
    exact (queriesCopy_eq m c t k).trans (Cert.UnturnIdeal.Body.val9 m c t k).symm
  · rw [val_main_v100_eq, e1, e2]
    funext y
    obtain ⟨t, l, rfl⟩ : ∃ (t : Fin 4096) (l : Fin 512), y = ix2 t l := ⟨y 0, y 1, eq_ix2 y⟩
    exact (keysCopy_eq m c t l).trans (Cert.UnturnIdeal.Body.val10 m c t l).symm
  · rw [val_main_v43_eq, e0]
    funext y
    obtain ⟨a, k, rfl⟩ : ∃ (a : Fin 1) (k : Fin 2048), y = ix2 a k := ⟨y 0, y 1, eq_ix2 y⟩
    obtain rfl : a = 0 := Subsingleton.elim _ _
    exact (queriesSum_eq m c k).trans (Cert.UnturnIdeal.Body.val11 m c k).symm
  · rw [val_main_v98_eq, e1, e2]
    funext y
    obtain ⟨a, l, rfl⟩ : ∃ (a : Fin 1) (l : Fin 512), y = ix2 a l := ⟨y 0, y 1, eq_ix2 y⟩
    obtain rfl : a = 0 := Subsingleton.elim _ _
    exact (keysSum_eq m c l).trans (Cert.UnturnIdeal.Body.val12 m c l).symm

end Cert.UnturnRefIdeal.Agree
-- ==== Proof.Fold.lean ====
/-
  The sum that points leave when each adds its share to what the one before left.
-/
module

public import proofs.«01_k».proof.Proof.Blocks

@[expose] public section

noncomputable section

namespace Cert.Fold

/-- Points that add a share each leave the sum of the shares. -/
theorem acc_sum {N : ℕ} (f share : (n : ℕ) → n < N → EReal) (h0 : ∀ h, f 0 h = share 0 h)
    (hs : ∀ n h, f (n + 1) h = f n (Nat.lt_of_succ_lt h) + share (n + 1) h) :
    ∀ (n : ℕ) (h : n < N), f n h = ∑ i : Fin (n + 1), share i.val (Nat.lt_of_lt_of_le i.isLt h)
  | 0, h => (h0 h).trans (Fin.sum_univ_one (fun i : Fin 1 => share i.val (Nat.lt_of_lt_of_le i.isLt h))).symm
  | n + 1, h => by
    rw [hs, acc_sum f share h0 hs n, Fin.sum_univ_castSucc (n := n + 1)]
    rfl

end Cert.Fold
-- ==== Proof.LossHead.lean ====
/-
  The loss with the final normalisation, and its gradient: what the call's four arrays hold.

  Each point stores 512 rows of the gradient and of its narrow copy, and adds their share to the weights' gradient and to the
  loss, which the last point writes back.
-/
module

public import proofs.«01_k».proof.Proof.Gen.LossHeadIdeal.Value
public import proofs.«01_k».proof.Proof.Root
public import proofs.«01_k».proof.Proof.Fold
public import Idealize.ShloMosaic.Lib.WholeRead
public import Idealize.ShloMosaic.Lib.VecWindow
public import Idealize.ShloMosaic.Lib.Pointwise
public import Idealize.ShloMosaic.Lib.Pipeline.ValueKit.Basic

@[expose] public section

set_option maxRecDepth 16384

noncomputable section

namespace Cert.LossHeadIdeal.Body

open Cert.LossHeadIdeal Cert.LossHeadIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 := idx0
theorem idx3 : ∀ t : Fin cfg0.N, win0_3.index t 0 = t.val ∧ win0_3.index t 1 = 0 := idx0
theorem idx4 : ∀ t : Fin cfg0.N, win0_4.index t 0 = t.val ∧ win0_4.index t 1 = 0 := idx0
theorem idx5 : ∀ t : Fin cfg0.N, ∀ a, win0_5.index t a = 0 := (by decide +kernel : ∀ t : Fin grid0.N, ∀ a, win0_5.index t a = 0)
theorem idx6 : ∀ t : Fin cfg0.N, ∀ a, win0_6.index t a = 0 := (by decide +kernel : ∀ t : Fin grid0.N, ∀ a, win0_6.index t a = 0)

/-- The point that works on row `t`, -/
def pt (t : Fin 4096) : Fin cfg0.N := ⟨t.val / 512, by show _ < grid0.N; rw [N_0]; omega⟩
/-- and the rows that point `p` works on. -/
def row (p : Fin cfg0.N) (i : Fin 512) : Fin 4096 := Ffn.blk (n := 8) (k := 512) (by decide) ⟨p.val, lt_of_lt_of_eq p.isLt N_0⟩ i
theorem row_pt (t : Fin 4096) : row (pt t) ⟨t.val % 512, by omega⟩ = t := Fin.ext (Nat.div_add_mod t.val 512)

section
variable {F : FTy → Type} [FloatOps F]
variable (m : (ℓ : Loc nD τ sig) → Buf (Elt F) ℓ) (c : Dev nD)

/-! ### What a point leaves in its blocks -/

/-- The rows' gradient of point `p`, its narrow copy, -/
def dx (p : Fin cfg0.N) : FVec F S512x2048 .f32 := k0_pay1 (iblk m c 1 p) (k0_pay6 (iblk m c 0 p)) (k0_pay7 (iblk m c 0 p)) (k0_pay10 (iblk m c 0 p) (iblk m c 1 p) (iblk m c 2 p))
def dx16 (p : Fin cfg0.N) : FVec F S512x2048 .bf16 := k0_pay2 (iblk m c 1 p) (k0_pay6 (iblk m c 0 p)) (k0_pay7 (iblk m c 0 p)) (k0_pay10 (iblk m c 0 p) (iblk m c 1 p) (iblk m c 2 p))
/-- and what it makes of the weights' gradient and of the loss. -/
def addG (p : Fin cfg0.N) (a : Vec F S1x2048 .f32) : FVec F S1x2048 .f32 := k0_pay3 (k0_pay7 (iblk m c 0 p)) (k0_pay10 (iblk m c 0 p) (iblk m c 1 p) (iblk m c 2 p)) a
def addL (p : Fin cfg0.N) (a : Vec F S1x128 .f32) : FVec F S1x128 .f32 := k0_pay9 (iblk m c 0 p) (iblk m c 1 p) (iblk m c 2 p) a

/-- What the points up to `n` leave in these two. -/
def accG : (n : ℕ) → n < cfg0.N → Vec F S1x2048 .f32
  | 0, h => addG m c ⟨0, h⟩ k0_pay4
  | n + 1, h => addG m c ⟨n + 1, h⟩ (accG n (Nat.lt_of_succ_lt h))
def accL : (n : ℕ) → n < cfg0.N → Vec F S1x128 .f32
  | 0, h => addL m c ⟨0, h⟩ k0_pay5
  | n + 1, h => addL m c ⟨n + 1, h⟩ (accL n (Nat.lt_of_succ_lt h))

theorem outA (t : Fin cfg0.N) (h0 : t.val % 8 = 0) : outsAt0 m c t.val t.isLt = (dx m c t, dx16 m c t, addG m c t k0_pay4, addL m c t k0_pay5) := by
  rw [outsAt0_A m c t h0]
  unfold out0_A_3 out0_A_4 out0_A_5 out0_A_6
  dsimp only [kernelRun0_A]
  refine congrArg₂ Prod.mk ((View.read_writes_full ..).trans ?_) (congrArg₂ Prod.mk ((View.read_writes_full ..).trans ?_)
    (congrArg₂ Prod.mk ((View.read_writes_full ..).trans ?_) ((View.read_writes_full ..).trans ?_)))
  · unfold kernelRun0_A.sl.r kernelRun0_A.sl.r_1 kernelRun0_A.sl.r_2 kernelRun0_A.sl.r_3 dx
    rw [View.readAt_full, View.readAt_full, View.readAt_full, (hs0_0 t).read_unread, (hs0_1 t).read_unread, (hs0_2 t).read_unread]
  · unfold kernelRun0_A.sl.r kernelRun0_A.sl.r_1 kernelRun0_A.sl.r_2 kernelRun0_A.sl.r_3 dx16
    rw [View.readAt_full, View.readAt_full, View.readAt_full, (hs0_0 t).read_unread, (hs0_1 t).read_unread, (hs0_2 t).read_unread]
  · unfold kernelRun0_A.sl.r_2 kernelRun0_A.sl.r_3 addG
    rw [View.readAt_full, View.readAt_full, View.readAt_full, (hs0_0 t).read_unread, (hs0_1 t).read_unread, (hs0_2 t).read_unread]
    exact congrArg (k0_pay3 _ _) (View.readCov_full ..)
  · unfold addL
    rw [View.readAt_full, View.readAt_full, View.readAt_full, (hs0_0 t).read_unread, (hs0_1 t).read_unread, (hs0_2 t).read_unread]
    exact congrArg (k0_pay9 _ _ _) (View.readCov_full ..)

theorem outB (t : Fin cfg0.N) (h0 : ¬t.val % 8 = 0) : outsAt0 m c t.val t.isLt
    = (dx m c t, dx16 m c t, addG m c t (outsAt0 m c (t.val - 1) (Nat.lt_of_le_of_lt (Nat.sub_le _ _) t.isLt)).2.2.1,
        addL m c t (outsAt0 m c (t.val - 1) (Nat.lt_of_le_of_lt (Nat.sub_le _ _) t.isLt)).2.2.2) := by
  rw [outsAt0_B m c t h0]
  unfold out0_B_3 out0_B_4 out0_B_5 out0_B_6
  dsimp only [kernelRun0_B]
  refine congrArg₂ Prod.mk ((View.read_writes_full ..).trans ?_) (congrArg₂ Prod.mk ((View.read_writes_full ..).trans ?_)
    (congrArg₂ Prod.mk ((View.read_writes_full ..).trans ?_) ((View.read_writes_full ..).trans ?_)))
  · unfold kernelRun0_B.sl.r kernelRun0_B.sl.r_1 kernelRun0_B.sl.r_2 kernelRun0_B.sl.r_3 dx
    rw [View.readAt_full, View.readAt_full, View.readAt_full, (hs0_0 t).read_unread, (hs0_1 t).read_unread, (hs0_2 t).read_unread]
  · unfold kernelRun0_B.sl.r kernelRun0_B.sl.r_1 kernelRun0_B.sl.r_2 kernelRun0_B.sl.r_3 dx16
    rw [View.readAt_full, View.readAt_full, View.readAt_full, (hs0_0 t).read_unread, (hs0_1 t).read_unread, (hs0_2 t).read_unread]
  · unfold kernelRun0_B.sl.r_2 kernelRun0_B.sl.r_3 addG
    rw [View.readAt_full, View.readAt_full, View.readAt_full, View.readAt_full, (hs0_0 t).read_unread, (hs0_1 t).read_unread, (hs0_2 t).read_unread, (hs0_5 t).read_unread]
  · unfold addL
    rw [View.readAt_full, View.readAt_full, View.readAt_full, View.readAt_full, (hs0_0 t).read_unread, (hs0_1 t).read_unread, (hs0_2 t).read_unread, (hs0_6 t).read_unread]

/-- The two wide results' blocks depend on the point alone. -/
theorem out_rows (t : Fin cfg0.N) : (outsAt0 m c t.val t.isLt).1 = dx m c t ∧ (outsAt0 m c t.val t.isLt).2.1 = dx16 m c t := by
  by_cases h0 : t.val % 8 = 0
  · rw [outA m c t h0]; exact ⟨rfl, rfl⟩
  · rw [outB m c t h0]; exact ⟨rfl, rfl⟩

theorem out_acc : ∀ (n : ℕ) (h : n < cfg0.N), (outsAt0 m c n h).2.2 = (accG m c n h, accL m c n h)
  | 0, h => by rw [show outsAt0 m c 0 h = _ from outA m c ⟨0, h⟩ rfl]; rfl
  | n + 1, h => by
    have hN : cfg0.N = 8 := N_0
    rw [show outsAt0 m c (n + 1) h = _ from outB m c ⟨n + 1, h⟩ (by dsimp only; omega)]
    show (addG m c _ (outsAt0 m c n _).2.2.1, addL m c _ (outsAt0 m c n _).2.2.2) = _
    rw [out_acc n (Nat.lt_of_succ_lt h)]
    rfl

/-! ### The arrays -/

section
variable (p : Fin cfg0.N) (i : Fin 512) (l : Fin 2048)

theorem xBlk : iblk m c 0 p (ix2 i l) = m (c.tc.loc main_arg0) (ix2 (row p i) l) := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index p 0 * 512 + 1 * i.val = 512 * p.val + i.val; rw [(idx0 _).1]; omega
  | ⟨1, _⟩ => show win0_0.index p 1 * 2048 + 1 * l.val = l.val; rw [(idx0 _).2]; omega

theorem gBlk : iblk m c 1 p (ix2 0 l) = m (c.tc.loc main_arg1) (ix2 0 l) := by
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_1.index p 0 * 1 + 1 * 0 = 0; rw [(idx1 _).1]
  | ⟨1, _⟩ => show win0_1.index p 1 * 2048 + 1 * l.val = l.val; rw [(idx1 _).2]; omega

theorem yBlk : iblk m c 2 p (ix2 i l) = m (c.tc.loc main_arg2) (ix2 (row p i) l) := by
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_2.index p 0 * 512 + 1 * i.val = 512 * p.val + i.val; rw [(idx2 _).1]; omega
  | ⟨1, _⟩ => show win0_2.index p 1 * 2048 + 1 * l.val = l.val; rw [(idx2 _).2]; omega
end

variable (t : Fin 4096) (l : Fin 2048)

theorem arr3 : (dats m 0 c).arrAt 3 cfg0.N (ix2 t l) = dx m c (pt t) (ix2 ⟨t.val % 512, by omega⟩ l) := by
  have h := congrFun ((Value.blocks3 m c (pt t) (flush0_3 _)).trans (Value.flushed3 m c (pt t))) (ix2 ⟨t.val % 512, by omega⟩ l)
  rw [View.read_apply, (out_rows m c (pt t)).1] at h
  refine Eq.trans (congrArg ((dats m 0 c).arrAt 3 cfg0.N) (funext fun b => Fin.ext ?_)) h
  match b with
  | ⟨0, _⟩ => show t.val = win0_3.index (pt t) 0 * 512 + 1 * (t.val % 512); rw [(idx3 _).1]; show _ = t.val / 512 * 512 + _; omega
  | ⟨1, _⟩ => show l.val = win0_3.index (pt t) 1 * 2048 + 1 * l.val; rw [(idx3 _).2]; omega

theorem arr4 : (dats m 0 c).arrAt 4 cfg0.N (ix2 t l) = dx16 m c (pt t) (ix2 ⟨t.val % 512, by omega⟩ l) := by
  have h := congrFun ((Value.blocks4 m c (pt t) (flush0_4 _)).trans (Value.flushed4 m c (pt t))) (ix2 ⟨t.val % 512, by omega⟩ l)
  rw [View.read_apply, (out_rows m c (pt t)).2] at h
  refine Eq.trans (congrArg ((dats m 0 c).arrAt 4 cfg0.N) (funext fun b => Fin.ext ?_)) h
  match b with
  | ⟨0, _⟩ => show t.val = win0_4.index (pt t) 0 * 512 + 1 * (t.val % 512); rw [(idx4 _).1]; show _ = t.val / 512 * 512 + _; omega
  | ⟨1, _⟩ => show l.val = win0_4.index (pt t) 1 * 2048 + 1 * l.val; rw [(idx4 _).2]; omega

/-- The last point. -/
def tLast : Fin cfg0.N := ⟨7, by show 7 < grid0.N; rw [N_0]; omega⟩

theorem final5 : (dats m 0 c).arrAt 5 cfg0.N = accG m c 7 tLast.isLt :=
  (dats m 0 c).arrAt_eq_of_cover 5 (accG m c 7 tLast.isLt : Buf (Elt F) ((c : Thread nD τ).loc main_v0_2))
    (fun t hf => by
      obtain rfl : t = tLast := Fin.ext (by have h := (flush0_5 t).mp hf; have hN : cfg0.N = 8 := N_0; have := t.isLt; show t.val = 7; omega)
      rw [Value.flushed5, show (outsAt0 m c tLast.val tLast.isLt).2.2.1 = _ from congrArg Prod.fst (out_acc m c tLast.val tLast.isLt)]
      have hz : (fun a => win0_5.index tLast a * main_v0_2.ty.shape.size a) = fun _ => 0 := funext fun a => by rw [idx5 tLast a]; omega
      exact (Memref.read_access_unit_zero (Elt F) main_v0_2 hz (fun a => by rw [congrFun hz a]; simp) _).symm)
    fun i => ⟨tLast, (flush0_5 tLast).mpr rfl, by
      show i ∈ ((View.whole main_v0_2).slice (win0_5.rect tLast)).set
      rw [View.set_slice_whole, Rect.mem_set_unit]
      intro a
      show win0_5.index tLast a * S1x2048.size a ≤ (i a : Nat) ∧ (i a : Nat) < win0_5.index tLast a * S1x2048.size a + S1x2048.size a
      rw [idx5 tLast a]
      have h : (i a : Nat) < S1x2048.size a := (i a).isLt
      omega⟩

theorem final6 : (dats m 0 c).arrAt 6 cfg0.N = accL m c 7 tLast.isLt :=
  (dats m 0 c).arrAt_eq_of_cover 6 (accL m c 7 tLast.isLt : Buf (Elt F) ((c : Thread nD τ).loc main_v0_3))
    (fun t hf => by
      obtain rfl : t = tLast := Fin.ext (by have h := (flush0_6 t).mp hf; have hN : cfg0.N = 8 := N_0; have := t.isLt; show t.val = 7; omega)
      rw [Value.flushed6, show (outsAt0 m c tLast.val tLast.isLt).2.2.2 = _ from congrArg Prod.snd (out_acc m c tLast.val tLast.isLt)]
      have hz : (fun a => win0_6.index tLast a * main_v0_3.ty.shape.size a) = fun _ => 0 := funext fun a => by rw [idx6 tLast a]; omega
      exact (Memref.read_access_unit_zero (Elt F) main_v0_3 hz (fun a => by rw [congrFun hz a]; simp) _).symm)
    fun i => ⟨tLast, (flush0_6 tLast).mpr rfl, by
      show i ∈ ((View.whole main_v0_3).slice (win0_6.rect tLast)).set
      rw [View.set_slice_whole, Rect.mem_set_unit]
      intro a
      show win0_6.index tLast a * S1x128.size a ≤ (i a : Nat) ∧ (i a : Nat) < win0_6.index tLast a * S1x128.size a + S1x128.size a
      rw [idx6 tLast a]
      have h : (i a : Nat) < S1x128.size a := (i a).isLt
      omega⟩

end

/-! ### Over the extended reals -/

/-- A row normalised, times the weights, less its target, -/
def err (x g y : Fin 2048 → EReal) (l : Fin 2048) : EReal := x l * Root.inv x * g l - y l
/-- the mean of its squares -/
def mse (x g y : Fin 2048 → EReal) : EReal := Ideal.div (∑ k, err x g y k * err x g y k) Root.width
/-- and the gradient of half of that. -/
def slope (x g y : Fin 2048 → EReal) (l : Fin 2048) : EReal := err x g y l * Ideal.ofBits .f32 0x3A000000#32

/-- That gradient as the rule for a square gives it. -/
theorem slope_eq (x g y : Fin 2048 → EReal) (l : Fin 2048) :
    Ideal.div (Ideal.ofBits .f32 0x3F000000#32 * Ideal.ofBits .f32 0x3F800000#32) Root.width * (Ideal.ofBits .f32 0x40000000#32 * err x g y l) = slope x g y l := by
  have h1 : (Ideal.ofBits .f32 0x3F800000#32 : EReal) = ((1 : ℝ) : EReal) := by simp [Ideal.ofBits, Ideal.ieee]; rw [← EReal.coe_mul]; norm_num
  have h2 : (Ideal.ofBits .f32 0x40000000#32 : EReal) = ((2 : ℝ) : EReal) := by simp [Ideal.ofBits, Ideal.ieee]; rw [← EReal.coe_mul]; norm_num
  have h3 : (Ideal.ofBits .f32 0x3A000000#32 : EReal) = ((1 / 2048 : ℝ) : EReal) := by simp [Ideal.ofBits, Ideal.ieee]; rw [← EReal.coe_mul]; norm_num
  have h4 : (Ideal.ofBits .f32 0x3F000000#32 : EReal) = ((1 / 2 : ℝ) : EReal) := Ffn.half_at
  unfold slope
  rw [h1, h2, h3, h4, Root.width_eq, Ideal.div_coe (by norm_num), ← mul_assoc, ← EReal.coe_mul, ← EReal.coe_mul, ← EReal.coe_mul, mul_comm]
  norm_num

section
variable (x y : Vec Ideal S512x2048 .f32) (g a : Vec Ideal S1x2048 .f32) (b : Vec Ideal S1x128 .f32) (i : Fin 512) (l : Fin 2048) (u : Fin 128)

theorem pay6_at : k0_pay6 x (ix2 i 0) = Root.inv (fun k => x (ix2 i k)) := by
  unfold Root.inv Root.var Root.width
  pointwise [k0_pay6]
theorem pay7_at : k0_pay7 x (ix2 i l) = x (ix2 i l) * Root.inv (fun k => x (ix2 i k)) := by
  pointwise [k0_pay7]
  rw [pay6_at]
theorem pay8_at : k0_pay8 x g y (ix2 i l) = err (fun k => x (ix2 i k)) (fun k => g (ix2 0 k)) (fun k => y (ix2 i k)) l := by
  unfold err
  pointwise [k0_pay8]
  rw [pay7_at]
theorem pay10_at : k0_pay10 x g y (ix2 i l) = slope (fun k => x (ix2 i k)) (fun k => g (ix2 0 k)) (fun k => y (ix2 i k)) l := by
  unfold slope
  pointwise [k0_pay10]
  rw [pay8_at]
theorem pay1_at : k0_pay1 g (k0_pay6 x) (k0_pay7 x) (k0_pay10 x g y) (ix2 i l)
    = Root.grad (fun k => x (ix2 i k)) (fun k => slope (fun k => x (ix2 i k)) (fun k => g (ix2 0 k)) (fun k => y (ix2 i k)) k * g (ix2 0 k)) l := by
  unfold Root.grad Root.width
  pointwise [k0_pay1]
  simp only [pay7_at, pay6_at, pay10_at]
theorem pay2_at : k0_pay2 g (k0_pay6 x) (k0_pay7 x) (k0_pay10 x g y) (ix2 i l) = k0_pay1 g (k0_pay6 x) (k0_pay7 x) (k0_pay10 x g y) (ix2 i l) := by
  pointwise [k0_pay2]
theorem pay3_at : k0_pay3 (k0_pay7 x) (k0_pay10 x g y) a (ix2 0 l) = a (ix2 0 l)
    + Ffn.dot (fun i => slope (fun k => x (ix2 i k)) (fun k => g (ix2 0 k)) (fun k => y (ix2 i k)) l) (fun i => x (ix2 i l) * Root.inv (fun k => x (ix2 i k))) := by
  unfold Ffn.dot
  pointwise [k0_pay3]
  simp only [pay7_at, pay10_at]
theorem pay4_at : (k0_pay4 : FVec Ideal S1x2048 .f32) (ix2 0 l) = 0 := by
  pointwise [k0_pay4]
theorem pay5_at : (k0_pay5 : FVec Ideal S1x128 .f32) (ix2 0 u) = 0 := by
  pointwise [k0_pay5]
theorem pay9_at : k0_pay9 x g y b (ix2 0 u) = b (ix2 0 u)
    + Ideal.ofBits .f32 0x3F000000#32 * ∑ i : Fin 512, mse (fun k => x (ix2 i k)) (fun k => g (ix2 0 k)) (fun k => y (ix2 i k)) := by
  unfold mse Root.width
  pointwise [k0_pay9]
  simp only [pay8_at, Fin.sum_univ_one]
end

variable (m : (ℓ : Loc nD τ sig) → Buf (Elt Ideal) ℓ) (c : Dev nD) (t : Fin 4096) (l : Fin 2048) (u : Fin 128)

/-- The arguments as plain tables: the rows, the weights, the targets. -/
def aX : Fin 4096 → Fin 2048 → EReal := fun t k => m (c.tc.loc main_arg0) (ix2 t k)
def aG : Fin 2048 → EReal := fun k => m (c.tc.loc main_arg1) (ix2 0 k)
def aY : Fin 4096 → Fin 2048 → EReal := fun t k => m (c.tc.loc main_arg2) (ix2 t k)

/-- The gradient of the rows, -/
def rows : EReal := Root.grad (aX m c t) (fun k => slope (aX m c t) (aG m c) (aY m c t) k * aG m c k) l

theorem val3 : (dats m 0 c).arrAt 3 cfg0.N (ix2 t l) = rows m c t l := by
  rw [arr3, dx, pay1_at]
  simp only [xBlk, gBlk, yBlk, row_pt]
  rfl
theorem val4 : (dats m 0 c).arrAt 4 cfg0.N (ix2 t l) = rows m c t l := by
  rw [arr4, dx16, pay2_at, pay1_at]
  simp only [xBlk, gBlk, yBlk, row_pt]
  rfl

/-- a row's share of the weights' gradient is a product of these two, -/
def slopes (t : Fin 4096) : EReal := slope (aX m c t) (aG m c) (aY m c t) l
def normed (t : Fin 4096) : EReal := aX m c t l * Root.inv (aX m c t)

theorem addG_at (p : Fin cfg0.N) (a : Vec Ideal S1x2048 .f32) :
    addG m c p a (ix2 0 l) = a (ix2 0 l) + Ffn.dot (fun i => slopes m c l (row p i)) (fun i => normed m c l (row p i)) := by
  rw [addG, pay3_at]
  simp only [xBlk, gBlk, yBlk]
  rfl
theorem addL_at (p : Fin cfg0.N) (b : Vec Ideal S1x128 .f32) :
    addL m c p b (ix2 0 u) = b (ix2 0 u) + Ideal.ofBits .f32 0x3F000000#32 * ∑ i, mse (aX m c (row p i)) (aG m c) (aY m c (row p i)) := by
  rw [addL, pay9_at]
  simp only [xBlk, gBlk, yBlk]
  rfl

/-- the gradient of the weights -/
theorem val5 : (dats m 0 c).arrAt 5 cfg0.N (ix2 0 l) = Ffn.dot (slopes m c l) (normed m c l) := by
  rw [final5, Ffn.dot_blocks (n := 8) (k := 512) (by decide)]
  refine Fold.acc_sum (fun n h => accG m c n h (ix2 0 l)) (fun n h => Ffn.dot (fun i => slopes m c l (row ⟨n, h⟩ i)) (fun i => normed m c l (row ⟨n, h⟩ i)))
    (fun h => ?_) (fun n h => ?_) 7 tLast.isLt
  · exact (addG_at m c l ⟨0, h⟩ (k0_pay4 : FVec Ideal S1x2048 .f32)).trans (by rw [pay4_at, zero_add])
  · exact addG_at m c l ⟨n + 1, h⟩ _

/-- and the loss. -/
theorem val6 : (dats m 0 c).arrAt 6 cfg0.N (ix2 0 u) = Ideal.ofBits .f32 0x3F000000#32 * ∑ t, mse (aX m c t) (aG m c) (aY m c t) := by
  have hh : (Ideal.ofBits .f32 0x3F000000#32 : EReal) = ((1 / 2 : ℝ) : EReal) := Ffn.half_at
  rw [final6, Ffn.sum_blocks (n := 8) (k := 512) (by decide), hh, Ffn.mul_sum _ _ (by norm_num), ← hh]
  refine Fold.acc_sum (fun n h => accL m c n h (ix2 0 u)) (fun n h => Ideal.ofBits .f32 0x3F000000#32 * ∑ i, mse (aX m c (row ⟨n, h⟩ i)) (aG m c) (aY m c (row ⟨n, h⟩ i)))
    (fun h => ?_) (fun n h => ?_) 7 tLast.isLt
  · exact (addL_at m c u ⟨0, h⟩ (k0_pay5 : FVec Ideal S1x128 .f32)).trans (by rw [pay5_at, zero_add])
  · exact addL_at m c u ⟨n + 1, h⟩ _

end Cert.LossHeadIdeal.Body
-- ==== Proof.LossHeadAgree.lean ====
/-
  The loss with the final normalisation, and its gradient: the reference's results are the kernel's.
-/
module

public import proofs.«01_k».proof.Proof.LossHead
public import proofs.«01_k».proof.Proof.Gen.LossHeadRefIdeal.Read
public import proofs.«01_k».proof.Proof.Gen.LossHeadIdeal.Frame
public import proofs.«01_k».proof.Defs
public import Idealize.ShloMosaic.Lib.Quiescent

@[expose] public section

set_option maxRecDepth 16384

noncomputable section

namespace Cert.LossHeadRefIdeal.Agree

open Idealize.ShloMosaic Idealize.ShloMosaic.TcCoe Idealize.SL.Sem Cert.LossHeadRefIdeal Cert.LossHeadRefIdeal.Read
open Cert.LossHeadIdeal.Body (err mse slope slope_eq)

section
variable (x0 x2 : Vec Ideal S4096x2048 .f32) (x1 : Vec Ideal S1x2048 .f32) (t : Fin 4096) (l : Fin 2048) (u : Fin 128)

/-- The reference's reciprocal root and its mean square, -/
theorem v7_at : val_main_v7 (F := Ideal) x0 (ix2 t 0) = Root.inv (fun k => x0 (ix2 t k)) := by
  unfold Root.inv Root.var Root.width
  pointwise [val_main_v7, val_main_v6, val_main_v5, val_main_v4, val_main_v3, val_main_v2, val_main_v1, val_main_v0, val_main_cst, val_main_cst_0, val_main_cst_1]
theorem v6_at : val_main_v6 (F := Ideal) x0 (ix2 t 0) = Root.var (fun k => x0 (ix2 t k)) := by
  unfold Root.var Root.width
  pointwise [val_main_v6, val_main_v5, val_main_v4, val_main_v3, val_main_v2, val_main_v1, val_main_v0, val_main_cst, val_main_cst_0, val_main_cst_1]
/-- the normalised rows, -/
theorem v12_at : val_main_v12 (F := Ideal) x0 (ix2 t l) = x0 (ix2 t l) * Root.inv (fun k => x0 (ix2 t k)) := by
  pointwise [val_main_v12, val_main_v11]
  rw [v7_at]
/-- what they miss their targets by -/
theorem v15_at : val_main_v15 (F := Ideal) x0 x1 x2 (ix2 t l) = err (fun k => x0 (ix2 t k)) (fun k => x1 (ix2 0 k)) (fun k => x2 (ix2 t k)) l := by
  unfold err
  pointwise [val_main_v15, val_main_v14, val_main_v13]
  rw [v12_at]
/-- and that mean square's gradient. -/
theorem v29_at : val_main_v29 (F := Ideal) x0 x1 x2 (ix2 t l) = slope (fun k => x0 (ix2 t k)) (fun k => x1 (ix2 0 k)) (fun k => x2 (ix2 t k)) l := by
  rw [← slope_eq]
  unfold Root.width
  pointwise [val_main_v29, val_main_v28, val_main_v27, val_main_v26, val_main_v25, val_main_v24, val_main_v18, val_main_v17, val_main_cst_3, val_main_cst_8, val_main_cst_9, val_main_cst_10]
  rw [v15_at]
theorem v34_at : val_main_v34 (F := Ideal) x0 x1 x2 (ix2 t l) = slope (fun k => x0 (ix2 t k)) (fun k => x1 (ix2 0 k)) (fun k => x2 (ix2 t k)) l * x1 (ix2 0 l) := by
  pointwise [val_main_v34, val_main_v33]
  rw [v29_at]
/-- What comes through the root -/
theorem v44_at : val_main_v44 (F := Ideal) x0 x1 x2 (ix2 t l) = Root.viaRoot (fun k => x0 (ix2 t k))
    (fun k => slope (fun k => x0 (ix2 t k)) (fun k => x1 (ix2 0 k)) (fun k => x2 (ix2 t k)) k * x1 (ix2 0 k)) := by
  unfold Root.viaRoot Root.width
  pointwise [val_main_v44, val_main_v43, val_main_v42, val_main_v41, val_main_v40, val_main_v37, val_main_v36, val_main_v35,
    val_main_v10, val_main_v9, val_main_v8, val_main_cst_2, val_main_cst_12, val_main_cst_13, val_main_cst_14]
  simp only [Fin.sum_univ_one, v7_at, v6_at, v34_at]
/-- and the gradient of the rows. -/
theorem v48_at : val_main_v48 (F := Ideal) x0 x1 x2 (ix2 t l) = Root.grad (fun k => x0 (ix2 t k))
    (fun k => slope (fun k => x0 (ix2 t k)) (fun k => x1 (ix2 0 k)) (fun k => x2 (ix2 t k)) k * x1 (ix2 0 k)) l := by
  rw [← Root.grad_eq]
  pointwise [val_main_v48, val_main_v47, val_main_v46, val_main_v45, val_main_v39, val_main_v38]
  rw [v44_at, v34_at, v7_at]
theorem v49_at : val_main_v49 (F := Ideal) x0 x1 x2 (ix2 t l) = val_main_v48 (F := Ideal) x0 x1 x2 (ix2 t l) := by
  pointwise [val_main_v49]
/-- The gradient of the weights -/
theorem v32_at : val_main_v32 (F := Ideal) x0 x1 x2 (ix2 0 l) = Ffn.dot (fun t => slope (fun k => x0 (ix2 t k)) (fun k => x1 (ix2 0 k)) (fun k => x2 (ix2 t k)) l)
    (fun t => x0 (ix2 t l) * Root.inv (fun k => x0 (ix2 t k))) := by
  rw [Ffn.dot_comm]
  unfold Ffn.dot
  pointwise [val_main_v32, val_main_v31, val_main_v30, val_main_cst_11]
  simp only [v12_at, v29_at]
/-- and the loss. -/
theorem v50_at : val_main_v50 (F := Ideal) x0 x1 x2 (ix2 0 u)
    = Ideal.ofBits .f32 0x3F000000#32 * ∑ t : Fin 4096, mse (fun k => x0 (ix2 t k)) (fun k => x1 (ix2 0 k)) (fun k => x2 (ix2 t k)) := by
  unfold mse Root.width
  pointwise [val_main_v50, val_main_v23, val_main_v22, val_main_v21, val_main_v20, val_main_v19, val_main_v16, val_main_cst_4, val_main_cst_5, val_main_cst_6, val_main_cst_7]
  simp only [v15_at]
end

/-- The reference leaves its arguments, and no counter raised. -/
theorem frame : quiescent_LossHeadRefIdeal (hLossHeadRefIdeal := Gen.facts) := fun m ρ _ =>
  (θ_run _ _ _).mono (fun r h => ⟨fun c => (h c).2.2.2.2, sem_eq_zero_of_no_sems (by decide) r.2⟩) (Value.run m ρ)

set_option maxHeartbeats 2000000 in
/-- From arguments that agree, both programs end with the gradient of the rows, its copy, the gradient of the weights and the loss. -/
theorem algebraic : algebraic_LossHeadIdeal_LossHeadRefIdeal (hLossHeadIdeal := Cert.LossHeadIdeal.Gen.facts) (hLossHeadRefIdeal := Gen.facts) := by
  intro m ρ m' ρ' _ hag
  refine ⟨fun c => (Cert.LossHeadIdeal.Gen.dats m 0 c).arrAt 3 Cert.LossHeadIdeal.cfg0.N, fun c => (Cert.LossHeadIdeal.Gen.dats m 0 c).arrAt 4 Cert.LossHeadIdeal.cfg0.N,
    fun c => (Cert.LossHeadIdeal.Gen.dats m 0 c).arrAt 5 Cert.LossHeadIdeal.cfg0.N, fun c => (Cert.LossHeadIdeal.Gen.dats m 0 c).arrAt 6 Cert.LossHeadIdeal.cfg0.N,
    Cert.LossHeadIdeal.Value.run_blocks m ρ, ?_⟩
  refine (θ_run _ _ _).mono (fun r h c => ?_) (Value.run m' ρ')
  obtain ⟨e0, e1, e2⟩ := hag c
  obtain ⟨r0, r1, r2, r3, rest⟩ := h c
  refine ⟨r0.trans ?_, r1.trans ?_, r2.trans ?_, r3.trans ?_, rest⟩
  · rw [val_main_v48_eq, e0, e1, e2]
    funext y
    obtain ⟨t, l, rfl⟩ : ∃ (t : Fin 4096) (l : Fin 2048), y = ix2 t l := ⟨y 0, y 1, eq_ix2 y⟩
    exact (v48_at _ _ _ t l).trans (Cert.LossHeadIdeal.Body.val3 m c t l).symm
  · rw [val_main_v49_eq, e0, e1, e2]
    funext y
    obtain ⟨t, l, rfl⟩ : ∃ (t : Fin 4096) (l : Fin 2048), y = ix2 t l := ⟨y 0, y 1, eq_ix2 y⟩
    exact ((v49_at _ _ _ t l).trans (v48_at _ _ _ t l)).trans (Cert.LossHeadIdeal.Body.val4 m c t l).symm
  · rw [val_main_v32_eq, e0, e1, e2]
    funext y
    obtain ⟨a, l, rfl⟩ : ∃ (a : Fin 1) (l : Fin 2048), y = ix2 a l := ⟨y 0, y 1, eq_ix2 y⟩
    obtain rfl : a = 0 := Subsingleton.elim _ _
    exact (v32_at _ _ _ l).trans (Cert.LossHeadIdeal.Body.val5 m c l).symm
  · rw [val_main_v50_eq, e0, e1, e2]
    funext y
    obtain ⟨a, u, rfl⟩ : ∃ (a : Fin 1) (u : Fin 128), y = ix2 a u := ⟨y 0, y 1, eq_ix2 y⟩
    obtain rfl : a = 0 := Subsingleton.elim _ _
    exact (v50_at _ _ _ u).trans (Cert.LossHeadIdeal.Body.val6 m c u).symm

end Cert.LossHeadRefIdeal.Agree
-- ==== Proof.ColumnSum.lean ====
/-
  The sum of a bias' columns: what the call's array holds.

  Each point adds 512 rows to the sums, which the last point writes back.
-/
module

public import proofs.«01_k».proof.Proof.Gen.ColumnSumIdeal.Value
public import proofs.«01_k».proof.Proof.Fold
public import Idealize.ShloMosaic.Lib.WholeRead
public import Idealize.ShloMosaic.Lib.Pointwise

@[expose] public section

set_option maxRecDepth 16384

noncomputable section

namespace Cert.ColumnSumIdeal.Body

open Cert.ColumnSumIdeal Cert.ColumnSumIdeal.Gen Idealize.ShloMosaic Idealize.ShloMosaic.TcCoe Idealize.SL.Sem

theorem idx0 : ∀ t : Fin cfg0.N, win0_0.index t 0 = t.val ∧ win0_0.index t 1 = 0 :=
  (by decide +kernel : ∀ t : Fin grid0.N, win0_0.index t 0 = t.val ∧ win0_0.index t 1 = 0)

theorem pay1_at (l : Fin 2048) : (k0_pay1 : FVec Ideal S1x2048 .f32) (ix2 0 l) = 0 := by
  pointwise [k0_pay1]
theorem pay2_at (a : Vec Ideal S1x2048 .f32) (d : Vec Ideal S512x2048 .f32) (l : Fin 2048) : k0_pay2 a d (ix2 0 l) = a (ix2 0 l) + ∑ i : Fin 512, d (ix2 i l) := by
  pointwise [k0_pay2]

variable (m : (ℓ : Loc nD τ sig) → Buf (Elt Ideal) ℓ) (c : Dev nD) (l : Fin 2048)

/-- The argument as a plain table. -/
def aD : Fin 4096 → Fin 2048 → EReal := fun t k => m (c.tc.loc main_arg0) (ix2 t k)

/-- The rows that point `p` works on. -/
def row (p : Fin cfg0.N) (i : Fin 512) : Fin 4096 := Ffn.blk (n := 8) (k := 512) (by decide) ⟨p.val, lt_of_lt_of_eq p.isLt N_0⟩ i

theorem dBlk (p : Fin cfg0.N) (i : Fin 512) : iblk m c 0 p (ix2 i l) = aD m c (row p i) l := by
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index p 0 * 512 + 1 * i.val = 512 * p.val + i.val; rw [(idx0 _).1]; omega
  | ⟨1, _⟩ => show win0_0.index p 1 * 2048 + 1 * l.val = l.val; rw [(idx0 _).2]; omega

/-- What a point leaves: what it found and its rows' sum. -/
theorem add_at (p : Fin cfg0.N) (a : Vec Ideal S1x2048 .f32) : k0_pay2 a (iblk m c 0 p) (ix2 0 l) = a (ix2 0 l) + ∑ i, aD m c (row p i) l := by
  rw [pay2_at]
  simp only [dBlk]

/-- The sums of the columns. -/
theorem val1 : Value.G1 m c (ix2 0 l) = ∑ t, aD m c t l := by
  have hN : cfg0.N = 8 := N_0
  have hl : Value.loc1Of (ix2 0 l) = ix2 0 l := funext fun b => Fin.ext (by
    match b with
    | ⟨0, _⟩ => rfl
    | ⟨1, _⟩ => exact Nat.mod_eq_of_lt l.isLt)
  have hr : Value.run1Of (ix2 0 l) = 0 := by
    show 1 * (0 / 1 - 0) + 1 * (l.val / 2048 - 0) = 0
    rw [Nat.div_eq_of_lt l.isLt]
  unfold Value.G1
  rw [hl, hr, dif_pos (by rw [hN]; decide)]
  have lt0 (n : ℕ) (h : n < cfg0.N) : 0 + n < cfg0.N := by omega
  rw [Ffn.sum_blocks (n := 8) (k := 512) (by decide)]
  refine Fold.acc_sum (N := cfg0.N) (fun n h => Pipeline.accAt (Value.reset1 m c) (Value.step1 m c) 0 n (lt0 n h) (ix2 0 l))
    (fun n h => ∑ i, aD m c (row ⟨n, h⟩ i) l) (fun h => ?_) (fun n h => ?_) 7 (by omega)
  · exact (add_at m c l ⟨0, h⟩ (k0_pay1 : FVec Ideal S1x2048 .f32)).trans (by rw [pay1_at, zero_add])
  · have e : (⟨0 + (n + 1), lt0 (n + 1) h⟩ : Fin cfg0.N) = ⟨n + 1, h⟩ := Fin.ext (Nat.zero_add _)
    refine (add_at m c l ⟨0 + (n + 1), lt0 (n + 1) h⟩ _).trans ?_
    rw [e]

end Cert.ColumnSumIdeal.Body
-- ==== Proof.ColumnSumAgree.lean ====
/-
  The sum of a bias' columns: the reference's result is the kernel's.
-/
module

public import proofs.«01_k».proof.Proof.ColumnSum
public import proofs.«01_k».proof.Proof.Gen.ColumnSumRefIdeal.Read
public import proofs.«01_k».proof.Proof.Gen.ColumnSumIdeal.Frame
public import proofs.«01_k».proof.Defs
public import Idealize.ShloMosaic.Lib.Quiescent

@[expose] public section

noncomputable section

namespace Cert.ColumnSumRefIdeal.Agree

open Idealize.ShloMosaic Idealize.ShloMosaic.TcCoe Idealize.SL.Sem Cert.ColumnSumRefIdeal Cert.ColumnSumRefIdeal.Read

/-- The reference's sum of a column. -/
theorem v1_at (x0 : Vec Ideal S4096x2048 .f32) (l : Fin 2048) : val_main_v1 (F := Ideal) x0 (ix2 0 l) = ∑ t : Fin 4096, x0 (ix2 t l) := by
  pointwise [val_main_v1, val_main_v0, val_main_cst]

/-- The reference leaves its argument, and no counter raised. -/
theorem frame : quiescent_ColumnSumRefIdeal (hColumnSumRefIdeal := Gen.facts) := fun m ρ _ =>
  (θ_run _ _ _).mono (fun r h => ⟨fun c => (h c).2, sem_eq_zero_of_no_sems (by decide) r.2⟩) (Value.run m ρ)

/-- From arguments that agree, both programs end with the sums. -/
theorem algebraic : algebraic_ColumnSumIdeal_ColumnSumRefIdeal (hColumnSumIdeal := Cert.ColumnSumIdeal.Gen.facts) (hColumnSumRefIdeal := Gen.facts) := by
  intro m ρ m' ρ' _ hag
  refine ⟨fun c => Cert.ColumnSumIdeal.Value.G1 m c, Cert.ColumnSumIdeal.Value.run m ρ, ?_⟩
  refine (θ_run _ _ _).mono (fun r h c => ?_) (Value.run m' ρ')
  obtain ⟨r0, rest⟩ := h c
  refine ⟨r0.trans ?_, rest⟩
  rw [val_main_v1_eq, hag c]
  funext y
  obtain ⟨a, l, rfl⟩ : ∃ (a : Fin 1) (l : Fin 2048), y = ix2 a l := ⟨y 0, y 1, eq_ix2 y⟩
  obtain rfl : a = 0 := Subsingleton.elim _ _
  exact (v1_at _ l).trans (Cert.ColumnSumIdeal.Body.val1 m c l).symm

end Cert.ColumnSumRefIdeal.Agree
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.SwigluRefIdeal.Run
public import proofs.«01_k».proof.Proof.Gen.SwigluRefIdeal.Read
public import proofs.«01_k».proof.Proof.Gen.UpGradIdeal.Value
public import proofs.«01_k».proof.Proof.Gen.UpGradRefIdeal.Run
public import proofs.«01_k».proof.Proof.Gen.UpGradRefIdeal.Read
public import proofs.«01_k».proof.Proof.Gen.DownGradIdeal.Value
public import proofs.«01_k».proof.Proof.Gen.DownGradRefIdeal.Run
public import proofs.«01_k».proof.Proof.Gen.DownGradRefIdeal.Read
public import proofs.«01_k».proof.Proof.Gen.RowGradIdeal.Value
public import proofs.«01_k».proof.Proof.Gen.RowGradRefIdeal.Run
public import proofs.«01_k».proof.Proof.Gen.RowGradRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.Swiglu.Frame
public import proofs.«01_k».proof.Proof.Gen.SwigluIdeal.Frame
public import proofs.«01_k».proof.Proof.Gen.UpGrad.Frame
public import proofs.«01_k».proof.Proof.Gen.UpGradIdeal.Frame
public import proofs.«01_k».proof.Proof.Gen.DownGrad.Frame
public import proofs.«01_k».proof.Proof.Gen.DownGradIdeal.Frame
public import proofs.«01_k».proof.Proof.Gen.RowGrad.Frame
public import proofs.«01_k».proof.Proof.Gen.RowGradIdeal.Frame
public import proofs.«01_k».proof.Proof.Gen.Down.Frame
public import proofs.«01_k».proof.Proof.Gen.DownIdeal.Frame
public import proofs.«01_k».proof.Proof.Gen.GmlpInIdeal.Value
public import proofs.«01_k».proof.Proof.Gen.GmlpInRefIdeal.Run
public import proofs.«01_k».proof.Proof.Gen.GmlpInRefIdeal.Read
public import proofs.«01_k».proof.Proof.Gen.GmlpIn.Frame
public import proofs.«01_k».proof.Proof.Gen.GmlpInIdeal.Frame
public import proofs.«01_k».proof.Proof.Gen.GmlpOutIdeal.Value
public import proofs.«01_k».proof.Proof.Gen.GmlpOutRefIdeal.Run
public import proofs.«01_k».proof.Proof.Gen.GmlpOutRefIdeal.Read
public import proofs.«01_k».proof.Proof.Gen.GmlpOut.Frame
public import proofs.«01_k».proof.Proof.Gen.GmlpOutIdeal.Frame
public import proofs.«01_k».proof.Proof.Gen.GatedGradIdeal.Value
public import proofs.«01_k».proof.Proof.Gen.GatedGradRefIdeal.Run
public import proofs.«01_k».proof.Proof.Gen.GatedGradRefIdeal.Read
public import proofs.«01_k».proof.Proof.Gen.GatedGrad.Frame
public import proofs.«01_k».proof.Proof.Gen.GatedGradIdeal.Frame
public import proofs.«01_k».proof.Proof.Gen.OutGradIdeal.Value
public import proofs.«01_k».proof.Proof.Gen.OutGradRefIdeal.Run
public import proofs.«01_k».proof.Proof.Gen.OutGradRefIdeal.Read
public import proofs.«01_k».proof.Proof.Gen.OutGrad.Frame
public import proofs.«01_k».proof.Proof.Gen.OutGradIdeal.Frame
public import proofs.«01_k».proof.Proof.Gen.InGradIdeal.Value
public import proofs.«01_k».proof.Proof.Gen.InGradRefIdeal.Run
public import proofs.«01_k».proof.Proof.Gen.InGradRefIdeal.Read
public import proofs.«01_k».proof.Proof.Gen.InGrad.Frame
public import proofs.«01_k».proof.Proof.Gen.InGradIdeal.Frame
public import proofs.«01_k».proof.Proof.Gen.InRowsIdeal.Value
public import proofs.«01_k».proof.Proof.Gen.InRowsRefIdeal.Run
public import proofs.«01_k».proof.Proof.Gen.InRowsRefIdeal.Read
public import proofs.«01_k».proof.Proof.Gen.InRows.Frame
public import proofs.«01_k».proof.Proof.Gen.InRowsIdeal.Frame
public import proofs.«01_k».proof.Proof.Gen.SquareGradIdeal.Value
public import proofs.«01_k».proof.Proof.Gen.SquareGradRefIdeal.Run
public import proofs.«01_k».proof.Proof.Gen.SquareGradRefIdeal.Read
public import proofs.«01_k».proof.Proof.Gen.SquareGrad.Frame
public import proofs.«01_k».proof.Proof.Gen.SquareGradIdeal.Frame
public import proofs.«01_k».proof.Proof.Gen.SquareRowsIdeal.Value
public import proofs.«01_k».proof.Proof.Gen.SquareRowsRefIdeal.Run
public import proofs.«01_k».proof.Proof.Gen.SquareRowsRefIdeal.Read
public import proofs.«01_k».proof.Proof.Gen.SquareRows.Frame
public import proofs.«01_k».proof.Proof.Gen.SquareRowsIdeal.Frame
public import proofs.«01_k».proof.Proof.Gen.HeadRowsIdeal.Value
public import proofs.«01_k».proof.Proof.Gen.HeadRowsRefIdeal.Run
public import proofs.«01_k».proof.Proof.Gen.HeadRowsRefIdeal.Read
public import proofs.«01_k».proof.Proof.Gen.HeadRows.Frame
public import proofs.«01_k».proof.Proof.Gen.HeadRowsIdeal.Frame
public import proofs.«01_k».proof.Proof.Gen.QkvRowsIdeal.Value
public import proofs.«01_k».proof.Proof.Gen.QkvRowsRefIdeal.Run
public import proofs.«01_k».proof.Proof.Gen.QkvRowsRefIdeal.Read
public import proofs.«01_k».proof.Proof.Gen.QkvRows.Frame
public import proofs.«01_k».proof.Proof.Gen.QkvRowsIdeal.Frame
public import proofs.«01_k».proof.Proof.Gen.PleIdeal.Value
public import proofs.«01_k».proof.Proof.Gen.PleRefIdeal.Run
public import proofs.«01_k».proof.Proof.Gen.PleRefIdeal.Read
public import proofs.«01_k».proof.Proof.Gen.Ple.Frame
public import proofs.«01_k».proof.Proof.Gen.PleIdeal.Frame
public import proofs.«01_k».proof.Proof.Gen.ProjectIdeal.Value
public import proofs.«01_k».proof.Proof.Gen.ProjectRefIdeal.Run
public import proofs.«01_k».proof.Proof.Gen.ProjectRefIdeal.Read
public import proofs.«01_k».proof.Proof.Gen.Project.Frame
public import proofs.«01_k».proof.Proof.Gen.ProjectIdeal.Frame
public import proofs.«01_k».proof.Proof.Gen.KvGradIdeal.Value
public import proofs.«01_k».proof.Proof.Gen.KvGradRefIdeal.Run
public import proofs.«01_k».proof.Proof.Gen.KvGradRefIdeal.Read
public import proofs.«01_k».proof.Proof.Gen.KvGrad.Frame
public import proofs.«01_k».proof.Proof.Gen.KvGradIdeal.Frame
public import proofs.«01_k».proof.Proof.Gen.EmbedSlopeIdeal.Value
public import proofs.«01_k».proof.Proof.Gen.EmbedSlopeRefIdeal.Run
public import proofs.«01_k».proof.Proof.Gen.EmbedSlopeRefIdeal.Read
public import proofs.«01_k».proof.Proof.Gen.EmbedSlope.Frame
public import proofs.«01_k».proof.Proof.Gen.EmbedSlopeIdeal.Frame
public import proofs.«01_k».proof.Proof.Gen.EmbedGradIdeal.Value
public import proofs.«01_k».proof.Proof.Gen.EmbedGradRefIdeal.Run
public import proofs.«01_k».proof.Proof.Gen.EmbedGradRefIdeal.Read
public import proofs.«01_k».proof.Proof.Gen.EmbedGrad.Frame
public import proofs.«01_k».proof.Proof.Gen.EmbedGradIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Norm.Frame
public import proofs.«01_k».proof.Proof.Gen.NormIdeal.Frame
public import proofs.«01_k».proof.Proof.Gen.NormGradIdeal.Value
public import proofs.«01_k».proof.Proof.Gen.QueryIdeal.Value
public import proofs.«01_k».proof.Proof.Gen.KeysIdeal.Value
public import proofs.«01_k».proof.Proof.Gen.UnturnIdeal.Value
public import proofs.«01_k».proof.Proof.Gen.LossHeadIdeal.Value
public import proofs.«01_k».proof.Proof.Gen.ColumnSumIdeal.Value
public import proofs.«01_k».proof.Proof.Gen.NormGradRefIdeal.Run
public import proofs.«01_k».proof.Proof.Gen.QueryRefIdeal.Run
public import proofs.«01_k».proof.Proof.Gen.KeysRefIdeal.Run
public import proofs.«01_k».proof.Proof.Gen.UnturnRefIdeal.Run
public import proofs.«01_k».proof.Proof.Gen.LossHeadRefIdeal.Run
public import proofs.«01_k».proof.Proof.Gen.ColumnSumRefIdeal.Run
public import proofs.«01_k».proof.Proof.Gen.NormGradRefIdeal.Read
public import proofs.«01_k».proof.Proof.Gen.QueryRefIdeal.Read
public import proofs.«01_k».proof.Proof.Gen.KeysRefIdeal.Read
public import proofs.«01_k».proof.Proof.Gen.UnturnRefIdeal.Read
public import proofs.«01_k».proof.Proof.Gen.LossHeadRefIdeal.Read
public import proofs.«01_k».proof.Proof.Gen.ColumnSumRefIdeal.Read
public import proofs.«01_k».proof.Proof.Gen.NormGrad.Frame
public import proofs.«01_k».proof.Proof.Gen.Query.Frame
public import proofs.«01_k».proof.Proof.Gen.Keys.Frame
public import proofs.«01_k».proof.Proof.Gen.Unturn.Frame
public import proofs.«01_k».proof.Proof.Gen.LossHead.Frame
public import proofs.«01_k».proof.Proof.Gen.ColumnSum.Frame
public import proofs.«01_k».proof.Proof.Gen.NormGradIdeal.Frame
public import proofs.«01_k».proof.Proof.Gen.QueryIdeal.Frame
public import proofs.«01_k».proof.Proof.Gen.KeysIdeal.Frame
public import proofs.«01_k».proof.Proof.Gen.UnturnIdeal.Frame
public import proofs.«01_k».proof.Proof.Gen.LossHeadIdeal.Frame
public import proofs.«01_k».proof.Proof.Gen.ColumnSumIdeal.Frame
public import proofs.«01_k».proof.Proof.Agree
public import proofs.«01_k».proof.Proof.SwigluAgree
public import proofs.«01_k».proof.Proof.UpGradAgree
public import proofs.«01_k».proof.Proof.DownGradAgree
public import proofs.«01_k».proof.Proof.RowGradAgree
public import proofs.«01_k».proof.Proof.DownAgree
public import proofs.«01_k».proof.Proof.GmlpInAgree
public import proofs.«01_k».proof.Proof.GmlpOutAgree
public import proofs.«01_k».proof.Proof.GatedGradAgree
public import proofs.«01_k».proof.Proof.OutGradAgree
public import proofs.«01_k».proof.Proof.InGradAgree
public import proofs.«01_k».proof.Proof.InRowsAgree
public import proofs.«01_k».proof.Proof.SquareGradAgree
public import proofs.«01_k».proof.Proof.SquareRowsAgree
public import proofs.«01_k».proof.Proof.HeadRowsAgree
public import proofs.«01_k».proof.Proof.QkvRowsAgree
public import proofs.«01_k».proof.Proof.PleAgree
public import proofs.«01_k».proof.Proof.ProjectAgree
public import proofs.«01_k».proof.Proof.KvGradAgree
public import proofs.«01_k».proof.Proof.EmbedSlopeAgree
public import proofs.«01_k».proof.Proof.EmbedGradAgree
public import proofs.«01_k».proof.Proof.NormAgree
public import proofs.«01_k».proof.Proof.NormGradAgree
public import proofs.«01_k».proof.Proof.QueryAgree
public import proofs.«01_k».proof.Proof.KeysAgree
public import proofs.«01_k».proof.Proof.UnturnAgree
public import proofs.«01_k».proof.Proof.LossHeadAgree
public import proofs.«01_k».proof.Proof.ColumnSumAgree
public import Idealize.ShloMosaic.Adequacy
public import Idealize.ShloMosaic.Init

@[expose] public section

set_option maxRecDepth 16384

noncomputable section

namespace Cert.Proof

open Idealize.ShloMosaic Idealize.SL.Sem

/-- The precondition's broadcasts. -/
theorem preFacts : Cert.Pre_finite.Facts where
  bcast_S_S4096x8192 := by decide
  bcast_S_S4096x4096 := by decide
  bcast_S_S1x4096 := by decide
  bcast_S_S16x128x128 := by decide

section
open Cert.ReferenceIdeal Cert.ReferenceIdeal.Read Cert.ReferenceIdeal.Value

variable (m : (ℓ : Loc nD τ sig) → Buf (Elt Ideal) ℓ) (c : Dev nD)

/-- The reference's activation and slope, where its last lines read them. -/
theorem exit0 : exitV m c (Proc.devRef .tc main_v0_0) = Gen.k0_pay4 (F := Ideal) (m ((c.tc : Thread nD τ).loc main_arg0)) :=
  (exit_main_v0_0 m c).trans (Rows.reg0 m c)
theorem exit1 : exitV m c (Proc.devRef .tc main_v0_1) = Gen.k0_pay5 (F := Ideal) (m ((c.tc : Thread nD τ).loc main_arg0)) :=
  (exit_main_v0_1 m c).trans (Rows.reg1 m c)
end

/-- From arguments that agree, both programs end with the results of the plain formulas. -/
theorem algebraic : algebraic_KernelIdeal_ReferenceIdeal_pre_finite (hKernelIdeal := Cert.KernelIdeal.Gen.facts)
    (hReferenceIdeal := Cert.ReferenceIdeal.Gen.facts) (hPre_finite := preFacts) := by
  letI := preFacts
  intro m ρ m' ρ' hpre hag
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N, Cert.KernelIdeal.Value.run_blocks m ρ, ?_⟩
  refine (θ_run _ _ _).mono (fun r h c => ?_) (Cert.ReferenceIdeal.Value.run m' ρ')
  obtain ⟨e0, e1, e2, e3, e4, e5⟩ := hag c
  obtain ⟨p0, p1, p2, p4⟩ := hpre c
  obtain ⟨r0, r1, r2, r3, r4, rest⟩ := h c
  refine ⟨r0.trans ?_, r1.trans ?_, r2.trans ?_, r3.trans ?_, r4.trans ?_, rest⟩
  · rw [Cert.ReferenceIdeal.Read.val_main_v95_eq, Cert.ReferenceIdeal.Value.exit_main_arg1, Cert.ReferenceIdeal.Value.exit_main_arg2,
      Cert.ReferenceIdeal.Value.exit_main_arg3, Cert.ReferenceIdeal.Value.exit_main_arg4, Cert.ReferenceIdeal.Value.exit_main_arg5, exit0, exit1]
    refine Cert.Agree.inputs m c _ _ _ _ _ _ e0 e1 e2 e3 e4 e5 (fun t k => ?_) (fun t k => ?_) (fun k => ?_) (fun g a b => ?_)
    · rw [e0]; exact Cert.Agree.pre0 _ _ _ _ _ _ t k (congrFun p0 _)
    · rw [e1]; exact Cert.Agree.pre1 _ _ _ _ _ _ t k (congrFun p1 _)
    · rw [e2]; exact Cert.Agree.pre2 _ _ _ _ _ _ k (congrFun p2 _)
    · rw [e4]; exact Cert.Agree.pre4 _ _ _ _ _ _ g a b (congrFun p4 _)
  · rw [Cert.ReferenceIdeal.Read.val_main_v58_eq, Cert.ReferenceIdeal.Value.exit_main_arg1, Cert.ReferenceIdeal.Value.exit_main_arg2,
      Cert.ReferenceIdeal.Value.exit_main_arg3, exit0]
    exact Cert.Agree.mats m c _ _ _ _ e0 e1 e2 e3
  · rw [Cert.ReferenceIdeal.Read.val_main_v93_eq, Cert.ReferenceIdeal.Value.exit_main_arg1, exit0]
    exact Cert.Agree.biases m c _ _ e0 e1
  · rw [Cert.ReferenceIdeal.Read.val_main_v64_eq, Cert.ReferenceIdeal.Value.exit_main_arg1, Cert.ReferenceIdeal.Value.exit_main_arg4, exit0]
    exact Cert.Agree.scales m c _ _ _ e0 e1 e4
  · rw [Cert.ReferenceIdeal.Read.val_main_v61_eq, Cert.ReferenceIdeal.Value.exit_main_arg1, Cert.ReferenceIdeal.Value.exit_main_arg4, exit0]
    exact Cert.Agree.shifts m c _ _ _ e0 e1 e4

/-- The gate's gradient, the feed-forward's five programs and the twenty-two calls around them. -/
theorem claim : Cert.Claim :=
  ⟨Cert.Kernel.Gen.facts, Cert.KernelIdeal.Gen.facts, Cert.ReferenceIdeal.Gen.facts,
    Cert.Swiglu.Gen.facts, Cert.SwigluIdeal.Gen.facts, Cert.SwigluRefIdeal.Gen.facts,
    Cert.UpGrad.Gen.facts, Cert.UpGradIdeal.Gen.facts, Cert.UpGradRefIdeal.Gen.facts,
    Cert.DownGrad.Gen.facts, Cert.DownGradIdeal.Gen.facts, Cert.DownGradRefIdeal.Gen.facts,
    Cert.RowGrad.Gen.facts, Cert.RowGradIdeal.Gen.facts, Cert.RowGradRefIdeal.Gen.facts,
    Cert.Down.Gen.facts, Cert.DownIdeal.Gen.facts, Cert.DownRefIdeal.Gen.facts,
    Cert.GmlpIn.Gen.facts, Cert.GmlpInIdeal.Gen.facts, Cert.GmlpInRefIdeal.Gen.facts,
    Cert.GmlpOut.Gen.facts, Cert.GmlpOutIdeal.Gen.facts, Cert.GmlpOutRefIdeal.Gen.facts,
    Cert.GatedGrad.Gen.facts, Cert.GatedGradIdeal.Gen.facts, Cert.GatedGradRefIdeal.Gen.facts,
    Cert.OutGrad.Gen.facts, Cert.OutGradIdeal.Gen.facts, Cert.OutGradRefIdeal.Gen.facts,
    Cert.InGrad.Gen.facts, Cert.InGradIdeal.Gen.facts, Cert.InGradRefIdeal.Gen.facts,
    Cert.InRows.Gen.facts, Cert.InRowsIdeal.Gen.facts, Cert.InRowsRefIdeal.Gen.facts,
    Cert.SquareGrad.Gen.facts, Cert.SquareGradIdeal.Gen.facts, Cert.SquareGradRefIdeal.Gen.facts,
    Cert.SquareRows.Gen.facts, Cert.SquareRowsIdeal.Gen.facts, Cert.SquareRowsRefIdeal.Gen.facts,
    Cert.HeadRows.Gen.facts, Cert.HeadRowsIdeal.Gen.facts, Cert.HeadRowsRefIdeal.Gen.facts,
    Cert.QkvRows.Gen.facts, Cert.QkvRowsIdeal.Gen.facts, Cert.QkvRowsRefIdeal.Gen.facts,
    Cert.Ple.Gen.facts, Cert.PleIdeal.Gen.facts, Cert.PleRefIdeal.Gen.facts,
    Cert.Project.Gen.facts, Cert.ProjectIdeal.Gen.facts, Cert.ProjectRefIdeal.Gen.facts,
    Cert.KvGrad.Gen.facts, Cert.KvGradIdeal.Gen.facts, Cert.KvGradRefIdeal.Gen.facts,
    Cert.EmbedSlope.Gen.facts, Cert.EmbedSlopeIdeal.Gen.facts, Cert.EmbedSlopeRefIdeal.Gen.facts,
    Cert.EmbedGrad.Gen.facts, Cert.EmbedGradIdeal.Gen.facts, Cert.EmbedGradRefIdeal.Gen.facts,
    Cert.Norm.Gen.facts, Cert.NormIdeal.Gen.facts, Cert.NormRefIdeal.Gen.facts,
    Cert.NormGrad.Gen.facts, Cert.NormGradIdeal.Gen.facts, Cert.NormGradRefIdeal.Gen.facts,
    Cert.Query.Gen.facts, Cert.QueryIdeal.Gen.facts, Cert.QueryRefIdeal.Gen.facts,
    Cert.Keys.Gen.facts, Cert.KeysIdeal.Gen.facts, Cert.KeysRefIdeal.Gen.facts,
    Cert.Unturn.Gen.facts, Cert.UnturnIdeal.Gen.facts, Cert.UnturnRefIdeal.Gen.facts,
    Cert.LossHead.Gen.facts, Cert.LossHeadIdeal.Gen.facts, Cert.LossHeadRefIdeal.Gen.facts,
    Cert.ColumnSum.Gen.facts, Cert.ColumnSumIdeal.Gen.facts, Cert.ColumnSumRefIdeal.Gen.facts,
    preFacts, Cert.SwigluRefIdeal.Agree.shapes,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    fun m ρ _ => Cert.Swiglu.Gen.frame m ρ, fun m ρ _ => Cert.SwigluIdeal.Gen.frame m ρ, fun m ρ _ => Cert.SwigluIdeal.Gen.frame m ρ,
    Cert.SwigluRefIdeal.Agree.frame, Cert.SwigluRefIdeal.Agree.frame_pre,
    fun m ρ _ => Cert.UpGrad.Gen.frame m ρ, fun m ρ _ => Cert.UpGradIdeal.Gen.frame m ρ, Cert.UpGradRefIdeal.Agree.frame,
    fun m ρ _ => Cert.DownGrad.Gen.frame m ρ, fun m ρ _ => Cert.DownGradIdeal.Gen.frame m ρ, Cert.DownGradRefIdeal.Agree.frame,
    fun m ρ _ => Cert.RowGrad.Gen.frame m ρ, fun m ρ _ => Cert.RowGradIdeal.Gen.frame m ρ, Cert.RowGradRefIdeal.Agree.frame,
    fun m ρ _ => Cert.Down.Gen.frame m ρ, fun m ρ _ => Cert.DownIdeal.Gen.frame m ρ, Cert.DownRefIdeal.Agree.frame,
    fun m ρ _ => Cert.GmlpIn.Gen.frame m ρ, fun m ρ _ => Cert.GmlpInIdeal.Gen.frame m ρ, Cert.GmlpInRefIdeal.Agree.frame,
    fun m ρ _ => Cert.GmlpOut.Gen.frame m ρ, fun m ρ _ => Cert.GmlpOutIdeal.Gen.frame m ρ, Cert.GmlpOutRefIdeal.Agree.frame,
    fun m ρ _ => Cert.GatedGrad.Gen.frame m ρ, fun m ρ _ => Cert.GatedGradIdeal.Gen.frame m ρ, Cert.GatedGradRefIdeal.Agree.frame,
    fun m ρ _ => Cert.OutGrad.Gen.frame m ρ, fun m ρ _ => Cert.OutGradIdeal.Gen.frame m ρ, Cert.OutGradRefIdeal.Agree.frame,
    fun m ρ _ => Cert.InGrad.Gen.frame m ρ, fun m ρ _ => Cert.InGradIdeal.Gen.frame m ρ, Cert.InGradRefIdeal.Agree.frame,
    fun m ρ _ => Cert.InRows.Gen.frame m ρ, fun m ρ _ => Cert.InRowsIdeal.Gen.frame m ρ, Cert.InRowsRefIdeal.Agree.frame,
    fun m ρ _ => Cert.SquareGrad.Gen.frame m ρ, fun m ρ _ => Cert.SquareGradIdeal.Gen.frame m ρ, Cert.SquareGradRefIdeal.Agree.frame,
    fun m ρ _ => Cert.SquareRows.Gen.frame m ρ, fun m ρ _ => Cert.SquareRowsIdeal.Gen.frame m ρ, Cert.SquareRowsRefIdeal.Agree.frame,
    fun m ρ _ => Cert.HeadRows.Gen.frame m ρ, fun m ρ _ => Cert.HeadRowsIdeal.Gen.frame m ρ, Cert.HeadRowsRefIdeal.Agree.frame,
    fun m ρ _ => Cert.QkvRows.Gen.frame m ρ, fun m ρ _ => Cert.QkvRowsIdeal.Gen.frame m ρ, Cert.QkvRowsRefIdeal.Agree.frame,
    fun m ρ _ => Cert.Ple.Gen.frame m ρ, fun m ρ _ => Cert.PleIdeal.Gen.frame m ρ, Cert.PleRefIdeal.Agree.frame,
    fun m ρ _ => Cert.Project.Gen.frame m ρ, fun m ρ _ => Cert.ProjectIdeal.Gen.frame m ρ, Cert.ProjectRefIdeal.Agree.frame,
    fun m ρ _ => Cert.KvGrad.Gen.frame m ρ, fun m ρ _ => Cert.KvGradIdeal.Gen.frame m ρ, Cert.KvGradRefIdeal.Agree.frame,
    fun m ρ _ => Cert.EmbedSlope.Gen.frame m ρ, fun m ρ _ => Cert.EmbedSlopeIdeal.Gen.frame m ρ, Cert.EmbedSlopeRefIdeal.Agree.frame,
    fun m ρ _ => Cert.EmbedGrad.Gen.frame m ρ, fun m ρ _ => Cert.EmbedGradIdeal.Gen.frame m ρ, Cert.EmbedGradRefIdeal.Agree.frame,
    fun m ρ _ => Cert.Norm.Gen.frame m ρ, fun m ρ _ => Cert.NormIdeal.Gen.frame m ρ, Cert.NormRefIdeal.Agree.frame,
    fun m ρ _ => Cert.NormGrad.Gen.frame m ρ, fun m ρ _ => Cert.NormGradIdeal.Gen.frame m ρ, Cert.NormGradRefIdeal.Agree.frame,
    fun m ρ _ => Cert.Query.Gen.frame m ρ, fun m ρ _ => Cert.QueryIdeal.Gen.frame m ρ, Cert.QueryRefIdeal.Agree.frame,
    fun m ρ _ => Cert.Keys.Gen.frame m ρ, fun m ρ _ => Cert.KeysIdeal.Gen.frame m ρ, Cert.KeysRefIdeal.Agree.frame,
    fun m ρ _ => Cert.Unturn.Gen.frame m ρ, fun m ρ _ => Cert.UnturnIdeal.Gen.frame m ρ, Cert.UnturnRefIdeal.Agree.frame,
    fun m ρ _ => Cert.LossHead.Gen.frame m ρ, fun m ρ _ => Cert.LossHeadIdeal.Gen.frame m ρ, Cert.LossHeadRefIdeal.Agree.frame,
    fun m ρ _ => Cert.ColumnSum.Gen.frame m ρ, fun m ρ _ => Cert.ColumnSumIdeal.Gen.frame m ρ, Cert.ColumnSumRefIdeal.Agree.frame,
    ⟨IdealRules.named_const.statement Cert.KernelIdeal.κ "sqrt_half" .f32 0x3F3504F3#32 (((Real.sqrt 2)⁻¹ : ℝ) : EReal) rfl,
      IdealRules.named_const.statement Cert.KernelIdeal.κ "inv_sqrt_2pi" .f32 0x3ECC422A#32 (((Real.sqrt (2 * Real.pi))⁻¹ : ℝ) : EReal) rfl⟩,
    algebraic,
    trivial, Cert.SwigluRefIdeal.Agree.algebraic,
    trivial, Cert.UpGradRefIdeal.Agree.algebraic,
    trivial, Cert.DownGradRefIdeal.Agree.algebraic,
    trivial, Cert.RowGradRefIdeal.Agree.algebraic,
    trivial, Cert.DownRefIdeal.Agree.algebraic,
    trivial, Cert.GmlpInRefIdeal.Agree.algebraic,
    trivial, Cert.GmlpOutRefIdeal.Agree.algebraic,
    trivial, Cert.GatedGradRefIdeal.Agree.algebraic,
    trivial, Cert.OutGradRefIdeal.Agree.algebraic,
    trivial, Cert.InGradRefIdeal.Agree.algebraic,
    trivial, Cert.InRowsRefIdeal.Agree.algebraic,
    trivial, Cert.SquareGradRefIdeal.Agree.algebraic,
    trivial, Cert.SquareRowsRefIdeal.Agree.algebraic,
    trivial, Cert.HeadRowsRefIdeal.Agree.algebraic,
    trivial, Cert.QkvRowsRefIdeal.Agree.algebraic,
    trivial, Cert.PleRefIdeal.Agree.algebraic,
    trivial, Cert.ProjectRefIdeal.Agree.algebraic,
    trivial, Cert.KvGradRefIdeal.Agree.algebraic,
    trivial, Cert.EmbedSlopeRefIdeal.Agree.algebraic,
    trivial, Cert.EmbedGradRefIdeal.Agree.algebraic,
    trivial, Cert.NormRefIdeal.Agree.algebraic,
    trivial, Cert.NormGradRefIdeal.Agree.algebraic,
    trivial, Cert.QueryRefIdeal.Agree.algebraic,
    trivial, Cert.KeysRefIdeal.Agree.algebraic,
    trivial, Cert.UnturnRefIdeal.Agree.algebraic,
    trivial, Cert.LossHeadRefIdeal.Agree.algebraic,
    trivial, Cert.ColumnSumRefIdeal.Agree.algebraic⟩

end Cert.Proof

end
